-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12)
      ∧ r.2.mem ((c.tc : Thread Cert.Kernel15.nD Cert.Kernel15.τ).loc Cert.Kernel15.main_arg13) = m ((c.tc : Thread Cert.Kernel15.nD Cert.Kernel15.τ).loc Cert.Kernel15.main_arg13)
      ∧ r.2.mem ((c.tc : Thread Cert.Kernel15.nD Cert.Kernel15.τ).loc Cert.Kernel15.main_arg14) = m ((c.tc : Thread Cert.Kernel15.nD Cert.Kernel15.τ).loc Cert.Kernel15.main_arg14)
      ∧ r.2.mem ((c.tc : Thread Cert.Kernel15.nD Cert.Kernel15.τ).loc Cert.Kernel15.main_arg15) = m ((c.tc : Thread Cert.Kernel15.nD Cert.Kernel15.τ).loc Cert.Kernel15.main_arg15))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
      ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
      ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
      ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12)
      ∧ r.2.mem ((c.tc : Thread Cert.Reference15Ideal.nD Cert.Reference15Ideal.τ).loc Cert.Reference15Ideal.main_arg13) = m ((c.tc : Thread Cert.Reference15Ideal.nD Cert.Reference15Ideal.τ).loc Cert.Reference15Ideal.main_arg13)
      ∧ r.2.mem ((c.tc : Thread Cert.Reference15Ideal.nD Cert.Reference15Ideal.τ).loc Cert.Reference15Ideal.main_arg14) = m ((c.tc : Thread Cert.Reference15Ideal.nD Cert.Reference15Ideal.τ).loc Cert.Reference15Ideal.main_arg14)
      ∧ r.2.mem ((c.tc : Thread Cert.Reference15Ideal.nD Cert.Reference15Ideal.τ).loc Cert.Reference15Ideal.main_arg15) = m ((c.tc : Thread Cert.Reference15Ideal.nD Cert.Reference15Ideal.τ).loc Cert.Reference15Ideal.main_arg15))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9)
      ∧ r.2.mem ((c.tc : Thread Cert.Kernel16.nD Cert.Kernel16.τ).loc Cert.Kernel16.main_arg10) = m ((c.tc : Thread Cert.Kernel16.nD Cert.Kernel16.τ).loc Cert.Kernel16.main_arg10)
      ∧ r.2.mem ((c.tc : Thread Cert.Kernel16.nD Cert.Kernel16.τ).loc Cert.Kernel16.main_arg11) = m ((c.tc : Thread Cert.Kernel16.nD Cert.Kernel16.τ).loc Cert.Kernel16.main_arg11)
      ∧ r.2.mem ((c.tc : Thread Cert.Kernel16.nD Cert.Kernel16.τ).loc Cert.Kernel16.main_arg12) = m ((c.tc : Thread Cert.Kernel16.nD Cert.Kernel16.τ).loc Cert.Kernel16.main_arg12)
      ∧ r.2.mem ((c.tc : Thread Cert.Kernel16.nD Cert.Kernel16.τ).loc Cert.Kernel16.main_arg13) = m ((c.tc : Thread Cert.Kernel16.nD Cert.Kernel16.τ).loc Cert.Kernel16.main_arg13)
      ∧ r.2.mem ((c.tc : Thread Cert.Kernel16.nD Cert.Kernel16.τ).loc Cert.Kernel16.main_arg14) = m ((c.tc : Thread Cert.Kernel16.nD Cert.Kernel16.τ).loc Cert.Kernel16.main_arg14)
      ∧ r.2.mem ((c.tc : Thread Cert.Kernel16.nD Cert.Kernel16.τ).loc Cert.Kernel16.main_arg15) = m ((c.tc : Thread Cert.Kernel16.nD Cert.Kernel16.τ).loc Cert.Kernel16.main_arg15)
      ∧ r.2.mem ((c.tc : Thread Cert.Kernel16.nD Cert.Kernel16.τ).loc Cert.Kernel16.main_arg16) = m ((c.tc : Thread Cert.Kernel16.nD Cert.Kernel16.τ).loc Cert.Kernel16.main_arg16)
      ∧ r.2.mem ((c.tc : Thread Cert.Kernel16.nD Cert.Kernel16.τ).loc Cert.Kernel16.main_arg17) = m ((c.tc : Thread Cert.Kernel16.nD Cert.Kernel16.τ).loc Cert.Kernel16.main_arg17)
      ∧ r.2.mem ((c.tc : Thread Cert.Kernel16.nD Cert.Kernel16.τ).loc Cert.Kernel16.main_arg18) = m ((c.tc : Thread Cert.Kernel16.nD Cert.Kernel16.τ).loc Cert.Kernel16.main_arg18)
      ∧ r.2.mem ((c.tc : Thread Cert.Kernel16.nD Cert.Kernel16.τ).loc Cert.Kernel16.main_arg19) = m ((c.tc : Thread Cert.Kernel16.nD Cert.Kernel16.τ).loc Cert.Kernel16.main_arg19)
      ∧ r.2.mem ((c.tc : Thread Cert.Kernel16.nD Cert.Kernel16.τ).loc Cert.Kernel16.main_arg20) = m ((c.tc : Thread Cert.Kernel16.nD Cert.Kernel16.τ).loc Cert.Kernel16.main_arg20)
      ∧ r.2.mem ((c.tc : Thread Cert.Kernel16.nD Cert.Kernel16.τ).loc Cert.Kernel16.main_arg21) = m ((c.tc : Thread Cert.Kernel16.nD Cert.Kernel16.τ).loc Cert.Kernel16.main_arg21)
      ∧ r.2.mem ((c.tc : Thread Cert.Kernel16.nD Cert.Kernel16.τ).loc Cert.Kernel16.main_arg22) = m ((c.tc : Thread Cert.Kernel16.nD Cert.Kernel16.τ).loc Cert.Kernel16.main_arg22)
      ∧ r.2.mem ((c.tc : Thread Cert.Kernel16.nD Cert.Kernel16.τ).loc Cert.Kernel16.main_arg23) = m ((c.tc : Thread Cert.Kernel16.nD Cert.Kernel16.τ).loc Cert.Kernel16.main_arg23)
      ∧ r.2.mem ((c.tc : Thread Cert.Kernel16.nD Cert.Kernel16.τ).loc Cert.Kernel16.main_arg24) = m ((c.tc : Thread Cert.Kernel16.nD Cert.Kernel16.τ).loc Cert.Kernel16.main_arg24)
      ∧ r.2.mem ((c.tc : Thread Cert.Kernel16.nD Cert.Kernel16.τ).loc Cert.Kernel16.main_arg25) = m ((c.tc : Thread Cert.Kernel16.nD Cert.Kernel16.τ).loc Cert.Kernel16.main_arg25)
      ∧ r.2.mem ((c.tc : Thread Cert.Kernel16.nD Cert.Kernel16.τ).loc Cert.Kernel16.main_arg26) = m ((c.tc : Thread Cert.Kernel16.nD Cert.Kernel16.τ).loc Cert.Kernel16.main_arg26)
      ∧ r.2.mem ((c.tc : Thread Cert.Kernel16.nD Cert.Kernel16.τ).loc Cert.Kernel16.main_arg27) = m ((c.tc : Thread Cert.Kernel16.nD Cert.Kernel16.τ).loc Cert.Kernel16.main_arg27)
      ∧ r.2.mem ((c.tc : Thread Cert.Kernel16.nD Cert.Kernel16.τ).loc Cert.Kernel16.main_arg28) = m ((c.tc : Thread Cert.Kernel16.nD Cert.Kernel16.τ).loc Cert.Kernel16.main_arg28)
      ∧ r.2.mem ((c.tc : Thread Cert.Kernel16.nD Cert.Kernel16.τ).loc Cert.Kernel16.main_arg29) = m ((c.tc : Thread Cert.Kernel16.nD Cert.Kernel16.τ).loc Cert.Kernel16.main_arg29)
      ∧ r.2.mem ((c.tc : Thread Cert.Kernel16.nD Cert.Kernel16.τ).loc Cert.Kernel16.main_arg30) = m ((c.tc : Thread Cert.Kernel16.nD Cert.Kernel16.τ).loc Cert.Kernel16.main_arg30)
      ∧ r.2.mem ((c.tc : Thread Cert.Kernel16.nD Cert.Kernel16.τ).loc Cert.Kernel16.main_arg31) = m ((c.tc : Thread Cert.Kernel16.nD Cert.Kernel16.τ).loc Cert.Kernel16.main_arg31)
      ∧ r.2.mem ((c.tc : Thread Cert.Kernel16.nD Cert.Kernel16.τ).loc Cert.Kernel16.main_arg32) = m ((c.tc : Thread Cert.Kernel16.nD Cert.Kernel16.τ).loc Cert.Kernel16.main_arg32)
      ∧ r.2.mem ((c.tc : Thread Cert.Kernel16.nD Cert.Kernel16.τ).loc Cert.Kernel16.main_arg33) = m ((c.tc : Thread Cert.Kernel16.nD Cert.Kernel16.τ).loc Cert.Kernel16.main_arg33)
      ∧ r.2.mem ((c.tc : Thread Cert.Kernel16.nD Cert.Kernel16.τ).loc Cert.Kernel16.main_arg34) = m ((c.tc : Thread Cert.Kernel16.nD Cert.Kernel16.τ).loc Cert.Kernel16.main_arg34)
      ∧ r.2.mem ((c.tc : Thread Cert.Kernel16.nD Cert.Kernel16.τ).loc Cert.Kernel16.main_arg35) = m ((c.tc : Thread Cert.Kernel16.nD Cert.Kernel16.τ).loc Cert.Kernel16.main_arg35)
      ∧ r.2.mem ((c.tc : Thread Cert.Kernel16.nD Cert.Kernel16.τ).loc Cert.Kernel16.main_arg36) = m ((c.tc : Thread Cert.Kernel16.nD Cert.Kernel16.τ).loc Cert.Kernel16.main_arg36)
      ∧ r.2.mem ((c.tc : Thread Cert.Kernel16.nD Cert.Kernel16.τ).loc Cert.Kernel16.main_arg37) = m ((c.tc : Thread Cert.Kernel16.nD Cert.Kernel16.τ).loc Cert.Kernel16.main_arg37)
      ∧ r.2.mem ((c.tc : Thread Cert.Kernel16.nD Cert.Kernel16.τ).loc Cert.Kernel16.main_arg38) = m ((c.tc : Thread Cert.Kernel16.nD Cert.Kernel16.τ).loc Cert.Kernel16.main_arg38)
      ∧ r.2.mem ((c.tc : Thread Cert.Kernel16.nD Cert.Kernel16.τ).loc Cert.Kernel16.main_arg39) = m ((c.tc : Thread Cert.Kernel16.nD Cert.Kernel16.τ).loc Cert.Kernel16.main_arg39))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
      ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
      ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11)
      ∧ r.2.mem ((c.tc : Thread Cert.Kernel16Ideal.nD Cert.Kernel16Ideal.τ).loc Cert.Kernel16Ideal.main_arg12) = m ((c.tc : Thread Cert.Kernel16Ideal.nD Cert.Kernel16Ideal.τ).loc Cert.Kernel16Ideal.main_arg12)
      ∧ r.2.mem ((c.tc : Thread Cert.Kernel16Ideal.nD Cert.Kernel16Ideal.τ).loc Cert.Kernel16Ideal.main_arg13) = m ((c.tc : Thread Cert.Kernel16Ideal.nD Cert.Kernel16Ideal.τ).loc Cert.Kernel16Ideal.main_arg13)
      ∧ r.2.mem ((c.tc : Thread Cert.Kernel16Ideal.nD Cert.Kernel16Ideal.τ).loc Cert.Kernel16Ideal.main_arg14) = m ((c.tc : Thread Cert.Kernel16Ideal.nD Cert.Kernel16Ideal.τ).loc Cert.Kernel16Ideal.main_arg14)
      ∧ r.2.mem ((c.tc : Thread Cert.Kernel16Ideal.nD Cert.Kernel16Ideal.τ).loc Cert.Kernel16Ideal.main_arg15) = m ((c.tc : Thread Cert.Kernel16Ideal.nD Cert.Kernel16Ideal.τ).loc Cert.Kernel16Ideal.main_arg15)
      ∧ r.2.mem ((c.tc : Thread Cert.Kernel16Ideal.nD Cert.Kernel16Ideal.τ).loc Cert.Kernel16Ideal.main_arg16) = m ((c.tc : Thread Cert.Kernel16Ideal.nD Cert.Kernel16Ideal.τ).loc Cert.Kernel16Ideal.main_arg16)
      ∧ r.2.mem ((c.tc : Thread Cert.Kernel16Ideal.nD Cert.Kernel16Ideal.τ).loc Cert.Kernel16Ideal.main_arg17) = m ((c.tc : Thread Cert.Kernel16Ideal.nD Cert.Kernel16Ideal.τ).loc Cert.Kernel16Ideal.main_arg17)
      ∧ r.2.mem ((c.tc : Thread Cert.Kernel16Ideal.nD Cert.Kernel16Ideal.τ).loc Cert.Kernel16Ideal.main_arg18) = m ((c.tc : Thread Cert.Kernel16Ideal.nD Cert.Kernel16Ideal.τ).loc Cert.Kernel16Ideal.main_arg18)
      ∧ r.2.mem ((c.tc : Thread Cert.Kernel16Ideal.nD Cert.Kernel16Ideal.τ).loc Cert.Kernel16Ideal.main_arg19) = m ((c.tc : Thread Cert.Kernel16Ideal.nD Cert.Kernel16Ideal.τ).loc Cert.Kernel16Ideal.main_arg19)
      ∧ r.2.mem ((c.tc : Thread Cert.Kernel16Ideal.nD Cert.Kernel16Ideal.τ).loc Cert.Kernel16Ideal.main_arg20) = m ((c.tc : Thread Cert.Kernel16Ideal.nD Cert.Kernel16Ideal.τ).loc Cert.Kernel16Ideal.main_arg20)
      ∧ r.2.mem ((c.tc : Thread Cert.Kernel16Ideal.nD Cert.Kernel16Ideal.τ).loc Cert.Kernel16Ideal.main_arg21) = m ((c.tc : Thread Cert.Kernel16Ideal.nD Cert.Kernel16Ideal.τ).loc Cert.Kernel16Ideal.main_arg21)
      ∧ r.2.mem ((c.tc : Thread Cert.Kernel16Ideal.nD Cert.Kernel16Ideal.τ).loc Cert.Kernel16Ideal.main_arg22) = m ((c.tc : Thread Cert.Kernel16Ideal.nD Cert.Kernel16Ideal.τ).loc Cert.Kernel16Ideal.main_arg22)
      ∧ r.2.mem ((c.tc : Thread Cert.Kernel16Ideal.nD Cert.Kernel16Ideal.τ).loc Cert.Kernel16Ideal.main_arg23) = m ((c.tc : Thread Cert.Kernel16Ideal.nD Cert.Kernel16Ideal.τ).loc Cert.Kernel16Ideal.main_arg23)
      ∧ r.2.mem ((c.tc : Thread Cert.Kernel16Ideal.nD Cert.Kernel16Ideal.τ).loc Cert.Kernel16Ideal.main_arg24) = m ((c.tc : Thread Cert.Kernel16Ideal.nD Cert.Kernel16Ideal.τ).loc Cert.Kernel16Ideal.main_arg24)
      ∧ r.2.mem ((c.tc : Thread Cert.Kernel16Ideal.nD Cert.Kernel16Ideal.τ).loc Cert.Kernel16Ideal.main_arg25) = m ((c.tc : Thread Cert.Kernel16Ideal.nD Cert.Kernel16Ideal.τ).loc Cert.Kernel16Ideal.main_arg25)
      ∧ r.2.mem ((c.tc : Thread Cert.Kernel16Ideal.nD Cert.Kernel16Ideal.τ).loc Cert.Kernel16Ideal.main_arg26) = m ((c.tc : Thread Cert.Kernel16Ideal.nD Cert.Kernel16Ideal.τ).loc Cert.Kernel16Ideal.main_arg26)
      ∧ r.2.mem ((c.tc : Thread Cert.Kernel16Ideal.nD Cert.Kernel16Ideal.τ).loc Cert.Kernel16Ideal.main_arg27) = m ((c.tc : Thread Cert.Kernel16Ideal.nD Cert.Kernel16Ideal.τ).loc Cert.Kernel16Ideal.main_arg27)
      ∧ r.2.mem ((c.tc : Thread Cert.Kernel16Ideal.nD Cert.Kernel16Ideal.τ).loc Cert.Kernel16Ideal.main_arg28) = m ((c.tc : Thread Cert.Kernel16Ideal.nD Cert.Kernel16Ideal.τ).loc Cert.Kernel16Ideal.main_arg28)
      ∧ r.2.mem ((c.tc : Thread Cert.Kernel16Ideal.nD Cert.Kernel16Ideal.τ).loc Cert.Kernel16Ideal.main_arg29) = m ((c.tc : Thread Cert.Kernel16Ideal.nD Cert.Kernel16Ideal.τ).loc Cert.Kernel16Ideal.main_arg29)
      ∧ r.2.mem ((c.tc : Thread Cert.Kernel16Ideal.nD Cert.Kernel16Ideal.τ).loc Cert.Kernel16Ideal.main_arg30) = m ((c.tc : Thread Cert.Kernel16Ideal.nD Cert.Kernel16Ideal.τ).loc Cert.Kernel16Ideal.main_arg30)
      ∧ r.2.mem ((c.tc : Thread Cert.Kernel16Ideal.nD Cert.Kernel16Ideal.τ).loc Cert.Kernel16Ideal.main_arg31) = m ((c.tc : Thread Cert.Kernel16Ideal.nD Cert.Kernel16Ideal.τ).loc Cert.Kernel16Ideal.main_arg31)
      ∧ r.2.mem ((c.tc : Thread Cert.Kernel16Ideal.nD Cert.Kernel16Ideal.τ).loc Cert.Kernel16Ideal.main_arg32) = m ((c.tc : Thread Cert.Kernel16Ideal.nD Cert.Kernel16Ideal.τ).loc Cert.Kernel16Ideal.main_arg32)
      ∧ r.2.mem ((c.tc : Thread Cert.Kernel16Ideal.nD Cert.Kernel16Ideal.τ).loc Cert.Kernel16Ideal.main_arg33) = m ((c.tc : Thread Cert.Kernel16Ideal.nD Cert.Kernel16Ideal.τ).loc Cert.Kernel16Ideal.main_arg33)
      ∧ r.2.mem ((c.tc : Thread Cert.Kernel16Ideal.nD Cert.Kernel16Ideal.τ).loc Cert.Kernel16Ideal.main_arg34) = m ((c.tc : Thread Cert.Kernel16Ideal.nD Cert.Kernel16Ideal.τ).loc Cert.Kernel16Ideal.main_arg34)
      ∧ r.2.mem ((c.tc : Thread Cert.Kernel16Ideal.nD Cert.Kernel16Ideal.τ).loc Cert.Kernel16Ideal.main_arg35) = m ((c.tc : Thread Cert.Kernel16Ideal.nD Cert.Kernel16Ideal.τ).loc Cert.Kernel16Ideal.main_arg35)
      ∧ r.2.mem ((c.tc : Thread Cert.Kernel16Ideal.nD Cert.Kernel16Ideal.τ).loc Cert.Kernel16Ideal.main_arg36) = m ((c.tc : Thread Cert.Kernel16Ideal.nD Cert.Kernel16Ideal.τ).loc Cert.Kernel16Ideal.main_arg36)
      ∧ r.2.mem ((c.tc : Thread Cert.Kernel16Ideal.nD Cert.Kernel16Ideal.τ).loc Cert.Kernel16Ideal.main_arg37) = m ((c.tc : Thread Cert.Kernel16Ideal.nD Cert.Kernel16Ideal.τ).loc Cert.Kernel16Ideal.main_arg37)
      ∧ r.2.mem ((c.tc : Thread Cert.Kernel16Ideal.nD Cert.Kernel16Ideal.τ).loc Cert.Kernel16Ideal.main_arg38) = m ((c.tc : Thread Cert.Kernel16Ideal.nD Cert.Kernel16Ideal.τ).loc Cert.Kernel16Ideal.main_arg38)
      ∧ r.2.mem ((c.tc : Thread Cert.Kernel16Ideal.nD Cert.Kernel16Ideal.τ).loc Cert.Kernel16Ideal.main_arg39) = m ((c.tc : Thread Cert.Kernel16Ideal.nD Cert.Kernel16Ideal.τ).loc Cert.Kernel16Ideal.main_arg39))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9)
      ∧ r.2.mem ((c.tc : Thread Cert.Reference16Ideal.nD Cert.Reference16Ideal.τ).loc Cert.Reference16Ideal.main_arg10) = m ((c.tc : Thread Cert.Reference16Ideal.nD Cert.Reference16Ideal.τ).loc Cert.Reference16Ideal.main_arg10)
      ∧ r.2.mem ((c.tc : Thread Cert.Reference16Ideal.nD Cert.Reference16Ideal.τ).loc Cert.Reference16Ideal.main_arg11) = m ((c.tc : Thread Cert.Reference16Ideal.nD Cert.Reference16Ideal.τ).loc Cert.Reference16Ideal.main_arg11)
      ∧ r.2.mem ((c.tc : Thread Cert.Reference16Ideal.nD Cert.Reference16Ideal.τ).loc Cert.Reference16Ideal.main_arg12) = m ((c.tc : Thread Cert.Reference16Ideal.nD Cert.Reference16Ideal.τ).loc Cert.Reference16Ideal.main_arg12)
      ∧ r.2.mem ((c.tc : Thread Cert.Reference16Ideal.nD Cert.Reference16Ideal.τ).loc Cert.Reference16Ideal.main_arg13) = m ((c.tc : Thread Cert.Reference16Ideal.nD Cert.Reference16Ideal.τ).loc Cert.Reference16Ideal.main_arg13)
      ∧ r.2.mem ((c.tc : Thread Cert.Reference16Ideal.nD Cert.Reference16Ideal.τ).loc Cert.Reference16Ideal.main_arg14) = m ((c.tc : Thread Cert.Reference16Ideal.nD Cert.Reference16Ideal.τ).loc Cert.Reference16Ideal.main_arg14)
      ∧ r.2.mem ((c.tc : Thread Cert.Reference16Ideal.nD Cert.Reference16Ideal.τ).loc Cert.Reference16Ideal.main_arg15) = m ((c.tc : Thread Cert.Reference16Ideal.nD Cert.Reference16Ideal.τ).loc Cert.Reference16Ideal.main_arg15)
      ∧ r.2.mem ((c.tc : Thread Cert.Reference16Ideal.nD Cert.Reference16Ideal.τ).loc Cert.Reference16Ideal.main_arg16) = m ((c.tc : Thread Cert.Reference16Ideal.nD Cert.Reference16Ideal.τ).loc Cert.Reference16Ideal.main_arg16)
      ∧ r.2.mem ((c.tc : Thread Cert.Reference16Ideal.nD Cert.Reference16Ideal.τ).loc Cert.Reference16Ideal.main_arg17) = m ((c.tc : Thread Cert.Reference16Ideal.nD Cert.Reference16Ideal.τ).loc Cert.Reference16Ideal.main_arg17)
      ∧ r.2.mem ((c.tc : Thread Cert.Reference16Ideal.nD Cert.Reference16Ideal.τ).loc Cert.Reference16Ideal.main_arg18) = m ((c.tc : Thread Cert.Reference16Ideal.nD Cert.Reference16Ideal.τ).loc Cert.Reference16Ideal.main_arg18)
      ∧ r.2.mem ((c.tc : Thread Cert.Reference16Ideal.nD Cert.Reference16Ideal.τ).loc Cert.Reference16Ideal.main_arg19) = m ((c.tc : Thread Cert.Reference16Ideal.nD Cert.Reference16Ideal.τ).loc Cert.Reference16Ideal.main_arg19)
      ∧ r.2.mem ((c.tc : Thread Cert.Reference16Ideal.nD Cert.Reference16Ideal.τ).loc Cert.Reference16Ideal.main_arg20) = m ((c.tc : Thread Cert.Reference16Ideal.nD Cert.Reference16Ideal.τ).loc Cert.Reference16Ideal.main_arg20)
      ∧ r.2.mem ((c.tc : Thread Cert.Reference16Ideal.nD Cert.Reference16Ideal.τ).loc Cert.Reference16Ideal.main_arg21) = m ((c.tc : Thread Cert.Reference16Ideal.nD Cert.Reference16Ideal.τ).loc Cert.Reference16Ideal.main_arg21)
      ∧ r.2.mem ((c.tc : Thread Cert.Reference16Ideal.nD Cert.Reference16Ideal.τ).loc Cert.Reference16Ideal.main_arg22) = m ((c.tc : Thread Cert.Reference16Ideal.nD Cert.Reference16Ideal.τ).loc Cert.Reference16Ideal.main_arg22)
      ∧ r.2.mem ((c.tc : Thread Cert.Reference16Ideal.nD Cert.Reference16Ideal.τ).loc Cert.Reference16Ideal.main_arg23) = m ((c.tc : Thread Cert.Reference16Ideal.nD Cert.Reference16Ideal.τ).loc Cert.Reference16Ideal.main_arg23)
      ∧ r.2.mem ((c.tc : Thread Cert.Reference16Ideal.nD Cert.Reference16Ideal.τ).loc Cert.Reference16Ideal.main_arg24) = m ((c.tc : Thread Cert.Reference16Ideal.nD Cert.Reference16Ideal.τ).loc Cert.Reference16Ideal.main_arg24)
      ∧ r.2.mem ((c.tc : Thread Cert.Reference16Ideal.nD Cert.Reference16Ideal.τ).loc Cert.Reference16Ideal.main_arg25) = m ((c.tc : Thread Cert.Reference16Ideal.nD Cert.Reference16Ideal.τ).loc Cert.Reference16Ideal.main_arg25)
      ∧ r.2.mem ((c.tc : Thread Cert.Reference16Ideal.nD Cert.Reference16Ideal.τ).loc Cert.Reference16Ideal.main_arg26) = m ((c.tc : Thread Cert.Reference16Ideal.nD Cert.Reference16Ideal.τ).loc Cert.Reference16Ideal.main_arg26)
      ∧ r.2.mem ((c.tc : Thread Cert.Reference16Ideal.nD Cert.Reference16Ideal.τ).loc Cert.Reference16Ideal.main_arg27) = m ((c.tc : Thread Cert.Reference16Ideal.nD Cert.Reference16Ideal.τ).loc Cert.Reference16Ideal.main_arg27)
      ∧ r.2.mem ((c.tc : Thread Cert.Reference16Ideal.nD Cert.Reference16Ideal.τ).loc Cert.Reference16Ideal.main_arg28) = m ((c.tc : Thread Cert.Reference16Ideal.nD Cert.Reference16Ideal.τ).loc Cert.Reference16Ideal.main_arg28)
      ∧ r.2.mem ((c.tc : Thread Cert.Reference16Ideal.nD Cert.Reference16Ideal.τ).loc Cert.Reference16Ideal.main_arg29) = m ((c.tc : Thread Cert.Reference16Ideal.nD Cert.Reference16Ideal.τ).loc Cert.Reference16Ideal.main_arg29)
      ∧ r.2.mem ((c.tc : Thread Cert.Reference16Ideal.nD Cert.Reference16Ideal.τ).loc Cert.Reference16Ideal.main_arg30) = m ((c.tc : Thread Cert.Reference16Ideal.nD Cert.Reference16Ideal.τ).loc Cert.Reference16Ideal.main_arg30)
      ∧ r.2.mem ((c.tc : Thread Cert.Reference16Ideal.nD Cert.Reference16Ideal.τ).loc Cert.Reference16Ideal.main_arg31) = m ((c.tc : Thread Cert.Reference16Ideal.nD Cert.Reference16Ideal.τ).loc Cert.Reference16Ideal.main_arg31)
      ∧ r.2.mem ((c.tc : Thread Cert.Reference16Ideal.nD Cert.Reference16Ideal.τ).loc Cert.Reference16Ideal.main_arg32) = m ((c.tc : Thread Cert.Reference16Ideal.nD Cert.Reference16Ideal.τ).loc Cert.Reference16Ideal.main_arg32)
      ∧ r.2.mem ((c.tc : Thread Cert.Reference16Ideal.nD Cert.Reference16Ideal.τ).loc Cert.Reference16Ideal.main_arg33) = m ((c.tc : Thread Cert.Reference16Ideal.nD Cert.Reference16Ideal.τ).loc Cert.Reference16Ideal.main_arg33)
      ∧ r.2.mem ((c.tc : Thread Cert.Reference16Ideal.nD Cert.Reference16Ideal.τ).loc Cert.Reference16Ideal.main_arg34) = m ((c.tc : Thread Cert.Reference16Ideal.nD Cert.Reference16Ideal.τ).loc Cert.Reference16Ideal.main_arg34)
      ∧ r.2.mem ((c.tc : Thread Cert.Reference16Ideal.nD Cert.Reference16Ideal.τ).loc Cert.Reference16Ideal.main_arg35) = m ((c.tc : Thread Cert.Reference16Ideal.nD Cert.Reference16Ideal.τ).loc Cert.Reference16Ideal.main_arg35)
      ∧ r.2.mem ((c.tc : Thread Cert.Reference16Ideal.nD Cert.Reference16Ideal.τ).loc Cert.Reference16Ideal.main_arg36) = m ((c.tc : Thread Cert.Reference16Ideal.nD Cert.Reference16Ideal.τ).loc Cert.Reference16Ideal.main_arg36)
      ∧ r.2.mem ((c.tc : Thread Cert.Reference16Ideal.nD Cert.Reference16Ideal.τ).loc Cert.Reference16Ideal.main_arg37) = m ((c.tc : Thread Cert.Reference16Ideal.nD Cert.Reference16Ideal.τ).loc Cert.Reference16Ideal.main_arg37)
      ∧ r.2.mem ((c.tc : Thread Cert.Reference16Ideal.nD Cert.Reference16Ideal.τ).loc Cert.Reference16Ideal.main_arg38) = m ((c.tc : Thread Cert.Reference16Ideal.nD Cert.Reference16Ideal.τ).loc Cert.Reference16Ideal.main_arg38)
      ∧ r.2.mem ((c.tc : Thread Cert.Reference16Ideal.nD Cert.Reference16Ideal.τ).loc Cert.Reference16Ideal.main_arg39) = m ((c.tc : Thread Cert.Reference16Ideal.nD Cert.Reference16Ideal.τ).loc Cert.Reference16Ideal.main_arg39))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)) (v3 : (c : Dev Cert.KernelIdeal.nD) → Buf (Elt Ideal) ((c.tc : Thread Cert.KernelIdeal.nD Cert.KernelIdeal.τ).loc Cert.KernelIdeal.main_v45_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_v45_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "log2e" .f32 0x3FB8AA3B#32 (((Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_v58) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_v19) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v48) = v0 c
          ∧ r.2.mem ((c.tc : Thread Cert.Reference9Ideal.nD Cert.Reference9Ideal.τ).loc Cert.Reference9Ideal.main_v49) = v1 c
          ∧ r.2.mem ((c.tc : Thread Cert.Reference9Ideal.nD Cert.Reference9Ideal.τ).loc Cert.Reference9Ideal.main_v46) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v48) = v0 c
          ∧ r.2.mem ((c.tc : Thread Cert.Reference10Ideal.nD Cert.Reference10Ideal.τ).loc Cert.Reference10Ideal.main_v49) = v1 c
          ∧ r.2.mem ((c.tc : Thread Cert.Reference10Ideal.nD Cert.Reference10Ideal.τ).loc Cert.Reference10Ideal.main_v46) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v28) = v1 c
          ∧ r.2.mem ((c.tc : Thread Cert.Reference13Ideal.nD Cert.Reference13Ideal.τ).loc Cert.Reference13Ideal.main_v9) = v2 c
          ∧ r.2.mem ((c.tc : Thread Cert.Reference13Ideal.nD Cert.Reference13Ideal.τ).loc Cert.Reference13Ideal.main_v15) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)) (v3 : (c : Dev Cert.Kernel14Ideal.nD) → Buf (Elt Ideal) ((c.tc : Thread Cert.Kernel14Ideal.nD Cert.Kernel14Ideal.τ).loc Cert.Kernel14Ideal.main_v3_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_v3_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v32) = v0 c
          ∧ r.2.mem ((c.tc : Thread Cert.Reference14Ideal.nD Cert.Reference14Ideal.τ).loc Cert.Reference14Ideal.main_v33) = v1 c
          ∧ r.2.mem ((c.tc : Thread Cert.Reference14Ideal.nD Cert.Reference14Ideal.τ).loc Cert.Reference14Ideal.main_v34) = v2 c
          ∧ r.2.mem ((c.tc : Thread Cert.Reference14Ideal.nD Cert.Reference14Ideal.τ).loc Cert.Reference14Ideal.main_v35) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v8_0)) (v1 : (c : Dev Cert.Kernel12Ideal.nD) → Buf (Elt Ideal) ((c.tc : Thread Cert.Kernel12Ideal.nD Cert.Kernel12Ideal.τ).loc Cert.Kernel12Ideal.main_v8_1)) (v2 : (c : Dev Cert.Kernel12Ideal.nD) → Buf (Elt Ideal) ((c.tc : Thread Cert.Kernel12Ideal.nD Cert.Kernel12Ideal.τ).loc Cert.Kernel12Ideal.main_v8_2)) (v3 : (c : Dev Cert.Kernel12Ideal.nD) → Buf (Elt Ideal) ((c.tc : Thread Cert.Kernel12Ideal.nD Cert.Kernel12Ideal.τ).loc Cert.Kernel12Ideal.main_v8_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8_0) = v0 c
          ∧ r.2.mem ((c.tc : Thread Cert.Kernel12Ideal.nD Cert.Kernel12Ideal.τ).loc Cert.Kernel12Ideal.main_v8_1) = v1 c
          ∧ r.2.mem ((c.tc : Thread Cert.Kernel12Ideal.nD Cert.Kernel12Ideal.τ).loc Cert.Kernel12Ideal.main_v8_2) = v2 c
          ∧ r.2.mem ((c.tc : Thread Cert.Kernel12Ideal.nD Cert.Kernel12Ideal.τ).loc Cert.Kernel12Ideal.main_v8_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v25) = v0 c
          ∧ r.2.mem ((c.tc : Thread Cert.Reference12Ideal.nD Cert.Reference12Ideal.τ).loc Cert.Reference12Ideal.main_v26) = v1 c
          ∧ r.2.mem ((c.tc : Thread Cert.Reference12Ideal.nD Cert.Reference12Ideal.τ).loc Cert.Reference12Ideal.main_v27) = v2 c
          ∧ r.2.mem ((c.tc : Thread Cert.Reference12Ideal.nD Cert.Reference12Ideal.τ).loc Cert.Reference12Ideal.main_v28) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)
      ∧ m' ((c.tc : Thread Cert.Reference15Ideal.nD Cert.Reference15Ideal.τ).loc Cert.Reference15Ideal.main_arg13) = m ((c.tc : Thread Cert.Kernel15Ideal.nD Cert.Kernel15Ideal.τ).loc Cert.Kernel15Ideal.main_arg13)
      ∧ m' ((c.tc : Thread Cert.Reference15Ideal.nD Cert.Reference15Ideal.τ).loc Cert.Reference15Ideal.main_arg14) = m ((c.tc : Thread Cert.Kernel15Ideal.nD Cert.Kernel15Ideal.τ).loc Cert.Kernel15Ideal.main_arg14)
      ∧ m' ((c.tc : Thread Cert.Reference15Ideal.nD Cert.Reference15Ideal.τ).loc Cert.Reference15Ideal.main_arg15) = m ((c.tc : Thread Cert.Kernel15Ideal.nD Cert.Kernel15Ideal.τ).loc Cert.Kernel15Ideal.main_arg15)) →
    ∃ (v0 : (c : Dev Cert.Kernel15Ideal.nD) → Buf (Elt Ideal) ((c.tc : Thread Cert.Kernel15Ideal.nD Cert.Kernel15Ideal.τ).loc Cert.Kernel15Ideal.main_v36_0)) (v1 : (c : Dev Cert.Kernel15Ideal.nD) → Buf (Elt Ideal) ((c.tc : Thread Cert.Kernel15Ideal.nD Cert.Kernel15Ideal.τ).loc Cert.Kernel15Ideal.main_v36_1)) (v2 : (c : Dev Cert.Kernel15Ideal.nD) → Buf (Elt Ideal) ((c.tc : Thread Cert.Kernel15Ideal.nD Cert.Kernel15Ideal.τ).loc Cert.Kernel15Ideal.main_v36_2)) (v3 : (c : Dev Cert.Kernel15Ideal.nD) → Buf (Elt Ideal) ((c.tc : Thread Cert.Kernel15Ideal.nD Cert.Kernel15Ideal.τ).loc Cert.Kernel15Ideal.main_v36_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v36_0) = v0 c
          ∧ r.2.mem ((c.tc : Thread Cert.Kernel15Ideal.nD Cert.Kernel15Ideal.τ).loc Cert.Kernel15Ideal.main_v36_1) = v1 c
          ∧ r.2.mem ((c.tc : Thread Cert.Kernel15Ideal.nD Cert.Kernel15Ideal.τ).loc Cert.Kernel15Ideal.main_v36_2) = v2 c
          ∧ r.2.mem ((c.tc : Thread Cert.Kernel15Ideal.nD Cert.Kernel15Ideal.τ).loc Cert.Kernel15Ideal.main_v36_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
          ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
          ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
          ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v108) = v0 c
          ∧ r.2.mem ((c.tc : Thread Cert.Reference15Ideal.nD Cert.Reference15Ideal.τ).loc Cert.Reference15Ideal.main_v117) = v1 c
          ∧ r.2.mem ((c.tc : Thread Cert.Reference15Ideal.nD Cert.Reference15Ideal.τ).loc Cert.Reference15Ideal.main_v126) = v2 c
          ∧ r.2.mem ((c.tc : Thread Cert.Reference15Ideal.nD Cert.Reference15Ideal.τ).loc Cert.Reference15Ideal.main_v135) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12)
          ∧ r.2.mem ((c.tc : Thread Cert.Reference15Ideal.nD Cert.Reference15Ideal.τ).loc Cert.Reference15Ideal.main_arg13) = m' ((c.tc : Thread Cert.Reference15Ideal.nD Cert.Reference15Ideal.τ).loc Cert.Reference15Ideal.main_arg13)
          ∧ r.2.mem ((c.tc : Thread Cert.Reference15Ideal.nD Cert.Reference15Ideal.τ).loc Cert.Reference15Ideal.main_arg14) = m' ((c.tc : Thread Cert.Reference15Ideal.nD Cert.Reference15Ideal.τ).loc Cert.Reference15Ideal.main_arg14)
          ∧ r.2.mem ((c.tc : Thread Cert.Reference15Ideal.nD Cert.Reference15Ideal.τ).loc Cert.Reference15Ideal.main_arg15) = m' ((c.tc : Thread Cert.Reference15Ideal.nD Cert.Reference15Ideal.τ).loc Cert.Reference15Ideal.main_arg15))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)
      ∧ m' ((c.tc : Thread Cert.Reference16Ideal.nD Cert.Reference16Ideal.τ).loc Cert.Reference16Ideal.main_arg10) = m ((c.tc : Thread Cert.Kernel16Ideal.nD Cert.Kernel16Ideal.τ).loc Cert.Kernel16Ideal.main_arg10)
      ∧ m' ((c.tc : Thread Cert.Reference16Ideal.nD Cert.Reference16Ideal.τ).loc Cert.Reference16Ideal.main_arg11) = m ((c.tc : Thread Cert.Kernel16Ideal.nD Cert.Kernel16Ideal.τ).loc Cert.Kernel16Ideal.main_arg11)
      ∧ m' ((c.tc : Thread Cert.Reference16Ideal.nD Cert.Reference16Ideal.τ).loc Cert.Reference16Ideal.main_arg12) = m ((c.tc : Thread Cert.Kernel16Ideal.nD Cert.Kernel16Ideal.τ).loc Cert.Kernel16Ideal.main_arg12)
      ∧ m' ((c.tc : Thread Cert.Reference16Ideal.nD Cert.Reference16Ideal.τ).loc Cert.Reference16Ideal.main_arg13) = m ((c.tc : Thread Cert.Kernel16Ideal.nD Cert.Kernel16Ideal.τ).loc Cert.Kernel16Ideal.main_arg13)
      ∧ m' ((c.tc : Thread Cert.Reference16Ideal.nD Cert.Reference16Ideal.τ).loc Cert.Reference16Ideal.main_arg14) = m ((c.tc : Thread Cert.Kernel16Ideal.nD Cert.Kernel16Ideal.τ).loc Cert.Kernel16Ideal.main_arg14)
      ∧ m' ((c.tc : Thread Cert.Reference16Ideal.nD Cert.Reference16Ideal.τ).loc Cert.Reference16Ideal.main_arg15) = m ((c.tc : Thread Cert.Kernel16Ideal.nD Cert.Kernel16Ideal.τ).loc Cert.Kernel16Ideal.main_arg15)
      ∧ m' ((c.tc : Thread Cert.Reference16Ideal.nD Cert.Reference16Ideal.τ).loc Cert.Reference16Ideal.main_arg16) = m ((c.tc : Thread Cert.Kernel16Ideal.nD Cert.Kernel16Ideal.τ).loc Cert.Kernel16Ideal.main_arg16)
      ∧ m' ((c.tc : Thread Cert.Reference16Ideal.nD Cert.Reference16Ideal.τ).loc Cert.Reference16Ideal.main_arg17) = m ((c.tc : Thread Cert.Kernel16Ideal.nD Cert.Kernel16Ideal.τ).loc Cert.Kernel16Ideal.main_arg17)
      ∧ m' ((c.tc : Thread Cert.Reference16Ideal.nD Cert.Reference16Ideal.τ).loc Cert.Reference16Ideal.main_arg18) = m ((c.tc : Thread Cert.Kernel16Ideal.nD Cert.Kernel16Ideal.τ).loc Cert.Kernel16Ideal.main_arg18)
      ∧ m' ((c.tc : Thread Cert.Reference16Ideal.nD Cert.Reference16Ideal.τ).loc Cert.Reference16Ideal.main_arg19) = m ((c.tc : Thread Cert.Kernel16Ideal.nD Cert.Kernel16Ideal.τ).loc Cert.Kernel16Ideal.main_arg19)
      ∧ m' ((c.tc : Thread Cert.Reference16Ideal.nD Cert.Reference16Ideal.τ).loc Cert.Reference16Ideal.main_arg20) = m ((c.tc : Thread Cert.Kernel16Ideal.nD Cert.Kernel16Ideal.τ).loc Cert.Kernel16Ideal.main_arg20)
      ∧ m' ((c.tc : Thread Cert.Reference16Ideal.nD Cert.Reference16Ideal.τ).loc Cert.Reference16Ideal.main_arg21) = m ((c.tc : Thread Cert.Kernel16Ideal.nD Cert.Kernel16Ideal.τ).loc Cert.Kernel16Ideal.main_arg21)
      ∧ m' ((c.tc : Thread Cert.Reference16Ideal.nD Cert.Reference16Ideal.τ).loc Cert.Reference16Ideal.main_arg22) = m ((c.tc : Thread Cert.Kernel16Ideal.nD Cert.Kernel16Ideal.τ).loc Cert.Kernel16Ideal.main_arg22)
      ∧ m' ((c.tc : Thread Cert.Reference16Ideal.nD Cert.Reference16Ideal.τ).loc Cert.Reference16Ideal.main_arg23) = m ((c.tc : Thread Cert.Kernel16Ideal.nD Cert.Kernel16Ideal.τ).loc Cert.Kernel16Ideal.main_arg23)
      ∧ m' ((c.tc : Thread Cert.Reference16Ideal.nD Cert.Reference16Ideal.τ).loc Cert.Reference16Ideal.main_arg24) = m ((c.tc : Thread Cert.Kernel16Ideal.nD Cert.Kernel16Ideal.τ).loc Cert.Kernel16Ideal.main_arg24)
      ∧ m' ((c.tc : Thread Cert.Reference16Ideal.nD Cert.Reference16Ideal.τ).loc Cert.Reference16Ideal.main_arg25) = m ((c.tc : Thread Cert.Kernel16Ideal.nD Cert.Kernel16Ideal.τ).loc Cert.Kernel16Ideal.main_arg25)
      ∧ m' ((c.tc : Thread Cert.Reference16Ideal.nD Cert.Reference16Ideal.τ).loc Cert.Reference16Ideal.main_arg26) = m ((c.tc : Thread Cert.Kernel16Ideal.nD Cert.Kernel16Ideal.τ).loc Cert.Kernel16Ideal.main_arg26)
      ∧ m' ((c.tc : Thread Cert.Reference16Ideal.nD Cert.Reference16Ideal.τ).loc Cert.Reference16Ideal.main_arg27) = m ((c.tc : Thread Cert.Kernel16Ideal.nD Cert.Kernel16Ideal.τ).loc Cert.Kernel16Ideal.main_arg27)
      ∧ m' ((c.tc : Thread Cert.Reference16Ideal.nD Cert.Reference16Ideal.τ).loc Cert.Reference16Ideal.main_arg28) = m ((c.tc : Thread Cert.Kernel16Ideal.nD Cert.Kernel16Ideal.τ).loc Cert.Kernel16Ideal.main_arg28)
      ∧ m' ((c.tc : Thread Cert.Reference16Ideal.nD Cert.Reference16Ideal.τ).loc Cert.Reference16Ideal.main_arg29) = m ((c.tc : Thread Cert.Kernel16Ideal.nD Cert.Kernel16Ideal.τ).loc Cert.Kernel16Ideal.main_arg29)
      ∧ m' ((c.tc : Thread Cert.Reference16Ideal.nD Cert.Reference16Ideal.τ).loc Cert.Reference16Ideal.main_arg30) = m ((c.tc : Thread Cert.Kernel16Ideal.nD Cert.Kernel16Ideal.τ).loc Cert.Kernel16Ideal.main_arg30)
      ∧ m' ((c.tc : Thread Cert.Reference16Ideal.nD Cert.Reference16Ideal.τ).loc Cert.Reference16Ideal.main_arg31) = m ((c.tc : Thread Cert.Kernel16Ideal.nD Cert.Kernel16Ideal.τ).loc Cert.Kernel16Ideal.main_arg31)
      ∧ m' ((c.tc : Thread Cert.Reference16Ideal.nD Cert.Reference16Ideal.τ).loc Cert.Reference16Ideal.main_arg32) = m ((c.tc : Thread Cert.Kernel16Ideal.nD Cert.Kernel16Ideal.τ).loc Cert.Kernel16Ideal.main_arg32)
      ∧ m' ((c.tc : Thread Cert.Reference16Ideal.nD Cert.Reference16Ideal.τ).loc Cert.Reference16Ideal.main_arg33) = m ((c.tc : Thread Cert.Kernel16Ideal.nD Cert.Kernel16Ideal.τ).loc Cert.Kernel16Ideal.main_arg33)
      ∧ m' ((c.tc : Thread Cert.Reference16Ideal.nD Cert.Reference16Ideal.τ).loc Cert.Reference16Ideal.main_arg34) = m ((c.tc : Thread Cert.Kernel16Ideal.nD Cert.Kernel16Ideal.τ).loc Cert.Kernel16Ideal.main_arg34)
      ∧ m' ((c.tc : Thread Cert.Reference16Ideal.nD Cert.Reference16Ideal.τ).loc Cert.Reference16Ideal.main_arg35) = m ((c.tc : Thread Cert.Kernel16Ideal.nD Cert.Kernel16Ideal.τ).loc Cert.Kernel16Ideal.main_arg35)
      ∧ m' ((c.tc : Thread Cert.Reference16Ideal.nD Cert.Reference16Ideal.τ).loc Cert.Reference16Ideal.main_arg36) = m ((c.tc : Thread Cert.Kernel16Ideal.nD Cert.Kernel16Ideal.τ).loc Cert.Kernel16Ideal.main_arg36)
      ∧ m' ((c.tc : Thread Cert.Reference16Ideal.nD Cert.Reference16Ideal.τ).loc Cert.Reference16Ideal.main_arg37) = m ((c.tc : Thread Cert.Kernel16Ideal.nD Cert.Kernel16Ideal.τ).loc Cert.Kernel16Ideal.main_arg37)
      ∧ m' ((c.tc : Thread Cert.Reference16Ideal.nD Cert.Reference16Ideal.τ).loc Cert.Reference16Ideal.main_arg38) = m ((c.tc : Thread Cert.Kernel16Ideal.nD Cert.Kernel16Ideal.τ).loc Cert.Kernel16Ideal.main_arg38)
      ∧ m' ((c.tc : Thread Cert.Reference16Ideal.nD Cert.Reference16Ideal.τ).loc Cert.Reference16Ideal.main_arg39) = m ((c.tc : Thread Cert.Kernel16Ideal.nD Cert.Kernel16Ideal.τ).loc Cert.Kernel16Ideal.main_arg39)) →
    ∃ (v0 : (c : Dev Cert.Kernel16Ideal.nD) → Buf (Elt Ideal) ((c.tc : Thread Cert.Kernel16Ideal.nD Cert.Kernel16Ideal.τ).loc Cert.Kernel16Ideal.main_v84_0)) (v1 : (c : Dev Cert.Kernel16Ideal.nD) → Buf (Elt Ideal) ((c.tc : Thread Cert.Kernel16Ideal.nD Cert.Kernel16Ideal.τ).loc Cert.Kernel16Ideal.main_v84_1)) (v2 : (c : Dev Cert.Kernel16Ideal.nD) → Buf (Elt Ideal) ((c.tc : Thread Cert.Kernel16Ideal.nD Cert.Kernel16Ideal.τ).loc Cert.Kernel16Ideal.main_v84_2)) (v3 : (c : Dev Cert.Kernel16Ideal.nD) → Buf (Elt Ideal) ((c.tc : Thread Cert.Kernel16Ideal.nD Cert.Kernel16Ideal.τ).loc Cert.Kernel16Ideal.main_v84_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v84_0) = v0 c
          ∧ r.2.mem ((c.tc : Thread Cert.Kernel16Ideal.nD Cert.Kernel16Ideal.τ).loc Cert.Kernel16Ideal.main_v84_1) = v1 c
          ∧ r.2.mem ((c.tc : Thread Cert.Kernel16Ideal.nD Cert.Kernel16Ideal.τ).loc Cert.Kernel16Ideal.main_v84_2) = v2 c
          ∧ r.2.mem ((c.tc : Thread Cert.Kernel16Ideal.nD Cert.Kernel16Ideal.τ).loc Cert.Kernel16Ideal.main_v84_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
          ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
          ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11)
          ∧ r.2.mem ((c.tc : Thread Cert.Kernel16Ideal.nD Cert.Kernel16Ideal.τ).loc Cert.Kernel16Ideal.main_arg12) = m ((c.tc : Thread Cert.Kernel16Ideal.nD Cert.Kernel16Ideal.τ).loc Cert.Kernel16Ideal.main_arg12)
          ∧ r.2.mem ((c.tc : Thread Cert.Kernel16Ideal.nD Cert.Kernel16Ideal.τ).loc Cert.Kernel16Ideal.main_arg13) = m ((c.tc : Thread Cert.Kernel16Ideal.nD Cert.Kernel16Ideal.τ).loc Cert.Kernel16Ideal.main_arg13)
          ∧ r.2.mem ((c.tc : Thread Cert.Kernel16Ideal.nD Cert.Kernel16Ideal.τ).loc Cert.Kernel16Ideal.main_arg14) = m ((c.tc : Thread Cert.Kernel16Ideal.nD Cert.Kernel16Ideal.τ).loc Cert.Kernel16Ideal.main_arg14)
          ∧ r.2.mem ((c.tc : Thread Cert.Kernel16Ideal.nD Cert.Kernel16Ideal.τ).loc Cert.Kernel16Ideal.main_arg15) = m ((c.tc : Thread Cert.Kernel16Ideal.nD Cert.Kernel16Ideal.τ).loc Cert.Kernel16Ideal.main_arg15)
          ∧ r.2.mem ((c.tc : Thread Cert.Kernel16Ideal.nD Cert.Kernel16Ideal.τ).loc Cert.Kernel16Ideal.main_arg16) = m ((c.tc : Thread Cert.Kernel16Ideal.nD Cert.Kernel16Ideal.τ).loc Cert.Kernel16Ideal.main_arg16)
          ∧ r.2.mem ((c.tc : Thread Cert.Kernel16Ideal.nD Cert.Kernel16Ideal.τ).loc Cert.Kernel16Ideal.main_arg17) = m ((c.tc : Thread Cert.Kernel16Ideal.nD Cert.Kernel16Ideal.τ).loc Cert.Kernel16Ideal.main_arg17)
          ∧ r.2.mem ((c.tc : Thread Cert.Kernel16Ideal.nD Cert.Kernel16Ideal.τ).loc Cert.Kernel16Ideal.main_arg18) = m ((c.tc : Thread Cert.Kernel16Ideal.nD Cert.Kernel16Ideal.τ).loc Cert.Kernel16Ideal.main_arg18)
          ∧ r.2.mem ((c.tc : Thread Cert.Kernel16Ideal.nD Cert.Kernel16Ideal.τ).loc Cert.Kernel16Ideal.main_arg19) = m ((c.tc : Thread Cert.Kernel16Ideal.nD Cert.Kernel16Ideal.τ).loc Cert.Kernel16Ideal.main_arg19)
          ∧ r.2.mem ((c.tc : Thread Cert.Kernel16Ideal.nD Cert.Kernel16Ideal.τ).loc Cert.Kernel16Ideal.main_arg20) = m ((c.tc : Thread Cert.Kernel16Ideal.nD Cert.Kernel16Ideal.τ).loc Cert.Kernel16Ideal.main_arg20)
          ∧ r.2.mem ((c.tc : Thread Cert.Kernel16Ideal.nD Cert.Kernel16Ideal.τ).loc Cert.Kernel16Ideal.main_arg21) = m ((c.tc : Thread Cert.Kernel16Ideal.nD Cert.Kernel16Ideal.τ).loc Cert.Kernel16Ideal.main_arg21)
          ∧ r.2.mem ((c.tc : Thread Cert.Kernel16Ideal.nD Cert.Kernel16Ideal.τ).loc Cert.Kernel16Ideal.main_arg22) = m ((c.tc : Thread Cert.Kernel16Ideal.nD Cert.Kernel16Ideal.τ).loc Cert.Kernel16Ideal.main_arg22)
          ∧ r.2.mem ((c.tc : Thread Cert.Kernel16Ideal.nD Cert.Kernel16Ideal.τ).loc Cert.Kernel16Ideal.main_arg23) = m ((c.tc : Thread Cert.Kernel16Ideal.nD Cert.Kernel16Ideal.τ).loc Cert.Kernel16Ideal.main_arg23)
          ∧ r.2.mem ((c.tc : Thread Cert.Kernel16Ideal.nD Cert.Kernel16Ideal.τ).loc Cert.Kernel16Ideal.main_arg24) = m ((c.tc : Thread Cert.Kernel16Ideal.nD Cert.Kernel16Ideal.τ).loc Cert.Kernel16Ideal.main_arg24)
          ∧ r.2.mem ((c.tc : Thread Cert.Kernel16Ideal.nD Cert.Kernel16Ideal.τ).loc Cert.Kernel16Ideal.main_arg25) = m ((c.tc : Thread Cert.Kernel16Ideal.nD Cert.Kernel16Ideal.τ).loc Cert.Kernel16Ideal.main_arg25)
          ∧ r.2.mem ((c.tc : Thread Cert.Kernel16Ideal.nD Cert.Kernel16Ideal.τ).loc Cert.Kernel16Ideal.main_arg26) = m ((c.tc : Thread Cert.Kernel16Ideal.nD Cert.Kernel16Ideal.τ).loc Cert.Kernel16Ideal.main_arg26)
          ∧ r.2.mem ((c.tc : Thread Cert.Kernel16Ideal.nD Cert.Kernel16Ideal.τ).loc Cert.Kernel16Ideal.main_arg27) = m ((c.tc : Thread Cert.Kernel16Ideal.nD Cert.Kernel16Ideal.τ).loc Cert.Kernel16Ideal.main_arg27)
          ∧ r.2.mem ((c.tc : Thread Cert.Kernel16Ideal.nD Cert.Kernel16Ideal.τ).loc Cert.Kernel16Ideal.main_arg28) = m ((c.tc : Thread Cert.Kernel16Ideal.nD Cert.Kernel16Ideal.τ).loc Cert.Kernel16Ideal.main_arg28)
          ∧ r.2.mem ((c.tc : Thread Cert.Kernel16Ideal.nD Cert.Kernel16Ideal.τ).loc Cert.Kernel16Ideal.main_arg29) = m ((c.tc : Thread Cert.Kernel16Ideal.nD Cert.Kernel16Ideal.τ).loc Cert.Kernel16Ideal.main_arg29)
          ∧ r.2.mem ((c.tc : Thread Cert.Kernel16Ideal.nD Cert.Kernel16Ideal.τ).loc Cert.Kernel16Ideal.main_arg30) = m ((c.tc : Thread Cert.Kernel16Ideal.nD Cert.Kernel16Ideal.τ).loc Cert.Kernel16Ideal.main_arg30)
          ∧ r.2.mem ((c.tc : Thread Cert.Kernel16Ideal.nD Cert.Kernel16Ideal.τ).loc Cert.Kernel16Ideal.main_arg31) = m ((c.tc : Thread Cert.Kernel16Ideal.nD Cert.Kernel16Ideal.τ).loc Cert.Kernel16Ideal.main_arg31)
          ∧ r.2.mem ((c.tc : Thread Cert.Kernel16Ideal.nD Cert.Kernel16Ideal.τ).loc Cert.Kernel16Ideal.main_arg32) = m ((c.tc : Thread Cert.Kernel16Ideal.nD Cert.Kernel16Ideal.τ).loc Cert.Kernel16Ideal.main_arg32)
          ∧ r.2.mem ((c.tc : Thread Cert.Kernel16Ideal.nD Cert.Kernel16Ideal.τ).loc Cert.Kernel16Ideal.main_arg33) = m ((c.tc : Thread Cert.Kernel16Ideal.nD Cert.Kernel16Ideal.τ).loc Cert.Kernel16Ideal.main_arg33)
          ∧ r.2.mem ((c.tc : Thread Cert.Kernel16Ideal.nD Cert.Kernel16Ideal.τ).loc Cert.Kernel16Ideal.main_arg34) = m ((c.tc : Thread Cert.Kernel16Ideal.nD Cert.Kernel16Ideal.τ).loc Cert.Kernel16Ideal.main_arg34)
          ∧ r.2.mem ((c.tc : Thread Cert.Kernel16Ideal.nD Cert.Kernel16Ideal.τ).loc Cert.Kernel16Ideal.main_arg35) = m ((c.tc : Thread Cert.Kernel16Ideal.nD Cert.Kernel16Ideal.τ).loc Cert.Kernel16Ideal.main_arg35)
          ∧ r.2.mem ((c.tc : Thread Cert.Kernel16Ideal.nD Cert.Kernel16Ideal.τ).loc Cert.Kernel16Ideal.main_arg36) = m ((c.tc : Thread Cert.Kernel16Ideal.nD Cert.Kernel16Ideal.τ).loc Cert.Kernel16Ideal.main_arg36)
          ∧ r.2.mem ((c.tc : Thread Cert.Kernel16Ideal.nD Cert.Kernel16Ideal.τ).loc Cert.Kernel16Ideal.main_arg37) = m ((c.tc : Thread Cert.Kernel16Ideal.nD Cert.Kernel16Ideal.τ).loc Cert.Kernel16Ideal.main_arg37)
          ∧ r.2.mem ((c.tc : Thread Cert.Kernel16Ideal.nD Cert.Kernel16Ideal.τ).loc Cert.Kernel16Ideal.main_arg38) = m ((c.tc : Thread Cert.Kernel16Ideal.nD Cert.Kernel16Ideal.τ).loc Cert.Kernel16Ideal.main_arg38)
          ∧ r.2.mem ((c.tc : Thread Cert.Kernel16Ideal.nD Cert.Kernel16Ideal.τ).loc Cert.Kernel16Ideal.main_arg39) = m ((c.tc : Thread Cert.Kernel16Ideal.nD Cert.Kernel16Ideal.τ).loc Cert.Kernel16Ideal.main_arg39))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v270) = v0 c
          ∧ r.2.mem ((c.tc : Thread Cert.Reference16Ideal.nD Cert.Reference16Ideal.τ).loc Cert.Reference16Ideal.main_v291) = v1 c
          ∧ r.2.mem ((c.tc : Thread Cert.Reference16Ideal.nD Cert.Reference16Ideal.τ).loc Cert.Reference16Ideal.main_v312) = v2 c
          ∧ r.2.mem ((c.tc : Thread Cert.Reference16Ideal.nD Cert.Reference16Ideal.τ).loc Cert.Reference16Ideal.main_v333) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9)
          ∧ r.2.mem ((c.tc : Thread Cert.Reference16Ideal.nD Cert.Reference16Ideal.τ).loc Cert.Reference16Ideal.main_arg10) = m' ((c.tc : Thread Cert.Reference16Ideal.nD Cert.Reference16Ideal.τ).loc Cert.Reference16Ideal.main_arg10)
          ∧ r.2.mem ((c.tc : Thread Cert.Reference16Ideal.nD Cert.Reference16Ideal.τ).loc Cert.Reference16Ideal.main_arg11) = m' ((c.tc : Thread Cert.Reference16Ideal.nD Cert.Reference16Ideal.τ).loc Cert.Reference16Ideal.main_arg11)
          ∧ r.2.mem ((c.tc : Thread Cert.Reference16Ideal.nD Cert.Reference16Ideal.τ).loc Cert.Reference16Ideal.main_arg12) = m' ((c.tc : Thread Cert.Reference16Ideal.nD Cert.Reference16Ideal.τ).loc Cert.Reference16Ideal.main_arg12)
          ∧ r.2.mem ((c.tc : Thread Cert.Reference16Ideal.nD Cert.Reference16Ideal.τ).loc Cert.Reference16Ideal.main_arg13) = m' ((c.tc : Thread Cert.Reference16Ideal.nD Cert.Reference16Ideal.τ).loc Cert.Reference16Ideal.main_arg13)
          ∧ r.2.mem ((c.tc : Thread Cert.Reference16Ideal.nD Cert.Reference16Ideal.τ).loc Cert.Reference16Ideal.main_arg14) = m' ((c.tc : Thread Cert.Reference16Ideal.nD Cert.Reference16Ideal.τ).loc Cert.Reference16Ideal.main_arg14)
          ∧ r.2.mem ((c.tc : Thread Cert.Reference16Ideal.nD Cert.Reference16Ideal.τ).loc Cert.Reference16Ideal.main_arg15) = m' ((c.tc : Thread Cert.Reference16Ideal.nD Cert.Reference16Ideal.τ).loc Cert.Reference16Ideal.main_arg15)
          ∧ r.2.mem ((c.tc : Thread Cert.Reference16Ideal.nD Cert.Reference16Ideal.τ).loc Cert.Reference16Ideal.main_arg16) = m' ((c.tc : Thread Cert.Reference16Ideal.nD Cert.Reference16Ideal.τ).loc Cert.Reference16Ideal.main_arg16)
          ∧ r.2.mem ((c.tc : Thread Cert.Reference16Ideal.nD Cert.Reference16Ideal.τ).loc Cert.Reference16Ideal.main_arg17) = m' ((c.tc : Thread Cert.Reference16Ideal.nD Cert.Reference16Ideal.τ).loc Cert.Reference16Ideal.main_arg17)
          ∧ r.2.mem ((c.tc : Thread Cert.Reference16Ideal.nD Cert.Reference16Ideal.τ).loc Cert.Reference16Ideal.main_arg18) = m' ((c.tc : Thread Cert.Reference16Ideal.nD Cert.Reference16Ideal.τ).loc Cert.Reference16Ideal.main_arg18)
          ∧ r.2.mem ((c.tc : Thread Cert.Reference16Ideal.nD Cert.Reference16Ideal.τ).loc Cert.Reference16Ideal.main_arg19) = m' ((c.tc : Thread Cert.Reference16Ideal.nD Cert.Reference16Ideal.τ).loc Cert.Reference16Ideal.main_arg19)
          ∧ r.2.mem ((c.tc : Thread Cert.Reference16Ideal.nD Cert.Reference16Ideal.τ).loc Cert.Reference16Ideal.main_arg20) = m' ((c.tc : Thread Cert.Reference16Ideal.nD Cert.Reference16Ideal.τ).loc Cert.Reference16Ideal.main_arg20)
          ∧ r.2.mem ((c.tc : Thread Cert.Reference16Ideal.nD Cert.Reference16Ideal.τ).loc Cert.Reference16Ideal.main_arg21) = m' ((c.tc : Thread Cert.Reference16Ideal.nD Cert.Reference16Ideal.τ).loc Cert.Reference16Ideal.main_arg21)
          ∧ r.2.mem ((c.tc : Thread Cert.Reference16Ideal.nD Cert.Reference16Ideal.τ).loc Cert.Reference16Ideal.main_arg22) = m' ((c.tc : Thread Cert.Reference16Ideal.nD Cert.Reference16Ideal.τ).loc Cert.Reference16Ideal.main_arg22)
          ∧ r.2.mem ((c.tc : Thread Cert.Reference16Ideal.nD Cert.Reference16Ideal.τ).loc Cert.Reference16Ideal.main_arg23) = m' ((c.tc : Thread Cert.Reference16Ideal.nD Cert.Reference16Ideal.τ).loc Cert.Reference16Ideal.main_arg23)
          ∧ r.2.mem ((c.tc : Thread Cert.Reference16Ideal.nD Cert.Reference16Ideal.τ).loc Cert.Reference16Ideal.main_arg24) = m' ((c.tc : Thread Cert.Reference16Ideal.nD Cert.Reference16Ideal.τ).loc Cert.Reference16Ideal.main_arg24)
          ∧ r.2.mem ((c.tc : Thread Cert.Reference16Ideal.nD Cert.Reference16Ideal.τ).loc Cert.Reference16Ideal.main_arg25) = m' ((c.tc : Thread Cert.Reference16Ideal.nD Cert.Reference16Ideal.τ).loc Cert.Reference16Ideal.main_arg25)
          ∧ r.2.mem ((c.tc : Thread Cert.Reference16Ideal.nD Cert.Reference16Ideal.τ).loc Cert.Reference16Ideal.main_arg26) = m' ((c.tc : Thread Cert.Reference16Ideal.nD Cert.Reference16Ideal.τ).loc Cert.Reference16Ideal.main_arg26)
          ∧ r.2.mem ((c.tc : Thread Cert.Reference16Ideal.nD Cert.Reference16Ideal.τ).loc Cert.Reference16Ideal.main_arg27) = m' ((c.tc : Thread Cert.Reference16Ideal.nD Cert.Reference16Ideal.τ).loc Cert.Reference16Ideal.main_arg27)
          ∧ r.2.mem ((c.tc : Thread Cert.Reference16Ideal.nD Cert.Reference16Ideal.τ).loc Cert.Reference16Ideal.main_arg28) = m' ((c.tc : Thread Cert.Reference16Ideal.nD Cert.Reference16Ideal.τ).loc Cert.Reference16Ideal.main_arg28)
          ∧ r.2.mem ((c.tc : Thread Cert.Reference16Ideal.nD Cert.Reference16Ideal.τ).loc Cert.Reference16Ideal.main_arg29) = m' ((c.tc : Thread Cert.Reference16Ideal.nD Cert.Reference16Ideal.τ).loc Cert.Reference16Ideal.main_arg29)
          ∧ r.2.mem ((c.tc : Thread Cert.Reference16Ideal.nD Cert.Reference16Ideal.τ).loc Cert.Reference16Ideal.main_arg30) = m' ((c.tc : Thread Cert.Reference16Ideal.nD Cert.Reference16Ideal.τ).loc Cert.Reference16Ideal.main_arg30)
          ∧ r.2.mem ((c.tc : Thread Cert.Reference16Ideal.nD Cert.Reference16Ideal.τ).loc Cert.Reference16Ideal.main_arg31) = m' ((c.tc : Thread Cert.Reference16Ideal.nD Cert.Reference16Ideal.τ).loc Cert.Reference16Ideal.main_arg31)
          ∧ r.2.mem ((c.tc : Thread Cert.Reference16Ideal.nD Cert.Reference16Ideal.τ).loc Cert.Reference16Ideal.main_arg32) = m' ((c.tc : Thread Cert.Reference16Ideal.nD Cert.Reference16Ideal.τ).loc Cert.Reference16Ideal.main_arg32)
          ∧ r.2.mem ((c.tc : Thread Cert.Reference16Ideal.nD Cert.Reference16Ideal.τ).loc Cert.Reference16Ideal.main_arg33) = m' ((c.tc : Thread Cert.Reference16Ideal.nD Cert.Reference16Ideal.τ).loc Cert.Reference16Ideal.main_arg33)
          ∧ r.2.mem ((c.tc : Thread Cert.Reference16Ideal.nD Cert.Reference16Ideal.τ).loc Cert.Reference16Ideal.main_arg34) = m' ((c.tc : Thread Cert.Reference16Ideal.nD Cert.Reference16Ideal.τ).loc Cert.Reference16Ideal.main_arg34)
          ∧ r.2.mem ((c.tc : Thread Cert.Reference16Ideal.nD Cert.Reference16Ideal.τ).loc Cert.Reference16Ideal.main_arg35) = m' ((c.tc : Thread Cert.Reference16Ideal.nD Cert.Reference16Ideal.τ).loc Cert.Reference16Ideal.main_arg35)
          ∧ r.2.mem ((c.tc : Thread Cert.Reference16Ideal.nD Cert.Reference16Ideal.τ).loc Cert.Reference16Ideal.main_arg36) = m' ((c.tc : Thread Cert.Reference16Ideal.nD Cert.Reference16Ideal.τ).loc Cert.Reference16Ideal.main_arg36)
          ∧ r.2.mem ((c.tc : Thread Cert.Reference16Ideal.nD Cert.Reference16Ideal.τ).loc Cert.Reference16Ideal.main_arg37) = m' ((c.tc : Thread Cert.Reference16Ideal.nD Cert.Reference16Ideal.τ).loc Cert.Reference16Ideal.main_arg37)
          ∧ r.2.mem ((c.tc : Thread Cert.Reference16Ideal.nD Cert.Reference16Ideal.τ).loc Cert.Reference16Ideal.main_arg38) = m' ((c.tc : Thread Cert.Reference16Ideal.nD Cert.Reference16Ideal.τ).loc Cert.Reference16Ideal.main_arg38)
          ∧ r.2.mem ((c.tc : Thread Cert.Reference16Ideal.nD Cert.Reference16Ideal.τ).loc Cert.Reference16Ideal.main_arg39) = m' ((c.tc : Thread Cert.Reference16Ideal.nD Cert.Reference16Ideal.τ).loc Cert.Reference16Ideal.main_arg39))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel12 : Cert.Kernel12.Facts) (hKernel12Ideal : Cert.Kernel12Ideal.Facts) (hReference12Ideal : Cert.Reference12Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite2 : Cert.Pre_finite2.Facts) (hPre_finite3 : Cert.Pre_finite3.Facts) (hPre_finite9 : Cert.Pre_finite9.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel12_Kernel12Ideal
    ∧ algebraic_Kernel12Ideal_Reference12Ideal (hKernel12Ideal := hKernel12Ideal) (hReference12Ideal := hReference12Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S4x4096x256 : Shape := ⟨3, ![4, 4096, 256]⟩
abbrev S4x4096x128 : Shape := ⟨3, ![4, 4096, 128]⟩
abbrev S4096x6144 : Shape := ⟨2, ![4096, 6144]⟩
abbrev S4096x2048 : Shape := ⟨2, ![4096, 2048]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_
  bcast_S_S4096x6144 : S_.BroadcastsInDim S4096x6144 (![] : Fin 0 → Fin S4096x6144.rank)
  reducesTo_S4096x6144_S_d0_1 : S4096x6144.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S4096x2048 .f32) (main_v13 : IVec S_ 1) (main_v16 : IVec S4096x6144 1) : IVec S_ 1 :=
  let main_c_5 : IVec S_ 1 := constantI S_ 1 1#1
  let main_v17 : IVec S_ 1 := (fun x v => Host.reduce IntOp.andi x v reducesTo_S4096x6144_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S4x4096x256 .f32) (main_arg1 : FVec F S4x4096x256 .f32) (main_arg2 : FVec F S4x4096x128 .f32) (main_arg3 : FVec F S4096x6144 .f32) (main_arg4 : FVec F S4096x2048 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S4x4096x128 .f32 := Host.absf main_arg2
  let main_cst_2 : FVec F S_ .f32 := constant S_ .f32 0x7F800000#32
  let main_v10 : FVec F S4x4096x128 .f32 := broadcastInDim S4x4096x128 ![] bcast_S_S4x4096x128 main_cst_2
  let main_v11 : IVec S4x4096x128 1 := cmpf .olt main_v9 main_v10
  let main_c_3 : IVec S_ 1 := constantI S_ 1 1#1
  let main_v12 : IVec S_ 1 := (fun x v => Host.reduce IntOp.andi x v reducesTo_S4x4096x128_S_d0_1_2 h_S_) main_v11 main_c_3
  let main_v13 : IVec S_ 1 := andi main_v8 main_v12
  let main_v14 : FVec F S4096x6144 .f32 := Host.absf main_arg3
  let main_cst_4 : FVec F S_ .f32 := constant S_ .f32 0x7F800000#32
  let main_v15 : FVec F S4096x6144 .f32 := broadcastInDim S4096x6144 ![] bcast_S_S4096x6144 main_cst_4
  let main_v16 : IVec S4096x6144 1 := cmpf .olt main_v14 main_v15
  fn_part1 (F := F) main_arg4 main_v13 main_v16
-- ==== Pre_finite10.lean ====
abbrev S4096x512 : Shape := ⟨2, ![4096, 512]⟩
abbrev S4096x6144 : Shape := ⟨2, ![4096, 6144]⟩
abbrev S4096x2048 : Shape := ⟨2, ![4096, 2048]⟩
abbrev S1x512 : Shape := ⟨2, ![1, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x6144 : S_.BroadcastsInDim S4096x6144 (![] : Fin 0 → Fin S4096x6144.rank)
  reducesTo_S4096x6144_S_d0_1 : S4096x6144.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  main_v18

def fn {F : FTy → Type} [FloatOps F] (main_arg0 : FVec F S4096x512 .f32) (main_arg1 : FVec F S4096x6144 .f32) (main_arg2 : FVec F S4096x2048 .f32) (main_arg3 : FVec F S1x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x6144 .f32 := Host.absf main_arg1
  let main_cst_0 : FVec F S_ .f32 := constant S_ .f32 0x7F800000#32
  let main_v5 : FVec F S4096x6144 .f32 := broadcastInDim S4096x6144 ![] bcast_S_S4096x6144 main_cst_0
  let main_v6 : IVec S4096x6144 1 := cmpf .olt main_v4 main_v5
  let main_c_1 : IVec S_ 1 := constantI S_ 1 1#1
  let main_v7 : IVec S_ 1 := (fun x v => Host.reduce IntOp.andi x v reducesTo_S4096x6144_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_v13 main_v16
-- ==== Pre_finite2.lean ====
abbrev S4x4096x256 : Shape := ⟨3, ![4, 4096, 256]⟩
abbrev S4x4096x128 : Shape := ⟨3, ![4, 4096, 128]⟩
abbrev S4096x6144 : Shape := ⟨2, ![4096, 6144]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_
  bcast_S_S4096x6144 : S_.BroadcastsInDim S4096x6144 (![] : Fin 0 → Fin S4096x6144.rank)
  reducesTo_S4096x6144_S_d0_1 : S4096x6144.ReducesTo [0, 1] S_

variable [Facts]

def fn_part1 {F : FTy → Type} [FloatOps F] (main_v13 : IVec S_ 1) (main_v16 : IVec S4096x6144 1) : IVec S_ 1 :=
  let main_c_5 : IVec S_ 1 := constantI S_ 1 1#1
  let main_v17 : IVec S_ 1 := (fun x v => Host.reduce IntOp.andi x v reducesTo_S4096x6144_S_d0_1 h_S_) main_v16 main_c_5
  let main_v18 : IVec S_ 1 := andi main_v13 main_v17
  main_v18

def fn {F : FTy → Type} [FloatOps F] (main_arg0 : FVec F S4x4096x256 .f32) (main_arg1 : FVec F S4x4096x256 .f32) (main_arg2 : FVec F S4x4096x128 .f32) (main_arg3 : FVec F S4096x6144 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S4x4096x128 .f32 := Host.absf main_arg2
  let main_cst_2 : FVec F S_ .f32 := constant S_ .f32 0x7F800000#32
  let main_v10 : FVec F S4x4096x128 .f32 := broadcastInDim S4x4096x128 ![] bcast_S_S4x4096x128 main_cst_2
  let main_v11 : IVec S4x4096x128 1 := cmpf .olt main_v9 main_v10
  let main_c_3 : IVec S_ 1 := constantI S_ 1 1#1
  let main_v12 : IVec S_ 1 := (fun x v => Host.reduce IntOp.andi x v reducesTo_S4x4096x128_S_d0_1_2 h_S_) main_v11 main_c_3
  let main_v13 : IVec S_ 1 := andi main_v8 main_v12
  let main_v14 : FVec F S4096x6144 .f32 := Host.absf main_arg3
  let main_cst_4 : FVec F S_ .f32 := constant S_ .f32 0x7F800000#32
  let main_v15 : FVec F S4096x6144 .f32 := broadcastInDim S4096x6144 ![] bcast_S_S4096x6144 main_cst_4
  let main_v16 : IVec S4096x6144 1 := cmpf .olt main_v14 main_v15
  fn_part1 (F := F) main_v13 main_v16
-- ==== Pre_finite3.lean ====
abbrev S4096x2048 : Shape := ⟨2, ![4096, 2048]⟩
abbrev S1x2048 : Shape := ⟨2, ![1, 2048]⟩
abbrev S6144x2048 : Shape := ⟨2, ![6144, 2048]⟩
abbrev S4096x6144 : Shape := ⟨2, ![4096, 6144]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bitsLt_bf16_f32 : FTy.bits .bf16 < FTy.bits .f32
  bcast_S_S6144x2048 : S_.BroadcastsInDim S6144x2048 (![] : Fin 0 → Fin S6144x2048.rank)
  reducesTo_S6144x2048_S_d0_1 : S6144x2048.ReducesTo [0, 1] S_
  bcast_S_S4096x6144 : S_.BroadcastsInDim S4096x6144 (![] : Fin 0 → Fin S4096x6144.rank)
  reducesTo_S4096x6144_S_d0_1 : S4096x6144.ReducesTo [0, 1] S_

variable [Facts]

def fn_part1 {F : FTy → Type} [FloatOps F] (main_arg4 : FVec F S4096x6144 .bf16) (main_v14 : IVec S_ 1) (main_v15 : FVec F S4096x2048 .f32) (main_v16 : FVec F S4096x2048 .f32) : IVec S_ 1 :=
  let main_v17 : IVec S4096x2048 1 := cmpf .olt main_v15 main_v16
  let main_c_5 : IVec S_ 1 := constantI S_ 1 1#1
  let main_v18 : IVec S_ 1 := (fun x v => Host.reduce IntOp.andi x v reducesTo_S4096x2048_S_d0_1 h_S_) main_v17 main_c_5
  let main_v19 : IVec S_ 1 := andi main_v14 main_v18
  let main_v20 : FVec F S4096x6144 .f32 := (extf .f32 · bitsLt_bf16_f32) main_arg4
  let main_v21 : FVec F S4096x6144 .f32 := Host.absf main_v20
  let main_cst_6 : FVec F S_ .f32 := constant S_ .f32 0x7F800000#32
  let main_v22 : FVec F S4096x6144 .f32 := broadcastInDim S4096x6144 ![] bcast_S_S4096x6144 main_cst_6
  let main_v23 : IVec S4096x6144 1 := cmpf .olt main_v21 main_v22
  let main_c_7 : IVec S_ 1 := constantI S_ 1 1#1
  let main_v24 : IVec S_ 1 := (fun x v => Host.reduce IntOp.andi x v reducesTo_S4096x6144_S_d0_1 h_S_) main_v23 main_c_7
  let main_v25 : IVec S_ 1 := andi main_v19 main_v24
  main_v25

def fn {F : FTy → Type} [FloatOps F] (main_arg0 : FVec F S4096x2048 .f32) (main_arg1 : FVec F S1x2048 .f32) (main_arg2 : FVec F S6144x2048 .bf16) (main_arg3 : FVec F S4096x2048 .f32) (main_arg4 : FVec F S4096x6144 .bf16) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S6144x2048 .f32 := (extf .f32 · bitsLt_bf16_f32) main_arg2
  let main_v10 : FVec F S6144x2048 .f32 := Host.absf main_v9
  let main_cst_2 : FVec F S_ .f32 := constant S_ .f32 0x7F800000#32
  let main_v11 : FVec F S6144x2048 .f32 := broadcastInDim S6144x2048 ![] bcast_S_S6144x2048 main_cst_2
  let main_v12 : IVec S6144x2048 1 := cmpf .olt main_v10 main_v11
  let main_c_3 : IVec S_ 1 := constantI S_ 1 1#1
  let main_v13 : IVec S_ 1 := (fun x v => Host.reduce IntOp.andi x v reducesTo_S6144x2048_S_d0_1 h_S_) main_v12 main_c_3
  let main_v14 : IVec S_ 1 := andi main_v8 main_v13
  let main_v15 : FVec F S4096x2048 .f32 := Host.absf main_arg3
  let main_cst_4 : FVec F S_ .f32 := constant S_ .f32 0x7F800000#32
  let main_v16 : FVec F S4096x2048 .f32 := broadcastInDim S4096x2048 ![] bcast_S_S4096x2048 main_cst_4
  fn_part1 (F := F) main_arg4 main_v14 main_v15 main_v16
-- ==== Pre_finite9.lean ====
abbrev S4096x512 : Shape := ⟨2, ![4096, 512]⟩
abbrev S4096x6144 : Shape := ⟨2, ![4096, 6144]⟩
abbrev S4096x2048 : Shape := ⟨2, ![4096, 2048]⟩
abbrev S1x512 : Shape := ⟨2, ![1, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x6144 : S_.BroadcastsInDim S4096x6144 (![] : Fin 0 → Fin S4096x6144.rank)
  reducesTo_S4096x6144_S_d0_1 : S4096x6144.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  main_v18

def fn {F : FTy → Type} [FloatOps F] (main_arg0 : FVec F S4096x512 .f32) (main_arg1 : FVec F S4096x6144 .f32) (main_arg2 : FVec F S4096x2048 .f32) (main_arg3 : FVec F S1x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x6144 .f32 := Host.absf main_arg1
  let main_cst_0 : FVec F S_ .f32 := constant S_ .f32 0x7F800000#32
  let main_v5 : FVec F S4096x6144 .f32 := broadcastInDim S4096x6144 ![] bcast_S_S4096x6144 main_cst_0
  let main_v6 : IVec S4096x6144 1 := cmpf .olt main_v4 main_v5
  let main_c_1 : IVec S_ 1 := constantI S_ 1 1#1
  let main_v7 : IVec S_ 1 := (fun x v => Host.reduce IntOp.andi x v reducesTo_S4096x6144_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_v13 main_v16
-- ==== Kernel.lean ====
abbrev S4x4096x256 : Shape := ⟨3, ![4, 4096, 256]⟩
abbrev S4x4096x128 : Shape := ⟨3, ![4, 4096, 128]⟩
abbrev S4096x6144 : Shape := ⟨2, ![4096, 6144]⟩
abbrev S4096x2048 : Shape := ⟨2, ![4096, 2048]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩
abbrev S4096x4x128 : Shape := ⟨3, ![4096, 4, 128]⟩
abbrev S4096x512 : Shape := ⟨2, ![4096, 512]⟩
abbrev S1x256x256 : Shape := ⟨3, ![1, 256, 256]⟩
abbrev S1x4096x256 : Shape := ⟨3, ![1, 4096, 256]⟩
abbrev S1x4096x128 : Shape := ⟨3, ![1, 4096, 128]⟩
abbrev S256x128 : Shape := ⟨2, ![256, 128]⟩
abbrev S1x256x1 : Shape := ⟨3, ![1, 256, 1]⟩
abbrev S4096x256 : Shape := ⟨2, ![4096, 256]⟩
abbrev S4096x128 : Shape := ⟨2, ![4096, 128]⟩
abbrev S256 : Shape := ⟨1, ![256]⟩
abbrev S256x1 : Shape := ⟨2, ![256, 1]⟩
abbrev S256x256 : Shape := ⟨2, ![256, 256]⟩
abbrev S256x4096 : Shape := ⟨2, ![256, 4096]⟩

abbrev nBuf : Space → Nat
  | .hbm => 67
  | .vmem => 22
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x128, .f32⟩
  | .hbm, ⟨3, _⟩ => ⟨S4096x6144, .f32⟩
  | .hbm, ⟨4, _⟩ => ⟨S4096x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S4x4096x256, .bf16⟩
  | .hbm, ⟨15, _⟩ => ⟨S4x4096x256, .bf16⟩
  | .hbm, ⟨16, _⟩ => ⟨S4x4096x128, .bf16⟩
  | .hbm, ⟨17, _⟩ => ⟨S4x4096x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .f32⟩
  | .hbm, ⟨29, _⟩ => ⟨S4x4096x1, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S4x4096x4096, .f32⟩
  | .hbm, ⟨37, _⟩ => ⟨S4x4096x4096, .f32⟩
  | .hbm, ⟨38, _⟩ => ⟨S4x4096x128, .f32⟩
  | .hbm, ⟨39, _⟩ => ⟨S4096x4x128, .f32⟩
  | .hbm, ⟨40, _⟩ => ⟨S4096x512, .f32⟩
  | .hbm, ⟨41, _⟩ => ⟨S4x4096x4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4x4096x4096, .f32⟩
  | .hbm, ⟨47, _⟩ => ⟨S4x4096x4096, .f32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S4x4096x4096, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S4x4096x1, .f32⟩
  | .hbm, ⟨58, _⟩ => ⟨S4x4096x1, .f32⟩
  | .hbm, ⟨59, _⟩ => ⟨S_, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x256, .f32⟩
  | .hbm, ⟨64, _⟩ => ⟨S4x4096x256, .f32⟩
  | .hbm, ⟨65, _⟩ => ⟨S4x4096x128, .f32⟩
  | .hbm, ⟨66, _⟩ => ⟨S4096x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x256x1, .f32⟩
  | .local _ .vmem, ⟨11, _⟩ => ⟨S1x256x1, .f32⟩
  | .local _ .vmem, ⟨12, _⟩ => ⟨S256x128, .f32⟩
  | .local _ .vmem, ⟨13, _⟩ => ⟨S256x128, .f32⟩
  | .local _ .vmem, ⟨14, _⟩ => ⟨S1x256x256, .f32⟩
  | .local _ .vmem, ⟨15, _⟩ => ⟨S1x256x256, .f32⟩
  | .local _ .vmem, ⟨16, _⟩ => ⟨S1x4096x256, .f32⟩
  | .local _ .vmem, ⟨17, _⟩ => ⟨S1x4096x256, .f32⟩
  | .local _ .vmem, ⟨18, _⟩ => ⟨S1x4096x128, .f32⟩
  | .local _ .vmem, ⟨19, _⟩ => ⟨S1x4096x128, .f32⟩
  | .local _ .vmem, ⟨20, _⟩ => ⟨S256x128, .bf16⟩
  | .local _ .vmem, ⟨21, _⟩ => ⟨S256x128, .bf16⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45_0 : Ref sig .tc := ⟨.hbm, 63, rfl⟩
abbrev main_v45_1 : Ref sig .tc := ⟨.hbm, 64, rfl⟩
abbrev main_v45_2 : Ref sig .tc := ⟨.hbm, 65, rfl⟩
abbrev main_v45_3 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x4096x256 : Shape := ⟨3, ![4, 4096, 256]⟩
abbrev S4x4096x128 : Shape := ⟨3, ![4, 4096, 128]⟩
abbrev S4096x6144 : Shape := ⟨2, ![4096, 6144]⟩
abbrev S4096x2048 : Shape := ⟨2, ![4096, 2048]⟩
abbrev S4096x512 : Shape := ⟨2, ![4096, 512]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩
abbrev S4096x4x128 : Shape := ⟨3, ![4096, 4, 128]⟩
abbrev S4x128x4096 : Shape := ⟨3, ![4, 128, 4096]⟩

abbrev nBuf : Space → Nat
  | .hbm => 107
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x128, .f32⟩
  | .hbm, ⟨3, _⟩ => ⟨S4096x6144, .f32⟩
  | .hbm, ⟨4, _⟩ => ⟨S4096x2048, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4x4096x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S4x4096x4096, .f32⟩
  | .hbm, ⟨31, _⟩ => ⟨S4x4096x4096, .i1⟩
  | .hbm, ⟨32, _⟩ => ⟨S4x4096x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S4x4096, .i1⟩
  | .hbm, ⟨41, _⟩ => ⟨S_, .f32⟩
  | .hbm, ⟨42, _⟩ => ⟨S4x4096, .f32⟩
  | .hbm, ⟨43, _⟩ => ⟨S4x4096, .i1⟩
  | .hbm, ⟨44, _⟩ => ⟨S_, .f32⟩
  | .hbm, ⟨45, _⟩ => ⟨S4x4096, .f32⟩
  | .hbm, ⟨46, _⟩ => ⟨S_, .f32⟩
  | .hbm, ⟨47, _⟩ => ⟨S4x4096, .f32⟩
  | .hbm, ⟨48, _⟩ => ⟨S_, .f32⟩
  | .hbm, ⟨49, _⟩ => ⟨S4x4096, .f32⟩
  | .hbm, ⟨50, _⟩ => ⟨S4x4096, .f32⟩
  | .hbm, ⟨51, _⟩ => ⟨S4x4096, .f32⟩
  | .hbm, ⟨52, _⟩ => ⟨S4x4096x1, .f32⟩
  | .hbm, ⟨53, _⟩ => ⟨S4x4096x4096, .f32⟩
  | .hbm, ⟨54, _⟩ => ⟨S4x4096x4096, .f32⟩
  | .hbm, ⟨55, _⟩ => ⟨S4x4096x4096, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S4x4096x4096, .f32⟩
  | .hbm, ⟨60, _⟩ => ⟨S4x4096x4096, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x128, .f32⟩
  | .hbm, ⟨66, _⟩ => ⟨S4096x4x128, .f32⟩
  | .hbm, ⟨67, _⟩ => ⟨S4096x512, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x4x128, .f32⟩
  | .hbm, ⟨72, _⟩ => ⟨S4x4096x128, .f32⟩
  | .hbm, ⟨73, _⟩ => ⟨S4x128x4096, .f32⟩
  | .hbm, ⟨74, _⟩ => ⟨S4x4096x128, .f32⟩
  | .hbm, ⟨75, _⟩ => ⟨S4x4096x4096, .f32⟩
  | .hbm, ⟨76, _⟩ => ⟨S4x4096x4096, .f32⟩
  | .hbm, ⟨77, _⟩ => ⟨S4x4096x4096, .f32⟩
  | .hbm, ⟨78, _⟩ => ⟨S4x4096x4096, .f32⟩
  | .hbm, ⟨79, _⟩ => ⟨S_, .f32⟩
  | .hbm, ⟨80, _⟩ => ⟨S4x4096, .f32⟩
  | .hbm, ⟨81, _⟩ => ⟨S4x4096x1, .f32⟩
  | .hbm, ⟨82, _⟩ => ⟨S4x4096x1, .f32⟩
  | .hbm, ⟨83, _⟩ => ⟨S4x4096x4096, .f32⟩
  | .hbm, ⟨84, _⟩ => ⟨S4x4096x4096, .f32⟩
  | .hbm, ⟨85, _⟩ => ⟨S_, .f32⟩
  | .hbm, ⟨86, _⟩ => ⟨S4x4096, .f32⟩
  | .hbm, ⟨87, _⟩ => ⟨S4x4096x4096, .f32⟩
  | .hbm, ⟨88, _⟩ => ⟨S4x4096x4096, .f32⟩
  | .hbm, ⟨89, _⟩ => ⟨S4x4096x4096, .f32⟩
  | .hbm, ⟨90, _⟩ => ⟨S4x4096x4096, .f32⟩
  | .hbm, ⟨91, _⟩ => ⟨S4x4096x4096, .f32⟩
  | .hbm, ⟨92, _⟩ => ⟨S4x4096x256, .f32⟩
  | .hbm, ⟨93, _⟩ => ⟨S4x4096x256, .f32⟩
  | .hbm, ⟨94, _⟩ => ⟨S4096x512, .f32⟩
  | .hbm, ⟨95, _⟩ => ⟨S4096x512, .f32⟩
  | .hbm, ⟨96, _⟩ => ⟨S4096x512, .f32⟩
  | .hbm, ⟨97, _⟩ => ⟨S4096x512, .f32⟩
  | .hbm, ⟨98, _⟩ => ⟨S_, .f32⟩
  | .hbm, ⟨99, _⟩ => ⟨S_, .f32⟩
  | .hbm, ⟨100, _⟩ => ⟨S4x4096x256, .f32⟩
  | .hbm, ⟨101, _⟩ => ⟨S4x4096x256, .f32⟩
  | .hbm, ⟨102, _⟩ => ⟨S_, .f32⟩
  | .hbm, ⟨103, _⟩ => ⟨S_, .f32⟩
  | .hbm, ⟨104, _⟩ => ⟨S4x4096x256, .f32⟩
  | .hbm, ⟨105, _⟩ => ⟨S4x4096x256, .f32⟩
  | .hbm, ⟨106, _⟩ => ⟨S4096x512, .bf16⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_v17 : Ref sig .tc := ⟨.hbm, 40, rfl⟩
abbrev main_cst_5 : Ref sig .tc := ⟨.hbm, 41, rfl⟩
abbrev main_v18 : Ref sig .tc := ⟨.hbm, 42, rfl⟩
abbrev main_v19 : Ref sig .tc := ⟨.hbm, 43, rfl⟩
abbrev main_cst_6 : Ref sig .tc := ⟨.hbm, 44, rfl⟩
abbrev main_v20 : Ref sig .tc := ⟨.hbm, 45, rfl⟩
abbrev main_cst_7 : Ref sig .tc := ⟨.hbm, 46, rfl⟩
abbrev main_v21 : Ref sig .tc := ⟨.hbm, 47, rfl⟩
abbrev main_cst_8 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_9 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_10 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩

abbrev nD : Nat := 1
abbrev τ : Topo := Topo.v7x

variable {F : FTy → Type} [FloatOps F]
-- ==== Kernel2.lean ====
abbrev S4x4096x256 : Shape := ⟨3, ![4, 4096, 256]⟩
abbrev S4x4096x128 : Shape := ⟨3, ![4, 4096, 128]⟩
abbrev S4096x6144 : Shape := ⟨2, ![4096, 6144]⟩
abbrev S_ : Shape := ⟨0, ![]⟩
abbrev S4096x512 : Shape := ⟨2, ![4096, 512]⟩
abbrev S4x4096x1 : Shape := ⟨3, ![4, 4096, 1]⟩
abbrev S1x256x256 : Shape := ⟨3, ![1, 256, 256]⟩
abbrev S1x4096x256 : Shape := ⟨3, ![1, 4096, 256]⟩
abbrev S1x4096x128 : Shape := ⟨3, ![1, 4096, 128]⟩
abbrev S256x128 : Shape := ⟨2, ![256, 128]⟩
abbrev S1x256x1 : Shape := ⟨3, ![1, 256, 1]⟩
abbrev S256x256 : Shape := ⟨2, ![256, 256]⟩
abbrev S4096x256 : Shape := ⟨2, ![4096, 256]⟩
abbrev S256x4096 : Shape := ⟨2, ![256, 4096]⟩
abbrev S256 : Shape := ⟨1, ![256]⟩
abbrev S256x1 : Shape := ⟨2, ![256, 1]⟩
abbrev S4096x128 : Shape := ⟨2, ![4096, 128]⟩

abbrev nBuf : Space → Nat
  | .hbm => 19
  | .vmem => 14
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x128, .f32⟩
  | .hbm, ⟨3, _⟩ => ⟨S4096x6144, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S4x4096x256, .bf16⟩
  | .hbm, ⟨14, _⟩ => ⟨S4x4096x256, .bf16⟩
  | .hbm, ⟨15, _⟩ => ⟨S4x4096x128, .bf16⟩
  | .hbm, ⟨16, _⟩ => ⟨S4096x512, .f32⟩
  | .hbm, ⟨17, _⟩ => ⟨S4096x512, .bf16⟩
  | .hbm, ⟨18, _⟩ => ⟨S4x4096x1, .f32⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S1x256x1, .f32⟩
  | .local _ .vmem, ⟨13, _⟩ => ⟨S1x256x1, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2Ideal.lean ====
variable {F : FTy → Type} [FloatOps F] [Named F]
def κ : String → Option EReal := fun
  | "log2e" => some (((Real.log 2)⁻¹ : ℝ) : EReal)
  | _ => none
-- ==== Reference2Ideal.lean ====
abbrev S4x4096x256 : Shape := ⟨3, ![4, 4096, 256]⟩
abbrev S4x4096x128 : Shape := ⟨3, ![4, 4096, 128]⟩
abbrev S4096x6144 : Shape := ⟨2, ![4096, 6144]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4096x4x128 : Shape := ⟨3, ![4096, 4, 128]⟩
abbrev S4096x512 : Shape := ⟨2, ![4096, 512]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x128, .f32⟩
  | .hbm, ⟨3, _⟩ => ⟨S4096x6144, .f32⟩
  | .hbm, ⟨4, _⟩ => ⟨S4x4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x128, .f32⟩
  | .hbm, ⟨26, _⟩ => ⟨S4096x4x128, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4x4096x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4x4096x4096, .f32⟩
  | .hbm, ⟨44, _⟩ => ⟨S4x4096x4096, .f32⟩
  | .hbm, ⟨45, _⟩ => ⟨S_, .f32⟩
  | .hbm, ⟨46, _⟩ => ⟨S4x4096, .f32⟩
  | .hbm, ⟨47, _⟩ => ⟨S_, .f32⟩
  | .hbm, ⟨48, _⟩ => ⟨S4x4096, .f32⟩
  | .hbm, ⟨49, _⟩ => ⟨S4x4096, .f32⟩
  | .hbm, ⟨50, _⟩ => ⟨S4x4096x1, .f32⟩
  | .hbm, ⟨51, _⟩ => ⟨S4x4096x4096, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S4x4096x4096, .f32⟩
  | .hbm, ⟨58, _⟩ => ⟨S4x4096x4096, .f32⟩
  | .hbm, ⟨59, _⟩ => ⟨S4x4096x128, .f32⟩
  | .hbm, ⟨60, _⟩ => ⟨S4096x4x128, .f32⟩
  | .hbm, ⟨61, _⟩ => ⟨S4096x512, .f32⟩
  | .hbm, ⟨62, _⟩ => ⟨S4096x512, .f32⟩
  | .hbm, ⟨63, _⟩ => ⟨S4096x512, .bf16⟩
  | .hbm, ⟨64, _⟩ => ⟨S4x4096x4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S4x4096x4096, .f32⟩
  | .hbm, ⟨70, _⟩ => ⟨S4x4096x4096, .f32⟩
  | .hbm, ⟨71, _⟩ => ⟨S_, .f32⟩
  | .hbm, ⟨72, _⟩ => ⟨S4x4096, .f32⟩
  | .hbm, ⟨73, _⟩ => ⟨S4x4096x1, .f32⟩
  | .hbm, ⟨74, _⟩ => ⟨S4x4096x4096, .f32⟩
  | .hbm, ⟨75, _⟩ => ⟨S4x4096x4096, .f32⟩
  | .hbm, ⟨76, _⟩ => ⟨S4x4096x4096, .f32⟩
  | .hbm, ⟨77, _⟩ => ⟨S_, .f32⟩
  | .hbm, ⟨78, _⟩ => ⟨S4x4096, .f32⟩
  | .hbm, ⟨79, _⟩ => ⟨S4x4096x1, .f32⟩
  | .hbm, ⟨80, _⟩ => ⟨S4x4096x1, .f32⟩
  | .hbm, ⟨81, _⟩ => ⟨S4x4096x1, .f32⟩
  | .hbm, ⟨82, _⟩ => ⟨S_, .f32⟩
  | .hbm, ⟨83, _⟩ => ⟨S_, .f32⟩
  | .hbm, ⟨84, _⟩ => ⟨S4x4096x1, .f32⟩
  | .hbm, ⟨85, _⟩ => ⟨S4x4096x1, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]
-- ==== Kernel3.lean ====
abbrev S4096x2048 : Shape := ⟨2, ![4096, 2048]⟩
abbrev S1x2048 : Shape := ⟨2, ![1, 2048]⟩
abbrev S6144x2048 : Shape := ⟨2, ![6144, 2048]⟩
abbrev S4096x6144 : Shape := ⟨2, ![4096, 6144]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S6144x2048, .bf16⟩
  | .hbm, ⟨3, _⟩ => ⟨S4096x2048, .f32⟩
  | .hbm, ⟨4, _⟩ => ⟨S4096x6144, .bf16⟩
  | .hbm, ⟨5, _⟩ => ⟨S4096x2048, .f32⟩
  | .hbm, ⟨6, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c0_i32_11 : BitVec 32 := 0#32
  let v15 : BitVec 1 := Scalar.cmpi .eq arg0 c0_i32_11
  let v16 : BitVec 32 := Scalar.extui v15
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference3Ideal.lean ====
abbrev S4096x2048 : Shape := ⟨2, ![4096, 2048]⟩
abbrev S1x2048 : Shape := ⟨2, ![1, 2048]⟩
abbrev S6144x2048 : Shape := ⟨2, ![6144, 2048]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S2048x6144 : Shape := ⟨2, ![2048, 6144]⟩
abbrev S2048 : Shape := ⟨1, ![2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S6144x2048, .bf16⟩
  | .hbm, ⟨3, _⟩ => ⟨S4096x2048, .f32⟩
  | .hbm, ⟨4, _⟩ => ⟨S4096x6144, .bf16⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S6144x2048, .f32⟩
  | .hbm, ⟨25, _⟩ => ⟨S2048x6144, .f32⟩
  | .hbm, ⟨26, _⟩ => ⟨S4096x6144, .f32⟩
  | .hbm, ⟨27, _⟩ => ⟨S4096x6144, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel4.lean ====
abbrev S4096x1024 : Shape := ⟨2, ![4096, 1024]⟩
abbrev S4096x6144 : Shape := ⟨2, ![4096, 6144]⟩
abbrev S6144x1024 : Shape := ⟨2, ![6144, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S6144x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x6144 : Shape := ⟨2, ![4096, 6144]⟩
abbrev S_ : Shape := ⟨0, ![]⟩
abbrev S6144x1024 : Shape := ⟨2, ![6144, 1024]⟩
abbrev S1024x6144 : Shape := ⟨2, ![1024, 6144]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S_, .f32⟩
  | .hbm, ⟨3, _⟩ => ⟨S6144x1024, .f32⟩
  | .hbm, ⟨4, _⟩ => ⟨S4096x1024, .f32⟩
  | .hbm, ⟨5, _⟩ => ⟨S1024x6144, .f32⟩
  | .hbm, ⟨6, _⟩ => ⟨S4096x6144, .f32⟩
  | .hbm, ⟨7, _⟩ => ⟨S4096x6144, .f32⟩
  | .hbm, ⟨8, _⟩ => ⟨S6144x1024, .f32⟩
  | .hbm, ⟨9, _⟩ => ⟨S1024x6144, .f32⟩
  | .hbm, ⟨10, _⟩ => ⟨S6144x1024, .f32⟩
  | .hbm, ⟨11, _⟩ => ⟨S6144x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S512x1024 : Shape := ⟨2, ![512, 1024]⟩
abbrev S2048x1024 : Shape := ⟨2, ![2048, 1024]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S2048x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1x128 : Shape := ⟨2, ![1, 128]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1x128, .f32⟩
  | .local _ .vmem, ⟨11, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c0_i32_11 : BitVec 32 := 0#32
  let v15 : BitVec 1 := Scalar.cmpi .eq arg0 c0_i32_11
  let v16 : BitVec 32 := Scalar.extui v15
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== Reference8Ideal.lean ====
abbrev S4096x2048 : Shape := ⟨2, ![4096, 2048]⟩
abbrev S2048x2048 : Shape := ⟨2, ![2048, 2048]⟩
abbrev S_ : Shape := ⟨0, ![]⟩
abbrev S4096 : Shape := ⟨1, ![4096]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x2048, .f32⟩
  | .hbm, ⟨30, _⟩ => ⟨S4096x2048, .f32⟩
  | .hbm, ⟨31, _⟩ => ⟨S1x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Kernel9.lean ====
abbrev S4096x512 : Shape := ⟨2, ![4096, 512]⟩
abbrev S4096x6144 : Shape := ⟨2, ![4096, 6144]⟩
abbrev S4096x2048 : Shape := ⟨2, ![4096, 2048]⟩
abbrev S1x512 : Shape := ⟨2, ![1, 512]⟩
abbrev S512x512 : Shape := ⟨2, ![512, 512]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x6144, .f32⟩
  | .hbm, ⟨2, _⟩ => ⟨S4096x2048, .f32⟩
  | .hbm, ⟨3, _⟩ => ⟨S1x512, .f32⟩
  | .hbm, ⟨4, _⟩ => ⟨S4096x512, .f32⟩
  | .hbm, ⟨5, _⟩ => ⟨S4096x512, .bf16⟩
  | .hbm, ⟨6, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S4096x512 : Shape := ⟨2, ![4096, 512]⟩
abbrev S4096x6144 : Shape := ⟨2, ![4096, 6144]⟩
abbrev S4096x2048 : Shape := ⟨2, ![4096, 2048]⟩
abbrev S1x512 : Shape := ⟨2, ![1, 512]⟩
abbrev S4096x4x128 : Shape := ⟨3, ![4096, 4, 128]⟩
abbrev S_ : Shape := ⟨0, ![]⟩
abbrev S4x128 : Shape := ⟨2, ![4, 128]⟩
abbrev S4096x4 : Shape := ⟨2, ![4096, 4]⟩
abbrev S4096x4x1 : Shape := ⟨3, ![4096, 4, 1]⟩
abbrev S1x4x128 : Shape := ⟨3, ![1, 4, 128]⟩

abbrev nBuf : Space → Nat
  | .hbm => 78
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x6144, .f32⟩
  | .hbm, ⟨2, _⟩ => ⟨S4096x2048, .f32⟩
  | .hbm, ⟨3, _⟩ => ⟨S1x512, .f32⟩
  | .hbm, ⟨4, _⟩ => ⟨S4096x512, .f32⟩
  | .hbm, ⟨5, _⟩ => ⟨S4096x4x128, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4x128, .f32⟩
  | .hbm, ⟨20, _⟩ => ⟨S4096x4x128, .f32⟩
  | .hbm, ⟨21, _⟩ => ⟨S_, .f32⟩
  | .hbm, ⟨22, _⟩ => ⟨S4096x4, .f32⟩
  | .hbm, ⟨23, _⟩ => ⟨S4096x4x1, .f32⟩
  | .hbm, ⟨24, _⟩ => ⟨S_, .f32⟩
  | .hbm, ⟨25, _⟩ => ⟨S4096x4x1, .f32⟩
  | .hbm, ⟨26, _⟩ => ⟨S4096x4x1, .f32⟩
  | .hbm, ⟨27, _⟩ => ⟨S_, .f32⟩
  | .hbm, ⟨28, _⟩ => ⟨S4096x4x1, .f32⟩
  | .hbm, ⟨29, _⟩ => ⟨S4096x4x1, .f32⟩
  | .hbm, ⟨30, _⟩ => ⟨S4096x4x1, .f32⟩
  | .hbm, ⟨31, _⟩ => ⟨S4096x4x1, .f32⟩
  | .hbm, ⟨32, _⟩ => ⟨S_, .f32⟩
  | .hbm, ⟨33, _⟩ => ⟨S4096x4x1, .f32⟩
  | .hbm, ⟨34, _⟩ => ⟨S4096x4x1, .f32⟩
  | .hbm, ⟨35, _⟩ => ⟨S4096x4x128, .f32⟩
  | .hbm, ⟨36, _⟩ => ⟨S4096x4x128, .f32⟩
  | .hbm, ⟨37, _⟩ => ⟨S1x4x128, .f32⟩
  | .hbm, ⟨38, _⟩ => ⟨S4096x4x128, .f32⟩
  | .hbm, ⟨39, _⟩ => ⟨S4096x4x128, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x4x128, .f32⟩
  | .hbm, ⟨46, _⟩ => ⟨S4096x4x128, .f32⟩
  | .hbm, ⟨47, _⟩ => ⟨S_, .f32⟩
  | .hbm, ⟨48, _⟩ => ⟨S4x128, .f32⟩
  | .hbm, ⟨49, _⟩ => ⟨S1x4x128, .f32⟩
  | .hbm, ⟨50, _⟩ => ⟨S4096x4x128, .f32⟩
  | .hbm, ⟨51, _⟩ => ⟨S4096x4x128, .f32⟩
  | .hbm, ⟨52, _⟩ => ⟨S_, .f32⟩
  | .hbm, ⟨53, _⟩ => ⟨S4x128, .f32⟩
  | .hbm, ⟨54, _⟩ => ⟨S4096x4x128, .f32⟩
  | .hbm, ⟨55, _⟩ => ⟨S_, .f32⟩
  | .hbm, ⟨56, _⟩ => ⟨S4096x4, .f32⟩
  | .hbm, ⟨57, _⟩ => ⟨S4096x4x1, .f32⟩
  | .hbm, ⟨58, _⟩ => ⟨S4096x4x128, .f32⟩
  | .hbm, ⟨59, _⟩ => ⟨S4096x4x128, .f32⟩
  | .hbm, ⟨60, _⟩ => ⟨S4096x4x1, .f32⟩
  | .hbm, ⟨61, _⟩ => ⟨S_, .f32⟩
  | .hbm, ⟨62, _⟩ => ⟨S4096x4x1, .f32⟩
  | .hbm, ⟨63, _⟩ => ⟨S4096x4x1, .f32⟩
  | .hbm, ⟨64, _⟩ => ⟨S_, .f32⟩
  | .hbm, ⟨65, _⟩ => ⟨S4096x4, .f32⟩
  | .hbm, ⟨66, _⟩ => ⟨S4096x4x128, .f32⟩
  | .hbm, ⟨67, _⟩ => ⟨S4096x4x128, .f32⟩
  | .hbm, ⟨68, _⟩ => ⟨S4096x4x128, .f32⟩
  | .hbm, ⟨69, _⟩ => ⟨S4096x4x128, .f32⟩
  | .hbm, ⟨70, _⟩ => ⟨S4096x4x128, .f32⟩
  | .hbm, ⟨71, _⟩ => ⟨S1x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== Kernel10.lean ====
abbrev S4096x512 : Shape := ⟨2, ![4096, 512]⟩
abbrev S4096x6144 : Shape := ⟨2, ![4096, 6144]⟩
abbrev S4096x2048 : Shape := ⟨2, ![4096, 2048]⟩
abbrev S1x512 : Shape := ⟨2, ![1, 512]⟩
abbrev S512x512 : Shape := ⟨2, ![512, 512]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x6144, .f32⟩
  | .hbm, ⟨2, _⟩ => ⟨S4096x2048, .f32⟩
  | .hbm, ⟨3, _⟩ => ⟨S1x512, .f32⟩
  | .hbm, ⟨4, _⟩ => ⟨S4096x512, .f32⟩
  | .hbm, ⟨5, _⟩ => ⟨S4096x512, .bf16⟩
  | .hbm, ⟨6, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S4096x512 : Shape := ⟨2, ![4096, 512]⟩
abbrev S4096x6144 : Shape := ⟨2, ![4096, 6144]⟩
abbrev S4096x2048 : Shape := ⟨2, ![4096, 2048]⟩
abbrev S1x512 : Shape := ⟨2, ![1, 512]⟩
abbrev S4096x4x128 : Shape := ⟨3, ![4096, 4, 128]⟩
abbrev S_ : Shape := ⟨0, ![]⟩
abbrev S4x128 : Shape := ⟨2, ![4, 128]⟩
abbrev S4096x4 : Shape := ⟨2, ![4096, 4]⟩
abbrev S4096x4x1 : Shape := ⟨3, ![4096, 4, 1]⟩
abbrev S1x4x128 : Shape := ⟨3, ![1, 4, 128]⟩

abbrev nBuf : Space → Nat
  | .hbm => 78
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x6144, .f32⟩
  | .hbm, ⟨2, _⟩ => ⟨S4096x2048, .f32⟩
  | .hbm, ⟨3, _⟩ => ⟨S1x512, .f32⟩
  | .hbm, ⟨4, _⟩ => ⟨S4096x512, .f32⟩
  | .hbm, ⟨5, _⟩ => ⟨S4096x4x128, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4x128, .f32⟩
  | .hbm, ⟨20, _⟩ => ⟨S4096x4x128, .f32⟩
  | .hbm, ⟨21, _⟩ => ⟨S_, .f32⟩
  | .hbm, ⟨22, _⟩ => ⟨S4096x4, .f32⟩
  | .hbm, ⟨23, _⟩ => ⟨S4096x4x1, .f32⟩
  | .hbm, ⟨24, _⟩ => ⟨S_, .f32⟩
  | .hbm, ⟨25, _⟩ => ⟨S4096x4x1, .f32⟩
  | .hbm, ⟨26, _⟩ => ⟨S4096x4x1, .f32⟩
  | .hbm, ⟨27, _⟩ => ⟨S_, .f32⟩
  | .hbm, ⟨28, _⟩ => ⟨S4096x4x1, .f32⟩
  | .hbm, ⟨29, _⟩ => ⟨S4096x4x1, .f32⟩
  | .hbm, ⟨30, _⟩ => ⟨S4096x4x1, .f32⟩
  | .hbm, ⟨31, _⟩ => ⟨S4096x4x1, .f32⟩
  | .hbm, ⟨32, _⟩ => ⟨S_, .f32⟩
  | .hbm, ⟨33, _⟩ => ⟨S4096x4x1, .f32⟩
  | .hbm, ⟨34, _⟩ => ⟨S4096x4x1, .f32⟩
  | .hbm, ⟨35, _⟩ => ⟨S4096x4x128, .f32⟩
  | .hbm, ⟨36, _⟩ => ⟨S4096x4x128, .f32⟩
  | .hbm, ⟨37, _⟩ => ⟨S1x4x128, .f32⟩
  | .hbm, ⟨38, _⟩ => ⟨S4096x4x128, .f32⟩
  | .hbm, ⟨39, _⟩ => ⟨S4096x4x128, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x4x128, .f32⟩
  | .hbm, ⟨46, _⟩ => ⟨S4096x4x128, .f32⟩
  | .hbm, ⟨47, _⟩ => ⟨S_, .f32⟩
  | .hbm, ⟨48, _⟩ => ⟨S4x128, .f32⟩
  | .hbm, ⟨49, _⟩ => ⟨S1x4x128, .f32⟩
  | .hbm, ⟨50, _⟩ => ⟨S4096x4x128, .f32⟩
  | .hbm, ⟨51, _⟩ => ⟨S4096x4x128, .f32⟩
  | .hbm, ⟨52, _⟩ => ⟨S_, .f32⟩
  | .hbm, ⟨53, _⟩ => ⟨S4x128, .f32⟩
  | .hbm, ⟨54, _⟩ => ⟨S4096x4x128, .f32⟩
  | .hbm, ⟨55, _⟩ => ⟨S_, .f32⟩
  | .hbm, ⟨56, _⟩ => ⟨S4096x4, .f32⟩
  | .hbm, ⟨57, _⟩ => ⟨S4096x4x1, .f32⟩
  | .hbm, ⟨58, _⟩ => ⟨S4096x4x128, .f32⟩
  | .hbm, ⟨59, _⟩ => ⟨S4096x4x128, .f32⟩
  | .hbm, ⟨60, _⟩ => ⟨S4096x4x1, .f32⟩
  | .hbm, ⟨61, _⟩ => ⟨S_, .f32⟩
  | .hbm, ⟨62, _⟩ => ⟨S4096x4x1, .f32⟩
  | .hbm, ⟨63, _⟩ => ⟨S4096x4x1, .f32⟩
  | .hbm, ⟨64, _⟩ => ⟨S_, .f32⟩
  | .hbm, ⟨65, _⟩ => ⟨S4096x4, .f32⟩
  | .hbm, ⟨66, _⟩ => ⟨S4096x4x128, .f32⟩
  | .hbm, ⟨67, _⟩ => ⟨S4096x4x128, .f32⟩
  | .hbm, ⟨68, _⟩ => ⟨S4096x4x128, .f32⟩
  | .hbm, ⟨69, _⟩ => ⟨S4096x4x128, .f32⟩
  | .hbm, ⟨70, _⟩ => ⟨S4096x4x128, .f32⟩
  | .hbm, ⟨71, _⟩ => ⟨S1x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== Kernel11.lean ====
abbrev S4096x2048 : Shape := ⟨2, ![4096, 2048]⟩
abbrev S1x2048 : Shape := ⟨2, ![1, 2048]⟩
abbrev S6144x2048 : Shape := ⟨2, ![6144, 2048]⟩
abbrev S4096x6144 : Shape := ⟨2, ![4096, 6144]⟩
abbrev S1024x2048 : Shape := ⟨2, ![1024, 2048]⟩
abbrev S512x2048 : Shape := ⟨2, ![512, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S6144x2048, .bf16⟩
  | .hbm, ⟨3, _⟩ => ⟨S4096x6144, .f32⟩
  | .hbm, ⟨4, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference11Ideal.lean ====
abbrev S4096x2048 : Shape := ⟨2, ![4096, 2048]⟩
abbrev S1x2048 : Shape := ⟨2, ![1, 2048]⟩
abbrev S6144x2048 : Shape := ⟨2, ![6144, 2048]⟩
abbrev S_ : Shape := ⟨0, ![]⟩
abbrev S4096 : Shape := ⟨1, ![4096]⟩
abbrev S4096x1 : Shape := ⟨2, ![4096, 1]⟩
abbrev S2048x6144 : Shape := ⟨2, ![2048, 6144]⟩
abbrev S4096x6144 : Shape := ⟨2, ![4096, 6144]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S6144x2048, .bf16⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S6144x2048, .f32⟩
  | .hbm, ⟨19, _⟩ => ⟨S2048x6144, .f32⟩
  | .hbm, ⟨20, _⟩ => ⟨S4096x6144, .f32⟩
  | .hbm, ⟨21, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel13.lean ====
abbrev S8x256x2048 : Shape := ⟨3, ![8, 256, 2048]⟩
abbrev S2x256x2048 : Shape := ⟨3, ![2, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32 : BitVec 32 := 0#32
  let v2 : BitVec 1 := Scalar.cmpi .sge v1 c0_i32
  let c2_i32_0 : BitVec 32 := 2#32
  let v3 : BitVec 1 := Scalar.cmpi .slt v1 c2_i32_0
  let v4 : BitVec 1 := Scalar.andi v2 v3
  let v5 : BitVec 32 := Scalar.extui v4
  let c0_i32_1 : BitVec 32 := 0#32
  let v6 : BitVec 1 := Scalar.cmpi .ne v5 c0_i32_1
  v6

def k0_cond2 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_2 : BitVec 32 := 2#32
  let v7 : BitVec 1 := Scalar.cmpi .sge v1 c2_i32_2
  let c4_i32 : BitVec 32 := 4#32
  let v8 : BitVec 1 := Scalar.cmpi .slt v1 c4_i32
  let v9 : BitVec 1 := Scalar.andi v7 v8
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let v2 : BitVec 32 := Scalar.subi v1 c0_i32
  let c0_i32_0 : BitVec 32 := 0#32
  let c1_i32 : BitVec 32 := 1#32
  let v3 : BitVec 32 := Scalar.maxsi c0_i32_0 v2
  let v4 : BitVec 32 := Scalar.minsi c1_i32 v3
  let c0_i32_1 : BitVec 32 := 0#32
  let c0_i32_2 : BitVec 32 := 0#32
  let c0_i32_3 : BitVec 32 := 0#32
  ![c0_i32_1.toNat, v4.toNat, c0_i32_2.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.subi v1 c2_i32_0
  let c0_i32 : BitVec 32 := 0#32
  let c1_i32 : BitVec 32 := 1#32
  let v3 : BitVec 32 := Scalar.maxsi c0_i32 v2
  let v4 : BitVec 32 := Scalar.minsi c1_i32 v3
  let c0_i32_1 : BitVec 32 := 0#32
  let c0_i32_2 : BitVec 32 := 0#32
  let c0_i32_3 : BitVec 32 := 0#32
  ![c0_i32_1.toNat, v4.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S8x256x2048 : Shape := ⟨3, ![8, 256, 2048]⟩
abbrev S2x256x2048 : Shape := ⟨3, ![2, 256, 2048]⟩
abbrev S8x1x256x2048 : Shape := ⟨4, ![8, 1, 256, 2048]⟩
abbrev S8x2x256x2048 : Shape := ⟨4, ![8, 2, 256, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S8x1x256x2048, .bf16⟩
  | .hbm, ⟨6, _⟩ => ⟨S8x1x256x2048, .bf16⟩
  | .hbm, ⟨7, _⟩ => ⟨S8x2x256x2048, .bf16⟩
  | .hbm, ⟨8, _⟩ => ⟨S8x2x256x2048, .f32⟩
  | .hbm, ⟨9, _⟩ => ⟨S_, .f32⟩
  | .hbm, ⟨10, _⟩ => ⟨S2x256x2048, .f32⟩
  | .hbm, ⟨11, _⟩ => ⟨S_, .f32⟩
  | .hbm, ⟨12, _⟩ => ⟨S2x256x2048, .f32⟩
  | .hbm, ⟨13, _⟩ => ⟨S2x256x2048, .f32⟩
  | .hbm, ⟨14, _⟩ => ⟨S_, .f32⟩
  | .hbm, ⟨15, _⟩ => ⟨S2x256x2048, .f32⟩
  | .hbm, ⟨16, _⟩ => ⟨S2x256x2048, .f32⟩
  | .hbm, ⟨17, _⟩ => ⟨S2x256x2048, .f32⟩
  | .hbm, ⟨18, _⟩ => ⟨S_, .f32⟩
  | .hbm, ⟨19, _⟩ => ⟨S2x256x2048, .f32⟩
  | .hbm, ⟨20, _⟩ => ⟨S2x256x2048, .f32⟩
  | .hbm, ⟨21, _⟩ => ⟨S2x256x2048, .f32⟩
  | .hbm, ⟨22, _⟩ => ⟨S_, .f32⟩
  | .hbm, ⟨23, _⟩ => ⟨S2x256x2048, .f32⟩
  | .hbm, ⟨24, _⟩ => ⟨S2x256x2048, .f32⟩
  | .hbm, ⟨25, _⟩ => ⟨S2x256x2048, .f32⟩
  | .hbm, ⟨26, _⟩ => ⟨S_, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S2x256x2048, .f32⟩
  | .hbm, ⟨31, _⟩ => ⟨S2x256x2048, .f32⟩
  | .hbm, ⟨32, _⟩ => ⟨S2x256x2048, .f32⟩
  | .hbm, ⟨33, _⟩ => ⟨S_, .f32⟩
  | .hbm, ⟨34, _⟩ => ⟨S2x256x2048, .f32⟩
  | .hbm, ⟨35, _⟩ => ⟨S2x256x2048, .f32⟩
  | .hbm, ⟨36, _⟩ => ⟨S2x256x2048, .f32⟩
  | .hbm, ⟨37, _⟩ => ⟨S_, .f32⟩
  | .hbm, ⟨38, _⟩ => ⟨S2x256x2048, .f32⟩
  | .hbm, ⟨39, _⟩ => ⟨S2x256x2048, .f32⟩
  | .hbm, ⟨40, _⟩ => ⟨S2x256x2048, .f32⟩
  | .hbm, ⟨41, _⟩ => ⟨S_, .f32⟩
  | .hbm, ⟨42, _⟩ => ⟨S2x256x2048, .f32⟩
  | .hbm, ⟨43, _⟩ => ⟨S2x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel14.lean ====
abbrev S8x748x1024 : Shape := ⟨3, ![8, 748, 1024]⟩
abbrev S2x2048x748 : Shape := ⟨3, ![2, 2048, 748]⟩
abbrev S748x2x2048 : Shape := ⟨3, ![748, 2, 2048]⟩
abbrev S8x748x256 : Shape := ⟨3, ![8, 748, 256]⟩
abbrev S748x2x256 : Shape := ⟨3, ![748, 2, 256]⟩
abbrev S1x748x256 : Shape := ⟨3, ![1, 748, 256]⟩
abbrev S748x256 : Shape := ⟨2, ![748, 256]⟩
abbrev S748x1x256 : Shape := ⟨3, ![748, 1, 256]⟩

abbrev nBuf : Space → Nat
  | .hbm => 14
  | .vmem => 22
  | .smem => 0
  | _ => 0

abbrev bufTy : (tb : Table) → Fin (tcTables nBuf tb) → BufTy
  | .hbm, ⟨0, _⟩ => ⟨S8x748x1024, .bf16⟩
  | .hbm, ⟨1, _⟩ => ⟨S8x748x1024, .bf16⟩
  | .hbm, ⟨2, _⟩ => ⟨S8x748x1024, .bf16⟩
  | .hbm, ⟨3, _⟩ => ⟨S8x748x1024, .bf16⟩
  | .hbm, ⟨4, _⟩ => ⟨S2x2048x748, .f32⟩
  | .hbm, ⟨5, _⟩ => ⟨S2x2048x748, .f32⟩
  | .hbm, ⟨6, _⟩ => ⟨S2x2048x748, .f32⟩
  | .hbm, ⟨7, _⟩ => ⟨S748x2x2048, .f32⟩
  | .hbm, ⟨8, _⟩ => ⟨S748x2x2048, .f32⟩
  | .hbm, ⟨9, _⟩ => ⟨S748x2x2048, .f32⟩
  | .hbm, ⟨10, _⟩ => ⟨S748x2x2048, .f32⟩
  | .hbm, ⟨11, _⟩ => ⟨S748x2x2048, .f32⟩
  | .hbm, ⟨12, _⟩ => ⟨S748x2x2048, .f32⟩
  | .hbm, ⟨13, _⟩ => ⟨S748x2x2048, .f32⟩
  | .local _ .vmem, ⟨0, _⟩ => ⟨S8x748x256, .bf16⟩
  | .local _ .vmem, ⟨1, _⟩ => ⟨S8x748x256, .bf16⟩
  | .local _ .vmem, ⟨2, _⟩ => ⟨S8x748x256, .bf16⟩
  | .local _ .vmem, ⟨3, _⟩ => ⟨S8x748x256, .bf16⟩
  | .local _ .vmem, ⟨4, _⟩ => ⟨S8x748x256, .bf16⟩
  | .local _ .vmem, ⟨5, _⟩ => ⟨S8x748x256, .bf16⟩
  | .local _ .vmem, ⟨6, _⟩ => ⟨S8x748x256, .bf16⟩
  | .local _ .vmem, ⟨7, _⟩ => ⟨S8x748x256, .bf16⟩
  | .local _ .vmem, ⟨8, _⟩ => ⟨S748x2x256, .f32⟩
  | .local _ .vmem, ⟨9, _⟩ => ⟨S748x2x256, .f32⟩
  | .local _ .vmem, ⟨10, _⟩ => ⟨S748x2x256, .f32⟩
  | .local _ .vmem, ⟨11, _⟩ => ⟨S748x2x256, .f32⟩
  | .local _ .vmem, ⟨12, _⟩ => ⟨S748x2x256, .f32⟩
  | .local _ .vmem, ⟨13, _⟩ => ⟨S748x2x256, .f32⟩
  | .local _ .vmem, ⟨14, _⟩ => ⟨S748x2x256, .f32⟩
  | .local _ .vmem, ⟨15, _⟩ => ⟨S748x2x256, .f32⟩
  | .local _ .vmem, ⟨16, _⟩ => ⟨S748x2x256, .f32⟩
  | .local _ .vmem, ⟨17, _⟩ => ⟨S748x2x256, .f32⟩
  | .local _ .vmem, ⟨18, _⟩ => ⟨S748x2x256, .f32⟩
  | .local _ .vmem, ⟨19, _⟩ => ⟨S748x2x256, .f32⟩
  | .local _ .vmem, ⟨20, _⟩ => ⟨S748x2x256, .f32⟩
  | .local _ .vmem, ⟨21, _⟩ => ⟨S748x2x256, .f32⟩
  | _, _ => ⟨S8x748x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c4_i32 : BitVec 32 := 4#32
  let v1 : BitVec 32 := Scalar.muli v0 c4_i32
  let v2 : BitVec 32 := Scalar.addi v1 arg1
  let c0_i32_0 : BitVec 32 := 0#32
  let c3_i32 : BitVec 32 := 3#32
  let v3 : BitVec 32 := Scalar.maxsi c0_i32_0 v2
  let v4 : BitVec 32 := Scalar.minsi c3_i32 v3
  let c0_i32_1 : BitVec 32 := 0#32
  let c0_i32_2 : BitVec 32 := 0#32
  let c0_i32_3 : BitVec 32 := 0#32
  ![c0_i32_1.toNat, c0_i32_2.toNat, v4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c4_i32 : BitVec 32 := 4#32
  let v1 : BitVec 32 := Scalar.muli v0 c4_i32
  let v2 : BitVec 32 := Scalar.addi v1 arg1
  let c0_i32 : BitVec 32 := 0#32
  let c3_i32 : BitVec 32 := 3#32
  let v3 : BitVec 32 := Scalar.maxsi c0_i32 v2
  let v4 : BitVec 32 := Scalar.minsi c3_i32 v3
  let c0_i32_0 : BitVec 32 := 0#32
  let c0_i32_1 : BitVec 32 := 0#32
  let c0_i32_2 : BitVec 32 := 0#32
  ![c0_i32_0.toNat, c0_i32_1.toNat, v4.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c4_i32 : BitVec 32 := 4#32
  let v1 : BitVec 32 := Scalar.muli v0 c4_i32
  let v2 : BitVec 32 := Scalar.addi v1 arg1
  let c0_i32_0 : BitVec 32 := 0#32
  let c3_i32 : BitVec 32 := 3#32
  let v3 : BitVec 32 := Scalar.maxsi c0_i32_0 v2
  let v4 : BitVec 32 := Scalar.minsi c3_i32 v3
  let c0_i32_1 : BitVec 32 := 0#32
  let c0_i32_2 : BitVec 32 := 0#32
  let c0_i32_3 : BitVec 32 := 0#32
  ![c0_i32_1.toNat, c0_i32_2.toNat, v4.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c4_i32 : BitVec 32 := 4#32
  let v1 : BitVec 32 := Scalar.muli v0 c4_i32
  let v2 : BitVec 32 := Scalar.addi v1 arg1
  let c0_i32 : BitVec 32 := 0#32
  let c3_i32 : BitVec 32 := 3#32
  let v3 : BitVec 32 := Scalar.maxsi c0_i32 v2
  let v4 : BitVec 32 := Scalar.minsi c3_i32 v3
  let c0_i32_0 : BitVec 32 := 0#32
  let c0_i32_1 : BitVec 32 := 0#32
  let c0_i32_2 : BitVec 32 := 0#32
  ![c0_i32_0.toNat, c0_i32_1.toNat, v4.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 2 → Memref sig .tc .vmem S8x748x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x748x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x748x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x748x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S748x2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S748x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S748x2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S748x2x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S748x2x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S748x2x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S748x2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference14Ideal.lean ====
abbrev S8x748x1024 : Shape := ⟨3, ![8, 748, 1024]⟩
abbrev S2x2048x748 : Shape := ⟨3, ![2, 2048, 748]⟩
abbrev S8x748x2048 : Shape := ⟨3, ![8, 748, 2048]⟩
abbrev S8x1x748x2048 : Shape := ⟨4, ![8, 1, 748, 2048]⟩
abbrev S8x2x748x2048 : Shape := ⟨4, ![8, 2, 748, 2048]⟩
abbrev S8x2x2048x748 : Shape := ⟨4, ![8, 2, 2048, 748]⟩
abbrev S_ : Shape := ⟨0, ![]⟩
abbrev S748x2x2048 : Shape := ⟨3, ![748, 2, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x748x1024, .bf16⟩
  | .hbm, ⟨1, _⟩ => ⟨S8x748x1024, .bf16⟩
  | .hbm, ⟨2, _⟩ => ⟨S8x748x1024, .bf16⟩
  | .hbm, ⟨3, _⟩ => ⟨S8x748x1024, .bf16⟩
  | .hbm, ⟨4, _⟩ => ⟨S2x2048x748, .f32⟩
  | .hbm, ⟨5, _⟩ => ⟨S2x2048x748, .f32⟩
  | .hbm, ⟨6, _⟩ => ⟨S2x2048x748, .f32⟩
  | .hbm, ⟨7, _⟩ => ⟨S8x748x2048, .bf16⟩
  | .hbm, ⟨8, _⟩ => ⟨S8x748x2048, .bf16⟩
  | .hbm, ⟨9, _⟩ => ⟨S8x1x748x2048, .bf16⟩
  | .hbm, ⟨10, _⟩ => ⟨S8x1x748x2048, .bf16⟩
  | .hbm, ⟨11, _⟩ => ⟨S8x2x748x2048, .bf16⟩
  | .hbm, ⟨12, _⟩ => ⟨S8x2x2048x748, .bf16⟩
  | .hbm, ⟨13, _⟩ => ⟨S8x2x2048x748, .f32⟩
  | .hbm, ⟨14, _⟩ => ⟨S_, .f32⟩
  | .hbm, ⟨15, _⟩ => ⟨S2x2048x748, .f32⟩
  | .hbm, ⟨16, _⟩ => ⟨S_, .f32⟩
  | .hbm, ⟨17, _⟩ => ⟨S2x2048x748, .f32⟩
  | .hbm, ⟨18, _⟩ => ⟨S2x2048x748, .f32⟩
  | .hbm, ⟨19, _⟩ => ⟨S_, .f32⟩
  | .hbm, ⟨20, _⟩ => ⟨S2x2048x748, .f32⟩
  | .hbm, ⟨21, _⟩ => ⟨S2x2048x748, .f32⟩
  | .hbm, ⟨22, _⟩ => ⟨S2x2048x748, .f32⟩
  | .hbm, ⟨23, _⟩ => ⟨S_, .f32⟩
  | .hbm, ⟨24, _⟩ => ⟨S2x2048x748, .f32⟩
  | .hbm, ⟨25, _⟩ => ⟨S2x2048x748, .f32⟩
  | .hbm, ⟨26, _⟩ => ⟨S2x2048x748, .f32⟩
  | .hbm, ⟨27, _⟩ => ⟨S_, .f32⟩
  | .hbm, ⟨28, _⟩ => ⟨S2x2048x748, .f32⟩
  | .hbm, ⟨29, _⟩ => ⟨S2x2048x748, .f32⟩
  | .hbm, ⟨30, _⟩ => ⟨S2x2048x748, .f32⟩
  | .hbm, ⟨31, _⟩ => ⟨S_, .f32⟩
  | .hbm, ⟨32, _⟩ => ⟨S2x2048x748, .f32⟩
  | .hbm, ⟨33, _⟩ => ⟨S2x2048x748, .f32⟩
  | .hbm, ⟨34, _⟩ => ⟨S_, .f32⟩
  | .hbm, ⟨35, _⟩ => ⟨S2x2048x748, .f32⟩
  | .hbm, ⟨36, _⟩ => ⟨S2x2048x748, .f32⟩
  | .hbm, ⟨37, _⟩ => ⟨S2x2048x748, .f32⟩
  | .hbm, ⟨38, _⟩ => ⟨S_, .f32⟩
  | .hbm, ⟨39, _⟩ => ⟨S2x2048x748, .f32⟩
  | .hbm, ⟨40, _⟩ => ⟨S2x2048x748, .f32⟩
  | .hbm, ⟨41, _⟩ => ⟨S2x2048x748, .f32⟩
  | .hbm, ⟨42, _⟩ => ⟨S_, .f32⟩
  | .hbm, ⟨43, _⟩ => ⟨S2x2048x748, .f32⟩
  | .hbm, ⟨44, _⟩ => ⟨S2x2048x748, .f32⟩
  | .hbm, ⟨45, _⟩ => ⟨S2x2048x748, .f32⟩
  | .hbm, ⟨46, _⟩ => ⟨S_, .f32⟩
  | .hbm, ⟨47, _⟩ => ⟨S2x2048x748, .f32⟩
  | .hbm, ⟨48, _⟩ => ⟨S2x2048x748, .f32⟩
  | .hbm, ⟨49, _⟩ => ⟨S748x2x2048, .f32⟩
  | .hbm, ⟨50, _⟩ => ⟨S748x2x2048, .f32⟩
  | .hbm, ⟨51, _⟩ => ⟨S748x2x2048, .f32⟩
  | .hbm, ⟨52, _⟩ => ⟨S748x2x2048, .f32⟩
  | _, _ => ⟨S8x748x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Kernel12.lean ====
abbrev S8x2x2048 : Shape := ⟨3, ![8, 2, 2048]⟩
abbrev S2x2048 : Shape := ⟨2, ![2, 2048]⟩
abbrev S8x32x128 : Shape := ⟨3, ![8, 32, 128]⟩
abbrev S_ : Shape := ⟨0, ![]⟩
abbrev S32x128 : Shape := ⟨2, ![32, 128]⟩
abbrev S1x32x128 : Shape := ⟨3, ![1, 32, 128]⟩

abbrev nBuf : Space → Nat
  | .hbm => 24
  | .vmem => 8
  | .smem => 0
  | _ => 0

abbrev bufTy : (tb : Table) → Fin (tcTables nBuf tb) → BufTy
  | .hbm, ⟨0, _⟩ => ⟨S8x2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S8x32x128, .f32⟩
  | .hbm, ⟨5, _⟩ => ⟨S_, .i32⟩
  | .hbm, ⟨6, _⟩ => ⟨S_, .f32⟩
  | .hbm, ⟨7, _⟩ => ⟨S8x32x128, .f32⟩
  | .hbm, ⟨8, _⟩ => ⟨S32x128, .f32⟩
  | .hbm, ⟨9, _⟩ => ⟨S_, .i32⟩
  | .hbm, ⟨10, _⟩ => ⟨S_, .f32⟩
  | .hbm, ⟨11, _⟩ => ⟨S32x128, .f32⟩
  | .hbm, ⟨12, _⟩ => ⟨S32x128, .f32⟩
  | .hbm, ⟨13, _⟩ => ⟨S_, .i32⟩
  | .hbm, ⟨14, _⟩ => ⟨S_, .f32⟩
  | .hbm, ⟨15, _⟩ => ⟨S32x128, .f32⟩
  | .hbm, ⟨16, _⟩ => ⟨S32x128, .f32⟩
  | .hbm, ⟨17, _⟩ => ⟨S_, .i32⟩
  | .hbm, ⟨18, _⟩ => ⟨S_, .f32⟩
  | .hbm, ⟨19, _⟩ => ⟨S32x128, .f32⟩
  | .hbm, ⟨20, _⟩ => ⟨S32x128, .f32⟩
  | .hbm, ⟨21, _⟩ => ⟨S32x128, .f32⟩
  | .hbm, ⟨22, _⟩ => ⟨S32x128, .f32⟩
  | .hbm, ⟨23, _⟩ => ⟨S32x128, .f32⟩
  | .local _ .vmem, ⟨0, _⟩ => ⟨S8x32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | _, _ => ⟨S8x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_call3_v0 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference12Ideal.lean ====
abbrev S8x2x2048 : Shape := ⟨3, ![8, 2, 2048]⟩
abbrev S2x2048 : Shape := ⟨2, ![2, 2048]⟩
abbrev S_ : Shape := ⟨0, ![]⟩
abbrev S32x128 : Shape := ⟨2, ![32, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S_, .f32⟩
  | .hbm, ⟨7, _⟩ => ⟨S2x2048, .f32⟩
  | .hbm, ⟨8, _⟩ => ⟨S2x2048, .f32⟩
  | .hbm, ⟨9, _⟩ => ⟨S_, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S_, .f32⟩
  | .hbm, ⟨14, _⟩ => ⟨S2x2048, .f32⟩
  | .hbm, ⟨15, _⟩ => ⟨S2x2048, .f32⟩
  | .hbm, ⟨16, _⟩ => ⟨S2x2048, .f32⟩
  | .hbm, ⟨17, _⟩ => ⟨S_, .f32⟩
  | .hbm, ⟨18, _⟩ => ⟨S2x2048, .f32⟩
  | .hbm, ⟨19, _⟩ => ⟨S2x2048, .f32⟩
  | .hbm, ⟨20, _⟩ => ⟨S2x2048, .f32⟩
  | .hbm, ⟨21, _⟩ => ⟨S_, .f32⟩
  | .hbm, ⟨22, _⟩ => ⟨S2x2048, .f32⟩
  | .hbm, ⟨23, _⟩ => ⟨S2x2048, .f32⟩
  | .hbm, ⟨24, _⟩ => ⟨S_, .f32⟩
  | .hbm, ⟨25, _⟩ => ⟨S2x2048, .f32⟩
  | .hbm, ⟨26, _⟩ => ⟨S2x2048, .f32⟩
  | .hbm, ⟨27, _⟩ => ⟨S2x2048, .f32⟩
  | .hbm, ⟨28, _⟩ => ⟨S_, .f32⟩
  | .hbm, ⟨29, _⟩ => ⟨S2x2048, .f32⟩
  | .hbm, ⟨30, _⟩ => ⟨S2x2048, .f32⟩
  | .hbm, ⟨31, _⟩ => ⟨S2x2048, .f32⟩
  | .hbm, ⟨32, _⟩ => ⟨S_, .f32⟩
  | .hbm, ⟨33, _⟩ => ⟨S2x2048, .f32⟩
  | .hbm, ⟨34, _⟩ => ⟨S2x2048, .f32⟩
  | .hbm, ⟨35, _⟩ => ⟨S2x2048, .f32⟩
  | .hbm, ⟨36, _⟩ => ⟨S_, .f32⟩
  | .hbm, ⟨37, _⟩ => ⟨S2x2048, .f32⟩
  | .hbm, ⟨38, _⟩ => ⟨S2x2048, .f32⟩
  | .hbm, ⟨39, _⟩ => ⟨S32x128, .f32⟩
  | .hbm, ⟨40, _⟩ => ⟨S32x128, .f32⟩
  | .hbm, ⟨41, _⟩ => ⟨S32x128, .f32⟩
  | .hbm, ⟨42, _⟩ => ⟨S32x128, .f32⟩
  | _, _ => ⟨S8x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel15.lean ====
abbrev S8x2x512x96 : Shape := ⟨4, ![8, 2, 512, 96]⟩
abbrev S8x2x256x128 : Shape := ⟨4, ![8, 2, 256, 128]⟩
abbrev S8x2x16x32 : Shape := ⟨4, ![8, 2, 16, 32]⟩
abbrev S2x512x96 : Shape := ⟨3, ![2, 512, 96]⟩
abbrev S2x256x128 : Shape := ⟨3, ![2, 256, 128]⟩
abbrev S2x16x32 : Shape := ⟨3, ![2, 16, 32]⟩
abbrev S8x768x128 : Shape := ⟨3, ![8, 768, 128]⟩
abbrev S_ : Shape := ⟨0, ![]⟩
abbrev S8x512x128 : Shape := ⟨3, ![8, 512, 128]⟩
abbrev S8x8x128 : Shape := ⟨3, ![8, 8, 128]⟩
abbrev S8x16x128 : Shape := ⟨3, ![8, 16, 128]⟩
abbrev S8x1312x128 : Shape := ⟨3, ![8, 1312, 128]⟩
abbrev S768x128 : Shape := ⟨2, ![768, 128]⟩
abbrev S512x128 : Shape := ⟨2, ![512, 128]⟩
abbrev S8x128 : Shape := ⟨2, ![8, 128]⟩
abbrev S16x128 : Shape := ⟨2, ![16, 128]⟩
abbrev S1312x128 : Shape := ⟨2, ![1312, 128]⟩
abbrev S1x1312x128 : Shape := ⟨3, ![1, 1312, 128]⟩

abbrev nBuf : Space → Nat
  | .hbm => 88
  | .vmem => 8
  | .smem => 0
  | _ => 0

abbrev bufTy : (tb : Table) → Fin (tcTables nBuf tb) → BufTy
  | .hbm, ⟨0, _⟩ => ⟨S8x2x512x96, .f32⟩
  | .hbm, ⟨1, _⟩ => ⟨S8x2x256x128, .f32⟩
  | .hbm, ⟨2, _⟩ => ⟨S8x2x16x32, .f32⟩
  | .hbm, ⟨3, _⟩ => ⟨S8x2x16x32, .f32⟩
  | .hbm, ⟨4, _⟩ => ⟨S2x512x96, .f32⟩
  | .hbm, ⟨5, _⟩ => ⟨S2x256x128, .f32⟩
  | .hbm, ⟨6, _⟩ => ⟨S2x16x32, .f32⟩
  | .hbm, ⟨7, _⟩ => ⟨S2x16x32, .f32⟩
  | .hbm, ⟨8, _⟩ => ⟨S2x512x96, .f32⟩
  | .hbm, ⟨9, _⟩ => ⟨S2x256x128, .f32⟩
  | .hbm, ⟨10, _⟩ => ⟨S2x16x32, .f32⟩
  | .hbm, ⟨11, _⟩ => ⟨S2x16x32, .f32⟩
  | .hbm, ⟨12, _⟩ => ⟨S2x512x96, .f32⟩
  | .hbm, ⟨13, _⟩ => ⟨S2x256x128, .f32⟩
  | .hbm, ⟨14, _⟩ => ⟨S2x16x32, .f32⟩
  | .hbm, ⟨15, _⟩ => ⟨S2x16x32, .f32⟩
  | .hbm, ⟨16, _⟩ => ⟨S8x768x128, .f32⟩
  | .hbm, ⟨17, _⟩ => ⟨S_, .i32⟩
  | .hbm, ⟨18, _⟩ => ⟨S_, .f32⟩
  | .hbm, ⟨19, _⟩ => ⟨S8x768x128, .f32⟩
  | .hbm, ⟨20, _⟩ => ⟨S8x512x128, .f32⟩
  | .hbm, ⟨21, _⟩ => ⟨S_, .i32⟩
  | .hbm, ⟨22, _⟩ => ⟨S_, .f32⟩
  | .hbm, ⟨23, _⟩ => ⟨S8x512x128, .f32⟩
  | .hbm, ⟨24, _⟩ => ⟨S8x8x128, .f32⟩
  | .hbm, ⟨25, _⟩ => ⟨S_, .i32⟩
  | .hbm, ⟨26, _⟩ => ⟨S_, .f32⟩
  | .hbm, ⟨27, _⟩ => ⟨S8x16x128, .f32⟩
  | .hbm, ⟨28, _⟩ => ⟨S8x8x128, .f32⟩
  | .hbm, ⟨29, _⟩ => ⟨S_, .i32⟩
  | .hbm, ⟨30, _⟩ => ⟨S_, .f32⟩
  | .hbm, ⟨31, _⟩ => ⟨S8x16x128, .f32⟩
  | .hbm, ⟨32, _⟩ => ⟨S8x1312x128, .f32⟩
  | .hbm, ⟨33, _⟩ => ⟨S768x128, .f32⟩
  | .hbm, ⟨34, _⟩ => ⟨S_, .i32⟩
  | .hbm, ⟨35, _⟩ => ⟨S_, .f32⟩
  | .hbm, ⟨36, _⟩ => ⟨S768x128, .f32⟩
  | .hbm, ⟨37, _⟩ => ⟨S512x128, .f32⟩
  | .hbm, ⟨38, _⟩ => ⟨S_, .i32⟩
  | .hbm, ⟨39, _⟩ => ⟨S_, .f32⟩
  | .hbm, ⟨40, _⟩ => ⟨S512x128, .f32⟩
  | .hbm, ⟨41, _⟩ => ⟨S8x128, .f32⟩
  | .hbm, ⟨42, _⟩ => ⟨S_, .i32⟩
  | .hbm, ⟨43, _⟩ => ⟨S_, .f32⟩
  | .hbm, ⟨44, _⟩ => ⟨S16x128, .f32⟩
  | .hbm, ⟨45, _⟩ => ⟨S8x128, .f32⟩
  | .hbm, ⟨46, _⟩ => ⟨S_, .i32⟩
  | .hbm, ⟨47, _⟩ => ⟨S_, .f32⟩
  | .hbm, ⟨48, _⟩ => ⟨S16x128, .f32⟩
  | .hbm, ⟨49, _⟩ => ⟨S1312x128, .f32⟩
  | .hbm, ⟨50, _⟩ => ⟨S768x128, .f32⟩
  | .hbm, ⟨51, _⟩ => ⟨S_, .i32⟩
  | .hbm, ⟨52, _⟩ => ⟨S_, .f32⟩
  | .hbm, ⟨53, _⟩ => ⟨S768x128, .f32⟩
  | .hbm, ⟨54, _⟩ => ⟨S512x128, .f32⟩
  | .hbm, ⟨55, _⟩ => ⟨S_, .i32⟩
  | .hbm, ⟨56, _⟩ => ⟨S_, .f32⟩
  | .hbm, ⟨57, _⟩ => ⟨S512x128, .f32⟩
  | .hbm, ⟨58, _⟩ => ⟨S8x128, .f32⟩
  | .hbm, ⟨59, _⟩ => ⟨S_, .i32⟩
  | .hbm, ⟨60, _⟩ => ⟨S_, .f32⟩
  | .hbm, ⟨61, _⟩ => ⟨S16x128, .f32⟩
  | .hbm, ⟨62, _⟩ => ⟨S8x128, .f32⟩
  | .hbm, ⟨63, _⟩ => ⟨S_, .i32⟩
  | .hbm, ⟨64, _⟩ => ⟨S_, .f32⟩
  | .hbm, ⟨65, _⟩ => ⟨S16x128, .f32⟩
  | .hbm, ⟨66, _⟩ => ⟨S1312x128, .f32⟩
  | .hbm, ⟨67, _⟩ => ⟨S768x128, .f32⟩
  | .hbm, ⟨68, _⟩ => ⟨S_, .i32⟩
  | .hbm, ⟨69, _⟩ => ⟨S_, .f32⟩
  | .hbm, ⟨70, _⟩ => ⟨S768x128, .f32⟩
  | .hbm, ⟨71, _⟩ => ⟨S512x128, .f32⟩
  | .hbm, ⟨72, _⟩ => ⟨S_, .i32⟩
  | .hbm, ⟨73, _⟩ => ⟨S_, .f32⟩
  | .hbm, ⟨74, _⟩ => ⟨S512x128, .f32⟩
  | .hbm, ⟨75, _⟩ => ⟨S8x128, .f32⟩
  | .hbm, ⟨76, _⟩ => ⟨S_, .i32⟩
  | .hbm, ⟨77, _⟩ => ⟨S_, .f32⟩
  | .hbm, ⟨78, _⟩ => ⟨S16x128, .f32⟩
  | .hbm, ⟨79, _⟩ => ⟨S8x128, .f32⟩
  | .hbm, ⟨80, _⟩ => ⟨S_, .i32⟩
  | .hbm, ⟨81, _⟩ => ⟨S_, .f32⟩
  | .hbm, ⟨82, _⟩ => ⟨S16x128, .f32⟩
  | .hbm, ⟨83, _⟩ => ⟨S1312x128, .f32⟩
  | .hbm, ⟨84, _⟩ => ⟨S1312x128, .f32⟩
  | .hbm, ⟨85, _⟩ => ⟨S1312x128, .f32⟩
  | .hbm, ⟨86, _⟩ => ⟨S1312x128, .f32⟩
  | .hbm, ⟨87, _⟩ => ⟨S1312x128, .f32⟩
  | .local _ .vmem, ⟨0, _⟩ => ⟨S8x1312x128, .f32⟩
  | .local _ .vmem, ⟨1, _⟩ => ⟨S1312x128, .f32⟩
  | .local _ .vmem, ⟨2, _⟩ => ⟨S1312x128, .f32⟩
  | .local _ .vmem, ⟨3, _⟩ => ⟨S1312x128, .f32⟩
  | .local _ .vmem, ⟨4, _⟩ => ⟨S1312x128, .f32⟩
  | .local _ .vmem, ⟨5, _⟩ => ⟨S1312x128, .f32⟩
  | .local _ .vmem, ⟨6, _⟩ => ⟨S1312x128, .f32⟩
  | .local _ .vmem, ⟨7, _⟩ => ⟨S1312x128, .f32⟩
  | _, _ => ⟨S8x2x512x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_call2_v0 : Ref sig .tc := ⟨.hbm, 26, rfl⟩
abbrev main_v5 : Ref sig .tc := ⟨.hbm, 27, rfl⟩
abbrev main_v6 : Ref sig .tc := ⟨.hbm, 28, rfl⟩
abbrev main_c_2 : Ref sig .tc := ⟨.hbm, 29, rfl⟩
abbrev main_call3_v0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c_3 : Ref sig .tc := ⟨.hbm, 34, rfl⟩
abbrev main_call4_v0 : Ref sig .tc := ⟨.hbm, 35, rfl⟩
abbrev main_v10 : Ref sig .tc := ⟨.hbm, 36, rfl⟩
abbrev main_v11 : Ref sig .tc := ⟨.hbm, 37, rfl⟩
abbrev main_c_4 : Ref sig .tc := ⟨.hbm, 38, rfl⟩
abbrev main_call5_v0 : Ref sig .tc := ⟨.hbm, 39, rfl⟩
abbrev main_v12 : Ref sig .tc := ⟨.hbm, 40, rfl⟩
abbrev main_v13 : Ref sig .tc := ⟨.hbm, 41, rfl⟩
abbrev main_c_5 : Ref sig .tc := ⟨.hbm, 42, rfl⟩
abbrev main_call6_v0 : Ref sig .tc := ⟨.hbm, 43, rfl⟩
abbrev main_v14 : Ref sig .tc := ⟨.hbm, 44, rfl⟩
abbrev main_v15 : Ref sig .tc := ⟨.hbm, 45, rfl⟩
abbrev main_c_6 : Ref sig .tc := ⟨.hbm, 46, rfl⟩
abbrev main_call7_v0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_7 : Ref sig .tc := ⟨.hbm, 51, rfl⟩
abbrev main_call8_v0 : Ref sig .tc := ⟨.hbm, 52, rfl⟩
abbrev main_v19 : Ref sig .tc := ⟨.hbm, 53, rfl⟩
abbrev main_v20 : Ref sig .tc := ⟨.hbm, 54, rfl⟩
abbrev main_c_8 : Ref sig .tc := ⟨.hbm, 55, rfl⟩
abbrev main_call9_v0 : Ref sig .tc := ⟨.hbm, 56, rfl⟩
abbrev main_v21 : Ref sig .tc := ⟨.hbm, 57, rfl⟩
abbrev main_v22 : Ref sig .tc := ⟨.hbm, 58, rfl⟩
abbrev main_c_9 : Ref sig .tc := ⟨.hbm, 59, rfl⟩
abbrev main_call10_v0 : Ref sig .tc := ⟨.hbm, 60, rfl⟩
abbrev main_v23 : Ref sig .tc := ⟨.hbm, 61, rfl⟩
abbrev main_v24 : Ref sig .tc := ⟨.hbm, 62, rfl⟩
abbrev main_c_10 : Ref sig .tc := ⟨.hbm, 63, rfl⟩
abbrev main_call11_v0 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_c_11 : Ref sig .tc := ⟨.hbm, 68, rfl⟩
abbrev main_call12_v0 : Ref sig .tc := ⟨.hbm, 69, rfl⟩
abbrev main_v28 : Ref sig .tc := ⟨.hbm, 70, rfl⟩
abbrev main_v29 : Ref sig .tc := ⟨.hbm, 71, rfl⟩
abbrev main_c_12 : Ref sig .tc := ⟨.hbm, 72, rfl⟩
abbrev main_call13_v0 : Ref sig .tc := ⟨.hbm, 73, rfl⟩
abbrev main_v30 : Ref sig .tc := ⟨.hbm, 74, rfl⟩
abbrev main_v31 : Ref sig .tc := ⟨.hbm, 75, rfl⟩
abbrev main_c_13 : Ref sig .tc := ⟨.hbm, 76, rfl⟩
abbrev main_call14_v0 : Ref sig .tc := ⟨.hbm, 77, rfl⟩
abbrev main_v32 : Ref sig .tc := ⟨.hbm, 78, rfl⟩
abbrev main_v33 : Ref sig .tc := ⟨.hbm, 79, rfl⟩
abbrev main_c_14 : Ref sig .tc := ⟨.hbm, 80, rfl⟩
abbrev main_call15_v0 : Ref sig .tc := ⟨.hbm, 81, rfl⟩
abbrev main_v34 : Ref sig .tc := ⟨.hbm, 82, rfl⟩
abbrev main_v35 : Ref sig .tc := ⟨.hbm, 83, rfl⟩
abbrev main_v36_0 : Ref sig .tc := ⟨.hbm, 84, rfl⟩
abbrev main_v36_1 : Ref sig .tc := ⟨.hbm, 85, rfl⟩
abbrev main_v36_2 : Ref sig .tc := ⟨.hbm, 86, rfl⟩
abbrev main_v36_3 : Ref sig .tc := ⟨.hbm, 87, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1312x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1312x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1312x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1312x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1312x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1312x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1312x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1312x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S8x2x512x96 : Shape := ⟨4, ![8, 2, 512, 96]⟩
abbrev S8x2x256x128 : Shape := ⟨4, ![8, 2, 256, 128]⟩
abbrev S8x2x16x32 : Shape := ⟨4, ![8, 2, 16, 32]⟩
abbrev S2x512x96 : Shape := ⟨3, ![2, 512, 96]⟩
abbrev S2x256x128 : Shape := ⟨3, ![2, 256, 128]⟩
abbrev S2x16x32 : Shape := ⟨3, ![2, 16, 32]⟩
abbrev S_ : Shape := ⟨0, ![]⟩
abbrev S768x128 : Shape := ⟨2, ![768, 128]⟩
abbrev S512x128 : Shape := ⟨2, ![512, 128]⟩
abbrev S8x128 : Shape := ⟨2, ![8, 128]⟩
abbrev S16x128 : Shape := ⟨2, ![16, 128]⟩
abbrev S1312x128 : Shape := ⟨2, ![1312, 128]⟩

abbrev nBuf : Space → Nat
  | .hbm => 224
  | .vmem => 0
  | .smem => 0
  | _ => 0

abbrev hbmTy0_0 (i : Nat) : BufTy := match i % 128 with
  | 0 => ⟨S8x2x512x96, .f32⟩
  | 1 => ⟨S8x2x256x128, .f32⟩
  | 2 => ⟨S8x2x16x32, .f32⟩
  | 3 => ⟨S8x2x16x32, .f32⟩
  | 4 => ⟨S2x512x96, .f32⟩
  | 5 => ⟨S2x256x128, .f32⟩
  | 6 => ⟨S2x16x32, .f32⟩
  | 7 => ⟨S2x16x32, .f32⟩
  | 8 => ⟨S2x512x96, .f32⟩
  | 9 => ⟨S2x256x128, .f32⟩
  | 10 => ⟨S2x16x32, .f32⟩
  | 11 => ⟨S2x16x32, .f32⟩
  | 12 => ⟨S2x512x96, .f32⟩
  | 13 => ⟨S2x256x128, .f32⟩
  | 14 => ⟨S2x16x32, .f32⟩
  | 15 => ⟨S2x16x32, .f32⟩
  | 16 => ⟨S_, .f32⟩
  | 17 => ⟨S2x512x96, .f32⟩
  | 18 => ⟨S_, .f32⟩
  | 19 => ⟨S2x512x96, .f32⟩
  | 20 => ⟨S2x512x96, .f32⟩
  | 21 => ⟨S_, .f32⟩
  | 22 => ⟨S2x512x96, .f32⟩
  | 23 => ⟨S2x512x96, .f32⟩
  | 24 => ⟨S2x512x96, .f32⟩
  | 25 => ⟨S_, .f32⟩
  | 26 => ⟨S2x512x96, .f32⟩
  | 27 => ⟨S2x512x96, .f32⟩
  | 28 => ⟨S2x512x96, .f32⟩
  | 29 => ⟨S_, .f32⟩
  | 30 => ⟨S2x512x96, .f32⟩
  | 31 => ⟨S2x512x96, .f32⟩
  | 32 => ⟨S2x512x96, .f32⟩
  | 33 => ⟨S_, .f32⟩
  | 34 => ⟨S2x512x96, .f32⟩
  | 35 => ⟨S2x512x96, .f32⟩
  | 36 => ⟨S_, .f32⟩
  | 37 => ⟨S2x512x96, .f32⟩
  | 38 => ⟨S2x512x96, .f32⟩
  | 39 => ⟨S2x512x96, .f32⟩
  | 40 => ⟨S_, .f32⟩
  | 41 => ⟨S2x512x96, .f32⟩
  | 42 => ⟨S2x512x96, .f32⟩
  | 43 => ⟨S2x512x96, .f32⟩
  | 44 => ⟨S_, .f32⟩
  | 45 => ⟨S2x512x96, .f32⟩
  | 46 => ⟨S2x512x96, .f32⟩
  | 47 => ⟨S2x512x96, .f32⟩
  | 48 => ⟨S_, .f32⟩
  | 49 => ⟨S2x512x96, .f32⟩
  | 50 => ⟨S2x512x96, .f32⟩
  | 51 => ⟨S_, .f32⟩
  | 52 => ⟨S2x256x128, .f32⟩
  | 53 => ⟨S_, .f32⟩
  | 54 => ⟨S2x256x128, .f32⟩
  | 55 => ⟨S2x256x128, .f32⟩
  | 56 => ⟨S_, .f32⟩
  | 57 => ⟨S2x256x128, .f32⟩
  | 58 => ⟨S2x256x128, .f32⟩
  | 59 => ⟨S2x256x128, .f32⟩
  | 60 => ⟨S_, .f32⟩
  | 61 => ⟨S2x256x128, .f32⟩
  | 62 => ⟨S2x256x128, .f32⟩
  | 63 => ⟨S2x256x128, .f32⟩
  | 64 => ⟨S_, .f32⟩
  | 65 => ⟨S2x256x128, .f32⟩
  | 66 => ⟨S2x256x128, .f32⟩
  | 67 => ⟨S2x256x128, .f32⟩
  | 68 => ⟨S_, .f32⟩
  | 69 => ⟨S2x256x128, .f32⟩
  | 70 => ⟨S2x256x128, .f32⟩
  | 71 => ⟨S_, .f32⟩
  | 72 => ⟨S2x256x128, .f32⟩
  | 73 => ⟨S2x256x128, .f32⟩
  | 74 => ⟨S2x256x128, .f32⟩
  | 75 => ⟨S_, .f32⟩
  | 76 => ⟨S2x256x128, .f32⟩
  | 77 => ⟨S2x256x128, .f32⟩
  | 78 => ⟨S2x256x128, .f32⟩
  | 79 => ⟨S_, .f32⟩
  | 80 => ⟨S2x256x128, .f32⟩
  | 81 => ⟨S2x256x128, .f32⟩
  | 82 => ⟨S2x256x128, .f32⟩
  | 83 => ⟨S_, .f32⟩
  | 84 => ⟨S2x256x128, .f32⟩
  | 85 => ⟨S2x256x128, .f32⟩
  | 86 => ⟨S_, .f32⟩
  | 87 => ⟨S2x16x32, .f32⟩
  | 88 => ⟨S_, .f32⟩
  | 89 => ⟨S2x16x32, .f32⟩
  | 90 => ⟨S2x16x32, .f32⟩
  | 91 => ⟨S_, .f32⟩
  | 92 => ⟨S2x16x32, .f32⟩
  | 93 => ⟨S2x16x32, .f32⟩
  | 94 => ⟨S2x16x32, .f32⟩
  | 95 => ⟨S_, .f32⟩
  | 96 => ⟨S2x16x32, .f32⟩
  | 97 => ⟨S2x16x32, .f32⟩
  | 98 => ⟨S2x16x32, .f32⟩
  | 99 => ⟨S_, .f32⟩
  | 100 => ⟨S2x16x32, .f32⟩
  | 101 => ⟨S2x16x32, .f32⟩
  | 102 => ⟨S2x16x32, .f32⟩
  | 103 => ⟨S_, .f32⟩
  | 104 => ⟨S2x16x32, .f32⟩
  | 105 => ⟨S2x16x32, .f32⟩
  | 106 => ⟨S_, .f32⟩
  | 107 => ⟨S2x16x32, .f32⟩
  | 108 => ⟨S2x16x32, .f32⟩
  | 109 => ⟨S2x16x32, .f32⟩
  | 110 => ⟨S_, .f32⟩
  | 111 => ⟨S2x16x32, .f32⟩
  | 112 => ⟨S2x16x32, .f32⟩
  | 113 => ⟨S2x16x32, .f32⟩
  | 114 => ⟨S_, .f32⟩
  | 115 => ⟨S2x16x32, .f32⟩
  | 116 => ⟨S2x16x32, .f32⟩
  | 117 => ⟨S2x16x32, .f32⟩
  | 118 => ⟨S_, .f32⟩
  | 119 => ⟨S2x16x32, .f32⟩
  | 120 => ⟨S2x16x32, .f32⟩
  | 121 => ⟨S_, .f32⟩
  | 122 => ⟨S2x16x32, .f32⟩
  | 123 => ⟨S_, .f32⟩
  | 124 => ⟨S2x16x32, .f32⟩
  | 125 => ⟨S2x16x32, .f32⟩
  | 126 => ⟨S_, .f32⟩
  | 127 => ⟨S2x16x32, .f32⟩
  | _ => ⟨S8x2x512x96, .f32⟩

abbrev hbmTy0_1 (i : Nat) : BufTy := match i % 128 with
  | 0 => ⟨S2x16x32, .f32⟩
  | 1 => ⟨S2x16x32, .f32⟩
  | 2 => ⟨S_, .f32⟩
  | 3 => ⟨S2x16x32, .f32⟩
  | 4 => ⟨S2x16x32, .f32⟩
  | 5 => ⟨S2x16x32, .f32⟩
  | 6 => ⟨S_, .f32⟩
  | 7 => ⟨S2x16x32, .f32⟩
  | 8 => ⟨S2x16x32, .f32⟩
  | 9 => ⟨S2x16x32, .f32⟩
  | 10 => ⟨S_, .f32⟩
  | 11 => ⟨S2x16x32, .f32⟩
  | 12 => ⟨S2x16x32, .f32⟩
  | 13 => ⟨S_, .f32⟩
  | 14 => ⟨S2x16x32, .f32⟩
  | 15 => ⟨S2x16x32, .f32⟩
  | 16 => ⟨S2x16x32, .f32⟩
  | 17 => ⟨S_, .f32⟩
  | 18 => ⟨S2x16x32, .f32⟩
  | 19 => ⟨S2x16x32, .f32⟩
  | 20 => ⟨S2x16x32, .f32⟩
  | 21 => ⟨S_, .f32⟩
  | 22 => ⟨S2x16x32, .f32⟩
  | 23 => ⟨S2x16x32, .f32⟩
  | 24 => ⟨S2x16x32, .f32⟩
  | 25 => ⟨S_, .f32⟩
  | 26 => ⟨S2x16x32, .f32⟩
  | 27 => ⟨S2x16x32, .f32⟩
  | 28 => ⟨S768x128, .f32⟩
  | 29 => ⟨S512x128, .f32⟩
  | 30 => ⟨S8x128, .f32⟩
  | 31 => ⟨S8x128, .f32⟩
  | 32 => ⟨S_, .i32⟩
  | 33 => ⟨S_, .f32⟩
  | 34 => ⟨S768x128, .f32⟩
  | 35 => ⟨S_, .i32⟩
  | 36 => ⟨S_, .f32⟩
  | 37 => ⟨S512x128, .f32⟩
  | 38 => ⟨S_, .i32⟩
  | 39 => ⟨S_, .f32⟩
  | 40 => ⟨S16x128, .f32⟩
  | 41 => ⟨S_, .i32⟩
  | 42 => ⟨S_, .f32⟩
  | 43 => ⟨S16x128, .f32⟩
  | 44 => ⟨S1312x128, .f32⟩
  | 45 => ⟨S768x128, .f32⟩
  | 46 => ⟨S512x128, .f32⟩
  | 47 => ⟨S8x128, .f32⟩
  | 48 => ⟨S8x128, .f32⟩
  | 49 => ⟨S_, .i32⟩
  | 50 => ⟨S_, .f32⟩
  | 51 => ⟨S768x128, .f32⟩
  | 52 => ⟨S_, .i32⟩
  | 53 => ⟨S_, .f32⟩
  | 54 => ⟨S512x128, .f32⟩
  | 55 => ⟨S_, .i32⟩
  | 56 => ⟨S_, .f32⟩
  | 57 => ⟨S16x128, .f32⟩
  | 58 => ⟨S_, .i32⟩
  | 59 => ⟨S_, .f32⟩
  | 60 => ⟨S16x128, .f32⟩
  | 61 => ⟨S1312x128, .f32⟩
  | 62 => ⟨S768x128, .f32⟩
  | 63 => ⟨S512x128, .f32⟩
  | 64 => ⟨S8x128, .f32⟩
  | 65 => ⟨S8x128, .f32⟩
  | 66 => ⟨S_, .i32⟩
  | 67 => ⟨S_, .f32⟩
  | 68 => ⟨S768x128, .f32⟩
  | 69 => ⟨S_, .i32⟩
  | 70 => ⟨S_, .f32⟩
  | 71 => ⟨S512x128, .f32⟩
  | 72 => ⟨S_, .i32⟩
  | 73 => ⟨S_, .f32⟩
  | 74 => ⟨S16x128, .f32⟩
  | 75 => ⟨S_, .i32⟩
  | 76 => ⟨S_, .f32⟩
  | 77 => ⟨S16x128, .f32⟩
  | 78 => ⟨S1312x128, .f32⟩
  | 79 => ⟨S768x128, .f32⟩
  | 80 => ⟨S512x128, .f32⟩
  | 81 => ⟨S8x128, .f32⟩
  | 82 => ⟨S8x128, .f32⟩
  | 83 => ⟨S_, .i32⟩
  | 84 => ⟨S_, .f32⟩
  | 85 => ⟨S768x128, .f32⟩
  | 86 => ⟨S_, .i32⟩
  | 87 => ⟨S_, .f32⟩
  | 88 => ⟨S512x128, .f32⟩
  | 89 => ⟨S_, .i32⟩
  | 90 => ⟨S_, .f32⟩
  | 91 => ⟨S16x128, .f32⟩
  | 92 => ⟨S_, .i32⟩
  | 93 => ⟨S_, .f32⟩
  | 94 => ⟨S16x128, .f32⟩
  | 95 => ⟨S1312x128, .f32⟩
  | _ => ⟨S8x2x512x96, .f32⟩

abbrev hbmTy (i : Nat) : BufTy := match i / 128 with
  | 0 => hbmTy0_0 i
  | 1 => hbmTy0_1 i
  | _ => ⟨S8x2x512x96, .f32⟩

abbrev bufTy : (tb : Table) → Fin (tcTables nBuf tb) → BufTy
  | .hbm, ⟨i, _⟩ => hbmTy i
  | _, _ => ⟨S8x2x512x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_cst_1 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_4 : Ref sig .tc := ⟨.hbm, 33, rfl⟩
abbrev main_v12 : Ref sig .tc := ⟨.hbm, 34, rfl⟩
abbrev main_v13 : Ref sig .tc := ⟨.hbm, 35, rfl⟩
abbrev main_cst_5 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_6 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_7 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_8 : Ref sig .tc := ⟨.hbm, 48, rfl⟩
abbrev main_v23 : Ref sig .tc := ⟨.hbm, 49, rfl⟩
abbrev main_v24 : Ref sig .tc := ⟨.hbm, 50, rfl⟩
abbrev main_cst_9 : Ref sig .tc := ⟨.hbm, 51, rfl⟩
abbrev main_v25 : Ref sig .tc := ⟨.hbm, 52, rfl⟩
abbrev main_cst_10 : Ref sig .tc := ⟨.hbm, 53, rfl⟩
abbrev main_v26 : Ref sig .tc := ⟨.hbm, 54, rfl⟩
abbrev main_v27 : Ref sig .tc := ⟨.hbm, 55, rfl⟩
abbrev main_cst_11 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_12 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_13 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_14 : Ref sig .tc := ⟨.hbm, 68, rfl⟩
abbrev main_v37 : Ref sig .tc := ⟨.hbm, 69, rfl⟩
abbrev main_v38 : Ref sig .tc := ⟨.hbm, 70, rfl⟩
abbrev main_cst_15 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_16 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_17 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_18 : Ref sig .tc := ⟨.hbm, 83, rfl⟩
abbrev main_v48 : Ref sig .tc := ⟨.hbm, 84, rfl⟩
abbrev main_v49 : Ref sig .tc := ⟨.hbm, 85, rfl⟩
abbrev main_cst_19 : Ref sig .tc := ⟨.hbm, 86, rfl⟩
abbrev main_v50 : Ref sig .tc := ⟨.hbm, 87, rfl⟩
abbrev main_cst_20 : Ref sig .tc := ⟨.hbm, 88, rfl⟩
abbrev main_v51 : Ref sig .tc := ⟨.hbm, 89, rfl⟩
abbrev main_v52 : Ref sig .tc := ⟨.hbm, 90, rfl⟩
abbrev main_cst_21 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_22 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_23 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_24 : Ref sig .tc := ⟨.hbm, 103, rfl⟩
abbrev main_v62 : Ref sig .tc := ⟨.hbm, 104, rfl⟩
abbrev main_v63 : Ref sig .tc := ⟨.hbm, 105, rfl⟩
abbrev main_cst_25 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_26 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_27 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_28 : Ref sig .tc := ⟨.hbm, 118, rfl⟩
abbrev main_v73 : Ref sig .tc := ⟨.hbm, 119, rfl⟩
abbrev main_v74 : Ref sig .tc := ⟨.hbm, 120, rfl⟩
abbrev main_cst_29 : Ref sig .tc := ⟨.hbm, 121, rfl⟩
abbrev main_v75 : Ref sig .tc := ⟨.hbm, 122, rfl⟩
abbrev main_cst_30 : Ref sig .tc := ⟨.hbm, 123, rfl⟩
abbrev main_v76 : Ref sig .tc := ⟨.hbm, 124, rfl⟩
abbrev main_v77 : Ref sig .tc := ⟨.hbm, 125, rfl⟩
abbrev main_cst_31 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_32 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_33 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_34 : Ref sig .tc := ⟨.hbm, 138, rfl⟩
abbrev main_v87 : Ref sig .tc := ⟨.hbm, 139, rfl⟩
abbrev main_v88 : Ref sig .tc := ⟨.hbm, 140, rfl⟩
abbrev main_cst_35 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_36 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_37 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_38 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_c : Ref sig .tc := ⟨.hbm, 160, rfl⟩
abbrev main_call0_v0 : Ref sig .tc := ⟨.hbm, 161, rfl⟩
abbrev main_v104 : Ref sig .tc := ⟨.hbm, 162, rfl⟩
abbrev main_c_39 : Ref sig .tc := ⟨.hbm, 163, rfl⟩
abbrev main_call1_v0 : Ref sig .tc := ⟨.hbm, 164, rfl⟩
abbrev main_v105 : Ref sig .tc := ⟨.hbm, 165, rfl⟩
abbrev main_c_40 : Ref sig .tc := ⟨.hbm, 166, rfl⟩
abbrev main_call2_v0 : Ref sig .tc := ⟨.hbm, 167, rfl⟩
abbrev main_v106 : Ref sig .tc := ⟨.hbm, 168, rfl⟩
abbrev main_c_41 : Ref sig .tc := ⟨.hbm, 169, rfl⟩
abbrev main_call3_v0 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_c_42 : Ref sig .tc := ⟨.hbm, 177, rfl⟩
abbrev main_call4_v0 : Ref sig .tc := ⟨.hbm, 178, rfl⟩
abbrev main_v113 : Ref sig .tc := ⟨.hbm, 179, rfl⟩
abbrev main_c_43 : Ref sig .tc := ⟨.hbm, 180, rfl⟩
abbrev main_call5_v0 : Ref sig .tc := ⟨.hbm, 181, rfl⟩
abbrev main_v114 : Ref sig .tc := ⟨.hbm, 182, rfl⟩
abbrev main_c_44 : Ref sig .tc := ⟨.hbm, 183, rfl⟩
abbrev main_call6_v0 : Ref sig .tc := ⟨.hbm, 184, rfl⟩
abbrev main_v115 : Ref sig .tc := ⟨.hbm, 185, rfl⟩
abbrev main_c_45 : Ref sig .tc := ⟨.hbm, 186, rfl⟩
abbrev main_call7_v0 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_c_46 : Ref sig .tc := ⟨.hbm, 194, rfl⟩
abbrev main_call8_v0 : Ref sig .tc := ⟨.hbm, 195, rfl⟩
abbrev main_v122 : Ref sig .tc := ⟨.hbm, 196, rfl⟩
abbrev main_c_47 : Ref sig .tc := ⟨.hbm, 197, rfl⟩
abbrev main_call9_v0 : Ref sig .tc := ⟨.hbm, 198, rfl⟩
abbrev main_v123 : Ref sig .tc := ⟨.hbm, 199, rfl⟩
abbrev main_c_48 : Ref sig .tc := ⟨.hbm, 200, rfl⟩
abbrev main_call10_v0 : Ref sig .tc := ⟨.hbm, 201, rfl⟩
abbrev main_v124 : Ref sig .tc := ⟨.hbm, 202, rfl⟩
abbrev main_c_49 : Ref sig .tc := ⟨.hbm, 203, rfl⟩
abbrev main_call11_v0 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_c_50 : Ref sig .tc := ⟨.hbm, 211, rfl⟩
abbrev main_call12_v0 : Ref sig .tc := ⟨.hbm, 212, rfl⟩
abbrev main_v131 : Ref sig .tc := ⟨.hbm, 213, rfl⟩
abbrev main_c_51 : Ref sig .tc := ⟨.hbm, 214, rfl⟩
abbrev main_call13_v0 : Ref sig .tc := ⟨.hbm, 215, rfl⟩
abbrev main_v132 : Ref sig .tc := ⟨.hbm, 216, rfl⟩
abbrev main_c_52 : Ref sig .tc := ⟨.hbm, 217, rfl⟩
abbrev main_call14_v0 : Ref sig .tc := ⟨.hbm, 218, rfl⟩
abbrev main_v133 : Ref sig .tc := ⟨.hbm, 219, rfl⟩
abbrev main_c_53 : Ref sig .tc := ⟨.hbm, 220, rfl⟩
abbrev main_call15_v0 : Ref sig .tc := ⟨.hbm, 221, rfl⟩
abbrev main_v134 : Ref sig .tc := ⟨.hbm, 222, rfl⟩
abbrev main_v135 : Ref sig .tc := ⟨.hbm, 223, rfl⟩

abbrev nD : Nat := 1
abbrev τ : Topo := Topo.v7x

variable {F : FTy → Type} [FloatOps F]
-- ==== Kernel16.lean ====
abbrev S8x2x512 : Shape := ⟨3, ![8, 2, 512]⟩
abbrev S8x2x256 : Shape := ⟨3, ![8, 2, 256]⟩
abbrev S8x2x4x128x128 : Shape := ⟨5, ![8, 2, 4, 128, 128]⟩
abbrev S8x2x192 : Shape := ⟨3, ![8, 2, 192]⟩
abbrev S2x512 : Shape := ⟨2, ![2, 512]⟩
abbrev S2x256 : Shape := ⟨2, ![2, 256]⟩
abbrev S2x4x128x128 : Shape := ⟨4, ![2, 4, 128, 128]⟩
abbrev S2x192 : Shape := ⟨2, ![2, 192]⟩
abbrev S8x8x128 : Shape := ⟨3, ![8, 8, 128]⟩
abbrev S_ : Shape := ⟨0, ![]⟩
abbrev S8x16x128 : Shape := ⟨3, ![8, 16, 128]⟩
abbrev S8x4x128 : Shape := ⟨3, ![8, 4, 128]⟩
abbrev S8x1024x128 : Shape := ⟨3, ![8, 1024, 128]⟩
abbrev S8x3x128 : Shape := ⟨3, ![8, 3, 128]⟩
abbrev S8x1168x128 : Shape := ⟨3, ![8, 1168, 128]⟩
abbrev S8x128 : Shape := ⟨2, ![8, 128]⟩
abbrev S16x128 : Shape := ⟨2, ![16, 128]⟩
abbrev S4x128 : Shape := ⟨2, ![4, 128]⟩
abbrev S1024x128 : Shape := ⟨2, ![1024, 128]⟩
abbrev S3x128 : Shape := ⟨2, ![3, 128]⟩
abbrev S1168x128 : Shape := ⟨2, ![1168, 128]⟩
abbrev S1x1168x128 : Shape := ⟨3, ![1, 1168, 128]⟩

abbrev nBuf : Space → Nat
  | .hbm => 208
  | .vmem => 8
  | .smem => 0
  | _ => 0

abbrev hbmTy0_0 (i : Nat) : BufTy := match i % 128 with
  | 0 => ⟨S8x2x512, .f32⟩
  | 1 => ⟨S8x2x256, .f32⟩
  | 2 => ⟨S8x2x256, .f32⟩
  | 3 => ⟨S8x2x512, .f32⟩
  | 4 => ⟨S8x2x4x128x128, .f32⟩
  | 5 => ⟨S8x2x512, .f32⟩
  | 6 => ⟨S8x2x512, .f32⟩
  | 7 => ⟨S8x2x256, .f32⟩
  | 8 => ⟨S8x2x192, .f32⟩
  | 9 => ⟨S8x2x192, .f32⟩
  | 10 => ⟨S2x512, .f32⟩
  | 11 => ⟨S2x256, .f32⟩
  | 12 => ⟨S2x256, .f32⟩
  | 13 => ⟨S2x512, .f32⟩
  | 14 => ⟨S2x4x128x128, .f32⟩
  | 15 => ⟨S2x512, .f32⟩
  | 16 => ⟨S2x512, .f32⟩
  | 17 => ⟨S2x256, .f32⟩
  | 18 => ⟨S2x192, .f32⟩
  | 19 => ⟨S2x192, .f32⟩
  | 20 => ⟨S2x512, .f32⟩
  | 21 => ⟨S2x256, .f32⟩
  | 22 => ⟨S2x256, .f32⟩
  | 23 => ⟨S2x512, .f32⟩
  | 24 => ⟨S2x4x128x128, .f32⟩
  | 25 => ⟨S2x512, .f32⟩
  | 26 => ⟨S2x512, .f32⟩
  | 27 => ⟨S2x256, .f32⟩
  | 28 => ⟨S2x192, .f32⟩
  | 29 => ⟨S2x192, .f32⟩
  | 30 => ⟨S2x512, .f32⟩
  | 31 => ⟨S2x256, .f32⟩
  | 32 => ⟨S2x256, .f32⟩
  | 33 => ⟨S2x512, .f32⟩
  | 34 => ⟨S2x4x128x128, .f32⟩
  | 35 => ⟨S2x512, .f32⟩
  | 36 => ⟨S2x512, .f32⟩
  | 37 => ⟨S2x256, .f32⟩
  | 38 => ⟨S2x192, .f32⟩
  | 39 => ⟨S2x192, .f32⟩
  | 40 => ⟨S8x8x128, .f32⟩
  | 41 => ⟨S_, .i32⟩
  | 42 => ⟨S_, .f32⟩
  | 43 => ⟨S8x16x128, .f32⟩
  | 44 => ⟨S8x4x128, .f32⟩
  | 45 => ⟨S_, .i32⟩
  | 46 => ⟨S_, .f32⟩
  | 47 => ⟨S8x16x128, .f32⟩
  | 48 => ⟨S8x4x128, .f32⟩
  | 49 => ⟨S_, .i32⟩
  | 50 => ⟨S_, .f32⟩
  | 51 => ⟨S8x16x128, .f32⟩
  | 52 => ⟨S8x8x128, .f32⟩
  | 53 => ⟨S_, .i32⟩
  | 54 => ⟨S_, .f32⟩
  | 55 => ⟨S8x16x128, .f32⟩
  | 56 => ⟨S8x1024x128, .f32⟩
  | 57 => ⟨S_, .i32⟩
  | 58 => ⟨S_, .f32⟩
  | 59 => ⟨S8x1024x128, .f32⟩
  | 60 => ⟨S8x8x128, .f32⟩
  | 61 => ⟨S_, .i32⟩
  | 62 => ⟨S_, .f32⟩
  | 63 => ⟨S8x16x128, .f32⟩
  | 64 => ⟨S8x8x128, .f32⟩
  | 65 => ⟨S_, .i32⟩
  | 66 => ⟨S_, .f32⟩
  | 67 => ⟨S8x16x128, .f32⟩
  | 68 => ⟨S8x4x128, .f32⟩
  | 69 => ⟨S_, .i32⟩
  | 70 => ⟨S_, .f32⟩
  | 71 => ⟨S8x16x128, .f32⟩
  | 72 => ⟨S8x3x128, .f32⟩
  | 73 => ⟨S_, .i32⟩
  | 74 => ⟨S_, .f32⟩
  | 75 => ⟨S8x16x128, .f32⟩
  | 76 => ⟨S8x3x128, .f32⟩
  | 77 => ⟨S_, .i32⟩
  | 78 => ⟨S_, .f32⟩
  | 79 => ⟨S8x16x128, .f32⟩
  | 80 => ⟨S8x1168x128, .f32⟩
  | 81 => ⟨S8x128, .f32⟩
  | 82 => ⟨S_, .i32⟩
  | 83 => ⟨S_, .f32⟩
  | 84 => ⟨S16x128, .f32⟩
  | 85 => ⟨S4x128, .f32⟩
  | 86 => ⟨S_, .i32⟩
  | 87 => ⟨S_, .f32⟩
  | 88 => ⟨S16x128, .f32⟩
  | 89 => ⟨S4x128, .f32⟩
  | 90 => ⟨S_, .i32⟩
  | 91 => ⟨S_, .f32⟩
  | 92 => ⟨S16x128, .f32⟩
  | 93 => ⟨S8x128, .f32⟩
  | 94 => ⟨S_, .i32⟩
  | 95 => ⟨S_, .f32⟩
  | 96 => ⟨S16x128, .f32⟩
  | 97 => ⟨S1024x128, .f32⟩
  | 98 => ⟨S_, .i32⟩
  | 99 => ⟨S_, .f32⟩
  | 100 => ⟨S1024x128, .f32⟩
  | 101 => ⟨S8x128, .f32⟩
  | 102 => ⟨S_, .i32⟩
  | 103 => ⟨S_, .f32⟩
  | 104 => ⟨S16x128, .f32⟩
  | 105 => ⟨S8x128, .f32⟩
  | 106 => ⟨S_, .i32⟩
  | 107 => ⟨S_, .f32⟩
  | 108 => ⟨S16x128, .f32⟩
  | 109 => ⟨S4x128, .f32⟩
  | 110 => ⟨S_, .i32⟩
  | 111 => ⟨S_, .f32⟩
  | 112 => ⟨S16x128, .f32⟩
  | 113 => ⟨S3x128, .f32⟩
  | 114 => ⟨S_, .i32⟩
  | 115 => ⟨S_, .f32⟩
  | 116 => ⟨S16x128, .f32⟩
  | 117 => ⟨S3x128, .f32⟩
  | 118 => ⟨S_, .i32⟩
  | 119 => ⟨S_, .f32⟩
  | 120 => ⟨S16x128, .f32⟩
  | 121 => ⟨S1168x128, .f32⟩
  | 122 => ⟨S8x128, .f32⟩
  | 123 => ⟨S_, .i32⟩
  | 124 => ⟨S_, .f32⟩
  | 125 => ⟨S16x128, .f32⟩
  | 126 => ⟨S4x128, .f32⟩
  | 127 => ⟨S_, .i32⟩
  | _ => ⟨S8x2x512, .f32⟩

abbrev hbmTy0_1 (i : Nat) : BufTy := match i % 128 with
  | 0 => ⟨S_, .f32⟩
  | 1 => ⟨S16x128, .f32⟩
  | 2 => ⟨S4x128, .f32⟩
  | 3 => ⟨S_, .i32⟩
  | 4 => ⟨S_, .f32⟩
  | 5 => ⟨S16x128, .f32⟩
  | 6 => ⟨S8x128, .f32⟩
  | 7 => ⟨S_, .i32⟩
  | 8 => ⟨S_, .f32⟩
  | 9 => ⟨S16x128, .f32⟩
  | 10 => ⟨S1024x128, .f32⟩
  | 11 => ⟨S_, .i32⟩
  | 12 => ⟨S_, .f32⟩
  | 13 => ⟨S1024x128, .f32⟩
  | 14 => ⟨S8x128, .f32⟩
  | 15 => ⟨S_, .i32⟩
  | 16 => ⟨S_, .f32⟩
  | 17 => ⟨S16x128, .f32⟩
  | 18 => ⟨S8x128, .f32⟩
  | 19 => ⟨S_, .i32⟩
  | 20 => ⟨S_, .f32⟩
  | 21 => ⟨S16x128, .f32⟩
  | 22 => ⟨S4x128, .f32⟩
  | 23 => ⟨S_, .i32⟩
  | 24 => ⟨S_, .f32⟩
  | 25 => ⟨S16x128, .f32⟩
  | 26 => ⟨S3x128, .f32⟩
  | 27 => ⟨S_, .i32⟩
  | 28 => ⟨S_, .f32⟩
  | 29 => ⟨S16x128, .f32⟩
  | 30 => ⟨S3x128, .f32⟩
  | 31 => ⟨S_, .i32⟩
  | 32 => ⟨S_, .f32⟩
  | 33 => ⟨S16x128, .f32⟩
  | 34 => ⟨S1168x128, .f32⟩
  | 35 => ⟨S8x128, .f32⟩
  | 36 => ⟨S_, .i32⟩
  | 37 => ⟨S_, .f32⟩
  | 38 => ⟨S16x128, .f32⟩
  | 39 => ⟨S4x128, .f32⟩
  | 40 => ⟨S_, .i32⟩
  | 41 => ⟨S_, .f32⟩
  | 42 => ⟨S16x128, .f32⟩
  | 43 => ⟨S4x128, .f32⟩
  | 44 => ⟨S_, .i32⟩
  | 45 => ⟨S_, .f32⟩
  | 46 => ⟨S16x128, .f32⟩
  | 47 => ⟨S8x128, .f32⟩
  | 48 => ⟨S_, .i32⟩
  | 49 => ⟨S_, .f32⟩
  | 50 => ⟨S16x128, .f32⟩
  | 51 => ⟨S1024x128, .f32⟩
  | 52 => ⟨S_, .i32⟩
  | 53 => ⟨S_, .f32⟩
  | 54 => ⟨S1024x128, .f32⟩
  | 55 => ⟨S8x128, .f32⟩
  | 56 => ⟨S_, .i32⟩
  | 57 => ⟨S_, .f32⟩
  | 58 => ⟨S16x128, .f32⟩
  | 59 => ⟨S8x128, .f32⟩
  | 60 => ⟨S_, .i32⟩
  | 61 => ⟨S_, .f32⟩
  | 62 => ⟨S16x128, .f32⟩
  | 63 => ⟨S4x128, .f32⟩
  | 64 => ⟨S_, .i32⟩
  | 65 => ⟨S_, .f32⟩
  | 66 => ⟨S16x128, .f32⟩
  | 67 => ⟨S3x128, .f32⟩
  | 68 => ⟨S_, .i32⟩
  | 69 => ⟨S_, .f32⟩
  | 70 => ⟨S16x128, .f32⟩
  | 71 => ⟨S3x128, .f32⟩
  | 72 => ⟨S_, .i32⟩
  | 73 => ⟨S_, .f32⟩
  | 74 => ⟨S16x128, .f32⟩
  | 75 => ⟨S1168x128, .f32⟩
  | 76 => ⟨S1168x128, .f32⟩
  | 77 => ⟨S1168x128, .f32⟩
  | 78 => ⟨S1168x128, .f32⟩
  | 79 => ⟨S1168x128, .f32⟩
  | _ => ⟨S8x2x512, .f32⟩

abbrev hbmTy (i : Nat) : BufTy := match i / 128 with
  | 0 => hbmTy0_0 i
  | 1 => hbmTy0_1 i
  | _ => ⟨S8x2x512, .f32⟩

abbrev bufTy : (tb : Table) → Fin (tcTables nBuf tb) → BufTy
  | .hbm, ⟨i, _⟩ => hbmTy i
  | .local _ .vmem, ⟨0, _⟩ => ⟨S8x1168x128, .f32⟩
  | .local _ .vmem, ⟨1, _⟩ => ⟨S1168x128, .f32⟩
  | .local _ .vmem, ⟨2, _⟩ => ⟨S1168x128, .f32⟩
  | .local _ .vmem, ⟨3, _⟩ => ⟨S1168x128, .f32⟩
  | .local _ .vmem, ⟨4, _⟩ => ⟨S1168x128, .f32⟩
  | .local _ .vmem, ⟨5, _⟩ => ⟨S1168x128, .f32⟩
  | .local _ .vmem, ⟨6, _⟩ => ⟨S1168x128, .f32⟩
  | .local _ .vmem, ⟨7, _⟩ => ⟨S1168x128, .f32⟩
  | _, _ => ⟨S8x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_c : Ref sig .tc := ⟨.hbm, 41, rfl⟩
abbrev main_call0_v0 : Ref sig .tc := ⟨.hbm, 42, rfl⟩
abbrev main_v1 : Ref sig .tc := ⟨.hbm, 43, rfl⟩
abbrev main_v2 : Ref sig .tc := ⟨.hbm, 44, rfl⟩
abbrev main_c_0 : Ref sig .tc := ⟨.hbm, 45, rfl⟩
abbrev main_call1_v0 : Ref sig .tc := ⟨.hbm, 46, rfl⟩
abbrev main_v3 : Ref sig .tc := ⟨.hbm, 47, rfl⟩
abbrev main_v4 : Ref sig .tc := ⟨.hbm, 48, rfl⟩
abbrev main_c_1 : Ref sig .tc := ⟨.hbm, 49, rfl⟩
abbrev main_call2_v0 : Ref sig .tc := ⟨.hbm, 50, rfl⟩
abbrev main_v5 : Ref sig .tc := ⟨.hbm, 51, rfl⟩
abbrev main_v6 : Ref sig .tc := ⟨.hbm, 52, rfl⟩
abbrev main_c_2 : Ref sig .tc := ⟨.hbm, 53, rfl⟩
abbrev main_call3_v0 : Ref sig .tc := ⟨.hbm, 54, rfl⟩
abbrev main_v7 : Ref sig .tc := ⟨.hbm, 55, rfl⟩
abbrev main_v8 : Ref sig .tc := ⟨.hbm, 56, rfl⟩
abbrev main_c_3 : Ref sig .tc := ⟨.hbm, 57, rfl⟩
abbrev main_call4_v0 : Ref sig .tc := ⟨.hbm, 58, rfl⟩
abbrev main_v9 : Ref sig .tc := ⟨.hbm, 59, rfl⟩
abbrev main_v10 : Ref sig .tc := ⟨.hbm, 60, rfl⟩
abbrev main_c_4 : Ref sig .tc := ⟨.hbm, 61, rfl⟩
abbrev main_call5_v0 : Ref sig .tc := ⟨.hbm, 62, rfl⟩
abbrev main_v11 : Ref sig .tc := ⟨.hbm, 63, rfl⟩
abbrev main_v12 : Ref sig .tc := ⟨.hbm, 64, rfl⟩
abbrev main_c_5 : Ref sig .tc := ⟨.hbm, 65, rfl⟩
abbrev main_call6_v0 : Ref sig .tc := ⟨.hbm, 66, rfl⟩
abbrev main_v13 : Ref sig .tc := ⟨.hbm, 67, rfl⟩
abbrev main_v14 : Ref sig .tc := ⟨.hbm, 68, rfl⟩
abbrev main_c_6 : Ref sig .tc := ⟨.hbm, 69, rfl⟩
abbrev main_call7_v0 : Ref sig .tc := ⟨.hbm, 70, rfl⟩
abbrev main_v15 : Ref sig .tc := ⟨.hbm, 71, rfl⟩
abbrev main_v16 : Ref sig .tc := ⟨.hbm, 72, rfl⟩
abbrev main_c_7 : Ref sig .tc := ⟨.hbm, 73, rfl⟩
abbrev main_call8_v0 : Ref sig .tc := ⟨.hbm, 74, rfl⟩
abbrev main_v17 : Ref sig .tc := ⟨.hbm, 75, rfl⟩
abbrev main_v18 : Ref sig .tc := ⟨.hbm, 76, rfl⟩
abbrev main_c_8 : Ref sig .tc := ⟨.hbm, 77, rfl⟩
abbrev main_call9_v0 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_c_9 : Ref sig .tc := ⟨.hbm, 82, rfl⟩
abbrev main_call10_v0 : Ref sig .tc := ⟨.hbm, 83, rfl⟩
abbrev main_v22 : Ref sig .tc := ⟨.hbm, 84, rfl⟩
abbrev main_v23 : Ref sig .tc := ⟨.hbm, 85, rfl⟩
abbrev main_c_10 : Ref sig .tc := ⟨.hbm, 86, rfl⟩
abbrev main_call11_v0 : Ref sig .tc := ⟨.hbm, 87, rfl⟩
abbrev main_v24 : Ref sig .tc := ⟨.hbm, 88, rfl⟩
abbrev main_v25 : Ref sig .tc := ⟨.hbm, 89, rfl⟩
abbrev main_c_11 : Ref sig .tc := ⟨.hbm, 90, rfl⟩
abbrev main_call12_v0 : Ref sig .tc := ⟨.hbm, 91, rfl⟩
abbrev main_v26 : Ref sig .tc := ⟨.hbm, 92, rfl⟩
abbrev main_v27 : Ref sig .tc := ⟨.hbm, 93, rfl⟩
abbrev main_c_12 : Ref sig .tc := ⟨.hbm, 94, rfl⟩
abbrev main_call13_v0 : Ref sig .tc := ⟨.hbm, 95, rfl⟩
abbrev main_v28 : Ref sig .tc := ⟨.hbm, 96, rfl⟩
abbrev main_v29 : Ref sig .tc := ⟨.hbm, 97, rfl⟩
abbrev main_c_13 : Ref sig .tc := ⟨.hbm, 98, rfl⟩
abbrev main_call14_v0 : Ref sig .tc := ⟨.hbm, 99, rfl⟩
abbrev main_v30 : Ref sig .tc := ⟨.hbm, 100, rfl⟩
abbrev main_v31 : Ref sig .tc := ⟨.hbm, 101, rfl⟩
abbrev main_c_14 : Ref sig .tc := ⟨.hbm, 102, rfl⟩
abbrev main_call15_v0 : Ref sig .tc := ⟨.hbm, 103, rfl⟩
abbrev main_v32 : Ref sig .tc := ⟨.hbm, 104, rfl⟩
abbrev main_v33 : Ref sig .tc := ⟨.hbm, 105, rfl⟩
abbrev main_c_15 : Ref sig .tc := ⟨.hbm, 106, rfl⟩
abbrev main_call16_v0 : Ref sig .tc := ⟨.hbm, 107, rfl⟩
abbrev main_v34 : Ref sig .tc := ⟨.hbm, 108, rfl⟩
abbrev main_v35 : Ref sig .tc := ⟨.hbm, 109, rfl⟩
abbrev main_c_16 : Ref sig .tc := ⟨.hbm, 110, rfl⟩
abbrev main_call17_v0 : Ref sig .tc := ⟨.hbm, 111, rfl⟩
abbrev main_v36 : Ref sig .tc := ⟨.hbm, 112, rfl⟩
abbrev main_v37 : Ref sig .tc := ⟨.hbm, 113, rfl⟩
abbrev main_c_17 : Ref sig .tc := ⟨.hbm, 114, rfl⟩
abbrev main_call18_v0 : Ref sig .tc := ⟨.hbm, 115, rfl⟩
abbrev main_v38 : Ref sig .tc := ⟨.hbm, 116, rfl⟩
abbrev main_v39 : Ref sig .tc := ⟨.hbm, 117, rfl⟩
abbrev main_c_18 : Ref sig .tc := ⟨.hbm, 118, rfl⟩
abbrev main_call19_v0 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_c_19 : Ref sig .tc := ⟨.hbm, 123, rfl⟩
abbrev main_call20_v0 : Ref sig .tc := ⟨.hbm, 124, rfl⟩
abbrev main_v43 : Ref sig .tc := ⟨.hbm, 125, rfl⟩
abbrev main_v44 : Ref sig .tc := ⟨.hbm, 126, rfl⟩
abbrev main_c_20 : Ref sig .tc := ⟨.hbm, 127, rfl⟩
abbrev main_call21_v0 : Ref sig .tc := ⟨.hbm, 128, rfl⟩
abbrev main_v45 : Ref sig .tc := ⟨.hbm, 129, rfl⟩
abbrev main_v46 : Ref sig .tc := ⟨.hbm, 130, rfl⟩
abbrev main_c_21 : Ref sig .tc := ⟨.hbm, 131, rfl⟩
abbrev main_call22_v0 : Ref sig .tc := ⟨.hbm, 132, rfl⟩
abbrev main_v47 : Ref sig .tc := ⟨.hbm, 133, rfl⟩
abbrev main_v48 : Ref sig .tc := ⟨.hbm, 134, rfl⟩
abbrev main_c_22 : Ref sig .tc := ⟨.hbm, 135, rfl⟩
abbrev main_call23_v0 : Ref sig .tc := ⟨.hbm, 136, rfl⟩
abbrev main_v49 : Ref sig .tc := ⟨.hbm, 137, rfl⟩
abbrev main_v50 : Ref sig .tc := ⟨.hbm, 138, rfl⟩
abbrev main_c_23 : Ref sig .tc := ⟨.hbm, 139, rfl⟩
abbrev main_call24_v0 : Ref sig .tc := ⟨.hbm, 140, rfl⟩
abbrev main_v51 : Ref sig .tc := ⟨.hbm, 141, rfl⟩
abbrev main_v52 : Ref sig .tc := ⟨.hbm, 142, rfl⟩
abbrev main_c_24 : Ref sig .tc := ⟨.hbm, 143, rfl⟩
abbrev main_call25_v0 : Ref sig .tc := ⟨.hbm, 144, rfl⟩
abbrev main_v53 : Ref sig .tc := ⟨.hbm, 145, rfl⟩
abbrev main_v54 : Ref sig .tc := ⟨.hbm, 146, rfl⟩
abbrev main_c_25 : Ref sig .tc := ⟨.hbm, 147, rfl⟩
abbrev main_call26_v0 : Ref sig .tc := ⟨.hbm, 148, rfl⟩
abbrev main_v55 : Ref sig .tc := ⟨.hbm, 149, rfl⟩
abbrev main_v56 : Ref sig .tc := ⟨.hbm, 150, rfl⟩
abbrev main_c_26 : Ref sig .tc := ⟨.hbm, 151, rfl⟩
abbrev main_call27_v0 : Ref sig .tc := ⟨.hbm, 152, rfl⟩
abbrev main_v57 : Ref sig .tc := ⟨.hbm, 153, rfl⟩
abbrev main_v58 : Ref sig .tc := ⟨.hbm, 154, rfl⟩
abbrev main_c_27 : Ref sig .tc := ⟨.hbm, 155, rfl⟩
abbrev main_call28_v0 : Ref sig .tc := ⟨.hbm, 156, rfl⟩
abbrev main_v59 : Ref sig .tc := ⟨.hbm, 157, rfl⟩
abbrev main_v60 : Ref sig .tc := ⟨.hbm, 158, rfl⟩
abbrev main_c_28 : Ref sig .tc := ⟨.hbm, 159, rfl⟩
abbrev main_call29_v0 : Ref sig .tc := ⟨.hbm, 160, rfl⟩
abbrev main_v61 : Ref sig .tc := ⟨.hbm, 161, rfl⟩
abbrev main_v62 : Ref sig .tc := ⟨.hbm, 162, rfl⟩
abbrev main_v63 : Ref sig .tc := ⟨.hbm, 163, rfl⟩
abbrev main_c_29 : Ref sig .tc := ⟨.hbm, 164, rfl⟩
abbrev main_call30_v0 : Ref sig .tc := ⟨.hbm, 165, rfl⟩
abbrev main_v64 : Ref sig .tc := ⟨.hbm, 166, rfl⟩
abbrev main_v65 : Ref sig .tc := ⟨.hbm, 167, rfl⟩
abbrev main_c_30 : Ref sig .tc := ⟨.hbm, 168, rfl⟩
abbrev main_call31_v0 : Ref sig .tc := ⟨.hbm, 169, rfl⟩
abbrev main_v66 : Ref sig .tc := ⟨.hbm, 170, rfl⟩
abbrev main_v67 : Ref sig .tc := ⟨.hbm, 171, rfl⟩
abbrev main_c_31 : Ref sig .tc := ⟨.hbm, 172, rfl⟩
abbrev main_call32_v0 : Ref sig .tc := ⟨.hbm, 173, rfl⟩
abbrev main_v68 : Ref sig .tc := ⟨.hbm, 174, rfl⟩
abbrev main_v69 : Ref sig .tc := ⟨.hbm, 175, rfl⟩
abbrev main_c_32 : Ref sig .tc := ⟨.hbm, 176, rfl⟩
abbrev main_call33_v0 : Ref sig .tc := ⟨.hbm, 177, rfl⟩
abbrev main_v70 : Ref sig .tc := ⟨.hbm, 178, rfl⟩
abbrev main_v71 : Ref sig .tc := ⟨.hbm, 179, rfl⟩
abbrev main_c_33 : Ref sig .tc := ⟨.hbm, 180, rfl⟩
abbrev main_call34_v0 : Ref sig .tc := ⟨.hbm, 181, rfl⟩
abbrev main_v72 : Ref sig .tc := ⟨.hbm, 182, rfl⟩
abbrev main_v73 : Ref sig .tc := ⟨.hbm, 183, rfl⟩
abbrev main_c_34 : Ref sig .tc := ⟨.hbm, 184, rfl⟩
abbrev main_call35_v0 : Ref sig .tc := ⟨.hbm, 185, rfl⟩
abbrev main_v74 : Ref sig .tc := ⟨.hbm, 186, rfl⟩
abbrev main_v75 : Ref sig .tc := ⟨.hbm, 187, rfl⟩
abbrev main_c_35 : Ref sig .tc := ⟨.hbm, 188, rfl⟩
abbrev main_call36_v0 : Ref sig .tc := ⟨.hbm, 189, rfl⟩
abbrev main_v76 : Ref sig .tc := ⟨.hbm, 190, rfl⟩
abbrev main_v77 : Ref sig .tc := ⟨.hbm, 191, rfl⟩
abbrev main_c_36 : Ref sig .tc := ⟨.hbm, 192, rfl⟩
abbrev main_call37_v0 : Ref sig .tc := ⟨.hbm, 193, rfl⟩
abbrev main_v78 : Ref sig .tc := ⟨.hbm, 194, rfl⟩
abbrev main_v79 : Ref sig .tc := ⟨.hbm, 195, rfl⟩
abbrev main_c_37 : Ref sig .tc := ⟨.hbm, 196, rfl⟩
abbrev main_call38_v0 : Ref sig .tc := ⟨.hbm, 197, rfl⟩
abbrev main_v80 : Ref sig .tc := ⟨.hbm, 198, rfl⟩
abbrev main_v81 : Ref sig .tc := ⟨.hbm, 199, rfl⟩
abbrev main_c_38 : Ref sig .tc := ⟨.hbm, 200, rfl⟩
abbrev main_call39_v0 : Ref sig .tc := ⟨.hbm, 201, rfl⟩
abbrev main_v82 : Ref sig .tc := ⟨.hbm, 202, rfl⟩
abbrev main_v83 : Ref sig .tc := ⟨.hbm, 203, rfl⟩
abbrev main_v84_0 : Ref sig .tc := ⟨.hbm, 204, rfl⟩
abbrev main_v84_1 : Ref sig .tc := ⟨.hbm, 205, rfl⟩
abbrev main_v84_2 : Ref sig .tc := ⟨.hbm, 206, rfl⟩
abbrev main_v84_3 : Ref sig .tc := ⟨.hbm, 207, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1168x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1168x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1168x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1168x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1168x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1168x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1168x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1168x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S8x2x512 : Shape := ⟨3, ![8, 2, 512]⟩
abbrev S8x2x256 : Shape := ⟨3, ![8, 2, 256]⟩
abbrev S8x2x4x128x128 : Shape := ⟨5, ![8, 2, 4, 128, 128]⟩
abbrev S8x2x192 : Shape := ⟨3, ![8, 2, 192]⟩
abbrev S2x512 : Shape := ⟨2, ![2, 512]⟩
abbrev S2x256 : Shape := ⟨2, ![2, 256]⟩
abbrev S2x4x128x128 : Shape := ⟨4, ![2, 4, 128, 128]⟩
abbrev S2x192 : Shape := ⟨2, ![2, 192]⟩
abbrev S_ : Shape := ⟨0, ![]⟩
abbrev S8x128 : Shape := ⟨2, ![8, 128]⟩
abbrev S4x128 : Shape := ⟨2, ![4, 128]⟩
abbrev S1024x128 : Shape := ⟨2, ![1024, 128]⟩
abbrev S3x128 : Shape := ⟨2, ![3, 128]⟩
abbrev S16x128 : Shape := ⟨2, ![16, 128]⟩
abbrev S1168x128 : Shape := ⟨2, ![1168, 128]⟩

abbrev nBuf : Space → Nat
  | .hbm => 554
  | .vmem => 0
  | .smem => 0
  | _ => 0

abbrev hbmTy0_0 (i : Nat) : BufTy := match i % 128 with
  | 0 => ⟨S8x2x512, .f32⟩
  | 1 => ⟨S8x2x256, .f32⟩
  | 2 => ⟨S8x2x256, .f32⟩
  | 3 => ⟨S8x2x512, .f32⟩
  | 4 => ⟨S8x2x4x128x128, .f32⟩
  | 5 => ⟨S8x2x512, .f32⟩
  | 6 => ⟨S8x2x512, .f32⟩
  | 7 => ⟨S8x2x256, .f32⟩
  | 8 => ⟨S8x2x192, .f32⟩
  | 9 => ⟨S8x2x192, .f32⟩
  | 10 => ⟨S2x512, .f32⟩
  | 11 => ⟨S2x256, .f32⟩
  | 12 => ⟨S2x256, .f32⟩
  | 13 => ⟨S2x512, .f32⟩
  | 14 => ⟨S2x4x128x128, .f32⟩
  | 15 => ⟨S2x512, .f32⟩
  | 16 => ⟨S2x512, .f32⟩
  | 17 => ⟨S2x256, .f32⟩
  | 18 => ⟨S2x192, .f32⟩
  | 19 => ⟨S2x192, .f32⟩
  | 20 => ⟨S2x512, .f32⟩
  | 21 => ⟨S2x256, .f32⟩
  | 22 => ⟨S2x256, .f32⟩
  | 23 => ⟨S2x512, .f32⟩
  | 24 => ⟨S2x4x128x128, .f32⟩
  | 25 => ⟨S2x512, .f32⟩
  | 26 => ⟨S2x512, .f32⟩
  | 27 => ⟨S2x256, .f32⟩
  | 28 => ⟨S2x192, .f32⟩
  | 29 => ⟨S2x192, .f32⟩
  | 30 => ⟨S2x512, .f32⟩
  | 31 => ⟨S2x256, .f32⟩
  | 32 => ⟨S2x256, .f32⟩
  | 33 => ⟨S2x512, .f32⟩
  | 34 => ⟨S2x4x128x128, .f32⟩
  | 35 => ⟨S2x512, .f32⟩
  | 36 => ⟨S2x512, .f32⟩
  | 37 => ⟨S2x256, .f32⟩
  | 38 => ⟨S2x192, .f32⟩
  | 39 => ⟨S2x192, .f32⟩
  | 40 => ⟨S_, .f32⟩
  | 41 => ⟨S2x512, .f32⟩
  | 42 => ⟨S_, .f32⟩
  | 43 => ⟨S2x512, .f32⟩
  | 44 => ⟨S2x512, .f32⟩
  | 45 => ⟨S_, .f32⟩
  | 46 => ⟨S2x512, .f32⟩
  | 47 => ⟨S2x512, .f32⟩
  | 48 => ⟨S2x512, .f32⟩
  | 49 => ⟨S_, .f32⟩
  | 50 => ⟨S2x512, .f32⟩
  | 51 => ⟨S2x512, .f32⟩
  | 52 => ⟨S2x512, .f32⟩
  | 53 => ⟨S_, .f32⟩
  | 54 => ⟨S2x512, .f32⟩
  | 55 => ⟨S2x512, .f32⟩
  | 56 => ⟨S2x512, .f32⟩
  | 57 => ⟨S_, .f32⟩
  | 58 => ⟨S2x512, .f32⟩
  | 59 => ⟨S2x512, .f32⟩
  | 60 => ⟨S_, .f32⟩
  | 61 => ⟨S2x512, .f32⟩
  | 62 => ⟨S2x512, .f32⟩
  | 63 => ⟨S2x512, .f32⟩
  | 64 => ⟨S_, .f32⟩
  | 65 => ⟨S2x512, .f32⟩
  | 66 => ⟨S2x512, .f32⟩
  | 67 => ⟨S2x512, .f32⟩
  | 68 => ⟨S_, .f32⟩
  | 69 => ⟨S2x512, .f32⟩
  | 70 => ⟨S2x512, .f32⟩
  | 71 => ⟨S2x512, .f32⟩
  | 72 => ⟨S_, .f32⟩
  | 73 => ⟨S2x512, .f32⟩
  | 74 => ⟨S2x512, .f32⟩
  | 75 => ⟨S_, .f32⟩
  | 76 => ⟨S2x256, .f32⟩
  | 77 => ⟨S_, .f32⟩
  | 78 => ⟨S2x256, .f32⟩
  | 79 => ⟨S2x256, .f32⟩
  | 80 => ⟨S_, .f32⟩
  | 81 => ⟨S2x256, .f32⟩
  | 82 => ⟨S2x256, .f32⟩
  | 83 => ⟨S2x256, .f32⟩
  | 84 => ⟨S_, .f32⟩
  | 85 => ⟨S2x256, .f32⟩
  | 86 => ⟨S2x256, .f32⟩
  | 87 => ⟨S2x256, .f32⟩
  | 88 => ⟨S_, .f32⟩
  | 89 => ⟨S2x256, .f32⟩
  | 90 => ⟨S2x256, .f32⟩
  | 91 => ⟨S2x256, .f32⟩
  | 92 => ⟨S_, .f32⟩
  | 93 => ⟨S2x256, .f32⟩
  | 94 => ⟨S2x256, .f32⟩
  | 95 => ⟨S_, .f32⟩
  | 96 => ⟨S2x256, .f32⟩
  | 97 => ⟨S2x256, .f32⟩
  | 98 => ⟨S2x256, .f32⟩
  | 99 => ⟨S_, .f32⟩
  | 100 => ⟨S2x256, .f32⟩
  | 101 => ⟨S2x256, .f32⟩
  | 102 => ⟨S2x256, .f32⟩
  | 103 => ⟨S_, .f32⟩
  | 104 => ⟨S2x256, .f32⟩
  | 105 => ⟨S2x256, .f32⟩
  | 106 => ⟨S2x256, .f32⟩
  | 107 => ⟨S_, .f32⟩
  | 108 => ⟨S2x256, .f32⟩
  | 109 => ⟨S2x256, .f32⟩
  | 110 => ⟨S_, .f32⟩
  | 111 => ⟨S2x256, .f32⟩
  | 112 => ⟨S_, .f32⟩
  | 113 => ⟨S2x256, .f32⟩
  | 114 => ⟨S2x256, .f32⟩
  | 115 => ⟨S_, .f32⟩
  | 116 => ⟨S2x256, .f32⟩
  | 117 => ⟨S2x256, .f32⟩
  | 118 => ⟨S2x256, .f32⟩
  | 119 => ⟨S_, .f32⟩
  | 120 => ⟨S2x256, .f32⟩
  | 121 => ⟨S2x256, .f32⟩
  | 122 => ⟨S2x256, .f32⟩
  | 123 => ⟨S_, .f32⟩
  | 124 => ⟨S2x256, .f32⟩
  | 125 => ⟨S2x256, .f32⟩
  | 126 => ⟨S2x256, .f32⟩
  | 127 => ⟨S_, .f32⟩
  | _ => ⟨S8x2x512, .f32⟩

abbrev hbmTy0_1 (i : Nat) : BufTy := match i % 128 with
  | 0 => ⟨S2x256, .f32⟩
  | 1 => ⟨S2x256, .f32⟩
  | 2 => ⟨S_, .f32⟩
  | 3 => ⟨S2x256, .f32⟩
  | 4 => ⟨S2x256, .f32⟩
  | 5 => ⟨S2x256, .f32⟩
  | 6 => ⟨S_, .f32⟩
  | 7 => ⟨S2x256, .f32⟩
  | 8 => ⟨S2x256, .f32⟩
  | 9 => ⟨S2x256, .f32⟩
  | 10 => ⟨S_, .f32⟩
  | 11 => ⟨S2x256, .f32⟩
  | 12 => ⟨S2x256, .f32⟩
  | 13 => ⟨S2x256, .f32⟩
  | 14 => ⟨S_, .f32⟩
  | 15 => ⟨S2x256, .f32⟩
  | 16 => ⟨S2x256, .f32⟩
  | 17 => ⟨S_, .f32⟩
  | 18 => ⟨S2x512, .f32⟩
  | 19 => ⟨S_, .f32⟩
  | 20 => ⟨S2x512, .f32⟩
  | 21 => ⟨S2x512, .f32⟩
  | 22 => ⟨S_, .f32⟩
  | 23 => ⟨S2x512, .f32⟩
  | 24 => ⟨S2x512, .f32⟩
  | 25 => ⟨S2x512, .f32⟩
  | 26 => ⟨S_, .f32⟩
  | 27 => ⟨S2x512, .f32⟩
  | 28 => ⟨S2x512, .f32⟩
  | 29 => ⟨S2x512, .f32⟩
  | 30 => ⟨S_, .f32⟩
  | 31 => ⟨S2x512, .f32⟩
  | 32 => ⟨S2x512, .f32⟩
  | 33 => ⟨S2x512, .f32⟩
  | 34 => ⟨S_, .f32⟩
  | 35 => ⟨S2x512, .f32⟩
  | 36 => ⟨S2x512, .f32⟩
  | 37 => ⟨S_, .f32⟩
  | 38 => ⟨S2x512, .f32⟩
  | 39 => ⟨S2x512, .f32⟩
  | 40 => ⟨S2x512, .f32⟩
  | 41 => ⟨S_, .f32⟩
  | 42 => ⟨S2x512, .f32⟩
  | 43 => ⟨S2x512, .f32⟩
  | 44 => ⟨S2x512, .f32⟩
  | 45 => ⟨S_, .f32⟩
  | 46 => ⟨S2x512, .f32⟩
  | 47 => ⟨S2x512, .f32⟩
  | 48 => ⟨S2x512, .f32⟩
  | 49 => ⟨S_, .f32⟩
  | 50 => ⟨S2x512, .f32⟩
  | 51 => ⟨S2x512, .f32⟩
  | 52 => ⟨S_, .f32⟩
  | 53 => ⟨S2x4x128x128, .f32⟩
  | 54 => ⟨S_, .f32⟩
  | 55 => ⟨S2x4x128x128, .f32⟩
  | 56 => ⟨S2x4x128x128, .f32⟩
  | 57 => ⟨S_, .f32⟩
  | 58 => ⟨S2x4x128x128, .f32⟩
  | 59 => ⟨S2x4x128x128, .f32⟩
  | 60 => ⟨S2x4x128x128, .f32⟩
  | 61 => ⟨S_, .f32⟩
  | 62 => ⟨S2x4x128x128, .f32⟩
  | 63 => ⟨S2x4x128x128, .f32⟩
  | 64 => ⟨S2x4x128x128, .f32⟩
  | 65 => ⟨S_, .f32⟩
  | 66 => ⟨S2x4x128x128, .f32⟩
  | 67 => ⟨S2x4x128x128, .f32⟩
  | 68 => ⟨S2x4x128x128, .f32⟩
  | 69 => ⟨S_, .f32⟩
  | 70 => ⟨S2x4x128x128, .f32⟩
  | 71 => ⟨S2x4x128x128, .f32⟩
  | 72 => ⟨S_, .f32⟩
  | 73 => ⟨S2x4x128x128, .f32⟩
  | 74 => ⟨S2x4x128x128, .f32⟩
  | 75 => ⟨S2x4x128x128, .f32⟩
  | 76 => ⟨S_, .f32⟩
  | 77 => ⟨S2x4x128x128, .f32⟩
  | 78 => ⟨S2x4x128x128, .f32⟩
  | 79 => ⟨S2x4x128x128, .f32⟩
  | 80 => ⟨S_, .f32⟩
  | 81 => ⟨S2x4x128x128, .f32⟩
  | 82 => ⟨S2x4x128x128, .f32⟩
  | 83 => ⟨S2x4x128x128, .f32⟩
  | 84 => ⟨S_, .f32⟩
  | 85 => ⟨S2x4x128x128, .f32⟩
  | 86 => ⟨S2x4x128x128, .f32⟩
  | 87 => ⟨S_, .f32⟩
  | 88 => ⟨S2x512, .f32⟩
  | 89 => ⟨S_, .f32⟩
  | 90 => ⟨S2x512, .f32⟩
  | 91 => ⟨S2x512, .f32⟩
  | 92 => ⟨S_, .f32⟩
  | 93 => ⟨S2x512, .f32⟩
  | 94 => ⟨S2x512, .f32⟩
  | 95 => ⟨S2x512, .f32⟩
  | 96 => ⟨S_, .f32⟩
  | 97 => ⟨S2x512, .f32⟩
  | 98 => ⟨S2x512, .f32⟩
  | 99 => ⟨S2x512, .f32⟩
  | 100 => ⟨S_, .f32⟩
  | 101 => ⟨S2x512, .f32⟩
  | 102 => ⟨S2x512, .f32⟩
  | 103 => ⟨S2x512, .f32⟩
  | 104 => ⟨S_, .f32⟩
  | 105 => ⟨S2x512, .f32⟩
  | 106 => ⟨S2x512, .f32⟩
  | 107 => ⟨S_, .f32⟩
  | 108 => ⟨S2x512, .f32⟩
  | 109 => ⟨S2x512, .f32⟩
  | 110 => ⟨S2x512, .f32⟩
  | 111 => ⟨S_, .f32⟩
  | 112 => ⟨S2x512, .f32⟩
  | 113 => ⟨S2x512, .f32⟩
  | 114 => ⟨S2x512, .f32⟩
  | 115 => ⟨S_, .f32⟩
  | 116 => ⟨S2x512, .f32⟩
  | 117 => ⟨S2x512, .f32⟩
  | 118 => ⟨S2x512, .f32⟩
  | 119 => ⟨S_, .f32⟩
  | 120 => ⟨S2x512, .f32⟩
  | 121 => ⟨S2x512, .f32⟩
  | 122 => ⟨S_, .f32⟩
  | 123 => ⟨S2x512, .f32⟩
  | 124 => ⟨S_, .f32⟩
  | 125 => ⟨S2x512, .f32⟩
  | 126 => ⟨S2x512, .f32⟩
  | 127 => ⟨S_, .f32⟩
  | _ => ⟨S8x2x512, .f32⟩

abbrev hbmTy0_2 (i : Nat) : BufTy := match i % 128 with
  | 0 => ⟨S2x512, .f32⟩
  | 1 => ⟨S2x512, .f32⟩
  | 2 => ⟨S2x512, .f32⟩
  | 3 => ⟨S_, .f32⟩
  | 4 => ⟨S2x512, .f32⟩
  | 5 => ⟨S2x512, .f32⟩
  | 6 => ⟨S2x512, .f32⟩
  | 7 => ⟨S_, .f32⟩
  | 8 => ⟨S2x512, .f32⟩
  | 9 => ⟨S2x512, .f32⟩
  | 10 => ⟨S2x512, .f32⟩
  | 11 => ⟨S_, .f32⟩
  | 12 => ⟨S2x512, .f32⟩
  | 13 => ⟨S2x512, .f32⟩
  | 14 => ⟨S_, .f32⟩
  | 15 => ⟨S2x512, .f32⟩
  | 16 => ⟨S2x512, .f32⟩
  | 17 => ⟨S2x512, .f32⟩
  | 18 => ⟨S_, .f32⟩
  | 19 => ⟨S2x512, .f32⟩
  | 20 => ⟨S2x512, .f32⟩
  | 21 => ⟨S2x512, .f32⟩
  | 22 => ⟨S_, .f32⟩
  | 23 => ⟨S2x512, .f32⟩
  | 24 => ⟨S2x512, .f32⟩
  | 25 => ⟨S2x512, .f32⟩
  | 26 => ⟨S_, .f32⟩
  | 27 => ⟨S2x512, .f32⟩
  | 28 => ⟨S2x512, .f32⟩
  | 29 => ⟨S_, .f32⟩
  | 30 => ⟨S2x256, .f32⟩
  | 31 => ⟨S_, .f32⟩
  | 32 => ⟨S2x256, .f32⟩
  | 33 => ⟨S2x256, .f32⟩
  | 34 => ⟨S_, .f32⟩
  | 35 => ⟨S2x256, .f32⟩
  | 36 => ⟨S2x256, .f32⟩
  | 37 => ⟨S2x256, .f32⟩
  | 38 => ⟨S_, .f32⟩
  | 39 => ⟨S2x256, .f32⟩
  | 40 => ⟨S2x256, .f32⟩
  | 41 => ⟨S2x256, .f32⟩
  | 42 => ⟨S_, .f32⟩
  | 43 => ⟨S2x256, .f32⟩
  | 44 => ⟨S2x256, .f32⟩
  | 45 => ⟨S2x256, .f32⟩
  | 46 => ⟨S_, .f32⟩
  | 47 => ⟨S2x256, .f32⟩
  | 48 => ⟨S2x256, .f32⟩
  | 49 => ⟨S_, .f32⟩
  | 50 => ⟨S2x256, .f32⟩
  | 51 => ⟨S2x256, .f32⟩
  | 52 => ⟨S2x256, .f32⟩
  | 53 => ⟨S_, .f32⟩
  | 54 => ⟨S2x256, .f32⟩
  | 55 => ⟨S2x256, .f32⟩
  | 56 => ⟨S2x256, .f32⟩
  | 57 => ⟨S_, .f32⟩
  | 58 => ⟨S2x256, .f32⟩
  | 59 => ⟨S2x256, .f32⟩
  | 60 => ⟨S2x256, .f32⟩
  | 61 => ⟨S_, .f32⟩
  | 62 => ⟨S2x256, .f32⟩
  | 63 => ⟨S2x256, .f32⟩
  | 64 => ⟨S_, .f32⟩
  | 65 => ⟨S2x192, .f32⟩
  | 66 => ⟨S_, .f32⟩
  | 67 => ⟨S2x192, .f32⟩
  | 68 => ⟨S2x192, .f32⟩
  | 69 => ⟨S_, .f32⟩
  | 70 => ⟨S2x192, .f32⟩
  | 71 => ⟨S2x192, .f32⟩
  | 72 => ⟨S2x192, .f32⟩
  | 73 => ⟨S_, .f32⟩
  | 74 => ⟨S2x192, .f32⟩
  | 75 => ⟨S2x192, .f32⟩
  | 76 => ⟨S2x192, .f32⟩
  | 77 => ⟨S_, .f32⟩
  | 78 => ⟨S2x192, .f32⟩
  | 79 => ⟨S2x192, .f32⟩
  | 80 => ⟨S2x192, .f32⟩
  | 81 => ⟨S_, .f32⟩
  | 82 => ⟨S2x192, .f32⟩
  | 83 => ⟨S2x192, .f32⟩
  | 84 => ⟨S_, .f32⟩
  | 85 => ⟨S2x192, .f32⟩
  | 86 => ⟨S2x192, .f32⟩
  | 87 => ⟨S2x192, .f32⟩
  | 88 => ⟨S_, .f32⟩
  | 89 => ⟨S2x192, .f32⟩
  | 90 => ⟨S2x192, .f32⟩
  | 91 => ⟨S2x192, .f32⟩
  | 92 => ⟨S_, .f32⟩
  | 93 => ⟨S2x192, .f32⟩
  | 94 => ⟨S2x192, .f32⟩
  | 95 => ⟨S2x192, .f32⟩
  | 96 => ⟨S_, .f32⟩
  | 97 => ⟨S2x192, .f32⟩
  | 98 => ⟨S2x192, .f32⟩
  | 99 => ⟨S_, .f32⟩
  | 100 => ⟨S2x192, .f32⟩
  | 101 => ⟨S_, .f32⟩
  | 102 => ⟨S2x192, .f32⟩
  | 103 => ⟨S2x192, .f32⟩
  | 104 => ⟨S_, .f32⟩
  | 105 => ⟨S2x192, .f32⟩
  | 106 => ⟨S2x192, .f32⟩
  | 107 => ⟨S2x192, .f32⟩
  | 108 => ⟨S_, .f32⟩
  | 109 => ⟨S2x192, .f32⟩
  | 110 => ⟨S2x192, .f32⟩
  | 111 => ⟨S2x192, .f32⟩
  | 112 => ⟨S_, .f32⟩
  | 113 => ⟨S2x192, .f32⟩
  | 114 => ⟨S2x192, .f32⟩
  | 115 => ⟨S2x192, .f32⟩
  | 116 => ⟨S_, .f32⟩
  | 117 => ⟨S2x192, .f32⟩
  | 118 => ⟨S2x192, .f32⟩
  | 119 => ⟨S_, .f32⟩
  | 120 => ⟨S2x192, .f32⟩
  | 121 => ⟨S2x192, .f32⟩
  | 122 => ⟨S2x192, .f32⟩
  | 123 => ⟨S_, .f32⟩
  | 124 => ⟨S2x192, .f32⟩
  | 125 => ⟨S2x192, .f32⟩
  | 126 => ⟨S2x192, .f32⟩
  | 127 => ⟨S_, .f32⟩
  | _ => ⟨S8x2x512, .f32⟩

abbrev hbmTy0_3 (i : Nat) : BufTy := match i % 128 with
  | 0 => ⟨S2x192, .f32⟩
  | 1 => ⟨S2x192, .f32⟩
  | 2 => ⟨S2x192, .f32⟩
  | 3 => ⟨S_, .f32⟩
  | 4 => ⟨S2x192, .f32⟩
  | 5 => ⟨S2x192, .f32⟩
  | 6 => ⟨S8x128, .f32⟩
  | 7 => ⟨S4x128, .f32⟩
  | 8 => ⟨S4x128, .f32⟩
  | 9 => ⟨S8x128, .f32⟩
  | 10 => ⟨S1024x128, .f32⟩
  | 11 => ⟨S8x128, .f32⟩
  | 12 => ⟨S8x128, .f32⟩
  | 13 => ⟨S4x128, .f32⟩
  | 14 => ⟨S3x128, .f32⟩
  | 15 => ⟨S3x128, .f32⟩
  | 16 => ⟨S_, .i32⟩
  | 17 => ⟨S_, .f32⟩
  | 18 => ⟨S16x128, .f32⟩
  | 19 => ⟨S_, .i32⟩
  | 20 => ⟨S_, .f32⟩
  | 21 => ⟨S16x128, .f32⟩
  | 22 => ⟨S_, .i32⟩
  | 23 => ⟨S_, .f32⟩
  | 24 => ⟨S16x128, .f32⟩
  | 25 => ⟨S_, .i32⟩
  | 26 => ⟨S_, .f32⟩
  | 27 => ⟨S16x128, .f32⟩
  | 28 => ⟨S_, .i32⟩
  | 29 => ⟨S_, .f32⟩
  | 30 => ⟨S1024x128, .f32⟩
  | 31 => ⟨S_, .i32⟩
  | 32 => ⟨S_, .f32⟩
  | 33 => ⟨S16x128, .f32⟩
  | 34 => ⟨S_, .i32⟩
  | 35 => ⟨S_, .f32⟩
  | 36 => ⟨S16x128, .f32⟩
  | 37 => ⟨S_, .i32⟩
  | 38 => ⟨S_, .f32⟩
  | 39 => ⟨S16x128, .f32⟩
  | 40 => ⟨S_, .i32⟩
  | 41 => ⟨S_, .f32⟩
  | 42 => ⟨S16x128, .f32⟩
  | 43 => ⟨S_, .i32⟩
  | 44 => ⟨S_, .f32⟩
  | 45 => ⟨S16x128, .f32⟩
  | 46 => ⟨S1168x128, .f32⟩
  | 47 => ⟨S8x128, .f32⟩
  | 48 => ⟨S4x128, .f32⟩
  | 49 => ⟨S4x128, .f32⟩
  | 50 => ⟨S8x128, .f32⟩
  | 51 => ⟨S1024x128, .f32⟩
  | 52 => ⟨S8x128, .f32⟩
  | 53 => ⟨S8x128, .f32⟩
  | 54 => ⟨S4x128, .f32⟩
  | 55 => ⟨S3x128, .f32⟩
  | 56 => ⟨S3x128, .f32⟩
  | 57 => ⟨S_, .i32⟩
  | 58 => ⟨S_, .f32⟩
  | 59 => ⟨S16x128, .f32⟩
  | 60 => ⟨S_, .i32⟩
  | 61 => ⟨S_, .f32⟩
  | 62 => ⟨S16x128, .f32⟩
  | 63 => ⟨S_, .i32⟩
  | 64 => ⟨S_, .f32⟩
  | 65 => ⟨S16x128, .f32⟩
  | 66 => ⟨S_, .i32⟩
  | 67 => ⟨S_, .f32⟩
  | 68 => ⟨S16x128, .f32⟩
  | 69 => ⟨S_, .i32⟩
  | 70 => ⟨S_, .f32⟩
  | 71 => ⟨S1024x128, .f32⟩
  | 72 => ⟨S_, .i32⟩
  | 73 => ⟨S_, .f32⟩
  | 74 => ⟨S16x128, .f32⟩
  | 75 => ⟨S_, .i32⟩
  | 76 => ⟨S_, .f32⟩
  | 77 => ⟨S16x128, .f32⟩
  | 78 => ⟨S_, .i32⟩
  | 79 => ⟨S_, .f32⟩
  | 80 => ⟨S16x128, .f32⟩
  | 81 => ⟨S_, .i32⟩
  | 82 => ⟨S_, .f32⟩
  | 83 => ⟨S16x128, .f32⟩
  | 84 => ⟨S_, .i32⟩
  | 85 => ⟨S_, .f32⟩
  | 86 => ⟨S16x128, .f32⟩
  | 87 => ⟨S1168x128, .f32⟩
  | 88 => ⟨S8x128, .f32⟩
  | 89 => ⟨S4x128, .f32⟩
  | 90 => ⟨S4x128, .f32⟩
  | 91 => ⟨S8x128, .f32⟩
  | 92 => ⟨S1024x128, .f32⟩
  | 93 => ⟨S8x128, .f32⟩
  | 94 => ⟨S8x128, .f32⟩
  | 95 => ⟨S4x128, .f32⟩
  | 96 => ⟨S3x128, .f32⟩
  | 97 => ⟨S3x128, .f32⟩
  | 98 => ⟨S_, .i32⟩
  | 99 => ⟨S_, .f32⟩
  | 100 => ⟨S16x128, .f32⟩
  | 101 => ⟨S_, .i32⟩
  | 102 => ⟨S_, .f32⟩
  | 103 => ⟨S16x128, .f32⟩
  | 104 => ⟨S_, .i32⟩
  | 105 => ⟨S_, .f32⟩
  | 106 => ⟨S16x128, .f32⟩
  | 107 => ⟨S_, .i32⟩
  | 108 => ⟨S_, .f32⟩
  | 109 => ⟨S16x128, .f32⟩
  | 110 => ⟨S_, .i32⟩
  | 111 => ⟨S_, .f32⟩
  | 112 => ⟨S1024x128, .f32⟩
  | 113 => ⟨S_, .i32⟩
  | 114 => ⟨S_, .f32⟩
  | 115 => ⟨S16x128, .f32⟩
  | 116 => ⟨S_, .i32⟩
  | 117 => ⟨S_, .f32⟩
  | 118 => ⟨S16x128, .f32⟩
  | 119 => ⟨S_, .i32⟩
  | 120 => ⟨S_, .f32⟩
  | 121 => ⟨S16x128, .f32⟩
  | 122 => ⟨S_, .i32⟩
  | 123 => ⟨S_, .f32⟩
  | 124 => ⟨S16x128, .f32⟩
  | 125 => ⟨S_, .i32⟩
  | 126 => ⟨S_, .f32⟩
  | 127 => ⟨S16x128, .f32⟩
  | _ => ⟨S8x2x512, .f32⟩

abbrev hbmTy0_4 (i : Nat) : BufTy := match i % 128 with
  | 0 => ⟨S1168x128, .f32⟩
  | 1 => ⟨S8x128, .f32⟩
  | 2 => ⟨S4x128, .f32⟩
  | 3 => ⟨S4x128, .f32⟩
  | 4 => ⟨S8x128, .f32⟩
  | 5 => ⟨S1024x128, .f32⟩
  | 6 => ⟨S8x128, .f32⟩
  | 7 => ⟨S8x128, .f32⟩
  | 8 => ⟨S4x128, .f32⟩
  | 9 => ⟨S3x128, .f32⟩
  | 10 => ⟨S3x128, .f32⟩
  | 11 => ⟨S_, .i32⟩
  | 12 => ⟨S_, .f32⟩
  | 13 => ⟨S16x128, .f32⟩
  | 14 => ⟨S_, .i32⟩
  | 15 => ⟨S_, .f32⟩
  | 16 => ⟨S16x128, .f32⟩
  | 17 => ⟨S_, .i32⟩
  | 18 => ⟨S_, .f32⟩
  | 19 => ⟨S16x128, .f32⟩
  | 20 => ⟨S_, .i32⟩
  | 21 => ⟨S_, .f32⟩
  | 22 => ⟨S16x128, .f32⟩
  | 23 => ⟨S_, .i32⟩
  | 24 => ⟨S_, .f32⟩
  | 25 => ⟨S1024x128, .f32⟩
  | 26 => ⟨S_, .i32⟩
  | 27 => ⟨S_, .f32⟩
  | 28 => ⟨S16x128, .f32⟩
  | 29 => ⟨S_, .i32⟩
  | 30 => ⟨S_, .f32⟩
  | 31 => ⟨S16x128, .f32⟩
  | 32 => ⟨S_, .i32⟩
  | 33 => ⟨S_, .f32⟩
  | 34 => ⟨S16x128, .f32⟩
  | 35 => ⟨S_, .i32⟩
  | 36 => ⟨S_, .f32⟩
  | 37 => ⟨S16x128, .f32⟩
  | 38 => ⟨S_, .i32⟩
  | 39 => ⟨S_, .f32⟩
  | 40 => ⟨S16x128, .f32⟩
  | 41 => ⟨S1168x128, .f32⟩
  | _ => ⟨S8x2x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x2x512, .f32⟩

abbrev bufTy : (tb : Table) → Fin (tcTables nBuf tb) → BufTy
  | .hbm, ⟨i, _⟩ => hbmTy i
  | _, _ => ⟨S8x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_cst_0 : Ref sig .tc := ⟨.hbm, 42, rfl⟩
abbrev main_v1 : Ref sig .tc := ⟨.hbm, 43, rfl⟩
abbrev main_v2 : Ref sig .tc := ⟨.hbm, 44, rfl⟩
abbrev main_cst_1 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_cst_2 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_cst_3 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_cst_4 : Ref sig .tc := ⟨.hbm, 57, rfl⟩
abbrev main_v12 : Ref sig .tc := ⟨.hbm, 58, rfl⟩
abbrev main_v13 : Ref sig .tc := ⟨.hbm, 59, rfl⟩
abbrev main_cst_5 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_cst_6 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_cst_7 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_cst_8 : Ref sig .tc := ⟨.hbm, 72, rfl⟩
abbrev main_v23 : Ref sig .tc := ⟨.hbm, 73, rfl⟩
abbrev main_v24 : Ref sig .tc := ⟨.hbm, 74, rfl⟩
abbrev main_cst_9 : Ref sig .tc := ⟨.hbm, 75, rfl⟩
abbrev main_v25 : Ref sig .tc := ⟨.hbm, 76, rfl⟩
abbrev main_cst_10 : Ref sig .tc := ⟨.hbm, 77, rfl⟩
abbrev main_v26 : Ref sig .tc := ⟨.hbm, 78, rfl⟩
abbrev main_v27 : Ref sig .tc := ⟨.hbm, 79, rfl⟩
abbrev main_cst_11 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_cst_12 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_cst_13 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_cst_14 : Ref sig .tc := ⟨.hbm, 92, rfl⟩
abbrev main_v37 : Ref sig .tc := ⟨.hbm, 93, rfl⟩
abbrev main_v38 : Ref sig .tc := ⟨.hbm, 94, rfl⟩
abbrev main_cst_15 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_cst_16 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_cst_17 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_cst_18 : Ref sig .tc := ⟨.hbm, 107, rfl⟩
abbrev main_v48 : Ref sig .tc := ⟨.hbm, 108, rfl⟩
abbrev main_v49 : Ref sig .tc := ⟨.hbm, 109, rfl⟩
abbrev main_cst_19 : Ref sig .tc := ⟨.hbm, 110, rfl⟩
abbrev main_v50 : Ref sig .tc := ⟨.hbm, 111, rfl⟩
abbrev main_cst_20 : Ref sig .tc := ⟨.hbm, 112, rfl⟩
abbrev main_v51 : Ref sig .tc := ⟨.hbm, 113, rfl⟩
abbrev main_v52 : Ref sig .tc := ⟨.hbm, 114, rfl⟩
abbrev main_cst_21 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_cst_22 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_cst_23 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_cst_24 : Ref sig .tc := ⟨.hbm, 127, rfl⟩
abbrev main_v62 : Ref sig .tc := ⟨.hbm, 128, rfl⟩
abbrev main_v63 : Ref sig .tc := ⟨.hbm, 129, rfl⟩
abbrev main_cst_25 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_cst_26 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_cst_27 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_cst_28 : Ref sig .tc := ⟨.hbm, 142, rfl⟩
abbrev main_v73 : Ref sig .tc := ⟨.hbm, 143, rfl⟩
abbrev main_v74 : Ref sig .tc := ⟨.hbm, 144, rfl⟩
abbrev main_cst_29 : Ref sig .tc := ⟨.hbm, 145, rfl⟩
abbrev main_v75 : Ref sig .tc := ⟨.hbm, 146, rfl⟩
abbrev main_cst_30 : Ref sig .tc := ⟨.hbm, 147, rfl⟩
abbrev main_v76 : Ref sig .tc := ⟨.hbm, 148, rfl⟩
abbrev main_v77 : Ref sig .tc := ⟨.hbm, 149, rfl⟩
abbrev main_cst_31 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_cst_32 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_cst_33 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_cst_34 : Ref sig .tc := ⟨.hbm, 162, rfl⟩
abbrev main_v87 : Ref sig .tc := ⟨.hbm, 163, rfl⟩
abbrev main_v88 : Ref sig .tc := ⟨.hbm, 164, rfl⟩
abbrev main_cst_35 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_cst_36 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_cst_37 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_cst_38 : Ref sig .tc := ⟨.hbm, 177, rfl⟩
abbrev main_v98 : Ref sig .tc := ⟨.hbm, 178, rfl⟩
abbrev main_v99 : Ref sig .tc := ⟨.hbm, 179, rfl⟩
abbrev main_cst_39 : Ref sig .tc := ⟨.hbm, 180, rfl⟩
abbrev main_v100 : Ref sig .tc := ⟨.hbm, 181, rfl⟩
abbrev main_cst_40 : Ref sig .tc := ⟨.hbm, 182, rfl⟩
abbrev main_v101 : Ref sig .tc := ⟨.hbm, 183, rfl⟩
abbrev main_v102 : Ref sig .tc := ⟨.hbm, 184, rfl⟩
abbrev main_cst_41 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_cst_42 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_cst_43 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_cst_44 : Ref sig .tc := ⟨.hbm, 197, rfl⟩
abbrev main_v112 : Ref sig .tc := ⟨.hbm, 198, rfl⟩
abbrev main_v113 : Ref sig .tc := ⟨.hbm, 199, rfl⟩
abbrev main_cst_45 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_cst_46 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_cst_47 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_cst_48 : Ref sig .tc := ⟨.hbm, 212, rfl⟩
abbrev main_v123 : Ref sig .tc := ⟨.hbm, 213, rfl⟩
abbrev main_v124 : Ref sig .tc := ⟨.hbm, 214, rfl⟩
abbrev main_cst_49 : Ref sig .tc := ⟨.hbm, 215, rfl⟩
abbrev main_v125 : Ref sig .tc := ⟨.hbm, 216, rfl⟩
abbrev main_cst_50 : Ref sig .tc := ⟨.hbm, 217, rfl⟩
abbrev main_v126 : Ref sig .tc := ⟨.hbm, 218, rfl⟩
abbrev main_v127 : Ref sig .tc := ⟨.hbm, 219, rfl⟩
abbrev main_cst_51 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_52 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_cst_53 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_cst_54 : Ref sig .tc := ⟨.hbm, 232, rfl⟩
abbrev main_v137 : Ref sig .tc := ⟨.hbm, 233, rfl⟩
abbrev main_v138 : Ref sig .tc := ⟨.hbm, 234, rfl⟩
abbrev main_cst_55 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_56 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_cst_57 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_cst_58 : Ref sig .tc := ⟨.hbm, 247, rfl⟩
abbrev main_v148 : Ref sig .tc := ⟨.hbm, 248, rfl⟩
abbrev main_v149 : Ref sig .tc := ⟨.hbm, 249, rfl⟩
abbrev main_cst_59 : Ref sig .tc := ⟨.hbm, 250, rfl⟩
abbrev main_v150 : Ref sig .tc := ⟨.hbm, 251, rfl⟩
abbrev main_cst_60 : Ref sig .tc := ⟨.hbm, 252, rfl⟩
abbrev main_v151 : Ref sig .tc := ⟨.hbm, 253, rfl⟩
abbrev main_v152 : Ref sig .tc := ⟨.hbm, 254, rfl⟩
abbrev main_cst_61 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_cst_62 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_cst_63 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_cst_64 : Ref sig .tc := ⟨.hbm, 267, rfl⟩
abbrev main_v162 : Ref sig .tc := ⟨.hbm, 268, rfl⟩
abbrev main_v163 : Ref sig .tc := ⟨.hbm, 269, rfl⟩
abbrev main_cst_65 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_cst_66 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_cst_67 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_68 : Ref sig .tc := ⟨.hbm, 282, rfl⟩
abbrev main_v173 : Ref sig .tc := ⟨.hbm, 283, rfl⟩
abbrev main_v174 : Ref sig .tc := ⟨.hbm, 284, rfl⟩
abbrev main_cst_69 : Ref sig .tc := ⟨.hbm, 285, rfl⟩
abbrev main_v175 : Ref sig .tc := ⟨.hbm, 286, rfl⟩
abbrev main_cst_70 : Ref sig .tc := ⟨.hbm, 287, rfl⟩
abbrev main_v176 : Ref sig .tc := ⟨.hbm, 288, rfl⟩
abbrev main_v177 : Ref sig .tc := ⟨.hbm, 289, rfl⟩
abbrev main_cst_71 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_cst_72 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_cst_73 : Ref sig .tc := ⟨.hbm, 298, rfl⟩
abbrev main_v184 : Ref sig .tc := ⟨.hbm, 299, rfl⟩
abbrev main_v185 : Ref sig .tc := ⟨.hbm, 300, rfl⟩
abbrev main_v186 : Ref sig .tc := ⟨.hbm, 301, rfl⟩
abbrev main_cst_74 : Ref sig .tc := ⟨.hbm, 302, rfl⟩
abbrev main_v187 : Ref sig .tc := ⟨.hbm, 303, rfl⟩
abbrev main_v188 : Ref sig .tc := ⟨.hbm, 304, rfl⟩
abbrev main_cst_75 : Ref sig .tc := ⟨.hbm, 305, rfl⟩
abbrev main_v189 : Ref sig .tc := ⟨.hbm, 306, rfl⟩
abbrev main_v190 : Ref sig .tc := ⟨.hbm, 307, rfl⟩
abbrev main_v191 : Ref sig .tc := ⟨.hbm, 308, rfl⟩
abbrev main_cst_76 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_cst_77 : Ref sig .tc := ⟨.hbm, 313, rfl⟩
abbrev main_v195 : Ref sig .tc := ⟨.hbm, 314, rfl⟩
abbrev main_v196 : Ref sig .tc := ⟨.hbm, 315, rfl⟩
abbrev main_v197 : Ref sig .tc := ⟨.hbm, 316, rfl⟩
abbrev main_cst_78 : Ref sig .tc := ⟨.hbm, 317, rfl⟩
abbrev main_v198 : Ref sig .tc := ⟨.hbm, 318, rfl⟩
abbrev main_v199 : Ref sig .tc := ⟨.hbm, 319, rfl⟩
abbrev main_cst_79 : Ref sig .tc := ⟨.hbm, 320, rfl⟩
abbrev main_v200 : Ref sig .tc := ⟨.hbm, 321, rfl⟩
abbrev main_cst_80 : Ref sig .tc := ⟨.hbm, 322, rfl⟩
abbrev main_v201 : Ref sig .tc := ⟨.hbm, 323, rfl⟩
abbrev main_v202 : Ref sig .tc := ⟨.hbm, 324, rfl⟩
abbrev main_cst_81 : Ref sig .tc := ⟨.hbm, 325, rfl⟩
abbrev main_v203 : Ref sig .tc := ⟨.hbm, 326, rfl⟩
abbrev main_v204 : Ref sig .tc := ⟨.hbm, 327, rfl⟩
abbrev main_v205 : Ref sig .tc := ⟨.hbm, 328, rfl⟩
abbrev main_cst_82 : Ref sig .tc := ⟨.hbm, 329, rfl⟩
abbrev main_v206 : Ref sig .tc := ⟨.hbm, 330, rfl⟩
abbrev main_v207 : Ref sig .tc := ⟨.hbm, 331, rfl⟩
abbrev main_v208 : Ref sig .tc := ⟨.hbm, 332, rfl⟩
abbrev main_cst_83 : Ref sig .tc := ⟨.hbm, 333, rfl⟩
abbrev main_v209 : Ref sig .tc := ⟨.hbm, 334, rfl⟩
abbrev main_v210 : Ref sig .tc := ⟨.hbm, 335, rfl⟩
abbrev main_v211 : Ref sig .tc := ⟨.hbm, 336, rfl⟩
abbrev main_cst_84 : Ref sig .tc := ⟨.hbm, 337, rfl⟩
abbrev main_v212 : Ref sig .tc := ⟨.hbm, 338, rfl⟩
abbrev main_v213 : Ref sig .tc := ⟨.hbm, 339, rfl⟩
abbrev main_cst_85 : Ref sig .tc := ⟨.hbm, 340, rfl⟩
abbrev main_v214 : Ref sig .tc := ⟨.hbm, 341, rfl⟩
abbrev main_v215 : Ref sig .tc := ⟨.hbm, 342, rfl⟩
abbrev main_v216 : Ref sig .tc := ⟨.hbm, 343, rfl⟩
abbrev main_cst_86 : Ref sig .tc := ⟨.hbm, 344, rfl⟩
abbrev main_v217 : Ref sig .tc := ⟨.hbm, 345, rfl⟩
abbrev main_v218 : Ref sig .tc := ⟨.hbm, 346, rfl⟩
abbrev main_v219 : Ref sig .tc := ⟨.hbm, 347, rfl⟩
abbrev main_cst_87 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_cst_88 : Ref sig .tc := ⟨.hbm, 352, rfl⟩
abbrev main_v223 : Ref sig .tc := ⟨.hbm, 353, rfl⟩
abbrev main_v224 : Ref sig .tc := ⟨.hbm, 354, rfl⟩
abbrev main_cst_89 : Ref sig .tc := ⟨.hbm, 355, rfl⟩
abbrev main_v225 : Ref sig .tc := ⟨.hbm, 356, rfl⟩
abbrev main_cst_90 : Ref sig .tc := ⟨.hbm, 357, rfl⟩
abbrev main_v226 : Ref sig .tc := ⟨.hbm, 358, rfl⟩
abbrev main_v227 : Ref sig .tc := ⟨.hbm, 359, rfl⟩
abbrev main_cst_91 : Ref sig .tc := ⟨.hbm, 360, rfl⟩
abbrev main_v228 : Ref sig .tc := ⟨.hbm, 361, rfl⟩
abbrev main_v229 : Ref sig .tc := ⟨.hbm, 362, rfl⟩
abbrev main_v230 : Ref sig .tc := ⟨.hbm, 363, rfl⟩
abbrev main_cst_92 : Ref sig .tc := ⟨.hbm, 364, rfl⟩
abbrev main_v231 : Ref sig .tc := ⟨.hbm, 365, rfl⟩
abbrev main_v232 : Ref sig .tc := ⟨.hbm, 366, rfl⟩
abbrev main_v233 : Ref sig .tc := ⟨.hbm, 367, rfl⟩
abbrev main_cst_93 : Ref sig .tc := ⟨.hbm, 368, rfl⟩
abbrev main_v234 : Ref sig .tc := ⟨.hbm, 369, rfl⟩
abbrev main_v235 : Ref sig .tc := ⟨.hbm, 370, rfl⟩
abbrev main_v236 : Ref sig .tc := ⟨.hbm, 371, rfl⟩
abbrev main_cst_94 : Ref sig .tc := ⟨.hbm, 372, rfl⟩
abbrev main_v237 : Ref sig .tc := ⟨.hbm, 373, rfl⟩
abbrev main_v238 : Ref sig .tc := ⟨.hbm, 374, rfl⟩
abbrev main_cst_95 : Ref sig .tc := ⟨.hbm, 375, rfl⟩
abbrev main_v239 : Ref sig .tc := ⟨.hbm, 376, rfl⟩
abbrev main_v240 : Ref sig .tc := ⟨.hbm, 377, rfl⟩
abbrev main_v241 : Ref sig .tc := ⟨.hbm, 378, rfl⟩
abbrev main_cst_96 : Ref sig .tc := ⟨.hbm, 379, rfl⟩
abbrev main_v242 : Ref sig .tc := ⟨.hbm, 380, rfl⟩
abbrev main_v243 : Ref sig .tc := ⟨.hbm, 381, rfl⟩
abbrev main_v244 : Ref sig .tc := ⟨.hbm, 382, rfl⟩
abbrev main_cst_97 : Ref sig .tc := ⟨.hbm, 383, rfl⟩
abbrev main_v245 : Ref sig .tc := ⟨.hbm, 384, rfl⟩
abbrev main_v246 : Ref sig .tc := ⟨.hbm, 385, rfl⟩
abbrev main_v247 : Ref sig .tc := ⟨.hbm, 386, rfl⟩
abbrev main_cst_98 : Ref sig .tc := ⟨.hbm, 387, rfl⟩
abbrev main_v248 : Ref sig .tc := ⟨.hbm, 388, rfl⟩
abbrev main_v249 : Ref sig .tc := ⟨.hbm, 389, rfl⟩
abbrev main_v250 : Ref sig .tc := ⟨.hbm, 390, rfl⟩
abbrev main_v251 : Ref sig .tc := ⟨.hbm, 391, rfl⟩
abbrev main_v252 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_v256 : Ref sig .tc := ⟨.hbm, 396, rfl⟩
abbrev main_v257 : Ref sig .tc := ⟨.hbm, 397, rfl⟩
abbrev main_v258 : Ref sig .tc := ⟨.hbm, 398, rfl⟩
abbrev main_v259 : Ref sig .tc := ⟨.hbm, 399, rfl⟩
abbrev main_c : Ref sig .tc := ⟨.hbm, 400, rfl⟩
abbrev main_call0_v0 : Ref sig .tc := ⟨.hbm, 401, rfl⟩
abbrev main_v260 : Ref sig .tc := ⟨.hbm, 402, rfl⟩
abbrev main_c_99 : Ref sig .tc := ⟨.hbm, 403, rfl⟩
abbrev main_call1_v0 : Ref sig .tc := ⟨.hbm, 404, rfl⟩
abbrev main_v261 : Ref sig .tc := ⟨.hbm, 405, rfl⟩
abbrev main_c_100 : Ref sig .tc := ⟨.hbm, 406, rfl⟩
abbrev main_call2_v0 : Ref sig .tc := ⟨.hbm, 407, rfl⟩
abbrev main_v262 : Ref sig .tc := ⟨.hbm, 408, rfl⟩
abbrev main_c_101 : Ref sig .tc := ⟨.hbm, 409, rfl⟩
abbrev main_call3_v0 : Ref sig .tc := ⟨.hbm, 410, rfl⟩
abbrev main_v263 : Ref sig .tc := ⟨.hbm, 411, rfl⟩
abbrev main_c_102 : Ref sig .tc := ⟨.hbm, 412, rfl⟩
abbrev main_call4_v0 : Ref sig .tc := ⟨.hbm, 413, rfl⟩
abbrev main_v264 : Ref sig .tc := ⟨.hbm, 414, rfl⟩
abbrev main_c_103 : Ref sig .tc := ⟨.hbm, 415, rfl⟩
abbrev main_call5_v0 : Ref sig .tc := ⟨.hbm, 416, rfl⟩
abbrev main_v265 : Ref sig .tc := ⟨.hbm, 417, rfl⟩
abbrev main_c_104 : Ref sig .tc := ⟨.hbm, 418, rfl⟩
abbrev main_call6_v0 : Ref sig .tc := ⟨.hbm, 419, rfl⟩
abbrev main_v266 : Ref sig .tc := ⟨.hbm, 420, rfl⟩
abbrev main_c_105 : Ref sig .tc := ⟨.hbm, 421, rfl⟩
abbrev main_call7_v0 : Ref sig .tc := ⟨.hbm, 422, rfl⟩
abbrev main_v267 : Ref sig .tc := ⟨.hbm, 423, rfl⟩
abbrev main_c_106 : Ref sig .tc := ⟨.hbm, 424, rfl⟩
abbrev main_call8_v0 : Ref sig .tc := ⟨.hbm, 425, rfl⟩
abbrev main_v268 : Ref sig .tc := ⟨.hbm, 426, rfl⟩
abbrev main_c_107 : Ref sig .tc := ⟨.hbm, 427, rfl⟩
abbrev main_call9_v0 : Ref sig .tc := ⟨.hbm, 428, rfl⟩
abbrev main_v269 : Ref sig .tc := ⟨.hbm, 429, rfl⟩
abbrev main_v270 : Ref sig .tc := ⟨.hbm, 430, rfl⟩
abbrev main_v271 : Ref sig .tc := ⟨.hbm, 431, rfl⟩
abbrev main_v272 : Ref sig .tc := ⟨.hbm, 432, rfl⟩
abbrev main_v273 : Ref sig .tc := ⟨.hbm, 433, rfl⟩
abbrev main_v274 : Ref sig .tc := ⟨.hbm, 434, rfl⟩
abbrev main_v275 : Ref sig .tc := ⟨.hbm, 435, rfl⟩
abbrev main_v276 : Ref sig .tc := ⟨.hbm, 436, rfl⟩
abbrev main_v277 : Ref sig .tc := ⟨.hbm, 437, rfl⟩
abbrev main_v278 : Ref sig .tc := ⟨.hbm, 438, rfl⟩
abbrev main_v279 : Ref sig .tc := ⟨.hbm, 439, rfl⟩
abbrev main_v280 : Ref sig .tc := ⟨.hbm, 440, rfl⟩
abbrev main_c_108 : Ref sig .tc := ⟨.hbm, 441, rfl⟩
abbrev main_call10_v0 : Ref sig .tc := ⟨.hbm, 442, rfl⟩
abbrev main_v281 : Ref sig .tc := ⟨.hbm, 443, rfl⟩
abbrev main_c_109 : Ref sig .tc := ⟨.hbm, 444, rfl⟩
abbrev main_call11_v0 : Ref sig .tc := ⟨.hbm, 445, rfl⟩
abbrev main_v282 : Ref sig .tc := ⟨.hbm, 446, rfl⟩
abbrev main_c_110 : Ref sig .tc := ⟨.hbm, 447, rfl⟩
abbrev main_call12_v0 : Ref sig .tc := ⟨.hbm, 448, rfl⟩
abbrev main_v283 : Ref sig .tc := ⟨.hbm, 449, rfl⟩
abbrev main_c_111 : Ref sig .tc := ⟨.hbm, 450, rfl⟩
abbrev main_call13_v0 : Ref sig .tc := ⟨.hbm, 451, rfl⟩
abbrev main_v284 : Ref sig .tc := ⟨.hbm, 452, rfl⟩
abbrev main_c_112 : Ref sig .tc := ⟨.hbm, 453, rfl⟩
abbrev main_call14_v0 : Ref sig .tc := ⟨.hbm, 454, rfl⟩
abbrev main_v285 : Ref sig .tc := ⟨.hbm, 455, rfl⟩
abbrev main_c_113 : Ref sig .tc := ⟨.hbm, 456, rfl⟩
abbrev main_call15_v0 : Ref sig .tc := ⟨.hbm, 457, rfl⟩
abbrev main_v286 : Ref sig .tc := ⟨.hbm, 458, rfl⟩
abbrev main_c_114 : Ref sig .tc := ⟨.hbm, 459, rfl⟩
abbrev main_call16_v0 : Ref sig .tc := ⟨.hbm, 460, rfl⟩
abbrev main_v287 : Ref sig .tc := ⟨.hbm, 461, rfl⟩
abbrev main_c_115 : Ref sig .tc := ⟨.hbm, 462, rfl⟩
abbrev main_call17_v0 : Ref sig .tc := ⟨.hbm, 463, rfl⟩
abbrev main_v288 : Ref sig .tc := ⟨.hbm, 464, rfl⟩
abbrev main_c_116 : Ref sig .tc := ⟨.hbm, 465, rfl⟩
abbrev main_call18_v0 : Ref sig .tc := ⟨.hbm, 466, rfl⟩
abbrev main_v289 : Ref sig .tc := ⟨.hbm, 467, rfl⟩
abbrev main_c_117 : Ref sig .tc := ⟨.hbm, 468, rfl⟩
abbrev main_call19_v0 : Ref sig .tc := ⟨.hbm, 469, rfl⟩
abbrev main_v290 : Ref sig .tc := ⟨.hbm, 470, rfl⟩
abbrev main_v291 : Ref sig .tc := ⟨.hbm, 471, rfl⟩
abbrev main_v292 : Ref sig .tc := ⟨.hbm, 472, rfl⟩
abbrev main_v293 : Ref sig .tc := ⟨.hbm, 473, rfl⟩
abbrev main_v294 : Ref sig .tc := ⟨.hbm, 474, rfl⟩
abbrev main_v295 : Ref sig .tc := ⟨.hbm, 475, rfl⟩
abbrev main_v296 : Ref sig .tc := ⟨.hbm, 476, rfl⟩
abbrev main_v297 : Ref sig .tc := ⟨.hbm, 477, rfl⟩
abbrev main_v298 : Ref sig .tc := ⟨.hbm, 478, rfl⟩
abbrev main_v299 : Ref sig .tc := ⟨.hbm, 479, rfl⟩
abbrev main_v300 : Ref sig .tc := ⟨.hbm, 480, rfl⟩
abbrev main_v301 : Ref sig .tc := ⟨.hbm, 481, rfl⟩
abbrev main_c_118 : Ref sig .tc := ⟨.hbm, 482, rfl⟩
abbrev main_call20_v0 : Ref sig .tc := ⟨.hbm, 483, rfl⟩
abbrev main_v302 : Ref sig .tc := ⟨.hbm, 484, rfl⟩
abbrev main_c_119 : Ref sig .tc := ⟨.hbm, 485, rfl⟩
abbrev main_call21_v0 : Ref sig .tc := ⟨.hbm, 486, rfl⟩
abbrev main_v303 : Ref sig .tc := ⟨.hbm, 487, rfl⟩
abbrev main_c_120 : Ref sig .tc := ⟨.hbm, 488, rfl⟩
abbrev main_call22_v0 : Ref sig .tc := ⟨.hbm, 489, rfl⟩
abbrev main_v304 : Ref sig .tc := ⟨.hbm, 490, rfl⟩
abbrev main_c_121 : Ref sig .tc := ⟨.hbm, 491, rfl⟩
abbrev main_call23_v0 : Ref sig .tc := ⟨.hbm, 492, rfl⟩
abbrev main_v305 : Ref sig .tc := ⟨.hbm, 493, rfl⟩
abbrev main_c_122 : Ref sig .tc := ⟨.hbm, 494, rfl⟩
abbrev main_call24_v0 : Ref sig .tc := ⟨.hbm, 495, rfl⟩
abbrev main_v306 : Ref sig .tc := ⟨.hbm, 496, rfl⟩
abbrev main_c_123 : Ref sig .tc := ⟨.hbm, 497, rfl⟩
abbrev main_call25_v0 : Ref sig .tc := ⟨.hbm, 498, rfl⟩
abbrev main_v307 : Ref sig .tc := ⟨.hbm, 499, rfl⟩
abbrev main_c_124 : Ref sig .tc := ⟨.hbm, 500, rfl⟩
abbrev main_call26_v0 : Ref sig .tc := ⟨.hbm, 501, rfl⟩
abbrev main_v308 : Ref sig .tc := ⟨.hbm, 502, rfl⟩
abbrev main_c_125 : Ref sig .tc := ⟨.hbm, 503, rfl⟩
abbrev main_call27_v0 : Ref sig .tc := ⟨.hbm, 504, rfl⟩
abbrev main_v309 : Ref sig .tc := ⟨.hbm, 505, rfl⟩
abbrev main_c_126 : Ref sig .tc := ⟨.hbm, 506, rfl⟩
abbrev main_call28_v0 : Ref sig .tc := ⟨.hbm, 507, rfl⟩
abbrev main_v310 : Ref sig .tc := ⟨.hbm, 508, rfl⟩
abbrev main_c_127 : Ref sig .tc := ⟨.hbm, 509, rfl⟩
abbrev main_call29_v0 : Ref sig .tc := ⟨.hbm, 510, rfl⟩
abbrev main_v311 : Ref sig .tc := ⟨.hbm, 511, rfl⟩
abbrev main_v312 : Ref sig .tc := ⟨.hbm, 512, rfl⟩
abbrev main_v313 : Ref sig .tc := ⟨.hbm, 513, rfl⟩
abbrev main_v314 : Ref sig .tc := ⟨.hbm, 514, rfl⟩
abbrev main_v315 : Ref sig .tc := ⟨.hbm, 515, rfl⟩
abbrev main_v316 : Ref sig .tc := ⟨.hbm, 516, rfl⟩
abbrev main_v317 : Ref sig .tc := ⟨.hbm, 517, rfl⟩
abbrev main_v318 : Ref sig .tc := ⟨.hbm, 518, rfl⟩
abbrev main_v319 : Ref sig .tc := ⟨.hbm, 519, rfl⟩
abbrev main_v320 : Ref sig .tc := ⟨.hbm, 520, rfl⟩
abbrev main_v321 : Ref sig .tc := ⟨.hbm, 521, rfl⟩
abbrev main_v322 : Ref sig .tc := ⟨.hbm, 522, rfl⟩
abbrev main_c_128 : Ref sig .tc := ⟨.hbm, 523, rfl⟩
abbrev main_call30_v0 : Ref sig .tc := ⟨.hbm, 524, rfl⟩
abbrev main_v323 : Ref sig .tc := ⟨.hbm, 525, rfl⟩
abbrev main_c_129 : Ref sig .tc := ⟨.hbm, 526, rfl⟩
abbrev main_call31_v0 : Ref sig .tc := ⟨.hbm, 527, rfl⟩
abbrev main_v324 : Ref sig .tc := ⟨.hbm, 528, rfl⟩
abbrev main_c_130 : Ref sig .tc := ⟨.hbm, 529, rfl⟩
abbrev main_call32_v0 : Ref sig .tc := ⟨.hbm, 530, rfl⟩
abbrev main_v325 : Ref sig .tc := ⟨.hbm, 531, rfl⟩
abbrev main_c_131 : Ref sig .tc := ⟨.hbm, 532, rfl⟩
abbrev main_call33_v0 : Ref sig .tc := ⟨.hbm, 533, rfl⟩
abbrev main_v326 : Ref sig .tc := ⟨.hbm, 534, rfl⟩
abbrev main_c_132 : Ref sig .tc := ⟨.hbm, 535, rfl⟩
abbrev main_call34_v0 : Ref sig .tc := ⟨.hbm, 536, rfl⟩
abbrev main_v327 : Ref sig .tc := ⟨.hbm, 537, rfl⟩
abbrev main_c_133 : Ref sig .tc := ⟨.hbm, 538, rfl⟩
abbrev main_call35_v0 : Ref sig .tc := ⟨.hbm, 539, rfl⟩
abbrev main_v328 : Ref sig .tc := ⟨.hbm, 540, rfl⟩
abbrev main_c_134 : Ref sig .tc := ⟨.hbm, 541, rfl⟩
abbrev main_call36_v0 : Ref sig .tc := ⟨.hbm, 542, rfl⟩
abbrev main_v329 : Ref sig .tc := ⟨.hbm, 543, rfl⟩
abbrev main_c_135 : Ref sig .tc := ⟨.hbm, 544, rfl⟩
abbrev main_call37_v0 : Ref sig .tc := ⟨.hbm, 545, rfl⟩
abbrev main_v330 : Ref sig .tc := ⟨.hbm, 546, rfl⟩
abbrev main_c_136 : Ref sig .tc := ⟨.hbm, 547, rfl⟩
abbrev main_call38_v0 : Ref sig .tc := ⟨.hbm, 548, rfl⟩
abbrev main_v331 : Ref sig .tc := ⟨.hbm, 549, rfl⟩
abbrev main_c_137 : Ref sig .tc := ⟨.hbm, 550, rfl⟩
abbrev main_call39_v0 : Ref sig .tc := ⟨.hbm, 551, rfl⟩
abbrev main_v332 : Ref sig .tc := ⟨.hbm, 552, rfl⟩
abbrev main_v333 : Ref sig .tc := ⟨.hbm, 553, rfl⟩

abbrev nD : Nat := 1
abbrev τ : Topo := Topo.v7x

variable {F : FTy → Type} [FloatOps F]
-- ==== Proof.Attn.Reals.lean ====
/- Extended reals that are reals: the few rules the value proofs rewrite by, and the gate's functions. -/
module

public import Idealize.ShloMosaic.Lib.Pointwise

@[expose] public section

noncomputable section

namespace Cert.Attn

open Idealize.ShloMosaic

/-- The logistic function. -/
def sg (x : ℝ) : ℝ := 1 / (1 + Real.exp (-x))

/-- The gate `x · sg x`. -/
def sl (x : ℝ) : ℝ := x * sg x

/-- The gate's derivative. -/
def dsl (x : ℝ) : ℝ := sg x * (1 + x * (1 - sg x))

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe' (x : ℝ) {y : ℝ} (h : y ≠ 0) : Ideal.div (x : EReal) (y : EReal) = ((x / y : ℝ) : EReal) := by
  rw [Ideal.div_coe h, ← EReal.coe_mul, mul_one_div]

theorem one_add_exp_ne (x : ℝ) : (1 : ℝ) + Real.exp x ≠ 0 := by positivity

/-- The logistic function as the kernels spell it. -/
theorem logi (x : ℝ) : Ideal.div 1 (1 + Ideal.exp (0 - (x : EReal))) = ((sg x : ℝ) : EReal) := by
  rw [zero_sub, ← EReal.coe_neg, Ideal.exp_coe, ← EReal.coe_one, ← EReal.coe_add, div_coe' _ (one_add_exp_ne _)]; rfl

/-- … and as the host spells it. -/
theorem logi' (x : ℝ) : Ideal.div 1 (1 + Ideal.exp (-(x : EReal))) = ((sg x : ℝ) : EReal) := by
  rw [← logi, zero_sub]

theorem exp2_eq (x : ℝ) : Ideal.exp2 (x : EReal) = ((Real.exp (Real.log 2 * x) : ℝ) : EReal) := by
  rw [Ideal.exp2_coe]
  congr 1
  show (2 : ℝ) ^ x = _
  rw [Real.rpow_def_of_pos (by norm_num)]

end Cert.Attn

end
-- ==== Proof.Attn.Payloads.lean ====
/- The gradient body's payloads at an index, on blocks of real numbers. -/
module

public import proofs.«01_k».proof.Proof.Gen.KernelIdeal.Skeleton
public import proofs.«01_k».proof.Proof.Attn.Reals

@[expose] public section

set_option maxRecDepth 16384

noncomputable section

namespace Cert.Attn.Bwd

open Cert.KernelIdeal Cert.KernelIdeal.Gen Idealize.ShloMosaic Cert.Attn

/-! ## The point's values, on real blocks -/

section
variable {ι : Type} (q : ι → Fin 256 → ℝ) (k : Fin 4096 → Fin 256 → ℝ) (v : Fin 4096 → Fin 128 → ℝ)
  (g o y : ι → Fin 128 → ℝ) (l : ι → ℝ)

/-- The gradient of the weighted values: the arriving gradient times the gate. -/
def dO (r : ι) (c : Fin 128) : ℝ := y r c * sl (g r c)

/-- The weights, from the saved logarithms of the row sums. -/
def wt (r : ι) (j : Fin 4096) : ℝ := Real.exp (Real.log 2 * (∑ d, q r d * k j d - l r))

/-- The gradient of the scores. -/
def dS (r : ι) (j : Fin 4096) : ℝ :=
  wt q k l r j * (∑ c, dO g y r c * v j c - ∑ c, dO g y r c * o r c)

end

variable {q : Fin 256 → Fin 256 → ℝ} {k : Fin 4096 → Fin 256 → ℝ} {v : Fin 4096 → Fin 128 → ℝ}
  {g o y : Fin 256 → Fin 128 → ℝ} {l : Fin 256 → ℝ}
  {x0 : Vec Ideal S1x256x256 .bf16} {x1 : Vec Ideal S1x4096x256 .bf16} {x2 : Vec Ideal S1x4096x128 .bf16}
  {x3 x4 x6 : Vec Ideal S256x128 .f32} {x5 : Vec Ideal S1x256x1 .f32}

theorem pay5_apply (hg : ∀ r c, x3 (ix2 r c) = ((g r c : ℝ) : EReal)) (hy : ∀ r c, x6 (ix2 r c) = ((y r c : ℝ) : EReal)) (r : Fin 256) (c : Fin 128) :
    k0_pay5 (F := Ideal) x3 x6 (ix2 r c) = ((dO g y r c : ℝ) : EReal) := by
  pointwise [k0_pay5]
  simp only [hg, hy, logi, ← EReal.coe_mul]
  rfl

theorem pay6_apply (hg : ∀ r c, x3 (ix2 r c) = ((g r c : ℝ) : EReal)) (ho : ∀ r c, x4 (ix2 r c) = ((o r c : ℝ) : EReal))
    (hy : ∀ r c, x6 (ix2 r c) = ((y r c : ℝ) : EReal)) (r : Fin 256) (c : Fin 128) :
    k0_pay6 (F := Ideal) x3 x4 x6 (ix2 r c) = ((y r c * o r c * dsl (g r c) : ℝ) : EReal) := by
  pointwise [k0_pay6, k0_pay4]
  simp only [hg, hy, ho, logi]
  simp only [← EReal.coe_mul, ← EReal.coe_sub, ← EReal.coe_one, ← EReal.coe_add]
  rfl

theorem pay7_apply (hg : ∀ r c, x3 (ix2 r c) = ((g r c : ℝ) : EReal)) (ho : ∀ r c, x4 (ix2 r c) = ((o r c : ℝ) : EReal))
    (hy : ∀ r c, x6 (ix2 r c) = ((y r c : ℝ) : EReal)) (r : Fin 256) :
    k0_pay7 (F := Ideal) x3 x4 x6 (ix2 r 0) = ((∑ c, dO g y r c * o r c : ℝ) : EReal) := by
  pointwise [k0_pay7, k0_pay4]
  simp only [pay5_apply hg hy, ho, ← EReal.coe_mul, coe_sum]

theorem pay11_apply (hq : ∀ r c, x0 (ix3 0 r c) = ((q r c : ℝ) : EReal)) (hk : ∀ r c, x1 (ix3 0 r c) = ((k r c : ℝ) : EReal))
    (hl : ∀ r, x5 (ix3 0 r 0) = ((l r : ℝ) : EReal)) (r : Fin 256) (j : Fin 4096) :
    k0_pay11 (F := Ideal) x0 x1 x5 (ix2 r j) = ((wt q k l r j : ℝ) : EReal) := by
  pointwise [k0_pay11, k0_pay9, k0_pay10]
  simp only [hq, hk, hl, ← EReal.coe_mul, coe_sum, ← EReal.coe_sub]
  exact exp2_eq _

variable (hq : ∀ r c, x0 (ix3 0 r c) = ((q r c : ℝ) : EReal)) (hk : ∀ r c, x1 (ix3 0 r c) = ((k r c : ℝ) : EReal))
  (hv : ∀ r c, x2 (ix3 0 r c) = ((v r c : ℝ) : EReal)) (hg : ∀ r c, x3 (ix2 r c) = ((g r c : ℝ) : EReal))
  (ho : ∀ r c, x4 (ix2 r c) = ((o r c : ℝ) : EReal)) (hl : ∀ r, x5 (ix3 0 r 0) = ((l r : ℝ) : EReal))
  (hy : ∀ r c, x6 (ix2 r c) = ((y r c : ℝ) : EReal))

include hq hk hv hg ho hl hy in
theorem pay12_apply (r : Fin 256) (j : Fin 4096) :
    k0_pay12 (F := Ideal) (k0_pay7 x3 x4 x6) (k0_pay8 x3 x6) x0 x1 x5 x2 (ix2 r j) = ((dS q k v g o y l r j : ℝ) : EReal) := by
  pointwise [k0_pay12, k0_pay8]
  simp only [pay5_apply hg hy, pay7_apply hg ho hy, pay11_apply hq hk hl, hv, ← EReal.coe_mul, coe_sum, ← EReal.coe_sub]
  rfl

include hq hk hv hg ho hl hy in
theorem pay13_apply (r : Fin 256) (d : Fin 256) :
    k0_pay13 (F := Ideal) (k0_pay7 x3 x4 x6) (k0_pay8 x3 x6) x0 x1 x5 x2 (ix3 0 r d) = ((∑ j, dS q k v g o y l r j * k j d : ℝ) : EReal) := by
  pointwise [k0_pay13, k0_pay10]
  simp only [pay12_apply hq hk hv hg ho hl hy, hk, ← EReal.coe_mul, coe_sum]

include hq hk hv hg ho hl hy in
theorem pay14_apply (acc : Vec Ideal S1x4096x256 .f32) (j : Fin 4096) (d : Fin 256) :
    k0_pay14 (F := Ideal) (k0_pay7 x3 x4 x6) (k0_pay8 x3 x6) x0 x1 x5 x2 acc (ix3 0 j d)
      = acc (ix3 0 j d) + ((∑ r, dS q k v g o y l r j * q r d : ℝ) : EReal) := by
  pointwise [k0_pay14, k0_pay9]
  simp only [pay12_apply hq hk hv hg ho hl hy, hq, ← EReal.coe_mul, coe_sum]

include hq hk hg hl hy in
theorem pay1_apply (acc : Vec Ideal S1x4096x128 .f32) (j : Fin 4096) (c : Fin 128) :
    k0_pay1 (F := Ideal) (k0_pay8 x3 x6) (k0_pay11 x0 x1 x5) (k0_pay15 acc) (ix3 0 j c)
      = acc (ix3 0 j c) + ((∑ r, wt q k l r j * dO g y r c : ℝ) : EReal) := by
  pointwise [k0_pay1, k0_pay8, k0_pay15]
  simp only [pay5_apply hg hy, pay11_apply hq hk hl, ← EReal.coe_mul, coe_sum]

end Cert.Attn.Bwd

end
-- ==== Proof.Attn.Blocks.lean ====
/- What one point of the gradient's grid leaves in the four outputs' buffers. -/
module

public import proofs.«01_k».proof.Proof.Gen.KernelIdeal.Frame
public import Idealize.ShloMosaic.Lib.Tactic
public import Idealize.ShloMosaic.Lib.Pipeline.Value

@[expose] public section

noncomputable section

open Idealize.ShloMosaic Idealize.ShloMosaic.TcCoe Idealize.SL.Sem

namespace Cert.Attn.Bwd

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
   (arg2 : Memref sig .tc .vmem S1x256x256 .bf16) (harg2 : arg2.IsWhole) (arg3 : Memref sig .tc .vmem S1x4096x256 .bf16) (harg3 : arg3.IsWhole)
   (arg4 : Memref sig .tc .vmem S1x4096x128 .bf16) (harg4 : arg4.IsWhole) (arg5 : Memref sig .tc .vmem S256x128 .f32) (harg5 : arg5.IsWhole) (arg6 : Memref sig .tc .vmem S256x128 .f32)
   (harg6 : arg6.IsWhole) (arg7 : Memref sig .tc .vmem S1x256x1 .f32) (harg7 : arg7.IsWhole) (arg8 : Memref sig .tc .vmem S256x128 .f32) (harg8 : arg8.IsWhole)
   (arg9 : Memref sig .tc .vmem S1x256x256 .f32) (harg9 : arg9.IsWhole) (arg10 : Memref sig .tc .vmem S1x4096x256 .f32) (harg10 : arg10.IsWhole)
   (arg11 : Memref sig .tc .vmem S1x4096x128 .f32) (harg11 : arg11.IsWhole) (arg12 : Memref sig .tc .vmem S256x128 .bf16) (harg12 : arg12.IsWhole)
  (x0 : Vec F S1x256x256 .bf16) (x1 : Vec F S1x4096x256 .bf16) (x2 : Vec F S1x4096x128 .bf16) (x3 x4 : Vec F S256x128 .f32)
  (x5 : Vec F S1x256x1 .f32) (x6 : Vec F S256x128 .f32) (xo8 : Vec F S1x4096x256 .f32) (xo9 : Vec F S1x4096x128 .f32)

theorem out_A_7 (hc : cond0_0 i) :
    out0_A_7 c i arg2 harg2 arg3 harg3 arg4 harg4 arg5 harg5 arg6 harg6 arg7 harg7 arg8 harg8 arg9 harg9 arg10 harg10 arg11 harg11 arg12 harg12
      hc x0 x1 x2 x3 x4 x5 x6 = k0_pay13 (k0_pay7 x3 x4 x6) (k0_pay8 x3 x6) x0 x1 x5 x2 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12
    hc x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x256x256) hz3, View.ld_unit_zero (S := S1x4096x256) hz3, View.ld_unit_zero (S := S1x4096x128) hz3, View.ld_unit_zero (S := S1x256x1) hz3, View.ld_unit_zero (S := S256x128) hz2]

theorem out_A_8 (hc : cond0_0 i) :
    out0_A_8 c i arg2 harg2 arg3 harg3 arg4 harg4 arg5 harg5 arg6 harg6 arg7 harg7 arg8 harg8 arg9 harg9 arg10 harg10 arg11 harg11 arg12 harg12
      hc x0 x1 x2 x3 x4 x5 x6 = k0_pay14 (k0_pay7 x3 x4 x6) (k0_pay8 x3 x6) x0 x1 x5 x2 k0_pay2 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12
    hc x0 x1 x2 x3 x4 x5 x6)]
  unfold kernelRun0_A
  dsimp only
  sl_unfold_words
  rw [View.canon_cons_unit_zero (S := S1x4096x256) hz3, View.readCov_unit_zero (S := S1x4096x256) _ hz3]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x256x256) hz3, View.ld_unit_zero (S := S1x4096x256) hz3, View.ld_unit_zero (S := S1x4096x128) hz3, View.ld_unit_zero (S := S1x256x1) hz3, View.ld_unit_zero (S := S256x128) hz2]

theorem out_A_9 (hc : cond0_0 i) :
    out0_A_9 c i arg2 harg2 arg3 harg3 arg4 harg4 arg5 harg5 arg6 harg6 arg7 harg7 arg8 harg8 arg9 harg9 arg10 harg10 arg11 harg11 arg12 harg12
      hc x0 x1 x2 x3 x4 x5 x6 = k0_pay1 (k0_pay8 x3 x6) (k0_pay11 x0 x1 x5) (k0_pay15 k0_pay3) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12
    hc x0 x1 x2 x3 x4 x5 x6)]
  unfold kernelRun0_A
  dsimp only
  sl_unfold_words
  rw [View.canon_cons_unit_zero (S := S1x4096x128) hz3, View.readCov_unit_zero (S := S1x4096x128) _ hz3]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x256x256) hz3, View.ld_unit_zero (S := S1x4096x256) hz3, View.ld_unit_zero (S := S1x4096x128) hz3, View.ld_unit_zero (S := S1x256x1) hz3, View.ld_unit_zero (S := S256x128) hz2]

theorem out_A_10 (hc : cond0_0 i) :
    out0_A_10 c i arg2 harg2 arg3 harg3 arg4 harg4 arg5 harg5 arg6 harg6 arg7 harg7 arg8 harg8 arg9 harg9 arg10 harg10 arg11 harg11 arg12 harg12
      hc x0 x1 x2 x3 x4 x5 x6 = k0_pay6 x3 x4 x6 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12
    hc x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x256x256) hz3, View.ld_unit_zero (S := S1x4096x256) hz3, View.ld_unit_zero (S := S1x4096x128) hz3, View.ld_unit_zero (S := S1x256x1) hz3, View.ld_unit_zero (S := S256x128) hz2]

theorem out_B_7 (hc : ¬cond0_0 i) :
    out0_B_7 c i arg2 harg2 arg3 harg3 arg4 harg4 arg5 harg5 arg6 harg6 arg7 harg7 arg8 harg8 arg9 harg9 arg10 harg10 arg11 harg11 arg12 harg12
      hc x0 x1 x2 x3 x4 x5 x6 xo8 xo9 = k0_pay13 (k0_pay7 x3 x4 x6) (k0_pay8 x3 x6) x0 x1 x5 x2 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12
    hc x0 x1 x2 x3 x4 x5 x6 xo8 xo9)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x256x256) hz3, View.ld_unit_zero (S := S1x4096x256) hz3, View.ld_unit_zero (S := S1x4096x128) hz3, View.ld_unit_zero (S := S1x256x1) hz3, View.ld_unit_zero (S := S256x128) hz2]

theorem out_B_8 (hc : ¬cond0_0 i) :
    out0_B_8 c i arg2 harg2 arg3 harg3 arg4 harg4 arg5 harg5 arg6 harg6 arg7 harg7 arg8 harg8 arg9 harg9 arg10 harg10 arg11 harg11 arg12 harg12
      hc x0 x1 x2 x3 x4 x5 x6 xo8 xo9 = k0_pay14 (k0_pay7 x3 x4 x6) (k0_pay8 x3 x6) x0 x1 x5 x2 xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12
    hc x0 x1 x2 x3 x4 x5 x6 xo8 xo9)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x256x256) hz3, View.ld_unit_zero (S := S1x4096x256) hz3, View.ld_unit_zero (S := S1x4096x128) hz3, View.ld_unit_zero (S := S1x256x1) hz3, View.ld_unit_zero (S := S256x128) hz2]

theorem out_B_9 (hc : ¬cond0_0 i) :
    out0_B_9 c i arg2 harg2 arg3 harg3 arg4 harg4 arg5 harg5 arg6 harg6 arg7 harg7 arg8 harg8 arg9 harg9 arg10 harg10 arg11 harg11 arg12 harg12
      hc x0 x1 x2 x3 x4 x5 x6 xo8 xo9 = k0_pay1 (k0_pay8 x3 x6) (k0_pay11 x0 x1 x5) (k0_pay15 xo9) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12
    hc x0 x1 x2 x3 x4 x5 x6 xo8 xo9)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x256x256) hz3, View.ld_unit_zero (S := S1x4096x256) hz3, View.ld_unit_zero (S := S1x4096x128) hz3, View.ld_unit_zero (S := S1x256x1) hz3, View.ld_unit_zero (S := S256x128) hz2]

theorem out_B_10 (hc : ¬cond0_0 i) :
    out0_B_10 c i arg2 harg2 arg3 harg3 arg4 harg4 arg5 harg5 arg6 harg6 arg7 harg7 arg8 harg8 arg9 harg9 arg10 harg10 arg11 harg11 arg12 harg12
      hc x0 x1 x2 x3 x4 x5 x6 xo8 xo9 = k0_pay6 x3 x4 x6 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12
    hc x0 x1 x2 x3 x4 x5 x6 xo8 xo9)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x256x256) hz3, View.ld_unit_zero (S := S1x4096x256) hz3, View.ld_unit_zero (S := S1x4096x128) hz3, View.ld_unit_zero (S := S1x256x1) hz3, View.ld_unit_zero (S := S256x128) hz2]

end Cert.Attn.Bwd

end
-- ==== Proof.Attn.Arrays.lean ====
/- The gradient call's result arrays, on arguments of real numbers. -/
module

public import proofs.«01_k».proof.Proof.Gen.KernelIdeal.Value
public import proofs.«01_k».proof.Proof.Attn.Payloads
public import proofs.«01_k».proof.Proof.Attn.Blocks

@[expose] public section

set_option maxRecDepth 16384

noncomputable section

open Idealize.ShloMosaic Idealize.ShloMosaic.TcCoe Idealize.SL.Sem
open Idealize.ShloMosaic.Pipeline (Dat)

namespace Cert.Attn.Bwd

open Cert.KernelIdeal Cert.KernelIdeal.Gen Cert.Attn

theorem lt64 (t : Fin cfg0.N) : t.val < 64 := lt_of_lt_of_eq t.isLt (show cfg0.N = 64 from N_0)

/-- The head a point works on. -/
def hd (t : Fin cfg0.N) : Fin 4 := ⟨t.val / 16, by have := lt64 t; omega⟩
/-- The row of the sequence a point's block row is. -/
def row (t : Fin cfg0.N) (r : Fin 256) : Fin 4096 := ⟨256 * (t.val % 16) + r.val, by have := r.isLt; omega⟩
/-- A head's gate columns. -/
def colG (h : Fin 4) (c : Fin 128) : Fin 6144 := ⟨5120 + 128 * h.val + c.val, by have := h.isLt; have := c.isLt; omega⟩
/-- A head's columns among the heads side by side. -/
def colO (h : Fin 4) (c : Fin 128) : Fin 512 := ⟨128 * h.val + c.val, by have := h.isLt; have := c.isLt; omega⟩
/-- A head's columns of the arriving gradient. -/
def colY (h : Fin 4) (c : Fin 128) : Fin 2048 := ⟨1536 + 128 * h.val + c.val, by have := h.isLt; have := c.isLt; omega⟩

/-! ## The windows' indices -/

theorem idx0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem idx1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)
theorem idx2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem idx3 : ∀ t : Fin cfg0.N, win0_3.index t 0 = t.val % 16 ∧ win0_3.index t 1 = 40 + t.val / 16 :=
  (by decide +kernel : ∀ t : Fin grid0.N, win0_3.index t 0 = t.val % 16 ∧ win0_3.index t 1 = 40 + t.val / 16)
theorem idx4 : ∀ t : Fin cfg0.N, win0_4.index t 0 = t.val % 16 ∧ win0_4.index t 1 = t.val / 16 :=
  (by decide +kernel : ∀ t : Fin grid0.N, win0_4.index t 0 = t.val % 16 ∧ win0_4.index t 1 = t.val / 16)
theorem idx5 : ∀ t : Fin cfg0.N, win0_5.index t 0 = t.val / 16 ∧ win0_5.index t 1 = t.val % 16 ∧ win0_5.index t 2 = 0 :=
  (by decide +kernel : ∀ t : Fin grid0.N, win0_5.index t 0 = t.val / 16 ∧ win0_5.index t 1 = t.val % 16 ∧ win0_5.index t 2 = 0)
theorem idx6 : ∀ t : Fin cfg0.N, win0_6.index t 0 = t.val % 16 ∧ win0_6.index t 1 = 12 + t.val / 16 :=
  (by decide +kernel : ∀ t : Fin grid0.N, win0_6.index t 0 = t.val % 16 ∧ win0_6.index t 1 = 12 + t.val / 16)
theorem idx7 : ∀ t : Fin cfg0.N, win0_7.index t 0 = t.val / 16 ∧ win0_7.index t 1 = t.val % 16 ∧ win0_7.index t 2 = 0 :=
  (by decide +kernel : ∀ t : Fin grid0.N, win0_7.index t 0 = t.val / 16 ∧ win0_7.index t 1 = t.val % 16 ∧ win0_7.index t 2 = 0)
theorem idx8 : ∀ t : Fin cfg0.N, win0_8.index t 0 = t.val / 16 ∧ win0_8.index t 1 = 0 ∧ win0_8.index t 2 = 0 :=
  (by decide +kernel : ∀ t : Fin grid0.N, win0_8.index t 0 = t.val / 16 ∧ win0_8.index t 1 = 0 ∧ win0_8.index t 2 = 0)
theorem idx9 : ∀ t : Fin cfg0.N, win0_9.index t 0 = t.val / 16 ∧ win0_9.index t 1 = 0 ∧ win0_9.index t 2 = 0 :=
  (by decide +kernel : ∀ t : Fin grid0.N, win0_9.index t 0 = t.val / 16 ∧ win0_9.index t 1 = 0 ∧ win0_9.index t 2 = 0)
theorem idx10 : ∀ t : Fin cfg0.N, win0_10.index t 0 = t.val % 16 ∧ win0_10.index t 1 = t.val / 16 :=
  (by decide +kernel : ∀ t : Fin grid0.N, win0_10.index t 0 = t.val % 16 ∧ win0_10.index t 1 = t.val / 16)

/-! ## The input blocks -/

variable (m : (ℓ : Loc nD τ sig) → Buf (Elt Ideal) ℓ) (c : Dev nD)
  {q k : Fin 4 → Fin 4096 → Fin 256 → ℝ} {v : Fin 4 → Fin 4096 → Fin 128 → ℝ} {z : Fin 4096 → Fin 6144 → ℝ}
  {o : Fin 4096 → Fin 512 → ℝ} {l : Fin 4 → Fin 4096 → ℝ} {y : Fin 4096 → Fin 2048 → ℝ}
  (hq : ∀ h r d, V m c main_v6 (ix3 h r d) = ((q h r d : ℝ) : EReal))
  (hk : ∀ h r d, V m c main_v7 (ix3 h r d) = ((k h r d : ℝ) : EReal))
  (hv : ∀ h r d, V m c main_v8 (ix3 h r d) = ((v h r d : ℝ) : EReal))
  (hz : ∀ r j, V m c main_arg3 (ix2 r j) = ((z r j : ℝ) : EReal))
  (ho : ∀ r j, V m c main_v27 (ix2 r j) = ((o r j : ℝ) : EReal))
  (hl : ∀ h r, V m c main_v44 (ix3 h r 0) = ((l h r : ℝ) : EReal))
  (hy : ∀ r j, V m c main_arg4 (ix2 r j) = ((y r j : ℝ) : EReal))

include hq in
theorem iblk0_apply (t : Fin cfg0.N) (r : Fin 256) (d : Fin 256) :
    (iblk m c 0 t : Vec Ideal S1x256x256 .bf16) (ix3 0 r d) = ((q (hd t) (row t r) d : ℝ) : EReal) := by
  unfold iblk
  rw [View.read_apply]
  refine Eq.trans ?_ (hq _ _ _)
  show V m c main_v6 _ = V m c main_v6 _
  congr 1
  funext a
  apply Fin.ext
  obtain ⟨h0, h1, h2⟩ := idx0 t
  match a with
  | ⟨0, _⟩ => show win0_0.index t 0 * 1 + 1 * 0 = t.val / 16; omega
  | ⟨1, _⟩ => show win0_0.index t 1 * 256 + 1 * r.val = 256 * (t.val % 16) + r.val; omega
  | ⟨2, _⟩ => show win0_0.index t 2 * 256 + 1 * d.val = d.val; omega

include hk in
theorem iblk1_apply (t : Fin cfg0.N) (r : Fin 4096) (d : Fin 256) :
    (iblk m c 1 t : Vec Ideal S1x4096x256 .bf16) (ix3 0 r d) = ((k (hd t) r d : ℝ) : EReal) := by
  unfold iblk
  rw [View.read_apply]
  refine Eq.trans ?_ (hk _ _ _)
  show V m c main_v7 _ = V m c main_v7 _
  congr 1
  funext a
  apply Fin.ext
  obtain ⟨h0, h1, h2⟩ := idx1 t
  match a with
  | ⟨0, _⟩ => show win0_1.index t 0 * 1 + 1 * 0 = t.val / 16; omega
  | ⟨1, _⟩ => show win0_1.index t 1 * 4096 + 1 * r.val = r.val; omega
  | ⟨2, _⟩ => show win0_1.index t 2 * 256 + 1 * d.val = d.val; omega

include hv in
theorem iblk2_apply (t : Fin cfg0.N) (r : Fin 4096) (d : Fin 128) :
    (iblk m c 2 t : Vec Ideal S1x4096x128 .bf16) (ix3 0 r d) = ((v (hd t) r d : ℝ) : EReal) := by
  unfold iblk
  rw [View.read_apply]
  refine Eq.trans ?_ (hv _ _ _)
  show V m c main_v8 _ = V m c main_v8 _
  congr 1
  funext a
  apply Fin.ext
  obtain ⟨h0, h1, h2⟩ := idx2 t
  match a with
  | ⟨0, _⟩ => show win0_2.index t 0 * 1 + 1 * 0 = t.val / 16; omega
  | ⟨1, _⟩ => show win0_2.index t 1 * 4096 + 1 * r.val = r.val; omega
  | ⟨2, _⟩ => show win0_2.index t 2 * 128 + 1 * d.val = d.val; omega

include hz in
theorem iblk3_apply (t : Fin cfg0.N) (r : Fin 256) (d : Fin 128) :
    (iblk m c 3 t : Vec Ideal S256x128 .f32) (ix2 r d) = ((z (row t r) (colG (hd t) d) : ℝ) : EReal) := by
  unfold iblk
  rw [View.read_apply]
  refine Eq.trans ?_ (hz _ _)
  show V m c main_arg3 _ = V m c main_arg3 _
  congr 1
  funext a
  apply Fin.ext
  obtain ⟨h0, h1⟩ := idx3 t
  match a with
  | ⟨0, _⟩ => show win0_3.index t 0 * 256 + 1 * r.val = 256 * (t.val % 16) + r.val; omega
  | ⟨1, _⟩ => show win0_3.index t 1 * 128 + 1 * d.val = 5120 + 128 * (t.val / 16) + d.val; omega

include ho in
theorem iblk4_apply (t : Fin cfg0.N) (r : Fin 256) (d : Fin 128) :
    (iblk m c 4 t : Vec Ideal S256x128 .f32) (ix2 r d) = ((o (row t r) (colO (hd t) d) : ℝ) : EReal) := by
  unfold iblk
  rw [View.read_apply]
  refine Eq.trans ?_ (ho _ _)
  show V m c main_v27 _ = V m c main_v27 _
  congr 1
  funext a
  apply Fin.ext
  obtain ⟨h0, h1⟩ := idx4 t
  match a with
  | ⟨0, _⟩ => show win0_4.index t 0 * 256 + 1 * r.val = 256 * (t.val % 16) + r.val; omega
  | ⟨1, _⟩ => show win0_4.index t 1 * 128 + 1 * d.val = 128 * (t.val / 16) + d.val; omega

include hl in
theorem iblk5_apply (t : Fin cfg0.N) (r : Fin 256) :
    (iblk m c 5 t : Vec Ideal S1x256x1 .f32) (ix3 0 r 0) = ((l (hd t) (row t r) : ℝ) : EReal) := by
  unfold iblk
  rw [View.read_apply]
  refine Eq.trans ?_ (hl _ _)
  show V m c main_v44 _ = V m c main_v44 _
  congr 1
  funext a
  apply Fin.ext
  obtain ⟨h0, h1, h2⟩ := idx5 t
  match a with
  | ⟨0, _⟩ => show win0_5.index t 0 * 1 + 1 * 0 = t.val / 16; omega
  | ⟨1, _⟩ => show win0_5.index t 1 * 256 + 1 * r.val = 256 * (t.val % 16) + r.val; omega
  | ⟨2, _⟩ => show win0_5.index t 2 * 1 + 1 * 0 = 0; omega

include hy in
theorem iblk6_apply (t : Fin cfg0.N) (r : Fin 256) (d : Fin 128) :
    (iblk m c 6 t : Vec Ideal S256x128 .f32) (ix2 r d) = ((y (row t r) (colY (hd t) d) : ℝ) : EReal) := by
  unfold iblk
  rw [View.read_apply]
  refine Eq.trans ?_ (hy _ _)
  show V m c main_arg4 _ = V m c main_arg4 _
  congr 1
  funext a
  apply Fin.ext
  obtain ⟨h0, h1⟩ := idx6 t
  match a with
  | ⟨0, _⟩ => show win0_6.index t 0 * 256 + 1 * r.val = 256 * (t.val % 16) + r.val; omega
  | ⟨1, _⟩ => show win0_6.index t 1 * 128 + 1 * d.val = 1536 + 128 * (t.val / 16) + d.val; omega

/-! ## The results, as real arrays -/

section
variable (q k : Fin 4 → Fin 4096 → Fin 256 → ℝ) (v : Fin 4 → Fin 4096 → Fin 128 → ℝ) (z : Fin 4096 → Fin 6144 → ℝ)
  (o : Fin 4096 → Fin 512 → ℝ) (l : Fin 4 → Fin 4096 → ℝ) (y : Fin 4096 → Fin 2048 → ℝ)

/-- The weight of key `j` for query `r`. -/
def W (h : Fin 4) (r j : Fin 4096) : ℝ := wt (q h) (k h) (l h) r j
/-- The gradient of the weighted values. -/
def DO (h : Fin 4) (r : Fin 4096) (c : Fin 128) : ℝ := dO (fun r c => z r (colG h c)) (fun r c => y r (colY h c)) r c
/-- The gradient of the scores. -/
def DS (h : Fin 4) (r j : Fin 4096) : ℝ :=
  dS (q h) (k h) (v h) (fun r c => z r (colG h c)) (fun r c => o r (colO h c)) (fun r c => y r (colY h c)) (l h) r j

def resQ : Vec Ideal S4x4096x256 .f32 := fun i => ((∑ j, DS q k v z o l y (i 0) (i 1) j * k (i 0) j (i 2) : ℝ) : EReal)
def resK : Vec Ideal S4x4096x256 .f32 := fun i => ((∑ r, DS q k v z o l y (i 0) r (i 1) * q (i 0) r (i 2) : ℝ) : EReal)
def resV : Vec Ideal S4x4096x128 .f32 := fun i => ((∑ r, W q k l (i 0) r (i 1) * DO z y (i 0) r (i 2) : ℝ) : EReal)
def resG : Vec Ideal S4096x512 .bf16 := fun i =>
  ((y (i 0) ⟨1536 + (i 1).val, by have := (i 1).isLt; change _ < 512 at this; omega⟩ * o (i 0) (i 1)
    * dsl (z (i 0) ⟨5120 + (i 1).val, by have := (i 1).isLt; change _ < 512 at this; omega⟩) : ℝ) : EReal)

/-- A function of the rows, at a natural number. -/
def ext (f : Fin 4096 → ℝ) (n : ℕ) : ℝ := if h : n < 4096 then f ⟨n, h⟩ else 0

end

theorem ext_row (f : Fin 4096 → ℝ) (t : Fin cfg0.N) : ∑ r : Fin 256, f (row t r) = ∑ n ∈ Finset.range 256, ext f (256 * (t.val % 16) + n) := by
  rw [Finset.sum_range]
  refine Finset.sum_congr rfl fun r _ => ?_
  have := r.isLt
  unfold ext
  rw [dif_pos (show 256 * (t.val % 16) + r.val < 4096 by omega)]
  rfl

theorem ext_all (f : Fin 4096 → ℝ) : ∑ n ∈ Finset.range 4096, ext f n = ∑ r, f r := by
  rw [Finset.sum_range]
  exact Finset.sum_congr rfl fun r _ => dif_pos r.isLt

include hq hk hv hz ho hl hy in
/-- What the buffers hold after a point: the block's two results, and the two running sums over the blocks of the head so far. -/
theorem outs_apply (t : Fin cfg0.N) :
    (∀ r d, (outsAt0 m c t.val t.isLt).1 (ix3 0 r d) = ((∑ j, DS q k v z o l y (hd t) (row t r) j * k (hd t) j d : ℝ) : EReal))
    ∧ (∀ r e, (outsAt0 m c t.val t.isLt).2.2.2 (ix2 r e)
        = ((y (row t r) (colY (hd t) e) * o (row t r) (colO (hd t) e) * dsl (z (row t r) (colG (hd t) e)) : ℝ) : EReal)) := by
  have hq' := iblk0_apply m c hq t
  have hk' := iblk1_apply m c hk t
  have hv' := iblk2_apply m c hv t
  have hz' := iblk3_apply m c hz t
  have ho' := iblk4_apply m c ho t
  have hl' := iblk5_apply m c hl t
  have hy' := iblk6_apply m c hy t
  by_cases h0 : t.val % 16 = 0
  · rw [outsAt0_A m c t h0]
    constructor
    · intro r d
      dsimp only
      rw [out_A_7]
      exact pay13_apply (q := fun r d => q (hd t) (row t r) d) hq' hk' hv' hz' ho' hl' hy' r d
    · intro r e
      dsimp only
      rw [out_A_10]
      exact pay6_apply hz' ho' hy' r e
  · rw [outsAt0_B m c t h0]
    constructor
    · intro r d
      dsimp only
      rw [out_B_7]
      exact pay13_apply (q := fun r d => q (hd t) (row t r) d) hq' hk' hv' hz' ho' hl' hy' r d
    · intro r e
      dsimp only
      rw [out_B_10]
      exact pay6_apply hz' ho' hy' r e

/-- One step of a running sum. -/
theorem step (f : Fin 4096 → ℝ) (t : Fin cfg0.N) (x : EReal)
    (hx : x = ((∑ n ∈ Finset.range (256 * (t.val % 16)), ext f n : ℝ) : EReal)) :
    x + ((∑ r, f (row t r) : ℝ) : EReal) = ((∑ n ∈ Finset.range (256 * (t.val % 16 + 1)), ext f n : ℝ) : EReal) := by
  rw [hx, ← EReal.coe_add, ext_row, Nat.mul_succ, Finset.sum_range_add]

theorem zero_K (j : Fin 4096) (d : Fin 256) : (k0_pay2 (F := Ideal)) (ix3 0 j d) = 0 := by pointwise [k0_pay2]
theorem zero_V (j : Fin 4096) (d : Fin 128) : (k0_pay3 (F := Ideal)) (ix3 0 j d) = 0 := by pointwise [k0_pay3]

include hq hk hv hz ho hl hy in
theorem sums_apply : ∀ (n : ℕ) (hn : n < cfg0.N),
    (∀ j d, (outsAt0 m c n hn).2.1 (ix3 0 j d)
        = ((∑ i ∈ Finset.range (256 * (n % 16 + 1)), ext (fun r => DS q k v z o l y (hd ⟨n, hn⟩) r j * q (hd ⟨n, hn⟩) r d) i : ℝ) : EReal))
    ∧ (∀ j e, (outsAt0 m c n hn).2.2.1 (ix3 0 j e)
        = ((∑ i ∈ Finset.range (256 * (n % 16 + 1)), ext (fun r => W q k l (hd ⟨n, hn⟩) r j * DO z y (hd ⟨n, hn⟩) r e) i : ℝ) : EReal)) := by
  intro n
  induction n using Nat.strong_induction_on with
  | _ n ih =>
  intro hn
  obtain ⟨t, ht⟩ : ∃ t : Fin cfg0.N, t = ⟨n, hn⟩ := ⟨_, rfl⟩
  have hq' := iblk0_apply m c hq t
  have hk' := iblk1_apply m c hk t
  have hv' := iblk2_apply m c hv t
  have hz' := iblk3_apply m c hz t
  have ho' := iblk4_apply m c ho t
  have hl' := iblk5_apply m c hl t
  have hy' := iblk6_apply m c hy t
  have htn : t.val = n := by rw [ht]
  rw [← ht]
  have e : outsAt0 m c n hn = outsAt0 m c t.val t.isLt := by subst ht; rfl
  rw [e]
  by_cases h0 : t.val % 16 = 0
  · rw [outsAt0_A m c t h0]
    constructor
    · intro j d
      dsimp only
      rw [out_A_8]
      refine (pay14_apply (q := fun r d => q (hd t) (row t r) d) hq' hk' hv' hz' ho' hl' hy' _ j d).trans ?_
      rw [← htn]
      refine step (fun r => DS q k v z o l y (hd t) r j * q (hd t) r d) t _ ?_
      rw [zero_K, h0]; simp
    · intro j d
      dsimp only
      rw [out_A_9]
      refine (pay1_apply (q := fun r d => q (hd t) (row t r) d) hq' hk' hz' hl' hy' _ j d).trans ?_
      rw [← htn]
      refine step (fun r => W q k l (hd t) r j * DO z y (hd t) r d) t _ ?_
      rw [zero_V, h0]; simp
  · rw [outsAt0_B m c t h0]
    have hlt := t.isLt
    obtain ⟨i8, i9⟩ := ih (t.val - 1) (by omega) (by omega)
    have hh : hd ⟨t.val - 1, by omega⟩ = hd t := by unfold hd; apply Fin.ext; dsimp only; omega
    have hm : (t.val - 1) % 16 + 1 = t.val % 16 := by omega
    rw [hh, hm] at i8 i9
    constructor
    · intro j d
      dsimp only
      rw [out_B_8]
      refine (pay14_apply (q := fun r d => q (hd t) (row t r) d) hq' hk' hv' hz' ho' hl' hy' _ j d).trans ?_
      rw [← htn]
      exact step (fun r => DS q k v z o l y (hd t) r j * q (hd t) r d) t _ (i8 j d)
    · intro j d
      dsimp only
      rw [out_B_9]
      refine (pay1_apply (q := fun r d => q (hd t) (row t r) d) hq' hk' hz' hl' hy' _ j d).trans ?_
      rw [← htn]
      exact step (fun r => W q k l (hd t) r j * DO z y (hd t) r d) t _ (i9 j d)

end Cert.Attn.Bwd

end
-- ==== Proof.Attn.Final.lean ====
/- The gradient call's result arrays after the run. -/
module

public import proofs.«01_k».proof.Proof.Attn.Arrays

@[expose] public section

set_option maxRecDepth 16384

noncomputable section

open Idealize.ShloMosaic Idealize.ShloMosaic.TcCoe Idealize.SL.Sem
open Idealize.ShloMosaic.Pipeline (Dat)

namespace Cert.Attn.Bwd

open Cert.KernelIdeal Cert.KernelIdeal.Gen Cert.KernelIdeal.Value Cert.Attn

variable (m : (ℓ : Loc nD τ sig) → Buf (Elt Ideal) ℓ) (c : Dev nD)
  {q k : Fin 4 → Fin 4096 → Fin 256 → ℝ} {v : Fin 4 → Fin 4096 → Fin 128 → ℝ} {z : Fin 4096 → Fin 6144 → ℝ}
  {o : Fin 4096 → Fin 512 → ℝ} {l : Fin 4 → Fin 4096 → ℝ} {y : Fin 4096 → Fin 2048 → ℝ}
  (hq : ∀ h r d, V m c main_v6 (ix3 h r d) = ((q h r d : ℝ) : EReal))
  (hk : ∀ h r d, V m c main_v7 (ix3 h r d) = ((k h r d : ℝ) : EReal))
  (hv : ∀ h r d, V m c main_v8 (ix3 h r d) = ((v h r d : ℝ) : EReal))
  (hz : ∀ r j, V m c main_arg3 (ix2 r j) = ((z r j : ℝ) : EReal))
  (ho : ∀ r j, V m c main_v27 (ix2 r j) = ((o r j : ℝ) : EReal))
  (hl : ∀ h r, V m c main_v44 (ix3 h r 0) = ((l h r : ℝ) : EReal))
  (hy : ∀ r j, V m c main_arg4 (ix2 r j) = ((y r j : ℝ) : EReal))

include hq hk hv hz ho hl hy

theorem flushed_Q (t : Fin cfg0.N) :
    (dats m 0 c).flushed 7 t = ((cfg0.win 7).blk t).view.read (Elt Ideal) (resQ q k v z o l y) := by
  rw [flushed7]
  funext i
  rw [View.read_apply]
  change S1x256x256.Idx at i
  obtain ⟨i0, r, d, rfl⟩ : ∃ i0 r d, i = ix3 i0 r d := ⟨_, _, _, eq_ix3 i⟩
  obtain rfl : i0 = 0 := Subsingleton.elim _ _
  refine ((outs_apply m c hq hk hv hz ho hl hy t).1 r d).trans ?_
  show resQ q k v z o l y (ix3 (hd t) (row t r) d) = resQ q k v z o l y _
  congr 1
  funext a
  apply Fin.ext
  obtain ⟨h0, h1, h2⟩ := idx7 t
  match a with
  | ⟨0, _⟩ => show t.val / 16 = win0_7.index t 0 * 1 + 1 * 0; omega
  | ⟨1, _⟩ => show 256 * (t.val % 16) + r.val = win0_7.index t 1 * 256 + 1 * r.val; omega
  | ⟨2, _⟩ => show d.val = win0_7.index t 2 * 256 + 1 * d.val; omega

theorem flushed_G (t : Fin cfg0.N) :
    (dats m 0 c).flushed 10 t = ((cfg0.win 10).blk t).view.read (Elt Ideal) (resG z o y) := by
  rw [flushed10]
  funext i
  rw [View.read_apply]
  change S256x128.Idx at i
  obtain ⟨r, d, rfl⟩ : ∃ r d, i = ix2 r d := ⟨_, _, eq_ix2 i⟩
  refine ((outs_apply m c hq hk hv hz ho hl hy t).2 r d).trans ?_
  have e : resG z o y (ix2 (row t r) (colO (hd t) d))
      = ((y (row t r) (colY (hd t) d) * o (row t r) (colO (hd t) d) * dsl (z (row t r) (colG (hd t) d)) : ℝ) : EReal) := by
    unfold resG colY colG colO
    simp only [Nat.add_assoc]
    rfl
  rw [← e]
  show resG z o y _ = resG z o y _
  congr 1
  funext a
  apply Fin.ext
  obtain ⟨h0, h1⟩ := idx10 t
  match a with
  | ⟨0, _⟩ => show 256 * (t.val % 16) + r.val = win0_10.index t 0 * 256 + 1 * r.val; omega
  | ⟨1, _⟩ => show 128 * (t.val / 16) + d.val = win0_10.index t 1 * 128 + 1 * d.val; omega

theorem flushed_K (t : Fin cfg0.N) (hf : (cfg0.win 8).flush t = true) :
    (dats m 0 c).flushed 8 t = ((cfg0.win 8).blk t).view.read (Elt Ideal) (resK q k v z o l y) := by
  have h15 : t.val % 16 = 15 := (flush0_8 t).mp hf
  rw [flushed8]
  funext i
  rw [View.read_apply]
  change S1x4096x256.Idx at i
  obtain ⟨i0, r, d, rfl⟩ : ∃ i0 r d, i = ix3 i0 r d := ⟨_, _, _, eq_ix3 i⟩
  obtain rfl : i0 = 0 := Subsingleton.elim _ _
  refine ((sums_apply m c hq hk hv hz ho hl hy t.val t.isLt).1 r d).trans ?_
  rw [h15, ext_all]
  show resK q k v z o l y (ix3 (hd t) r d) = resK q k v z o l y _
  congr 1
  funext a
  apply Fin.ext
  obtain ⟨h0, h1, h2⟩ := idx8 t
  match a with
  | ⟨0, _⟩ => show t.val / 16 = win0_8.index t 0 * 1 + 1 * 0; omega
  | ⟨1, _⟩ => show r.val = win0_8.index t 1 * 4096 + 1 * r.val; omega
  | ⟨2, _⟩ => show d.val = win0_8.index t 2 * 256 + 1 * d.val; omega

theorem flushed_V (t : Fin cfg0.N) (hf : (cfg0.win 9).flush t = true) :
    (dats m 0 c).flushed 9 t = ((cfg0.win 9).blk t).view.read (Elt Ideal) (resV q k z l y) := by
  have h15 : t.val % 16 = 15 := (flush0_9 t).mp hf
  rw [flushed9]
  funext i
  rw [View.read_apply]
  change S1x4096x128.Idx at i
  obtain ⟨i0, r, d, rfl⟩ : ∃ i0 r d, i = ix3 i0 r d := ⟨_, _, _, eq_ix3 i⟩
  obtain rfl : i0 = 0 := Subsingleton.elim _ _
  refine ((sums_apply m c hq hk hv hz ho hl hy t.val t.isLt).2 r d).trans ?_
  rw [h15, ext_all]
  show resV q k z l y (ix3 (hd t) r d) = resV q k z l y _
  congr 1
  funext a
  apply Fin.ext
  obtain ⟨h0, h1, h2⟩ := idx9 t
  match a with
  | ⟨0, _⟩ => show t.val / 16 = win0_9.index t 0 * 1 + 1 * 0; omega
  | ⟨1, _⟩ => show r.val = win0_9.index t 1 * 4096 + 1 * r.val; omega
  | ⟨2, _⟩ => show d.val = win0_9.index t 2 * 128 + 1 * d.val; omega

omit hq hk hv hz ho hl hy

theorem N64 (n : ℕ) (h : n < 64) : n < cfg0.N := lt_of_lt_of_eq h (show cfg0.N = 64 from N_0).symm

theorem cover_Q (i : S4x4096x256.Idx) : ∃ t : Fin cfg0.N, (cfg0.win 7).flush t = true ∧ i ∈ ((cfg0.win 7).blk t).view.set := by
  have b0 : (i 0 : Nat) < 4 := (i 0).isLt
  have b1 : (i 1 : Nat) < 4096 := (i 1).isLt
  have b2 : (i 2 : Nat) < 256 := (i 2).isLt
  refine ⟨⟨(i 0 : Nat) * 16 + (i 1 : Nat) / 256, N64 _ (by omega)⟩, flush0_7 _, ?_⟩
  generalize hs : (⟨(i 0 : Nat) * 16 + (i 1 : Nat) / 256, N64 _ (by omega)⟩ : Fin cfg0.N) = s
  have hv : s.val = (i 0 : Nat) * 16 + (i 1 : Nat) / 256 := by rw [← hs]
  obtain ⟨h0, h1, h2⟩ := idx7 s
  show i ∈ ((View.whole main_v45_0).slice (win0_7.rect s)).set
  rw [View.set_slice_whole, Rect.mem_set_unit]
  intro a
  match a with
  | ⟨0, _⟩ => show win0_7.index s 0 * 1 ≤ (i 0 : Nat) ∧ (i 0 : Nat) < win0_7.index s 0 * 1 + 1; omega
  | ⟨1, _⟩ => show win0_7.index s 1 * 256 ≤ (i 1 : Nat) ∧ (i 1 : Nat) < win0_7.index s 1 * 256 + 256; omega
  | ⟨2, _⟩ => show win0_7.index s 2 * 256 ≤ (i 2 : Nat) ∧ (i 2 : Nat) < win0_7.index s 2 * 256 + 256; omega

theorem cover_K (i : S4x4096x256.Idx) : ∃ t : Fin cfg0.N, (cfg0.win 8).flush t = true ∧ i ∈ ((cfg0.win 8).blk t).view.set := by
  have b0 : (i 0 : Nat) < 4 := (i 0).isLt
  have b1 : (i 1 : Nat) < 4096 := (i 1).isLt
  have b2 : (i 2 : Nat) < 256 := (i 2).isLt
  refine ⟨⟨(i 0 : Nat) * 16 + 15, N64 _ (by omega)⟩, (flush0_8 _).mpr (by dsimp only; omega), ?_⟩
  generalize hs : (⟨(i 0 : Nat) * 16 + 15, N64 _ (by omega)⟩ : Fin cfg0.N) = s
  have hv : s.val = (i 0 : Nat) * 16 + 15 := by rw [← hs]
  obtain ⟨h0, h1, h2⟩ := idx8 s
  show i ∈ ((View.whole main_v45_1).slice (win0_8.rect s)).set
  rw [View.set_slice_whole, Rect.mem_set_unit]
  intro a
  match a with
  | ⟨0, _⟩ => show win0_8.index s 0 * 1 ≤ (i 0 : Nat) ∧ (i 0 : Nat) < win0_8.index s 0 * 1 + 1; omega
  | ⟨1, _⟩ => show win0_8.index s 1 * 4096 ≤ (i 1 : Nat) ∧ (i 1 : Nat) < win0_8.index s 1 * 4096 + 4096; omega
  | ⟨2, _⟩ => show win0_8.index s 2 * 256 ≤ (i 2 : Nat) ∧ (i 2 : Nat) < win0_8.index s 2 * 256 + 256; omega

theorem cover_V (i : S4x4096x128.Idx) : ∃ t : Fin cfg0.N, (cfg0.win 9).flush t = true ∧ i ∈ ((cfg0.win 9).blk t).view.set := by
  have b0 : (i 0 : Nat) < 4 := (i 0).isLt
  have b1 : (i 1 : Nat) < 4096 := (i 1).isLt
  have b2 : (i 2 : Nat) < 128 := (i 2).isLt
  refine ⟨⟨(i 0 : Nat) * 16 + 15, N64 _ (by omega)⟩, (flush0_9 _).mpr (by dsimp only; omega), ?_⟩
  generalize hs : (⟨(i 0 : Nat) * 16 + 15, N64 _ (by omega)⟩ : Fin cfg0.N) = s
  have hv : s.val = (i 0 : Nat) * 16 + 15 := by rw [← hs]
  obtain ⟨h0, h1, h2⟩ := idx9 s
  show i ∈ ((View.whole main_v45_2).slice (win0_9.rect s)).set
  rw [View.set_slice_whole, Rect.mem_set_unit]
  intro a
  match a with
  | ⟨0, _⟩ => show win0_9.index s 0 * 1 ≤ (i 0 : Nat) ∧ (i 0 : Nat) < win0_9.index s 0 * 1 + 1; omega
  | ⟨1, _⟩ => show win0_9.index s 1 * 4096 ≤ (i 1 : Nat) ∧ (i 1 : Nat) < win0_9.index s 1 * 4096 + 4096; omega
  | ⟨2, _⟩ => show win0_9.index s 2 * 128 ≤ (i 2 : Nat) ∧ (i 2 : Nat) < win0_9.index s 2 * 128 + 128; omega

theorem cover_G (i : S4096x512.Idx) : ∃ t : Fin cfg0.N, (cfg0.win 10).flush t = true ∧ i ∈ ((cfg0.win 10).blk t).view.set := by
  have b0 : (i 0 : Nat) < 4096 := (i 0).isLt
  have b1 : (i 1 : Nat) < 512 := (i 1).isLt
  refine ⟨⟨(i 1 : Nat) / 128 * 16 + (i 0 : Nat) / 256, N64 _ (by omega)⟩, flush0_10 _, ?_⟩
  generalize hs : (⟨(i 1 : Nat) / 128 * 16 + (i 0 : Nat) / 256, N64 _ (by omega)⟩ : Fin cfg0.N) = s
  have hv : s.val = (i 1 : Nat) / 128 * 16 + (i 0 : Nat) / 256 := by rw [← hs]
  obtain ⟨h0, h1⟩ := idx10 s
  show i ∈ ((View.whole main_v45_3).slice (win0_10.rect s)).set
  rw [View.set_slice_whole, Rect.mem_set_unit]
  intro a
  match a with
  | ⟨0, _⟩ => show win0_10.index s 0 * 256 ≤ (i 0 : Nat) ∧ (i 0 : Nat) < win0_10.index s 0 * 256 + 256; omega
  | ⟨1, _⟩ => show win0_10.index s 1 * 128 ≤ (i 1 : Nat) ∧ (i 1 : Nat) < win0_10.index s 1 * 128 + 128; omega

include hq hk hv hz ho hl hy

/-- The four arrays after the run. -/
theorem finals : (dats m 0 c).arrAt 7 cfg0.N = resQ q k v z o l y ∧ (dats m 0 c).arrAt 8 cfg0.N = resK q k v z o l y
    ∧ (dats m 0 c).arrAt 9 cfg0.N = resV q k z l y ∧ (dats m 0 c).arrAt 10 cfg0.N = resG z o y :=
  ⟨(dats m 0 c).arrAt_eq_of_cover 7 _ (fun t _ => flushed_Q m c hq hk hv hz ho hl hy t) cover_Q,
   (dats m 0 c).arrAt_eq_of_cover 8 _ (flushed_K m c hq hk hv hz ho hl hy) cover_K,
   (dats m 0 c).arrAt_eq_of_cover 9 _ (flushed_V m c hq hk hv hz ho hl hy) cover_V,
   (dats m 0 c).arrAt_eq_of_cover 10 _ (fun t _ => flushed_G m c hq hk hv hz ho hl hy t) cover_G⟩

end Cert.Attn.Bwd

end
-- ==== Proof.Attn.Soft.lean ====
/- The attention over the real numbers: the weights of a row, their shifts, and the gradient through them. -/
module

public import proofs.«01_k».proof.Proof.Attn.Reals
public import Idealize.ShloMosaic.Lib.IdealHost

@[expose] public section

noncomputable section

namespace Cert.Attn

open Idealize.ShloMosaic

/-! ## Constants -/

theorem ofBits_192 : Ideal.ofBits .f32 0x43400000#32 = ((192 : ℝ) : EReal) := by
  simp [Ideal.ofBits, Ideal.ieee]; rw [← EReal.coe_mul]; norm_num
theorem ofBits_two : Ideal.ofBits .f32 0x40000000#32 = ((2 : ℝ) : EReal) := by
  simp [Ideal.ofBits, Ideal.ieee]; rw [← EReal.coe_mul]; norm_num
theorem ofBits_bot : Ideal.ofBits .f32 0xFF800000#32 = (⊥ : EReal) := by
  simp [Ideal.ofBits, Ideal.ieee]

theorem sqrt192 : Ideal.sqrt ((192 : ℝ) : EReal) = ((Real.sqrt 192 : ℝ) : EReal) := by
  rw [Ideal.sqrt_coe, if_neg (by norm_num)]
theorem log2 : Ideal.log ((2 : ℝ) : EReal) = ((Real.log 2 : ℝ) : EReal) := by
  rw [Ideal.log_coe, if_neg (by norm_num)]

theorem sqrt192_pos : (0 : ℝ) < Real.sqrt 192 := Real.sqrt_pos.mpr (by norm_num)
theorem log2_pos : (0 : ℝ) < Real.log 2 := Real.log_pos (by norm_num)

theorem inv_sqrt192 : Ideal.div 1 (Ideal.sqrt (Ideal.ofBits .f32 0x43400000#32)) = ((1 / Real.sqrt 192 : ℝ) : EReal) := by
  rw [ofBits_192, sqrt192, ← EReal.coe_one, div_coe' _ sqrt192_pos.ne']

/-- The scale of the queries. -/
def qs : ℝ := 1 / (Real.sqrt 192 * Real.log 2)

theorem qs_eq : Ideal.div 1 (Ideal.sqrt (Ideal.ofBits .f32 0x43400000#32) * Ideal.log (Ideal.ofBits .f32 0x40000000#32)) = ((qs : ℝ) : EReal) := by
  rw [ofBits_192, ofBits_two, sqrt192, log2, ← EReal.coe_mul, ← EReal.coe_one,
    div_coe' _ (mul_pos sqrt192_pos log2_pos).ne']
  rfl

/-- The greatest of a row's numbers is one of the real numbers. -/
theorem fold_max_real {ι : Type*} (S : Finset ι) (hS : S.Nonempty) (f : ι → ℝ) :
    ∃ M : ℝ, S.fold max (⊥ : EReal) (fun i => ((f i : ℝ) : EReal)) = ((M : ℝ) : EReal) := by
  classical
  induction hS using Finset.Nonempty.cons_induction with
  | singleton a => exact ⟨f a, by simp⟩
  | cons a s ha hs ih =>
    obtain ⟨M, hM⟩ := ih
    exact ⟨max (f a) M, by rw [Finset.fold_cons, hM]; exact ((EReal.coe_strictMono.monotone).map_max).symm⟩

/-! ## One row -/

section
variable {n : ℕ} [NeZero n] (s : Fin n → ℝ)

/-- The sum of a row's exponentials. -/
def es : ℝ := ∑ j, Real.exp (s j)
/-- The weights of a row. -/
def soft (j : Fin n) : ℝ := Real.exp (s j) / es s

theorem es_pos : 0 < es s := Finset.sum_pos (fun _ _ => Real.exp_pos _) ⟨0, Finset.mem_univ _⟩

theorem es_shift (M : ℝ) : ∑ j, Real.exp (s j - M) = es s * Real.exp (-M) := by
  unfold es
  rw [Finset.sum_mul]
  exact Finset.sum_congr rfl fun j _ => by rw [← Real.exp_add, sub_eq_add_neg]

theorem soft_shift (M : ℝ) (j : Fin n) : Real.exp (s j - M) / ∑ j, Real.exp (s j - M) = soft s j := by
  rw [es_shift, sub_eq_add_neg, Real.exp_add, mul_div_mul_right _ _ (Real.exp_pos _).ne']; rfl

theorem log_shift (M : ℝ) : M + Real.log (∑ j, Real.exp (s j - M)) = Real.log (es s) := by
  rw [es_shift, Real.log_mul (es_pos s).ne' (Real.exp_pos _).ne', Real.log_exp]; ring

theorem soft_log (j : Fin n) : Real.exp (s j - Real.log (es s)) = soft s j := by
  rw [Real.exp_sub, Real.exp_log (es_pos s)]; rfl

/-- The gradient of the scores, from the gradient of the weights. -/
def gsoft (p : Fin n → ℝ) (j : Fin n) : ℝ := soft s j * (p j - ∑ i, soft s i * p i)

/-- … as differentiating the quotient spells it. -/
theorem gsoft_shift (M : ℝ) (p : Fin n → ℝ) (j : Fin n) :
    (p j / (∑ i, Real.exp (s i - M))
        + -∑ i, p i * (1 / ((∑ i, Real.exp (s i - M)) * ∑ i, Real.exp (s i - M))) * Real.exp (s i - M)) * Real.exp (s j - M)
      = gsoft s p j := by
  unfold gsoft
  simp only [← soft_shift s M]
  have hL : ∑ i, Real.exp (s i - M) ≠ 0 := by rw [es_shift]; exact (mul_pos (es_pos s) (Real.exp_pos _)).ne'
  have e : ∑ i, p i * (1 / ((∑ i, Real.exp (s i - M)) * ∑ i, Real.exp (s i - M))) * Real.exp (s i - M)
      = (∑ i, Real.exp (s i - M) / (∑ i, Real.exp (s i - M)) * p i) / ∑ i, Real.exp (s i - M) := by
    rw [Finset.sum_div]
    exact Finset.sum_congr rfl fun i _ => by field_simp
  rw [e]
  field_simp
  ring

end

/-! ## The whole -/

variable (q k : Fin 4 → Fin 4096 → Fin 256 → ℝ) (v : Fin 4 → Fin 4096 → Fin 128 → ℝ)

/-- The scores. -/
def sc (h : Fin 4) (i j : Fin 4096) : ℝ := (∑ d, q h i d * k h j d) * (1 / Real.sqrt 192)
/-- The weights. -/
def pr (h : Fin 4) (i j : Fin 4096) : ℝ := soft (sc q k h i) j
/-- The weighted values. -/
def att (h : Fin 4) (i : Fin 4096) (c : Fin 128) : ℝ := ∑ j, pr q k h i j * v h j c
/-- The logarithms, to the base 2, of the sums of a row's exponentials. -/
def lse (h : Fin 4) (i : Fin 4096) : ℝ := Real.log (es (sc q k h i)) / Real.log 2
/-- The scaled queries. -/
def qh (h : Fin 4) (i : Fin 4096) (d : Fin 256) : ℝ := q h i d * qs
/-- The heads side by side. -/
def bes (o : Fin 4 → Fin 4096 → Fin 128 → ℝ) (i : Fin 4096) (e : Fin 512) : ℝ :=
  o ⟨e.val / 128, by have := e.isLt; omega⟩ i ⟨e.val % 128, Nat.mod_lt _ (by norm_num)⟩

/-- The scaled queries' products are the scores, to the base 2. -/
theorem qh_dot (h : Fin 4) (i j : Fin 4096) : Real.log 2 * ∑ d, qh q h i d * k h j d = sc q k h i j := by
  have e : ∑ d, qh q h i d * k h j d = (∑ d, q h i d * k h j d) * qs := by
    rw [Finset.sum_mul]
    exact Finset.sum_congr rfl fun d _ => by unfold qh; ring
  have := sqrt192_pos.ne'
  have := log2_pos.ne'
  rw [e]
  unfold sc qs
  field_simp

/-- The weights from the saved logarithms are the weights. -/
theorem wt_eq (h : Fin 4) (i j : Fin 4096) : Real.exp (Real.log 2 * (∑ d, qh q h i d * k h j d - lse q k h i)) = pr q k h i j := by
  rw [mul_sub, qh_dot]
  unfold lse
  rw [mul_div_cancel₀ _ log2_pos.ne', soft_log]
  rfl

/-- The rows' sums of the weighted gradients, both ways. -/
theorem delta_eq (g : Fin 128 → ℝ) (h : Fin 4) (i : Fin 4096) :
    ∑ c, g c * att q k v h i c = ∑ j, pr q k h i j * ∑ c, g c * v h j c := by
  unfold att
  simp only [Finset.mul_sum]
  rw [Finset.sum_comm]
  exact Finset.sum_congr rfl fun j _ => Finset.sum_congr rfl fun c _ => by ring

end Cert.Attn

end
-- ==== Proof.Attn.RefFwd.lean ====
/- The attention's reference, on arguments of real numbers. -/
module

public import proofs.«01_k».proof.Proof.Gen.Reference2Ideal.Read
public import proofs.«01_k».proof.Proof.Attn.Soft

@[expose] public section

set_option maxRecDepth 16384

noncomputable section

open Idealize.ShloMosaic Idealize.ShloMosaic.TcCoe

namespace Cert.Attn.Ref2

open Cert.Reference2Ideal Cert.Reference2Ideal.Gen Cert.Reference2Ideal.Read Cert.Attn

theorem maxrow (y : FVec Ideal S4x4096x4096 .f32) (s : Fin 4 → Fin 4096 → Fin 4096 → ℝ)
    (hy : ∀ h i j, y (ix3 h i j) = ((s h i j : ℝ) : EReal)) (h : Fin 4) (i : Fin 4096) :
    ∃ M : ℝ, Host.reduce FloatOps.maximumf y (constant (F := Ideal) S_ .f32 0xFF800000#32) reducesTo_S4x4096x4096_S4x4096_d2 h_S_ (ix2 h i)
      = ((M : ℝ) : EReal) := by
  pointwise []
  simp only [hy, ofBits_bot]
  exact fold_max_real _ ⟨0, Finset.mem_univ _⟩ _

variable {q k : Fin 4 → Fin 4096 → Fin 256 → ℝ} {v : Fin 4 → Fin 4096 → Fin 128 → ℝ} {z : Fin 4096 → Fin 6144 → ℝ}
  {x0 x1 : (⟨S4x4096x256, .f32⟩ : BufTy).Contents (Elt Ideal)} {x2 : (⟨S4x4096x128, .f32⟩ : BufTy).Contents (Elt Ideal)}
  {x3 : (⟨S4096x6144, .f32⟩ : BufTy).Contents (Elt Ideal)}
  (hq : ∀ h r d, x0 (ix3 h r d) = ((q h r d : ℝ) : EReal)) (hk : ∀ h r d, x1 (ix3 h r d) = ((k h r d : ℝ) : EReal))
  (hv : ∀ h r d, x2 (ix3 h r d) = ((v h r d : ℝ) : EReal)) (hz : ∀ r j, x3 (ix2 r j) = ((z r j : ℝ) : EReal))

include hq hk

theorem v4_real (h : Fin 4) (i j : Fin 4096) : val_main_v4 (F := Ideal) x0 x1 (ix3 h i j) = ((sc q k h i j : ℝ) : EReal) := by
  pointwise [val_main_v4, val_main_v3, val_main_v2, val_main_v1, val_main_v0, val_main_cst_0, val_main_cst]
  rw [inv_sqrt192]
  simp only [hq, hk, ← EReal.coe_mul, coe_sum]
  rfl

theorem v5_real : ∃ M : Fin 4 → Fin 4096 → ℝ, ∀ h i, val_main_v5 (F := Ideal) x0 x1 (ix2 h i) = ((M h i : ℝ) : EReal) := by
  have hm : ∀ h i, ∃ M : ℝ, val_main_v5 (F := Ideal) x0 x1 (ix2 h i) = ((M : ℝ) : EReal) := by
    intro h i
    obtain ⟨M, hM⟩ := maxrow (val_main_v4 (F := Ideal) x0 x1) _ (v4_real hq hk) h i
    refine ⟨M, ?_⟩
    unfold val_main_v5 val_main_cst_1
    exact hM
  choose M hM using hm
  exact ⟨M, hM⟩

omit hq hk in
theorem v7_real {M : Fin 4 → Fin 4096 → ℝ} (hM : ∀ h i, val_main_v5 (F := Ideal) x0 x1 (ix2 h i) = ((M h i : ℝ) : EReal)) (h : Fin 4) (i : Fin 4096) :
    val_main_v7 (F := Ideal) x0 x1 (ix2 h i) = ((M h i : ℝ) : EReal) := by
  rw [val_main_v7_apply, val_main_v6_apply, val_main_cst_2_apply, hM]
  show max (Ideal.ofBits .f32 0xFF800000#32) _ = _
  rw [ofBits_bot, max_eq_right bot_le]

theorem v11_real {M : Fin 4 → Fin 4096 → ℝ} (hM : ∀ h i, val_main_v5 (F := Ideal) x0 x1 (ix2 h i) = ((M h i : ℝ) : EReal)) (h : Fin 4) (i j : Fin 4096) :
    val_main_v11 (F := Ideal) x0 x1 (ix3 h i j) = ((Real.exp (sc q k h i j - M h i) : ℝ) : EReal) := by
  pointwise [val_main_v11, val_main_v10, val_main_v9, val_main_v8]
  rw [v7_real hM, v4_real hq hk, ← EReal.coe_sub, Ideal.exp_coe]

theorem v12_real {M : Fin 4 → Fin 4096 → ℝ} (hM : ∀ h i, val_main_v5 (F := Ideal) x0 x1 (ix2 h i) = ((M h i : ℝ) : EReal)) (h : Fin 4) (i : Fin 4096) :
    val_main_v12 (F := Ideal) x0 x1 (ix2 h i) = ((∑ j, Real.exp (sc q k h i j - M h i) : ℝ) : EReal) := by
  pointwise [val_main_v12, val_main_cst_3]
  simp only [v11_real hq hk hM, coe_sum]

omit hq hk in
theorem L_ne (s : Fin 4096 → ℝ) (M : ℝ) : ∑ j, Real.exp (s j - M) ≠ 0 := by
  rw [es_shift]; exact (mul_pos (es_pos s) (Real.exp_pos _)).ne'

theorem v15_real (h : Fin 4) (i j : Fin 4096) : val_main_v15 (F := Ideal) x0 x1 (ix3 h i j) = ((pr q k h i j : ℝ) : EReal) := by
  obtain ⟨M, hM⟩ := v5_real hq hk
  pointwise [val_main_v15, val_main_v14, val_main_v13]
  rw [v11_real hq hk hM, v12_real hq hk hM, div_coe' _ (L_ne _ _), soft_shift]
  rfl

include hv in
/-- The weighted values, the heads side by side. -/
theorem v18_real (i : Fin 4096) (e : Fin 512) : val_main_v18 (F := Ideal) x0 x1 x2 (ix2 i e) = ((bes (att q k v) i e : ℝ) : EReal) := by
  pointwise [val_main_v18, val_main_v17, val_main_v16]
  simp only [v15_real hq hk, hv, ← EReal.coe_mul, coe_sum]
  rfl

include hv hz in
/-- The gated attention. -/
theorem v41_real (i : Fin 4096) (e : Fin 512) : val_main_v41 (F := Ideal) x0 x1 x2 x3 (ix2 i e)
    = ((sl (z i ⟨5120 + e.val, by have := e.isLt; omega⟩) * bes (att q k v) i e : ℝ) : EReal) := by
  have e39 : val_main_v39 (F := Ideal) x0 x1 x2 = val_main_v18 (F := Ideal) x0 x1 x2 := rfl
  pointwise [val_main_v41, val_main_v40, val_main_v20, val_main_call0_v5, val_main_call0_v4, val_main_call0_cst_0, val_main_call0_v3,
    val_main_call0_v2, val_main_call0_cst, val_main_call0_v1, val_main_call0_v0, val_main_v19]
  simp only [e39, v18_real hq hk hv, hz, logi', ← EReal.coe_mul]
  rfl

omit hq hk in
theorem e46 : val_main_v46 (F := Ideal) x0 x1 = val_main_v4 (F := Ideal) x0 x1 := rfl

omit hq hk in
theorem e47 : val_main_v47 (F := Ideal) x0 x1 = val_main_v5 (F := Ideal) x0 x1 := by
  unfold val_main_v47 val_main_v5 val_main_cst_11 val_main_cst_1
  rw [e46]

omit hq hk in
theorem v48_real {M : Fin 4 → Fin 4096 → ℝ} (hM : ∀ h i, val_main_v5 (F := Ideal) x0 x1 (ix2 h i) = ((M h i : ℝ) : EReal)) (h : Fin 4) (i : Fin 4096) :
    val_main_v48 (F := Ideal) x0 x1 (ix3 h i 0) = ((M h i : ℝ) : EReal) := by
  unfold val_main_v48
  rw [e47]
  generalize val_main_v5 (F := Ideal) x0 x1 = w at hM ⊢
  pointwise []
  exact hM h i

theorem v51_real {M : Fin 4 → Fin 4096 → ℝ} (hM : ∀ h i, val_main_v5 (F := Ideal) x0 x1 (ix2 h i) = ((M h i : ℝ) : EReal)) (h : Fin 4) (i j : Fin 4096) :
    val_main_v51 (F := Ideal) x0 x1 (ix3 h i j) = ((Real.exp (sc q k h i j - M h i) : ℝ) : EReal) := by
  have h48 := v48_real hM h i
  have h46 : val_main_v46 (F := Ideal) x0 x1 (ix3 h i j) = _ := (congrFun e46 _).trans (v4_real hq hk h i j)
  unfold val_main_v51 val_main_v50 val_main_v49
  generalize val_main_v48 (F := Ideal) x0 x1 = w at h48 ⊢
  generalize val_main_v46 (F := Ideal) x0 x1 = u at h46 ⊢
  pointwise []
  first | rw [h48] | rw [show w (ix3 h i 0) = _ from h48]
  rw [h46, ← EReal.coe_sub, Ideal.exp_coe]

theorem v53_real {M : Fin 4 → Fin 4096 → ℝ} (hM : ∀ h i, val_main_v5 (F := Ideal) x0 x1 (ix2 h i) = ((M h i : ℝ) : EReal)) (h : Fin 4) (i : Fin 4096) :
    val_main_v53 (F := Ideal) x0 x1 (ix3 h i 0) = ((∑ j, Real.exp (sc q k h i j - M h i) : ℝ) : EReal) := by
  have h51 := v51_real hq hk hM h i
  unfold val_main_v53 val_main_v52 val_main_cst_12
  generalize val_main_v51 (F := Ideal) x0 x1 = w at h51 ⊢
  pointwise []
  simp only [h51, coe_sum]

omit hq hk in
theorem log_sum (w u : (⟨S4x4096x1, .f32⟩ : BufTy).Contents (Elt Ideal)) (M L : ℝ) (h : Fin 4) (i : Fin 4096)
    (hw : w (ix3 h i 0) = ((M : ℝ) : EReal)) (hu : u (ix3 h i 0) = ((L : ℝ) : EReal)) (hL : 0 < L) :
    (Host.divf (addf w (Host.log u)) (broadcastInDim S4x4096x1 ![] bcast_S_S4x4096x1 (Host.log (constant (F := Ideal) S_ .f32 0x40000000#32)))) (ix3 h i 0)
      = (((M + Real.log L) / Real.log 2 : ℝ) : EReal) := by
  pointwise []
  rw [hw, hu, ofBits_two, log2, Ideal.log_coe, if_neg (not_le.mpr hL), ← EReal.coe_add, div_coe' _ log2_pos.ne']

omit hq hk in
theorem L_pos (s : Fin 4096 → ℝ) (M : ℝ) : 0 < ∑ j, Real.exp (s j - M) := by
  rw [es_shift]; exact mul_pos (es_pos s) (Real.exp_pos _)

/-- The logarithms of the row sums. -/
theorem v58_real (h : Fin 4) (i : Fin 4096) : val_main_v58 (F := Ideal) x0 x1 (ix3 h i 0) = ((lse q k h i : ℝ) : EReal) := by
  obtain ⟨M, hM⟩ := v5_real hq hk
  have e := log_sum _ _ _ _ h i (v48_real hM h i) (v53_real hq hk hM h i) (L_pos _ _)
  rw [log_shift] at e
  exact e

end Cert.Attn.Ref2

end
-- ==== Proof.Attn.Host.lean ====
/- What the gradient call's arguments are: the host's lines before it, on arguments of real numbers. -/
module

public import proofs.«01_k».proof.Proof.Gen.KernelIdeal.Frame
public import proofs.«01_k».proof.Proof.Attn.RefFwd
public import Idealize.ShloMosaic.Lib.StableHlo.Run

@[expose] public section

set_option maxRecDepth 16384

noncomputable section

open Idealize.ShloMosaic Idealize.ShloMosaic.TcCoe

namespace Cert.Attn.Bwd

open Cert.KernelIdeal Cert.KernelIdeal.Gen Cert.Attn

variable (m : (ℓ : Loc nD τ sig) → Buf (Elt Ideal) ℓ) (c : Dev nD)

/-- The scaled queries. -/
def scaledQ (x : (⟨S4x4096x256, .f32⟩ : BufTy).Contents (Elt Ideal)) : (⟨S4x4096x256, .bf16⟩ : BufTy).Contents (Elt Ideal) :=
  (truncf (F := Ideal) .bf16 (mulf (F := Ideal) (φ := .f32) x (broadcastInDim S4x4096x256 ![] bcast_S_S4x4096x256
    (Host.divf (constant (F := Ideal) S_ .f32 0x3F800000#32) (mulf (Host.sqrt (constant S_ .f32 0x43400000#32)) (Host.log (constant S_ .f32 0x40000000#32)))))) bitsLt_bf16_f32
    : FVec Ideal S4x4096x256 .bf16)

def cast256 (x : (⟨S4x4096x256, .f32⟩ : BufTy).Contents (Elt Ideal)) : (⟨S4x4096x256, .bf16⟩ : BufTy).Contents (Elt Ideal) :=
  (truncf (F := Ideal) (φ := .f32) .bf16 x bitsLt_bf16_f32 : FVec Ideal S4x4096x256 .bf16)
def cast128 (x : (⟨S4x4096x128, .f32⟩ : BufTy).Contents (Elt Ideal)) : (⟨S4x4096x128, .bf16⟩ : BufTy).Contents (Elt Ideal) :=
  (truncf (F := Ideal) (φ := .f32) .bf16 x bitsLt_bf16_f32 : FVec Ideal S4x4096x128 .bf16)

theorem scaledQ_real {x : (⟨S4x4096x256, .f32⟩ : BufTy).Contents (Elt Ideal)} {q : Fin 4 → Fin 4096 → Fin 256 → ℝ}
    (hq : ∀ h r d, x (ix3 h r d) = ((q h r d : ℝ) : EReal)) (h : Fin 4) (r : Fin 4096) (d : Fin 256) :
    scaledQ x (ix3 h r d) = ((qh q h r d : ℝ) : EReal) := by
  unfold scaledQ
  pointwise []
  rw [hq, qs_eq, ← EReal.coe_mul]
  rfl

theorem V7 : V m c main_v7 = cast256 (m ((c : Thread nD τ).loc main_arg1)) := by
  unfold V; unfold hostOps0
  after_results_simp <;> rfl

theorem V8 : V m c main_v8 = cast128 (m ((c : Thread nD τ).loc main_arg2)) := by
  unfold V; unfold hostOps0
  after_results_simp <;> rfl

theorem V6 : V m c main_v6 = scaledQ (m ((c : Thread nD τ).loc main_arg0)) := by
  unfold V; unfold hostOps0
  after_results_simp <;> rfl

theorem V27 : V m c main_v27 = Cert.Reference2Ideal.Read.val_main_v18 (F := Ideal) (m ((c : Thread nD τ).loc main_arg0)) (m ((c : Thread nD τ).loc main_arg1)) (m ((c : Thread nD τ).loc main_arg2)) := by
  unfold V; unfold hostOps0
  after_results_simp
  rfl

theorem V44 : V m c main_v44 = Cert.Reference2Ideal.Read.val_main_v58 (F := Ideal) (m ((c : Thread nD τ).loc main_arg0)) (m ((c : Thread nD τ).loc main_arg1)) := by
  unfold V; unfold hostOps0
  after_results_simp
  rfl

end Cert.Attn.Bwd

end
-- ==== Proof.Attn.RefBwd.lean ====
/- The gradient's reference, on arguments of real numbers. -/
module

public import proofs.«01_k».proof.Proof.Gen.ReferenceIdeal.Read
public import proofs.«01_k».proof.Proof.Attn.Soft

@[expose] public section

set_option maxRecDepth 16384

noncomputable section

open Idealize.ShloMosaic Idealize.ShloMosaic.TcCoe

namespace Cert.Attn.Ref

open Cert.ReferenceIdeal Cert.ReferenceIdeal.Gen Cert.ReferenceIdeal.Read Cert.Attn

theorem maxrow (y : FVec Ideal S4x4096x4096 .f32) (s : Fin 4 → Fin 4096 → Fin 4096 → ℝ)
    (hy : ∀ h i j, y (ix3 h i j) = ((s h i j : ℝ) : EReal)) (h : Fin 4) (i : Fin 4096) :
    ∃ M : ℝ, Host.reduce FloatOps.maximumf y (constant (F := Ideal) S_ .f32 0xFF800000#32) reducesTo_S4x4096x4096_S4x4096_d2 h_S_ (ix2 h i)
      = ((M : ℝ) : EReal) := by
  pointwise []
  simp only [hy, ofBits_bot]
  exact fold_max_real _ ⟨0, Finset.mem_univ _⟩ _

section
variable (q k : Fin 4 → Fin 4096 → Fin 256 → ℝ) (v : Fin 4 → Fin 4096 → Fin 128 → ℝ) (z : Fin 4096 → Fin 6144 → ℝ)
  (y : Fin 4096 → Fin 2048 → ℝ)

/-- The gate, per head. -/
def gt (h : Fin 4) (i : Fin 4096) (c : Fin 128) : ℝ :=
  z i ⟨5120 + (h.val * 128 + c.val), by have := h.isLt; have := c.isLt; omega⟩
/-- The arriving gradient, per head. -/
def ar (h : Fin 4) (i : Fin 4096) (c : Fin 128) : ℝ :=
  y i ⟨1536 + (h.val * 128 + c.val), by have := h.isLt; have := c.isLt; omega⟩
/-- The gradient of the weighted values. -/
def go (h : Fin 4) (i : Fin 4096) (c : Fin 128) : ℝ := sl (gt z h i c) * ar y h i c
/-- The gradient of the weights. -/
def gp (h : Fin 4) (i j : Fin 4096) : ℝ := ∑ c, go z y h i c * v h j c
/-- The gradient of the scores. -/
def gs (h : Fin 4) (i j : Fin 4096) : ℝ := gsoft (sc q k h i) (gp v z y h i) j
end

variable {q k : Fin 4 → Fin 4096 → Fin 256 → ℝ} {v : Fin 4 → Fin 4096 → Fin 128 → ℝ} {z : Fin 4096 → Fin 6144 → ℝ}
  {y : Fin 4096 → Fin 2048 → ℝ}
  {x0 x1 : (⟨S4x4096x256, .f32⟩ : BufTy).Contents (Elt Ideal)} {x2 : (⟨S4x4096x128, .f32⟩ : BufTy).Contents (Elt Ideal)}
  {x3 : (⟨S4096x6144, .f32⟩ : BufTy).Contents (Elt Ideal)} {x4 : (⟨S4096x2048, .f32⟩ : BufTy).Contents (Elt Ideal)}
  (hq : ∀ h r d, x0 (ix3 h r d) = ((q h r d : ℝ) : EReal)) (hk : ∀ h r d, x1 (ix3 h r d) = ((k h r d : ℝ) : EReal))
  (hv : ∀ h r d, x2 (ix3 h r d) = ((v h r d : ℝ) : EReal)) (hz : ∀ r j, x3 (ix2 r j) = ((z r j : ℝ) : EReal))
  (hy : ∀ r j, x4 (ix2 r j) = ((y r j : ℝ) : EReal))

include hq hk

theorem v7_real (h : Fin 4) (i j : Fin 4096) : val_main_v7 (F := Ideal) x0 x1 (ix3 h i j) = ((sc q k h i j : ℝ) : EReal) := by
  pointwise [val_main_v7, val_main_v3, val_main_v6, val_main_v5, val_main_v4, val_main_cst_0, val_main_cst]
  rw [inv_sqrt192]
  simp only [hq, hk, ← EReal.coe_mul, coe_sum]
  rfl

theorem v15_real : ∃ M : Fin 4 → Fin 4096 → ℝ, ∀ h i, val_main_v15 (F := Ideal) x0 x1 (ix2 h i) = ((M h i : ℝ) : EReal) := by
  have hm : ∀ h i, ∃ M : ℝ, val_main_v15 (F := Ideal) x0 x1 (ix2 h i) = ((M : ℝ) : EReal) := by
    intro h i
    obtain ⟨M, hM⟩ := maxrow (val_main_v7 (F := Ideal) x0 x1) _ (v7_real hq hk) h i
    refine ⟨M, ?_⟩
    have e8 : val_main_v8 (F := Ideal) x0 x1 (ix2 h i) = ((M : ℝ) : EReal) := by
      unfold val_main_v8 val_main_cst_1
      exact hM
    rw [val_main_v15_apply, val_main_v14_apply, val_main_cst_3_apply, e8]
    show max (Ideal.ofBits .f32 0xFF800000#32) _ = _
    rw [ofBits_bot, max_eq_right bot_le]
  choose M hM using hm
  exact ⟨M, hM⟩

theorem v28_real {M : Fin 4 → Fin 4096 → ℝ} (hM : ∀ h i, val_main_v15 (F := Ideal) x0 x1 (ix2 h i) = ((M h i : ℝ) : EReal)) (h : Fin 4) (i j : Fin 4096) :
    val_main_v28 (F := Ideal) x0 x1 (ix3 h i j) = ((Real.exp (sc q k h i j - M h i) : ℝ) : EReal) := by
  pointwise [val_main_v28, val_main_v27, val_main_v26, val_main_v25]
  rw [hM, v7_real hq hk, ← EReal.coe_sub, Ideal.exp_coe]

theorem v29_real {M : Fin 4 → Fin 4096 → ℝ} (hM : ∀ h i, val_main_v15 (F := Ideal) x0 x1 (ix2 h i) = ((M h i : ℝ) : EReal)) (h : Fin 4) (i : Fin 4096) :
    val_main_v29 (F := Ideal) x0 x1 (ix2 h i) = ((∑ j, Real.exp (sc q k h i j - M h i) : ℝ) : EReal) := by
  pointwise [val_main_v29, val_main_cst_9]
  simp only [v28_real hq hk hM, coe_sum]

omit hq hk in
theorem L_ne (s : Fin 4096 → ℝ) (M : ℝ) : ∑ j, Real.exp (s j - M) ≠ 0 := by
  rw [es_shift]; exact (mul_pos (es_pos s) (Real.exp_pos _)).ne'

theorem v32_real (h : Fin 4) (i j : Fin 4096) : val_main_v32 (F := Ideal) x0 x1 (ix3 h i j) = ((pr q k h i j : ℝ) : EReal) := by
  obtain ⟨M, hM⟩ := v15_real hq hk
  pointwise [val_main_v32, val_main_v31, val_main_v30]
  rw [v28_real hq hk hM, v29_real hq hk hM, div_coe' _ (L_ne _ _)]
  rw [soft_shift]
  rfl

include hv in
theorem v38_real (i : Fin 4096) (e : Fin 512) : val_main_v38 (F := Ideal) x0 x1 x2 (ix2 i e) = ((bes (att q k v) i e : ℝ) : EReal) := by
  pointwise [val_main_v36, val_main_v37, val_main_v38]
  simp only [v32_real hq hk, hv, ← EReal.coe_mul, coe_sum]
  rfl

omit hq hk

include hz in
theorem v2_real (i : Fin 4096) (e : Fin 512) :
    val_main_v2_0 (F := Ideal) x3 (ix2 i e) = ((sl (z i ⟨5120 + e.val, by have := e.isLt; omega⟩) : ℝ) : EReal) := by
  pointwise [val_main_v2_0, val_main_v2_2, val_main_call0_v4, val_main_call0_cst_0, val_main_call0_v3, val_main_call0_v2, val_main_call0_cst, val_main_call0_v1, val_main_call0_v0, val_main_v0]
  simp only [hz, logi', ← EReal.coe_mul]
  rfl

include hz hy in
theorem v43_real (h : Fin 4) (i : Fin 4096) (c : Fin 128) :
    val_main_v43 (F := Ideal) x3 x4 (ix3 h i c) = ((go z y h i c : ℝ) : EReal) := by
  pointwise [val_main_v43, val_main_v42, val_main_v40, val_main_v1]
  simp only [v2_real hz, hy, ← EReal.coe_mul]
  rfl

include hq hk hz hy in
theorem v45_real (h : Fin 4) (j : Fin 4096) (c : Fin 128) :
    val_main_v45 (F := Ideal) x0 x1 x3 x4 (ix3 h j c) = ((∑ i, go z y h i c * pr q k h i j : ℝ) : EReal) := by
  pointwise [val_main_v45, val_main_v44]
  simp only [v43_real hz hy, v32_real hq hk, ← EReal.coe_mul, coe_sum]

include hv hz hy in
theorem v46_real (h : Fin 4) (i j : Fin 4096) :
    val_main_v46 (F := Ideal) x2 x3 x4 (ix3 h i j) = ((gp v z y h i j : ℝ) : EReal) := by
  pointwise [val_main_v46]
  simp only [v43_real hz hy, hv, ← EReal.coe_mul, coe_sum]
  rfl

include hq hk hv hz hy

theorem v50_real {M : Fin 4 → Fin 4096 → ℝ} (hM : ∀ h i, val_main_v15 (F := Ideal) x0 x1 (ix2 h i) = ((M h i : ℝ) : EReal)) (h : Fin 4) (i : Fin 4096) :
    val_main_v50 (F := Ideal) x0 x1 x2 x3 x4 (ix2 h i)
      = ((∑ j, gp v z y h i j * (1 / ((∑ j, Real.exp (sc q k h i j - M h i)) * ∑ j, Real.exp (sc q k h i j - M h i)))
          * Real.exp (sc q k h i j - M h i) : ℝ) : EReal) := by
  pointwise [val_main_v50, val_main_v49, val_main_v48, val_main_v47, val_main_v35, val_main_v34, val_main_v33, val_main_v30, val_main_cst_10, val_main_cst_11]
  simp only [v46_real hv hz hy, v28_real hq hk hM, v29_real hq hk hM, ← EReal.coe_mul, ← EReal.coe_one,
    div_coe' _ (mul_ne_zero (L_ne (sc q k h i) (M h i)) (L_ne (sc q k h i) (M h i))), coe_sum]

theorem v60_real (h : Fin 4) (i j : Fin 4096) :
    val_main_v60 (F := Ideal) x0 x1 x2 x3 x4 (ix3 h i j) = ((gs q k v z y h i j * (1 / Real.sqrt 192) : ℝ) : EReal) := by
  obtain ⟨M, hM⟩ := v15_real hq hk
  pointwise [val_main_v60, val_main_v59, val_main_v58, val_main_v57, val_main_v56, val_main_v55, val_main_cst_12, val_main_v54, val_main_v53,
    val_main_v30, val_main_v52, val_main_v51, val_main_v5, val_main_v4, val_main_cst_0, val_main_cst]
  simp only [inv_sqrt192, v46_real hv hz hy, v28_real hq hk hM, v29_real hq hk hM, v50_real hq hk hv hz hy hM,
    div_coe' _ (L_ne (sc q k h i) (M h i)), ← EReal.coe_mul, ← EReal.coe_neg, Finset.univ_unique, Finset.sum_singleton, ← EReal.coe_add]
  rw [gsoft_shift]
  rfl

/-- The gradient of the queries, as the call leaves it. -/
theorem v66_real (h : Fin 4) (i : Fin 4096) (d : Fin 256) :
    val_main_v66 (F := Ideal) x0 x1 x2 x3 x4 (ix3 h i d) = ((∑ j, gs q k v z y h i j * k h j d : ℝ) : EReal) := by
  pointwise [val_main_v66, val_main_v65, val_main_v64, val_main_cst_13, val_main_v62]
  simp only [ofBits_192, sqrt192, v60_real hq hk hv hz hy, hk, ← EReal.coe_mul, coe_sum]
  congr 1
  rw [Finset.sum_mul]
  have := sqrt192_pos.ne'
  exact Finset.sum_congr rfl fun j _ => by field_simp

/-- The gradient of the keys, as the call leaves it. -/
theorem v69_real (h : Fin 4) (j : Fin 4096) (d : Fin 256) :
    val_main_v69 (F := Ideal) x0 x1 x2 x3 x4 (ix3 h j d) = ((∑ i, gs q k v z y h i j * qh q h i d : ℝ) : EReal) := by
  pointwise [val_main_v69, val_main_v68, val_main_v67, val_main_cst_14, val_main_v61]
  simp only [ofBits_two, log2, v60_real hq hk hv hz hy, hq, ← EReal.coe_mul, coe_sum]
  rw [div_coe' _ log2_pos.ne']
  congr 1
  rw [Finset.sum_div]
  have := sqrt192_pos.ne'
  have := log2_pos.ne'
  exact Finset.sum_congr rfl fun i _ => by unfold qh qs; field_simp

/-- The gradient of the gate. -/
theorem v70_real (i : Fin 4096) (e : Fin 512) :
    val_main_v70 (F := Ideal) x0 x1 x2 x3 x4 (ix2 i e)
      = ((y i ⟨1536 + e.val, by have := e.isLt; omega⟩ * bes (att q k v) i e * dsl (z i ⟨5120 + e.val, by have := e.isLt; omega⟩) : ℝ) : EReal) := by
  pointwise [val_main_v70, val_main_v63, val_main_call1_v0, val_main_call1_v1, val_main_call1_v2, val_main_v41, val_main_v1, val_main_v0,
    val_main_v2_1, val_main_v2_2, val_main_call0_v4, val_main_call0_cst_0, val_main_call0_v3, val_main_call0_v2, val_main_call0_cst, val_main_call0_v1,
    val_main_call0_v0, val_main_call0_v7, val_main_call0_v6, val_main_call0_cst_1]
  simp only [hz, hy, logi', v38_real hq hk hv]
  simp only [← EReal.coe_one, ← EReal.coe_mul, ← EReal.coe_sub, ← EReal.coe_add]
  congr 1
  unfold dsl
  ring

end Cert.Attn.Ref

end
-- ==== Proof.Attn.Match.lean ====
/- The gradient call's results are the reference's, on arguments of real numbers. -/
module

public import proofs.«01_k».proof.Proof.Attn.Arrays
public import proofs.«01_k».proof.Proof.Attn.RefBwd

@[expose] public section

set_option maxRecDepth 16384

noncomputable section

open Idealize.ShloMosaic Idealize.ShloMosaic.TcCoe

namespace Cert.Attn.Bwd

open Cert.Attn Cert.ReferenceIdeal.Read

variable (q k : Fin 4 → Fin 4096 → Fin 256 → ℝ) (v : Fin 4 → Fin 4096 → Fin 128 → ℝ) (z : Fin 4096 → Fin 6144 → ℝ)
  (y : Fin 4096 → Fin 2048 → ℝ)

theorem W_eq (h : Fin 4) (r j : Fin 4096) : W (qh q) k (lse q k) h r j = pr q k h r j := wt_eq q k h r j

theorem DO_eq (h : Fin 4) (r : Fin 4096) (c : Fin 128) : DO z y h r c = Ref.go z y h r c := by
  have e1 : colG h c = ⟨5120 + (h.val * 128 + c.val), by have := h.isLt; have := c.isLt; omega⟩ := Fin.ext (by simp only [colG]; omega)
  have e2 : colY h c = ⟨1536 + (h.val * 128 + c.val), by have := h.isLt; have := c.isLt; omega⟩ := Fin.ext (by simp only [colY]; omega)
  show y r (colY h c) * sl (z r (colG h c)) = sl (Ref.gt z h r c) * Ref.ar y h r c
  rw [e1, e2, mul_comm]
  rfl

theorem bes_colO (o : Fin 4 → Fin 4096 → Fin 128 → ℝ) (h : Fin 4) (r : Fin 4096) (c : Fin 128) : bes o r (colO h c) = o h r c := by
  unfold bes
  have := c.isLt
  have e1 : (⟨(colO h c).val / 128, by have := (colO h c).isLt; omega⟩ : Fin 4) = h := Fin.ext (by simp only [colO]; omega)
  have e2 : (⟨(colO h c).val % 128, Nat.mod_lt _ (by norm_num)⟩ : Fin 128) = c := Fin.ext (by simp only [colO]; omega)
  rw [e1, e2]

theorem DS_eq (h : Fin 4) (r j : Fin 4096) : DS (qh q) k v z (bes (att q k v)) (lse q k) y h r j = Ref.gs q k v z y h r j := by
  show W (qh q) k (lse q k) h r j * (∑ c, DO z y h r c * v h j c - ∑ c, DO z y h r c * bes (att q k v) r (colO h c)) = _
  simp only [W_eq, DO_eq, bes_colO]
  rw [delta_eq q k v (fun c => Ref.go z y h r c) h r]
  rfl

variable {q k v z y}
  {x0 x1 : (⟨ReferenceIdeal.S4x4096x256, .f32⟩ : BufTy).Contents (Elt Ideal)} {x2 : (⟨ReferenceIdeal.S4x4096x128, .f32⟩ : BufTy).Contents (Elt Ideal)}
  {x3 : (⟨ReferenceIdeal.S4096x6144, .f32⟩ : BufTy).Contents (Elt Ideal)} {x4 : (⟨ReferenceIdeal.S4096x2048, .f32⟩ : BufTy).Contents (Elt Ideal)}
  (hq : ∀ h r d, x0 (ix3 h r d) = ((q h r d : ℝ) : EReal)) (hk : ∀ h r d, x1 (ix3 h r d) = ((k h r d : ℝ) : EReal))
  (hv : ∀ h r d, x2 (ix3 h r d) = ((v h r d : ℝ) : EReal)) (hz : ∀ r j, x3 (ix2 r j) = ((z r j : ℝ) : EReal))
  (hy : ∀ r j, x4 (ix2 r j) = ((y r j : ℝ) : EReal))

include hq hk hv hz hy

theorem match_Q : val_main_v66 (F := Ideal) x0 x1 x2 x3 x4 = resQ (qh q) k v z (bes (att q k v)) (lse q k) y := by
  funext i
  change ReferenceIdeal.S4x4096x256.Idx at i
  obtain ⟨h, r, d, rfl⟩ : ∃ h r d, i = ix3 h r d := ⟨_, _, _, eq_ix3 i⟩
  rw [Ref.v66_real hq hk hv hz hy]
  show _ = ((∑ j, DS (qh q) k v z (bes (att q k v)) (lse q k) y h r j * k h j d : ℝ) : EReal)
  simp only [DS_eq]

theorem match_K : val_main_v69 (F := Ideal) x0 x1 x2 x3 x4 = resK (qh q) k v z (bes (att q k v)) (lse q k) y := by
  funext i
  change ReferenceIdeal.S4x4096x256.Idx at i
  obtain ⟨h, r, d, rfl⟩ : ∃ h r d, i = ix3 h r d := ⟨_, _, _, eq_ix3 i⟩
  rw [Ref.v69_real hq hk hv hz hy]
  show _ = ((∑ j, DS (qh q) k v z (bes (att q k v)) (lse q k) y h j r * qh q h j d : ℝ) : EReal)
  simp only [DS_eq]

omit hv in
theorem match_V : val_main_v45 (F := Ideal) x0 x1 x3 x4 = resV (qh q) k z (lse q k) y := by
  funext i
  change ReferenceIdeal.S4x4096x128.Idx at i
  obtain ⟨h, r, d, rfl⟩ : ∃ h r d, i = ix3 h r d := ⟨_, _, _, eq_ix3 i⟩
  rw [Ref.v45_real hq hk hz hy]
  show _ = ((∑ j, W (qh q) k (lse q k) h j r * DO z y h j d : ℝ) : EReal)
  simp only [W_eq, DO_eq, mul_comm]

theorem match_G : val_main_v70 (F := Ideal) x0 x1 x2 x3 x4 = resG z (bes (att q k v)) y := by
  funext i
  change ReferenceIdeal.S4096x512.Idx at i
  obtain ⟨r, d, rfl⟩ : ∃ r d, i = ix2 r d := ⟨_, _, eq_ix2 i⟩
  rw [Ref.v70_real hq hk hv hz hy]
  rfl

end Cert.Attn.Bwd

end
-- ==== Proof.Attn.Finite.lean ====
/- What the preconditions say: every element of every argument array is a real number. -/
module

public import proofs.«01_k».proof.Proof.Gen.Pre_finite
public import proofs.«01_k».proof.Proof.Gen.Pre_finite2
public import proofs.«01_k».proof.Proof.Attn.Reals
public import Idealize.ShloMosaic.Lib.ReduceAll
public import Idealize.ShloMosaic.Lib.Pointwise

@[expose] public section

noncomputable section

open Idealize.ShloMosaic

namespace Cert.Attn

theorem ofBits_top : Ideal.ofBits .f32 0x7F800000#32 = ⊤ := by simp [Ideal.ofBits, Ideal.ieee]

theorem real_of_abs_lt {x : EReal} (h : max x (-x) < ⊤) : ∃ r : ℝ, x = ((r : ℝ) : EReal) := by
  induction x with
  | bot => simp at h
  | coe r => exact ⟨r, rfl⟩
  | top => simp at h

/-- An array whose absolute values are all below infinity holds real numbers. -/
theorem finite_all {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel) (j : (⟨0, ![]⟩ : Shape).Idx)
    (e : Host.reduce IntOp.andi (cmpf .olt (Host.absf x) (broadcastInDim s ![] hb (constant (F := Ideal) (⟨0, ![]⟩ : Shape) .f32 0x7F800000#32)))
      (constantI (⟨0, ![]⟩ : Shape) 1 1#1) hr hu j = 1#1) (i : s.Idx) : ∃ r : ℝ, x i = ((r : ℝ) : EReal) := by
  haveI : Subsingleton (⟨0, ![]⟩ : Shape).Idx := ⟨fun a b => funext fun k => k.elim0⟩
  have h := Host.reduce_andi_all _ _ _ _ j e i
  have h' : BitVec.ofBool (decide (max (x i) (-(x i)) < Ideal.ofBits .f32 0x7F800000#32)) = 1#1 := h
  rw [ofBits_top] at h'
  refine real_of_abs_lt ?_
  by_contra hn
  rw [decide_eq_false hn] at h'
  exact absurd h' (by decide)

/-- The gradient call's arguments. -/
theorem finite_args {x0 x1 : FVec Ideal Pre_finite.S4x4096x256 .f32} {x2 : FVec Ideal Pre_finite.S4x4096x128 .f32}
    {x3 : FVec Ideal Pre_finite.S4096x6144 .f32} {x4 : FVec Ideal Pre_finite.S4096x2048 .f32}
    (e : Pre_finite.fn (F := Ideal) x0 x1 x2 x3 x4 = fun _ => 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal))
      ∧ (∀ i, ∃ r : ℝ, x3 i = ((r : ℝ) : EReal)) ∧ (∀ i, ∃ r : ℝ, x4 i = ((r : ℝ) : EReal)) := by
  have j : (⟨0, ![]⟩ : Shape).Idx := fun k => k.elim0
  have e' := congrFun e j
  obtain ⟨e', h4⟩ := IntOp.andi_eq_one.1 e'
  obtain ⟨e', h3⟩ := IntOp.andi_eq_one.1 e'
  obtain ⟨e', h2⟩ := IntOp.andi_eq_one.1 e'
  obtain ⟨h0, h1⟩ := IntOp.andi_eq_one.1 e'
  exact ⟨finite_all _ _ _ _ j h0, finite_all _ _ _ _ j h1, finite_all _ _ _ _ j h2, finite_all _ _ _ _ j h3, finite_all _ _ _ _ j h4⟩

/-- The attention call's arguments. -/
theorem finite2_args {x0 x1 : FVec Ideal Pre_finite2.S4x4096x256 .f32} {x2 : FVec Ideal Pre_finite2.S4x4096x128 .f32}
    {x3 : FVec Ideal Pre_finite2.S4096x6144 .f32}
    (e : Pre_finite2.fn (F := Ideal) x0 x1 x2 x3 = fun _ => 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal))
      ∧ (∀ i, ∃ r : ℝ, x3 i = ((r : ℝ) : EReal)) := by
  have j : (⟨0, ![]⟩ : Shape).Idx := fun k => k.elim0
  have e' := congrFun e j
  obtain ⟨e', h3⟩ := IntOp.andi_eq_one.1 e'
  obtain ⟨e', h2⟩ := IntOp.andi_eq_one.1 e'
  obtain ⟨h0, h1⟩ := IntOp.andi_eq_one.1 e'
  exact ⟨finite_all _ _ _ _ j h0, finite_all _ _ _ _ j h1, finite_all _ _ _ _ j h2, finite_all _ _ _ _ j h3⟩

end Cert.Attn

end
-- ==== Proof.Attn.Claim.lean ====
/- The gradient call against its reference. -/
module

public import proofs.«01_k».proof.Defs
public import proofs.«01_k».proof.Proof.Gen.KernelIdeal.Value
public import proofs.«01_k».proof.Proof.Gen.ReferenceIdeal.Run
public import proofs.«01_k».proof.Proof.Attn.Final
public import proofs.«01_k».proof.Proof.Attn.Host
public import proofs.«01_k».proof.Proof.Attn.Match
public import proofs.«01_k».proof.Proof.Attn.Finite

@[expose] public section

set_option maxRecDepth 16384

noncomputable section

open Idealize.ShloMosaic Idealize.ShloMosaic.TcCoe Idealize.SL.Sem

namespace Cert.Attn.Bwd

open Cert.Attn

section
open Cert.KernelIdeal Cert.KernelIdeal.Gen Cert.KernelIdeal.Value

/-- The call's four results are the reference's arrays of the same arguments. -/
theorem results (m : (ℓ : Loc nD τ sig) → Buf (Elt Ideal) ℓ) (c : Dev nD)
    (e : Pre_finite.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = fun _ => 1#1) :
    (dats m 0 c).arrAt 7 cfg0.N = ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ (dats m 0 c).arrAt 8 cfg0.N = ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ (dats m 0 c).arrAt 9 cfg0.N = ReferenceIdeal.Read.val_main_v45 (F := Ideal) (m ((c : Thread nD τ).loc main_arg0)) (m ((c : Thread nD τ).loc main_arg1)) (m ((c : Thread nD τ).loc main_arg3)) (m ((c : Thread nD τ).loc main_arg4))
    ∧ (dats m 0 c).arrAt 10 cfg0.N = ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨f0, f1, f2, f3, f4⟩ := finite_args e
  choose q hq using f0
  choose k hk using f1
  choose v hv using f2
  choose z hz using f3
  choose y hy using f4
  have q' : ∀ h r d, m ((c : Thread nD τ).loc main_arg0) (ix3 h r d) = ((q (ix3 h r d) : ℝ) : EReal) := fun h r d => hq _
  have k' : ∀ h r d, m ((c : Thread nD τ).loc main_arg1) (ix3 h r d) = ((k (ix3 h r d) : ℝ) : EReal) := fun h r d => hk _
  have v' : ∀ h r d, m ((c : Thread nD τ).loc main_arg2) (ix3 h r d) = ((v (ix3 h r d) : ℝ) : EReal) := fun h r d => hv _
  have z' : ∀ r d, m ((c : Thread nD τ).loc main_arg3) (ix2 r d) = ((z (ix2 r d) : ℝ) : EReal) := fun r d => hz _
  have y' : ∀ r d, m ((c : Thread nD τ).loc main_arg4) (ix2 r d) = ((y (ix2 r d) : ℝ) : EReal) := fun r d => hy _
  obtain ⟨r7, r8, r9, r10⟩ := finals m c
    (q := qh fun h r d => q (ix3 h r d)) (k := fun h r d => k (ix3 h r d)) (v := fun h r d => v (ix3 h r d)) (z := fun r d => z (ix2 r d))
    (o := bes (att (fun h r d => q (ix3 h r d)) (fun h r d => k (ix3 h r d)) (fun h r d => v (ix3 h r d))))
    (l := lse (fun h r d => q (ix3 h r d)) (fun h r d => k (ix3 h r d))) (y := fun r d => y (ix2 r d))
    (fun h r d => (congrFun (V6 m c) _).trans (scaledQ_real q' h r d))
    (fun h r d => (congrFun (V7 m c) _).trans (k' h r d))
    (fun h r d => (congrFun (V8 m c) _).trans (v' h r d))
    (fun r d => (congrFun (V_main_arg3 m c) _).trans (z' r d))
    (fun r d => (congrFun (V27 m c) _).trans (Ref2.v18_real q' k' v' r d))
    (fun h r => (congrFun (V44 m c) _).trans (Ref2.v58_real q' k' h r))
    (fun r d => (congrFun (V_main_arg4 m c) _).trans (y' r d))
  exact ⟨r7.trans (match_Q q' k' v' z' y').symm, r8.trans (match_K q' k' v' z' y').symm, r9.trans (match_V q' k' z' y').symm,
    r10.trans (match_G q' k' v' z' y').symm⟩

end

theorem congr5 {α β γ δ ε ζ : Type} (f : α → β → γ → δ → ε → ζ) {a a' : α} {b b' : β} {c c' : γ} {d d' : δ} {e e' : ε}
    (ha : a' = a) (hb : b' = b) (hc : c' = c) (hd : d' = d) (he : e' = e) : f a' b' c' d' e' = f a b c d e := by
  subst ha hb hc hd he; rfl

theorem claim : Cert.algebraic_KernelIdeal_ReferenceIdeal_pre_finite := by
  intro m g m' g' hpre hagree
  refine ⟨fun c => (KernelIdeal.Gen.dats m 0 c).arrAt 7 KernelIdeal.cfg0.N, fun c => (KernelIdeal.Gen.dats m 0 c).arrAt 8 KernelIdeal.cfg0.N,
    fun c => (KernelIdeal.Gen.dats m 0 c).arrAt 9 KernelIdeal.cfg0.N, fun c => (KernelIdeal.Gen.dats m 0 c).arrAt 10 KernelIdeal.cfg0.N,
    KernelIdeal.Value.run_blocks m g, ?_⟩
  refine (θ_run ReferenceIdeal.defs _ _).mono (fun r h c => ?_) (ReferenceIdeal.Value.run m' g')
  obtain ⟨h0, h1, h2, h3, hk⟩ := h c
  obtain ⟨a0, a1, a2, a3, a4⟩ := hagree c
  obtain ⟨r7, r8, r9, r10⟩ := results m c (hpre c)
  exact ⟨h0.trans ((ReferenceIdeal.Read.val_main_v66_eq m' c).trans ((congr5 (ReferenceIdeal.Read.val_main_v66 (F := Ideal)) a0 a1 a2 a3 a4).trans r7.symm)),
    h1.trans ((ReferenceIdeal.Read.val_main_v69_eq m' c).trans ((congr5 (ReferenceIdeal.Read.val_main_v69 (F := Ideal)) a0 a1 a2 a3 a4).trans r8.symm)),
    h2.trans ((ReferenceIdeal.Read.val_main_v45_eq _ _ _ _).trans ((congr5 (fun a b _ => ReferenceIdeal.Read.val_main_v45 (F := Ideal) a b) a0 a1 a2 a3 a4).trans r9.symm)),
    h3.trans ((ReferenceIdeal.Read.val_main_v70_eq m' c).trans ((congr5 (ReferenceIdeal.Read.val_main_v70 (F := Ideal)) a0 a1 a2 a3 a4).trans r10.symm)), hk⟩

end Cert.Attn.Bwd

end
-- ==== Proof.Attn.FwdPayloads.lean ====
/- What one point of the attention's grid computes, on blocks of real numbers. -/
module

public import proofs.«01_k».proof.Proof.Gen.Kernel2Ideal.Skeleton
public import proofs.«01_k».proof.Proof.Attn.Soft
public import Idealize.ShloMosaic.Lib.Pointwise

@[expose] public section

set_option maxRecDepth 16384

noncomputable section

open Idealize.ShloMosaic Idealize.ShloMosaic.TcCoe

namespace Cert.Attn.Fwd

open Cert.Kernel2Ideal Cert.Kernel2Ideal.Gen Cert.Attn

section
variable {ι : Type} (q : ι → Fin 256 → ℝ) (k : Fin 4096 → Fin 256 → ℝ) (v : Fin 4096 → Fin 128 → ℝ)

/-- A row's scores, of scaled queries. -/
def ts (r : ι) (j : Fin 4096) : ℝ := Real.log 2 * ∑ d, q r d * k j d
/-- A row's weighted values. -/
def wv (r : ι) (c : Fin 128) : ℝ := ∑ j, soft (ts q k r) j * v j c
/-- The logarithm, to the base 2, of the sum of a row's exponentials. -/
def ls (r : ι) : ℝ := Real.log (es (ts q k r)) / Real.log 2
end

variable {x0 : Vec Ideal S1x256x256 .bf16} {x1 : Vec Ideal S1x4096x256 .bf16} {x2 : Vec Ideal S1x4096x128 .bf16} {x3 : Vec Ideal S256x128 .f32}
  {q : Fin 256 → Fin 256 → ℝ} {k : Fin 4096 → Fin 256 → ℝ} {v : Fin 4096 → Fin 128 → ℝ} {g : Fin 256 → Fin 128 → ℝ}

theorem maxrow (y : FVec Ideal S256x4096 .f32) (s : Fin 256 → Fin 4096 → ℝ) (hy : ∀ i j, y (ix2 i j) = ((s i j : ℝ) : EReal)) (r : Fin 256) :
    ∃ M : ℝ, shapeCast S256x1 (multiReduction .maximumf [1] S256 y 0xFF800000#32 reduces_S256x4096_S256 (.inl rfl) rfl) shapeCasts_S256_S256x1 (ix2 r 0)
      = ((M : ℝ) : EReal) := by
  pointwise []
  simp only [hy, ofBits_bot]
  exact fold_max_real _ ⟨0, Finset.mem_univ _⟩ _

theorem expo (y : FVec Ideal S256x4096 .f32) (w : FVec Ideal S256x1 .f32) (s : Fin 256 → Fin 4096 → ℝ) (M : Fin 256 → ℝ)
    (hy : ∀ i j, y (ix2 i j) = ((s i j : ℝ) : EReal)) (hw : ∀ i, w (ix2 i 0) = ((M i : ℝ) : EReal)) (r : Fin 256) (j : Fin 4096) :
    exp2 (subf y (broadcastTo S256x4096 w broadcasts_S256x1_S256x4096)) (ix2 r j) = ((Real.exp (Real.log 2 * s r j - Real.log 2 * M r) : ℝ) : EReal) := by
  pointwise []
  rw [hy, hw, ← EReal.coe_sub, ← mul_sub]
  exact exp2_eq _

theorem rowsum (y : FVec Ideal S256x4096 .f32) (s : Fin 256 → Fin 4096 → ℝ) (hy : ∀ i j, y (ix2 i j) = ((s i j : ℝ) : EReal)) (r : Fin 256) :
    shapeCast S256x1 (multiReduction .add [1] S256 y 0x00000000#32 reduces_S256x4096_S256 (.inl rfl) rfl) shapeCasts_S256_S256x1 (ix2 r 0)
      = ((∑ j, s r j : ℝ) : EReal) := by
  pointwise []
  simp only [hy, coe_sum]

theorem L_pos (s : Fin 4096 → ℝ) (M : ℝ) : 0 < ∑ j, Real.exp (s j - M) := by
  rw [es_shift]; exact mul_pos (es_pos s) (Real.exp_pos _)

theorem quot (y : FVec Ideal S256x4096 .f32) (w : FVec Ideal S256x1 .f32) (x : Vec Ideal S1x4096x128 .bf16) (s : Fin 256 → Fin 4096 → ℝ)
    (L : Fin 256 → ℝ) (v : Fin 4096 → Fin 128 → ℝ) (hL : ∀ r, 0 < L r)
    (hy : ∀ i j, y (ix2 i j) = ((s i j : ℝ) : EReal)) (hw : ∀ i, w (ix2 i 0) = ((L i : ℝ) : EReal))
    (hx : ∀ j c, x (ix3 0 j c) = ((v j c : ℝ) : EReal)) (r : Fin 256) (c : Fin 128) :
    divf (matmul dot_S256x4096_S4096x128_S256x128_1_0_0_1_n_n none (truncf .bf16 y bitsLt_bf16_f32) (shapeCast S4096x128 x shapeCasts_S1x4096x128_S4096x128 : FVec Ideal S4096x128 .bf16)
      (constant S256x128 .f32 0x00000000#32)) (broadcastTo S256x128 w broadcasts_S256x1_S256x128) (ix2 r c)
      = ((∑ j, s r j / L r * v j c : ℝ) : EReal) := by
  pointwise []
  simp only [hy, hw, hx, ← EReal.coe_mul, coe_sum]
  rw [div_coe' _ (hL r).ne', Finset.sum_div]
  congr 1
  exact Finset.sum_congr rfl fun j _ => by ring

section
variable (hq : ∀ r c, x0 (ix3 0 r c) = ((q r c : ℝ) : EReal)) (hk : ∀ r c, x1 (ix3 0 r c) = ((k r c : ℝ) : EReal))
include hq hk

theorem pay2_apply (r : Fin 256) (j : Fin 4096) : k0_pay2 (F := Ideal) x0 x1 (ix2 r j) = ((∑ d, q r d * k j d : ℝ) : EReal) := by
  pointwise [k0_pay2]
  simp only [hq, hk, ← EReal.coe_mul, coe_sum]

/-- The row maximum is a real number; the exponentials, their sums and the sums' logarithms follow it. -/
theorem pay3_apply : ∃ M : Fin 256 → ℝ, (∀ r, k0_pay3 (F := Ideal) x0 x1 (ix2 r 0) = ((M r : ℝ) : EReal))
    ∧ (∀ r j, k0_pay4 (F := Ideal) x0 x1 (ix2 r j) = ((Real.exp (ts q k r j - Real.log 2 * M r) : ℝ) : EReal))
    ∧ (∀ r, k0_pay5 (F := Ideal) x0 x1 (ix2 r 0) = ((∑ j, Real.exp (ts q k r j - Real.log 2 * M r) : ℝ) : EReal)) := by
  have h3 := fun r => maxrow _ _ (pay2_apply hq hk) r
  choose M hM using h3
  have h4 := fun r j => expo _ _ _ _ (pay2_apply hq hk) hM r j
  exact ⟨M, hM, h4, fun r => rowsum _ _ h4 r⟩

variable (hv : ∀ r c, x2 (ix3 0 r c) = ((v r c : ℝ) : EReal))
include hv

theorem pay6_apply (r : Fin 256) (c : Fin 128) : k0_pay6 (F := Ideal) x0 x1 x2 (ix2 r c) = ((wv q k v r c : ℝ) : EReal) := by
  obtain ⟨M, h3, h4, h5⟩ := pay3_apply hq hk
  refine (quot _ _ _ _ _ _ (fun r => L_pos _ _) h4 h5 hv r c).trans ?_
  simp only [soft_shift]
  rfl

variable (hg : ∀ r c, x3 (ix2 r c) = ((g r c : ℝ) : EReal))
include hg

theorem pay7_apply (r : Fin 256) (c : Fin 128) : k0_pay7 (F := Ideal) x0 x1 x2 x3 (ix2 r c) = ((sl (g r c) * wv q k v r c : ℝ) : EReal) := by
  have h6 := pay6_apply hq hk hv r c
  unfold k0_pay7
  generalize k0_pay6 (F := Ideal) x0 x1 x2 = w at h6 ⊢
  pointwise []
  simp only [h6, hg, logi, ← EReal.coe_mul]
  rfl

omit hv hg

theorem pay1_apply (r : Fin 256) :
    k0_pay1 (F := Ideal) (k0_pay3 x0 x1) (k0_pay8 x0 x1) (k0_pay9 (F := Ideal)) (ix3 0 r 0) = ((ls q k r : ℝ) : EReal) := by
  obtain ⟨M, h3, h4, h5⟩ := pay3_apply hq hk
  have h9 : k0_pay9 (F := Ideal) (ix2 r 0) = (((Real.log 2)⁻¹ : ℝ) : EReal) := rfl
  have h5r := h5 r
  have h3r := h3 r
  unfold k0_pay8
  generalize k0_pay9 (F := Ideal) = u at h9 ⊢
  generalize k0_pay5 (F := Ideal) x0 x1 = w at h5r ⊢
  generalize k0_pay3 (F := Ideal) x0 x1 = y at h3r ⊢
  pointwise [k0_pay1]
  rw [h9, h5r, h3r, Ideal.log_coe, if_neg (not_le.mpr (L_pos _ _)), ← EReal.coe_mul, ← EReal.coe_add]
  congr 1
  have e := log_shift (ts q k r) (Real.log 2 * M r)
  have := log2_pos.ne'
  unfold ls
  rw [← e]
  field_simp

end

end Cert.Attn.Fwd

end
-- ==== Proof.Attn.FwdArrays.lean ====
/- The attention call's result arrays after the run. -/
module

public import proofs.«01_k».proof.Proof.Gen.Kernel2Ideal.Value
public import proofs.«01_k».proof.Proof.Attn.FwdPayloads

@[expose] public section

set_option maxRecDepth 16384

noncomputable section

open Idealize.ShloMosaic Idealize.ShloMosaic.TcCoe Idealize.SL.Sem
open Idealize.ShloMosaic.Pipeline (Dat)

namespace Cert.Attn.Fwd

open Cert.Kernel2Ideal Cert.Kernel2Ideal.Gen Cert.Kernel2Ideal.Value Cert.Attn

theorem lt64 (t : Fin cfg0.N) : t.val < 64 := lt_of_lt_of_eq t.isLt (show cfg0.N = 64 from N_0)

/-- The head a point works on. -/
def hd (t : Fin cfg0.N) : Fin 4 := ⟨t.val / 16, by have := lt64 t; omega⟩
/-- The row of the sequence a point's block row is. -/
def row (t : Fin cfg0.N) (r : Fin 256) : Fin 4096 := ⟨256 * (t.val % 16) + r.val, by have := r.isLt; omega⟩
/-- A head's gate columns. -/
def colG (h : Fin 4) (c : Fin 128) : Fin 6144 := ⟨5120 + 128 * h.val + c.val, by have := h.isLt; have := c.isLt; omega⟩
/-- A head's columns among the heads side by side. -/
def colO (h : Fin 4) (c : Fin 128) : Fin 512 := ⟨128 * h.val + c.val, by have := h.isLt; have := c.isLt; omega⟩
/-! ## The windows' indices -/

theorem idx0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem idx1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)
theorem idx2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem idx3 : ∀ t : Fin cfg0.N, win0_3.index t 0 = t.val % 16 ∧ win0_3.index t 1 = 40 + t.val / 16 :=
  (by decide +kernel : ∀ t : Fin grid0.N, win0_3.index t 0 = t.val % 16 ∧ win0_3.index t 1 = 40 + t.val / 16)
theorem idx4 : ∀ t : Fin cfg0.N, win0_4.index t 0 = t.val % 16 ∧ win0_4.index t 1 = t.val / 16 :=
  (by decide +kernel : ∀ t : Fin grid0.N, win0_4.index t 0 = t.val % 16 ∧ win0_4.index t 1 = t.val / 16)
theorem idx5 : ∀ t : Fin cfg0.N, win0_5.index t 0 = t.val % 16 ∧ win0_5.index t 1 = t.val / 16 :=
  (by decide +kernel : ∀ t : Fin grid0.N, win0_5.index t 0 = t.val % 16 ∧ win0_5.index t 1 = t.val / 16)
theorem idx6 : ∀ t : Fin cfg0.N, win0_6.index t 0 = t.val / 16 ∧ win0_6.index t 1 = t.val % 16 ∧ win0_6.index t 2 = 0 :=
  (by decide +kernel : ∀ t : Fin grid0.N, win0_6.index t 0 = t.val / 16 ∧ win0_6.index t 1 = t.val % 16 ∧ win0_6.index t 2 = 0)

/-! ## The input blocks -/

variable (m : (ℓ : Loc nD τ sig) → Buf (Elt Ideal) ℓ) (c : Dev nD)
  {q k : Fin 4 → Fin 4096 → Fin 256 → ℝ} {v : Fin 4 → Fin 4096 → Fin 128 → ℝ} {z : Fin 4096 → Fin 6144 → ℝ}
  (hq : ∀ h r d, V m c main_v6 (ix3 h r d) = ((q h r d : ℝ) : EReal))
  (hk : ∀ h r d, V m c main_v7 (ix3 h r d) = ((k h r d : ℝ) : EReal))
  (hv : ∀ h r d, V m c main_v8 (ix3 h r d) = ((v h r d : ℝ) : EReal))
  (hz : ∀ r j, V m c main_arg3 (ix2 r j) = ((z r j : ℝ) : EReal))

include hq in
theorem iblk0_apply (t : Fin cfg0.N) (r : Fin 256) (d : Fin 256) :
    (iblk m c 0 t : Vec Ideal S1x256x256 .bf16) (ix3 0 r d) = ((q (hd t) (row t r) d : ℝ) : EReal) := by
  unfold iblk
  rw [View.read_apply]
  refine Eq.trans ?_ (hq _ _ _)
  show V m c main_v6 _ = V m c main_v6 _
  congr 1
  funext a
  apply Fin.ext
  obtain ⟨h0, h1, h2⟩ := idx0 t
  match a with
  | ⟨0, _⟩ => show win0_0.index t 0 * 1 + 1 * 0 = t.val / 16; omega
  | ⟨1, _⟩ => show win0_0.index t 1 * 256 + 1 * r.val = 256 * (t.val % 16) + r.val; omega
  | ⟨2, _⟩ => show win0_0.index t 2 * 256 + 1 * d.val = d.val; omega

include hk in
theorem iblk1_apply (t : Fin cfg0.N) (r : Fin 4096) (d : Fin 256) :
    (iblk m c 1 t : Vec Ideal S1x4096x256 .bf16) (ix3 0 r d) = ((k (hd t) r d : ℝ) : EReal) := by
  unfold iblk
  rw [View.read_apply]
  refine Eq.trans ?_ (hk _ _ _)
  show V m c main_v7 _ = V m c main_v7 _
  congr 1
  funext a
  apply Fin.ext
  obtain ⟨h0, h1, h2⟩ := idx1 t
  match a with
  | ⟨0, _⟩ => show win0_1.index t 0 * 1 + 1 * 0 = t.val / 16; omega
  | ⟨1, _⟩ => show win0_1.index t 1 * 4096 + 1 * r.val = r.val; omega
  | ⟨2, _⟩ => show win0_1.index t 2 * 256 + 1 * d.val = d.val; omega

include hv in
theorem iblk2_apply (t : Fin cfg0.N) (r : Fin 4096) (d : Fin 128) :
    (iblk m c 2 t : Vec Ideal S1x4096x128 .bf16) (ix3 0 r d) = ((v (hd t) r d : ℝ) : EReal) := by
  unfold iblk
  rw [View.read_apply]
  refine Eq.trans ?_ (hv _ _ _)
  show V m c main_v8 _ = V m c main_v8 _
  congr 1
  funext a
  apply Fin.ext
  obtain ⟨h0, h1, h2⟩ := idx2 t
  match a with
  | ⟨0, _⟩ => show win0_2.index t 0 * 1 + 1 * 0 = t.val / 16; omega
  | ⟨1, _⟩ => show win0_2.index t 1 * 4096 + 1 * r.val = r.val; omega
  | ⟨2, _⟩ => show win0_2.index t 2 * 128 + 1 * d.val = d.val; omega

include hz in
theorem iblk3_apply (t : Fin cfg0.N) (r : Fin 256) (d : Fin 128) :
    (iblk m c 3 t : Vec Ideal S256x128 .f32) (ix2 r d) = ((z (row t r) (colG (hd t) d) : ℝ) : EReal) := by
  unfold iblk
  rw [View.read_apply]
  refine Eq.trans ?_ (hz _ _)
  show V m c main_arg3 _ = V m c main_arg3 _
  congr 1
  funext a
  apply Fin.ext
  obtain ⟨h0, h1⟩ := idx3 t
  match a with
  | ⟨0, _⟩ => show win0_3.index t 0 * 256 + 1 * r.val = 256 * (t.val % 16) + r.val; omega
  | ⟨1, _⟩ => show win0_3.index t 1 * 128 + 1 * d.val = 5120 + 128 * (t.val / 16) + d.val; omega

/-! ## What a point leaves -/

theorem hz2 : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F] [Named F]

theorem out4_eq (x0 : Vec F S1x256x256 .bf16) (x1 : Vec F S1x4096x256 .bf16) (x2 : Vec F S1x4096x128 .bf16) (x3 : Vec F S256x128 .f32) :
    out0_4 x0 x1 x2 x3 = k0_pay6 x0 x1 x2 := by
  unfold out0_4
  rw [View.canon_unit_zero hz2, View.ld_unit_zero (S := S1x256x256) hz3, View.ld_unit_zero (S := S1x4096x256) hz3, View.ld_unit_zero (S := S1x4096x128) hz3]

theorem out5_eq (x0 : Vec F S1x256x256 .bf16) (x1 : Vec F S1x4096x256 .bf16) (x2 : Vec F S1x4096x128 .bf16) (x3 : Vec F S256x128 .f32) :
    out0_5 x0 x1 x2 x3 = k0_pay7 x0 x1 x2 x3 := by
  unfold out0_5
  rw [View.canon_unit_zero hz2, View.ld_unit_zero (S := S1x256x256) hz3, View.ld_unit_zero (S := S1x4096x256) hz3, View.ld_unit_zero (S := S1x4096x128) hz3,
    View.ld_unit_zero (S := S256x128) hz2]

theorem out6_eq (x0 : Vec F S1x256x256 .bf16) (x1 : Vec F S1x4096x256 .bf16) (x2 : Vec F S1x4096x128 .bf16) (x3 : Vec F S256x128 .f32) :
    out0_6 x0 x1 x2 x3 = k0_pay1 (k0_pay3 x0 x1) (k0_pay8 x0 x1) (k0_pay9 (F := F)) := by
  unfold out0_6
  rw [View.canon_unit_zero hz3, View.ld_unit_zero (S := S1x256x256) hz3, View.ld_unit_zero (S := S1x4096x256) hz3]

/-! ## The results, as real arrays -/

section
variable (q k : Fin 4 → Fin 4096 → Fin 256 → ℝ) (v : Fin 4 → Fin 4096 → Fin 128 → ℝ) (z : Fin 4096 → Fin 6144 → ℝ)

def resO : Vec Ideal S4096x512 .f32 := fun i => ((bes (fun h => wv (q h) (k h) (v h)) (i 0) (i 1) : ℝ) : EReal)
def resY : Vec Ideal S4096x512 .bf16 := fun i =>
  ((sl (z (i 0) ⟨5120 + (i 1).val, by have := (i 1).isLt; change _ < 512 at this; omega⟩) * bes (fun h => wv (q h) (k h) (v h)) (i 0) (i 1) : ℝ) : EReal)
def resL : Vec Ideal S4x4096x1 .f32 := fun i => ((ls (q (i 0)) (k (i 0)) (i 1) : ℝ) : EReal)
end

theorem bes_colO (o : Fin 4 → Fin 4096 → Fin 128 → ℝ) (h : Fin 4) (r : Fin 4096) (c : Fin 128) : bes o r (colO h c) = o h r c := by
  unfold bes
  have := c.isLt
  have e1 : (⟨(colO h c).val / 128, by have := (colO h c).isLt; omega⟩ : Fin 4) = h := Fin.ext (by simp only [colO]; omega)
  have e2 : (⟨(colO h c).val % 128, Nat.mod_lt _ (by norm_num)⟩ : Fin 128) = c := Fin.ext (by simp only [colO]; omega)
  rw [e1, e2]

include hq hk hv

theorem flushed_O (t : Fin cfg0.N) :
    (dats m 0 c).flushed 4 t = ((cfg0.win 4).blk t).view.read (Elt Ideal) (resO q k v) := by
  rw [flushed4, out4_eq]
  funext i
  rw [View.read_apply]
  change S256x128.Idx at i
  obtain ⟨r, d, rfl⟩ : ∃ r d, i = ix2 r d := ⟨_, _, eq_ix2 i⟩
  refine (pay6_apply (iblk0_apply m c hq t) (iblk1_apply m c hk t) (iblk2_apply m c hv t) r d).trans ?_
  have e : resO q k v (ix2 (row t r) (colO (hd t) d)) = ((wv (q (hd t)) (k (hd t)) (v (hd t)) (row t r) d : ℝ) : EReal) := by
    show ((bes _ (row t r) (colO (hd t) d) : ℝ) : EReal) = _
    rw [bes_colO]
  refine e.symm.trans ?_
  show resO q k v _ = resO q k v _
  congr 1
  funext a
  apply Fin.ext
  obtain ⟨h0, h1⟩ := idx4 t
  match a with
  | ⟨0, _⟩ => show 256 * (t.val % 16) + r.val = win0_4.index t 0 * 256 + 1 * r.val; omega
  | ⟨1, _⟩ => show 128 * (t.val / 16) + d.val = win0_4.index t 1 * 128 + 1 * d.val; omega

include hz in
theorem flushed_Y (t : Fin cfg0.N) :
    (dats m 0 c).flushed 5 t = ((cfg0.win 5).blk t).view.read (Elt Ideal) (resY q k v z) := by
  rw [flushed5, out5_eq]
  funext i
  rw [View.read_apply]
  change S256x128.Idx at i
  obtain ⟨r, d, rfl⟩ : ∃ r d, i = ix2 r d := ⟨_, _, eq_ix2 i⟩
  refine (pay7_apply (iblk0_apply m c hq t) (iblk1_apply m c hk t) (iblk2_apply m c hv t) (iblk3_apply m c hz t) r d).trans ?_
  have e : resY q k v z (ix2 (row t r) (colO (hd t) d))
      = ((sl (z (row t r) (colG (hd t) d)) * wv (q (hd t)) (k (hd t)) (v (hd t)) (row t r) d : ℝ) : EReal) := by
    have ec : (⟨5120 + (colO (hd t) d).val, by have := (colO (hd t) d).isLt; omega⟩ : Fin 6144) = colG (hd t) d :=
      Fin.ext (by simp only [colO, colG]; omega)
    show ((sl (z (row t r) ⟨5120 + (colO (hd t) d).val, _⟩) * bes _ (row t r) (colO (hd t) d) : ℝ) : EReal) = _
    rw [bes_colO, ec]
  refine e.symm.trans ?_
  show resY q k v z _ = resY q k v z _
  congr 1
  funext a
  apply Fin.ext
  obtain ⟨h0, h1⟩ := idx5 t
  match a with
  | ⟨0, _⟩ => show 256 * (t.val % 16) + r.val = win0_5.index t 0 * 256 + 1 * r.val; omega
  | ⟨1, _⟩ => show 128 * (t.val / 16) + d.val = win0_5.index t 1 * 128 + 1 * d.val; omega

omit hv

theorem flushed_L (t : Fin cfg0.N) :
    (dats m 0 c).flushed 6 t = ((cfg0.win 6).blk t).view.read (Elt Ideal) (resL q k) := by
  rw [flushed6, out6_eq]
  funext i
  rw [View.read_apply]
  change S1x256x1.Idx at i
  obtain ⟨i0, r, d, rfl⟩ : ∃ i0 r d, i = ix3 i0 r d := ⟨_, _, _, eq_ix3 i⟩
  obtain rfl : i0 = 0 := Subsingleton.elim _ _
  obtain rfl : d = 0 := Subsingleton.elim _ _
  refine (pay1_apply (iblk0_apply m c hq t) (iblk1_apply m c hk t) r).trans ?_
  show resL q k (ix3 (hd t) (row t r) 0) = resL q k _
  congr 1
  funext a
  apply Fin.ext
  obtain ⟨h0, h1, h2⟩ := idx6 t
  match a with
  | ⟨0, _⟩ => show t.val / 16 = win0_6.index t 0 * 1 + 1 * 0; omega
  | ⟨1, _⟩ => show 256 * (t.val % 16) + r.val = win0_6.index t 1 * 256 + 1 * r.val; omega
  | ⟨2, _⟩ => show 0 = win0_6.index t 2 * 1 + 1 * 0; omega

omit hq hk

theorem N64 (n : ℕ) (h : n < 64) : n < cfg0.N := lt_of_lt_of_eq h (show cfg0.N = 64 from N_0).symm

theorem cover_O (i : S4096x512.Idx) : ∃ t : Fin cfg0.N, (cfg0.win 4).flush t = true ∧ i ∈ ((cfg0.win 4).blk t).view.set := by
  have b0 : (i 0 : Nat) < 4096 := (i 0).isLt
  have b1 : (i 1 : Nat) < 512 := (i 1).isLt
  refine ⟨⟨(i 1 : Nat) / 128 * 16 + (i 0 : Nat) / 256, N64 _ (by omega)⟩, flush0_4 _, ?_⟩
  generalize hs : (⟨(i 1 : Nat) / 128 * 16 + (i 0 : Nat) / 256, N64 _ (by omega)⟩ : Fin cfg0.N) = s
  have hv : s.val = (i 1 : Nat) / 128 * 16 + (i 0 : Nat) / 256 := by rw [← hs]
  obtain ⟨h0, h1⟩ := idx4 s
  show i ∈ ((View.whole main_v9_0).slice (win0_4.rect s)).set
  rw [View.set_slice_whole, Rect.mem_set_unit]
  intro a
  match a with
  | ⟨0, _⟩ => show win0_4.index s 0 * 256 ≤ (i 0 : Nat) ∧ (i 0 : Nat) < win0_4.index s 0 * 256 + 256; omega
  | ⟨1, _⟩ => show win0_4.index s 1 * 128 ≤ (i 1 : Nat) ∧ (i 1 : Nat) < win0_4.index s 1 * 128 + 128; omega

theorem cover_Y (i : S4096x512.Idx) : ∃ t : Fin cfg0.N, (cfg0.win 5).flush t = true ∧ i ∈ ((cfg0.win 5).blk t).view.set := by
  have b0 : (i 0 : Nat) < 4096 := (i 0).isLt
  have b1 : (i 1 : Nat) < 512 := (i 1).isLt
  refine ⟨⟨(i 1 : Nat) / 128 * 16 + (i 0 : Nat) / 256, N64 _ (by omega)⟩, flush0_5 _, ?_⟩
  generalize hs : (⟨(i 1 : Nat) / 128 * 16 + (i 0 : Nat) / 256, N64 _ (by omega)⟩ : Fin cfg0.N) = s
  have hv : s.val = (i 1 : Nat) / 128 * 16 + (i 0 : Nat) / 256 := by rw [← hs]
  obtain ⟨h0, h1⟩ := idx5 s
  show i ∈ ((View.whole main_v9_1).slice (win0_5.rect s)).set
  rw [View.set_slice_whole, Rect.mem_set_unit]
  intro a
  match a with
  | ⟨0, _⟩ => show win0_5.index s 0 * 256 ≤ (i 0 : Nat) ∧ (i 0 : Nat) < win0_5.index s 0 * 256 + 256; omega
  | ⟨1, _⟩ => show win0_5.index s 1 * 128 ≤ (i 1 : Nat) ∧ (i 1 : Nat) < win0_5.index s 1 * 128 + 128; omega

theorem cover_L (i : S4x4096x1.Idx) : ∃ t : Fin cfg0.N, (cfg0.win 6).flush t = true ∧ i ∈ ((cfg0.win 6).blk t).view.set := by
  have b0 : (i 0 : Nat) < 4 := (i 0).isLt
  have b1 : (i 1 : Nat) < 4096 := (i 1).isLt
  have b2 : (i 2 : Nat) < 1 := (i 2).isLt
  refine ⟨⟨(i 0 : Nat) * 16 + (i 1 : Nat) / 256, N64 _ (by omega)⟩, flush0_6 _, ?_⟩
  generalize hs : (⟨(i 0 : Nat) * 16 + (i 1 : Nat) / 256, N64 _ (by omega)⟩ : Fin cfg0.N) = s
  have hv : s.val = (i 0 : Nat) * 16 + (i 1 : Nat) / 256 := by rw [← hs]
  obtain ⟨h0, h1, h2⟩ := idx6 s
  show i ∈ ((View.whole main_v9_2).slice (win0_6.rect s)).set
  rw [View.set_slice_whole, Rect.mem_set_unit]
  intro a
  match a with
  | ⟨0, _⟩ => show win0_6.index s 0 * 1 ≤ (i 0 : Nat) ∧ (i 0 : Nat) < win0_6.index s 0 * 1 + 1; omega
  | ⟨1, _⟩ => show win0_6.index s 1 * 256 ≤ (i 1 : Nat) ∧ (i 1 : Nat) < win0_6.index s 1 * 256 + 256; omega
  | ⟨2, _⟩ => show win0_6.index s 2 * 1 ≤ (i 2 : Nat) ∧ (i 2 : Nat) < win0_6.index s 2 * 1 + 1; omega

include hq hk hv hz in
/-- The three arrays after the run. -/
theorem finals : (dats m 0 c).arrAt 4 cfg0.N = resO q k v ∧ (dats m 0 c).arrAt 5 cfg0.N = resY q k v z
    ∧ (dats m 0 c).arrAt 6 cfg0.N = resL q k :=
  ⟨(dats m 0 c).arrAt_eq_of_cover 4 _ (fun t _ => flushed_O m c hq hk hv t) cover_O,
   (dats m 0 c).arrAt_eq_of_cover 5 _ (fun t _ => flushed_Y m c hq hk hv hz t) cover_Y,
   (dats m 0 c).arrAt_eq_of_cover 6 _ (fun t _ => flushed_L m c hq hk t) cover_L⟩

end Cert.Attn.Fwd

end
-- ==== Proof.Attn.FwdClaim.lean ====
/- The attention call against its reference. -/
module

public import proofs.«01_k».proof.Defs
public import proofs.«01_k».proof.Proof.Gen.Reference2Ideal.Run
public import proofs.«01_k».proof.Proof.Attn.FwdArrays
public import proofs.«01_k».proof.Proof.Attn.RefFwd
public import proofs.«01_k».proof.Proof.Attn.Finite
public import Idealize.ShloMosaic.Lib.StableHlo.Run

@[expose] public section

set_option maxRecDepth 16384

noncomputable section

open Idealize.ShloMosaic Idealize.ShloMosaic.TcCoe Idealize.SL.Sem

namespace Cert.Attn.Fwd

open Cert.Attn

section
open Cert.Kernel2Ideal Cert.Kernel2Ideal.Gen Cert.Kernel2Ideal.Value

variable (m : (ℓ : Loc nD τ sig) → Buf (Elt Ideal) ℓ) (c : Dev nD)

/-- The scaled queries. -/
def scaledQ (x : (⟨S4x4096x256, .f32⟩ : BufTy).Contents (Elt Ideal)) : (⟨S4x4096x256, .bf16⟩ : BufTy).Contents (Elt Ideal) :=
  (truncf (F := Ideal) .bf16 (mulf (F := Ideal) (φ := .f32) x (broadcastInDim S4x4096x256 ![] bcast_S_S4x4096x256
    (Host.divf (constant (F := Ideal) S_ .f32 0x3F800000#32) (mulf (Host.sqrt (constant S_ .f32 0x43400000#32)) (Host.log (constant S_ .f32 0x40000000#32)))))) bitsLt_bf16_f32
    : FVec Ideal S4x4096x256 .bf16)

def cast256 (x : (⟨S4x4096x256, .f32⟩ : BufTy).Contents (Elt Ideal)) : (⟨S4x4096x256, .bf16⟩ : BufTy).Contents (Elt Ideal) :=
  (truncf (F := Ideal) (φ := .f32) .bf16 x bitsLt_bf16_f32 : FVec Ideal S4x4096x256 .bf16)
def cast128 (x : (⟨S4x4096x128, .f32⟩ : BufTy).Contents (Elt Ideal)) : (⟨S4x4096x128, .bf16⟩ : BufTy).Contents (Elt Ideal) :=
  (truncf (F := Ideal) (φ := .f32) .bf16 x bitsLt_bf16_f32 : FVec Ideal S4x4096x128 .bf16)

theorem scaledQ_real {x : (⟨S4x4096x256, .f32⟩ : BufTy).Contents (Elt Ideal)} {q : Fin 4 → Fin 4096 → Fin 256 → ℝ}
    (hq : ∀ h r d, x (ix3 h r d) = ((q h r d : ℝ) : EReal)) (h : Fin 4) (r : Fin 4096) (d : Fin 256) :
    scaledQ x (ix3 h r d) = ((qh q h r d : ℝ) : EReal) := by
  unfold scaledQ
  pointwise []
  rw [hq, qs_eq, ← EReal.coe_mul]
  rfl

theorem V7 : V m c main_v7 = cast256 (m ((c : Thread nD τ).loc main_arg1)) := by
  unfold V; unfold hostOps0
  after_results_simp <;> rfl

theorem V8 : V m c main_v8 = cast128 (m ((c : Thread nD τ).loc main_arg2)) := by
  unfold V; unfold hostOps0
  after_results_simp <;> rfl

theorem V6 : V m c main_v6 = scaledQ (m ((c : Thread nD τ).loc main_arg0)) := by
  unfold V; unfold hostOps0
  after_results_simp <;> rfl

theorem ts_qh (q k : Fin 4 → Fin 4096 → Fin 256 → ℝ) (h : Fin 4) (r : Fin 4096) : ts (qh q h) (k h) r = sc q k h r :=
  funext fun j => qh_dot q k h r j

theorem wv_qh (q k : Fin 4 → Fin 4096 → Fin 256 → ℝ) (v : Fin 4 → Fin 4096 → Fin 128 → ℝ) : (fun h => wv (qh q h) (k h) (v h)) = att q k v := by
  funext h r c
  unfold wv att pr
  rw [ts_qh]

theorem ls_qh (q k : Fin 4 → Fin 4096 → Fin 256 → ℝ) (h : Fin 4) (r : Fin 4096) : ls (qh q h) (k h) r = lse q k h r := by
  unfold ls lse
  rw [ts_qh]

/-- The call's three results are the reference's arrays of the same arguments. -/
theorem results
    (e : Pre_finite2.fn (F := Ideal) (m ((c : Thread nD τ).loc main_arg0)) (m ((c : Thread nD τ).loc main_arg1)) (m ((c : Thread nD τ).loc main_arg2))
      (m ((c : Thread nD τ).loc main_arg3)) = fun _ => 1#1) :
    (dats m 0 c).arrAt 4 cfg0.N = Reference2Ideal.Read.val_main_v18 (F := Ideal) (m ((c : Thread nD τ).loc main_arg0)) (m ((c : Thread nD τ).loc main_arg1)) (m ((c : Thread nD τ).loc main_arg2))
    ∧ (dats m 0 c).arrAt 5 cfg0.N = Reference2Ideal.Read.val_main_v41 (F := Ideal) (m ((c : Thread nD τ).loc main_arg0)) (m ((c : Thread nD τ).loc main_arg1)) (m ((c : Thread nD τ).loc main_arg2)) (m ((c : Thread nD τ).loc main_arg3))
    ∧ (dats m 0 c).arrAt 6 cfg0.N = Reference2Ideal.Read.val_main_v58 (F := Ideal) (m ((c : Thread nD τ).loc main_arg0)) (m ((c : Thread nD τ).loc main_arg1)) := by
  obtain ⟨f0, f1, f2, f3⟩ := finite2_args e
  choose q hq using f0
  choose k hk using f1
  choose v hv using f2
  choose z hz using f3
  have q' : ∀ h r d, m ((c : Thread nD τ).loc main_arg0) (ix3 h r d) = ((q (ix3 h r d) : ℝ) : EReal) := fun h r d => hq _
  have k' : ∀ h r d, m ((c : Thread nD τ).loc main_arg1) (ix3 h r d) = ((k (ix3 h r d) : ℝ) : EReal) := fun h r d => hk _
  have v' : ∀ h r d, m ((c : Thread nD τ).loc main_arg2) (ix3 h r d) = ((v (ix3 h r d) : ℝ) : EReal) := fun h r d => hv _
  have z' : ∀ r d, m ((c : Thread nD τ).loc main_arg3) (ix2 r d) = ((z (ix2 r d) : ℝ) : EReal) := fun r d => hz _
  obtain ⟨r4, r5, r6⟩ := finals m c
    (q := qh fun h r d => q (ix3 h r d)) (k := fun h r d => k (ix3 h r d)) (v := fun h r d => v (ix3 h r d)) (z := fun r d => z (ix2 r d))
    (fun h r d => (congrFun (V6 m c) _).trans (scaledQ_real q' h r d))
    (fun h r d => (congrFun (V7 m c) _).trans (k' h r d))
    (fun h r d => (congrFun (V8 m c) _).trans (v' h r d))
    (fun r d => (congrFun (V_main_arg3 m c) _).trans (z' r d))
  refine ⟨r4.trans ?_, r5.trans ?_, r6.trans ?_⟩
  · funext i
    change S4096x512.Idx at i
    obtain ⟨r, d, rfl⟩ : ∃ r d, i = ix2 r d := ⟨_, _, eq_ix2 i⟩
    refine Eq.trans ?_ (Ref2.v18_real q' k' v' r d).symm
    rw [← wv_qh]
    rfl
  · funext i
    change S4096x512.Idx at i
    obtain ⟨r, d, rfl⟩ : ∃ r d, i = ix2 r d := ⟨_, _, eq_ix2 i⟩
    refine Eq.trans ?_ (Ref2.v41_real q' k' v' z' r d).symm
    rw [← wv_qh]
    rfl
  · funext i
    change S4x4096x1.Idx at i
    obtain ⟨h, r, d, rfl⟩ : ∃ h r d, i = ix3 h r d := ⟨_, _, _, eq_ix3 i⟩
    obtain rfl : d = 0 := Subsingleton.elim _ _
    refine Eq.trans ?_ (Ref2.v58_real q' k' h r).symm
    rw [← ls_qh]
    rfl

end

theorem congr4 {α β γ δ ζ : Type} (f : α → β → γ → δ → ζ) {a a' : α} {b b' : β} {c c' : γ} {d d' : δ}
    (ha : a' = a) (hb : b' = b) (hc : c' = c) (hd : d' = d) : f a' b' c' d' = f a b c d := by
  subst ha hb hc hd; rfl

theorem claim : Cert.algebraic_Kernel2Ideal_Reference2Ideal_pre_finite2 := by
  intro m g m' g' hpre hagree
  refine ⟨fun c => (Kernel2Ideal.Gen.dats m 0 c).arrAt 4 Kernel2Ideal.cfg0.N, fun c => (Kernel2Ideal.Gen.dats m 0 c).arrAt 5 Kernel2Ideal.cfg0.N,
    fun c => (Kernel2Ideal.Gen.dats m 0 c).arrAt 6 Kernel2Ideal.cfg0.N,
    Kernel2Ideal.Value.run_blocks m g, ?_⟩
  refine (θ_run Reference2Ideal.defs _ _).mono (fun r h c => ?_) (Reference2Ideal.Value.run m' g')
  obtain ⟨h0, h1, h2, hk⟩ := h c
  obtain ⟨a0, a1, a2, a3⟩ := hagree c
  obtain ⟨r4, r5, r6⟩ := results m c (hpre c)
  exact ⟨h0.trans ((Reference2Ideal.Read.val_main_v18_eq _ _ _).trans ((congr4 (fun a b c _ => Reference2Ideal.Read.val_main_v18 (F := Ideal) a b c) a0 a1 a2 a3).trans r4.symm)),
    h1.trans ((Reference2Ideal.Read.val_main_v41_eq _ _ _ _).trans ((congr4 (Reference2Ideal.Read.val_main_v41 (F := Ideal)) a0 a1 a2 a3).trans r5.symm)),
    h2.trans ((Reference2Ideal.Read.val_main_v58_eq _ _).trans ((congr4 (fun a b _ _ => Reference2Ideal.Read.val_main_v58 (F := Ideal) a b) a0 a1 a2 a3).trans r6.symm)), hk⟩

end Cert.Attn.Fwd

end
-- ==== Proof.Proj.Sums.lean ====
/- A sum taken block after block: what a running total holds, and that the blocks make up the whole sum. -/
module

public import Idealize.ShloMosaic.PureOps.Ideal

@[expose] public section

noncomputable section

namespace Cert.Proj

variable {M : Type} [AddCommMonoid M]

/-- A function on the first `K` numbers, as one on all of them. -/
def ext {K : ℕ} (f : Fin K → M) (n : ℕ) : M := if h : n < K then f ⟨n, h⟩ else 0

theorem ext_lt {K : ℕ} (f : Fin K → M) {n : ℕ} (h : n < K) : ext f n = f ⟨n, h⟩ := dif_pos h

/-- The part of a sum that lies in one block. -/
def part {K : ℕ} (B : ℕ) (f : Fin K → M) (j : ℕ) : M := ∑ i : Fin B, ext f (B * j + i.val)

theorem part_eq {K : ℕ} (B : ℕ) (f : Fin K → M) (j : ℕ) (g : Fin B → M)
    (h : ∀ i : Fin B, ∃ hk : B * j + i.val < K, g i = f ⟨B * j + i.val, hk⟩) : ∑ i : Fin B, g i = part B f j :=
  Finset.sum_congr rfl fun i _ => by
    obtain ⟨hk, e⟩ := h i
    rw [e, ext_lt f hk]

theorem range_parts {K : ℕ} (B : ℕ) (f : Fin K → M) (n : ℕ) :
    ∑ j ∈ Finset.range n, part B f j = ∑ k ∈ Finset.range (B * n), ext f k := by
  induction n with
  | zero => simp
  | succ n ih =>
    rw [Finset.sum_range_succ, ih, Nat.mul_succ, Finset.sum_range_add]
    unfold part
    rw [Fin.sum_univ_eq_sum_range (fun i => ext f (B * n + i)) B]

/-- All the blocks together are the whole sum. -/
theorem sum_parts {K : ℕ} (B n : ℕ) (hK : B * n = K) (f : Fin K → M) :
    ∑ j ∈ Finset.range n, part B f j = ∑ k, f k := by
  rw [range_parts, hK, ← Fin.sum_univ_eq_sum_range]
  exact Finset.sum_congr rfl fun k _ => ext_lt f k.isLt

/-- What a total holds that starts afresh at every `n`-th point and otherwise adds the point's part to what was there. -/
theorem running {N : ℕ} (n : ℕ) (hn : 0 < n) (s : (t : ℕ) → t < N → M) (p : ℕ → ℕ → M)
    (h0 : ∀ t (ht : t < N), t % n = 0 → s t ht = p (t / n) (t % n))
    (h1 : ∀ t (ht : t < N), ¬ t % n = 0 → s t ht = s (t - 1) (Nat.lt_of_le_of_lt (Nat.sub_le _ _) ht) + p (t / n) (t % n))
    (t : ℕ) (ht : t < N) : s t ht = ∑ j ∈ Finset.range (t % n + 1), p (t / n) j := by
  induction t with
  | zero => rw [h0 0 ht (Nat.zero_mod n)]; simp
  | succ t ih =>
    by_cases hz : (t + 1) % n = 0
    · rw [h0 _ ht hz, hz]; simp
    · have hm : (t + 1) % n = t % n + 1 := by
        have h2 : t % n + 1 < n := by
          rcases Nat.lt_or_ge (t % n + 1) n with h | h
          · exact h
          · exfalso
            apply hz
            have : t % n + 1 = n := le_antisymm (Nat.mod_lt _ hn) h
            rw [Nat.add_mod, show t % n = n - 1 by omega]
            rcases Nat.eq_or_lt_of_le hn with h' | h'
            · rw [← h']
            · rw [Nat.mod_eq_of_lt h', show n - 1 + 1 = n by omega, Nat.mod_self]
        have h3 : (1 : ℕ) % n = 1 := Nat.mod_eq_of_lt (by omega)
        rw [Nat.add_mod, h3, Nat.mod_eq_of_lt h2]
      have hd : (t + 1) / n = t / n := by
        have e1 := Nat.div_add_mod (t + 1) n
        have e2 := Nat.div_add_mod t n
        rw [hm] at e1
        have e3 : n * ((t + 1) / n) = n * (t / n) := by omega
        exact Nat.eq_of_mul_eq_mul_left hn e3
      have e := h1 _ ht hz
      have e' := ih (Nat.lt_of_succ_lt ht)
      rw [hm, hd] at e ⊢
      rw [Finset.sum_range_succ, e, ← e']
      rfl

theorem snd_of {α β : Type} {p : α × β} {a : α} {b : β} (h : p = (a, b)) : p.2 = b := by rw [h]

end Cert.Proj

end
-- ==== Proof.Proj.Norm.lean ====
/- The gradient of a scaled root-mean-square normalisation, row by row: two ways to write it, equal on real numbers. -/
module

public import proofs.«01_k».proof.Proof.Attn.Reals

@[expose] public section

noncomputable section

namespace Cert.Proj

open Idealize.ShloMosaic Cert.Attn

theorem ofBits_2048 : Ideal.ofBits .f32 0x45000000#32 = ((2048 : ℝ) : EReal) := by
  simp [Ideal.ofBits, Ideal.ieee]; rw [← EReal.coe_mul]; norm_num

theorem ofBits_neg_half : Ideal.ofBits .f32 0xBF000000#32 = ((-(1 / 2) : ℝ) : EReal) := by
  simp [Ideal.ofBits, Ideal.ieee]; rw [← EReal.coe_mul]; norm_num

/-- The small constant under the root is a positive real. -/
theorem ofBits_eps : ∃ e : ℝ, 0 < e ∧ Ideal.ofBits .f32 0x358637BD#32 = ((e : ℝ) : EReal) := by
  refine ⟨8796093 * (2 ^ 43)⁻¹, by norm_num, ?_⟩
  simp [Ideal.ofBits, Ideal.ieee]

/-- One over a row's root mean square. -/
def rs (x : Fin 2048 → EReal) : EReal :=
  Ideal.rsqrt (Ideal.div (∑ d, x d * x d) (Ideal.ofBits .f32 0x45000000#32) + Ideal.ofBits .f32 0x358637BD#32)

/-- The gradient as the kernel writes it: `h` the arriving gradient's row, `x` the input's, `g` the scale, `a` the gradient that
    bypasses the normalisation. -/
def dxK (x g h : Fin 2048 → EReal) (a : EReal) (d : Fin 2048) : EReal :=
  a + rs x * (h d * g d - x d * rs x * Ideal.div (∑ e, h e * g e * (x e * rs x)) (Ideal.ofBits .f32 0x45000000#32))

/-- The mean square plus the small constant. -/
def ms (x : Fin 2048 → EReal) : EReal :=
  Ideal.div (∑ d, x d * x d) (Ideal.ofBits .f32 0x45000000#32) + Ideal.ofBits .f32 0x358637BD#32

/-- The gradient of the mean square. -/
def dms (x g h : Fin 2048 → EReal) : EReal :=
  Ideal.div ((∑ e, x e * (h e * g e)) * (Ideal.ofBits .f32 0xBF000000#32 * Ideal.div (rs x) (ms x))) (Ideal.ofBits .f32 0x45000000#32)

/-- The gradient as the chain rule gives it. -/
def dxR (x g h : Fin 2048 → EReal) (a : EReal) (d : Fin 2048) : EReal :=
  a + h d * g d * rs x + x d * dms x g h + dms x g h * x d

theorem norm_id (x g h : Fin 2048 → ℝ) (a : ℝ) (d : Fin 2048) :
    dxK (fun e => ((x e : ℝ) : EReal)) (fun e => ((g e : ℝ) : EReal)) (fun e => ((h e : ℝ) : EReal)) ((a : ℝ) : EReal) d
      = dxR (fun e => ((x e : ℝ) : EReal)) (fun e => ((g e : ℝ) : EReal)) (fun e => ((h e : ℝ) : EReal)) ((a : ℝ) : EReal) d := by
  obtain ⟨ε, he, hε⟩ := ofBits_eps
  have hs : 0 < (∑ e, x e * x e) / 2048 + ε := by
    have : 0 ≤ ∑ e, x e * x e := Finset.sum_nonneg fun e _ => mul_self_nonneg _
    positivity
  have m1 : ms (fun e => ((x e : ℝ) : EReal)) = (((∑ e, x e * x e) / 2048 + ε : ℝ) : EReal) := by
    unfold ms
    simp only [← EReal.coe_mul, coe_sum, ofBits_2048, hε]
    rw [div_coe' _ (by norm_num), ← EReal.coe_add]
  have r1 : rs (fun e => ((x e : ℝ) : EReal)) = (((Real.sqrt ((∑ e, x e * x e) / 2048 + ε))⁻¹ : ℝ) : EReal) := by
    show Ideal.rsqrt (ms (fun e => ((x e : ℝ) : EReal))) = _
    rw [m1, Ideal.rsqrt_coe, if_neg (not_lt.mpr hs.le), if_neg hs.ne']
  unfold dxK dxR dms
  rw [m1, r1]
  generalize (∑ e, x e * x e) / 2048 + ε = s at hs
  have hq : (Real.sqrt s)⁻¹ / s = (Real.sqrt s)⁻¹ * ((Real.sqrt s)⁻¹ * (Real.sqrt s)⁻¹) := by
    rw [← mul_inv, Real.mul_self_sqrt hs.le]; rfl
  simp only [ofBits_2048, ofBits_neg_half]
  rw [div_coe' _ hs.ne', hq]
  generalize (Real.sqrt s)⁻¹ = q
  simp only [← EReal.coe_mul, coe_sum]
  rw [div_coe' _ (by norm_num), div_coe' _ (by norm_num)]
  simp only [← EReal.coe_mul, ← EReal.coe_add, ← EReal.coe_sub]
  congr 1
  have hS : ∑ e, h e * g e * (x e * q) = q * ∑ e, x e * (h e * g e) := by
    rw [Finset.mul_sum]; exact Finset.sum_congr rfl fun e _ => by ring
  rw [hS]
  ring

end Cert.Proj

end
-- ==== Proof.Proj.DhRun.lean ====
/- The gradient of the normalised input: what each point of the call leaves in the running total and in its two results. -/
module

public import proofs.«01_k».proof.Proof.Gen.Kernel3Ideal.Value
public import Idealize.ShloMosaic.Lib.Tactic
public import Idealize.ShloMosaic.Lib.Pipeline.Value

@[expose] public section

set_option maxRecDepth 16384

noncomputable section

open Idealize.ShloMosaic Idealize.ShloMosaic.TcCoe Idealize.SL.Sem

namespace Cert.Proj.Dh

open Cert.Kernel3Ideal Cert.Kernel3Ideal.Gen Cert.Kernel3Ideal.Value

theorem hz2 : (![0, 0] : Fin 2 → Nat) = fun _ => 0 := funext fun a => by fin_cases a <;> rfl

variable {F : FTy → Type} [FloatOps F]
  (c : Dev nD) (i : grid0.Coords)
  (arg3 : Memref sig .tc .vmem S512x1024 .bf16) (harg3 : arg3.IsWhole) (arg4 : Memref sig .tc .vmem S1024x2048 .bf16) (harg4 : arg4.IsWhole)
  (arg5 : Memref sig .tc .vmem S512x2048 .f32) (harg5 : arg5.IsWhole) (arg6 : Memref sig .tc .vmem S1x2048 .f32) (harg6 : arg6.IsWhole)
  (arg7 : Memref sig .tc .vmem S512x2048 .f32) (harg7 : arg7.IsWhole) (arg8 : Memref sig .tc .vmem S512x2048 .f32) (harg8 : arg8.IsWhole)
  (arg9 : Memref sig .tc .vmem S1x2048 .f32) (harg9 : arg9.IsWhole) (arg10 : Memref sig .tc .vmem S512x2048 .f32) (harg10 : arg10.IsWhole)
  (x0 : Vec F S512x1024 .bf16) (x1 : Vec F S1024x2048 .bf16) (x2 : Vec F S512x2048 .f32) (x3 : Vec F S1x2048 .f32) (x4 : Vec F S512x2048 .f32)
  (xg : Vec F S1x2048 .f32) (xs : Vec F S512x2048 .f32)

/-- The first point of a run leaves its own product in the total. -/
theorem total_A (h0 : cond0_0 i) (h1 : ¬cond0_1 i) :
    sout0_A_0 c i arg3 harg3 arg4 harg4 arg5 harg5 arg6 harg6 arg7 harg7 arg8 harg8 arg9 harg9 arg10 harg10 h0 h1 x0 x1 x2 x3 x4 = k0_pay2 k0_pay1 x0 x1 := by
  unfold sout0_A_0
  rw [View.read_writes_eq_canon _ _ _ (scover0_A_0 c i arg3 harg3 arg4 harg4 arg5 harg5 arg6 harg6 arg7 harg7 arg8 harg8 arg9 harg9 arg10 harg10 h0 h1 x0 x1 x2 x3 x4)]
  unfold kernelRun0_A
  dsimp only
  sl_unfold_words
  rw [View.canon_cons_unit_zero (S := S512x2048) hz2, View.readCov_unit_zero (S := S512x2048) _ hz2]
  simp only [View.readAt_eq_ld, harg3.read_unread, harg4.read_unread, harg10.read_unread,
    View.ld_unit_zero (S := S512x1024) hz2, View.ld_unit_zero (S := S1024x2048) hz2, View.ld_unit_zero (S := S512x2048) hz2]

/-- A later point adds its product to the total. -/
theorem total_B (h0 : ¬cond0_0 i) (h1 : ¬cond0_1 i) :
    sout0_B_0 c i arg3 harg3 arg4 harg4 arg5 harg5 arg6 harg6 arg7 harg7 arg8 harg8 arg9 harg9 arg10 harg10 h0 h1 x0 x1 x2 x3 x4 xs = k0_pay2 xs x0 x1 := by
  unfold sout0_B_0
  rw [View.read_writes_eq_canon _ _ _ (scover0_B_0 c i arg3 harg3 arg4 harg4 arg5 harg5 arg6 harg6 arg7 harg7 arg8 harg8 arg9 harg9 arg10 harg10 h0 h1 x0 x1 x2 x3 x4 xs)]
  unfold kernelRun0_B
  dsimp only
  sl_unfold_words
  rw [View.canon_unit_zero hz2]
  simp only [View.readAt_eq_ld, harg3.read_unread, harg4.read_unread, harg10.read_unread,
    View.ld_unit_zero (S := S512x1024) hz2, View.ld_unit_zero (S := S1024x2048) hz2, View.ld_unit_zero (S := S512x2048) hz2]

section
variable (h0 : ¬cond0_0 i) (h1 : cond0_1 i)

theorem total_C (h2 : cond0_2 i) :
    sout0_C_0 c i arg3 harg3 arg4 harg4 arg5 harg5 arg6 harg6 arg7 harg7 arg8 harg8 arg9 harg9 arg10 harg10 h0 h1 h2 x0 x1 x2 x3 x4 xs = k0_pay2 xs x0 x1 := by
  unfold sout0_C_0
  rw [View.read_writes_eq_canon _ _ _ (scover0_C_0 c i arg3 harg3 arg4 harg4 arg5 harg5 arg6 harg6 arg7 harg7 arg8 harg8 arg9 harg9 arg10 harg10 h0 h1 h2 x0 x1 x2 x3 x4 xs)]
  unfold kernelRun0_C
  dsimp only
  sl_unfold_words
  rw [View.canon_unit_zero hz2]
  simp only [View.readAt_eq_ld, harg3.read_unread, harg4.read_unread, harg10.read_unread,
    View.ld_unit_zero (S := S512x1024) hz2, View.ld_unit_zero (S := S1024x2048) hz2, View.ld_unit_zero (S := S512x2048) hz2]

theorem total_D (h2 : ¬cond0_2 i) :
    sout0_D_0 c i arg3 harg3 arg4 harg4 arg5 harg5 arg6 harg6 arg7 harg7 arg8 harg8 arg9 harg9 arg10 harg10 h0 h1 h2 x0 x1 x2 x3 x4 xg xs = k0_pay2 xs x0 x1 := by
  unfold sout0_D_0
  rw [View.read_writes_eq_canon _ _ _ (scover0_D_0 c i arg3 harg3 arg4 harg4 arg5 harg5 arg6 harg6 arg7 harg7 arg8 harg8 arg9 harg9 arg10 harg10 h0 h1 h2 x0 x1 x2 x3 x4 xg xs)]
  unfold kernelRun0_D
  dsimp only
  sl_unfold_words
  rw [View.canon_unit_zero hz2]
  simp only [View.readAt_eq_ld, harg3.read_unread, harg4.read_unread, harg10.read_unread,
    View.ld_unit_zero (S := S512x1024) hz2, View.ld_unit_zero (S := S1024x2048) hz2, View.ld_unit_zero (S := S512x2048) hz2]

/-- The last point of a run writes the input's gradient, computed from the finished total. -/
theorem dx_C (h2 : cond0_2 i) :
    out0_C_5 c i arg3 harg3 arg4 harg4 arg5 harg5 arg6 harg6 arg7 harg7 arg8 harg8 arg9 harg9 arg10 harg10 h0 h1 h2 x0 x1 x2 x3 x4 xs
      = k0_pay7 (k0_pay2 xs x0 x1) x2 x3 x4 := by
  unfold out0_C_5
  rw [View.read_writes_eq_canon _ _ _ (cover0_C_5 c i arg3 harg3 arg4 harg4 arg5 harg5 arg6 harg6 arg7 harg7 arg8 harg8 arg9 harg9 arg10 harg10 h0 h1 h2 x0 x1 x2 x3 x4 xs)]
  unfold kernelRun0_C
  dsimp only
  sl_unfold_words
  rw [View.canon_unit_zero hz2, View.readCov_unit_zero (S := S512x2048) _ hz2]
  simp only [View.readAt_eq_ld, harg3.read_unread, harg4.read_unread, harg5.read_unread, harg6.read_unread, harg7.read_unread, harg10.read_unread,
    View.ld_unit_zero (S := S512x1024) hz2, View.ld_unit_zero (S := S1024x2048) hz2, View.ld_unit_zero (S := S512x2048) hz2, View.ld_unit_zero (S := S1x2048) hz2]

theorem dx_D (h2 : ¬cond0_2 i) :
    out0_D_5 c i arg3 harg3 arg4 harg4 arg5 harg5 arg6 harg6 arg7 harg7 arg8 harg8 arg9 harg9 arg10 harg10 h0 h1 h2 x0 x1 x2 x3 x4 xg xs
      = k0_pay7 (k0_pay2 xs x0 x1) x2 x3 x4 := by
  unfold out0_D_5
  rw [View.read_writes_eq_canon _ _ _ (cover0_D_5 c i arg3 harg3 arg4 harg4 arg5 harg5 arg6 harg6 arg7 harg7 arg8 harg8 arg9 harg9 arg10 harg10 h0 h1 h2 x0 x1 x2 x3 x4 xg xs)]
  unfold kernelRun0_D
  dsimp only
  sl_unfold_words
  rw [View.canon_unit_zero hz2, View.readCov_unit_zero (S := S512x2048) _ hz2]
  simp only [View.readAt_eq_ld, harg3.read_unread, harg4.read_unread, harg5.read_unread, harg6.read_unread, harg7.read_unread, harg10.read_unread,
    View.ld_unit_zero (S := S512x1024) hz2, View.ld_unit_zero (S := S1024x2048) hz2, View.ld_unit_zero (S := S512x2048) hz2, View.ld_unit_zero (S := S1x2048) hz2]

/-- The last point of the first run starts the scale's gradient from zero. -/
theorem dg_C (h2 : cond0_2 i) :
    out0_C_6 c i arg3 harg3 arg4 harg4 arg5 harg5 arg6 harg6 arg7 harg7 arg8 harg8 arg9 harg9 arg10 harg10 h0 h1 h2 x0 x1 x2 x3 x4 xs
      = k0_pay6 (k0_pay2 xs x0 x1) x2 k0_pay3 := by
  unfold out0_C_6
  rw [View.read_writes_eq_canon _ _ _ (cover0_C_6 c i arg3 harg3 arg4 harg4 arg5 harg5 arg6 harg6 arg7 harg7 arg8 harg8 arg9 harg9 arg10 harg10 h0 h1 h2 x0 x1 x2 x3 x4 xs)]
  unfold kernelRun0_C
  dsimp only
  sl_unfold_words
  rw [View.canon_cons_unit_zero (S := S1x2048) hz2, View.readCov_unit_zero (S := S512x2048) _ hz2, View.readCov_unit_zero (S := S1x2048) _ hz2]
  simp only [View.readAt_eq_ld, harg3.read_unread, harg4.read_unread, harg5.read_unread, harg6.read_unread, harg7.read_unread, harg10.read_unread,
    View.ld_unit_zero (S := S512x1024) hz2, View.ld_unit_zero (S := S1024x2048) hz2, View.ld_unit_zero (S := S512x2048) hz2, View.ld_unit_zero (S := S1x2048) hz2]

/-- The last point of a later run adds its rows to the scale's gradient. -/
theorem dg_D (h2 : ¬cond0_2 i) :
    out0_D_6 c i arg3 harg3 arg4 harg4 arg5 harg5 arg6 harg6 arg7 harg7 arg8 harg8 arg9 harg9 arg10 harg10 h0 h1 h2 x0 x1 x2 x3 x4 xg xs
      = k0_pay6 (k0_pay2 xs x0 x1) x2 xg := by
  unfold out0_D_6
  rw [View.read_writes_eq_canon _ _ _ (cover0_D_6 c i arg3 harg3 arg4 harg4 arg5 harg5 arg6 harg6 arg7 harg7 arg8 harg8 arg9 harg9 arg10 harg10 h0 h1 h2 x0 x1 x2 x3 x4 xg xs)]
  unfold kernelRun0_D
  dsimp only
  sl_unfold_words
  rw [View.canon_unit_zero hz2, View.readCov_unit_zero (S := S512x2048) _ hz2]
  simp only [View.readAt_eq_ld, harg3.read_unread, harg4.read_unread, harg5.read_unread, harg6.read_unread, harg7.read_unread, harg9.read_unread, harg10.read_unread,
    View.ld_unit_zero (S := S512x1024) hz2, View.ld_unit_zero (S := S1024x2048) hz2, View.ld_unit_zero (S := S512x2048) hz2, View.ld_unit_zero (S := S1x2048) hz2]
end

/-- The other points leave the scale's gradient as it was. -/
theorem dg_A (h0 : cond0_0 i) (h1 : ¬cond0_1 i) :
    out0_A_6 c i arg3 harg3 arg4 harg4 arg5 harg5 arg6 harg6 arg7 harg7 arg8 harg8 arg9 harg9 arg10 harg10 h0 h1 x0 x1 x2 x3 x4 xg = xg := rfl

theorem dg_B (h0 : ¬cond0_0 i) (h1 : ¬cond0_1 i) :
    out0_B_6 c i arg3 harg3 arg4 harg4 arg5 harg5 arg6 harg6 arg7 harg7 arg8 harg8 arg9 harg9 arg10 harg10 h0 h1 x0 x1 x2 x3 x4 xs xg = xg := rfl

end Cert.Proj.Dh

end
-- ==== Proof.Proj.Dh.lean ====
/- The gradient of the normalised input: the running totals, the input's gradient and the scale's gradient. -/
module

public import proofs.«01_k».proof.Defs
public import proofs.«01_k».proof.Proof.Gen.Reference3Ideal.Run
public import proofs.«01_k».proof.Proof.Gen.Reference3Ideal.Read
public import proofs.«01_k».proof.Proof.Gen.Pre_finite3
public import proofs.«01_k».proof.Proof.Attn.Finite
public import proofs.«01_k».proof.Proof.Proj.Sums
public import proofs.«01_k».proof.Proof.Proj.Norm
public import proofs.«01_k».proof.Proof.Proj.DhRun
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem

namespace Cert.Proj.Dh

section
open Cert.Kernel3Ideal Cert.Kernel3Ideal.Gen Cert.Kernel3Ideal.Value

/-! ## The stored values at an index -/

theorem pay1_apply (r : Fin 512) (d : Fin 2048) : (k0_pay1 (F := Ideal) : Vec Ideal S512x2048 .f32) (ix2 r d) = 0 := by
  pointwise [k0_pay1]

theorem pay2_apply (v : Vec Ideal S512x2048 .f32) (a : Vec Ideal S512x1024 .bf16) (b : Vec Ideal S1024x2048 .bf16) (r : Fin 512) (d : Fin 2048) :
    k0_pay2 (F := Ideal) v a b (ix2 r d) = v (ix2 r d) + ∑ k : Fin 1024, a (ix2 r k) * b (ix2 k d) := by
  pointwise [k0_pay2]

theorem pay3_apply (d : Fin 2048) : (k0_pay3 (F := Ideal) : Vec Ideal S1x2048 .f32) (ix2 0 d) = 0 := by
  pointwise [k0_pay3]

theorem pay4_apply (v : Vec Ideal S512x2048 .f32) (r : Fin 512) (o : Fin 1) : k0_pay4 (F := Ideal) v (ix2 r o) = rs fun e => v (ix2 r e) := by
  unfold rs
  pointwise [k0_pay4]

theorem pay5_apply (v : Vec Ideal S512x2048 .f32) (r : Fin 512) (d : Fin 2048) :
    k0_pay5 (F := Ideal) v (ix2 r d) = v (ix2 r d) * rs fun e => v (ix2 r e) := by
  pointwise [k0_pay5]
  rw [pay4_apply]

theorem pay6_apply (h x : Vec Ideal S512x2048 .f32) (v : Vec Ideal S1x2048 .f32) (d : Fin 2048) :
    k0_pay6 (F := Ideal) h x v (ix2 0 d) = v (ix2 0 d) + ∑ r : Fin 512, h (ix2 r d) * (x (ix2 r d) * rs fun e => x (ix2 r e)) := by
  pointwise [k0_pay6]
  simp only [pay5_apply]

theorem pay7_apply (h x : Vec Ideal S512x2048 .f32) (g : Vec Ideal S1x2048 .f32) (a : Vec Ideal S512x2048 .f32) (r : Fin 512) (d : Fin 2048) :
    k0_pay7 (F := Ideal) h x g a (ix2 r d)
      = dxK (fun e => x (ix2 r e)) (fun e => g (ix2 0 e)) (fun e => h (ix2 r e)) (a (ix2 r d)) d := by
  unfold dxK
  pointwise [k0_pay7]
  simp only [pay5_apply, pay4_apply]

/-! ## The blocks -/

theorem idx0 : ∀ t : Fin cfg0.N, win0_0.index t 0 = t.val / 6 ∧ win0_0.index t 1 = t.val % 6 :=
  (by decide +kernel : ∀ t : Fin grid0.N, win0_0.index t 0 = t.val / 6 ∧ win0_0.index t 1 = t.val % 6)
theorem idx1 : ∀ t : Fin cfg0.N, win0_1.index t 0 = t.val % 6 ∧ win0_1.index t 1 = 0 :=
  (by decide +kernel : ∀ t : Fin grid0.N, win0_1.index t 0 = t.val % 6 ∧ win0_1.index t 1 = 0)
theorem idx2 : ∀ t : Fin cfg0.N, win0_2.index t 0 = t.val / 6 ∧ win0_2.index t 1 = 0 :=
  (by decide +kernel : ∀ t : Fin grid0.N, win0_2.index t 0 = t.val / 6 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val / 6 ∧ win0_4.index t 1 = 0 :=
  (by decide +kernel : ∀ t : Fin grid0.N, win0_4.index t 0 = t.val / 6 ∧ win0_4.index t 1 = 0)
theorem idx5 : ∀ t : Fin cfg0.N, win0_5.index t 0 = t.val / 6 ∧ win0_5.index t 1 = 0 :=
  (by decide +kernel : ∀ t : Fin grid0.N, win0_5.index t 0 = t.val / 6 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)

theorem lt48 (t : Fin cfg0.N) : t.val < 48 := lt_of_lt_of_eq t.isLt (show cfg0.N = 48 from N_0)

variable (m : (ℓ : Loc nD τ sig) → Buf (Elt Ideal) ℓ) (c : Dev nD)

/-- The five arguments: the input, the scale, the weight transposed, the bypassing gradient and the arriving gradient. -/
def xA : Vec Ideal S4096x2048 .f32 := m ((c : Thread nD τ).loc main_arg0)
def gA : Vec Ideal S1x2048 .f32 := m ((c : Thread nD τ).loc main_arg1)
def wA : Vec Ideal S6144x2048 .bf16 := m ((c : Thread nD τ).loc main_arg2)
def aA : Vec Ideal S4096x2048 .f32 := m ((c : Thread nD τ).loc main_arg3)
def zA : Vec Ideal S4096x6144 .bf16 := m ((c : Thread nD τ).loc main_arg4)

/-- The summands of the gradient of the normalised input. -/
def tm (r d : ℕ) (k : Fin 6144) : EReal :=
  if hr : r < 4096 then if hd : d < 2048 then zA m c (ix2 ⟨r, hr⟩ k) * wA m c (ix2 k ⟨d, hd⟩) else 0 else 0

/-- The gradient of the normalised input. -/
def dh (r d : ℕ) : EReal := ∑ k, tm m c r d k

/-- A row of the input. -/
def xr (r : ℕ) (d : Fin 2048) : EReal := if hr : r < 4096 then xA m c (ix2 ⟨r, hr⟩ d) else 0

theorem blk0 (t : Fin cfg0.N) (r : Fin 512) (k : Fin 1024) : (iblk m c 0 t : Vec Ideal S512x1024 .bf16) (ix2 r k)
    = zA m c (ix2 ⟨512 * (t.val / 6) + r.val, by have := lt48 t; have := r.isLt; omega⟩ ⟨1024 * (t.val % 6) + k.val, by have := k.isLt; omega⟩) := by
  unfold iblk
  rw [View.read_apply]
  refine Eq.trans ?_ (congrFun (V_main_arg4 m c) _)
  show V m c main_arg4 _ = V m c main_arg4 _
  congr 1
  funext a
  apply Fin.ext
  obtain ⟨h0, h1⟩ := idx0 t
  match a with
  | ⟨0, _⟩ => show win0_0.index t 0 * 512 + 1 * r.val = 512 * (t.val / 6) + r.val; omega
  | ⟨1, _⟩ => show win0_0.index t 1 * 1024 + 1 * k.val = 1024 * (t.val % 6) + k.val; omega

theorem blk1 (t : Fin cfg0.N) (k : Fin 1024) (d : Fin 2048) : (iblk m c 1 t : Vec Ideal S1024x2048 .bf16) (ix2 k d)
    = wA m c (ix2 ⟨1024 * (t.val % 6) + k.val, by have := k.isLt; omega⟩ d) := by
  unfold iblk
  rw [View.read_apply]
  refine Eq.trans ?_ (congrFun (V_main_arg2 m c) _)
  show V m c main_arg2 _ = V m c main_arg2 _
  congr 1
  funext a
  apply Fin.ext
  obtain ⟨h0, h1⟩ := idx1 t
  match a with
  | ⟨0, _⟩ => show win0_1.index t 0 * 1024 + 1 * k.val = 1024 * (t.val % 6) + k.val; omega
  | ⟨1, _⟩ => show win0_1.index t 1 * 2048 + 1 * d.val = d.val; omega

theorem blk2 (t : Fin cfg0.N) (r : Fin 512) (d : Fin 2048) : (iblk m c 2 t : Vec Ideal S512x2048 .f32) (ix2 r d)
    = xA m c (ix2 ⟨512 * (t.val / 6) + r.val, by have := lt48 t; have := r.isLt; omega⟩ d) := by
  unfold iblk
  rw [View.read_apply]
  refine Eq.trans ?_ (congrFun (V_main_arg0 m c) _)
  show V m c main_arg0 _ = V m c main_arg0 _
  congr 1
  funext a
  apply Fin.ext
  obtain ⟨h0, h1⟩ := idx2 t
  match a with
  | ⟨0, _⟩ => show win0_2.index t 0 * 512 + 1 * r.val = 512 * (t.val / 6) + r.val; omega
  | ⟨1, _⟩ => show win0_2.index t 1 * 2048 + 1 * d.val = d.val; omega

theorem blk3 (t : Fin cfg0.N) (r : Fin 1) (d : Fin 2048) : (iblk m c 3 t : Vec Ideal S1x2048 .f32) (ix2 r d)
    = gA m c (ix2 r d) := by
  unfold iblk
  rw [View.read_apply]
  refine Eq.trans ?_ (congrFun (V_main_arg1 m c) _)
  show V m c main_arg1 _ = V m c main_arg1 _
  congr 1
  funext a
  apply Fin.ext
  obtain ⟨h0, h1⟩ := idx3 t
  match a with
  | ⟨0, _⟩ => show win0_3.index t 0 * 1 + 1 * r.val = r.val; omega
  | ⟨1, _⟩ => show win0_3.index t 1 * 2048 + 1 * d.val = d.val; omega

theorem blk4 (t : Fin cfg0.N) (r : Fin 512) (d : Fin 2048) : (iblk m c 4 t : Vec Ideal S512x2048 .f32) (ix2 r d)
    = aA m c (ix2 ⟨512 * (t.val / 6) + r.val, by have := lt48 t; have := r.isLt; omega⟩ d) := by
  unfold iblk
  rw [View.read_apply]
  refine Eq.trans ?_ (congrFun (V_main_arg3 m c) _)
  show V m c main_arg3 _ = V m c main_arg3 _
  congr 1
  funext a
  apply Fin.ext
  obtain ⟨h0, h1⟩ := idx4 t
  match a with
  | ⟨0, _⟩ => show win0_4.index t 0 * 512 + 1 * r.val = 512 * (t.val / 6) + r.val; omega
  | ⟨1, _⟩ => show win0_4.index t 1 * 2048 + 1 * d.val = d.val; omega

theorem xrow (t : Fin cfg0.N) (r : Fin 512) (d : Fin 2048) :
    (iblk m c 2 t : Vec Ideal S512x2048 .f32) (ix2 r d) = xr m c (512 * (t.val / 6) + r.val) d := by
  rw [blk2]
  unfold xr
  rw [dif_pos]

/-! ## What each point leaves -/

theorem fst_of {α β γ : Type} {p : α × β × γ} {a : α} {b : β} {d : γ} (h : p = (a, b, d)) : p.1 = a := by rw [h]
theorem mid_of {α β γ : Type} {p : α × β × γ} {a : α} {b : β} {d : γ} (h : p = (a, b, d)) : p.2.1 = b := by rw [h]
theorem last_of {α β γ : Type} {p : α × β × γ} {a : α} {b : β} {d : γ} (h : p = (a, b, d)) : p.2.2 = d := by rw [h]

theorem tot_A (t : Fin cfg0.N) (h0 : t.val % 6 = 0) (h1 : ¬ t.val % 6 = 5) :
    (outsAt0 m c t.val t.isLt).2.2 = k0_pay2 (F := Ideal) (k0_pay1 (F := Ideal)) (iblk m c 0 t) (iblk m c 1 t) :=
  (last_of (outsAt0_A m c t h0 h1)).trans (total_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) ((hcond0_0 t).mpr h0) (fun h' => h1 ((hcond0_1 t).mp h')))

theorem tot_B (t : Fin cfg0.N) (h0 : ¬ t.val % 6 = 0) (h1 : ¬ t.val % 6 = 5) :
    (outsAt0 m c t.val t.isLt).2.2 = k0_pay2 (F := Ideal) (outsAt0 m c (t.val - 1) (Nat.lt_of_le_of_lt (Nat.sub_le _ _) t.isLt)).2.2 (iblk m c 0 t) (iblk m c 1 t) :=
  (last_of (outsAt0_B m c t h0 h1)).trans (total_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (outsAt0 m c (t.val - 1) (Nat.lt_of_le_of_lt (Nat.sub_le _ _) t.isLt)).2.2 (fun h' => h0 ((hcond0_0 t).mp h')) (fun h' => h1 ((hcond0_1 t).mp h')))

theorem tot_C (t : Fin cfg0.N) (h0 : ¬ t.val % 6 = 0) (h1 : t.val % 6 = 5) (h2 : t.val < 6) :
    (outsAt0 m c t.val t.isLt).2.2 = k0_pay2 (F := Ideal) (outsAt0 m c (t.val - 1) (Nat.lt_of_le_of_lt (Nat.sub_le _ _) t.isLt)).2.2 (iblk m c 0 t) (iblk m c 1 t) :=
  (last_of (outsAt0_C m c t h0 h1 h2)).trans (total_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (outsAt0 m c (t.val - 1) (Nat.lt_of_le_of_lt (Nat.sub_le _ _) t.isLt)).2.2 (fun h' => h0 ((hcond0_0 t).mp h')) ((hcond0_1 t).mpr h1) ((hcond0_2 t).mpr h2))

theorem tot_D (t : Fin cfg0.N) (h0 : ¬ t.val % 6 = 0) (h1 : t.val % 6 = 5) (h2 : ¬ t.val < 6) :
    (outsAt0 m c t.val t.isLt).2.2 = k0_pay2 (F := Ideal) (outsAt0 m c (t.val - 1) (Nat.lt_of_le_of_lt (Nat.sub_le _ _) t.isLt)).2.2 (iblk m c 0 t) (iblk m c 1 t) :=
  (last_of (outsAt0_D m c t h0 h1 h2)).trans (total_D (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (fun h' => h0 ((hcond0_0 t).mp h')) ((hcond0_1 t).mpr h1) (fun h' => h2 ((hcond0_2 t).mp h')))

/-- The input's gradient at the last point of a run, from the finished total. -/
theorem dx_last (t : Fin cfg0.N) (h0 : ¬ t.val % 6 = 0) (h1 : t.val % 6 = 5) :
    (outsAt0 m c t.val t.isLt).1 = k0_pay7 (F := Ideal) (outsAt0 m c t.val t.isLt).2.2 (iblk m c 2 t) (iblk m c 3 t) (iblk m c 4 t) := by
  by_cases h2 : t.val < 6
  · exact ((fst_of (outsAt0_C m c t h0 h1 h2)).trans (dx_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (outsAt0 m c (t.val - 1) (Nat.lt_of_le_of_lt (Nat.sub_le _ _) t.isLt)).2.2 (fun h' => h0 ((hcond0_0 t).mp h')) ((hcond0_1 t).mpr h1) ((hcond0_2 t).mpr h2))).trans
      (congrArg (fun v => k0_pay7 (F := Ideal) v (iblk m c 2 t) (iblk m c 3 t) (iblk m c 4 t)) (tot_C m c t h0 h1 h2).symm)
  · exact ((fst_of (outsAt0_D m c t h0 h1 h2)).trans (dx_D (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (fun h' => h0 ((hcond0_0 t).mp h')) ((hcond0_1 t).mpr h1) (fun h' => h2 ((hcond0_2 t).mp h')))).trans
      (congrArg (fun v => k0_pay7 (F := Ideal) v (iblk m c 2 t) (iblk m c 3 t) (iblk m c 4 t)) (tot_D m c t h0 h1 h2).symm)

theorem dg_first (t : Fin cfg0.N) (h0 : ¬ t.val % 6 = 0) (h1 : t.val % 6 = 5) (h2 : t.val < 6) :
    (outsAt0 m c t.val t.isLt).2.1 = k0_pay6 (F := Ideal) (outsAt0 m c t.val t.isLt).2.2 (iblk m c 2 t) (k0_pay3 (F := Ideal)) :=
  ((mid_of (outsAt0_C m c t h0 h1 h2)).trans (dg_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (outsAt0 m c (t.val - 1) (Nat.lt_of_le_of_lt (Nat.sub_le _ _) t.isLt)).2.2 (fun h' => h0 ((hcond0_0 t).mp h')) ((hcond0_1 t).mpr h1) ((hcond0_2 t).mpr h2))).trans
    (congrArg (fun v => k0_pay6 (F := Ideal) v (iblk m c 2 t) (k0_pay3 (F := Ideal))) (tot_C m c t h0 h1 h2).symm)

theorem dg_later (t : Fin cfg0.N) (h0 : ¬ t.val % 6 = 0) (h1 : t.val % 6 = 5) (h2 : ¬ t.val < 6) :
    (outsAt0 m c t.val t.isLt).2.1 = k0_pay6 (F := Ideal) (outsAt0 m c t.val t.isLt).2.2 (iblk m c 2 t) (outsAt0 m c (t.val - 1) (Nat.lt_of_le_of_lt (Nat.sub_le _ _) t.isLt)).2.1 :=
  ((mid_of (outsAt0_D m c t h0 h1 h2)).trans (dg_D (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (fun h' => h0 ((hcond0_0 t).mp h')) ((hcond0_1 t).mpr h1) (fun h' => h2 ((hcond0_2 t).mp h')))).trans
    (congrArg (fun v => k0_pay6 (F := Ideal) v (iblk m c 2 t) (outsAt0 m c (t.val - 1) (Nat.lt_of_le_of_lt (Nat.sub_le _ _) t.isLt)).2.1) (tot_D m c t h0 h1 h2).symm)

theorem dg_kept (t : Fin cfg0.N) (h1 : ¬ t.val % 6 = 5) : (outsAt0 m c t.val t.isLt).2.1 = (outsAt0 m c (t.val - 1) (Nat.lt_of_le_of_lt (Nat.sub_le _ _) t.isLt)).2.1 := by
  by_cases h0 : t.val % 6 = 0
  · exact (mid_of (outsAt0_A m c t h0 h1)).trans (dg_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (outsAt0 m c (t.val - 1) (Nat.lt_of_le_of_lt (Nat.sub_le _ _) t.isLt)).2.1 ((hcond0_0 t).mpr h0) (fun h' => h1 ((hcond0_1 t).mp h')))
  · exact (mid_of (outsAt0_B m c t h0 h1)).trans (dg_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (fun h' => h0 ((hcond0_0 t).mp h')) (fun h' => h1 ((hcond0_1 t).mp h')))

/-! ## The totals -/

theorem step (t : Fin cfg0.N) (v : Vec Ideal S512x2048 .f32) (r : Fin 512) (d : Fin 2048) :
    k0_pay2 (F := Ideal) v (iblk m c 0 t) (iblk m c 1 t) (ix2 r d)
      = v (ix2 r d) + part 1024 (tm m c (512 * (t.val / 6) + r.val) d.val) (t.val % 6) := by
  rw [pay2_apply]
  congr 1
  refine part_eq 1024 _ _ _ fun k => ⟨by have := k.isLt; omega, ?_⟩
  have := lt48 t
  have := r.isLt
  rw [blk0, blk1]
  unfold tm
  rw [dif_pos (by omega), dif_pos d.isLt]

theorem sums (t : Fin cfg0.N) (r : Fin 512) (d : Fin 2048) : (outsAt0 m c t.val t.isLt).2.2 (ix2 r d)
    = ∑ j ∈ Finset.range (t.val % 6 + 1), part 1024 (tm m c (512 * (t.val / 6) + r.val) d.val) j := by
  refine running 6 (by norm_num) (fun n hn => (outsAt0 m c n hn).2.2 (ix2 r d)) (fun q j => part 1024 (tm m c (512 * q + r.val) d.val) j)
    (fun n hn h => ?_) (fun n hn h => ?_) t.val t.isLt
  · refine (congrFun (tot_A m c ⟨n, hn⟩ h (by show ¬ n % 6 = 5; omega)) (ix2 r d)).trans ?_
    rw [step m c ⟨n, hn⟩, pay1_apply, zero_add]
  · by_cases h1 : n % 6 = 5
    · by_cases h2 : n < 6
      · exact (congrFun (tot_C m c ⟨n, hn⟩ h h1 h2) (ix2 r d)).trans (step m c ⟨n, hn⟩ _ r d)
      · exact (congrFun (tot_D m c ⟨n, hn⟩ h h1 h2) (ix2 r d)).trans (step m c ⟨n, hn⟩ _ r d)
    · exact (congrFun (tot_B m c ⟨n, hn⟩ h h1) (ix2 r d)).trans (step m c ⟨n, hn⟩ _ r d)

/-- The finished total of a run. -/
theorem total (t : Fin cfg0.N) (h : t.val % 6 = 5) (r : Fin 512) (d : Fin 2048) :
    (outsAt0 m c t.val t.isLt).2.2 (ix2 r d) = dh m c (512 * (t.val / 6) + r.val) d.val := by
  refine (sums m c t r d).trans ?_
  rw [h, show 5 + 1 = 6 from rfl, sum_parts 1024 6 (by norm_num : 1024 * 6 = 6144)]
  rfl

/-! ## The input's gradient -/

def resX : Vec Ideal S4096x2048 .f32 := fun i =>
  dxK (xr m c (i 0).val) (fun e => gA m c (ix2 0 e)) (fun e => dh m c (i 0).val e.val) (aA m c i) (i 1)

theorem dx_val (t : Fin cfg0.N) (h : t.val % 6 = 5) (r : Fin 512) (d : Fin 2048) :
    (outsAt0 m c t.val t.isLt).1 (ix2 r d) = resX m c (ix2 ⟨512 * (t.val / 6) + r.val, by have := lt48 t; have := r.isLt; omega⟩ d) := by
  refine (congrFun (dx_last m c t (by omega) h) (ix2 r d)).trans ((pay7_apply _ _ _ _ r d).trans ?_)
  simp only [total m c t h, xrow, blk3, blk4]
  rfl

theorem flushed_x (t : Fin cfg0.N) (h : t.val % 6 = 5) :
    (dats m 0 c).flushed 5 t = ((cfg0.win 5).blk t).view.read (Elt Ideal) (resX m c) := by
  rw [flushed5 m c t]
  funext i
  rw [View.read_apply]
  change S512x2048.Idx at i
  obtain ⟨r, d, rfl⟩ : ∃ r d, i = ix2 r d := ⟨_, _, eq_ix2 i⟩
  refine (dx_val m c t h r d).trans (congrArg (resX m c) ?_)
  obtain ⟨i0, i1⟩ := idx5 t
  funext a
  apply Fin.ext
  match a with
  | ⟨0, _⟩ => show 512 * (t.val / 6) + r.val = win0_5.index t 0 * 512 + 1 * r.val; omega
  | ⟨1, _⟩ => show d.val = win0_5.index t 1 * 2048 + 1 * d.val; omega

theorem final_x : (dats m 0 c).arrAt 5 cfg0.N = resX m c :=
  (dats m 0 c).arrAt_eq_of_cover 5 _ (fun t hf => flushed_x m c t ((flush0_5 t).mp hf)) (fun i => (covered_iff5 i).2 (by
    have h0 : (i 0).val < 4096 := (i 0).isLt
    have h1 : (i 1).val < 2048 := (i 1).isLt
    omega))

/-! ## The scale's gradient -/

/-- The summands of the scale's gradient. -/
def tg (d : ℕ) (k : Fin 4096) : EReal := if hd : d < 2048 then dh m c k.val d * (xr m c k.val ⟨d, hd⟩ * rs (xr m c k.val)) else 0

theorem stepg (t : Fin cfg0.N) (h : t.val % 6 = 5) (v : Vec Ideal S1x2048 .f32) (d : Fin 2048) :
    k0_pay6 (F := Ideal) (outsAt0 m c t.val t.isLt).2.2 (iblk m c 2 t) v (ix2 0 d) = v (ix2 0 d) + part 512 (tg m c d.val) (t.val / 6) := by
  refine (pay6_apply _ _ v d).trans (congrArg (v (ix2 0 d) + ·) ?_)
  refine part_eq 512 _ _ _ fun r => ⟨by have := r.isLt; have := lt48 t; omega, ?_⟩
  simp only [total m c t h, xrow]
  unfold tg
  rw [dif_pos d.isLt]

theorem sumsg (n : ℕ) : ∀ (hn : n < cfg0.N) (h5 : 5 ≤ n) (d : Fin 2048), (outsAt0 m c n hn).2.1 (ix2 0 d)
    = ∑ j ∈ Finset.range ((n + 1) / 6), part 512 (tg m c d.val) j := by
  induction n with
  | zero => intro hn h5; omega
  | succ n ih =>
    intro hn h5 d
    by_cases h1 : (n + 1) % 6 = 5
    · by_cases h2 : n + 1 < 6
      · obtain rfl : n = 4 := by omega
        refine (congrFun (dg_first m c ⟨4 + 1, hn⟩ (by show ¬ (4 + 1) % 6 = 0; decide) h1 h2) (ix2 0 d)).trans ((stepg m c ⟨4 + 1, hn⟩ h1 _ d).trans ?_)
        rw [pay3_apply, zero_add]
        simp
      · refine (congrFun (dg_later m c ⟨n + 1, hn⟩ (by show ¬ (n + 1) % 6 = 0; omega) h1 h2) (ix2 0 d)).trans ((stepg m c ⟨n + 1, hn⟩ h1 _ d).trans ?_)
        rw [show (n + 1 + 1) / 6 = (n + 1) / 6 + 1 by omega, Finset.sum_range_succ]
        exact congrArg (· + part 512 (tg m c d.val) ((n + 1) / 6)) (ih (Nat.lt_of_succ_lt hn) (by omega) d)
    · refine (congrFun (dg_kept m c ⟨n + 1, hn⟩ h1) (ix2 0 d)).trans ((ih (Nat.lt_of_succ_lt hn) (by omega) d).trans ?_)
      rw [show (n + 1 + 1) / 6 = (n + 1) / 6 by omega]

def resG : Vec Ideal S1x2048 .f32 := fun i => ∑ k, tg m c (i 1).val k

theorem flushed_g (t : Fin cfg0.N) (h : t.val % 48 = 47) :
    (dats m 0 c).flushed 6 t = ((cfg0.win 6).blk t).view.read (Elt Ideal) (resG m c) := by
  rw [flushed6 m c t]
  funext i
  rw [View.read_apply]
  change S1x2048.Idx at i
  obtain ⟨o, d, rfl⟩ : ∃ o d, i = ix2 o d := ⟨_, _, eq_ix2 i⟩
  obtain rfl : o = 0 := Subsingleton.elim _ _
  have := lt48 t
  refine (sumsg m c t.val t.isLt (by omega) d).trans ?_
  rw [show (t.val + 1) / 6 = 8 by omega, sum_parts 512 8 (by norm_num : 512 * 8 = 4096)]
  refine congrArg (fun n => ∑ k, tg m c n k) ?_
  obtain ⟨i0, i1⟩ := idx6 t
  show d.val = win0_6.index t 1 * 2048 + 1 * d.val
  omega

theorem final_g : (dats m 0 c).arrAt 6 cfg0.N = resG m c :=
  (dats m 0 c).arrAt_eq_of_cover 6 _ (fun t hf => flushed_g m c t ((flush0_6 t).mp hf)) (fun i => (covered_iff6 i).2 (by
    have h0 : (i 0).val < 1 := (i 0).isLt
    have h1 : (i 1).val < 2048 := (i 1).isLt
    omega))

end

/-! ## The reference -/

section
open Cert.Reference3Ideal Cert.Reference3Ideal.Read

variable (x0 : (⟨S4096x2048, .f32⟩ : BufTy).Contents (Elt Ideal)) (x1 : (⟨S1x2048, .f32⟩ : BufTy).Contents (Elt Ideal))
  (x2 : (⟨S6144x2048, .bf16⟩ : BufTy).Contents (Elt Ideal)) (x3 : (⟨S4096x2048, .f32⟩ : BufTy).Contents (Elt Ideal))
  (x4 : (⟨S4096x6144, .bf16⟩ : BufTy).Contents (Elt Ideal))

theorem v6_apply (r : Fin 4096) : val_main_v6 (F := Ideal) x0 (ix2 r 0) = ms fun e => x0 (ix2 r e) := by
  unfold ms
  pointwise [val_main_v6, val_main_v5, val_main_v4, val_main_v3, val_main_v2, val_main_v1, val_main_v0, val_main_cst, val_main_cst_0, val_main_cst_1]

theorem v7_apply (r : Fin 4096) : val_main_v7 (F := Ideal) x0 (ix2 r 0) = rs fun e => x0 (ix2 r e) := by
  unfold val_main_v7
  exact congrArg Ideal.rsqrt (v6_apply x0 r)

/-- The gradient of the normalised input, of the reference. -/
def hR (r : Fin 4096) (d : Fin 2048) : EReal := ∑ k : Fin 6144, x4 (ix2 r k) * x2 (ix2 k d)

theorem v19_apply (r : Fin 4096) (d : Fin 2048) : val_main_v19 (F := Ideal) x2 x4 (ix2 r d) = hR x2 x4 r d := by
  unfold hR
  pointwise [val_main_v19, val_main_v18, val_main_v16, val_main_v15]

theorem v22_apply (d : Fin 2048) : val_main_v22 (F := Ideal) x0 x2 x4 (ix2 0 d)
    = ∑ r : Fin 4096, x0 (ix2 r d) * (rs fun e => x0 (ix2 r e)) * hR x2 x4 r d := by
  pointwise [val_main_v22, val_main_v21, val_main_v20, val_main_v12, val_main_v11, val_main_cst_3]
  simp only [v7_apply, v19_apply]

theorem v24_apply (r : Fin 4096) (d : Fin 2048) : val_main_v24 (F := Ideal) x1 x2 x4 (ix2 r d) = hR x2 x4 r d * x1 (ix2 0 d) := by
  pointwise [val_main_v24, val_main_v23]
  rw [v19_apply]

theorem v33_apply (r : Fin 4096) : val_main_v33 (F := Ideal) x0 x1 x2 x4 (ix2 r 0)
    = dms (fun e => x0 (ix2 r e)) (fun e => x1 (ix2 0 e)) fun e => hR x2 x4 r e := by
  unfold dms
  pointwise [val_main_v33, val_main_v32, val_main_v31, val_main_v27, val_main_v26, val_main_v25, val_main_v10, val_main_v9, val_main_v8, val_main_cst_2, val_main_cst_4, val_main_cst_5]
  simp only [v7_apply, v6_apply, v24_apply]

theorem v35_apply (r : Fin 4096) (d : Fin 2048) : val_main_v35 (F := Ideal) x0 x1 x2 x4 (ix2 r d)
    = dms (fun e => x0 (ix2 r e)) (fun e => x1 (ix2 0 e)) fun e => hR x2 x4 r e := by
  pointwise [val_main_v35, val_main_v34, val_main_cst_6]
  exact (Fin.sum_univ_one _).trans (v33_apply x0 x1 x2 x4 r)

theorem v39_apply (r : Fin 4096) (d : Fin 2048) : val_main_v39 (F := Ideal) x0 x1 x2 x3 x4 (ix2 r d)
    = dxR (fun e => x0 (ix2 r e)) (fun e => x1 (ix2 0 e)) (fun e => hR x2 x4 r e) (x3 (ix2 r d)) d := by
  unfold dxR
  pointwise [val_main_v39, val_main_v38, val_main_v37, val_main_v36, val_main_v30, val_main_v29, val_main_v28]
  rw [v35_apply, v24_apply, v7_apply]

end

/-! ## The claim -/

/-- The arguments are real numbers. -/
theorem finite_args {x0 : FVec Ideal Pre_finite3.S4096x2048 .f32} {x1 : FVec Ideal Pre_finite3.S1x2048 .f32}
    {x2 : FVec Ideal Pre_finite3.S6144x2048 .bf16} {x3 : FVec Ideal Pre_finite3.S4096x2048 .f32} {x4 : FVec Ideal Pre_finite3.S4096x6144 .bf16}
    (e : Pre_finite3.fn (F := Ideal) x0 x1 x2 x3 x4 = fun _ => 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal))
      ∧ (∀ i, ∃ r : ℝ, x3 i = ((r : ℝ) : EReal)) ∧ (∀ i, ∃ r : ℝ, x4 i = ((r : ℝ) : EReal)) := by
  have j : (⟨0, ![]⟩ : Shape).Idx := fun k => k.elim0
  have e' := congrFun e j
  obtain ⟨e', h4⟩ := IntOp.andi_eq_one.1 e'
  obtain ⟨e', h3⟩ := IntOp.andi_eq_one.1 e'
  obtain ⟨e', h2⟩ := IntOp.andi_eq_one.1 e'
  obtain ⟨h0, h1⟩ := IntOp.andi_eq_one.1 e'
  exact ⟨Attn.finite_all _ _ _ _ j h0, Attn.finite_all _ _ _ _ j h1, Attn.finite_all _ _ _ _ j h2, Attn.finite_all _ _ _ _ j h3,
    Attn.finite_all _ _ _ _ j h4⟩

/-- On real numbers the two ways to write the input's gradient agree. -/
theorem same (x0 : Vec Ideal Pre_finite3.S4096x2048 .f32) (x1 : Vec Ideal Pre_finite3.S1x2048 .f32) (x2 : Vec Ideal Pre_finite3.S6144x2048 .bf16)
    (x3 : Vec Ideal Pre_finite3.S4096x2048 .f32) (x4 : Vec Ideal Pre_finite3.S4096x6144 .bf16)
    (e : Pre_finite3.fn (F := Ideal) x0 x1 x2 x3 x4 = fun _ => 1#1) (r : Fin 4096) (d : Fin 2048) :
    dxK (fun e => x0 (ix2 r e)) (fun e => x1 (ix2 0 e)) (fun e => hR x2 x4 r e) (x3 (ix2 r d)) d
      = dxR (fun e => x0 (ix2 r e)) (fun e => x1 (ix2 0 e)) (fun e => hR x2 x4 r e) (x3 (ix2 r d)) d := by
  obtain ⟨f0, f1, f2, f3, f4⟩ := finite_args e
  choose u0 h0 using f0
  choose u1 h1 using f1
  choose u2 h2 using f2
  choose u3 h3 using f3
  choose u4 h4 using f4
  have hh : ∀ k, hR x2 x4 r k = ((∑ j : Fin 6144, u4 (ix2 r j) * u2 (ix2 j k) : ℝ) : EReal) := by
    intro k
    unfold hR
    rw [← Attn.coe_sum]
    exact Finset.sum_congr rfl fun j _ => by rw [h4, h2, ← EReal.coe_mul]
  simp only [hh, h0, h1, h3]
  exact norm_id (fun e => u0 (ix2 r e)) (fun e => u1 (ix2 0 e)) (fun e => ∑ j : Fin 6144, u4 (ix2 r j) * u2 (ix2 j e)) (u3 (ix2 r d)) d

section
open Cert.Kernel3Ideal Cert.Kernel3Ideal.Gen
variable (m : (ℓ : Loc nD τ sig) → Buf (Elt Ideal) ℓ) (c : Dev nD)

theorem dh_eq (r : Fin 4096) (d : Fin 2048) : dh m c r.val d.val = hR (wA m c) (zA m c) r d :=
  Finset.sum_congr rfl fun k _ => by unfold tm; rw [dif_pos r.isLt, dif_pos d.isLt]

theorem xr_eq (r : Fin 4096) : xr m c r.val = fun e => xA m c (ix2 r e) := by
  funext e
  unfold xr
  rw [dif_pos r.isLt]

theorem results (e : Pre_finite3.fn (F := Ideal) (xA m c) (gA m c) (wA m c) (aA m c) (zA m c) = fun _ => 1#1) :
    Reference3Ideal.Read.val_main_v39 (F := Ideal) (xA m c) (gA m c) (wA m c) (aA m c) (zA m c) = resX m c
    ∧ Reference3Ideal.Read.val_main_v22 (F := Ideal) (xA m c) (wA m c) (zA m c) = resG m c := by
  constructor
  · funext i
    change S4096x2048.Idx at i
    obtain ⟨r, d, rfl⟩ : ∃ r d, i = ix2 r d := ⟨_, _, eq_ix2 i⟩
    refine (v39_apply _ _ _ _ _ r d).trans ((same _ _ _ _ _ e r d).symm.trans ?_)
    show _ = dxK (xr m c r.val) (fun e => gA m c (ix2 0 e)) (fun e => dh m c r.val e.val) (aA m c (ix2 r d)) d
    rw [xr_eq]
    simp only [dh_eq]
  · funext i
    change S1x2048.Idx at i
    obtain ⟨o, d, rfl⟩ : ∃ o d, i = ix2 o d := ⟨_, _, eq_ix2 i⟩
    obtain rfl : o = 0 := Subsingleton.elim _ _
    refine (v22_apply _ _ _ d).trans (Finset.sum_congr rfl fun r _ => ?_)
    show _ = tg m c d.val r
    unfold tg
    rw [dif_pos d.isLt, xr_eq, dh_eq, mul_comm]

end

theorem congr5 {α β γ δ ε ζ : Type} (f : α → β → γ → δ → ε → ζ) {a a' : α} {b b' : β} {c c' : γ} {d d' : δ} {e e' : ε}
    (ha : a' = a) (hb : b' = b) (hc : c' = c) (hd : d' = d) (he : e' = e) : f a' b' c' d' e' = f a b c d e := by
  subst ha hb hc hd he; rfl

theorem claim : Cert.algebraic_Kernel3Ideal_Reference3Ideal_pre_finite3 := by
  intro m g m' g' hpre hagree
  refine ⟨fun c => (Kernel3Ideal.Gen.dats m 0 c).arrAt 5 Kernel3Ideal.cfg0.N, fun c => (Kernel3Ideal.Gen.dats m 0 c).arrAt 6 Kernel3Ideal.cfg0.N,
    Kernel3Ideal.Value.run_blocks m g, ?_⟩
  refine (θ_run Reference3Ideal.defs _ _).mono (fun r h c => ?_) (Reference3Ideal.Value.run m' g')
  obtain ⟨h0, h1, hk⟩ := h c
  obtain ⟨a0, a1, a2, a3, a4⟩ := hagree c
  obtain ⟨r0, r1⟩ := results m c (hpre c)
  exact ⟨h0.trans ((Reference3Ideal.Read.val_main_v39_eq _ _).trans ((congr5 (Reference3Ideal.Read.val_main_v39 (F := Ideal)) a0 a1 a2 a3 a4).trans
      (r0.trans (final_x m c).symm))),
    h1.trans ((Reference3Ideal.Read.val_main_v22_eq _ _ _).trans
      ((congr5 (fun a _ b _ d => Reference3Ideal.Read.val_main_v22 (F := Ideal) a b d) a0 a1 a2 a3 a4).trans (r1.trans (final_g m c).symm))), hk⟩

end Cert.Proj.Dh

end
-- ==== Proof.Proj.In.lean ====
/- The gradient of the input projection's weight: the call's running totals and its result. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Proj.Sums
public import Idealize.ShloMosaic.Lib.Pointwise
public import Idealize.ShloMosaic.Lib.Tactic
public import Idealize.ShloMosaic.Lib.Pipeline.Value
public import Idealize.ShloMosaic.Lib.StableHlo.Run

@[expose] public section

set_option maxRecDepth 16384

noncomputable section

open Idealize.ShloMosaic Idealize.ShloMosaic.TcCoe Idealize.SL.Sem

namespace Cert.Proj.In

section
open Cert.Kernel4Ideal Cert.Kernel4Ideal.Gen Cert.Kernel4Ideal.Value

theorem hz2 : (![0, 0] : Fin 2 → Nat) = fun _ => 0 := funext fun a => by fin_cases a <;> rfl

variable {F : FTy → Type} [FloatOps F]

section
variable (c : Dev nD) (i : grid0.Coords)
  (arg3 : Memref sig .tc .vmem S1024x2048 .bf16) (harg3 : arg3.IsWhole) (arg4 : Memref sig .tc .vmem S1024x1024 .bf16) (harg4 : arg4.IsWhole)
  (arg5 : Memref sig .tc .vmem S2048x1024 .bf16) (harg5 : arg5.IsWhole) (arg6 : Memref sig .tc .vmem S2048x1024 .f32) (harg6 : arg6.IsWhole)
  (x0 : Vec F S1024x2048 .bf16) (x1 : Vec F S1024x1024 .bf16) (xs : Vec F S2048x1024 .f32)

/-- The first point of a run leaves its own product in the total. -/
theorem total_A (h0 : cond0_0 i) (h1 : ¬cond0_1 i) :
    sout0_A_0 c i arg3 harg3 arg4 harg4 arg5 harg5 arg6 harg6 h0 h1 x0 x1 = k0_pay2 k0_pay1 x0 x1 := by
  unfold sout0_A_0
  rw [View.read_writes_eq_canon _ _ _ (scover0_A_0 c i arg3 harg3 arg4 harg4 arg5 harg5 arg6 harg6 h0 h1 x0 x1)]
  unfold kernelRun0_A
  dsimp only
  sl_unfold_words
  rw [View.canon_cons_unit_zero (S := S2048x1024) hz2, View.readCov_unit_zero (S := S2048x1024) _ hz2]
  simp only [View.readAt_eq_ld, harg3.read_unread, harg4.read_unread, harg6.read_unread,
    View.ld_unit_zero (S := S1024x2048) hz2, View.ld_unit_zero (S := S1024x1024) hz2, View.ld_unit_zero (S := S2048x1024) hz2]

/-- A later point adds its product to the total. -/
theorem total_B (h0 : ¬cond0_0 i) (h1 : ¬cond0_1 i) :
    sout0_B_0 c i arg3 harg3 arg4 harg4 arg5 harg5 arg6 harg6 h0 h1 x0 x1 xs = k0_pay2 xs x0 x1 := by
  unfold sout0_B_0
  rw [View.read_writes_eq_canon _ _ _ (scover0_B_0 c i arg3 harg3 arg4 harg4 arg5 harg5 arg6 harg6 h0 h1 x0 x1 xs)]
  unfold kernelRun0_B
  dsimp only
  sl_unfold_words
  rw [View.canon_unit_zero hz2]
  simp only [View.readAt_eq_ld, harg3.read_unread, harg4.read_unread, harg6.read_unread,
    View.ld_unit_zero (S := S1024x2048) hz2, View.ld_unit_zero (S := S1024x1024) hz2, View.ld_unit_zero (S := S2048x1024) hz2]

theorem total_C (h0 : ¬cond0_0 i) (h1 : cond0_1 i) :
    sout0_C_0 c i arg3 harg3 arg4 harg4 arg5 harg5 arg6 harg6 h0 h1 x0 x1 xs = k0_pay2 xs x0 x1 := by
  unfold sout0_C_0
  rw [View.read_writes_eq_canon _ _ _ (scover0_C_0 c i arg3 harg3 arg4 harg4 arg5 harg5 arg6 harg6 h0 h1 x0 x1 xs)]
  unfold kernelRun0_C
  dsimp only
  sl_unfold_words
  rw [View.canon_unit_zero hz2]
  simp only [View.readAt_eq_ld, harg3.read_unread, harg4.read_unread, harg6.read_unread,
    View.ld_unit_zero (S := S1024x2048) hz2, View.ld_unit_zero (S := S1024x1024) hz2, View.ld_unit_zero (S := S2048x1024) hz2]

/-- The last point of a run writes the total out. -/
theorem out_C (h0 : ¬cond0_0 i) (h1 : cond0_1 i) :
    out0_C_2 c i arg3 harg3 arg4 harg4 arg5 harg5 arg6 harg6 h0 h1 x0 x1 xs = k0_pay3 (k0_pay2 xs x0 x1) := by
  unfold out0_C_2
  rw [View.read_writes_eq_canon _ _ _ (cover0_C_2 c i arg3 harg3 arg4 harg4 arg5 harg5 arg6 harg6 h0 h1 x0 x1 xs)]
  unfold kernelRun0_C
  dsimp only
  sl_unfold_words
  rw [View.canon_unit_zero hz2, View.readCov_unit_zero (S := S2048x1024) _ hz2]
  simp only [View.readAt_eq_ld, harg3.read_unread, harg4.read_unread, harg6.read_unread,
    View.ld_unit_zero (S := S1024x2048) hz2, View.ld_unit_zero (S := S1024x1024) hz2, View.ld_unit_zero (S := S2048x1024) hz2]
end

/-! ## The blocks -/

theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)

theorem lt12 (t : Fin cfg0.N) : t.val < 12 := lt_of_lt_of_eq t.isLt (show cfg0.N = 12 from N_0)

variable (m : (ℓ : Loc nD τ sig) → Buf (Elt Ideal) ℓ) (c : Dev nD)

/-- The two arguments. -/
def hA : Vec Ideal S4096x1024 .bf16 := m ((c : Thread nD τ).loc main_arg0)
def zA : Vec Ideal S4096x6144 .bf16 := m ((c : Thread nD τ).loc main_arg1)

/-- The result's summands: the entry in column `r` of one argument times the one in column `d` of the other. -/
def tm (r d : ℕ) (k : Fin 4096) : EReal :=
  if hr : r < 6144 then if hd : d < 1024 then zA m c (ix2 k ⟨r, hr⟩) * hA m c (ix2 k ⟨d, hd⟩) else 0 else 0

theorem blk0 (t : Fin cfg0.N) (k : Fin 1024) (r : Fin 2048) : (iblk m c 0 t : Vec Ideal S1024x2048 .bf16) (ix2 k r)
    = zA m c (ix2 ⟨1024 * (t.val % 4) + k.val, by have := k.isLt; omega⟩ ⟨2048 * (t.val / 4) + r.val, by have := lt12 t; have := r.isLt; omega⟩) := by
  unfold iblk
  rw [View.read_apply]
  refine Eq.trans ?_ (congrFun (V_main_arg1 m c) _)
  show V m c main_arg1 _ = V m c main_arg1 _
  congr 1
  funext a
  apply Fin.ext
  obtain ⟨h0, h1⟩ := idx0 t
  match a with
  | ⟨0, _⟩ => show win0_0.index t 0 * 1024 + 1 * k.val = 1024 * (t.val % 4) + k.val; omega
  | ⟨1, _⟩ => show win0_0.index t 1 * 2048 + 1 * r.val = 2048 * (t.val / 4) + r.val; omega

theorem blk1 (t : Fin cfg0.N) (k : Fin 1024) (d : Fin 1024) : (iblk m c 1 t : Vec Ideal S1024x1024 .bf16) (ix2 k d)
    = hA m c (ix2 ⟨1024 * (t.val % 4) + k.val, by have := k.isLt; omega⟩ d) := by
  unfold iblk
  rw [View.read_apply]
  refine Eq.trans ?_ (congrFun (V_main_arg0 m c) _)
  show V m c main_arg0 _ = V m c main_arg0 _
  congr 1
  funext a
  apply Fin.ext
  obtain ⟨h0, h1⟩ := idx1 t
  match a with
  | ⟨0, _⟩ => show win0_1.index t 0 * 1024 + 1 * k.val = 1024 * (t.val % 4) + k.val; omega
  | ⟨1, _⟩ => show win0_1.index t 1 * 1024 + 1 * d.val = d.val; omega

/-! ## The totals -/

theorem pay2_apply (v : Vec Ideal S2048x1024 .f32) (a : Vec Ideal S1024x2048 .bf16) (b : Vec Ideal S1024x1024 .bf16) (r : Fin 2048) (d : Fin 1024) :
    k0_pay2 (F := Ideal) v a b (ix2 r d) = v (ix2 r d) + ∑ k : Fin 1024, a (ix2 k r) * b (ix2 k d) := by
  pointwise [k0_pay2]

theorem pay1_apply (r : Fin 2048) (d : Fin 1024) : (k0_pay1 (F := Ideal) : Vec Ideal S2048x1024 .f32) (ix2 r d) = 0 := by
  pointwise [k0_pay1]

theorem pay3_apply (v : Vec Ideal S2048x1024 .f32) (r : Fin 2048) (d : Fin 1024) : k0_pay3 (F := Ideal) v (ix2 r d) = v (ix2 r d) := by
  pointwise [k0_pay3]

theorem step (t : Fin cfg0.N) (v : Vec Ideal S2048x1024 .f32) (r : Fin 2048) (d : Fin 1024) :
    k0_pay2 (F := Ideal) v (iblk m c 0 t) (iblk m c 1 t) (ix2 r d)
      = v (ix2 r d) + part 1024 (tm m c (2048 * (t.val / 4) + r.val) d.val) (t.val % 4) := by
  rw [pay2_apply]
  congr 1
  refine part_eq 1024 _ _ _ fun k => ⟨by have := k.isLt; omega, ?_⟩
  have := lt12 t
  have := r.isLt
  rw [blk0, blk1]
  unfold tm
  rw [dif_pos (by omega), dif_pos d.isLt]

theorem sums (t : Fin cfg0.N) (r : Fin 2048) (d : Fin 1024) : (outsAt0 m c t.val t.isLt).2 (ix2 r d)
    = ∑ j ∈ Finset.range (t.val % 4 + 1), part 1024 (tm m c (2048 * (t.val / 4) + r.val) d.val) j := by
  refine running 4 (by norm_num) (fun n hn => (outsAt0 m c n hn).2 (ix2 r d)) (fun q j => part 1024 (tm m c (2048 * q + r.val) d.val) j)
    (fun n hn h => ?_) (fun n hn h => ?_) t.val t.isLt
  · have e := outsAt0_A m c ⟨n, hn⟩ h (by show ¬ n % 4 = 3; omega)
    show (outsAt0 m c n hn).2 (ix2 r d) = _
    rw [show outsAt0 m c n hn = _ from e]
    dsimp only
    rw [total_A, step m c ⟨n, hn⟩, pay1_apply, zero_add]
  · by_cases h1 : n % 4 = 3
    · have e := outsAt0_C m c ⟨n, hn⟩ h h1
      show (outsAt0 m c n hn).2 (ix2 r d) = _
      rw [show outsAt0 m c n hn = _ from e]
      dsimp only
      rw [total_C, step m c ⟨n, hn⟩]
    · have e := outsAt0_B m c ⟨n, hn⟩ h h1
      show (outsAt0 m c n hn).2 (ix2 r d) = _
      rw [show outsAt0 m c n hn = _ from e]
      dsimp only
      rw [total_B, step m c ⟨n, hn⟩]

/-! ## The result -/

def res : Vec Ideal S6144x1024 .bf16 := fun i => ∑ k, tm m c (i 0).val (i 1).val k

theorem flushed_last (t : Fin cfg0.N) (h0 : ¬ t.val % 4 = 0) (h : t.val % 4 = 3) :
    (dats m 0 c).flushed 2 t = (cfg0.win 2).cut (grid0.coords t) (k0_pay3 (F := Ideal) (outsAt0 m c t.val t.isLt).2) := by
  have e := snd_of (outsAt0_C m c t h0 h)
  have e1 := total_C (F := Ideal) c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2 (fun h' => h0 ((hcond0_0 t).mp h')) ((hcond0_1 t).mpr h)
  have e2 := out_C (F := Ideal) c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2 (fun h' => h0 ((hcond0_0 t).mp h')) ((hcond0_1 t).mpr h)
  exact (flushed2_C m c t h0 h).trans (congrArg _ (e2.trans (congrArg k0_pay3 (e.trans e1).symm)))

theorem flushed_eq (t : Fin cfg0.N) (h : t.val % 4 = 3) :
    (dats m 0 c).flushed 2 t = ((cfg0.win 2).blk t).view.read (Elt Ideal) (res m c) := by
  rw [flushed_last m c t (by omega) h]
  funext i
  rw [View.read_apply]
  change S2048x1024.Idx at i
  obtain ⟨r, d, rfl⟩ : ∃ r d, i = ix2 r d := ⟨_, _, eq_ix2 i⟩
  refine (pay3_apply _ r d).trans ((sums m c t r d).trans ?_)
  rw [h, show 3 + 1 = 4 from rfl, sum_parts 1024 4 (by norm_num : 1024 * 4 = 4096)]
  obtain ⟨i0, i1⟩ := idx2 t
  have a0 : win0_2.index t 0 * 2048 + 1 * r.val = 2048 * (t.val / 4) + r.val := by omega
  have a1 : win0_2.index t 1 * 1024 + 1 * d.val = d.val := by omega
  show _ = ∑ k, tm m c (win0_2.index t 0 * 2048 + 1 * r.val) (win0_2.index t 1 * 1024 + 1 * d.val) k
  rw [a0, a1]

theorem final : (dats m 0 c).arrAt 2 cfg0.N = res m c :=
  (dats m 0 c).arrAt_eq_of_cover 2 _ (fun t hf => flushed_eq m c t ((flush0_2 t).mp hf)) (fun i => (covered_iff2 i).2 (by
    have h0 : (i 0).val < 6144 := (i 0).isLt
    have h1 : (i 1).val < 1024 := (i 1).isLt
    omega))

end

/-! ## The reference -/

section
open Cert.Reference4Ideal Cert.Reference4Ideal.Read

theorem ref_apply (x0 : (⟨S4096x1024, .bf16⟩ : BufTy).Contents (Elt Ideal)) (x1 : (⟨S4096x6144, .bf16⟩ : BufTy).Contents (Elt Ideal)) (r : Fin 6144) (d : Fin 1024) :
    val_main_v8 (F := Ideal) x0 x1 (ix2 r d) = ∑ k : Fin 4096, x1 (ix2 k r) * x0 (ix2 k d) := by
  pointwise [val_main_v8, val_main_v7, val_main_v6, val_main_v5, val_main_v4, val_main_v3, val_main_v2, val_main_v1]

end

theorem claim : Cert.algebraic_Kernel4Ideal_Reference4Ideal := by
  intro m g m' g' _ hagree
  refine ⟨fun c => (Kernel4Ideal.Gen.dats m 0 c).arrAt 2 Kernel4Ideal.cfg0.N, Kernel4Ideal.Value.run_blocks m g, ?_⟩
  refine (θ_run Reference4Ideal.defs _ _).mono (fun r h c => ?_) (Reference4Ideal.Value.run m' g')
  obtain ⟨h0, hk⟩ := h c
  obtain ⟨a0, a1⟩ := hagree c
  refine ⟨h0.trans ((Reference4Ideal.Read.val_main_v8_eq _ _).trans (Eq.trans ?_ (final m c).symm)), hk⟩
  funext i
  change Reference4Ideal.S6144x1024.Idx at i
  obtain ⟨r, d, rfl⟩ : ∃ r d, i = ix2 r d := ⟨_, _, eq_ix2 i⟩
  refine (ref_apply _ _ r d).trans (Finset.sum_congr rfl fun k _ => ?_)
  rw [a0, a1]
  show _ = tm m c r.val d.val k
  unfold tm
  rw [dif_pos r.isLt, dif_pos d.isLt]
  rfl

end Cert.Proj.In

end
-- ==== Proof.Proj.Out.lean ====
/- The gradient of the output projection's weight: the call's running totals and its result. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Proj.Sums
public import Idealize.ShloMosaic.Lib.Pointwise
public import Idealize.ShloMosaic.Lib.Tactic
public import Idealize.ShloMosaic.Lib.Pipeline.Value
public import Idealize.ShloMosaic.Lib.StableHlo.Run

@[expose] public section

set_option maxRecDepth 16384

noncomputable section

open Idealize.ShloMosaic Idealize.ShloMosaic.TcCoe Idealize.SL.Sem

namespace Cert.Proj.Out

section
open Cert.Kernel5Ideal Cert.Kernel5Ideal.Gen Cert.Kernel5Ideal.Value

theorem hz2 : (![0, 0] : Fin 2 → Nat) = fun _ => 0 := funext fun a => by fin_cases a <;> rfl

variable {F : FTy → Type} [FloatOps F]

section
variable (c : Dev nD) (i : grid0.Coords)
  (arg3 : Memref sig .tc .vmem S1024x2048 .bf16) (harg3 : arg3.IsWhole) (arg4 : Memref sig .tc .vmem S1024x1024 .f32) (harg4 : arg4.IsWhole)
  (arg5 : Memref sig .tc .vmem S2048x1024 .bf16) (harg5 : arg5.IsWhole) (arg6 : Memref sig .tc .vmem S2048x1024 .f32) (harg6 : arg6.IsWhole)
  (x0 : Vec F S1024x2048 .bf16) (x1 : Vec F S1024x1024 .f32) (xs : Vec F S2048x1024 .f32)

/-- The first point of a run leaves its own product in the total. -/
theorem total_A (h0 : cond0_0 i) (h1 : ¬cond0_1 i) :
    sout0_A_0 c i arg3 harg3 arg4 harg4 arg5 harg5 arg6 harg6 h0 h1 x0 x1 = k0_pay2 k0_pay1 x0 x1 := by
  unfold sout0_A_0
  rw [View.read_writes_eq_canon _ _ _ (scover0_A_0 c i arg3 harg3 arg4 harg4 arg5 harg5 arg6 harg6 h0 h1 x0 x1)]
  unfold kernelRun0_A
  dsimp only
  sl_unfold_words
  rw [View.canon_cons_unit_zero (S := S2048x1024) hz2, View.readCov_unit_zero (S := S2048x1024) _ hz2]
  simp only [View.readAt_eq_ld, harg3.read_unread, harg4.read_unread, harg6.read_unread,
    View.ld_unit_zero (S := S1024x2048) hz2, View.ld_unit_zero (S := S1024x1024) hz2, View.ld_unit_zero (S := S2048x1024) hz2]

/-- A later point adds its product to the total. -/
theorem total_B (h0 : ¬cond0_0 i) (h1 : ¬cond0_1 i) :
    sout0_B_0 c i arg3 harg3 arg4 harg4 arg5 harg5 arg6 harg6 h0 h1 x0 x1 xs = k0_pay2 xs x0 x1 := by
  unfold sout0_B_0
  rw [View.read_writes_eq_canon _ _ _ (scover0_B_0 c i arg3 harg3 arg4 harg4 arg5 harg5 arg6 harg6 h0 h1 x0 x1 xs)]
  unfold kernelRun0_B
  dsimp only
  sl_unfold_words
  rw [View.canon_unit_zero hz2]
  simp only [View.readAt_eq_ld, harg3.read_unread, harg4.read_unread, harg6.read_unread,
    View.ld_unit_zero (S := S1024x2048) hz2, View.ld_unit_zero (S := S1024x1024) hz2, View.ld_unit_zero (S := S2048x1024) hz2]

theorem total_C (h0 : ¬cond0_0 i) (h1 : cond0_1 i) :
    sout0_C_0 c i arg3 harg3 arg4 harg4 arg5 harg5 arg6 harg6 h0 h1 x0 x1 xs = k0_pay2 xs x0 x1 := by
  unfold sout0_C_0
  rw [View.read_writes_eq_canon _ _ _ (scover0_C_0 c i arg3 harg3 arg4 harg4 arg5 harg5 arg6 harg6 h0 h1 x0 x1 xs)]
  unfold kernelRun0_C
  dsimp only
  sl_unfold_words
  rw [View.canon_unit_zero hz2]
  simp only [View.readAt_eq_ld, harg3.read_unread, harg4.read_unread, harg6.read_unread,
    View.ld_unit_zero (S := S1024x2048) hz2, View.ld_unit_zero (S := S1024x1024) hz2, View.ld_unit_zero (S := S2048x1024) hz2]

/-- The last point of a run writes the total out. -/
theorem out_C (h0 : ¬cond0_0 i) (h1 : cond0_1 i) :
    out0_C_2 c i arg3 harg3 arg4 harg4 arg5 harg5 arg6 harg6 h0 h1 x0 x1 xs = k0_pay3 (k0_pay2 xs x0 x1) := by
  unfold out0_C_2
  rw [View.read_writes_eq_canon _ _ _ (cover0_C_2 c i arg3 harg3 arg4 harg4 arg5 harg5 arg6 harg6 h0 h1 x0 x1 xs)]
  unfold kernelRun0_C
  dsimp only
  sl_unfold_words
  rw [View.canon_unit_zero hz2, View.readCov_unit_zero (S := S2048x1024) _ hz2]
  simp only [View.readAt_eq_ld, harg3.read_unread, harg4.read_unread, harg6.read_unread,
    View.ld_unit_zero (S := S1024x2048) hz2, View.ld_unit_zero (S := S1024x1024) hz2, View.ld_unit_zero (S := S2048x1024) hz2]
end

/-! ## The blocks -/

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)
theorem idx1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)
theorem idx2 : ∀ t : Fin cfg0.N, win0_2.index t 0 = 0 ∧ win0_2.index t 1 = t.val / 4 :=
  (by decide +kernel : ∀ t : Fin grid0.N, win0_2.index t 0 = 0 ∧ win0_2.index t 1 = t.val / 4)

theorem lt8 (t : Fin cfg0.N) : t.val < 8 := lt_of_lt_of_eq t.isLt (show cfg0.N = 8 from N_0)

variable (m : (ℓ : Loc nD τ sig) → Buf (Elt Ideal) ℓ) (c : Dev nD)

/-- The two arguments. -/
def yA : Vec Ideal S4096x2048 .bf16 := m ((c : Thread nD τ).loc main_arg0)
def xA : Vec Ideal S4096x2048 .f32 := m ((c : Thread nD τ).loc main_arg1)

/-- The result's summands: the entry in column `r` of one argument times the one in column `d` of the other. -/
def tm (r d : ℕ) (k : Fin 4096) : EReal :=
  if hr : r < 2048 then if hd : d < 2048 then yA m c (ix2 k ⟨r, hr⟩) * xA m c (ix2 k ⟨d, hd⟩) else 0 else 0

theorem blk0 (t : Fin cfg0.N) (k : Fin 1024) (r : Fin 2048) : (iblk m c 0 t : Vec Ideal S1024x2048 .bf16) (ix2 k r)
    = yA m c (ix2 ⟨1024 * (t.val % 4) + k.val, by have := k.isLt; omega⟩ r) := by
  unfold iblk
  rw [View.read_apply]
  refine Eq.trans ?_ (congrFun (V_main_arg0 m c) _)
  show V m c main_arg0 _ = V m c main_arg0 _
  congr 1
  funext a
  apply Fin.ext
  obtain ⟨h0, h1⟩ := idx0 t
  match a with
  | ⟨0, _⟩ => show win0_0.index t 0 * 1024 + 1 * k.val = 1024 * (t.val % 4) + k.val; omega
  | ⟨1, _⟩ => show win0_0.index t 1 * 2048 + 1 * r.val = r.val; omega

theorem blk1 (t : Fin cfg0.N) (k : Fin 1024) (d : Fin 1024) : (iblk m c 1 t : Vec Ideal S1024x1024 .f32) (ix2 k d)
    = xA m c (ix2 ⟨1024 * (t.val % 4) + k.val, by have := k.isLt; omega⟩ ⟨1024 * (t.val / 4) + d.val, by have := lt8 t; have := d.isLt; omega⟩) := by
  unfold iblk
  rw [View.read_apply]
  refine Eq.trans ?_ (congrFun (V_main_arg1 m c) _)
  show V m c main_arg1 _ = V m c main_arg1 _
  congr 1
  funext a
  apply Fin.ext
  obtain ⟨h0, h1⟩ := idx1 t
  match a with
  | ⟨0, _⟩ => show win0_1.index t 0 * 1024 + 1 * k.val = 1024 * (t.val % 4) + k.val; omega
  | ⟨1, _⟩ => show win0_1.index t 1 * 1024 + 1 * d.val = 1024 * (t.val / 4) + d.val; omega

/-! ## The totals -/

theorem pay2_apply (v : Vec Ideal S2048x1024 .f32) (a : Vec Ideal S1024x2048 .bf16) (b : Vec Ideal S1024x1024 .f32) (r : Fin 2048) (d : Fin 1024) :
    k0_pay2 (F := Ideal) v a b (ix2 r d) = v (ix2 r d) + ∑ k : Fin 1024, a (ix2 k r) * b (ix2 k d) := by
  pointwise [k0_pay2]

theorem pay1_apply (r : Fin 2048) (d : Fin 1024) : (k0_pay1 (F := Ideal) : Vec Ideal S2048x1024 .f32) (ix2 r d) = 0 := by
  pointwise [k0_pay1]

theorem pay3_apply (v : Vec Ideal S2048x1024 .f32) (r : Fin 2048) (d : Fin 1024) : k0_pay3 (F := Ideal) v (ix2 r d) = v (ix2 r d) := by
  pointwise [k0_pay3]

theorem step (t : Fin cfg0.N) (v : Vec Ideal S2048x1024 .f32) (r : Fin 2048) (d : Fin 1024) :
    k0_pay2 (F := Ideal) v (iblk m c 0 t) (iblk m c 1 t) (ix2 r d)
      = v (ix2 r d) + part 1024 (tm m c r.val (1024 * (t.val / 4) + d.val)) (t.val % 4) := by
  rw [pay2_apply]
  congr 1
  refine part_eq 1024 _ _ _ fun k => ⟨by have := k.isLt; omega, ?_⟩
  have := lt8 t
  have := d.isLt
  rw [blk0, blk1]
  unfold tm
  rw [dif_pos r.isLt, dif_pos (by omega)]

theorem sums (t : Fin cfg0.N) (r : Fin 2048) (d : Fin 1024) : (outsAt0 m c t.val t.isLt).2 (ix2 r d)
    = ∑ j ∈ Finset.range (t.val % 4 + 1), part 1024 (tm m c r.val (1024 * (t.val / 4) + d.val)) j := by
  refine running 4 (by norm_num) (fun n hn => (outsAt0 m c n hn).2 (ix2 r d)) (fun q j => part 1024 (tm m c r.val (1024 * q + d.val)) j)
    (fun n hn h => ?_) (fun n hn h => ?_) t.val t.isLt
  · have e := outsAt0_A m c ⟨n, hn⟩ h (by show ¬ n % 4 = 3; omega)
    show (outsAt0 m c n hn).2 (ix2 r d) = _
    rw [show outsAt0 m c n hn = _ from e]
    dsimp only
    rw [total_A, step m c ⟨n, hn⟩, pay1_apply, zero_add]
  · by_cases h1 : n % 4 = 3
    · have e := outsAt0_C m c ⟨n, hn⟩ h h1
      show (outsAt0 m c n hn).2 (ix2 r d) = _
      rw [show outsAt0 m c n hn = _ from e]
      dsimp only
      rw [total_C, step m c ⟨n, hn⟩]
    · have e := outsAt0_B m c ⟨n, hn⟩ h h1
      show (outsAt0 m c n hn).2 (ix2 r d) = _
      rw [show outsAt0 m c n hn = _ from e]
      dsimp only
      rw [total_B, step m c ⟨n, hn⟩]

/-! ## The result -/

def res : Vec Ideal S2048x2048 .bf16 := fun i => ∑ k, tm m c (i 0).val (i 1).val k

theorem flushed_last (t : Fin cfg0.N) (h0 : ¬ t.val % 4 = 0) (h : t.val % 4 = 3) :
    (dats m 0 c).flushed 2 t = (cfg0.win 2).cut (grid0.coords t) (k0_pay3 (F := Ideal) (outsAt0 m c t.val t.isLt).2) := by
  have e := snd_of (outsAt0_C m c t h0 h)
  have e1 := total_C (F := Ideal) c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2 (fun h' => h0 ((hcond0_0 t).mp h')) ((hcond0_1 t).mpr h)
  have e2 := out_C (F := Ideal) c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2 (fun h' => h0 ((hcond0_0 t).mp h')) ((hcond0_1 t).mpr h)
  exact (flushed2_C m c t h0 h).trans (congrArg _ (e2.trans (congrArg k0_pay3 (e.trans e1).symm)))

theorem flushed_eq (t : Fin cfg0.N) (h : t.val % 4 = 3) :
    (dats m 0 c).flushed 2 t = ((cfg0.win 2).blk t).view.read (Elt Ideal) (res m c) := by
  rw [flushed_last m c t (by omega) h]
  funext i
  rw [View.read_apply]
  change S2048x1024.Idx at i
  obtain ⟨r, d, rfl⟩ : ∃ r d, i = ix2 r d := ⟨_, _, eq_ix2 i⟩
  refine (pay3_apply _ r d).trans ((sums m c t r d).trans ?_)
  rw [h, show 3 + 1 = 4 from rfl, sum_parts 1024 4 (by norm_num : 1024 * 4 = 4096)]
  obtain ⟨i0, i1⟩ := idx2 t
  have a0 : win0_2.index t 0 * 2048 + 1 * r.val = r.val := by omega
  have a1 : win0_2.index t 1 * 1024 + 1 * d.val = 1024 * (t.val / 4) + d.val := by omega
  show _ = ∑ k, tm m c (win0_2.index t 0 * 2048 + 1 * r.val) (win0_2.index t 1 * 1024 + 1 * d.val) k
  rw [a0, a1]

theorem final : (dats m 0 c).arrAt 2 cfg0.N = res m c :=
  (dats m 0 c).arrAt_eq_of_cover 2 _ (fun t hf => flushed_eq m c t ((flush0_2 t).mp hf)) (fun i => (covered_iff2 i).2 (by
    have h0 : (i 0).val < 2048 := (i 0).isLt
    have h1 : (i 1).val < 2048 := (i 1).isLt
    omega))

end

/-! ## The reference -/

section
open Cert.Reference5Ideal Cert.Reference5Ideal.Read

theorem ref_apply (x0 : (⟨S4096x2048, .bf16⟩ : BufTy).Contents (Elt Ideal)) (x1 : (⟨S4096x2048, .f32⟩ : BufTy).Contents (Elt Ideal)) (r d : Fin 2048) :
    val_main_v5 (F := Ideal) x0 x1 (ix2 r d) = ∑ k : Fin 4096, x1 (ix2 k d) * x0 (ix2 k r) := by
  pointwise [val_main_v5, val_main_v4, val_main_v3, val_main_v1]

end

theorem claim : Cert.algebraic_Kernel5Ideal_Reference5Ideal := by
  intro m g m' g' _ hagree
  refine ⟨fun c => (Kernel5Ideal.Gen.dats m 0 c).arrAt 2 Kernel5Ideal.cfg0.N, Kernel5Ideal.Value.run_blocks m g, ?_⟩
  refine (θ_run Reference5Ideal.defs _ _).mono (fun r h c => ?_) (Reference5Ideal.Value.run m' g')
  obtain ⟨h0, hk⟩ := h c
  obtain ⟨a0, a1⟩ := hagree c
  refine ⟨h0.trans ((Reference5Ideal.Read.val_main_v5_eq _ _).trans (Eq.trans ?_ (final m c).symm)), hk⟩
  funext i
  change Reference5Ideal.S2048x2048.Idx at i
  obtain ⟨r, d, rfl⟩ : ∃ r d, i = ix2 r d := ⟨_, _, eq_ix2 i⟩
  refine (ref_apply _ _ r d).trans (Finset.sum_congr rfl fun k _ => ?_)
  rw [a0, a1, mul_comm]
  show _ = tm m c r.val d.val k
  unfold tm
  rw [dif_pos r.isLt, dif_pos d.isLt]
  rfl

end Cert.Proj.Out

end
-- ==== Proof.Proj.Dy.lean ====
/- The gradient of what the output projection takes: the call's running totals and its result. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Proj.Sums
public import Idealize.ShloMosaic.Lib.Pointwise
public import Idealize.ShloMosaic.Lib.Tactic
public import Idealize.ShloMosaic.Lib.Pipeline.Value
public import Idealize.ShloMosaic.Lib.StableHlo.Run

@[expose] public section

set_option maxRecDepth 16384

noncomputable section

open Idealize.ShloMosaic Idealize.ShloMosaic.TcCoe Idealize.SL.Sem

namespace Cert.Proj.Dy

section
open Cert.Kernel6Ideal Cert.Kernel6Ideal.Gen Cert.Kernel6Ideal.Value

theorem hz2 : (![0, 0] : Fin 2 → Nat) = fun _ => 0 := funext fun a => by fin_cases a <;> rfl

variable {F : FTy → Type} [FloatOps F]

section
variable (c : Dev nD) (i : grid0.Coords)
  (arg3 : Memref sig .tc .vmem S512x1024 .f32) (harg3 : arg3.IsWhole) (arg4 : Memref sig .tc .vmem S2048x1024 .bf16) (harg4 : arg4.IsWhole)
  (arg5 : Memref sig .tc .vmem S512x2048 .f32) (harg5 : arg5.IsWhole) (arg6 : Memref sig .tc .vmem S512x2048 .f32) (harg6 : arg6.IsWhole)
  (x0 : Vec F S512x1024 .f32) (x1 : Vec F S2048x1024 .bf16) (xs : Vec F S512x2048 .f32)

/-- The first point of a run leaves its own product in the total. -/
theorem total_A (h0 : cond0_0 i) (h1 : ¬cond0_1 i) :
    sout0_A_0 c i arg3 harg3 arg4 harg4 arg5 harg5 arg6 harg6 h0 h1 x0 x1 = k0_pay2 k0_pay1 x0 x1 := by
  unfold sout0_A_0
  rw [View.read_writes_eq_canon _ _ _ (scover0_A_0 c i arg3 harg3 arg4 harg4 arg5 harg5 arg6 harg6 h0 h1 x0 x1)]
  unfold kernelRun0_A
  dsimp only
  sl_unfold_words
  rw [View.canon_cons_unit_zero (S := S512x2048) hz2, View.readCov_unit_zero (S := S512x2048) _ hz2]
  simp only [View.readAt_eq_ld, harg3.read_unread, harg4.read_unread, harg6.read_unread,
    View.ld_unit_zero (S := S512x1024) hz2, View.ld_unit_zero (S := S2048x1024) hz2, View.ld_unit_zero (S := S512x2048) hz2]

/-- A later point adds its product to the total. -/
theorem total_B (h0 : ¬cond0_0 i) (h1 : cond0_1 i) :
    sout0_B_0 c i arg3 harg3 arg4 harg4 arg5 harg5 arg6 harg6 h0 h1 x0 x1 xs = k0_pay2 xs x0 x1 := by
  unfold sout0_B_0
  rw [View.read_writes_eq_canon _ _ _ (scover0_B_0 c i arg3 harg3 arg4 harg4 arg5 harg5 arg6 harg6 h0 h1 x0 x1 xs)]
  unfold kernelRun0_B
  dsimp only
  sl_unfold_words
  rw [View.canon_unit_zero hz2]
  simp only [View.readAt_eq_ld, harg3.read_unread, harg4.read_unread, harg6.read_unread,
    View.ld_unit_zero (S := S512x1024) hz2, View.ld_unit_zero (S := S2048x1024) hz2, View.ld_unit_zero (S := S512x2048) hz2]

/-- The last point of a run writes the total out. -/
theorem out_B (h0 : ¬cond0_0 i) (h1 : cond0_1 i) :
    out0_B_2 c i arg3 harg3 arg4 harg4 arg5 harg5 arg6 harg6 h0 h1 x0 x1 xs = k0_pay2 xs x0 x1 := by
  unfold out0_B_2
  rw [View.read_writes_eq_canon _ _ _ (cover0_B_2 c i arg3 harg3 arg4 harg4 arg5 harg5 arg6 harg6 h0 h1 x0 x1 xs)]
  unfold kernelRun0_B
  dsimp only
  sl_unfold_words
  rw [View.canon_unit_zero hz2, View.readCov_unit_zero (S := S512x2048) _ hz2]
  simp only [View.readAt_eq_ld, harg3.read_unread, harg4.read_unread, harg6.read_unread,
    View.ld_unit_zero (S := S512x1024) hz2, View.ld_unit_zero (S := S2048x1024) hz2, View.ld_unit_zero (S := S512x2048) hz2]
end

/-! ## The blocks -/

theorem idx0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)
theorem idx2 : ∀ t : Fin cfg0.N, win0_2.index t 0 = t.val / 2 ∧ win0_2.index t 1 = 0 :=
  (by decide +kernel : ∀ t : Fin grid0.N, win0_2.index t 0 = t.val / 2 ∧ win0_2.index t 1 = 0)

theorem lt16 (t : Fin cfg0.N) : t.val < 16 := lt_of_lt_of_eq t.isLt (show cfg0.N = 16 from N_0)

variable (m : (ℓ : Loc nD τ sig) → Buf (Elt Ideal) ℓ) (c : Dev nD)

/-- The two arguments. -/
def xA : Vec Ideal S4096x2048 .f32 := m ((c : Thread nD τ).loc main_arg0)
def wA : Vec Ideal S2048x2048 .bf16 := m ((c : Thread nD τ).loc main_arg1)

/-- The result's summands: the entry in row `r` of one argument times the one in row `d` of the other. -/
def tm (r d : ℕ) (k : Fin 2048) : EReal :=
  if hr : r < 4096 then if hd : d < 2048 then xA m c (ix2 ⟨r, hr⟩ k) * wA m c (ix2 ⟨d, hd⟩ k) else 0 else 0

theorem blk0 (t : Fin cfg0.N) (r : Fin 512) (k : Fin 1024) : (iblk m c 0 t : Vec Ideal S512x1024 .f32) (ix2 r k)
    = xA m c (ix2 ⟨512 * (t.val / 2) + r.val, by have := lt16 t; have := r.isLt; omega⟩ ⟨1024 * (t.val % 2) + k.val, by have := k.isLt; omega⟩) := by
  unfold iblk
  rw [View.read_apply]
  refine Eq.trans ?_ (congrFun (V_main_arg0 m c) _)
  show V m c main_arg0 _ = V m c main_arg0 _
  congr 1
  funext a
  apply Fin.ext
  obtain ⟨h0, h1⟩ := idx0 t
  match a with
  | ⟨0, _⟩ => show win0_0.index t 0 * 512 + 1 * r.val = 512 * (t.val / 2) + r.val; omega
  | ⟨1, _⟩ => show win0_0.index t 1 * 1024 + 1 * k.val = 1024 * (t.val % 2) + k.val; omega

theorem blk1 (t : Fin cfg0.N) (d : Fin 2048) (k : Fin 1024) : (iblk m c 1 t : Vec Ideal S2048x1024 .bf16) (ix2 d k)
    = wA m c (ix2 d ⟨1024 * (t.val % 2) + k.val, by have := k.isLt; omega⟩) := by
  unfold iblk
  rw [View.read_apply]
  refine Eq.trans ?_ (congrFun (V_main_arg1 m c) _)
  show V m c main_arg1 _ = V m c main_arg1 _
  congr 1
  funext a
  apply Fin.ext
  obtain ⟨h0, h1⟩ := idx1 t
  match a with
  | ⟨0, _⟩ => show win0_1.index t 0 * 2048 + 1 * d.val = d.val; omega
  | ⟨1, _⟩ => show win0_1.index t 1 * 1024 + 1 * k.val = 1024 * (t.val % 2) + k.val; omega

/-! ## The totals -/

theorem pay2_apply (v : Vec Ideal S512x2048 .f32) (a : Vec Ideal S512x1024 .f32) (b : Vec Ideal S2048x1024 .bf16) (r : Fin 512) (d : Fin 2048) :
    k0_pay2 (F := Ideal) v a b (ix2 r d) = v (ix2 r d) + ∑ k : Fin 1024, a (ix2 r k) * b (ix2 d k) := by
  pointwise [k0_pay2]

theorem pay1_apply (r : Fin 512) (d : Fin 2048) : (k0_pay1 (F := Ideal) : Vec Ideal S512x2048 .f32) (ix2 r d) = 0 := by
  pointwise [k0_pay1]

theorem step (t : Fin cfg0.N) (v : Vec Ideal S512x2048 .f32) (r : Fin 512) (d : Fin 2048) :
    k0_pay2 (F := Ideal) v (iblk m c 0 t) (iblk m c 1 t) (ix2 r d)
      = v (ix2 r d) + part 1024 (tm m c (512 * (t.val / 2) + r.val) d.val) (t.val % 2) := by
  rw [pay2_apply]
  congr 1
  refine part_eq 1024 _ _ _ fun k => ⟨by have := k.isLt; omega, ?_⟩
  have := lt16 t
  have := r.isLt
  rw [blk0, blk1]
  unfold tm
  rw [dif_pos (by omega), dif_pos d.isLt]

theorem sums (t : Fin cfg0.N) (r : Fin 512) (d : Fin 2048) : (outsAt0 m c t.val t.isLt).2 (ix2 r d)
    = ∑ j ∈ Finset.range (t.val % 2 + 1), part 1024 (tm m c (512 * (t.val / 2) + r.val) d.val) j := by
  refine running 2 (by norm_num) (fun n hn => (outsAt0 m c n hn).2 (ix2 r d)) (fun q j => part 1024 (tm m c (512 * q + r.val) d.val) j)
    (fun n hn h => ?_) (fun n hn h => ?_) t.val t.isLt
  · have e := outsAt0_A m c ⟨n, hn⟩ h (by show ¬ n % 2 = 1; omega)
    show (outsAt0 m c n hn).2 (ix2 r d) = _
    rw [show outsAt0 m c n hn = _ from e]
    dsimp only
    rw [total_A, step m c ⟨n, hn⟩, pay1_apply, zero_add]
  · have e := outsAt0_B m c ⟨n, hn⟩ h (by show n % 2 = 1; omega)
    show (outsAt0 m c n hn).2 (ix2 r d) = _
    rw [show outsAt0 m c n hn = _ from e]
    dsimp only
    rw [total_B, step m c ⟨n, hn⟩]

/-! ## The result -/

def res : Vec Ideal S4096x2048 .f32 := fun i => ∑ k, tm m c (i 0).val (i 1).val k

theorem flushed_last (t : Fin cfg0.N) (h0 : ¬ t.val % 2 = 0) (h : t.val % 2 = 1) :
    (dats m 0 c).flushed 2 t = (cfg0.win 2).cut (grid0.coords t) (outsAt0 m c t.val t.isLt).2 := by
  have e := snd_of (outsAt0_B m c t h0 h)
  have e1 := total_B (F := Ideal) c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2 (fun h' => h0 ((hcond0_0 t).mp h')) ((hcond0_1 t).mpr h)
  have e2 := out_B (F := Ideal) c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2 (fun h' => h0 ((hcond0_0 t).mp h')) ((hcond0_1 t).mpr h)
  exact (flushed2_B m c t h0 h).trans (congrArg _ (e2.trans (e.trans e1).symm))

theorem flushed_eq (t : Fin cfg0.N) (h : t.val % 2 = 1) :
    (dats m 0 c).flushed 2 t = ((cfg0.win 2).blk t).view.read (Elt Ideal) (res m c) := by
  rw [flushed_last m c t (by omega) h]
  funext i
  rw [View.read_apply]
  change S512x2048.Idx at i
  obtain ⟨r, d, rfl⟩ : ∃ r d, i = ix2 r d := ⟨_, _, eq_ix2 i⟩
  refine (sums m c t r d).trans ?_
  rw [h, show 1 + 1 = 2 from rfl, sum_parts 1024 2 (by norm_num : 1024 * 2 = 2048)]
  obtain ⟨i0, i1⟩ := idx2 t
  have a0 : win0_2.index t 0 * 512 + 1 * r.val = 512 * (t.val / 2) + r.val := by omega
  have a1 : win0_2.index t 1 * 2048 + 1 * d.val = d.val := by omega
  show _ = ∑ k, tm m c (win0_2.index t 0 * 512 + 1 * r.val) (win0_2.index t 1 * 2048 + 1 * d.val) k
  rw [a0, a1]

theorem final : (dats m 0 c).arrAt 2 cfg0.N = res m c :=
  (dats m 0 c).arrAt_eq_of_cover 2 _ (fun t hf => flushed_eq m c t ((flush0_2 t).mp hf)) (fun i => (covered_iff2 i).2 (by
    have h0 : (i 0).val < 4096 := (i 0).isLt
    have h1 : (i 1).val < 2048 := (i 1).isLt
    omega))

end

/-! ## The reference -/

section
open Cert.Reference6Ideal Cert.Reference6Ideal.Read

theorem ref_apply (x0 : (⟨S4096x2048, .f32⟩ : BufTy).Contents (Elt Ideal)) (x1 : (⟨S2048x2048, .bf16⟩ : BufTy).Contents (Elt Ideal)) (r : Fin 4096) (d : Fin 2048) :
    val_main_v3 (F := Ideal) x0 x1 (ix2 r d) = ∑ k : Fin 2048, x0 (ix2 r k) * x1 (ix2 d k) := by
  pointwise [val_main_v3, val_main_v1]

end

theorem claim : Cert.algebraic_Kernel6Ideal_Reference6Ideal := by
  intro m g m' g' _ hagree
  refine ⟨fun c => (Kernel6Ideal.Gen.dats m 0 c).arrAt 2 Kernel6Ideal.cfg0.N, Kernel6Ideal.Value.run_blocks m g, ?_⟩
  refine (θ_run Reference6Ideal.defs _ _).mono (fun r h c => ?_) (Reference6Ideal.Value.run m' g')
  obtain ⟨h0, hk⟩ := h c
  obtain ⟨a0, a1⟩ := hagree c
  refine ⟨h0.trans ((Reference6Ideal.Read.val_main_v3_eq _ _).trans (Eq.trans ?_ (final m c).symm)), hk⟩
  funext i
  change Reference6Ideal.S4096x2048.Idx at i
  obtain ⟨r, d, rfl⟩ : ∃ r d, i = ix2 r d := ⟨_, _, eq_ix2 i⟩
  refine (ref_apply _ _ r d).trans (Finset.sum_congr rfl fun k _ => ?_)
  rw [a0, a1]
  show _ = tm m c r.val d.val k
  unfold tm
  rw [dif_pos r.isLt, dif_pos d.isLt]
  rfl

end Cert.Proj.Dy

end
-- ==== Proof.Proj.Add.lean ====
/- The output projection added to the residual sum: the running totals and the result. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Proj.Sums
public import Idealize.ShloMosaic.Lib.Pointwise
public import Idealize.ShloMosaic.Lib.Tactic
public import Idealize.ShloMosaic.Lib.Pipeline.Value
public import Idealize.ShloMosaic.Lib.StableHlo.Run

@[expose] public section

set_option maxRecDepth 16384

noncomputable section

open Idealize.ShloMosaic Idealize.ShloMosaic.TcCoe Idealize.SL.Sem

namespace Cert.Proj.Add

section
open Cert.Kernel7Ideal Cert.Kernel7Ideal.Gen Cert.Kernel7Ideal.Value

theorem hz2 : (![0, 0] : Fin 2 → Nat) = fun _ => 0 := funext fun a => by fin_cases a <;> rfl

section
variable {F : FTy → Type} [FloatOps F]
  (c : Dev nD) (i : grid0.Coords)
  (arg3 : Memref sig .tc .vmem S512x1024 .bf16) (harg3 : arg3.IsWhole) (arg4 : Memref sig .tc .vmem S1024x2048 .bf16) (harg4 : arg4.IsWhole)
  (arg5 : Memref sig .tc .vmem S512x2048 .f32) (harg5 : arg5.IsWhole) (arg6 : Memref sig .tc .vmem S512x2048 .f32) (harg6 : arg6.IsWhole)
  (arg7 : Memref sig .tc .vmem S512x2048 .f32) (harg7 : arg7.IsWhole)
  (x0 : Vec F S512x1024 .bf16) (x1 : Vec F S1024x2048 .bf16) (x2 : Vec F S512x2048 .f32) (xs : Vec F S512x2048 .f32)

/-- The first point of a run leaves its own product in the total. -/
theorem total_A (h0 : cond0_0 i) (h1 : ¬cond0_1 i) :
    sout0_A_0 c i arg3 harg3 arg4 harg4 arg5 harg5 arg6 harg6 arg7 harg7 h0 h1 x0 x1 x2 = k0_pay2 k0_pay1 x0 x1 := by
  unfold sout0_A_0
  rw [View.read_writes_eq_canon _ _ _ (scover0_A_0 c i arg3 harg3 arg4 harg4 arg5 harg5 arg6 harg6 arg7 harg7 h0 h1 x0 x1 x2)]
  unfold kernelRun0_A
  dsimp only
  sl_unfold_words
  rw [View.canon_cons_unit_zero (S := S512x2048) hz2, View.readCov_unit_zero (S := S512x2048) _ hz2]
  simp only [View.readAt_eq_ld, harg3.read_unread, harg4.read_unread, harg5.read_unread, harg7.read_unread,
    View.ld_unit_zero (S := S512x1024) hz2, View.ld_unit_zero (S := S1024x2048) hz2, View.ld_unit_zero (S := S512x2048) hz2]

/-- The second point adds its product to the total. -/
theorem total_B (h0 : ¬cond0_0 i) (h1 : cond0_1 i) :
    sout0_B_0 c i arg3 harg3 arg4 harg4 arg5 harg5 arg6 harg6 arg7 harg7 h0 h1 x0 x1 x2 xs = k0_pay2 xs x0 x1 := by
  unfold sout0_B_0
  rw [View.read_writes_eq_canon _ _ _ (scover0_B_0 c i arg3 harg3 arg4 harg4 arg5 harg5 arg6 harg6 arg7 harg7 h0 h1 x0 x1 x2 xs)]
  unfold kernelRun0_B
  dsimp only
  sl_unfold_words
  rw [View.canon_unit_zero hz2]
  simp only [View.readAt_eq_ld, harg3.read_unread, harg4.read_unread, harg5.read_unread, harg7.read_unread,
    View.ld_unit_zero (S := S512x1024) hz2, View.ld_unit_zero (S := S1024x2048) hz2, View.ld_unit_zero (S := S512x2048) hz2]

/-- It writes the finished total plus the input. -/
theorem out_B (h0 : ¬cond0_0 i) (h1 : cond0_1 i) :
    out0_B_3 c i arg3 harg3 arg4 harg4 arg5 harg5 arg6 harg6 arg7 harg7 h0 h1 x0 x1 x2 xs = k0_pay3 (k0_pay2 xs x0 x1) x2 := by
  unfold out0_B_3
  rw [View.read_writes_eq_canon _ _ _ (cover0_B_3 c i arg3 harg3 arg4 harg4 arg5 harg5 arg6 harg6 arg7 harg7 h0 h1 x0 x1 x2 xs)]
  unfold kernelRun0_B
  dsimp only
  sl_unfold_words
  rw [View.canon_unit_zero hz2, View.readCov_unit_zero (S := S512x2048) _ hz2]
  simp only [View.readAt_eq_ld, harg3.read_unread, harg4.read_unread, harg5.read_unread, harg7.read_unread,
    View.ld_unit_zero (S := S512x1024) hz2, View.ld_unit_zero (S := S1024x2048) hz2, View.ld_unit_zero (S := S512x2048) hz2]

end

/-! ## The stored values at an index -/

theorem pay1_apply (r : Fin 512) (d : Fin 2048) : (k0_pay1 (F := Ideal) : Vec Ideal S512x2048 .f32) (ix2 r d) = 0 := by
  pointwise [k0_pay1]

theorem pay2_apply (v : Vec Ideal S512x2048 .f32) (a : Vec Ideal S512x1024 .bf16) (b : Vec Ideal S1024x2048 .bf16) (r : Fin 512) (d : Fin 2048) :
    k0_pay2 (F := Ideal) v a b (ix2 r d) = v (ix2 r d) + ∑ k : Fin 1024, a (ix2 r k) * b (ix2 k d) := by
  pointwise [k0_pay2]

theorem pay3_apply (v x : Vec Ideal S512x2048 .f32) (r : Fin 512) (d : Fin 2048) :
    k0_pay3 (F := Ideal) v x (ix2 r d) = v (ix2 r d) + x (ix2 r d) := by
  pointwise [k0_pay3]

/-! ## The blocks -/

theorem idx0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)
theorem idx1 : ∀ t : Fin cfg0.N, win0_1.index t 0 = t.val % 2 ∧ win0_1.index t 1 = 0 :=
  (by decide +kernel : ∀ t : Fin grid0.N, win0_1.index t 0 = t.val % 2 ∧ win0_1.index t 1 = 0)
theorem idx2 : ∀ t : Fin cfg0.N, win0_2.index t 0 = t.val / 2 ∧ win0_2.index t 1 = 0 :=
  (by decide +kernel : ∀ t : Fin grid0.N, win0_2.index t 0 = t.val / 2 ∧ win0_2.index t 1 = 0)
theorem idx3 : ∀ t : Fin cfg0.N, win0_3.index t 0 = t.val / 2 ∧ win0_3.index t 1 = 0 :=
  (by decide +kernel : ∀ t : Fin grid0.N, win0_3.index t 0 = t.val / 2 ∧ win0_3.index t 1 = 0)

theorem lt16 (t : Fin cfg0.N) : t.val < 16 := lt_of_lt_of_eq t.isLt (show cfg0.N = 16 from N_0)

variable (m : (ℓ : Loc nD τ sig) → Buf (Elt Ideal) ℓ) (c : Dev nD)

/-- The three arguments. -/
def yA : Vec Ideal S4096x2048 .bf16 := m ((c : Thread nD τ).loc main_arg0)
def wA : Vec Ideal S2048x2048 .bf16 := m ((c : Thread nD τ).loc main_arg1)
def xA : Vec Ideal S4096x2048 .f32 := m ((c : Thread nD τ).loc main_arg2)

/-- The product's summands. -/
def tm (r d : ℕ) (k : Fin 2048) : EReal :=
  if hr : r < 4096 then if hd : d < 2048 then yA m c (ix2 ⟨r, hr⟩ k) * wA m c (ix2 k ⟨d, hd⟩) else 0 else 0

theorem blk0 (t : Fin cfg0.N) (r : Fin 512) (k : Fin 1024) : (iblk m c 0 t : Vec Ideal S512x1024 .bf16) (ix2 r k)
    = yA m c (ix2 ⟨512 * (t.val / 2) + r.val, by have := lt16 t; have := r.isLt; omega⟩ ⟨1024 * (t.val % 2) + k.val, by have := k.isLt; omega⟩) := by
  unfold iblk
  rw [View.read_apply]
  refine Eq.trans ?_ (congrFun (V_main_arg0 m c) _)
  show V m c main_arg0 _ = V m c main_arg0 _
  congr 1
  funext a
  apply Fin.ext
  obtain ⟨h0, h1⟩ := idx0 t
  match a with
  | ⟨0, _⟩ => show win0_0.index t 0 * 512 + 1 * r.val = 512 * (t.val / 2) + r.val; omega
  | ⟨1, _⟩ => show win0_0.index t 1 * 1024 + 1 * k.val = 1024 * (t.val % 2) + k.val; omega

theorem blk1 (t : Fin cfg0.N) (k : Fin 1024) (d : Fin 2048) : (iblk m c 1 t : Vec Ideal S1024x2048 .bf16) (ix2 k d)
    = wA m c (ix2 ⟨1024 * (t.val % 2) + k.val, by have := k.isLt; omega⟩ d) := by
  unfold iblk
  rw [View.read_apply]
  refine Eq.trans ?_ (congrFun (V_main_arg1 m c) _)
  show V m c main_arg1 _ = V m c main_arg1 _
  congr 1
  funext a
  apply Fin.ext
  obtain ⟨h0, h1⟩ := idx1 t
  match a with
  | ⟨0, _⟩ => show win0_1.index t 0 * 1024 + 1 * k.val = 1024 * (t.val % 2) + k.val; omega
  | ⟨1, _⟩ => show win0_1.index t 1 * 2048 + 1 * d.val = d.val; omega

theorem blk2 (t : Fin cfg0.N) (r : Fin 512) (d : Fin 2048) : (iblk m c 2 t : Vec Ideal S512x2048 .f32) (ix2 r d)
    = xA m c (ix2 ⟨512 * (t.val / 2) + r.val, by have := lt16 t; have := r.isLt; omega⟩ d) := by
  unfold iblk
  rw [View.read_apply]
  refine Eq.trans ?_ (congrFun (V_main_arg2 m c) _)
  show V m c main_arg2 _ = V m c main_arg2 _
  congr 1
  funext a
  apply Fin.ext
  obtain ⟨h0, h1⟩ := idx2 t
  match a with
  | ⟨0, _⟩ => show win0_2.index t 0 * 512 + 1 * r.val = 512 * (t.val / 2) + r.val; omega
  | ⟨1, _⟩ => show win0_2.index t 1 * 2048 + 1 * d.val = d.val; omega

/-! ## What each point leaves -/

theorem tot_A (t : Fin cfg0.N) (h0 : t.val % 2 = 0) (h1 : ¬ t.val % 2 = 1) :
    (outsAt0 m c t.val t.isLt).2 = k0_pay2 (F := Ideal) (k0_pay1 (F := Ideal)) (iblk m c 0 t) (iblk m c 1 t) :=
  (snd_of (outsAt0_A m c t h0 h1)).trans (total_A (F := Ideal) c (grid0.coords t) (ms0_0 t) (hs0_0 t) (ms0_1 t) (hs0_1 t) (ms0_2 t) (hs0_2 t) (ms0_3 t) (hs0_3 t) scM0_0 (Memref.isWhole_whole _)
      (iblk m c 0 t) (iblk m c 1 t) (iblk m c 2 t) ((hcond0_0 t).mpr h0) (fun h' => h1 ((hcond0_1 t).mp h')))

theorem tot_B (t : Fin cfg0.N) (h0 : ¬ t.val % 2 = 0) (h1 : t.val % 2 = 1) :
    (outsAt0 m c t.val t.isLt).2 = k0_pay2 (F := Ideal) (outsAt0 m c (t.val - 1) (Nat.lt_of_le_of_lt (Nat.sub_le _ _) t.isLt)).2 (iblk m c 0 t) (iblk m c 1 t) :=
  (snd_of (outsAt0_B m c t h0 h1)).trans (total_B (F := Ideal) c (grid0.coords t) (ms0_0 t) (hs0_0 t) (ms0_1 t) (hs0_1 t) (ms0_2 t) (hs0_2 t) (ms0_3 t) (hs0_3 t) scM0_0 (Memref.isWhole_whole _)
      (iblk m c 0 t) (iblk m c 1 t) (iblk m c 2 t) (outsAt0 m c (t.val - 1) (Nat.lt_of_le_of_lt (Nat.sub_le _ _) t.isLt)).2 (fun h' => h0 ((hcond0_0 t).mp h')) ((hcond0_1 t).mpr h1))

theorem fst_of {α β : Type} {p : α × β} {a : α} {b : β} (h : p = (a, b)) : p.1 = a := by rw [h]

theorem out_last (t : Fin cfg0.N) (h0 : ¬ t.val % 2 = 0) (h1 : t.val % 2 = 1) :
    (outsAt0 m c t.val t.isLt).1 = k0_pay3 (F := Ideal) (outsAt0 m c t.val t.isLt).2 (iblk m c 2 t) :=
  ((fst_of (outsAt0_B m c t h0 h1)).trans (out_B (F := Ideal) c (grid0.coords t) (ms0_0 t) (hs0_0 t) (ms0_1 t) (hs0_1 t) (ms0_2 t) (hs0_2 t) (ms0_3 t) (hs0_3 t) scM0_0 (Memref.isWhole_whole _)
      (iblk m c 0 t) (iblk m c 1 t) (iblk m c 2 t) (outsAt0 m c (t.val - 1) (Nat.lt_of_le_of_lt (Nat.sub_le _ _) t.isLt)).2 (fun h' => h0 ((hcond0_0 t).mp h')) ((hcond0_1 t).mpr h1))).trans
    (congrArg (fun v => k0_pay3 (F := Ideal) v (iblk m c 2 t)) (tot_B m c t h0 h1).symm)

/-! ## The totals -/

theorem step (t : Fin cfg0.N) (v : Vec Ideal S512x2048 .f32) (r : Fin 512) (d : Fin 2048) :
    k0_pay2 (F := Ideal) v (iblk m c 0 t) (iblk m c 1 t) (ix2 r d)
      = v (ix2 r d) + part 1024 (tm m c (512 * (t.val / 2) + r.val) d.val) (t.val % 2) := by
  rw [pay2_apply]
  congr 1
  refine part_eq 1024 _ _ _ fun k => ⟨by have := k.isLt; omega, ?_⟩
  have := lt16 t
  have := r.isLt
  rw [blk0, blk1]
  unfold tm
  rw [dif_pos (by omega), dif_pos d.isLt]

theorem sums (t : Fin cfg0.N) (r : Fin 512) (d : Fin 2048) : (outsAt0 m c t.val t.isLt).2 (ix2 r d)
    = ∑ j ∈ Finset.range (t.val % 2 + 1), part 1024 (tm m c (512 * (t.val / 2) + r.val) d.val) j := by
  refine running 2 (by norm_num) (fun n hn => (outsAt0 m c n hn).2 (ix2 r d)) (fun q j => part 1024 (tm m c (512 * q + r.val) d.val) j)
    (fun n hn h => ?_) (fun n hn h => ?_) t.val t.isLt
  · refine (congrFun (tot_A m c ⟨n, hn⟩ h (by show ¬ n % 2 = 1; omega)) (ix2 r d)).trans ?_
    rw [step m c ⟨n, hn⟩, pay1_apply, zero_add]
  · exact (congrFun (tot_B m c ⟨n, hn⟩ h (by show n % 2 = 1; omega)) (ix2 r d)).trans (step m c ⟨n, hn⟩ _ r d)

theorem total (t : Fin cfg0.N) (h : t.val % 2 = 1) (r : Fin 512) (d : Fin 2048) :
    (outsAt0 m c t.val t.isLt).2 (ix2 r d) = ∑ k, tm m c (512 * (t.val / 2) + r.val) d.val k := by
  refine (sums m c t r d).trans ?_
  rw [h, show 1 + 1 = 2 from rfl, sum_parts 1024 2 (by norm_num : 1024 * 2 = 2048)]

/-! ## The result -/

def res : Vec Ideal S4096x2048 .f32 := fun i => (∑ k, tm m c (i 0).val (i 1).val k) + xA m c i

theorem out_val (t : Fin cfg0.N) (h : t.val % 2 = 1) (r : Fin 512) (d : Fin 2048) :
    (outsAt0 m c t.val t.isLt).1 (ix2 r d) = res m c (ix2 ⟨512 * (t.val / 2) + r.val, by have := lt16 t; have := r.isLt; omega⟩ d) := by
  refine (congrFun (out_last m c t (by omega) h) (ix2 r d)).trans ((pay3_apply _ _ r d).trans ?_)
  rw [total m c t h, blk2]
  rfl

theorem flushed_eq (t : Fin cfg0.N) (h : t.val % 2 = 1) :
    (dats m 0 c).flushed 3 t = ((cfg0.win 3).blk t).view.read (Elt Ideal) (res m c) := by
  rw [flushed3 m c t]
  funext i
  rw [View.read_apply]
  change S512x2048.Idx at i
  obtain ⟨r, d, rfl⟩ : ∃ r d, i = ix2 r d := ⟨_, _, eq_ix2 i⟩
  refine (out_val m c t h r d).trans (congrArg (res m c) ?_)
  obtain ⟨i0, i1⟩ := idx3 t
  funext a
  apply Fin.ext
  match a with
  | ⟨0, _⟩ => show 512 * (t.val / 2) + r.val = win0_3.index t 0 * 512 + 1 * r.val; omega
  | ⟨1, _⟩ => show d.val = win0_3.index t 1 * 2048 + 1 * d.val; omega

theorem final : (dats m 0 c).arrAt 3 cfg0.N = res m c :=
  (dats m 0 c).arrAt_eq_of_cover 3 _ (fun t hf => flushed_eq m c t ((flush0_3 t).mp hf)) (fun i => (covered_iff3 i).2 (by
    have h0 : (i 0).val < 4096 := (i 0).isLt
    have h1 : (i 1).val < 2048 := (i 1).isLt
    omega))

end

/-! ## The reference -/

section
open Cert.Reference7Ideal Cert.Reference7Ideal.Read

theorem ref_apply (x0 : (⟨S4096x2048, .bf16⟩ : BufTy).Contents (Elt Ideal)) (x1 : (⟨S2048x2048, .bf16⟩ : BufTy).Contents (Elt Ideal))
    (x2 : (⟨S4096x2048, .f32⟩ : BufTy).Contents (Elt Ideal)) (r : Fin 4096) (d : Fin 2048) :
    val_main_v3 (F := Ideal) x0 x1 x2 (ix2 r d) = x2 (ix2 r d) + ∑ k : Fin 2048, x0 (ix2 r k) * x1 (ix2 k d) := by
  pointwise [val_main_v3, val_main_v2, val_main_v1, val_main_v0]

end

theorem claim : Cert.algebraic_Kernel7Ideal_Reference7Ideal := by
  intro m g m' g' _ hagree
  refine ⟨fun c => (Kernel7Ideal.Gen.dats m 0 c).arrAt 3 Kernel7Ideal.cfg0.N, Kernel7Ideal.Value.run_blocks m g, ?_⟩
  refine (θ_run Reference7Ideal.defs _ _).mono (fun r h c => ?_) (Reference7Ideal.Value.run m' g')
  obtain ⟨h0, hk⟩ := h c
  obtain ⟨a0, a1, a2⟩ := hagree c
  refine ⟨h0.trans ((Reference7Ideal.Read.val_main_v3_eq _ _ _).trans (Eq.trans ?_ (final m c).symm)), hk⟩
  funext i
  change Reference7Ideal.S4096x2048.Idx at i
  obtain ⟨r, d, rfl⟩ : ∃ r d, i = ix2 r d := ⟨_, _, eq_ix2 i⟩
  refine (ref_apply _ _ _ r d).trans ((add_comm _ _).trans ?_)
  rw [a0, a1, a2]
  refine congrArg (· + xA m c (ix2 r d)) (Finset.sum_congr rfl fun k _ => ?_)
  show _ = tm m c r.val d.val k
  unfold tm
  rw [dif_pos r.isLt, dif_pos d.isLt]
  rfl

end Cert.Proj.Add

end
-- ==== Proof.Proj.Loss.lean ====
/- The last output projection with the loss: the running totals, the loss and its gradient. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Proj.Sums
public import proofs.«01_k».proof.Proof.Proj.Norm
public import Idealize.ShloMosaic.Lib.Pointwise
public import Idealize.ShloMosaic.Lib.Tactic
public import Idealize.ShloMosaic.Lib.Pipeline.Value
public import Idealize.ShloMosaic.Lib.StableHlo.Run

@[expose] public section

set_option maxRecDepth 16384

noncomputable section

open Idealize.ShloMosaic Idealize.ShloMosaic.TcCoe Idealize.SL.Sem

namespace Cert.Proj.Loss

section
open Cert.Kernel8Ideal Cert.Kernel8Ideal.Gen Cert.Kernel8Ideal.Value

theorem hz2 : (![0, 0] : Fin 2 → Nat) = fun _ => 0 := funext fun a => by fin_cases a <;> rfl

section
variable {F : FTy → Type} [FloatOps F]
  (c : Dev nD) (i : grid0.Coords)
  (arg3 : Memref sig .tc .vmem S512x1024 .bf16) (harg3 : arg3.IsWhole) (arg4 : Memref sig .tc .vmem S1024x2048 .bf16) (harg4 : arg4.IsWhole)
  (arg5 : Memref sig .tc .vmem S512x2048 .f32) (harg5 : arg5.IsWhole) (arg6 : Memref sig .tc .vmem S512x2048 .f32) (harg6 : arg6.IsWhole)
  (arg7 : Memref sig .tc .vmem S512x2048 .f32) (harg7 : arg7.IsWhole) (arg8 : Memref sig .tc .vmem S1x128 .f32) (harg8 : arg8.IsWhole)
  (arg9 : Memref sig .tc .vmem S512x2048 .f32) (harg9 : arg9.IsWhole)
  (x0 : Vec F S512x1024 .bf16) (x1 : Vec F S1024x2048 .bf16) (x2 : Vec F S512x2048 .f32) (x3 : Vec F S512x2048 .f32)
  (xl : Vec F S1x128 .f32) (xs : Vec F S512x2048 .f32)

/-- The first point of a run leaves its own product in the total. -/
theorem total_A (h0 : cond0_0 i) (h1 : ¬cond0_1 i) :
    sout0_A_0 c i arg3 harg3 arg4 harg4 arg5 harg5 arg6 harg6 arg7 harg7 arg8 harg8 arg9 harg9 h0 h1 x0 x1 x2 x3 = k0_pay2 k0_pay1 x0 x1 := by
  unfold sout0_A_0
  rw [View.read_writes_eq_canon _ _ _ (scover0_A_0 c i arg3 harg3 arg4 harg4 arg5 harg5 arg6 harg6 arg7 harg7 arg8 harg8 arg9 harg9 h0 h1 x0 x1 x2 x3)]
  unfold kernelRun0_A
  dsimp only
  sl_unfold_words
  rw [View.canon_cons_unit_zero (S := S512x2048) hz2, View.readCov_unit_zero (S := S512x2048) _ hz2]
  simp only [View.readAt_eq_ld, harg3.read_unread, harg4.read_unread, harg5.read_unread, harg6.read_unread, harg8.read_unread, harg9.read_unread,
    View.ld_unit_zero (S := S512x1024) hz2, View.ld_unit_zero (S := S1024x2048) hz2, View.ld_unit_zero (S := S512x2048) hz2, View.ld_unit_zero (S := S1x128) hz2]

/-- The second point adds its product to the total. -/
theorem total_B (h0 : ¬cond0_0 i) (h1 : cond0_1 i) (h2 : cond0_2 i) :
    sout0_B_0 c i arg3 harg3 arg4 harg4 arg5 harg5 arg6 harg6 arg7 harg7 arg8 harg8 arg9 harg9 h0 h1 h2 x0 x1 x2 x3 xs = k0_pay2 xs x0 x1 := by
  unfold sout0_B_0
  rw [View.read_writes_eq_canon _ _ _ (scover0_B_0 c i arg3 harg3 arg4 harg4 arg5 harg5 arg6 harg6 arg7 harg7 arg8 harg8 arg9 harg9 h0 h1 h2 x0 x1 x2 x3 xs)]
  unfold kernelRun0_B
  dsimp only
  sl_unfold_words
  rw [View.canon_unit_zero hz2]
  simp only [View.readAt_eq_ld, harg3.read_unread, harg4.read_unread, harg5.read_unread, harg6.read_unread, harg8.read_unread, harg9.read_unread,
    View.ld_unit_zero (S := S512x1024) hz2, View.ld_unit_zero (S := S1024x2048) hz2, View.ld_unit_zero (S := S512x2048) hz2, View.ld_unit_zero (S := S1x128) hz2]

theorem total_C (h0 : ¬cond0_0 i) (h1 : cond0_1 i) (h2 : ¬cond0_2 i) :
    sout0_C_0 c i arg3 harg3 arg4 harg4 arg5 harg5 arg6 harg6 arg7 harg7 arg8 harg8 arg9 harg9 h0 h1 h2 x0 x1 x2 x3 xl xs = k0_pay2 xs x0 x1 := by
  unfold sout0_C_0
  rw [View.read_writes_eq_canon _ _ _ (scover0_C_0 c i arg3 harg3 arg4 harg4 arg5 harg5 arg6 harg6 arg7 harg7 arg8 harg8 arg9 harg9 h0 h1 h2 x0 x1 x2 x3 xl xs)]
  unfold kernelRun0_C
  dsimp only
  sl_unfold_words
  rw [View.canon_unit_zero hz2]
  simp only [View.readAt_eq_ld, harg3.read_unread, harg4.read_unread, harg5.read_unread, harg6.read_unread, harg8.read_unread, harg9.read_unread,
    View.ld_unit_zero (S := S512x1024) hz2, View.ld_unit_zero (S := S1024x2048) hz2, View.ld_unit_zero (S := S512x2048) hz2, View.ld_unit_zero (S := S1x128) hz2]

/-- It writes the loss's gradient, computed from the finished total. -/
theorem dx_B (h0 : ¬cond0_0 i) (h1 : cond0_1 i) (h2 : cond0_2 i) :
    out0_B_4 c i arg3 harg3 arg4 harg4 arg5 harg5 arg6 harg6 arg7 harg7 arg8 harg8 arg9 harg9 h0 h1 h2 x0 x1 x2 x3 xs = k0_pay5 (k0_pay2 xs x0 x1) x2 x3 := by
  unfold out0_B_4
  rw [View.read_writes_eq_canon _ _ _ (cover0_B_4 c i arg3 harg3 arg4 harg4 arg5 harg5 arg6 harg6 arg7 harg7 arg8 harg8 arg9 harg9 h0 h1 h2 x0 x1 x2 x3 xs)]
  unfold kernelRun0_B
  dsimp only
  sl_unfold_words
  rw [View.canon_unit_zero hz2, View.readCov_unit_zero (S := S512x2048) _ hz2]
  simp only [View.readAt_eq_ld, harg3.read_unread, harg4.read_unread, harg5.read_unread, harg6.read_unread, harg8.read_unread, harg9.read_unread,
    View.ld_unit_zero (S := S512x1024) hz2, View.ld_unit_zero (S := S1024x2048) hz2, View.ld_unit_zero (S := S512x2048) hz2, View.ld_unit_zero (S := S1x128) hz2]

theorem dx_C (h0 : ¬cond0_0 i) (h1 : cond0_1 i) (h2 : ¬cond0_2 i) :
    out0_C_4 c i arg3 harg3 arg4 harg4 arg5 harg5 arg6 harg6 arg7 harg7 arg8 harg8 arg9 harg9 h0 h1 h2 x0 x1 x2 x3 xl xs = k0_pay5 (k0_pay2 xs x0 x1) x2 x3 := by
  unfold out0_C_4
  rw [View.read_writes_eq_canon _ _ _ (cover0_C_4 c i arg3 harg3 arg4 harg4 arg5 harg5 arg6 harg6 arg7 harg7 arg8 harg8 arg9 harg9 h0 h1 h2 x0 x1 x2 x3 xl xs)]
  unfold kernelRun0_C
  dsimp only
  sl_unfold_words
  rw [View.canon_unit_zero hz2, View.readCov_unit_zero (S := S512x2048) _ hz2]
  simp only [View.readAt_eq_ld, harg3.read_unread, harg4.read_unread, harg5.read_unread, harg6.read_unread, harg8.read_unread, harg9.read_unread,
    View.ld_unit_zero (S := S512x1024) hz2, View.ld_unit_zero (S := S1024x2048) hz2, View.ld_unit_zero (S := S512x2048) hz2, View.ld_unit_zero (S := S1x128) hz2]

/-- The first run starts the loss from zero. -/
theorem loss_B (h0 : ¬cond0_0 i) (h1 : cond0_1 i) (h2 : cond0_2 i) :
    out0_B_5 c i arg3 harg3 arg4 harg4 arg5 harg5 arg6 harg6 arg7 harg7 arg8 harg8 arg9 harg9 h0 h1 h2 x0 x1 x2 x3 xs = k0_pay6 (k0_pay2 xs x0 x1) x2 x3 k0_pay3 := by
  unfold out0_B_5
  rw [View.read_writes_eq_canon _ _ _ (cover0_B_5 c i arg3 harg3 arg4 harg4 arg5 harg5 arg6 harg6 arg7 harg7 arg8 harg8 arg9 harg9 h0 h1 h2 x0 x1 x2 x3 xs)]
  unfold kernelRun0_B
  dsimp only
  sl_unfold_words
  rw [View.canon_cons_unit_zero (S := S1x128) hz2, View.readCov_unit_zero (S := S512x2048) _ hz2, View.readCov_unit_zero (S := S1x128) _ hz2]
  simp only [View.readAt_eq_ld, harg3.read_unread, harg4.read_unread, harg5.read_unread, harg6.read_unread, harg8.read_unread, harg9.read_unread,
    View.ld_unit_zero (S := S512x1024) hz2, View.ld_unit_zero (S := S1024x2048) hz2, View.ld_unit_zero (S := S512x2048) hz2, View.ld_unit_zero (S := S1x128) hz2]

/-- A later run adds its rows to the loss. -/
theorem loss_C (h0 : ¬cond0_0 i) (h1 : cond0_1 i) (h2 : ¬cond0_2 i) :
    out0_C_5 c i arg3 harg3 arg4 harg4 arg5 harg5 arg6 harg6 arg7 harg7 arg8 harg8 arg9 harg9 h0 h1 h2 x0 x1 x2 x3 xl xs = k0_pay6 (k0_pay2 xs x0 x1) x2 x3 xl := by
  unfold out0_C_5
  rw [View.read_writes_eq_canon _ _ _ (cover0_C_5 c i arg3 harg3 arg4 harg4 arg5 harg5 arg6 harg6 arg7 harg7 arg8 harg8 arg9 harg9 h0 h1 h2 x0 x1 x2 x3 xl xs)]
  unfold kernelRun0_C
  dsimp only
  sl_unfold_words
  rw [View.canon_unit_zero hz2, View.readCov_unit_zero (S := S512x2048) _ hz2]
  simp only [View.readAt_eq_ld, harg3.read_unread, harg4.read_unread, harg5.read_unread, harg6.read_unread, harg8.read_unread, harg9.read_unread,
    View.ld_unit_zero (S := S512x1024) hz2, View.ld_unit_zero (S := S1024x2048) hz2, View.ld_unit_zero (S := S512x2048) hz2, View.ld_unit_zero (S := S1x128) hz2]

/-- The first point of a run leaves the loss as it was. -/
theorem loss_A (h0 : cond0_0 i) (h1 : ¬cond0_1 i) :
    out0_A_5 c i arg3 harg3 arg4 harg4 arg5 harg5 arg6 harg6 arg7 harg7 arg8 harg8 arg9 harg9 h0 h1 x0 x1 x2 x3 xl = xl := rfl
end

/-! ## The stored values at an index -/

theorem pay1_apply (r : Fin 512) (d : Fin 2048) : (k0_pay1 (F := Ideal) : Vec Ideal S512x2048 .f32) (ix2 r d) = 0 := by
  pointwise [k0_pay1]

theorem pay2_apply (v : Vec Ideal S512x2048 .f32) (a : Vec Ideal S512x1024 .bf16) (b : Vec Ideal S1024x2048 .bf16) (r : Fin 512) (d : Fin 2048) :
    k0_pay2 (F := Ideal) v a b (ix2 r d) = v (ix2 r d) + ∑ k : Fin 1024, a (ix2 r k) * b (ix2 k d) := by
  pointwise [k0_pay2]

theorem pay3_apply (l : Fin 128) : (k0_pay3 (F := Ideal) : Vec Ideal S1x128 .f32) (ix2 0 l) = 0 := by
  pointwise [k0_pay3]

theorem pay4_apply (v x y : Vec Ideal S512x2048 .f32) (r : Fin 512) (d : Fin 2048) :
    k0_pay4 (F := Ideal) v x y (ix2 r d) = v (ix2 r d) + x (ix2 r d) - y (ix2 r d) := by
  pointwise [k0_pay4]

theorem pay5_apply (v x y : Vec Ideal S512x2048 .f32) (r : Fin 512) (d : Fin 2048) :
    k0_pay5 (F := Ideal) v x y (ix2 r d) = (v (ix2 r d) + x (ix2 r d) - y (ix2 r d)) * Ideal.ofBits .f32 0x3A000000#32 := by
  pointwise [k0_pay5]
  rw [pay4_apply]

/-- The mean square of a row. -/
def msq (e : Fin 2048 → EReal) : EReal := Ideal.div (∑ d, e d * e d) (Ideal.ofBits .f32 0x45000000#32)

theorem pay6_apply (v x y : Vec Ideal S512x2048 .f32) (p : Vec Ideal S1x128 .f32) (l : Fin 128) :
    k0_pay6 (F := Ideal) v x y p (ix2 0 l) = p (ix2 0 l)
      + Ideal.ofBits .f32 0x3F000000#32 * ∑ r : Fin 512, msq fun d => v (ix2 r d) + x (ix2 r d) - y (ix2 r d) := by
  unfold msq
  pointwise [k0_pay6]
  simp only [pay4_apply]

/-! ## The blocks -/

theorem idx0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)
theorem idx1 : ∀ t : Fin cfg0.N, win0_1.index t 0 = t.val % 2 ∧ win0_1.index t 1 = 0 :=
  (by decide +kernel : ∀ t : Fin grid0.N, win0_1.index t 0 = t.val % 2 ∧ win0_1.index t 1 = 0)
theorem idx2 : ∀ t : Fin cfg0.N, win0_2.index t 0 = t.val / 2 ∧ win0_2.index t 1 = 0 :=
  (by decide +kernel : ∀ t : Fin grid0.N, win0_2.index t 0 = t.val / 2 ∧ win0_2.index t 1 = 0)
theorem idx3 : ∀ t : Fin cfg0.N, win0_3.index t 0 = t.val / 2 ∧ win0_3.index t 1 = 0 :=
  (by decide +kernel : ∀ t : Fin grid0.N, win0_3.index t 0 = t.val / 2 ∧ win0_3.index t 1 = 0)
theorem idx4 : ∀ t : Fin cfg0.N, win0_4.index t 0 = t.val / 2 ∧ win0_4.index t 1 = 0 :=
  (by decide +kernel : ∀ t : Fin grid0.N, win0_4.index t 0 = t.val / 2 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)

theorem lt16 (t : Fin cfg0.N) : t.val < 16 := lt_of_lt_of_eq t.isLt (show cfg0.N = 16 from N_0)

variable (m : (ℓ : Loc nD τ sig) → Buf (Elt Ideal) ℓ) (c : Dev nD)

/-- The four arguments. -/
def yA : Vec Ideal S4096x2048 .bf16 := m ((c : Thread nD τ).loc main_arg0)
def wA : Vec Ideal S2048x2048 .bf16 := m ((c : Thread nD τ).loc main_arg1)
def xA : Vec Ideal S4096x2048 .f32 := m ((c : Thread nD τ).loc main_arg2)
def tA : Vec Ideal S4096x2048 .f32 := m ((c : Thread nD τ).loc main_arg3)

/-- The product's summands. -/
def tm (r d : ℕ) (k : Fin 2048) : EReal :=
  if hr : r < 4096 then if hd : d < 2048 then yA m c (ix2 ⟨r, hr⟩ k) * wA m c (ix2 k ⟨d, hd⟩) else 0 else 0

/-- The error: the projection plus the input minus the target. -/
def er (r : ℕ) (d : Fin 2048) : EReal :=
  if hr : r < 4096 then (∑ k, tm m c r d.val k) + xA m c (ix2 ⟨r, hr⟩ d) - tA m c (ix2 ⟨r, hr⟩ d) else 0

theorem blk0 (t : Fin cfg0.N) (r : Fin 512) (k : Fin 1024) : (iblk m c 0 t : Vec Ideal S512x1024 .bf16) (ix2 r k)
    = yA m c (ix2 ⟨512 * (t.val / 2) + r.val, by have := lt16 t; have := r.isLt; omega⟩ ⟨1024 * (t.val % 2) + k.val, by have := k.isLt; omega⟩) := by
  unfold iblk
  rw [View.read_apply]
  refine Eq.trans ?_ (congrFun (V_main_arg0 m c) _)
  show V m c main_arg0 _ = V m c main_arg0 _
  congr 1
  funext a
  apply Fin.ext
  obtain ⟨h0, h1⟩ := idx0 t
  match a with
  | ⟨0, _⟩ => show win0_0.index t 0 * 512 + 1 * r.val = 512 * (t.val / 2) + r.val; omega
  | ⟨1, _⟩ => show win0_0.index t 1 * 1024 + 1 * k.val = 1024 * (t.val % 2) + k.val; omega

theorem blk1 (t : Fin cfg0.N) (k : Fin 1024) (d : Fin 2048) : (iblk m c 1 t : Vec Ideal S1024x2048 .bf16) (ix2 k d)
    = wA m c (ix2 ⟨1024 * (t.val % 2) + k.val, by have := k.isLt; omega⟩ d) := by
  unfold iblk
  rw [View.read_apply]
  refine Eq.trans ?_ (congrFun (V_main_arg1 m c) _)
  show V m c main_arg1 _ = V m c main_arg1 _
  congr 1
  funext a
  apply Fin.ext
  obtain ⟨h0, h1⟩ := idx1 t
  match a with
  | ⟨0, _⟩ => show win0_1.index t 0 * 1024 + 1 * k.val = 1024 * (t.val % 2) + k.val; omega
  | ⟨1, _⟩ => show win0_1.index t 1 * 2048 + 1 * d.val = d.val; omega

theorem blk2 (t : Fin cfg0.N) (r : Fin 512) (d : Fin 2048) : (iblk m c 2 t : Vec Ideal S512x2048 .f32) (ix2 r d)
    = xA m c (ix2 ⟨512 * (t.val / 2) + r.val, by have := lt16 t; have := r.isLt; omega⟩ d) := by
  unfold iblk
  rw [View.read_apply]
  refine Eq.trans ?_ (congrFun (V_main_arg2 m c) _)
  show V m c main_arg2 _ = V m c main_arg2 _
  congr 1
  funext a
  apply Fin.ext
  obtain ⟨h0, h1⟩ := idx2 t
  match a with
  | ⟨0, _⟩ => show win0_2.index t 0 * 512 + 1 * r.val = 512 * (t.val / 2) + r.val; omega
  | ⟨1, _⟩ => show win0_2.index t 1 * 2048 + 1 * d.val = d.val; omega

theorem blk3 (t : Fin cfg0.N) (r : Fin 512) (d : Fin 2048) : (iblk m c 3 t : Vec Ideal S512x2048 .f32) (ix2 r d)
    = tA m c (ix2 ⟨512 * (t.val / 2) + r.val, by have := lt16 t; have := r.isLt; omega⟩ d) := by
  unfold iblk
  rw [View.read_apply]
  refine Eq.trans ?_ (congrFun (V_main_arg3 m c) _)
  show V m c main_arg3 _ = V m c main_arg3 _
  congr 1
  funext a
  apply Fin.ext
  obtain ⟨h0, h1⟩ := idx3 t
  match a with
  | ⟨0, _⟩ => show win0_3.index t 0 * 512 + 1 * r.val = 512 * (t.val / 2) + r.val; omega
  | ⟨1, _⟩ => show win0_3.index t 1 * 2048 + 1 * d.val = d.val; omega

/-! ## What each point leaves -/

theorem fst_of {α β γ : Type} {p : α × β × γ} {a : α} {b : β} {d : γ} (h : p = (a, b, d)) : p.1 = a := by rw [h]
theorem mid_of {α β γ : Type} {p : α × β × γ} {a : α} {b : β} {d : γ} (h : p = (a, b, d)) : p.2.1 = b := by rw [h]
theorem last_of {α β γ : Type} {p : α × β × γ} {a : α} {b : β} {d : γ} (h : p = (a, b, d)) : p.2.2 = d := by rw [h]

theorem tot_A (t : Fin cfg0.N) (h0 : t.val % 2 = 0) (h1 : ¬ t.val % 2 = 1) :
    (outsAt0 m c t.val t.isLt).2.2 = k0_pay2 (F := Ideal) (k0_pay1 (F := Ideal)) (iblk m c 0 t) (iblk m c 1 t) :=
  (last_of (outsAt0_A m c t h0 h1)).trans (total_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) ((hcond0_0 t).mpr h0) (fun h' => h1 ((hcond0_1 t).mp h')))

theorem tot_B (t : Fin cfg0.N) (h0 : ¬ t.val % 2 = 0) (h1 : t.val % 2 = 1) (h2 : t.val < 2) :
    (outsAt0 m c t.val t.isLt).2.2 = k0_pay2 (F := Ideal) (outsAt0 m c (t.val - 1) (Nat.lt_of_le_of_lt (Nat.sub_le _ _) t.isLt)).2.2 (iblk m c 0 t) (iblk m c 1 t) :=
  (last_of (outsAt0_B m c t h0 h1 h2)).trans (total_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (outsAt0 m c (t.val - 1) (Nat.lt_of_le_of_lt (Nat.sub_le _ _) t.isLt)).2.2 (fun h' => h0 ((hcond0_0 t).mp h')) ((hcond0_1 t).mpr h1) ((hcond0_2 t).mpr h2))

theorem tot_C (t : Fin cfg0.N) (h0 : ¬ t.val % 2 = 0) (h1 : t.val % 2 = 1) (h2 : ¬ t.val < 2) :
    (outsAt0 m c t.val t.isLt).2.2 = k0_pay2 (F := Ideal) (outsAt0 m c (t.val - 1) (Nat.lt_of_le_of_lt (Nat.sub_le _ _) t.isLt)).2.2 (iblk m c 0 t) (iblk m c 1 t) :=
  (last_of (outsAt0_C m c t h0 h1 h2)).trans (total_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h' => h0 ((hcond0_0 t).mp h')) ((hcond0_1 t).mpr h1) (fun h' => h2 ((hcond0_2 t).mp h')))

theorem dx_last (t : Fin cfg0.N) (h0 : ¬ t.val % 2 = 0) (h1 : t.val % 2 = 1) :
    (outsAt0 m c t.val t.isLt).1 = k0_pay5 (F := Ideal) (outsAt0 m c t.val t.isLt).2.2 (iblk m c 2 t) (iblk m c 3 t) := by
  by_cases h2 : t.val < 2
  · exact ((fst_of (outsAt0_B m c t h0 h1 h2)).trans (dx_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (outsAt0 m c (t.val - 1) (Nat.lt_of_le_of_lt (Nat.sub_le _ _) t.isLt)).2.2 (fun h' => h0 ((hcond0_0 t).mp h')) ((hcond0_1 t).mpr h1) ((hcond0_2 t).mpr h2))).trans
      (congrArg (fun v => k0_pay5 (F := Ideal) v (iblk m c 2 t) (iblk m c 3 t)) (tot_B m c t h0 h1 h2).symm)
  · exact ((fst_of (outsAt0_C m c t h0 h1 h2)).trans (dx_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h' => h0 ((hcond0_0 t).mp h')) ((hcond0_1 t).mpr h1) (fun h' => h2 ((hcond0_2 t).mp h')))).trans
      (congrArg (fun v => k0_pay5 (F := Ideal) v (iblk m c 2 t) (iblk m c 3 t)) (tot_C m c t h0 h1 h2).symm)

theorem loss_first (t : Fin cfg0.N) (h0 : ¬ t.val % 2 = 0) (h1 : t.val % 2 = 1) (h2 : t.val < 2) :
    (outsAt0 m c t.val t.isLt).2.1 = k0_pay6 (F := Ideal) (outsAt0 m c t.val t.isLt).2.2 (iblk m c 2 t) (iblk m c 3 t) (k0_pay3 (F := Ideal)) :=
  ((mid_of (outsAt0_B m c t h0 h1 h2)).trans (loss_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (outsAt0 m c (t.val - 1) (Nat.lt_of_le_of_lt (Nat.sub_le _ _) t.isLt)).2.2 (fun h' => h0 ((hcond0_0 t).mp h')) ((hcond0_1 t).mpr h1) ((hcond0_2 t).mpr h2))).trans
    (congrArg (fun v => k0_pay6 (F := Ideal) v (iblk m c 2 t) (iblk m c 3 t) (k0_pay3 (F := Ideal))) (tot_B m c t h0 h1 h2).symm)

theorem loss_later (t : Fin cfg0.N) (h0 : ¬ t.val % 2 = 0) (h1 : t.val % 2 = 1) (h2 : ¬ t.val < 2) :
    (outsAt0 m c t.val t.isLt).2.1 = k0_pay6 (F := Ideal) (outsAt0 m c t.val t.isLt).2.2 (iblk m c 2 t) (iblk m c 3 t) (outsAt0 m c (t.val - 1) (Nat.lt_of_le_of_lt (Nat.sub_le _ _) t.isLt)).2.1 :=
  ((mid_of (outsAt0_C m c t h0 h1 h2)).trans (loss_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h' => h0 ((hcond0_0 t).mp h')) ((hcond0_1 t).mpr h1) (fun h' => h2 ((hcond0_2 t).mp h')))).trans
    (congrArg (fun v => k0_pay6 (F := Ideal) v (iblk m c 2 t) (iblk m c 3 t) (outsAt0 m c (t.val - 1) (Nat.lt_of_le_of_lt (Nat.sub_le _ _) t.isLt)).2.1) (tot_C m c t h0 h1 h2).symm)

theorem loss_kept (t : Fin cfg0.N) (h0 : t.val % 2 = 0) (h1 : ¬ t.val % 2 = 1) : (outsAt0 m c t.val t.isLt).2.1 = (outsAt0 m c (t.val - 1) (Nat.lt_of_le_of_lt (Nat.sub_le _ _) t.isLt)).2.1 :=
  (mid_of (outsAt0_A m c t h0 h1)).trans (loss_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (outsAt0 m c (t.val - 1) (Nat.lt_of_le_of_lt (Nat.sub_le _ _) t.isLt)).2.1 ((hcond0_0 t).mpr h0) (fun h' => h1 ((hcond0_1 t).mp h')))

/-! ## The totals -/

theorem step (t : Fin cfg0.N) (v : Vec Ideal S512x2048 .f32) (r : Fin 512) (d : Fin 2048) :
    k0_pay2 (F := Ideal) v (iblk m c 0 t) (iblk m c 1 t) (ix2 r d)
      = v (ix2 r d) + part 1024 (tm m c (512 * (t.val / 2) + r.val) d.val) (t.val % 2) := by
  rw [pay2_apply]
  congr 1
  refine part_eq 1024 _ _ _ fun k => ⟨by have := k.isLt; omega, ?_⟩
  have := lt16 t
  have := r.isLt
  rw [blk0, blk1]
  unfold tm
  rw [dif_pos (by omega), dif_pos d.isLt]

theorem sums (t : Fin cfg0.N) (r : Fin 512) (d : Fin 2048) : (outsAt0 m c t.val t.isLt).2.2 (ix2 r d)
    = ∑ j ∈ Finset.range (t.val % 2 + 1), part 1024 (tm m c (512 * (t.val / 2) + r.val) d.val) j := by
  refine running 2 (by norm_num) (fun n hn => (outsAt0 m c n hn).2.2 (ix2 r d)) (fun q j => part 1024 (tm m c (512 * q + r.val) d.val) j)
    (fun n hn h => ?_) (fun n hn h => ?_) t.val t.isLt
  · refine (congrFun (tot_A m c ⟨n, hn⟩ h (by show ¬ n % 2 = 1; omega)) (ix2 r d)).trans ?_
    rw [step m c ⟨n, hn⟩, pay1_apply, zero_add]
  · by_cases h2 : n < 2
    · exact (congrFun (tot_B m c ⟨n, hn⟩ h (by show n % 2 = 1; omega) h2) (ix2 r d)).trans (step m c ⟨n, hn⟩ _ r d)
    · exact (congrFun (tot_C m c ⟨n, hn⟩ h (by show n % 2 = 1; omega) h2) (ix2 r d)).trans (step m c ⟨n, hn⟩ _ r d)

theorem total (t : Fin cfg0.N) (h : t.val % 2 = 1) (r : Fin 512) (d : Fin 2048) :
    (outsAt0 m c t.val t.isLt).2.2 (ix2 r d) = ∑ k, tm m c (512 * (t.val / 2) + r.val) d.val k := by
  refine (sums m c t r d).trans ?_
  rw [h, show 1 + 1 = 2 from rfl, sum_parts 1024 2 (by norm_num : 1024 * 2 = 2048)]

/-- The error of a finished run. -/
theorem err (t : Fin cfg0.N) (h : t.val % 2 = 1) (r : Fin 512) (d : Fin 2048) :
    (outsAt0 m c t.val t.isLt).2.2 (ix2 r d) + (iblk m c 2 t : Vec Ideal S512x2048 .f32) (ix2 r d) - (iblk m c 3 t : Vec Ideal S512x2048 .f32) (ix2 r d)
      = er m c (512 * (t.val / 2) + r.val) d := by
  rw [total m c t h, blk2, blk3]
  unfold er
  rw [dif_pos]

/-! ## The gradient -/

def resX : Vec Ideal S4096x2048 .f32 := fun i => er m c (i 0).val (i 1) * Ideal.ofBits .f32 0x3A000000#32

theorem dx_val (t : Fin cfg0.N) (h : t.val % 2 = 1) (r : Fin 512) (d : Fin 2048) :
    (outsAt0 m c t.val t.isLt).1 (ix2 r d) = resX m c (ix2 ⟨512 * (t.val / 2) + r.val, by have := lt16 t; have := r.isLt; omega⟩ d) := by
  refine (congrFun (dx_last m c t (by omega) h) (ix2 r d)).trans ((pay5_apply _ _ _ r d).trans ?_)
  exact congrArg (· * Ideal.ofBits .f32 0x3A000000#32) (err m c t h r d)

theorem flushed_x (t : Fin cfg0.N) (h : t.val % 2 = 1) :
    (dats m 0 c).flushed 4 t = ((cfg0.win 4).blk t).view.read (Elt Ideal) (resX m c) := by
  rw [flushed4 m c t]
  funext i
  rw [View.read_apply]
  change S512x2048.Idx at i
  obtain ⟨r, d, rfl⟩ : ∃ r d, i = ix2 r d := ⟨_, _, eq_ix2 i⟩
  refine (dx_val m c t h r d).trans (congrArg (resX m c) ?_)
  obtain ⟨i0, i1⟩ := idx4 t
  funext a
  apply Fin.ext
  match a with
  | ⟨0, _⟩ => show 512 * (t.val / 2) + r.val = win0_4.index t 0 * 512 + 1 * r.val; omega
  | ⟨1, _⟩ => show d.val = win0_4.index t 1 * 2048 + 1 * d.val; omega

theorem final_x : (dats m 0 c).arrAt 4 cfg0.N = resX m c :=
  (dats m 0 c).arrAt_eq_of_cover 4 _ (fun t hf => flushed_x m c t ((flush0_4 t).mp hf)) (fun i => (covered_iff4 i).2 (by
    have h0 : (i 0).val < 4096 := (i 0).isLt
    have h1 : (i 1).val < 2048 := (i 1).isLt
    omega))

/-! ## The loss -/

/-- One token's squared error. -/
def tl (k : Fin 4096) : EReal := msq (er m c k.val)

theorem stepl (t : Fin cfg0.N) (h : t.val % 2 = 1) (v : Vec Ideal S1x128 .f32) (l : Fin 128) :
    k0_pay6 (F := Ideal) (outsAt0 m c t.val t.isLt).2.2 (iblk m c 2 t) (iblk m c 3 t) v (ix2 0 l)
      = v (ix2 0 l) + Ideal.ofBits .f32 0x3F000000#32 * part 512 (tl m c) (t.val / 2) := by
  refine (pay6_apply _ _ _ v l).trans (congrArg (fun s => v (ix2 0 l) + Ideal.ofBits .f32 0x3F000000#32 * s) ?_)
  refine part_eq 512 _ _ _ fun r => ⟨by have := r.isLt; have := lt16 t; omega, ?_⟩
  exact congrArg msq (funext fun d => err m c t h r d)

theorem sumsl (n : ℕ) : ∀ (hn : n < cfg0.N) (h1 : 1 ≤ n) (l : Fin 128), (outsAt0 m c n hn).2.1 (ix2 0 l)
    = ∑ j ∈ Finset.range ((n + 1) / 2), Ideal.ofBits .f32 0x3F000000#32 * part 512 (tl m c) j := by
  induction n with
  | zero => intro hn h1; omega
  | succ n ih =>
    intro hn _ l
    by_cases h1 : (n + 1) % 2 = 1
    · by_cases h2 : n + 1 < 2
      · obtain rfl : n = 0 := by omega
        refine (congrFun (loss_first m c ⟨0 + 1, hn⟩ (by show ¬ (0 + 1) % 2 = 0; decide) h1 h2) (ix2 0 l)).trans ((stepl m c ⟨0 + 1, hn⟩ h1 _ l).trans ?_)
        rw [pay3_apply, zero_add]
        simp
      · refine (congrFun (loss_later m c ⟨n + 1, hn⟩ (by show ¬ (n + 1) % 2 = 0; omega) h1 h2) (ix2 0 l)).trans ((stepl m c ⟨n + 1, hn⟩ h1 _ l).trans ?_)
        rw [show (n + 1 + 1) / 2 = (n + 1) / 2 + 1 by omega, Finset.sum_range_succ]
        exact congrArg (· + Ideal.ofBits .f32 0x3F000000#32 * part 512 (tl m c) ((n + 1) / 2)) (ih (Nat.lt_of_succ_lt hn) (by omega) l)
    · refine (congrFun (loss_kept m c ⟨n + 1, hn⟩ (by show (n + 1) % 2 = 0; omega) h1) (ix2 0 l)).trans ((ih (Nat.lt_of_succ_lt hn) (by omega) l).trans ?_)
      rw [show (n + 1 + 1) / 2 = (n + 1) / 2 by omega]

theorem ofBits_half : Ideal.ofBits .f32 0x3F000000#32 = ((1 / 2 : ℝ) : EReal) := by
  simp [Ideal.ofBits, Ideal.ieee]; rw [← EReal.coe_mul]; norm_num

/-- Halving distributes over every sum. -/
theorem half_sum {ι : Type} (s : Finset ι) (f : ι → EReal) :
    ∑ j ∈ s, Ideal.ofBits .f32 0x3F000000#32 * f j = Ideal.ofBits .f32 0x3F000000#32 * ∑ j ∈ s, f j := by
  classical
  induction s using Finset.induction_on with
  | empty => simp
  | insert a s ha ih =>
    rw [Finset.sum_insert ha, Finset.sum_insert ha, ih, ofBits_half]
    exact (EReal.left_distrib_of_nonneg_of_ne_top (by norm_num) (EReal.coe_ne_top _) _ _).symm

def resL : Vec Ideal S1x128 .f32 := fun _ => Ideal.ofBits .f32 0x3F000000#32 * ∑ k, tl m c k

theorem flushed_l (t : Fin cfg0.N) (h : t.val % 16 = 15) :
    (dats m 0 c).flushed 5 t = ((cfg0.win 5).blk t).view.read (Elt Ideal) (resL m c) := by
  rw [flushed5 m c t]
  funext i
  rw [View.read_apply]
  change S1x128.Idx at i
  obtain ⟨o, l, rfl⟩ : ∃ o l, i = ix2 o l := ⟨_, _, eq_ix2 i⟩
  obtain rfl : o = 0 := Subsingleton.elim _ _
  have := lt16 t
  refine (sumsl m c t.val t.isLt (by omega) l).trans ?_
  rw [half_sum, show (t.val + 1) / 2 = 8 by omega, sum_parts 512 8 (by norm_num : 512 * 8 = 4096)]
  rfl

theorem final_l : (dats m 0 c).arrAt 5 cfg0.N = resL m c :=
  (dats m 0 c).arrAt_eq_of_cover 5 _ (fun t hf => flushed_l m c t ((flush0_5 t).mp hf)) (fun i => (covered_iff5 i).2 (by
    have h0 : (i 0).val < 1 := (i 0).isLt
    have h1 : (i 1).val < 128 := (i 1).isLt
    omega))

end

/-! ## The reference -/

section
open Cert.Reference8Ideal Cert.Reference8Ideal.Read

variable (x0 : (⟨S4096x2048, .bf16⟩ : BufTy).Contents (Elt Ideal)) (x1 : (⟨S2048x2048, .bf16⟩ : BufTy).Contents (Elt Ideal))
  (x2 x3 : (⟨S4096x2048, .f32⟩ : BufTy).Contents (Elt Ideal))

/-- The reference's error. -/
def eR (r : Fin 4096) (d : Fin 2048) : EReal := x2 (ix2 r d) + (∑ k : Fin 2048, x0 (ix2 r k) * x1 (ix2 k d)) - x3 (ix2 r d)

theorem v4_apply (r : Fin 4096) (d : Fin 2048) : val_main_v4 (F := Ideal) x0 x1 x2 x3 (ix2 r d) = eR x0 x1 x2 x3 r d := by
  unfold eR
  pointwise [val_main_v4, val_main_v3, val_main_v2, val_main_v1, val_main_v0]

theorem v19_apply (l : Fin 128) : val_main_v19 (F := Ideal) x0 x1 x2 x3 (ix2 0 l)
    = Ideal.ofBits .f32 0x3F000000#32 * ∑ r : Fin 4096, msq (eR x0 x1 x2 x3 r) := by
  unfold msq
  pointwise [val_main_v19, val_main_v12, val_main_v11, val_main_v10, val_main_v9, val_main_v8, val_main_v5, val_main_cst_0, val_main_cst_1, val_main_cst_2, val_main_cst_3]
  simp only [v4_apply]

theorem v18_apply (r : Fin 4096) (d : Fin 2048) : val_main_v18 (F := Ideal) x0 x1 x2 x3 (ix2 r d)
    = Ideal.div (Ideal.ofBits .f32 0x3F000000#32 * Ideal.ofBits .f32 0x3F800000#32) (Ideal.ofBits .f32 0x45000000#32)
      * (Ideal.ofBits .f32 0x40000000#32 * eR x0 x1 x2 x3 r d) := by
  pointwise [val_main_v18, val_main_v17, val_main_v16, val_main_v15, val_main_v14, val_main_v13, val_main_v7, val_main_v6, val_main_cst, val_main_cst_4, val_main_cst_5, val_main_cst_6]
  rw [v4_apply]

end

/-! ## The claim -/

theorem scale (e : EReal) : Ideal.div (Ideal.ofBits .f32 0x3F000000#32 * Ideal.ofBits .f32 0x3F800000#32) (Ideal.ofBits .f32 0x45000000#32)
      * (Ideal.ofBits .f32 0x40000000#32 * e) = e * Ideal.ofBits .f32 0x3A000000#32 := by
  have h1 : Ideal.ofBits .f32 0x3F800000#32 = ((1 : ℝ) : EReal) := by simp [Ideal.ofBits, Ideal.ieee]; rw [← EReal.coe_mul]; norm_num
  have h2 : Ideal.ofBits .f32 0x40000000#32 = ((2 : ℝ) : EReal) := by simp [Ideal.ofBits, Ideal.ieee]; rw [← EReal.coe_mul]; norm_num
  have h3 : Ideal.ofBits .f32 0x3A000000#32 = ((1 / 2048 : ℝ) : EReal) := by simp [Ideal.ofBits, Ideal.ieee]; rw [← EReal.coe_mul]; norm_num
  rw [ofBits_half, h1, h2, h3, ofBits_2048, ← EReal.coe_mul, Attn.div_coe' _ (by norm_num), ← mul_assoc, ← EReal.coe_mul, mul_comm]
  norm_num

section
open Cert.Kernel8Ideal Cert.Kernel8Ideal.Gen
variable (m : (ℓ : Loc nD τ sig) → Buf (Elt Ideal) ℓ) (c : Dev nD)

theorem er_eq (r : Fin 4096) (d : Fin 2048) : eR (yA m c) (wA m c) (xA m c) (tA m c) r d = er m c r.val d := by
  unfold eR er
  rw [dif_pos r.isLt, add_comm (xA m c (ix2 r d))]
  congr 2
  exact Finset.sum_congr rfl fun k _ => by unfold tm; rw [dif_pos r.isLt, dif_pos d.isLt]

theorem results :
    Reference8Ideal.Read.val_main_v18 (F := Ideal) (yA m c) (wA m c) (xA m c) (tA m c) = resX m c
    ∧ Reference8Ideal.Read.val_main_v19 (F := Ideal) (yA m c) (wA m c) (xA m c) (tA m c) = resL m c := by
  constructor
  · funext i
    change S4096x2048.Idx at i
    obtain ⟨r, d, rfl⟩ : ∃ r d, i = ix2 r d := ⟨_, _, eq_ix2 i⟩
    refine (v18_apply _ _ _ _ r d).trans ((scale _).trans ?_)
    exact congrArg (· * Ideal.ofBits .f32 0x3A000000#32) (er_eq m c r d)
  · funext i
    change S1x128.Idx at i
    obtain ⟨o, l, rfl⟩ : ∃ o l, i = ix2 o l := ⟨_, _, eq_ix2 i⟩
    obtain rfl : o = 0 := Subsingleton.elim _ _
    refine (v19_apply _ _ _ _ l).trans (congrArg (Ideal.ofBits .f32 0x3F000000#32 * ·) (Finset.sum_congr rfl fun r _ => ?_))
    exact congrArg msq (funext fun d => er_eq m c r d)

end

theorem congr4 {α β γ δ ζ : Type} (f : α → β → γ → δ → ζ) {a a' : α} {b b' : β} {c c' : γ} {d d' : δ}
    (ha : a' = a) (hb : b' = b) (hc : c' = c) (hd : d' = d) : f a' b' c' d' = f a b c d := by
  subst ha hb hc hd; rfl

theorem claim : Cert.algebraic_Kernel8Ideal_Reference8Ideal := by
  intro m g m' g' _ hagree
  refine ⟨fun c => (Kernel8Ideal.Gen.dats m 0 c).arrAt 4 Kernel8Ideal.cfg0.N, fun c => (Kernel8Ideal.Gen.dats m 0 c).arrAt 5 Kernel8Ideal.cfg0.N,
    Kernel8Ideal.Value.run_blocks m g, ?_⟩
  refine (θ_run Reference8Ideal.defs _ _).mono (fun r h c => ?_) (Reference8Ideal.Value.run m' g')
  obtain ⟨h0, h1, hk⟩ := h c
  obtain ⟨a0, a1, a2, a3⟩ := hagree c
  obtain ⟨r0, r1⟩ := results m c
  exact ⟨h0.trans ((Reference8Ideal.Read.val_main_v18_eq _ _ _ _).trans ((congr4 (Reference8Ideal.Read.val_main_v18 (F := Ideal)) a0 a1 a2 a3).trans
      (r0.trans (final_x m c).symm))),
    h1.trans ((Reference8Ideal.Read.val_main_v19_eq _ _ _ _).trans ((congr4 (Reference8Ideal.Read.val_main_v19 (F := Ideal)) a0 a1 a2 a3).trans
      (r1.trans (final_l m c).symm))), hk⟩

end Cert.Proj.Loss

end
-- ==== Proof.Proj.Gated.lean ====
/- A head's output, normalised and gated: its gradients as the kernel computes them and as the chain rule gives them, equal on real
   numbers. -/
module

public import proofs.«01_k».proof.Proof.Proj.Norm
public import Idealize.ShloMosaic.Lib.Pipeline.ValueKit

@[expose] public section

noncomputable section

namespace Cert.Proj.Gated

open Idealize.ShloMosaic Cert.Attn Cert.Proj

theorem ofBits_128 : Ideal.ofBits .f32 0x43000000#32 = ((128 : ℝ) : EReal) := by
  simp [Ideal.ofBits, Ideal.ieee]; rw [← EReal.coe_mul]; norm_num

/-- The mean square of a head's row plus the small constant. -/
def hm (o : Fin 128 → EReal) : EReal :=
  Ideal.div (∑ x, o x * o x) (Ideal.ofBits .f32 0x43000000#32) + Ideal.ofBits .f32 0x358637BD#32

/-- One over the row's root mean square. -/
def hr (o : Fin 128 → EReal) : EReal := Ideal.rsqrt (hm o)

/-- The logistic function. -/
def lg (x : EReal) : EReal := Ideal.div 1 (1 + Ideal.exp (0 - x))

/-- The gradient of the scaled row: `g` the gate, `y` the arriving gradient. -/
def dn (g y : Fin 128 → EReal) (l : Fin 128) : EReal := y l * (g l * lg (g l))

/-- The gradient of the row as the kernel writes it, `n` the scale. -/
def doK (o g y n : Fin 128 → EReal) (l : Fin 128) : EReal :=
  hr o * (dn g y l * n l - o l * hr o * Ideal.div (∑ x, dn g y x * n x * (o x * hr o)) (Ideal.ofBits .f32 0x43000000#32))

/-- The gradient of the gate as the kernel writes it. -/
def dgK (o g y n : Fin 128 → EReal) (l : Fin 128) : EReal :=
  y l * (o l * hr o * n l) * (lg (g l) * (1 + g l * (1 - lg (g l))))

/-- The row's part of the scale's gradient. -/
def dsK (o g y : Fin 128 → EReal) (l : Fin 128) : EReal := dn g y l * (o l * hr o)

/-- The gradient of the mean square, by the chain rule. -/
def dm (o d : Fin 128 → EReal) : EReal :=
  Ideal.div ((∑ x, o x * d x) * (Ideal.ofBits .f32 0xBF000000#32 * Ideal.div (hr o) (hm o))) (Ideal.ofBits .f32 0x43000000#32)

/-- The gradient of the row by the chain rule, `d` the normalised row's gradient. -/
def doR (o d : Fin 128 → EReal) (l : Fin 128) : EReal := d l * hr o + o l * dm o d + dm o d * o l

theorem hm_real (o : Fin 128 → ℝ) : ∃ s : ℝ, 0 < s ∧ hm (fun x => ((o x : ℝ) : EReal)) = ((s : ℝ) : EReal) := by
  obtain ⟨ε, he, hε⟩ := ofBits_eps
  refine ⟨(∑ x, o x * o x) / 128 + ε, ?_, ?_⟩
  · have : 0 ≤ ∑ x, o x * o x := Finset.sum_nonneg fun x _ => mul_self_nonneg _
    positivity
  · unfold hm
    simp only [← EReal.coe_mul, coe_sum, ofBits_128, hε]
    rw [div_coe' _ (by norm_num), ← EReal.coe_add]

theorem hr_real {o : Fin 128 → EReal} {s : ℝ} (hs : 0 < s) (e : hm o = ((s : ℝ) : EReal)) :
    hr o = (((Real.sqrt s)⁻¹ : ℝ) : EReal) := by
  unfold hr
  rw [e, Ideal.rsqrt_coe, if_neg (not_lt.mpr hs.le), if_neg hs.ne']

theorem lg_real (x : ℝ) : lg ((x : ℝ) : EReal) = ((sg x : ℝ) : EReal) := logi x

theorem lg_neg (x : EReal) : Ideal.div 1 (1 + Ideal.exp (-x)) = lg x := by
  unfold lg; rw [zero_sub]

theorem dn_real (g y : Fin 128 → ℝ) (l : Fin 128) :
    dn (fun x => ((g x : ℝ) : EReal)) (fun x => ((y x : ℝ) : EReal)) l = ((y l * (g l * sg (g l)) : ℝ) : EReal) := by
  unfold dn
  rw [lg_real, ← EReal.coe_mul, ← EReal.coe_mul]

theorem do_id (o g y n : Fin 128 → ℝ) (l : Fin 128) :
    doK (fun x => ((o x : ℝ) : EReal)) (fun x => ((g x : ℝ) : EReal)) (fun x => ((y x : ℝ) : EReal)) (fun x => ((n x : ℝ) : EReal)) l
      = doR (fun x => ((o x : ℝ) : EReal))
          (fun x => dn (fun x => ((g x : ℝ) : EReal)) (fun x => ((y x : ℝ) : EReal)) x * ((n x : ℝ) : EReal)) l := by
  obtain ⟨s, hs, h⟩ := hm_real o
  have r1 := hr_real hs h
  have hq : (Real.sqrt s)⁻¹ / s = (Real.sqrt s)⁻¹ * ((Real.sqrt s)⁻¹ * (Real.sqrt s)⁻¹) := by
    rw [← mul_inv, Real.mul_self_sqrt hs.le]; rfl
  unfold doK doR dm
  simp only [dn_real, r1, h, ofBits_128, ofBits_neg_half]
  generalize (fun x => y x * (g x * sg (g x))) = d
  rw [div_coe' _ hs.ne', hq]
  generalize (Real.sqrt s)⁻¹ = q
  simp only [← EReal.coe_mul, coe_sum]
  rw [div_coe' _ (by norm_num), div_coe' _ (by norm_num)]
  simp only [← EReal.coe_mul, ← EReal.coe_add, ← EReal.coe_sub]
  congr 1
  have hS : ∑ e, y e * (g e * sg (g e)) * n e * (o e * q) = q * ∑ e, o e * (y e * (g e * sg (g e)) * n e) := by
    rw [Finset.mul_sum]; exact Finset.sum_congr rfl fun e _ => by ring
  rw [hS]
  ring

theorem dg_id (o g y n : Fin 128 → ℝ) (l : Fin 128) :
    dgK (fun x => ((o x : ℝ) : EReal)) (fun x => ((g x : ℝ) : EReal)) (fun x => ((y x : ℝ) : EReal)) (fun x => ((n x : ℝ) : EReal)) l
      = ((y l : ℝ) : EReal) * (((o l : ℝ) : EReal) * hr (fun x => ((o x : ℝ) : EReal)) * ((n l : ℝ) : EReal)) * lg ((g l : ℝ) : EReal)
        + ((g l : ℝ) : EReal) * (((y l : ℝ) : EReal) * (((o l : ℝ) : EReal) * hr (fun x => ((o x : ℝ) : EReal)) * ((n l : ℝ) : EReal)))
          * (lg ((g l : ℝ) : EReal) * (1 - lg ((g l : ℝ) : EReal))) := by
  obtain ⟨s, hs, h⟩ := hm_real o
  have r1 := hr_real hs h
  unfold dgK
  simp only [r1, lg_real, ← EReal.coe_one, ← EReal.coe_mul, ← EReal.coe_add, ← EReal.coe_sub]
  congr 1
  ring

/-! ## Columns by head -/

/-- Column `l` of head `h`. -/
def col (h : Fin 4) (l : Fin 128) : Fin 512 := ⟨h.val * 128 + l.val, by have := h.isLt; have := l.isLt; omega⟩

theorem exists_col (j : Fin 512) : ∃ h l, j = col h l :=
  ⟨⟨j.val / 128, by have := j.isLt; omega⟩, ⟨j.val % 128, Nat.mod_lt _ (by norm_num)⟩, Fin.ext (by simp only [col]; omega)⟩

theorem col_head (h : Fin 4) (l : Fin 128) : (⟨(col h l).val / 128, by have := (col h l).isLt; omega⟩ : Fin 4) = h :=
  Fin.ext (by have := l.isLt; simp only [col]; omega)

theorem col_lane (h : Fin 4) (l : Fin 128) : (⟨(col h l).val % 128, Nat.mod_lt _ (by norm_num)⟩ : Fin 128) = l :=
  Fin.ext (by have := l.isLt; simp only [col]; omega)

/-- A load of a head's columns, at an index. -/
theorem ld_head {R : ℕ} {e : EltTy} (x : Vec Ideal ⟨2, ![R, 512]⟩ e) (k : Fin 4) (n : ℕ) (hn : n = k.val * 128)
    (inb : ∀ a, (![0, n] : Fin 2 → ℕ) a + (![R, 128] : Fin 2 → ℕ) a ≤ (![R, 512] : Fin 2 → ℕ) a) (r : Fin R) (l : Fin 128) :
    View.ld x (Rect.unit (s := ⟨2, ![R, 512]⟩) ![0, n] ![R, 128] inb) (ix2 r l) = x (ix2 r (col k l)) :=
  View.ld_unit_apply_of x _ _ inb _ _ fun a => by
    match a with
    | ⟨0, _⟩ => show r.val = 0 + r.val; omega
    | ⟨1, _⟩ => show k.val * 128 + l.val = n + l.val; omega

/-- A later store hides an earlier one where it lies. -/
theorem canon_drop {Val : EltTy → Type} {S : Shape} {e : EltTy} [∀ e, Nonempty (Val e)] (p : View.Piece Val S e) (y : S.Idx) :
    ∀ L : List (View.Piece Val S e), (∃ q ∈ L, y ∈ q.1.set) → View.canon (L ++ [p]) y = View.canon L y
  | [], h => by obtain ⟨q, hq, _⟩ := h; exact absurd hq List.not_mem_nil
  | q :: L, h => by
    show View.canon (q :: (L ++ [p])) y = View.canon (q :: L) y
    by_cases hm : y ∈ q.1.set
    · obtain ⟨x, rfl⟩ := q.1.exists_idx_of_mem hm
      rw [show q.1.idx x = q.1.emb x from rfl, View.canon_cons_emb, View.canon_cons_emb]
    · rw [View.canon_cons_of_not_mem _ _ hm, View.canon_cons_of_not_mem _ _ hm]
      refine canon_drop p y L ?_
      obtain ⟨q', hq, hy⟩ := h
      rcases List.mem_cons.mp hq with rfl | hq'
      · exact absurd hy hm
      · exact ⟨q', hq', hy⟩

end Cert.Proj.Gated

end
-- ==== Proof.Proj.Gate.lean ====
/- The gradients of the gated normalised heads of one mixer (`normgate_bwd`) computed by the kernel, row block after row block. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Pre_finite9
public import proofs.«01_k».proof.Proof.Attn.Finite
public import proofs.«01_k».proof.Proof.Proj.Sums
public import proofs.«01_k».proof.Proof.Proj.Loss
public import proofs.«01_k».proof.Proof.Proj.Gated
public import Idealize.ShloMosaic.Lib.Pointwise
public import Idealize.ShloMosaic.Lib.Tactic
public import Idealize.ShloMosaic.Lib.Pipeline.Value
public import Idealize.ShloMosaic.Lib.Pipeline.ValueKit
public import Idealize.ShloMosaic.Lib.Pipeline.ReadBack
public import Idealize.ShloMosaic.Lib.StableHlo.Run

@[expose] public section

set_option maxRecDepth 16384

noncomputable section

namespace Cert.Proj.Gate

open Idealize.ShloMosaic Idealize.ShloMosaic.TcCoe Idealize.SL.Sem
open Cert.Proj.Gated

theorem congr3 {α β γ ε : Sort*} (f : α → β → γ → ε) {a a' : α} {b b' : β} {d d' : γ} (h1 : a = a') (h2 : b = b') (h3 : d = d') :
    f a b d = f a' b' d' := by
  subst h1 h2 h3; rfl

theorem congr4 {α β γ δ ε : Sort*} (f : α → β → γ → δ → ε) {a a' : α} {b b' : β} {d d' : γ} {e e' : δ} (h1 : a = a') (h2 : b = b')
    (h3 : d = d') (h4 : e = e') : f a b d e = f a' b' d' e' := by
  subst h1 h2 h3 h4; rfl

section
open Cert.Kernel9Ideal Cert.Kernel9Ideal.Gen Cert.Kernel9Ideal.Value

/-! ## The stored values at an index, head by head -/

section
variable (o g y : Vec Ideal S512x128 .f32) (n p : Vec Ideal S1x128 .f32)

theorem do0_apply (r : Fin 512) (l : Fin 128) : ((k0_pay7 (F := Ideal) o g y n) : Vec Ideal S512x128 .f32) (ix2 r l)
      = doK (fun x => o (ix2 r x)) (fun x => g (ix2 r x)) (fun x => y (ix2 r x)) (fun x => n (ix2 0 x)) l := by
  unfold doK dn lg hr hm
  pointwise [k0_pay7]
  try simp only [k0_pay4, k0_pay5, k0_pay6, k0_pay10, k0_pay11, k0_pay12, k0_pay13, k0_pay14, k0_pay18, k0_pay19, k0_pay20, k0_pay21, k0_pay22, k0_pay26, k0_pay27, k0_pay28, k0_pay30, k0_pay31]
  try pointwise []

theorem do1_apply (r : Fin 512) (l : Fin 128) : ((k0_pay15 (F := Ideal) o g y n (k0_pay10 (F := Ideal) o) (k0_pay11 (F := Ideal))) : Vec Ideal S512x128 .f32) (ix2 r l)
      = doK (fun x => o (ix2 r x)) (fun x => g (ix2 r x)) (fun x => y (ix2 r x)) (fun x => n (ix2 0 x)) l := by
  unfold doK dn lg hr hm
  pointwise [k0_pay15]
  try simp only [k0_pay4, k0_pay5, k0_pay6, k0_pay10, k0_pay11, k0_pay12, k0_pay13, k0_pay14, k0_pay18, k0_pay19, k0_pay20, k0_pay21, k0_pay22, k0_pay26, k0_pay27, k0_pay28, k0_pay30, k0_pay31]
  try pointwise []

theorem do2_apply (r : Fin 512) (l : Fin 128) : ((k0_pay23 (F := Ideal) (k0_pay18 (F := Ideal) o) (k0_pay19 (F := Ideal) o) (k0_pay21 (F := Ideal) g y n) (k0_pay22 (F := Ideal) o g y n)) : Vec Ideal S512x128 .f32) (ix2 r l)
      = doK (fun x => o (ix2 r x)) (fun x => g (ix2 r x)) (fun x => y (ix2 r x)) (fun x => n (ix2 0 x)) l := by
  unfold doK dn lg hr hm
  pointwise [k0_pay23]
  try simp only [k0_pay4, k0_pay5, k0_pay6, k0_pay10, k0_pay11, k0_pay12, k0_pay13, k0_pay14, k0_pay18, k0_pay19, k0_pay20, k0_pay21, k0_pay22, k0_pay26, k0_pay27, k0_pay28, k0_pay30, k0_pay31]
  try pointwise []

theorem do3_apply (r : Fin 512) (l : Fin 128) : ((k0_pay29 (F := Ideal) o g y n) : Vec Ideal S512x128 .f32) (ix2 r l)
      = doK (fun x => o (ix2 r x)) (fun x => g (ix2 r x)) (fun x => y (ix2 r x)) (fun x => n (ix2 0 x)) l := by
  unfold doK dn lg hr hm
  pointwise [k0_pay29]
  try simp only [k0_pay4, k0_pay5, k0_pay6, k0_pay10, k0_pay11, k0_pay12, k0_pay13, k0_pay14, k0_pay18, k0_pay19, k0_pay20, k0_pay21, k0_pay22, k0_pay26, k0_pay27, k0_pay28, k0_pay30, k0_pay31]
  try pointwise []

theorem dg0_apply (r : Fin 512) (l : Fin 128) : ((k0_pay8 (F := Ideal) g y n (k0_pay5 (F := Ideal) o)) : Vec Ideal S512x128 .bf16) (ix2 r l)
      = dgK (fun x => o (ix2 r x)) (fun x => g (ix2 r x)) (fun x => y (ix2 r x)) (fun x => n (ix2 0 x)) l := by
  unfold dgK lg hr hm
  pointwise [k0_pay8]
  try simp only [k0_pay4, k0_pay5, k0_pay6, k0_pay10, k0_pay11, k0_pay12, k0_pay13, k0_pay14, k0_pay18, k0_pay19, k0_pay20, k0_pay21, k0_pay22, k0_pay26, k0_pay27, k0_pay28, k0_pay30, k0_pay31]
  try pointwise []

theorem dg1_apply (r : Fin 512) (l : Fin 128) : ((k0_pay16 (F := Ideal) o g y n (k0_pay10 (F := Ideal) o) (k0_pay11 (F := Ideal))) : Vec Ideal S512x128 .bf16) (ix2 r l)
      = dgK (fun x => o (ix2 r x)) (fun x => g (ix2 r x)) (fun x => y (ix2 r x)) (fun x => n (ix2 0 x)) l := by
  unfold dgK lg hr hm
  pointwise [k0_pay16]
  try simp only [k0_pay4, k0_pay5, k0_pay6, k0_pay10, k0_pay11, k0_pay12, k0_pay13, k0_pay14, k0_pay18, k0_pay19, k0_pay20, k0_pay21, k0_pay22, k0_pay26, k0_pay27, k0_pay28, k0_pay30, k0_pay31]
  try pointwise []

theorem dg2_apply (r : Fin 512) (l : Fin 128) : ((k0_pay24 (F := Ideal) g y n (k0_pay19 (F := Ideal) o)) : Vec Ideal S512x128 .bf16) (ix2 r l)
      = dgK (fun x => o (ix2 r x)) (fun x => g (ix2 r x)) (fun x => y (ix2 r x)) (fun x => n (ix2 0 x)) l := by
  unfold dgK lg hr hm
  pointwise [k0_pay24]
  try simp only [k0_pay4, k0_pay5, k0_pay6, k0_pay10, k0_pay11, k0_pay12, k0_pay13, k0_pay14, k0_pay18, k0_pay19, k0_pay20, k0_pay21, k0_pay22, k0_pay26, k0_pay27, k0_pay28, k0_pay30, k0_pay31]
  try pointwise []

theorem dg3_apply (r : Fin 512) (l : Fin 128) : ((k0_pay1 (F := Ideal) g (k0_pay30 (F := Ideal) o y n) (k0_pay31 (F := Ideal) g)) : Vec Ideal S512x128 .bf16) (ix2 r l)
      = dgK (fun x => o (ix2 r x)) (fun x => g (ix2 r x)) (fun x => y (ix2 r x)) (fun x => n (ix2 0 x)) l := by
  unfold dgK lg hr hm
  pointwise [k0_pay1]
  try simp only [k0_pay4, k0_pay5, k0_pay6, k0_pay10, k0_pay11, k0_pay12, k0_pay13, k0_pay14, k0_pay18, k0_pay19, k0_pay20, k0_pay21, k0_pay22, k0_pay26, k0_pay27, k0_pay28, k0_pay30, k0_pay31]
  try pointwise []

theorem ds0_apply (l : Fin 128) : ((k0_pay9 (F := Ideal) (k0_pay5 (F := Ideal) o) (k0_pay6 (F := Ideal) g y) p) : Vec Ideal S1x128 .f32) (ix2 0 l)
      = p (ix2 0 l) + ∑ r : Fin 512, dsK (fun x => o (ix2 r x)) (fun x => g (ix2 r x)) (fun x => y (ix2 r x)) l := by
  unfold dsK dn lg hr hm
  pointwise [k0_pay9]
  try simp only [k0_pay4, k0_pay5, k0_pay6, k0_pay10, k0_pay11, k0_pay12, k0_pay13, k0_pay14, k0_pay18, k0_pay19, k0_pay20, k0_pay21, k0_pay22, k0_pay26, k0_pay27, k0_pay28, k0_pay30, k0_pay31]
  try pointwise []

theorem ds1_apply (l : Fin 128) : ((k0_pay17 (F := Ideal) (k0_pay13 (F := Ideal) o (k0_pay10 (F := Ideal) o) (k0_pay11 (F := Ideal))) (k0_pay14 (F := Ideal) g y) p) : Vec Ideal S1x128 .f32) (ix2 0 l)
      = p (ix2 0 l) + ∑ r : Fin 512, dsK (fun x => o (ix2 r x)) (fun x => g (ix2 r x)) (fun x => y (ix2 r x)) l := by
  unfold dsK dn lg hr hm
  pointwise [k0_pay17]
  try simp only [k0_pay4, k0_pay5, k0_pay6, k0_pay10, k0_pay11, k0_pay12, k0_pay13, k0_pay14, k0_pay18, k0_pay19, k0_pay20, k0_pay21, k0_pay22, k0_pay26, k0_pay27, k0_pay28, k0_pay30, k0_pay31]
  try pointwise []

theorem ds2_apply (l : Fin 128) : ((k0_pay25 (F := Ideal) (k0_pay19 (F := Ideal) o) (k0_pay20 (F := Ideal) g y) p) : Vec Ideal S1x128 .f32) (ix2 0 l)
      = p (ix2 0 l) + ∑ r : Fin 512, dsK (fun x => o (ix2 r x)) (fun x => g (ix2 r x)) (fun x => y (ix2 r x)) l := by
  unfold dsK dn lg hr hm
  pointwise [k0_pay25]
  try simp only [k0_pay4, k0_pay5, k0_pay6, k0_pay10, k0_pay11, k0_pay12, k0_pay13, k0_pay14, k0_pay18, k0_pay19, k0_pay20, k0_pay21, k0_pay22, k0_pay26, k0_pay27, k0_pay28, k0_pay30, k0_pay31]
  try pointwise []

theorem ds3_apply (l : Fin 128) : ((k0_pay2 (F := Ideal) (k0_pay27 (F := Ideal) o) (k0_pay28 (F := Ideal) g y) p) : Vec Ideal S1x128 .f32) (ix2 0 l)
      = p (ix2 0 l) + ∑ r : Fin 512, dsK (fun x => o (ix2 r x)) (fun x => g (ix2 r x)) (fun x => y (ix2 r x)) l := by
  unfold dsK dn lg hr hm
  pointwise [k0_pay2]
  try simp only [k0_pay4, k0_pay5, k0_pay6, k0_pay10, k0_pay11, k0_pay12, k0_pay13, k0_pay14, k0_pay18, k0_pay19, k0_pay20, k0_pay21, k0_pay22, k0_pay26, k0_pay27, k0_pay28, k0_pay30, k0_pay31]
  try pointwise []

theorem zero_apply (j : Fin 512) : (k0_pay3 (F := Ideal) : Vec Ideal S1x512 .f32) (ix2 0 j) = 0 := by
  pointwise [k0_pay3]

end

/-! ## What one point writes -/

section
variable (c : Dev nD) (i : grid0.Coords) (arg1 : Memref sig .tc .vmem S512x512 .f32) (harg1 : arg1.IsWhole)
  (arg2 : Memref sig .tc .vmem S512x512 .f32) (harg2 : arg2.IsWhole) (arg3 : Memref sig .tc .vmem S512x512 .f32) (harg3 : arg3.IsWhole)
  (arg4 : Memref sig .tc .vmem S1x512 .f32) (harg4 : arg4.IsWhole) (arg5 : Memref sig .tc .vmem S512x512 .f32) (harg5 : arg5.IsWhole)
  (arg6 : Memref sig .tc .vmem S512x512 .bf16) (harg6 : arg6.IsWhole) (arg7 : Memref sig .tc .vmem S1x512 .f32) (harg7 : arg7.IsWhole)
  (x0 x1 x2 : Vec Ideal S512x512 .f32) (x3 xg : Vec Ideal S1x512 .f32)

/-- The point's gradient as one array. -/
def doV : Vec Ideal S512x512 .f32 := fun q =>
  doK (fun x => x0 (ix2 (q 0) (col ⟨(q 1).val / 128, by have : (q 1).val < 512 := (q 1).isLt; omega⟩ x)))
    (fun x => x1 (ix2 (q 0) (col ⟨(q 1).val / 128, by have : (q 1).val < 512 := (q 1).isLt; omega⟩ x)))
    (fun x => x2 (ix2 (q 0) (col ⟨(q 1).val / 128, by have : (q 1).val < 512 := (q 1).isLt; omega⟩ x)))
    (fun x => x3 (ix2 0 (col ⟨(q 1).val / 128, by have : (q 1).val < 512 := (q 1).isLt; omega⟩ x)))
    ⟨(q 1).val % 128, Nat.mod_lt _ (by norm_num)⟩

theorem doV_apply (r : Fin 512) (h : Fin 4) (l : Fin 128) : doV x0 x1 x2 x3 (ix2 r (col h l))
    = doK (fun x => x0 (ix2 r (col h x))) (fun x => x1 (ix2 r (col h x))) (fun x => x2 (ix2 r (col h x))) (fun x => x3 (ix2 0 (col h x))) l := by
  show doK (fun x => x0 (ix2 r (col ⟨(col h l).val / 128, _⟩ x))) (fun x => x1 (ix2 r (col ⟨(col h l).val / 128, _⟩ x)))
    (fun x => x2 (ix2 r (col ⟨(col h l).val / 128, _⟩ x))) (fun x => x3 (ix2 0 (col ⟨(col h l).val / 128, _⟩ x))) ⟨(col h l).val % 128, _⟩ = _
  rw [col_head, col_lane]

/-- The point's gate gradient as one array. -/
def dgV : Vec Ideal S512x512 .bf16 := fun q =>
  dgK (fun x => x0 (ix2 (q 0) (col ⟨(q 1).val / 128, by have : (q 1).val < 512 := (q 1).isLt; omega⟩ x)))
    (fun x => x1 (ix2 (q 0) (col ⟨(q 1).val / 128, by have : (q 1).val < 512 := (q 1).isLt; omega⟩ x)))
    (fun x => x2 (ix2 (q 0) (col ⟨(q 1).val / 128, by have : (q 1).val < 512 := (q 1).isLt; omega⟩ x)))
    (fun x => x3 (ix2 0 (col ⟨(q 1).val / 128, by have : (q 1).val < 512 := (q 1).isLt; omega⟩ x)))
    ⟨(q 1).val % 128, Nat.mod_lt _ (by norm_num)⟩

theorem dgV_apply (r : Fin 512) (h : Fin 4) (l : Fin 128) : dgV x0 x1 x2 x3 (ix2 r (col h l))
    = dgK (fun x => x0 (ix2 r (col h x))) (fun x => x1 (ix2 r (col h x))) (fun x => x2 (ix2 r (col h x))) (fun x => x3 (ix2 0 (col h x))) l := by
  show dgK (fun x => x0 (ix2 r (col ⟨(col h l).val / 128, _⟩ x))) (fun x => x1 (ix2 r (col ⟨(col h l).val / 128, _⟩ x)))
    (fun x => x2 (ix2 r (col ⟨(col h l).val / 128, _⟩ x))) (fun x => x3 (ix2 0 (col ⟨(col h l).val / 128, _⟩ x))) ⟨(col h l).val % 128, _⟩ = _
  rw [col_head, col_lane]

/-- The point's parts of the scale's gradient, added to what was there. -/
def dsV : Vec Ideal S1x512 .f32 := fun q => xg q + ∑ r : Fin 512,
  dsK (fun x => x0 (ix2 r (col ⟨(q 1).val / 128, by have : (q 1).val < 512 := (q 1).isLt; omega⟩ x)))
    (fun x => x1 (ix2 r (col ⟨(q 1).val / 128, by have : (q 1).val < 512 := (q 1).isLt; omega⟩ x)))
    (fun x => x2 (ix2 r (col ⟨(q 1).val / 128, by have : (q 1).val < 512 := (q 1).isLt; omega⟩ x)))
    ⟨(q 1).val % 128, Nat.mod_lt _ (by norm_num)⟩

theorem dsV_apply (h : Fin 4) (l : Fin 128) : dsV x0 x1 x2 xg (ix2 0 (col h l)) = xg (ix2 0 (col h l))
    + ∑ r : Fin 512, dsK (fun x => x0 (ix2 r (col h x))) (fun x => x1 (ix2 r (col h x))) (fun x => x2 (ix2 r (col h x))) l := by
  show xg (ix2 0 (col h l)) + ∑ r : Fin 512, dsK (fun x => x0 (ix2 r (col ⟨(col h l).val / 128, _⟩ x))) (fun x => x1 (ix2 r (col ⟨(col h l).val / 128, _⟩ x)))
    (fun x => x2 (ix2 r (col ⟨(col h l).val / 128, _⟩ x))) ⟨(col h l).val % 128, _⟩ = _
  rw [col_head, col_lane]

section
variable {R : ℕ}
theorem at_col (y : (⟨2, ![R, 512]⟩ : Shape).Idx) (r : Fin R) (h : Fin 4) (l : Fin 128) (h0 : (y 0).val = r.val) (h1 : h.val * 128 + l.val = (y 1).val) :
    y = ix2 r (col h l) :=
  funext fun a => Fin.ext (by
    match a with
    | ⟨0, _⟩ => exact h0
    | ⟨1, _⟩ => exact h1.symm)
end

theorem do_A (h0 : cond0_0 i) :
    out0_A_4 c i arg1 harg1 arg2 harg2 arg3 harg3 arg4 harg4 arg5 harg5 arg6 harg6 arg7 harg7 h0 x0 x1 x2 x3 = doV x0 x1 x2 x3 := by
  unfold out0_A_4
  rw [View.read_writes_eq_canon _ _ _ (cover0_A_4 c i arg1 harg1 arg2 harg2 arg3 harg3 arg4 harg4 arg5 harg5 arg6 harg6 arg7 harg7 h0 x0 x1 x2 x3)]
  unfold kernelRun0_A
  dsimp only
  sl_unfold_words
  simp only [View.readAt_eq_ld, harg1.read_unread, harg2.read_unread, harg3.read_unread, harg4.read_unread]
  clear h0
  funext z
  have e := at_col (R := 512) z
  canon_tiles q h
  · obtain ⟨r, l, rfl⟩ : ∃ r l, q = ix2 r l := ⟨_, _, eq_ix2 q⟩
    have h2 : (z 1).val = 384 + l.val := h1
    rw [e r 3 l h0 (by show (3 : ℕ) * 128 + l.val = (z 1).val; omega)]
    refine (do3_apply _ _ _ _ r l).trans (Eq.trans ?_ (doV_apply x0 x1 x2 x3 r 3 l).symm)
    exact congr4 (fun a b d e => doK a b d e l) (funext fun x => ld_head _ 3 384 rfl _ _ _) (funext fun x => ld_head _ 3 384 rfl _ _ _)
      (funext fun x => ld_head _ 3 384 rfl _ _ _) (funext fun x => ld_head _ 3 384 rfl _ _ _)
  · obtain ⟨r, l, rfl⟩ : ∃ r l, q = ix2 r l := ⟨_, _, eq_ix2 q⟩
    have h2 : (z 1).val = 256 + l.val := h1
    rw [e r 2 l h0 (by show (2 : ℕ) * 128 + l.val = (z 1).val; omega)]
    refine (do2_apply _ _ _ _ r l).trans (Eq.trans ?_ (doV_apply x0 x1 x2 x3 r 2 l).symm)
    exact congr4 (fun a b d e => doK a b d e l) (funext fun x => ld_head _ 2 256 rfl _ _ _) (funext fun x => ld_head _ 2 256 rfl _ _ _)
      (funext fun x => ld_head _ 2 256 rfl _ _ _) (funext fun x => ld_head _ 2 256 rfl _ _ _)
  · obtain ⟨r, l, rfl⟩ : ∃ r l, q = ix2 r l := ⟨_, _, eq_ix2 q⟩
    have h2 : (z 1).val = 128 + l.val := h1
    rw [e r 1 l h0 (by show (1 : ℕ) * 128 + l.val = (z 1).val; omega)]
    refine (do1_apply _ _ _ _ r l).trans (Eq.trans ?_ (doV_apply x0 x1 x2 x3 r 1 l).symm)
    exact congr4 (fun a b d e => doK a b d e l) (funext fun x => ld_head _ 1 128 rfl _ _ _) (funext fun x => ld_head _ 1 128 rfl _ _ _)
      (funext fun x => ld_head _ 1 128 rfl _ _ _) (funext fun x => ld_head _ 1 128 rfl _ _ _)
  · obtain ⟨r, l, rfl⟩ : ∃ r l, q = ix2 r l := ⟨_, _, eq_ix2 q⟩
    have h2 : (z 1).val = 0 + l.val := (Eq.trans h1 (Nat.zero_add _).symm)
    rw [e r 0 l h0 (by show (0 : ℕ) * 128 + l.val = (z 1).val; omega)]
    refine (do0_apply _ _ _ _ r l).trans (Eq.trans ?_ (doV_apply x0 x1 x2 x3 r 0 l).symm)
    exact congr4 (fun a b d e => doK a b d e l) (funext fun x => ld_head _ 0 0 rfl _ _ _) (funext fun x => ld_head _ 0 0 rfl _ _ _)
      (funext fun x => ld_head _ 0 0 rfl _ _ _) (funext fun x => ld_head _ 0 0 rfl _ _ _)

theorem do_B (h0 : ¬cond0_0 i) :
    out0_B_4 c i arg1 harg1 arg2 harg2 arg3 harg3 arg4 harg4 arg5 harg5 arg6 harg6 arg7 harg7 h0 x0 x1 x2 x3 xg = doV x0 x1 x2 x3 := by
  unfold out0_B_4
  rw [View.read_writes_eq_canon _ _ _ (cover0_B_4 c i arg1 harg1 arg2 harg2 arg3 harg3 arg4 harg4 arg5 harg5 arg6 harg6 arg7 harg7 h0 x0 x1 x2 x3 xg)]
  unfold kernelRun0_B
  dsimp only
  sl_unfold_words
  simp only [View.readAt_eq_ld, harg1.read_unread, harg2.read_unread, harg3.read_unread, harg4.read_unread]
  clear h0
  funext z
  have e := at_col (R := 512) z
  canon_tiles q h
  · obtain ⟨r, l, rfl⟩ : ∃ r l, q = ix2 r l := ⟨_, _, eq_ix2 q⟩
    have h2 : (z 1).val = 384 + l.val := h1
    rw [e r 3 l h0 (by show (3 : ℕ) * 128 + l.val = (z 1).val; omega)]
    refine (do3_apply _ _ _ _ r l).trans (Eq.trans ?_ (doV_apply x0 x1 x2 x3 r 3 l).symm)
    exact congr4 (fun a b d e => doK a b d e l) (funext fun x => ld_head _ 3 384 rfl _ _ _) (funext fun x => ld_head _ 3 384 rfl _ _ _)
      (funext fun x => ld_head _ 3 384 rfl _ _ _) (funext fun x => ld_head _ 3 384 rfl _ _ _)
  · obtain ⟨r, l, rfl⟩ : ∃ r l, q = ix2 r l := ⟨_, _, eq_ix2 q⟩
    have h2 : (z 1).val = 256 + l.val := h1
    rw [e r 2 l h0 (by show (2 : ℕ) * 128 + l.val = (z 1).val; omega)]
    refine (do2_apply _ _ _ _ r l).trans (Eq.trans ?_ (doV_apply x0 x1 x2 x3 r 2 l).symm)
    exact congr4 (fun a b d e => doK a b d e l) (funext fun x => ld_head _ 2 256 rfl _ _ _) (funext fun x => ld_head _ 2 256 rfl _ _ _)
      (funext fun x => ld_head _ 2 256 rfl _ _ _) (funext fun x => ld_head _ 2 256 rfl _ _ _)
  · obtain ⟨r, l, rfl⟩ : ∃ r l, q = ix2 r l := ⟨_, _, eq_ix2 q⟩
    have h2 : (z 1).val = 128 + l.val := h1
    rw [e r 1 l h0 (by show (1 : ℕ) * 128 + l.val = (z 1).val; omega)]
    refine (do1_apply _ _ _ _ r l).trans (Eq.trans ?_ (doV_apply x0 x1 x2 x3 r 1 l).symm)
    exact congr4 (fun a b d e => doK a b d e l) (funext fun x => ld_head _ 1 128 rfl _ _ _) (funext fun x => ld_head _ 1 128 rfl _ _ _)
      (funext fun x => ld_head _ 1 128 rfl _ _ _) (funext fun x => ld_head _ 1 128 rfl _ _ _)
  · obtain ⟨r, l, rfl⟩ : ∃ r l, q = ix2 r l := ⟨_, _, eq_ix2 q⟩
    have h2 : (z 1).val = 0 + l.val := (Eq.trans h1 (Nat.zero_add _).symm)
    rw [e r 0 l h0 (by show (0 : ℕ) * 128 + l.val = (z 1).val; omega)]
    refine (do0_apply _ _ _ _ r l).trans (Eq.trans ?_ (doV_apply x0 x1 x2 x3 r 0 l).symm)
    exact congr4 (fun a b d e => doK a b d e l) (funext fun x => ld_head _ 0 0 rfl _ _ _) (funext fun x => ld_head _ 0 0 rfl _ _ _)
      (funext fun x => ld_head _ 0 0 rfl _ _ _) (funext fun x => ld_head _ 0 0 rfl _ _ _)

theorem dg_A (h0 : cond0_0 i) :
    out0_A_5 c i arg1 harg1 arg2 harg2 arg3 harg3 arg4 harg4 arg5 harg5 arg6 harg6 arg7 harg7 h0 x0 x1 x2 x3 = dgV x0 x1 x2 x3 := by
  unfold out0_A_5
  rw [View.read_writes_eq_canon _ _ _ (cover0_A_5 c i arg1 harg1 arg2 harg2 arg3 harg3 arg4 harg4 arg5 harg5 arg6 harg6 arg7 harg7 h0 x0 x1 x2 x3)]
  unfold kernelRun0_A
  dsimp only
  sl_unfold_words
  simp only [View.readAt_eq_ld, harg1.read_unread, harg2.read_unread, harg3.read_unread, harg4.read_unread]
  clear h0
  funext z
  have e := at_col (R := 512) z
  canon_tiles q h
  · obtain ⟨r, l, rfl⟩ : ∃ r l, q = ix2 r l := ⟨_, _, eq_ix2 q⟩
    have h2 : (z 1).val = 384 + l.val := h1
    rw [e r 3 l h0 (by show (3 : ℕ) * 128 + l.val = (z 1).val; omega)]
    refine (dg3_apply _ _ _ _ r l).trans (Eq.trans ?_ (dgV_apply x0 x1 x2 x3 r 3 l).symm)
    exact congr4 (fun a b d e => dgK a b d e l) (funext fun x => ld_head _ 3 384 rfl _ _ _) (funext fun x => ld_head _ 3 384 rfl _ _ _)
      (funext fun x => ld_head _ 3 384 rfl _ _ _) (funext fun x => ld_head _ 3 384 rfl _ _ _)
  · obtain ⟨r, l, rfl⟩ : ∃ r l, q = ix2 r l := ⟨_, _, eq_ix2 q⟩
    have h2 : (z 1).val = 256 + l.val := h1
    rw [e r 2 l h0 (by show (2 : ℕ) * 128 + l.val = (z 1).val; omega)]
    refine (dg2_apply _ _ _ _ r l).trans (Eq.trans ?_ (dgV_apply x0 x1 x2 x3 r 2 l).symm)
    exact congr4 (fun a b d e => dgK a b d e l) (funext fun x => ld_head _ 2 256 rfl _ _ _) (funext fun x => ld_head _ 2 256 rfl _ _ _)
      (funext fun x => ld_head _ 2 256 rfl _ _ _) (funext fun x => ld_head _ 2 256 rfl _ _ _)
  · obtain ⟨r, l, rfl⟩ : ∃ r l, q = ix2 r l := ⟨_, _, eq_ix2 q⟩
    have h2 : (z 1).val = 128 + l.val := h1
    rw [e r 1 l h0 (by show (1 : ℕ) * 128 + l.val = (z 1).val; omega)]
    refine (dg1_apply _ _ _ _ r l).trans (Eq.trans ?_ (dgV_apply x0 x1 x2 x3 r 1 l).symm)
    exact congr4 (fun a b d e => dgK a b d e l) (funext fun x => ld_head _ 1 128 rfl _ _ _) (funext fun x => ld_head _ 1 128 rfl _ _ _)
      (funext fun x => ld_head _ 1 128 rfl _ _ _) (funext fun x => ld_head _ 1 128 rfl _ _ _)
  · obtain ⟨r, l, rfl⟩ : ∃ r l, q = ix2 r l := ⟨_, _, eq_ix2 q⟩
    have h2 : (z 1).val = 0 + l.val := (Eq.trans h1 (Nat.zero_add _).symm)
    rw [e r 0 l h0 (by show (0 : ℕ) * 128 + l.val = (z 1).val; omega)]
    refine (dg0_apply _ _ _ _ r l).trans (Eq.trans ?_ (dgV_apply x0 x1 x2 x3 r 0 l).symm)
    exact congr4 (fun a b d e => dgK a b d e l) (funext fun x => ld_head _ 0 0 rfl _ _ _) (funext fun x => ld_head _ 0 0 rfl _ _ _)
      (funext fun x => ld_head _ 0 0 rfl _ _ _) (funext fun x => ld_head _ 0 0 rfl _ _ _)

theorem dg_B (h0 : ¬cond0_0 i) :
    out0_B_5 c i arg1 harg1 arg2 harg2 arg3 harg3 arg4 harg4 arg5 harg5 arg6 harg6 arg7 harg7 h0 x0 x1 x2 x3 xg = dgV x0 x1 x2 x3 := by
  unfold out0_B_5
  rw [View.read_writes_eq_canon _ _ _ (cover0_B_5 c i arg1 harg1 arg2 harg2 arg3 harg3 arg4 harg4 arg5 harg5 arg6 harg6 arg7 harg7 h0 x0 x1 x2 x3 xg)]
  unfold kernelRun0_B
  dsimp only
  sl_unfold_words
  simp only [View.readAt_eq_ld, harg1.read_unread, harg2.read_unread, harg3.read_unread, harg4.read_unread]
  clear h0
  funext z
  have e := at_col (R := 512) z
  canon_tiles q h
  · obtain ⟨r, l, rfl⟩ : ∃ r l, q = ix2 r l := ⟨_, _, eq_ix2 q⟩
    have h2 : (z 1).val = 384 + l.val := h1
    rw [e r 3 l h0 (by show (3 : ℕ) * 128 + l.val = (z 1).val; omega)]
    refine (dg3_apply _ _ _ _ r l).trans (Eq.trans ?_ (dgV_apply x0 x1 x2 x3 r 3 l).symm)
    exact congr4 (fun a b d e => dgK a b d e l) (funext fun x => ld_head _ 3 384 rfl _ _ _) (funext fun x => ld_head _ 3 384 rfl _ _ _)
      (funext fun x => ld_head _ 3 384 rfl _ _ _) (funext fun x => ld_head _ 3 384 rfl _ _ _)
  · obtain ⟨r, l, rfl⟩ : ∃ r l, q = ix2 r l := ⟨_, _, eq_ix2 q⟩
    have h2 : (z 1).val = 256 + l.val := h1
    rw [e r 2 l h0 (by show (2 : ℕ) * 128 + l.val = (z 1).val; omega)]
    refine (dg2_apply _ _ _ _ r l).trans (Eq.trans ?_ (dgV_apply x0 x1 x2 x3 r 2 l).symm)
    exact congr4 (fun a b d e => dgK a b d e l) (funext fun x => ld_head _ 2 256 rfl _ _ _) (funext fun x => ld_head _ 2 256 rfl _ _ _)
      (funext fun x => ld_head _ 2 256 rfl _ _ _) (funext fun x => ld_head _ 2 256 rfl _ _ _)
  · obtain ⟨r, l, rfl⟩ : ∃ r l, q = ix2 r l := ⟨_, _, eq_ix2 q⟩
    have h2 : (z 1).val = 128 + l.val := h1
    rw [e r 1 l h0 (by show (1 : ℕ) * 128 + l.val = (z 1).val; omega)]
    refine (dg1_apply _ _ _ _ r l).trans (Eq.trans ?_ (dgV_apply x0 x1 x2 x3 r 1 l).symm)
    exact congr4 (fun a b d e => dgK a b d e l) (funext fun x => ld_head _ 1 128 rfl _ _ _) (funext fun x => ld_head _ 1 128 rfl _ _ _)
      (funext fun x => ld_head _ 1 128 rfl _ _ _) (funext fun x => ld_head _ 1 128 rfl _ _ _)
  · obtain ⟨r, l, rfl⟩ : ∃ r l, q = ix2 r l := ⟨_, _, eq_ix2 q⟩
    have h2 : (z 1).val = 0 + l.val := (Eq.trans h1 (Nat.zero_add _).symm)
    rw [e r 0 l h0 (by show (0 : ℕ) * 128 + l.val = (z 1).val; omega)]
    refine (dg0_apply _ _ _ _ r l).trans (Eq.trans ?_ (dgV_apply x0 x1 x2 x3 r 0 l).symm)
    exact congr4 (fun a b d e => dgK a b d e l) (funext fun x => ld_head _ 0 0 rfl _ _ _) (funext fun x => ld_head _ 0 0 rfl _ _ _)
      (funext fun x => ld_head _ 0 0 rfl _ _ _) (funext fun x => ld_head _ 0 0 rfl _ _ _)

theorem ds_B (h0 : ¬cond0_0 i) :
    out0_B_6 c i arg1 harg1 arg2 harg2 arg3 harg3 arg4 harg4 arg5 harg5 arg6 harg6 arg7 harg7 h0 x0 x1 x2 x3 xg = dsV x0 x1 x2 xg := by
  unfold out0_B_6
  rw [View.read_writes_eq_canon _ _ _ (cover0_B_6 c i arg1 harg1 arg2 harg2 arg3 harg3 arg4 harg4 arg5 harg5 arg6 harg6 arg7 harg7 h0 x0 x1 x2 x3 xg)]
  unfold kernelRun0_B
  dsimp only
  sl_unfold_words
  simp only [View.readAt_eq_ld, harg1.read_unread, harg2.read_unread, harg3.read_unread, harg4.read_unread, harg7.read_unread]
  clear h0
  funext z
  have e := at_col (R := 1) z
  canon_tiles q h
  · obtain ⟨r, l, rfl⟩ : ∃ r l, q = ix2 r l := ⟨_, _, eq_ix2 q⟩
    obtain rfl : r = 0 := Subsingleton.elim _ _
    have h2 : (z 1).val = 384 + l.val := h1
    rw [e 0 3 l h0 (by show (3 : ℕ) * 128 + l.val = (z 1).val; omega)]
    refine (ds3_apply _ _ _ _ l).trans (Eq.trans ?_ (dsV_apply x0 x1 x2 xg 3 l).symm)
    exact congrArg₂ (· + ·) (ld_head _ 3 384 rfl _ _ _) (Finset.sum_congr rfl fun r _ => congr3 (fun a b d => dsK a b d l)
      (funext fun x => ld_head _ 3 384 rfl _ _ _) (funext fun x => ld_head _ 3 384 rfl _ _ _) (funext fun x => ld_head _ 3 384 rfl _ _ _))
  · obtain ⟨r, l, rfl⟩ : ∃ r l, q = ix2 r l := ⟨_, _, eq_ix2 q⟩
    obtain rfl : r = 0 := Subsingleton.elim _ _
    have h2 : (z 1).val = 256 + l.val := h1
    rw [e 0 2 l h0 (by show (2 : ℕ) * 128 + l.val = (z 1).val; omega)]
    refine (ds2_apply _ _ _ _ l).trans (Eq.trans ?_ (dsV_apply x0 x1 x2 xg 2 l).symm)
    exact congrArg₂ (· + ·) (ld_head _ 2 256 rfl _ _ _) (Finset.sum_congr rfl fun r _ => congr3 (fun a b d => dsK a b d l)
      (funext fun x => ld_head _ 2 256 rfl _ _ _) (funext fun x => ld_head _ 2 256 rfl _ _ _) (funext fun x => ld_head _ 2 256 rfl _ _ _))
  · obtain ⟨r, l, rfl⟩ : ∃ r l, q = ix2 r l := ⟨_, _, eq_ix2 q⟩
    obtain rfl : r = 0 := Subsingleton.elim _ _
    have h2 : (z 1).val = 128 + l.val := h1
    rw [e 0 1 l h0 (by show (1 : ℕ) * 128 + l.val = (z 1).val; omega)]
    refine (ds1_apply _ _ _ _ l).trans (Eq.trans ?_ (dsV_apply x0 x1 x2 xg 1 l).symm)
    exact congrArg₂ (· + ·) (ld_head _ 1 128 rfl _ _ _) (Finset.sum_congr rfl fun r _ => congr3 (fun a b d => dsK a b d l)
      (funext fun x => ld_head _ 1 128 rfl _ _ _) (funext fun x => ld_head _ 1 128 rfl _ _ _) (funext fun x => ld_head _ 1 128 rfl _ _ _))
  · obtain ⟨r, l, rfl⟩ : ∃ r l, q = ix2 r l := ⟨_, _, eq_ix2 q⟩
    obtain rfl : r = 0 := Subsingleton.elim _ _
    have h2 : (z 1).val = 0 + l.val := (Eq.trans h1 (Nat.zero_add _).symm)
    rw [e 0 0 l h0 (by show (0 : ℕ) * 128 + l.val = (z 1).val; omega)]
    refine (ds0_apply _ _ _ _ l).trans (Eq.trans ?_ (dsV_apply x0 x1 x2 xg 0 l).symm)
    exact congrArg₂ (· + ·) (ld_head _ 0 0 rfl _ _ _) (Finset.sum_congr rfl fun r _ => congr3 (fun a b d => dsK a b d l)
      (funext fun x => ld_head _ 0 0 rfl _ _ _) (funext fun x => ld_head _ 0 0 rfl _ _ _) (funext fun x => ld_head _ 0 0 rfl _ _ _))

theorem ds_A (h0 : cond0_0 i) :
    out0_A_6 c i arg1 harg1 arg2 harg2 arg3 harg3 arg4 harg4 arg5 harg5 arg6 harg6 arg7 harg7 h0 x0 x1 x2 x3 = dsV x0 x1 x2 (k0_pay3 (F := Ideal)) := by
  unfold out0_A_6
  rw [View.read_writes_eq_canon _ _ _ (cover0_A_6 c i arg1 harg1 arg2 harg2 arg3 harg3 arg4 harg4 arg5 harg5 arg6 harg6 arg7 harg7 h0 x0 x1 x2 x3)]
  unfold kernelRun0_A
  dsimp only
  sl_unfold_words
  simp only [View.readAt_eq_ld, harg1.read_unread, harg2.read_unread, harg3.read_unread, harg4.read_unread]
  simp (disch := decide) only [↓ View.readCov_skip, ↓ View.readCov_cons_toLoadRect, ↓ View.readCov_fill]
  clear h0
  generalize (k0_pay3 (F := Ideal)) = xg
  funext z
  refine (canon_drop _ z [_, _, _, _] (View.cover_of_tiled_head _ _ _ (by rfl) z)).trans ?_
  have e := at_col (R := 1) z
  canon_tiles q h
  · obtain ⟨r, l, rfl⟩ : ∃ r l, q = ix2 r l := ⟨_, _, eq_ix2 q⟩
    obtain rfl : r = 0 := Subsingleton.elim _ _
    have h2 : (z 1).val = 384 + l.val := h1
    rw [e 0 3 l h0 (by show (3 : ℕ) * 128 + l.val = (z 1).val; omega)]
    refine (ds3_apply _ _ _ _ l).trans (Eq.trans ?_ (dsV_apply x0 x1 x2 xg 3 l).symm)
    exact congrArg₂ (· + ·) (ld_head _ 3 384 rfl _ _ _) (Finset.sum_congr rfl fun r _ => congr3 (fun a b d => dsK a b d l)
      (funext fun x => ld_head _ 3 384 rfl _ _ _) (funext fun x => ld_head _ 3 384 rfl _ _ _) (funext fun x => ld_head _ 3 384 rfl _ _ _))
  · obtain ⟨r, l, rfl⟩ : ∃ r l, q = ix2 r l := ⟨_, _, eq_ix2 q⟩
    obtain rfl : r = 0 := Subsingleton.elim _ _
    have h2 : (z 1).val = 256 + l.val := h1
    rw [e 0 2 l h0 (by show (2 : ℕ) * 128 + l.val = (z 1).val; omega)]
    refine (ds2_apply _ _ _ _ l).trans (Eq.trans ?_ (dsV_apply x0 x1 x2 xg 2 l).symm)
    exact congrArg₂ (· + ·) (ld_head _ 2 256 rfl _ _ _) (Finset.sum_congr rfl fun r _ => congr3 (fun a b d => dsK a b d l)
      (funext fun x => ld_head _ 2 256 rfl _ _ _) (funext fun x => ld_head _ 2 256 rfl _ _ _) (funext fun x => ld_head _ 2 256 rfl _ _ _))
  · obtain ⟨r, l, rfl⟩ : ∃ r l, q = ix2 r l := ⟨_, _, eq_ix2 q⟩
    obtain rfl : r = 0 := Subsingleton.elim _ _
    have h2 : (z 1).val = 128 + l.val := h1
    rw [e 0 1 l h0 (by show (1 : ℕ) * 128 + l.val = (z 1).val; omega)]
    refine (ds1_apply _ _ _ _ l).trans (Eq.trans ?_ (dsV_apply x0 x1 x2 xg 1 l).symm)
    exact congrArg₂ (· + ·) (ld_head _ 1 128 rfl _ _ _) (Finset.sum_congr rfl fun r _ => congr3 (fun a b d => dsK a b d l)
      (funext fun x => ld_head _ 1 128 rfl _ _ _) (funext fun x => ld_head _ 1 128 rfl _ _ _) (funext fun x => ld_head _ 1 128 rfl _ _ _))
  · obtain ⟨r, l, rfl⟩ : ∃ r l, q = ix2 r l := ⟨_, _, eq_ix2 q⟩
    obtain rfl : r = 0 := Subsingleton.elim _ _
    have h2 : (z 1).val = 0 + l.val := (Eq.trans h1 (Nat.zero_add _).symm)
    rw [e 0 0 l h0 (by show (0 : ℕ) * 128 + l.val = (z 1).val; omega)]
    refine (ds0_apply _ _ _ _ l).trans (Eq.trans ?_ (dsV_apply x0 x1 x2 xg 0 l).symm)
    exact congrArg₂ (· + ·) (ld_head _ 0 0 rfl _ _ _) (Finset.sum_congr rfl fun r _ => congr3 (fun a b d => dsK a b d l)
      (funext fun x => ld_head _ 0 0 rfl _ _ _) (funext fun x => ld_head _ 0 0 rfl _ _ _) (funext fun x => ld_head _ 0 0 rfl _ _ _))

end

/-! ## The blocks -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 3 :=
  (by decide +kernel : ∀ t : Fin grid0.N, win0_1.index t 0 = t.val ∧ win0_1.index t 1 = 3)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)

theorem lt8 (t : Fin cfg0.N) : t.val < 8 := lt_of_lt_of_eq t.isLt (show cfg0.N = 8 from N_0)

/-- The row of the array that is row `r` of point `t`'s block. -/
def rowOf (t : Fin cfg0.N) (r : Fin 512) : Fin 4096 := ⟨512 * t.val + r.val, by have := lt8 t; have := r.isLt; omega⟩

/-- The gate's column that is column `j` of the mixer's block. -/
def gcol (j : Fin 512) : Fin 6144 := ⟨1536 + j.val, by have := j.isLt; omega⟩

/-- The arriving gradient's column that is column `j` of the mixer's block. -/
def ycol (j : Fin 512) : Fin 2048 := ⟨j.val, by have := j.isLt; omega⟩

variable (m : (ℓ : Loc nD τ sig) → Buf (Elt Ideal) ℓ) (c : Dev nD)

/-- The four arguments. -/
def oA : Vec Ideal S4096x512 .f32 := m ((c : Thread nD τ).loc main_arg0)
def gA : Vec Ideal S4096x6144 .f32 := m ((c : Thread nD τ).loc main_arg1)
def yA : Vec Ideal S4096x2048 .f32 := m ((c : Thread nD τ).loc main_arg2)
def nA : Vec Ideal S1x512 .f32 := m ((c : Thread nD τ).loc main_arg3)

theorem blk0 (t : Fin cfg0.N) (r : Fin 512) (j : Fin 512) : (iblk m c 0 t : Vec Ideal S512x512 .f32) (ix2 r j) = oA m c (ix2 (rowOf t r) j) := by
  unfold iblk
  rw [View.read_apply]
  refine Eq.trans ?_ (congrFun (V_main_arg0 m c) _)
  show V m c main_arg0 _ = V m c main_arg0 _
  congr 1
  funext a
  apply Fin.ext
  obtain ⟨h0, h1⟩ := idx0 t
  match a with
  | ⟨0, _⟩ => show win0_0.index t 0 * 512 + 1 * r.val = 512 * t.val + r.val; omega
  | ⟨1, _⟩ => show win0_0.index t 1 * 512 + 1 * j.val = j.val; omega

theorem blk1 (t : Fin cfg0.N) (r : Fin 512) (j : Fin 512) : (iblk m c 1 t : Vec Ideal S512x512 .f32) (ix2 r j) = gA m c (ix2 (rowOf t r) (gcol j)) := by
  unfold iblk
  rw [View.read_apply]
  refine Eq.trans ?_ (congrFun (V_main_arg1 m c) _)
  show V m c main_arg1 _ = V m c main_arg1 _
  congr 1
  funext a
  apply Fin.ext
  obtain ⟨h0, h1⟩ := idx1 t
  match a with
  | ⟨0, _⟩ => show win0_1.index t 0 * 512 + 1 * r.val = 512 * t.val + r.val; omega
  | ⟨1, _⟩ => show win0_1.index t 1 * 512 + 1 * j.val = 1536 + j.val; omega

theorem blk2 (t : Fin cfg0.N) (r : Fin 512) (j : Fin 512) : (iblk m c 2 t : Vec Ideal S512x512 .f32) (ix2 r j) = yA m c (ix2 (rowOf t r) (ycol j)) := by
  unfold iblk
  rw [View.read_apply]
  refine Eq.trans ?_ (congrFun (V_main_arg2 m c) _)
  show V m c main_arg2 _ = V m c main_arg2 _
  congr 1
  funext a
  apply Fin.ext
  obtain ⟨h0, h1⟩ := idx2 t
  match a with
  | ⟨0, _⟩ => show win0_2.index t 0 * 512 + 1 * r.val = 512 * t.val + r.val; omega
  | ⟨1, _⟩ => show win0_2.index t 1 * 512 + 1 * j.val = j.val; omega

theorem blk3 (t : Fin cfg0.N) (r : Fin 1) (j : Fin 512) : (iblk m c 3 t : Vec Ideal S1x512 .f32) (ix2 r j) = nA m c (ix2 r j) := by
  unfold iblk
  rw [View.read_apply]
  refine Eq.trans ?_ (congrFun (V_main_arg3 m c) _)
  show V m c main_arg3 _ = V m c main_arg3 _
  congr 1
  funext a
  apply Fin.ext
  obtain ⟨h0, h1⟩ := idx3 t
  match a with
  | ⟨0, _⟩ => show win0_3.index t 0 * 1 + 1 * r.val = r.val; omega
  | ⟨1, _⟩ => show win0_3.index t 1 * 512 + 1 * j.val = j.val; omega

/-- The rows of one head. -/
def oR (r : Fin 4096) (h : Fin 4) (x : Fin 128) : EReal := oA m c (ix2 r (col h x))
def gR (r : Fin 4096) (h : Fin 4) (x : Fin 128) : EReal := gA m c (ix2 r (gcol (col h x)))
def yR (r : Fin 4096) (h : Fin 4) (x : Fin 128) : EReal := yA m c (ix2 r (ycol (col h x)))
def nR (h : Fin 4) (x : Fin 128) : EReal := nA m c (ix2 0 (col h x))

/-! ## What each point leaves -/

theorem fst_of {α β γ : Type} {p : α × β × γ} {a : α} {b : β} {d : γ} (h : p = (a, b, d)) : p.1 = a := by rw [h]
theorem mid_of {α β γ : Type} {p : α × β × γ} {a : α} {b : β} {d : γ} (h : p = (a, b, d)) : p.2.1 = b := by rw [h]
theorem last_of {α β γ : Type} {p : α × β × γ} {a : α} {b : β} {d : γ} (h : p = (a, b, d)) : p.2.2 = d := by rw [h]

theorem do_at (t : Fin cfg0.N) : (outsAt0 m c t.val t.isLt).1 = doV (iblk m c 0 t) (iblk m c 1 t) (iblk m c 2 t) (iblk m c 3 t) := by
  by_cases h0 : t.val % 8 = 0
  · exact (fst_of (outsAt0_A m c t h0)).trans (do_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) ((hcond0_0 t).mpr h0))
  · exact (fst_of (outsAt0_B m c t h0)).trans (do_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) (outsAt0 m c (t.val - 1) (Nat.lt_of_le_of_lt (Nat.sub_le _ _) t.isLt)).2.2 (fun h => h0 ((hcond0_0 t).mp h)))

theorem dg_at (t : Fin cfg0.N) : (outsAt0 m c t.val t.isLt).2.1 = dgV (iblk m c 0 t) (iblk m c 1 t) (iblk m c 2 t) (iblk m c 3 t) := by
  by_cases h0 : t.val % 8 = 0
  · exact (mid_of (outsAt0_A m c t h0)).trans (dg_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) ((hcond0_0 t).mpr h0))
  · exact (mid_of (outsAt0_B m c t h0)).trans (dg_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) (outsAt0 m c (t.val - 1) (Nat.lt_of_le_of_lt (Nat.sub_le _ _) t.isLt)).2.2 (fun h => h0 ((hcond0_0 t).mp h)))

theorem ds_first (t : Fin cfg0.N) (h0 : t.val % 8 = 0) :
    (outsAt0 m c t.val t.isLt).2.2 = dsV (iblk m c 0 t) (iblk m c 1 t) (iblk m c 2 t) (k0_pay3 (F := Ideal)) :=
  (last_of (outsAt0_A m c t h0)).trans (ds_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) ((hcond0_0 t).mpr h0))

theorem ds_later (t : Fin cfg0.N) (h0 : ¬ t.val % 8 = 0) :
    (outsAt0 m c t.val t.isLt).2.2 = dsV (iblk m c 0 t) (iblk m c 1 t) (iblk m c 2 t) (outsAt0 m c (t.val - 1) (Nat.lt_of_le_of_lt (Nat.sub_le _ _) t.isLt)).2.2 :=
  (last_of (outsAt0_B m c t h0)).trans (ds_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) (outsAt0 m c (t.val - 1) (Nat.lt_of_le_of_lt (Nat.sub_le _ _) t.isLt)).2.2 (fun h => h0 ((hcond0_0 t).mp h)))

/-! ## The two arrays written block by block -/

/-- The head and the lane of a column. -/
def hd (j : Fin 512) : Fin 4 := ⟨j.val / 128, by have := j.isLt; omega⟩
def ln (j : Fin 512) : Fin 128 := ⟨j.val % 128, Nat.mod_lt _ (by norm_num)⟩
theorem hd_col (h : Fin 4) (l : Fin 128) : hd (col h l) = h := col_head h l
theorem ln_col (h : Fin 4) (l : Fin 128) : ln (col h l) = l := col_lane h l

def doRes : Vec Ideal S4096x512 .f32 := fun q =>
  doK (oR m c (q 0) (hd (q 1))) (gR m c (q 0) (hd (q 1))) (yR m c (q 0) (hd (q 1))) (nR m c (hd (q 1))) (ln (q 1))

theorem doRes_apply (r : Fin 4096) (h : Fin 4) (l : Fin 128) :
    doRes m c (ix2 r (col h l)) = doK (oR m c r h) (gR m c r h) (yR m c r h) (nR m c h) l := by
  show doK (oR m c r (hd (col h l))) (gR m c r (hd (col h l))) (yR m c r (hd (col h l))) (nR m c (hd (col h l))) (ln (col h l)) = _
  rw [hd_col, ln_col]

theorem do_val (t : Fin cfg0.N) (r : Fin 512) (h : Fin 4) (l : Fin 128) :
    (outsAt0 m c t.val t.isLt).1 (ix2 r (col h l)) = doRes m c (ix2 (rowOf t r) (col h l)) := by
  refine (congrFun (do_at m c t) (ix2 r (col h l))).trans ((doV_apply _ _ _ _ r h l).trans (Eq.trans ?_ (doRes_apply m c (rowOf t r) h l).symm))
  exact congr4 (fun a b d e => doK a b d e l) (funext fun x => blk0 m c t r (col h x)) (funext fun x => blk1 m c t r (col h x))
    (funext fun x => blk2 m c t r (col h x)) (funext fun x => blk3 m c t 0 (col h x))

theorem do_flushed (t : Fin cfg0.N) : (dats m 0 c).flushed 4 t = ((cfg0.win 4).blk t).view.read (Elt Ideal) (doRes m c) := by
  rw [flushed4 m c t]
  funext i
  rw [View.read_apply]
  change S512x512.Idx at i
  obtain ⟨r, j, rfl⟩ : ∃ r j, i = ix2 r j := ⟨_, _, eq_ix2 i⟩
  obtain ⟨h, l, rfl⟩ := exists_col j
  refine (do_val m c t r h l).trans (congrArg (doRes m c) ?_)
  obtain ⟨i0, i1⟩ := idx4 t
  funext a
  apply Fin.ext
  match a with
  | ⟨0, _⟩ => show 512 * t.val + r.val = win0_4.index t 0 * 512 + 1 * r.val; omega
  | ⟨1, _⟩ => show (col h l).val = win0_4.index t 1 * 512 + 1 * (col h l).val; omega

theorem do_final : (dats m 0 c).arrAt 4 cfg0.N = doRes m c :=
  (dats m 0 c).arrAt_eq_of_cover 4 _ (fun t _ => do_flushed m c t) ((by decide +kernel : (cfg0.win 4).Covers).cover _ (Memref.isWhole_whole _))

def dgRes : Vec Ideal S4096x512 .bf16 := fun q =>
  dgK (oR m c (q 0) (hd (q 1))) (gR m c (q 0) (hd (q 1))) (yR m c (q 0) (hd (q 1))) (nR m c (hd (q 1))) (ln (q 1))

theorem dgRes_apply (r : Fin 4096) (h : Fin 4) (l : Fin 128) :
    dgRes m c (ix2 r (col h l)) = dgK (oR m c r h) (gR m c r h) (yR m c r h) (nR m c h) l := by
  show dgK (oR m c r (hd (col h l))) (gR m c r (hd (col h l))) (yR m c r (hd (col h l))) (nR m c (hd (col h l))) (ln (col h l)) = _
  rw [hd_col, ln_col]

theorem dg_val (t : Fin cfg0.N) (r : Fin 512) (h : Fin 4) (l : Fin 128) :
    (outsAt0 m c t.val t.isLt).2.1 (ix2 r (col h l)) = dgRes m c (ix2 (rowOf t r) (col h l)) := by
  refine (congrFun (dg_at m c t) (ix2 r (col h l))).trans ((dgV_apply _ _ _ _ r h l).trans (Eq.trans ?_ (dgRes_apply m c (rowOf t r) h l).symm))
  exact congr4 (fun a b d e => dgK a b d e l) (funext fun x => blk0 m c t r (col h x)) (funext fun x => blk1 m c t r (col h x))
    (funext fun x => blk2 m c t r (col h x)) (funext fun x => blk3 m c t 0 (col h x))

theorem dg_flushed (t : Fin cfg0.N) : (dats m 0 c).flushed 5 t = ((cfg0.win 5).blk t).view.read (Elt Ideal) (dgRes m c) := by
  rw [flushed5 m c t]
  funext i
  rw [View.read_apply]
  change S512x512.Idx at i
  obtain ⟨r, j, rfl⟩ : ∃ r j, i = ix2 r j := ⟨_, _, eq_ix2 i⟩
  obtain ⟨h, l, rfl⟩ := exists_col j
  refine (dg_val m c t r h l).trans (congrArg (dgRes m c) ?_)
  obtain ⟨i0, i1⟩ := idx5 t
  funext a
  apply Fin.ext
  match a with
  | ⟨0, _⟩ => show 512 * t.val + r.val = win0_5.index t 0 * 512 + 1 * r.val; omega
  | ⟨1, _⟩ => show (col h l).val = win0_5.index t 1 * 512 + 1 * (col h l).val; omega

theorem dg_final : (dats m 0 c).arrAt 5 cfg0.N = dgRes m c :=
  (dats m 0 c).arrAt_eq_of_cover 5 _ (fun t _ => dg_flushed m c t) ((by decide +kernel : (cfg0.win 5).Covers).cover _ (Memref.isWhole_whole _))

/-! ## The scale's gradient -/

/-- One token's part. -/
def tm (h : Fin 4) (l : Fin 128) (k : Fin 4096) : EReal := dsK (oR m c k h) (gR m c k h) (yR m c k h) l

theorem ds_step (t : Fin cfg0.N) (v : Vec Ideal S1x512 .f32) (h : Fin 4) (l : Fin 128) :
    dsV (iblk m c 0 t) (iblk m c 1 t) (iblk m c 2 t) v (ix2 0 (col h l)) = v (ix2 0 (col h l)) + part 512 (tm m c h l) t.val := by
  refine (dsV_apply _ _ _ v h l).trans (congrArg (v (ix2 0 (col h l)) + ·) ?_)
  refine part_eq 512 _ _ _ fun r => ⟨by have := r.isLt; have := lt8 t; omega, ?_⟩
  exact congr3 (fun a b d => dsK a b d l) (funext fun x => blk0 m c t r (col h x)) (funext fun x => blk1 m c t r (col h x))
    (funext fun x => blk2 m c t r (col h x))

theorem ds_sums (t : Fin cfg0.N) (h : Fin 4) (l : Fin 128) : (outsAt0 m c t.val t.isLt).2.2 (ix2 0 (col h l))
    = ∑ j ∈ Finset.range (t.val % 8 + 1), part 512 (tm m c h l) j := by
  refine running 8 (by norm_num) (fun n hn => (outsAt0 m c n hn).2.2 (ix2 0 (col h l))) (fun _ j => part 512 (tm m c h l) j)
    (fun n hn h0 => ?_) (fun n hn h0 => ?_) t.val t.isLt
  · refine (congrFun (ds_first m c ⟨n, hn⟩ h0) (ix2 0 (col h l))).trans ((ds_step m c ⟨n, hn⟩ _ h l).trans ?_)
    rw [zero_apply, zero_add, Nat.mod_eq_of_lt (lt8 ⟨n, hn⟩)]
  · refine (congrFun (ds_later m c ⟨n, hn⟩ h0) (ix2 0 (col h l))).trans ((ds_step m c ⟨n, hn⟩ _ h l).trans ?_)
    rw [Nat.mod_eq_of_lt (lt8 ⟨n, hn⟩)]

def dsRes : Vec Ideal S1x512 .f32 := fun q => ∑ k, tm m c (hd (q 1)) (ln (q 1)) k

theorem dsRes_apply (h : Fin 4) (l : Fin 128) : dsRes m c (ix2 0 (col h l)) = ∑ k, tm m c h l k := by
  show ∑ k, tm m c (hd (col h l)) (ln (col h l)) k = _
  rw [hd_col, ln_col]

theorem ds_val (t : Fin cfg0.N) (h0 : t.val % 8 = 7) (h : Fin 4) (l : Fin 128) :
    (outsAt0 m c t.val t.isLt).2.2 (ix2 0 (col h l)) = dsRes m c (ix2 0 (col h l)) := by
  refine (ds_sums m c t h l).trans (Eq.trans ?_ (dsRes_apply m c h l).symm)
  rw [h0, show 7 + 1 = 8 from rfl, sum_parts 512 8 (by norm_num : 512 * 8 = 4096)]

theorem ds_flushed (t : Fin cfg0.N) (h0 : t.val % 8 = 7) :
    (dats m 0 c).flushed 6 t = ((cfg0.win 6).blk t).view.read (Elt Ideal) (dsRes m c) := by
  rw [flushed6 m c t]
  funext i
  rw [View.read_apply]
  change S1x512.Idx at i
  obtain ⟨r, j, rfl⟩ : ∃ r j, i = ix2 r j := ⟨_, _, eq_ix2 i⟩
  obtain rfl : r = 0 := Subsingleton.elim _ _
  obtain ⟨h, l, rfl⟩ := exists_col j
  refine (ds_val m c t h0 h l).trans (congrArg (dsRes m c) ?_)
  obtain ⟨i0, i1⟩ := idx6 t
  funext a
  apply Fin.ext
  match a with
  | ⟨0, _⟩ => show 0 = win0_6.index t 0 * 1 + 1 * 0; omega
  | ⟨1, _⟩ => show (col h l).val = win0_6.index t 1 * 512 + 1 * (col h l).val; omega

theorem ds_final : (dats m 0 c).arrAt 6 cfg0.N = dsRes m c :=
  (dats m 0 c).arrAt_eq_of_cover 6 _ (fun t hf => ds_flushed m c t ((flush0_6 t).mp hf)) ((by decide +kernel : (cfg0.win 6).Covers).cover _ (Memref.isWhole_whole _))

end

/-! ## The reference at an index -/

section
open Cert.Reference9Ideal Cert.Reference9Ideal.Read

variable (x0 : (⟨S4096x512, .f32⟩ : BufTy).Contents (Elt Ideal)) (x1 : (⟨S4096x6144, .f32⟩ : BufTy).Contents (Elt Ideal))
  (x2 : (⟨S4096x2048, .f32⟩ : BufTy).Contents (Elt Ideal)) (x3 : (⟨S1x512, .f32⟩ : BufTy).Contents (Elt Ideal))

theorem v1_apply (r : Fin 4096) (h : Fin 4) (l : Fin 128) : val_main_v1 (F := Ideal) x0 (ix3 r h l) = x0 (ix2 r (col h l)) := by
  pointwise [val_main_v1]
  rfl

theorem v10_apply (r : Fin 4096) (h : Fin 4) : val_main_v10 (F := Ideal) x0 (ix3 r h 0) = hm fun x => x0 (ix2 r (col h x)) := by
  unfold hm
  pointwise [val_main_v10, val_main_v9, val_main_cst_1, val_main_v8, val_main_v7, val_main_cst_0, val_main_v6, val_main_v5, val_main_cst, val_main_v4]
  simp only [v1_apply]

theorem v11_apply (r : Fin 4096) (h : Fin 4) : val_main_v11 (F := Ideal) x0 (ix3 r h 0) = hr fun x => x0 (ix2 r (col h x)) := by
  unfold hr
  pointwise [val_main_v11]
  rw [v10_apply]

theorem v16_apply (r : Fin 4096) (h : Fin 4) (l : Fin 128) : val_main_v16 (F := Ideal) x0 (ix3 r h l)
    = x0 (ix2 r (col h l)) * hr fun x => x0 (ix2 r (col h x)) := by
  pointwise [val_main_v16, val_main_v15]
  rw [v1_apply, v11_apply]

theorem v25_apply (r : Fin 4096) (h : Fin 4) (l : Fin 128) : val_main_v25 (F := Ideal) x1 x2 (ix3 r h l)
    = dn (fun x => x1 (ix2 r (gcol (col h x)))) (fun x => x2 (ix2 r (ycol (col h x)))) l := by
  unfold dn
  rw [mul_comm]
  rw [← lg_neg]
  pointwise [val_main_v25, val_main_v23, val_main_v22, val_main_v2_0, val_main_v2_2, val_main_call0_v4, val_main_call0_cst_0, val_main_call0_v3, val_main_call0_v2, val_main_call0_cst, val_main_call0_v1, val_main_call0_v0, val_main_v0]
  rfl

theorem v30_apply (r : Fin 4096) (h : Fin 4) (l : Fin 128) : val_main_v30 (F := Ideal) x1 x2 x3 (ix3 r h l)
    = dn (fun x => x1 (ix2 r (gcol (col h x)))) (fun x => x2 (ix2 r (ycol (col h x)))) l * x3 (ix2 0 (col h l)) := by
  pointwise [val_main_v30, val_main_v29, val_main_v17, val_main_v3]
  rw [v25_apply]
  rfl

theorem v45_apply (r : Fin 4096) (h : Fin 4) (l : Fin 128) : val_main_v45 (F := Ideal) x0 x1 x2 x3 (ix3 r h l)
    = doR (fun x => x0 (ix2 r (col h x)))
        (fun x => dn (fun x => x1 (ix2 r (gcol (col h x)))) (fun x => x2 (ix2 r (ycol (col h x)))) x * x3 (ix2 0 (col h x))) l := by
  unfold doR dm
  pointwise [val_main_v45, val_main_v44, val_main_v43, val_main_v42, val_main_v41, val_main_v40, val_main_v39, val_main_v38, val_main_v37, val_main_v36, val_main_v35, val_main_v34, val_main_v33, val_main_v32, val_main_cst_5, val_main_cst_6, val_main_cst_7, val_main_v14, val_main_v13, val_main_v12, val_main_cst_2]
  simp only [Finset.univ_unique, Finset.sum_singleton, Fin.default_eq_zero, v1_apply, v30_apply, v11_apply, v10_apply]

theorem v48_apply (r : Fin 4096) (h : Fin 4) (l : Fin 128) : val_main_v48 (F := Ideal) x0 x1 x2 x3 (ix2 r (col h l))
    = val_main_v45 (F := Ideal) x0 x1 x2 x3 (ix3 r h l) := by
  pointwise [val_main_v48]
  exact congrArg₂ (fun a b => val_main_v45 (F := Ideal) x0 x1 x2 x3 (ix3 r a b)) (col_head h l) (col_lane h l)

theorem v20_apply (r : Fin 4096) (h : Fin 4) (l : Fin 128) : val_main_v20 (F := Ideal) x0 x3 (ix2 r (col h l))
    = x0 (ix2 r (col h l)) * (hr fun x => x0 (ix2 r (col h x))) * x3 (ix2 0 (col h l)) := by
  have e : val_main_v20 (F := Ideal) x0 x3 (ix2 r (col h l)) = val_main_v19 (F := Ideal) x0 x3 (ix3 r h l) := by
    pointwise [val_main_v20]
    exact congrArg₂ (fun a b => val_main_v19 (F := Ideal) x0 x3 (ix3 r a b)) (col_head h l) (col_lane h l)
  rw [e]
  pointwise [val_main_v19, val_main_v18, val_main_v17, val_main_v3]
  rw [v16_apply]
  rfl

theorem v49_apply (r : Fin 4096) (h : Fin 4) (l : Fin 128) : val_main_v49 (F := Ideal) x0 x1 x2 x3 (ix2 r (col h l))
    = x2 (ix2 r (ycol (col h l))) * (x0 (ix2 r (col h l)) * (hr fun x => x0 (ix2 r (col h x))) * x3 (ix2 0 (col h l))) * lg (x1 (ix2 r (gcol (col h l))))
      + x1 (ix2 r (gcol (col h l))) * (x2 (ix2 r (ycol (col h l))) * (x0 (ix2 r (col h l)) * (hr fun x => x0 (ix2 r (col h x))) * x3 (ix2 0 (col h l))))
        * (lg (x1 (ix2 r (gcol (col h l)))) * (1 - lg (x1 (ix2 r (gcol (col h l)))))) := by
  rw [← v20_apply, ← lg_neg]
  pointwise [val_main_v49, val_main_v47, val_main_call1_v2, val_main_call1_v1, val_main_call1_v0, val_main_v24, val_main_v22, val_main_v2_1, val_main_v2_2, val_main_call0_v7, val_main_call0_v6, val_main_call0_cst_1, val_main_call0_v4, val_main_call0_cst_0, val_main_call0_v3, val_main_call0_v2, val_main_call0_cst, val_main_call0_v1, val_main_call0_v0, val_main_v0]
  rfl

theorem v46_apply (h : Fin 4) (l : Fin 128) : val_main_v46 (F := Ideal) x0 x1 x2 (ix2 0 (col h l))
    = ∑ k : Fin 4096, dsK (fun x => x0 (ix2 k (col h x))) (fun x => x1 (ix2 k (gcol (col h x)))) (fun x => x2 (ix2 k (ycol (col h x)))) l := by
  unfold dsK
  have e : val_main_v46 (F := Ideal) x0 x1 x2 (ix2 0 (col h l))
      = ∑ k : Fin 4096, val_main_v16 (F := Ideal) x0 (ix3 k h l) * val_main_v25 (F := Ideal) x1 x2 (ix3 k h l) := by
    pointwise [val_main_v46, val_main_v31, val_main_v28, val_main_v27, val_main_v26, val_main_cst_3, val_main_cst_4]
    simp only [Finset.univ_unique, Finset.sum_singleton]
    exact congrArg₂ (fun a b => ∑ k : Fin 4096, val_main_v16 (F := Ideal) x0 (ix3 k a b) * val_main_v25 (F := Ideal) x1 x2 (ix3 k a b)) (col_head h l) (col_lane h l)
  rw [e]
  exact Finset.sum_congr rfl fun k _ => by rw [v16_apply, v25_apply, mul_comm]

end

/-! ## The claim -/

theorem finite_args {x0 : FVec Ideal Pre_finite9.S4096x512 .f32} {x1 : FVec Ideal Pre_finite9.S4096x6144 .f32}
    {x2 : FVec Ideal Pre_finite9.S4096x2048 .f32} {x3 : FVec Ideal Pre_finite9.S1x512 .f32}
    (e : Pre_finite9.fn (F := Ideal) x0 x1 x2 x3 = fun _ => 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal))
      ∧ (∀ i, ∃ r : ℝ, x3 i = ((r : ℝ) : EReal)) := by
  have j : (⟨0, ![]⟩ : Shape).Idx := fun k => k.elim0
  have e' := congrFun e j
  obtain ⟨e', h3⟩ := IntOp.andi_eq_one.1 e'
  obtain ⟨e', h2⟩ := IntOp.andi_eq_one.1 e'
  obtain ⟨h0, h1⟩ := IntOp.andi_eq_one.1 e'
  exact ⟨Attn.finite_all _ _ _ _ j h0, Attn.finite_all _ _ _ _ j h1, Attn.finite_all _ _ _ _ j h2, Attn.finite_all _ _ _ _ j h3⟩

section
open Cert.Kernel9Ideal Cert.Kernel9Ideal.Gen
variable (m : (ℓ : Loc nD τ sig) → Buf (Elt Ideal) ℓ) (c : Dev nD)

theorem results (e : Pre_finite9.fn (F := Ideal) (oA m c) (gA m c) (yA m c) (nA m c) = fun _ => 1#1) :
    Reference9Ideal.Read.val_main_v48 (F := Ideal) (oA m c) (gA m c) (yA m c) (nA m c) = doRes m c
    ∧ Reference9Ideal.Read.val_main_v49 (F := Ideal) (oA m c) (gA m c) (yA m c) (nA m c) = dgRes m c
    ∧ Reference9Ideal.Read.val_main_v46 (F := Ideal) (oA m c) (gA m c) (yA m c) = dsRes m c := by
  obtain ⟨f0, f1, f2, f3⟩ := finite_args e
  choose u0 h0 using f0
  choose u1 h1 using f1
  choose u2 h2 using f2
  choose u3 h3 using f3
  have e0 : ∀ r h, oR m c r h = fun x => ((u0 (ix2 r (col h x)) : ℝ) : EReal) := fun r h => funext fun x => h0 _
  have e1 : ∀ r h, gR m c r h = fun x => ((u1 (ix2 r (gcol (col h x))) : ℝ) : EReal) := fun r h => funext fun x => h1 _
  have e2 : ∀ r h, yR m c r h = fun x => ((u2 (ix2 r (ycol (col h x))) : ℝ) : EReal) := fun r h => funext fun x => h2 _
  have e3 : ∀ h, nR m c h = fun x => ((u3 (ix2 0 (col h x)) : ℝ) : EReal) := fun h => funext fun x => h3 _
  refine ⟨?_, ?_, ?_⟩
  · funext i
    change S4096x512.Idx at i
    obtain ⟨r, j, rfl⟩ : ∃ r j, i = ix2 r j := ⟨_, _, eq_ix2 i⟩
    obtain ⟨h, l, rfl⟩ := exists_col j
    refine (v48_apply _ _ _ _ r h l).trans ((v45_apply _ _ _ _ r h l).trans (Eq.trans ?_ (doRes_apply m c r h l).symm))
    show doR (oR m c r h) (fun x => dn (gR m c r h) (yR m c r h) x * nR m c h x) l = _
    rw [e0, e1, e2, e3]
    exact (do_id (fun x => u0 (ix2 r (col h x))) (fun x => u1 (ix2 r (gcol (col h x)))) (fun x => u2 (ix2 r (ycol (col h x))))
      (fun x => u3 (ix2 0 (col h x))) l).symm
  · funext i
    change S4096x512.Idx at i
    obtain ⟨r, j, rfl⟩ : ∃ r j, i = ix2 r j := ⟨_, _, eq_ix2 i⟩
    obtain ⟨h, l, rfl⟩ := exists_col j
    refine (v49_apply _ _ _ _ r h l).trans (Eq.trans ?_ (dgRes_apply m c r h l).symm)
    show yR m c r h l * (oR m c r h l * hr (oR m c r h) * nR m c h l) * lg (gR m c r h l)
      + gR m c r h l * (yR m c r h l * (oR m c r h l * hr (oR m c r h) * nR m c h l)) * (lg (gR m c r h l) * (1 - lg (gR m c r h l))) = _
    rw [e0, e1, e2, e3]
    exact (dg_id (fun x => u0 (ix2 r (col h x))) (fun x => u1 (ix2 r (gcol (col h x)))) (fun x => u2 (ix2 r (ycol (col h x))))
      (fun x => u3 (ix2 0 (col h x))) l).symm
  · funext i
    change S1x512.Idx at i
    obtain ⟨r, j, rfl⟩ : ∃ r j, i = ix2 r j := ⟨_, _, eq_ix2 i⟩
    obtain rfl : r = 0 := Subsingleton.elim _ _
    obtain ⟨h, l, rfl⟩ := exists_col j
    exact (v46_apply _ _ _ h l).trans (dsRes_apply m c h l).symm

end

theorem claim : Cert.algebraic_Kernel9Ideal_Reference9Ideal_pre_finite9 := by
  intro m g m' g' hpre hagree
  refine ⟨fun c => (Kernel9Ideal.Gen.dats m 0 c).arrAt 4 Kernel9Ideal.cfg0.N, fun c => (Kernel9Ideal.Gen.dats m 0 c).arrAt 5 Kernel9Ideal.cfg0.N,
    fun c => (Kernel9Ideal.Gen.dats m 0 c).arrAt 6 Kernel9Ideal.cfg0.N, Kernel9Ideal.Value.run_blocks m g, ?_⟩
  refine (θ_run Reference9Ideal.defs _ _).mono (fun r h c => ?_) (Reference9Ideal.Value.run m' g')
  obtain ⟨h0, h1, h2, hk⟩ := h c
  obtain ⟨a0, a1, a2, a3⟩ := hagree c
  obtain ⟨r0, r1, r2⟩ := results m c (hpre c)
  exact ⟨h0.trans ((Reference9Ideal.Read.val_main_v48_eq _ _).trans ((congr4 (Reference9Ideal.Read.val_main_v48 (F := Ideal)) a0 a1 a2 a3).trans
      (r0.trans (do_final m c).symm))),
    h1.trans ((Reference9Ideal.Read.val_main_v49_eq _ _ _ _).trans ((congr4 (Reference9Ideal.Read.val_main_v49 (F := Ideal)) a0 a1 a2 a3).trans
      (r1.trans (dg_final m c).symm))),
    h2.trans ((Reference9Ideal.Read.val_main_v46_eq _ _ _).trans ((congr3 (Reference9Ideal.Read.val_main_v46 (F := Ideal)) a0 a1 a2).trans
      (r2.trans (ds_final m c).symm))), hk⟩

end Cert.Proj.Gate

end
-- ==== Proof.Proj.Gate2.lean ====
/- The gradients of the gated normalised heads of another mixer (`normgate_bwd`) computed by the kernel, row block after row block. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Pre_finite10
public import proofs.«01_k».proof.Proof.Attn.Finite
public import proofs.«01_k».proof.Proof.Proj.Sums
public import proofs.«01_k».proof.Proof.Proj.Loss
public import proofs.«01_k».proof.Proof.Proj.Gate
public import proofs.«01_k».proof.Proof.Proj.Gated
public import Idealize.ShloMosaic.Lib.Pointwise
public import Idealize.ShloMosaic.Lib.Tactic
public import Idealize.ShloMosaic.Lib.Pipeline.Value
public import Idealize.ShloMosaic.Lib.Pipeline.ValueKit
public import Idealize.ShloMosaic.Lib.Pipeline.ReadBack
public import Idealize.ShloMosaic.Lib.StableHlo.Run

@[expose] public section

set_option maxRecDepth 16384

noncomputable section

namespace Cert.Proj.Gate2

open Idealize.ShloMosaic Idealize.ShloMosaic.TcCoe Idealize.SL.Sem
open Cert.Proj.Gated
open Cert.Proj.Gate (congr3 congr4 doV doV_apply dgV dgV_apply dsV dsV_apply at_col fst_of mid_of last_of hd ln hd_col ln_col)

section
open Cert.Kernel10Ideal Cert.Kernel10Ideal.Gen Cert.Kernel10Ideal.Value

/-! ## What one point writes

One point runs as it does for the other mixer, so its lemmas apply here as they stand. -/

section
variable (c : Dev nD) (i : grid0.Coords) (arg1 : Memref sig .tc .vmem S512x512 .f32) (harg1 : arg1.IsWhole)
  (arg2 : Memref sig .tc .vmem S512x512 .f32) (harg2 : arg2.IsWhole) (arg3 : Memref sig .tc .vmem S512x512 .f32) (harg3 : arg3.IsWhole)
  (arg4 : Memref sig .tc .vmem S1x512 .f32) (harg4 : arg4.IsWhole) (arg5 : Memref sig .tc .vmem S512x512 .f32) (harg5 : arg5.IsWhole)
  (arg6 : Memref sig .tc .vmem S512x512 .bf16) (harg6 : arg6.IsWhole) (arg7 : Memref sig .tc .vmem S1x512 .f32) (harg7 : arg7.IsWhole)
  (x0 x1 x2 : Vec Ideal S512x512 .f32) (x3 xg : Vec Ideal S1x512 .f32)

theorem zero_apply (j : Fin 512) : (k0_pay3 (F := Ideal) : Vec Ideal S1x512 .f32) (ix2 0 j) = 0 :=
  Gate.zero_apply j

theorem do_A (h0 : cond0_0 i) :
    out0_A_4 c i arg1 harg1 arg2 harg2 arg3 harg3 arg4 harg4 arg5 harg5 arg6 harg6 arg7 harg7 h0 x0 x1 x2 x3 = doV x0 x1 x2 x3 :=
  Gate.do_A c i arg1 harg1 arg2 harg2 arg3 harg3 arg4 harg4 arg5 harg5 arg6 harg6 arg7 harg7 x0 x1 x2 x3 h0

theorem do_B (h0 : ¬cond0_0 i) :
    out0_B_4 c i arg1 harg1 arg2 harg2 arg3 harg3 arg4 harg4 arg5 harg5 arg6 harg6 arg7 harg7 h0 x0 x1 x2 x3 xg = doV x0 x1 x2 x3 :=
  Gate.do_B c i arg1 harg1 arg2 harg2 arg3 harg3 arg4 harg4 arg5 harg5 arg6 harg6 arg7 harg7 x0 x1 x2 x3 xg h0

theorem dg_A (h0 : cond0_0 i) :
    out0_A_5 c i arg1 harg1 arg2 harg2 arg3 harg3 arg4 harg4 arg5 harg5 arg6 harg6 arg7 harg7 h0 x0 x1 x2 x3 = dgV x0 x1 x2 x3 :=
  Gate.dg_A c i arg1 harg1 arg2 harg2 arg3 harg3 arg4 harg4 arg5 harg5 arg6 harg6 arg7 harg7 x0 x1 x2 x3 h0

theorem dg_B (h0 : ¬cond0_0 i) :
    out0_B_5 c i arg1 harg1 arg2 harg2 arg3 harg3 arg4 harg4 arg5 harg5 arg6 harg6 arg7 harg7 h0 x0 x1 x2 x3 xg = dgV x0 x1 x2 x3 :=
  Gate.dg_B c i arg1 harg1 arg2 harg2 arg3 harg3 arg4 harg4 arg5 harg5 arg6 harg6 arg7 harg7 x0 x1 x2 x3 xg h0

theorem ds_B (h0 : ¬cond0_0 i) :
    out0_B_6 c i arg1 harg1 arg2 harg2 arg3 harg3 arg4 harg4 arg5 harg5 arg6 harg6 arg7 harg7 h0 x0 x1 x2 x3 xg = dsV x0 x1 x2 xg :=
  Gate.ds_B c i arg1 harg1 arg2 harg2 arg3 harg3 arg4 harg4 arg5 harg5 arg6 harg6 arg7 harg7 x0 x1 x2 x3 xg h0

theorem ds_A (h0 : cond0_0 i) :
    out0_A_6 c i arg1 harg1 arg2 harg2 arg3 harg3 arg4 harg4 arg5 harg5 arg6 harg6 arg7 harg7 h0 x0 x1 x2 x3 = dsV x0 x1 x2 (k0_pay3 (F := Ideal)) :=
  Gate.ds_A c i arg1 harg1 arg2 harg2 arg3 harg3 arg4 harg4 arg5 harg5 arg6 harg6 arg7 harg7 x0 x1 x2 x3 h0

end

/-! ## The blocks -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 6 :=
  (by decide +kernel : ∀ t : Fin grid0.N, win0_1.index t 0 = t.val ∧ win0_1.index t 1 = 6)
theorem idx2 : ∀ t : Fin cfg0.N, win0_2.index t 0 = t.val ∧ win0_2.index t 1 = 1 :=
  (by decide +kernel : ∀ t : Fin grid0.N, win0_2.index t 0 = t.val ∧ win0_2.index t 1 = 1)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)

theorem lt8 (t : Fin cfg0.N) : t.val < 8 := lt_of_lt_of_eq t.isLt (show cfg0.N = 8 from N_0)

/-- The row of the array that is row `r` of point `t`'s block. -/
def rowOf (t : Fin cfg0.N) (r : Fin 512) : Fin 4096 := ⟨512 * t.val + r.val, by have := lt8 t; have := r.isLt; omega⟩

/-- The gate's column that is column `j` of the mixer's block. -/
def gcol (j : Fin 512) : Fin 6144 := ⟨3072 + j.val, by have := j.isLt; omega⟩

/-- The arriving gradient's column that is column `j` of the mixer's block. -/
def ycol (j : Fin 512) : Fin 2048 := ⟨512 + j.val, by have := j.isLt; omega⟩

variable (m : (ℓ : Loc nD τ sig) → Buf (Elt Ideal) ℓ) (c : Dev nD)

/-- The four arguments. -/
def oA : Vec Ideal S4096x512 .f32 := m ((c : Thread nD τ).loc main_arg0)
def gA : Vec Ideal S4096x6144 .f32 := m ((c : Thread nD τ).loc main_arg1)
def yA : Vec Ideal S4096x2048 .f32 := m ((c : Thread nD τ).loc main_arg2)
def nA : Vec Ideal S1x512 .f32 := m ((c : Thread nD τ).loc main_arg3)

theorem blk0 (t : Fin cfg0.N) (r : Fin 512) (j : Fin 512) : (iblk m c 0 t : Vec Ideal S512x512 .f32) (ix2 r j) = oA m c (ix2 (rowOf t r) j) := by
  unfold iblk
  rw [View.read_apply]
  refine Eq.trans ?_ (congrFun (V_main_arg0 m c) _)
  show V m c main_arg0 _ = V m c main_arg0 _
  congr 1
  funext a
  apply Fin.ext
  obtain ⟨h0, h1⟩ := idx0 t
  match a with
  | ⟨0, _⟩ => show win0_0.index t 0 * 512 + 1 * r.val = 512 * t.val + r.val; omega
  | ⟨1, _⟩ => show win0_0.index t 1 * 512 + 1 * j.val = j.val; omega

theorem blk1 (t : Fin cfg0.N) (r : Fin 512) (j : Fin 512) : (iblk m c 1 t : Vec Ideal S512x512 .f32) (ix2 r j) = gA m c (ix2 (rowOf t r) (gcol j)) := by
  unfold iblk
  rw [View.read_apply]
  refine Eq.trans ?_ (congrFun (V_main_arg1 m c) _)
  show V m c main_arg1 _ = V m c main_arg1 _
  congr 1
  funext a
  apply Fin.ext
  obtain ⟨h0, h1⟩ := idx1 t
  match a with
  | ⟨0, _⟩ => show win0_1.index t 0 * 512 + 1 * r.val = 512 * t.val + r.val; omega
  | ⟨1, _⟩ => show win0_1.index t 1 * 512 + 1 * j.val = 3072 + j.val; omega

theorem blk2 (t : Fin cfg0.N) (r : Fin 512) (j : Fin 512) : (iblk m c 2 t : Vec Ideal S512x512 .f32) (ix2 r j) = yA m c (ix2 (rowOf t r) (ycol j)) := by
  unfold iblk
  rw [View.read_apply]
  refine Eq.trans ?_ (congrFun (V_main_arg2 m c) _)
  show V m c main_arg2 _ = V m c main_arg2 _
  congr 1
  funext a
  apply Fin.ext
  obtain ⟨h0, h1⟩ := idx2 t
  match a with
  | ⟨0, _⟩ => show win0_2.index t 0 * 512 + 1 * r.val = 512 * t.val + r.val; omega
  | ⟨1, _⟩ => show win0_2.index t 1 * 512 + 1 * j.val = 512 + j.val; omega

theorem blk3 (t : Fin cfg0.N) (r : Fin 1) (j : Fin 512) : (iblk m c 3 t : Vec Ideal S1x512 .f32) (ix2 r j) = nA m c (ix2 r j) := by
  unfold iblk
  rw [View.read_apply]
  refine Eq.trans ?_ (congrFun (V_main_arg3 m c) _)
  show V m c main_arg3 _ = V m c main_arg3 _
  congr 1
  funext a
  apply Fin.ext
  obtain ⟨h0, h1⟩ := idx3 t
  match a with
  | ⟨0, _⟩ => show win0_3.index t 0 * 1 + 1 * r.val = r.val; omega
  | ⟨1, _⟩ => show win0_3.index t 1 * 512 + 1 * j.val = j.val; omega

/-- The rows of one head. -/
def oR (r : Fin 4096) (h : Fin 4) (x : Fin 128) : EReal := oA m c (ix2 r (col h x))
def gR (r : Fin 4096) (h : Fin 4) (x : Fin 128) : EReal := gA m c (ix2 r (gcol (col h x)))
def yR (r : Fin 4096) (h : Fin 4) (x : Fin 128) : EReal := yA m c (ix2 r (ycol (col h x)))
def nR (h : Fin 4) (x : Fin 128) : EReal := nA m c (ix2 0 (col h x))

/-! ## What each point leaves -/

theorem do_at (t : Fin cfg0.N) : (outsAt0 m c t.val t.isLt).1 = doV (iblk m c 0 t) (iblk m c 1 t) (iblk m c 2 t) (iblk m c 3 t) := by
  by_cases h0 : t.val % 8 = 0
  · exact (fst_of (outsAt0_A m c t h0)).trans (do_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) ((hcond0_0 t).mpr h0))
  · exact (fst_of (outsAt0_B m c t h0)).trans (do_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) (outsAt0 m c (t.val - 1) (Nat.lt_of_le_of_lt (Nat.sub_le _ _) t.isLt)).2.2 (fun h => h0 ((hcond0_0 t).mp h)))

theorem dg_at (t : Fin cfg0.N) : (outsAt0 m c t.val t.isLt).2.1 = dgV (iblk m c 0 t) (iblk m c 1 t) (iblk m c 2 t) (iblk m c 3 t) := by
  by_cases h0 : t.val % 8 = 0
  · exact (mid_of (outsAt0_A m c t h0)).trans (dg_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) ((hcond0_0 t).mpr h0))
  · exact (mid_of (outsAt0_B m c t h0)).trans (dg_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) (outsAt0 m c (t.val - 1) (Nat.lt_of_le_of_lt (Nat.sub_le _ _) t.isLt)).2.2 (fun h => h0 ((hcond0_0 t).mp h)))

theorem ds_first (t : Fin cfg0.N) (h0 : t.val % 8 = 0) :
    (outsAt0 m c t.val t.isLt).2.2 = dsV (iblk m c 0 t) (iblk m c 1 t) (iblk m c 2 t) (k0_pay3 (F := Ideal)) :=
  (last_of (outsAt0_A m c t h0)).trans (ds_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) ((hcond0_0 t).mpr h0))

theorem ds_later (t : Fin cfg0.N) (h0 : ¬ t.val % 8 = 0) :
    (outsAt0 m c t.val t.isLt).2.2 = dsV (iblk m c 0 t) (iblk m c 1 t) (iblk m c 2 t) (outsAt0 m c (t.val - 1) (Nat.lt_of_le_of_lt (Nat.sub_le _ _) t.isLt)).2.2 :=
  (last_of (outsAt0_B m c t h0)).trans (ds_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) (outsAt0 m c (t.val - 1) (Nat.lt_of_le_of_lt (Nat.sub_le _ _) t.isLt)).2.2 (fun h => h0 ((hcond0_0 t).mp h)))

/-! ## The two arrays written block by block -/

def doRes : Vec Ideal S4096x512 .f32 := fun q =>
  doK (oR m c (q 0) (hd (q 1))) (gR m c (q 0) (hd (q 1))) (yR m c (q 0) (hd (q 1))) (nR m c (hd (q 1))) (ln (q 1))

theorem doRes_apply (r : Fin 4096) (h : Fin 4) (l : Fin 128) :
    doRes m c (ix2 r (col h l)) = doK (oR m c r h) (gR m c r h) (yR m c r h) (nR m c h) l := by
  show doK (oR m c r (hd (col h l))) (gR m c r (hd (col h l))) (yR m c r (hd (col h l))) (nR m c (hd (col h l))) (ln (col h l)) = _
  rw [hd_col, ln_col]

theorem do_val (t : Fin cfg0.N) (r : Fin 512) (h : Fin 4) (l : Fin 128) :
    (outsAt0 m c t.val t.isLt).1 (ix2 r (col h l)) = doRes m c (ix2 (rowOf t r) (col h l)) := by
  refine (congrFun (do_at m c t) (ix2 r (col h l))).trans ((doV_apply _ _ _ _ r h l).trans (Eq.trans ?_ (doRes_apply m c (rowOf t r) h l).symm))
  exact congr4 (fun a b d e => doK a b d e l) (funext fun x => blk0 m c t r (col h x)) (funext fun x => blk1 m c t r (col h x))
    (funext fun x => blk2 m c t r (col h x)) (funext fun x => blk3 m c t 0 (col h x))

theorem do_flushed (t : Fin cfg0.N) : (dats m 0 c).flushed 4 t = ((cfg0.win 4).blk t).view.read (Elt Ideal) (doRes m c) := by
  rw [flushed4 m c t]
  funext i
  rw [View.read_apply]
  change S512x512.Idx at i
  obtain ⟨r, j, rfl⟩ : ∃ r j, i = ix2 r j := ⟨_, _, eq_ix2 i⟩
  obtain ⟨h, l, rfl⟩ := exists_col j
  refine (do_val m c t r h l).trans (congrArg (doRes m c) ?_)
  obtain ⟨i0, i1⟩ := idx4 t
  funext a
  apply Fin.ext
  match a with
  | ⟨0, _⟩ => show 512 * t.val + r.val = win0_4.index t 0 * 512 + 1 * r.val; omega
  | ⟨1, _⟩ => show (col h l).val = win0_4.index t 1 * 512 + 1 * (col h l).val; omega

theorem do_final : (dats m 0 c).arrAt 4 cfg0.N = doRes m c :=
  (dats m 0 c).arrAt_eq_of_cover 4 _ (fun t _ => do_flushed m c t) ((by decide +kernel : (cfg0.win 4).Covers).cover _ (Memref.isWhole_whole _))

def dgRes : Vec Ideal S4096x512 .bf16 := fun q =>
  dgK (oR m c (q 0) (hd (q 1))) (gR m c (q 0) (hd (q 1))) (yR m c (q 0) (hd (q 1))) (nR m c (hd (q 1))) (ln (q 1))

theorem dgRes_apply (r : Fin 4096) (h : Fin 4) (l : Fin 128) :
    dgRes m c (ix2 r (col h l)) = dgK (oR m c r h) (gR m c r h) (yR m c r h) (nR m c h) l := by
  show dgK (oR m c r (hd (col h l))) (gR m c r (hd (col h l))) (yR m c r (hd (col h l))) (nR m c (hd (col h l))) (ln (col h l)) = _
  rw [hd_col, ln_col]

theorem dg_val (t : Fin cfg0.N) (r : Fin 512) (h : Fin 4) (l : Fin 128) :
    (outsAt0 m c t.val t.isLt).2.1 (ix2 r (col h l)) = dgRes m c (ix2 (rowOf t r) (col h l)) := by
  refine (congrFun (dg_at m c t) (ix2 r (col h l))).trans ((dgV_apply _ _ _ _ r h l).trans (Eq.trans ?_ (dgRes_apply m c (rowOf t r) h l).symm))
  exact congr4 (fun a b d e => dgK a b d e l) (funext fun x => blk0 m c t r (col h x)) (funext fun x => blk1 m c t r (col h x))
    (funext fun x => blk2 m c t r (col h x)) (funext fun x => blk3 m c t 0 (col h x))

theorem dg_flushed (t : Fin cfg0.N) : (dats m 0 c).flushed 5 t = ((cfg0.win 5).blk t).view.read (Elt Ideal) (dgRes m c) := by
  rw [flushed5 m c t]
  funext i
  rw [View.read_apply]
  change S512x512.Idx at i
  obtain ⟨r, j, rfl⟩ : ∃ r j, i = ix2 r j := ⟨_, _, eq_ix2 i⟩
  obtain ⟨h, l, rfl⟩ := exists_col j
  refine (dg_val m c t r h l).trans (congrArg (dgRes m c) ?_)
  obtain ⟨i0, i1⟩ := idx5 t
  funext a
  apply Fin.ext
  match a with
  | ⟨0, _⟩ => show 512 * t.val + r.val = win0_5.index t 0 * 512 + 1 * r.val; omega
  | ⟨1, _⟩ => show (col h l).val = win0_5.index t 1 * 512 + 1 * (col h l).val; omega

theorem dg_final : (dats m 0 c).arrAt 5 cfg0.N = dgRes m c :=
  (dats m 0 c).arrAt_eq_of_cover 5 _ (fun t _ => dg_flushed m c t) ((by decide +kernel : (cfg0.win 5).Covers).cover _ (Memref.isWhole_whole _))

/-! ## The scale's gradient -/

/-- One token's part. -/
def tm (h : Fin 4) (l : Fin 128) (k : Fin 4096) : EReal := dsK (oR m c k h) (gR m c k h) (yR m c k h) l

theorem ds_step (t : Fin cfg0.N) (v : Vec Ideal S1x512 .f32) (h : Fin 4) (l : Fin 128) :
    dsV (iblk m c 0 t) (iblk m c 1 t) (iblk m c 2 t) v (ix2 0 (col h l)) = v (ix2 0 (col h l)) + part 512 (tm m c h l) t.val := by
  refine (dsV_apply _ _ _ v h l).trans (congrArg (v (ix2 0 (col h l)) + ·) ?_)
  refine part_eq 512 _ _ _ fun r => ⟨by have := r.isLt; have := lt8 t; omega, ?_⟩
  exact congr3 (fun a b d => dsK a b d l) (funext fun x => blk0 m c t r (col h x)) (funext fun x => blk1 m c t r (col h x))
    (funext fun x => blk2 m c t r (col h x))

theorem ds_sums (t : Fin cfg0.N) (h : Fin 4) (l : Fin 128) : (outsAt0 m c t.val t.isLt).2.2 (ix2 0 (col h l))
    = ∑ j ∈ Finset.range (t.val % 8 + 1), part 512 (tm m c h l) j := by
  refine running 8 (by norm_num) (fun n hn => (outsAt0 m c n hn).2.2 (ix2 0 (col h l))) (fun _ j => part 512 (tm m c h l) j)
    (fun n hn h0 => ?_) (fun n hn h0 => ?_) t.val t.isLt
  · refine (congrFun (ds_first m c ⟨n, hn⟩ h0) (ix2 0 (col h l))).trans ((ds_step m c ⟨n, hn⟩ _ h l).trans ?_)
    rw [zero_apply, zero_add, Nat.mod_eq_of_lt (lt8 ⟨n, hn⟩)]
  · refine (congrFun (ds_later m c ⟨n, hn⟩ h0) (ix2 0 (col h l))).trans ((ds_step m c ⟨n, hn⟩ _ h l).trans ?_)
    rw [Nat.mod_eq_of_lt (lt8 ⟨n, hn⟩)]

def dsRes : Vec Ideal S1x512 .f32 := fun q => ∑ k, tm m c (hd (q 1)) (ln (q 1)) k

theorem dsRes_apply (h : Fin 4) (l : Fin 128) : dsRes m c (ix2 0 (col h l)) = ∑ k, tm m c h l k := by
  show ∑ k, tm m c (hd (col h l)) (ln (col h l)) k = _
  rw [hd_col, ln_col]

theorem ds_val (t : Fin cfg0.N) (h0 : t.val % 8 = 7) (h : Fin 4) (l : Fin 128) :
    (outsAt0 m c t.val t.isLt).2.2 (ix2 0 (col h l)) = dsRes m c (ix2 0 (col h l)) := by
  refine (ds_sums m c t h l).trans (Eq.trans ?_ (dsRes_apply m c h l).symm)
  rw [h0, show 7 + 1 = 8 from rfl, sum_parts 512 8 (by norm_num : 512 * 8 = 4096)]

theorem ds_flushed (t : Fin cfg0.N) (h0 : t.val % 8 = 7) :
    (dats m 0 c).flushed 6 t = ((cfg0.win 6).blk t).view.read (Elt Ideal) (dsRes m c) := by
  rw [flushed6 m c t]
  funext i
  rw [View.read_apply]
  change S1x512.Idx at i
  obtain ⟨r, j, rfl⟩ : ∃ r j, i = ix2 r j := ⟨_, _, eq_ix2 i⟩
  obtain rfl : r = 0 := Subsingleton.elim _ _
  obtain ⟨h, l, rfl⟩ := exists_col j
  refine (ds_val m c t h0 h l).trans (congrArg (dsRes m c) ?_)
  obtain ⟨i0, i1⟩ := idx6 t
  funext a
  apply Fin.ext
  match a with
  | ⟨0, _⟩ => show 0 = win0_6.index t 0 * 1 + 1 * 0; omega
  | ⟨1, _⟩ => show (col h l).val = win0_6.index t 1 * 512 + 1 * (col h l).val; omega

theorem ds_final : (dats m 0 c).arrAt 6 cfg0.N = dsRes m c :=
  (dats m 0 c).arrAt_eq_of_cover 6 _ (fun t hf => ds_flushed m c t ((flush0_6 t).mp hf)) ((by decide +kernel : (cfg0.win 6).Covers).cover _ (Memref.isWhole_whole _))

end

/-! ## The reference at an index -/

section
open Cert.Reference10Ideal Cert.Reference10Ideal.Read

variable (x0 : (⟨S4096x512, .f32⟩ : BufTy).Contents (Elt Ideal)) (x1 : (⟨S4096x6144, .f32⟩ : BufTy).Contents (Elt Ideal))
  (x2 : (⟨S4096x2048, .f32⟩ : BufTy).Contents (Elt Ideal)) (x3 : (⟨S1x512, .f32⟩ : BufTy).Contents (Elt Ideal))

theorem v1_apply (r : Fin 4096) (h : Fin 4) (l : Fin 128) : val_main_v1 (F := Ideal) x0 (ix3 r h l) = x0 (ix2 r (col h l)) := by
  pointwise [val_main_v1]
  rfl

theorem v10_apply (r : Fin 4096) (h : Fin 4) : val_main_v10 (F := Ideal) x0 (ix3 r h 0) = hm fun x => x0 (ix2 r (col h x)) := by
  unfold hm
  pointwise [val_main_v10, val_main_v9, val_main_cst_1, val_main_v8, val_main_v7, val_main_cst_0, val_main_v6, val_main_v5, val_main_cst, val_main_v4]
  simp only [v1_apply]

theorem v11_apply (r : Fin 4096) (h : Fin 4) : val_main_v11 (F := Ideal) x0 (ix3 r h 0) = hr fun x => x0 (ix2 r (col h x)) := by
  unfold hr
  pointwise [val_main_v11]
  rw [v10_apply]

theorem v16_apply (r : Fin 4096) (h : Fin 4) (l : Fin 128) : val_main_v16 (F := Ideal) x0 (ix3 r h l)
    = x0 (ix2 r (col h l)) * hr fun x => x0 (ix2 r (col h x)) := by
  pointwise [val_main_v16, val_main_v15]
  rw [v1_apply, v11_apply]

theorem v25_apply (r : Fin 4096) (h : Fin 4) (l : Fin 128) : val_main_v25 (F := Ideal) x1 x2 (ix3 r h l)
    = dn (fun x => x1 (ix2 r (gcol (col h x)))) (fun x => x2 (ix2 r (ycol (col h x)))) l := by
  unfold dn
  rw [mul_comm]
  rw [← lg_neg]
  pointwise [val_main_v25, val_main_v23, val_main_v22, val_main_v2_0, val_main_v2_2, val_main_call0_v4, val_main_call0_cst_0, val_main_call0_v3, val_main_call0_v2, val_main_call0_cst, val_main_call0_v1, val_main_call0_v0, val_main_v0]
  rfl

theorem v30_apply (r : Fin 4096) (h : Fin 4) (l : Fin 128) : val_main_v30 (F := Ideal) x1 x2 x3 (ix3 r h l)
    = dn (fun x => x1 (ix2 r (gcol (col h x)))) (fun x => x2 (ix2 r (ycol (col h x)))) l * x3 (ix2 0 (col h l)) := by
  pointwise [val_main_v30, val_main_v29, val_main_v17, val_main_v3]
  rw [v25_apply]
  rfl

theorem v45_apply (r : Fin 4096) (h : Fin 4) (l : Fin 128) : val_main_v45 (F := Ideal) x0 x1 x2 x3 (ix3 r h l)
    = doR (fun x => x0 (ix2 r (col h x)))
        (fun x => dn (fun x => x1 (ix2 r (gcol (col h x)))) (fun x => x2 (ix2 r (ycol (col h x)))) x * x3 (ix2 0 (col h x))) l := by
  unfold doR dm
  pointwise [val_main_v45, val_main_v44, val_main_v43, val_main_v42, val_main_v41, val_main_v40, val_main_v39, val_main_v38, val_main_v37, val_main_v36, val_main_v35, val_main_v34, val_main_v33, val_main_v32, val_main_cst_5, val_main_cst_6, val_main_cst_7, val_main_v14, val_main_v13, val_main_v12, val_main_cst_2]
  simp only [Finset.univ_unique, Finset.sum_singleton, Fin.default_eq_zero, v1_apply, v30_apply, v11_apply, v10_apply]

theorem v48_apply (r : Fin 4096) (h : Fin 4) (l : Fin 128) : val_main_v48 (F := Ideal) x0 x1 x2 x3 (ix2 r (col h l))
    = val_main_v45 (F := Ideal) x0 x1 x2 x3 (ix3 r h l) := by
  pointwise [val_main_v48]
  exact congrArg₂ (fun a b => val_main_v45 (F := Ideal) x0 x1 x2 x3 (ix3 r a b)) (col_head h l) (col_lane h l)

theorem v20_apply (r : Fin 4096) (h : Fin 4) (l : Fin 128) : val_main_v20 (F := Ideal) x0 x3 (ix2 r (col h l))
    = x0 (ix2 r (col h l)) * (hr fun x => x0 (ix2 r (col h x))) * x3 (ix2 0 (col h l)) := by
  have e : val_main_v20 (F := Ideal) x0 x3 (ix2 r (col h l)) = val_main_v19 (F := Ideal) x0 x3 (ix3 r h l) := by
    pointwise [val_main_v20]
    exact congrArg₂ (fun a b => val_main_v19 (F := Ideal) x0 x3 (ix3 r a b)) (col_head h l) (col_lane h l)
  rw [e]
  pointwise [val_main_v19, val_main_v18, val_main_v17, val_main_v3]
  rw [v16_apply]
  rfl

theorem v49_apply (r : Fin 4096) (h : Fin 4) (l : Fin 128) : val_main_v49 (F := Ideal) x0 x1 x2 x3 (ix2 r (col h l))
    = x2 (ix2 r (ycol (col h l))) * (x0 (ix2 r (col h l)) * (hr fun x => x0 (ix2 r (col h x))) * x3 (ix2 0 (col h l))) * lg (x1 (ix2 r (gcol (col h l))))
      + x1 (ix2 r (gcol (col h l))) * (x2 (ix2 r (ycol (col h l))) * (x0 (ix2 r (col h l)) * (hr fun x => x0 (ix2 r (col h x))) * x3 (ix2 0 (col h l))))
        * (lg (x1 (ix2 r (gcol (col h l)))) * (1 - lg (x1 (ix2 r (gcol (col h l)))))) := by
  rw [← v20_apply, ← lg_neg]
  pointwise [val_main_v49, val_main_v47, val_main_call1_v2, val_main_call1_v1, val_main_call1_v0, val_main_v24, val_main_v22, val_main_v2_1, val_main_v2_2, val_main_call0_v7, val_main_call0_v6, val_main_call0_cst_1, val_main_call0_v4, val_main_call0_cst_0, val_main_call0_v3, val_main_call0_v2, val_main_call0_cst, val_main_call0_v1, val_main_call0_v0, val_main_v0]
  rfl

theorem v46_apply (h : Fin 4) (l : Fin 128) : val_main_v46 (F := Ideal) x0 x1 x2 (ix2 0 (col h l))
    = ∑ k : Fin 4096, dsK (fun x => x0 (ix2 k (col h x))) (fun x => x1 (ix2 k (gcol (col h x)))) (fun x => x2 (ix2 k (ycol (col h x)))) l := by
  unfold dsK
  have e : val_main_v46 (F := Ideal) x0 x1 x2 (ix2 0 (col h l))
      = ∑ k : Fin 4096, val_main_v16 (F := Ideal) x0 (ix3 k h l) * val_main_v25 (F := Ideal) x1 x2 (ix3 k h l) := by
    pointwise [val_main_v46, val_main_v31, val_main_v28, val_main_v27, val_main_v26, val_main_cst_3, val_main_cst_4]
    simp only [Finset.univ_unique, Finset.sum_singleton]
    exact congrArg₂ (fun a b => ∑ k : Fin 4096, val_main_v16 (F := Ideal) x0 (ix3 k a b) * val_main_v25 (F := Ideal) x1 x2 (ix3 k a b)) (col_head h l) (col_lane h l)
  rw [e]
  exact Finset.sum_congr rfl fun k _ => by rw [v16_apply, v25_apply, mul_comm]

end

/-! ## The claim -/

theorem finite_args {x0 : FVec Ideal Pre_finite10.S4096x512 .f32} {x1 : FVec Ideal Pre_finite10.S4096x6144 .f32}
    {x2 : FVec Ideal Pre_finite10.S4096x2048 .f32} {x3 : FVec Ideal Pre_finite10.S1x512 .f32}
    (e : Pre_finite10.fn (F := Ideal) x0 x1 x2 x3 = fun _ => 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal))
      ∧ (∀ i, ∃ r : ℝ, x3 i = ((r : ℝ) : EReal)) := by
  have j : (⟨0, ![]⟩ : Shape).Idx := fun k => k.elim0
  have e' := congrFun e j
  obtain ⟨e', h3⟩ := IntOp.andi_eq_one.1 e'
  obtain ⟨e', h2⟩ := IntOp.andi_eq_one.1 e'
  obtain ⟨h0, h1⟩ := IntOp.andi_eq_one.1 e'
  exact ⟨Attn.finite_all _ _ _ _ j h0, Attn.finite_all _ _ _ _ j h1, Attn.finite_all _ _ _ _ j h2, Attn.finite_all _ _ _ _ j h3⟩

section
open Cert.Kernel10Ideal Cert.Kernel10Ideal.Gen
variable (m : (ℓ : Loc nD τ sig) → Buf (Elt Ideal) ℓ) (c : Dev nD)

theorem results (e : Pre_finite10.fn (F := Ideal) (oA m c) (gA m c) (yA m c) (nA m c) = fun _ => 1#1) :
    Reference10Ideal.Read.val_main_v48 (F := Ideal) (oA m c) (gA m c) (yA m c) (nA m c) = doRes m c
    ∧ Reference10Ideal.Read.val_main_v49 (F := Ideal) (oA m c) (gA m c) (yA m c) (nA m c) = dgRes m c
    ∧ Reference10Ideal.Read.val_main_v46 (F := Ideal) (oA m c) (gA m c) (yA m c) = dsRes m c := by
  obtain ⟨f0, f1, f2, f3⟩ := finite_args e
  choose u0 h0 using f0
  choose u1 h1 using f1
  choose u2 h2 using f2
  choose u3 h3 using f3
  have e0 : ∀ r h, oR m c r h = fun x => ((u0 (ix2 r (col h x)) : ℝ) : EReal) := fun r h => funext fun x => h0 _
  have e1 : ∀ r h, gR m c r h = fun x => ((u1 (ix2 r (gcol (col h x))) : ℝ) : EReal) := fun r h => funext fun x => h1 _
  have e2 : ∀ r h, yR m c r h = fun x => ((u2 (ix2 r (ycol (col h x))) : ℝ) : EReal) := fun r h => funext fun x => h2 _
  have e3 : ∀ h, nR m c h = fun x => ((u3 (ix2 0 (col h x)) : ℝ) : EReal) := fun h => funext fun x => h3 _
  refine ⟨?_, ?_, ?_⟩
  · funext i
    change S4096x512.Idx at i
    obtain ⟨r, j, rfl⟩ : ∃ r j, i = ix2 r j := ⟨_, _, eq_ix2 i⟩
    obtain ⟨h, l, rfl⟩ := exists_col j
    refine (v48_apply _ _ _ _ r h l).trans ((v45_apply _ _ _ _ r h l).trans (Eq.trans ?_ (doRes_apply m c r h l).symm))
    show doR (oR m c r h) (fun x => dn (gR m c r h) (yR m c r h) x * nR m c h x) l = _
    rw [e0, e1, e2, e3]
    exact (do_id (fun x => u0 (ix2 r (col h x))) (fun x => u1 (ix2 r (gcol (col h x)))) (fun x => u2 (ix2 r (ycol (col h x))))
      (fun x => u3 (ix2 0 (col h x))) l).symm
  · funext i
    change S4096x512.Idx at i
    obtain ⟨r, j, rfl⟩ : ∃ r j, i = ix2 r j := ⟨_, _, eq_ix2 i⟩
    obtain ⟨h, l, rfl⟩ := exists_col j
    refine (v49_apply _ _ _ _ r h l).trans (Eq.trans ?_ (dgRes_apply m c r h l).symm)
    show yR m c r h l * (oR m c r h l * hr (oR m c r h) * nR m c h l) * lg (gR m c r h l)
      + gR m c r h l * (yR m c r h l * (oR m c r h l * hr (oR m c r h) * nR m c h l)) * (lg (gR m c r h l) * (1 - lg (gR m c r h l))) = _
    rw [e0, e1, e2, e3]
    exact (dg_id (fun x => u0 (ix2 r (col h x))) (fun x => u1 (ix2 r (gcol (col h x)))) (fun x => u2 (ix2 r (ycol (col h x))))
      (fun x => u3 (ix2 0 (col h x))) l).symm
  · funext i
    change S1x512.Idx at i
    obtain ⟨r, j, rfl⟩ : ∃ r j, i = ix2 r j := ⟨_, _, eq_ix2 i⟩
    obtain rfl : r = 0 := Subsingleton.elim _ _
    obtain ⟨h, l, rfl⟩ := exists_col j
    exact (v46_apply _ _ _ h l).trans (dsRes_apply m c h l).symm

end

theorem claim : Cert.algebraic_Kernel10Ideal_Reference10Ideal_pre_finite10 := by
  intro m g m' g' hpre hagree
  refine ⟨fun c => (Kernel10Ideal.Gen.dats m 0 c).arrAt 4 Kernel10Ideal.cfg0.N, fun c => (Kernel10Ideal.Gen.dats m 0 c).arrAt 5 Kernel10Ideal.cfg0.N,
    fun c => (Kernel10Ideal.Gen.dats m 0 c).arrAt 6 Kernel10Ideal.cfg0.N, Kernel10Ideal.Value.run_blocks m g, ?_⟩
  refine (θ_run Reference10Ideal.defs _ _).mono (fun r h c => ?_) (Reference10Ideal.Value.run m' g')
  obtain ⟨h0, h1, h2, hk⟩ := h c
  obtain ⟨a0, a1, a2, a3⟩ := hagree c
  obtain ⟨r0, r1, r2⟩ := results m c (hpre c)
  exact ⟨h0.trans ((Reference10Ideal.Read.val_main_v48_eq _ _).trans ((congr4 (Reference10Ideal.Read.val_main_v48 (F := Ideal)) a0 a1 a2 a3).trans
      (r0.trans (do_final m c).symm))),
    h1.trans ((Reference10Ideal.Read.val_main_v49_eq _ _ _ _).trans ((congr4 (Reference10Ideal.Read.val_main_v49 (F := Ideal)) a0 a1 a2 a3).trans
      (r1.trans (dg_final m c).symm))),
    h2.trans ((Reference10Ideal.Read.val_main_v46_eq _ _ _).trans ((congr3 (Reference10Ideal.Read.val_main_v46 (F := Ideal)) a0 a1 a2).trans
      (r2.trans (ds_final m c).symm))), hk⟩

end Cert.Proj.Gate2

end
-- ==== Proof.Proj.InRun.lean ====
/- The input projection of the blocks' shared normalisation: the call's run, for any values.

   The grid walks the weight's 512-wide columns inside each 1024-row stripe. The stripe's first point normalises the rows, keeps them
   in a scratch buffer and stores them as the second result; every point multiplies the kept rows with its columns. The second result's
   buffer is written back only at a stripe's last point, where the body does not touch it: it still holds what the first point stored. -/
module

public import proofs.«01_k».proof.Defs
public import proofs.«01_k».proof.Proof.Gen.Kernel11Ideal.Frame
public import proofs.«01_k».proof.Proof.Gen.Kernel11Ideal.Skeleton
public import Idealize.ShloMosaic.Lib.Pipeline.FrameBody
public import Idealize.ShloMosaic.Lib.Pipeline.TableIdle
public import Idealize.ShloMosaic.Lib.Pipeline.Value
public import Idealize.ShloMosaic.Lib.Claim
public import Idealize.ShloMosaic.Lib.Quiescent
public import Idealize.ShloMosaic.Lib.Ring
public import Idealize.ShloMosaic.Lib.Tactic
public import Idealize.ShloMosaic.Lib.WordCmp

@[expose] public section

set_option maxRecDepth 16384

noncomputable section

namespace Cert.Proj.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel11Ideal Cert.Kernel11Ideal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## Where a stripe begins -/

/-- The body normalises at a stripe's first point only. -/
abbrev First (i : grid0.Coords) : Prop := k0_cond1 i = 1#1

theorem first_iff : ∀ t : Fin cfg0.N, First (grid0.coords t) ↔ t.val % 12 = 0 :=
  (fun t => by
    have ht : t.val < 48 := Nat.lt_of_lt_of_eq t.isLt N_0
    have e0 : (grid0.coords t 0).val = t.val / 12 % 4 := Pipeline.Grid.coords_val t 0 (by decide) rfl
    have e1 : (grid0.coords t 1).val = t.val / 1 % 12 := Pipeline.Grid.coords_val t 1 (by decide) rfl
    simp only [First, k0_cond1, e0, e1]
    word_cmp
   : ∀ t : Fin grid0.N, First (grid0.coords t) ↔ t.val % 12 = 0)

theorem live4 : ∀ t : Fin cfg0.N, First (grid0.coords t) → cfg0.idle 4 (grid0.coords t) = false := by decide +kernel
theorem idle4 : ∀ t : Fin cfg0.N, ¬First (grid0.coords t) → cfg0.idle 4 (grid0.coords t) = true := by decide +kernel

/-- The second result's buffer holds nothing of use exactly before a stripe's first point. -/
def unset4 (n : ℕ) : Bool := n % 12 == 0

theorem unset4_step : ∀ t : Fin cfg0.N,
    unset4 (t.val + 1) = ((cfg0.win 4).flush t || (cfg0.idle 4 (cfg0.grid.coords t) && unset4 t.val)) := by decide +kernel

theorem fresh4 (t : Fin cfg0.N) : cfg0.fresh 4 t.val = unset4 t.val :=
  Pipeline.Cfg.fresh_tab cfg0 4 unset4 rfl unset4_step t.val (Nat.le_of_lt t.isLt)

/-! ## The body -/

section
variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S512x2048 .bf16) (harg4 : arg4.IsWhole) (arg5 : Memref sig .tc .vmem S1024x512 .f32) (harg5 : arg5.IsWhole)
  (arg6 : Memref sig .tc .vmem S1024x2048 .bf16) (harg6 : arg6.IsWhole) (arg7 : Memref sig .tc .vmem S1024x2048 .bf16) (harg7 : arg7.IsWhole)
  (x0 : Vec F S1024x2048 .f32) (x1 : Vec F S1x2048 .f32) (x2 : Vec F S512x2048 .bf16)

set_option maxHeartbeats 1000000 in
/-- At a stripe's first point the body leaves the normalised rows in the scratch buffer and in the second result, and their product with
    the point's columns in the first. -/
theorem run_first (h0 : First i) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1) x2) ∗ owns (c : Thread nD τ) arg6 fullShare (k0_pay1 x0 x1)
            ∗ owns (c : Thread nD τ) arg7 fullShare (k0_pay2 x0 x1)) -∗ K ⟨⟩))
      ⊢ wp frame (wpE (defs₀ (F := F)) Variants.none c none) E
          (cc0_inproj i arg2 harg2 arg3 harg3 arg4 harg4 arg5 harg5 arg6 harg6 arg7 harg7) K := by
  simp only [cc0_inproj_eq_skeleton]; unfold cc0_inproj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | sl_exact h0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ fun y => View.cover_of_tiledL _ S1024x512.size (by sl_kernel_rfl) y]
    sl_unfold_words
    rw [View.canon_unit_zero hz2]
    simp only [View.readCov_unit_zero (S := S1024x2048) _ hz2, View.readAt_eq_ld, harg2.read_unread, harg3.read_unread, harg4.read_unread,
      View.ld_unit_zero (S := S1024x2048) hz2, View.ld_unit_zero (S := S1x2048) hz2, View.ld_unit_zero (S := S512x2048) hz2]
  isplitl [H4]
  · iexists _; isplitr; swap; · iexact H4
    ipureintro
    rw [View.read_writes_eq_canon _ _ _ fun y => View.cover_of_tiledL _ S1024x2048.size (by sl_kernel_rfl) y]
    sl_unfold_words
    rw [View.canon_unit_zero hz2]
    simp only [View.readAt_eq_ld, harg2.read_unread, harg3.read_unread,
      View.ld_unit_zero (S := S1024x2048) hz2, View.ld_unit_zero (S := S1x2048) hz2]
  iexists _; isplitr; swap; · iexact H5
  ipureintro
  rw [View.read_writes_eq_canon _ _ _ fun y => View.cover_of_tiledL _ S1024x2048.size (by sl_kernel_rfl) y]
  sl_unfold_words
  rw [View.canon_unit_zero hz2]
  simp only [View.readAt_eq_ld, harg2.read_unread, harg3.read_unread,
    View.ld_unit_zero (S := S1024x2048) hz2, View.ld_unit_zero (S := S1x2048) hz2]

set_option maxHeartbeats 1000000 in
/-- At any other point it leaves the product of the kept rows `k` with the point's columns, and touches neither the rows nor the second
    result. -/
theorem run_later (h0 : ¬First i) (d4 k : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare d4 ∗ owns (c : Thread nD τ) arg7 fullShare k
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 k x2) ∗ owns (c : Thread nD τ) arg6 fullShare d4
            ∗ owns (c : Thread nD τ) arg7 fullShare k) -∗ K ⟨⟩))
      ⊢ wp frame (wpE (defs₀ (F := F)) Variants.none c none) E
          (cc0_inproj i arg2 harg2 arg3 harg3 arg4 harg4 arg5 harg5 arg6 harg6 arg7 harg7) K := by
  simp only [cc0_inproj_eq_skeleton]; unfold cc0_inproj_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg2.eq_unread hf0; obtain rfl := harg3.eq_unread hf1; obtain rfl := harg4.eq_unread hf2
  obtain rfl := harg6.eq_unread hf4; obtain rfl := harg7.eq_unread hf5
  sl_exec (disch := first | sl_exact h0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ fun y => View.cover_of_tiledL _ S1024x512.size (by sl_kernel_rfl) y]
    sl_unfold_words
    rw [View.canon_unit_zero hz2]
    simp only [View.readAt_eq_ld, harg4.read_unread, harg7.read_unread,
      View.ld_unit_zero (S := S1024x2048) hz2, View.ld_unit_zero (S := S512x2048) hz2]
  isplitl [H4]
  · iexists _; isplitr; · ipureintro; exact harg6.read_unread _
    iexact H4
  iexists _; isplitr; · ipureintro; exact harg7.read_unread _
  iexact H5

end

/-! ## What the buffers hold after each point -/

variable (m : (ℓ : Loc nD τ sig) → Buf (Elt F) ℓ) (ρ : Dev nD → PrngReg)

/-- The first point of `t`'s stripe. -/
def start (t : Fin cfg0.N) : Fin cfg0.N := ⟨12 * (t.val / 12), by have := t.isLt; omega⟩

theorem start_first (t : Fin cfg0.N) (h : t.val % 12 = 0) : start t = t := Fin.ext (by show 12 * (t.val / 12) = _; omega)

theorem start_later (t p : Fin cfg0.N) (h : ¬t.val % 12 = 0) (hp : p.val = t.val - 1) : start p = start t :=
  Fin.ext (by show 12 * (p.val / 12) = 12 * (t.val / 12); omega)

/-- The stripe's normalised rows, as the second result holds them. -/
def rows (c : Dev nD) (t : Fin cfg0.N) : Vec F S1024x2048 .bf16 := k0_pay1 (iblk m c 0 (start t)) (iblk m c 1 (start t))

/-- The same rows, as the scratch buffer keeps them. -/
def kept (c : Dev nD) (t : Fin cfg0.N) : Vec F S1024x2048 .bf16 := k0_pay2 (iblk m c 0 (start t)) (iblk m c 1 (start t))

/-- The scratch buffer as the body is handed it. -/
abbrev keep : Memref sig .tc .vmem S1024x2048 .bf16 := Memref.whole cc0_scratch0

theorem hΦA (c : Dev nD) :
    (Pipeline.ΦA spec0 c : sProp 𝕄) = iprop(iprop((∃ d, owns (c : Thread nD τ) keep fullShare d)) ∗ (∃ r, prngReg c r)) := by
  unfold Pipeline.ΦA; rw [scopedRest0_eq]; simp only [keep, owns_whole]; try rfl

/-- Between two points: before the first anything, afterwards the scratch buffer keeps the last point's stripe. -/
def inv (c : Dev nD) : (n : ℕ) → n ≤ cfg0.N → sProp 𝕄
  | 0, _ => Pipeline.ΦA spec0 c
  | n + 1, hn => iprop(owns (c : Thread nD τ) keep fullShare (kept m c ⟨n, hn⟩) ∗ (∃ r, prngReg c r))

theorem inv_pos (c : Dev nD) (n : ℕ) (h : n ≤ cfg0.N) (hz : n ≠ 0) :
    inv m c n h = iprop(owns (c : Thread nD τ) keep fullShare (kept m c ⟨n - 1, by omega⟩) ∗ (∃ r, prngReg c r)) := by
  cases n with
  | zero => exact absurd rfl hz
  | succ n => rfl

/-- From any such state the scratch buffer is there, at some contents. -/
theorem inv_any (c : Dev nD) (n : ℕ) (h : n ≤ cfg0.N) :
    inv m c n h ⊢ iprop(iprop((∃ d, owns (c : Thread nD τ) keep fullShare d)) ∗ (∃ r, prngReg c r)) := by
  cases n with
  | zero => show Pipeline.ΦA spec0 c ⊢ _; rw [hΦA]
  | succ n =>
    show iprop(owns (c : Thread nD τ) keep fullShare (kept m c ⟨n, h⟩) ∗ (∃ r, prngReg c r)) ⊢ _
    iintro ⟨H, Hg⟩
    isplitl [H]; · iexists _; iexact H
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (kept m c t) (iblk m c 2 t)
    | ⟨4, _⟩ => rows m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay3 (kept m c t) (iblk m c 2 t) := by dsimp only [dats]
theorem after4 (c : Dev nD) (t : Fin cfg0.N) : (dats m 0 c).after 4 t = rows m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d

/-- Within a stripe the second result does not change. -/
theorem carry4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have h : ¬t.val % 12 = 0 := fun h => by rw [live4 t ((first_iff t).mpr h)] at hi; exact absurd hi Bool.false_ne_true
  rw [after4, after4]
  unfold rows
  rw [start_later t ⟨t.val - 1, by omega⟩ h rfl]

theorem before4 (c : Dev nD) (t : Fin cfg0.N) (h : ¬t.val % 12 = 0) (d) : (dats m 0 c).before 4 t d = rows m c t := by
  rw [Dat.before_out_traj _ 4 rfl (fun _ _ => rfl) (carry4 m c) t.val t rfl d,
    if_neg (by rw [fresh4 t]; unfold unset4; simpa using h), after4]
  unfold rows
  rw [start_later t ⟨t.val - 1, by omega⟩ h rfl]

/-- Where the body leaves the second result alone, its buffer still holds the stripe's rows. -/
theorem leaves4 (c : Dev nD) (t : Fin cfg0.N) (h : ¬t.val % 12 = 0) :
    owns (c : Thread nD τ) (win0_4.stage (cfg0.slots t 4)) fullShare (rows m c t) ⊢ (dats m 0 c).leavesExact 4 t := by
  unfold Dat.leavesExact
  rw [idle4 t fun hc => h ((first_iff t).mp hc)]
  cases hf : (cfg0.win 4).flush t with
  | true => rw [after4]
  | false =>
    iintro H
    iexists (rows m c t)
    rw [before4 m c t h]
    iexact H

/-! ## The body at any point -/

def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 3200000 in
theorem body (c : Dev nD) (t : Fin cfg0.N) :
    pre m c t ⊢ wp frame (wpE (defs₀ (F := F)) Variants.none c none) Set.univ (bodyAt0 t) (fun _ => post m c t) := by
  unfold pre post bodyAt0
  simp only [before0, before1, before2]
  rw [show (dats m 0 c).owesAt () t.succ = (dats m 0 c).owesAt () t.castSucc from rfl,
    show (dats m 0 c).Φ t.succ = iprop(owns (c : Thread nD τ) keep fullShare (kept m c t) ∗ (∃ r, prngReg c r)) from rfl,
    show (dats m 0 c).Φ t.castSucc = inv m c t.val (Nat.le_of_lt t.isLt) from by dsimp only [dats]; exact Pipeline.Dat.Φ_castSucc (inv m c) t,
    show (dats m 0 c).leavesExact 0 t = owns (c : Thread nD τ) (win0_0.stage (cfg0.slots t 0)) fullShare ((dats m 0 c).after 0 t) from rfl,
    show (dats m 0 c).leavesExact 1 t = owns (c : Thread nD τ) (win0_1.stage (cfg0.slots t 1)) fullShare ((dats m 0 c).after 1 t) from rfl,
    show (dats m 0 c).leavesExact 2 t = owns (c : Thread nD τ) (win0_2.stage (cfg0.slots t 2)) fullShare ((dats m 0 c).after 2 t) from rfl,
    show (dats m 0 c).leavesExact 3 t = owns (c : Thread nD τ) (win0_3.stage (cfg0.slots t 3)) fullShare ((dats m 0 c).after 3 t) from rfl,
    after0, after1, after2, after3]
  by_cases h : t.val % 12 = 0
  · have hc := (first_iff t).mpr h
    rw [show (dats m 0 c).leavesExact 4 t = owns (c : Thread nD τ) (win0_4.stage (cfg0.slots t 4)) fullShare ((dats m 0 c).after 4 t) from by
      unfold Dat.leavesExact; rw [live4 t hc], after4]
    unfold rows kept
    rw [start_first t h]
    iintro ⟨HΦ, Ho, ⟨%d0, H0⟩, ⟨%d1, H1⟩, ⟨%d2, H2⟩, ⟨%d3, H3⟩, ⟨%d4, H4⟩⟩
    ihave ⟨Hs, Hg⟩ := inv_any m c t.val (Nat.le_of_lt t.isLt) $$ HΦ
    iapply (run_first c (grid0.coords t) _ _ _ _ _ _ _ _ _ _ _ _ (iblk m c 0 t) (iblk m c 1 t) (iblk m c 2 t) hc Set.univ _)
    isplitl [H0]; · iexact H0
    isplitl [H1]; · iexact H1
    isplitl [H2]; · iexact H2
    isplitl [H3]; · iexists _; iexact H3
    isplitl [H4]; · iexists _; iexact H4
    isplitl [Hs]; · iexact Hs
    iintro ⟨H0, H1, H2, H3, H4, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    iexact H4
  · have hc : ¬First (grid0.coords t) := fun hc => h ((first_iff t).mp hc)
    rw [inv_pos m c _ _ (fun hz => h (by rw [hz]))]
    rw [show kept m c ⟨t.val - 1, by omega⟩ = kept m c t from by unfold kept; rw [start_later t ⟨t.val - 1, by omega⟩ h rfl]]
    simp only [before4 m c t h]
    iintro ⟨⟨Hs, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ (iblk m c 0 t) (iblk m c 1 t) (iblk m c 2 t) hc (rows m c t) (kept m c t) Set.univ _)
    isplitl [H0]; · iexact H0
    isplitl [H1]; · iexact H1
    isplitl [H2]; · iexact H2
    isplitl [H3]; · iexists _; iexact H3
    isplitl [H4]; · iexact H4
    isplitl [Hs]; · iexact Hs
    iintro ⟨H0, H1, H2, H3, H4, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    iapply (leaves4 m c t h)
    iexact H4

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl, hΦA]
  exact inv_any m c _ _

/-! ## The run -/

set_option backward.isDefEq.respectTransparency.types false in
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

/-- Every run ends with the two results as the points wrote them back. -/
theorem results : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩)
    (run m ρ)

end Cert.Proj.InRun

end
-- ==== Proof.Proj.Inproj.lean ====
/- The input projection of the blocks' shared normalisation: both results, entry by entry. -/
module

public import proofs.«01_k».proof.Defs
public import proofs.«01_k».proof.Proof.Gen.Reference11Ideal.Run
public import proofs.«01_k».proof.Proof.Gen.Reference11Ideal.Read
public import proofs.«01_k».proof.Proof.Proj.Norm
public import proofs.«01_k».proof.Proof.Proj.InRun
public import Idealize.ShloMosaic.Lib.Pointwise
public import Idealize.ShloMosaic.Lib.StableHlo.Run
public import Idealize.ShloMosaic.Lib.Pipeline.ValueKit

@[expose] public section

set_option maxRecDepth 16384

noncomputable section

open Idealize.ShloMosaic Idealize.ShloMosaic.TcCoe Idealize.SL.Sem

namespace Cert.Proj.Inproj

section
open Cert.Kernel11Ideal Cert.Kernel11Ideal.Gen Cert.Proj.InRun

/-! ## The stored values at an index -/

theorem pay1_apply (x : Vec Ideal S1024x2048 .f32) (g : Vec Ideal S1x2048 .f32) (r : Fin 1024) (d : Fin 2048) :
    (k0_pay1 (F := Ideal) x g : Vec Ideal S1024x2048 .f32) (ix2 r d) = x (ix2 r d) * rs (fun e => x (ix2 r e)) * g (ix2 0 d) := by
  unfold rs
  pointwise [k0_pay1]

theorem pay2_eq (x : Vec Ideal S1024x2048 .f32) (g : Vec Ideal S1x2048 .f32) : k0_pay2 (F := Ideal) x g = k0_pay1 (F := Ideal) x g := by
  unfold k0_pay2
  generalize (k0_pay1 (F := Ideal) x g) = y
  funext i
  change S1024x2048.Idx at i
  obtain ⟨r, d, rfl⟩ : ∃ r d, i = ix2 r d := ⟨_, _, eq_ix2 i⟩
  pointwise []

theorem pay3_apply (h : Vec Ideal S1024x2048 .bf16) (w : Vec Ideal S512x2048 .bf16) (r : Fin 1024) (d : Fin 512) :
    k0_pay3 (F := Ideal) h w (ix2 r d) = ∑ k : Fin 2048, h (ix2 r k) * w (ix2 d k) := by
  pointwise [k0_pay3]

/-! ## The blocks -/

theorem idx0 : ∀ t : Fin cfg0.N, win0_0.index t 0 = t.val / 12 ∧ win0_0.index t 1 = 0 :=
  (by decide +kernel : ∀ t : Fin grid0.N, win0_0.index t 0 = t.val / 12 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val % 12 ∧ win0_2.index t 1 = 0 :=
  (by decide +kernel : ∀ t : Fin grid0.N, win0_2.index t 0 = t.val % 12 ∧ win0_2.index t 1 = 0)
theorem idx3 : ∀ t : Fin cfg0.N, win0_3.index t 0 = t.val / 12 ∧ win0_3.index t 1 = t.val % 12 :=
  (by decide +kernel : ∀ t : Fin grid0.N, win0_3.index t 0 = t.val / 12 ∧ win0_3.index t 1 = t.val % 12)
theorem idx4 : ∀ t : Fin cfg0.N, win0_4.index t 0 = t.val / 12 ∧ win0_4.index t 1 = 0 :=
  (by decide +kernel : ∀ t : Fin grid0.N, win0_4.index t 0 = t.val / 12 ∧ win0_4.index t 1 = 0)

theorem lt48 (t : Fin cfg0.N) : t.val < 48 := lt_of_lt_of_eq t.isLt (show cfg0.N = 48 from N_0)

variable (m : (ℓ : Loc nD τ sig) → Buf (Elt Ideal) ℓ) (c : Dev nD)

/-- The three arguments. -/
def xA : Vec Ideal S4096x2048 .f32 := m ((c : Thread nD τ).loc main_arg0)
def gA : Vec Ideal S1x2048 .f32 := m ((c : Thread nD τ).loc main_arg1)
def wA : Vec Ideal S6144x2048 .bf16 := m ((c : Thread nD τ).loc main_arg2)

theorem blk0 (t : Fin cfg0.N) (r : Fin 1024) (k : Fin 2048) : (iblk m c 0 t : Vec Ideal S1024x2048 .f32) (ix2 r k)
    = xA m c (ix2 ⟨1024 * (t.val / 12) + r.val, by have := lt48 t; have := r.isLt; omega⟩ k) := by
  unfold iblk
  rw [View.read_apply]
  refine Eq.trans ?_ (congrFun (V_main_arg0 m c) _)
  show V m c main_arg0 _ = V m c main_arg0 _
  congr 1
  funext a
  apply Fin.ext
  obtain ⟨h0, h1⟩ := idx0 t
  match a with
  | ⟨0, _⟩ => show win0_0.index t 0 * 1024 + 1 * r.val = 1024 * (t.val / 12) + r.val; omega
  | ⟨1, _⟩ => show win0_0.index t 1 * 2048 + 1 * k.val = k.val; omega

theorem blk1 (t : Fin cfg0.N) (k : Fin 2048) : (iblk m c 1 t : Vec Ideal S1x2048 .f32) (ix2 0 k) = gA m c (ix2 0 k) := by
  unfold iblk
  rw [View.read_apply]
  refine Eq.trans ?_ (congrFun (V_main_arg1 m c) _)
  show V m c main_arg1 _ = V m c main_arg1 _
  congr 1
  funext a
  apply Fin.ext
  obtain ⟨h0, h1⟩ := idx1 t
  match a with
  | ⟨0, _⟩ => show win0_1.index t 0 * 1 + 1 * 0 = 0; omega
  | ⟨1, _⟩ => show win0_1.index t 1 * 2048 + 1 * k.val = k.val; omega

theorem blk2 (t : Fin cfg0.N) (d : Fin 512) (k : Fin 2048) : (iblk m c 2 t : Vec Ideal S512x2048 .bf16) (ix2 d k)
    = wA m c (ix2 ⟨512 * (t.val % 12) + d.val, by have := d.isLt; omega⟩ k) := by
  unfold iblk
  rw [View.read_apply]
  refine Eq.trans ?_ (congrFun (V_main_arg2 m c) _)
  show V m c main_arg2 _ = V m c main_arg2 _
  congr 1
  funext a
  apply Fin.ext
  obtain ⟨h0, h1⟩ := idx2 t
  match a with
  | ⟨0, _⟩ => show win0_2.index t 0 * 512 + 1 * d.val = 512 * (t.val % 12) + d.val; omega
  | ⟨1, _⟩ => show win0_2.index t 1 * 2048 + 1 * k.val = k.val; omega

/-! ## The results -/

/-- The normalised input. -/
def hR (x : Vec Ideal S4096x2048 .f32) (g : Vec Ideal S1x2048 .f32) (r : Fin 4096) (d : Fin 2048) : EReal :=
  x (ix2 r d) * rs (fun e => x (ix2 r e)) * g (ix2 0 d)

/-- Its projection. -/
def zR (x : Vec Ideal S4096x2048 .f32) (g : Vec Ideal S1x2048 .f32) (w : Vec Ideal S6144x2048 .bf16) (r : Fin 4096) (d : Fin 6144) : EReal :=
  ∑ k : Fin 2048, hR x g r k * w (ix2 d k)

def resZ : Vec Ideal S4096x6144 .f32 := fun i => zR (xA m c) (gA m c) (wA m c) (i 0) (i 1)
def resH : Vec Ideal S4096x2048 .bf16 := fun i => hR (xA m c) (gA m c) (i 0) (i 1)

theorem start_div (t : Fin cfg0.N) : (start t).val / 12 = t.val / 12 := by show 12 * (t.val / 12) / 12 = _; omega

theorem rows_apply (t : Fin cfg0.N) (r : Fin 1024) (d : Fin 2048) : (rows m c t : Vec Ideal S1024x2048 .bf16) (ix2 r d)
    = hR (xA m c) (gA m c) ⟨1024 * (t.val / 12) + r.val, by have := lt48 t; have := r.isLt; omega⟩ d := by
  unfold rows
  refine (pay1_apply _ _ r d).trans ?_
  simp only [blk0, blk1, start_div]
  rfl

theorem kept_eq (t : Fin cfg0.N) : (kept m c t : Vec Ideal S1024x2048 .bf16) = rows m c t := pay2_eq _ _

theorem z_apply (t : Fin cfg0.N) (r : Fin 1024) (d : Fin 512) : k0_pay3 (F := Ideal) (kept m c t) (iblk m c 2 t) (ix2 r d)
    = zR (xA m c) (gA m c) (wA m c) ⟨1024 * (t.val / 12) + r.val, by have := lt48 t; have := r.isLt; omega⟩
        ⟨512 * (t.val % 12) + d.val, by have := d.isLt; omega⟩ := by
  refine (pay3_apply _ _ r d).trans ?_
  rw [kept_eq]
  simp only [rows_apply, blk2]
  rfl

theorem flushed3 (t : Fin cfg0.N) : (dats m 0 c).flushed 3 t = ((cfg0.win 3).blk t).view.read (Elt Ideal) (resZ m c) := by
  show (cfg0.win 3).cut (grid0.coords t) ((dats m 0 c).after 3 t) = _
  rw [after3]
  funext i
  rw [View.read_apply]
  change S1024x512.Idx at i
  obtain ⟨r, d, rfl⟩ : ∃ r d, i = ix2 r d := ⟨_, _, eq_ix2 i⟩
  refine (z_apply m c t r d).trans ?_
  obtain ⟨i0, i1⟩ := idx3 t
  unfold resZ
  congr 1 <;> apply Fin.ext
  · show 1024 * (t.val / 12) + r.val = win0_3.index t 0 * 1024 + 1 * r.val; omega
  · show 512 * (t.val % 12) + d.val = win0_3.index t 1 * 512 + 1 * d.val; omega

theorem flushed4 (t : Fin cfg0.N) : (dats m 0 c).flushed 4 t = ((cfg0.win 4).blk t).view.read (Elt Ideal) (resH m c) := by
  show (cfg0.win 4).cut (grid0.coords t) ((dats m 0 c).after 4 t) = _
  rw [after4]
  funext i
  rw [View.read_apply]
  change S1024x2048.Idx at i
  obtain ⟨r, d, rfl⟩ : ∃ r d, i = ix2 r d := ⟨_, _, eq_ix2 i⟩
  refine (rows_apply m c t r d).trans ?_
  obtain ⟨i0, i1⟩ := idx4 t
  unfold resH
  congr 1 <;> apply Fin.ext
  · show 1024 * (t.val / 12) + r.val = win0_4.index t 0 * 1024 + 1 * r.val; omega
  · show d.val = win0_4.index t 1 * 2048 + 1 * d.val; omega

theorem final_z : (dats m 0 c).arrAt 3 cfg0.N = resZ m c :=
  (dats m 0 c).arrAt_eq_of_cover 3 _ (fun t _ => flushed3 m c t) ((by decide +kernel : (cfg0.win 3).Covers).cover _ (Memref.isWhole_whole _))

theorem final_h : (dats m 0 c).arrAt 4 cfg0.N = resH m c :=
  (dats m 0 c).arrAt_eq_of_cover 4 _ (fun t _ => flushed4 m c t) ((by decide +kernel : (cfg0.win 4).Covers).cover _ (Memref.isWhole_whole _))

end

/-! ## The reference -/

section
open Cert.Reference11Ideal Cert.Reference11Ideal.Read

theorem v11_apply (x : (⟨S4096x2048, .f32⟩ : BufTy).Contents (Elt Ideal)) (g : (⟨S1x2048, .f32⟩ : BufTy).Contents (Elt Ideal)) (r : Fin 4096) (d : Fin 2048) :
    val_main_v11 (F := Ideal) x g (ix2 r d) = hR x g r d := by
  unfold hR rs
  pointwise [val_main_v11, val_main_v10, val_main_v9, val_main_v8, val_main_v7, val_main_v6, val_main_v5, val_main_v4, val_main_v3, val_main_v2,
    val_main_v1, val_main_v0, val_main_cst, val_main_cst_0, val_main_cst_1]

theorem v14_apply (x : (⟨S4096x2048, .f32⟩ : BufTy).Contents (Elt Ideal)) (g : (⟨S1x2048, .f32⟩ : BufTy).Contents (Elt Ideal))
    (w : (⟨S6144x2048, .bf16⟩ : BufTy).Contents (Elt Ideal)) (r : Fin 4096) (d : Fin 6144) :
    val_main_v14 (F := Ideal) x g w (ix2 r d) = zR x g w r d := by
  unfold zR
  pointwise [val_main_v14, val_main_v13, val_main_v12]
  exact Finset.sum_congr rfl fun k _ => congrArg (· * _) (v11_apply x g r k)

end

/-! ## The claim -/

theorem congr2 {α β γ : Type} (f : α → β → γ) {a a' : α} {b b' : β} (ha : a' = a) (hb : b' = b) : f a' b' = f a b := by
  subst ha hb; rfl

theorem congr3 {α β γ δ : Type} (f : α → β → γ → δ) {a a' : α} {b b' : β} {c c' : γ} (ha : a' = a) (hb : b' = b) (hc : c' = c) :
    f a' b' c' = f a b c := by
  subst ha hb hc; rfl

section
open Cert.Kernel11Ideal Cert.Kernel11Ideal.Gen
variable (m : (ℓ : Loc nD τ sig) → Buf (Elt Ideal) ℓ) (c : Dev nD)

theorem ref_z : Reference11Ideal.Read.val_main_v14 (F := Ideal) (xA m c) (gA m c) (wA m c) = resZ m c := by
  funext i
  change S4096x6144.Idx at i
  obtain ⟨r, d, rfl⟩ : ∃ r d, i = ix2 r d := ⟨_, _, eq_ix2 i⟩
  exact v14_apply _ _ _ r d

theorem ref_h : Reference11Ideal.Read.val_main_v15 (F := Ideal) (xA m c) (gA m c) = resH m c := by
  funext i
  change S4096x2048.Idx at i
  obtain ⟨r, d, rfl⟩ : ∃ r d, i = ix2 r d := ⟨_, _, eq_ix2 i⟩
  exact v11_apply _ _ r d

end

theorem claim : Cert.algebraic_Kernel11Ideal_Reference11Ideal := by
  intro m g m' g' _ hagree
  refine ⟨fun c => (InRun.dats m 0 c).arrAt 3 Kernel11Ideal.cfg0.N, fun c => (InRun.dats m 0 c).arrAt 4 Kernel11Ideal.cfg0.N, InRun.results m g, ?_⟩
  refine (θ_run Reference11Ideal.defs _ _).mono (fun r h c => ?_) (Reference11Ideal.Value.run m' g')
  obtain ⟨h0, h1, hk⟩ := h c
  obtain ⟨a0, a1, a2⟩ := hagree c
  exact ⟨h0.trans ((Reference11Ideal.Read.val_main_v14_eq _ _ _).trans ((congr3 (Reference11Ideal.Read.val_main_v14 (F := Ideal)) a0 a1 a2).trans
      ((ref_z m c).trans (final_z m c).symm))),
    h1.trans ((Reference11Ideal.Read.val_main_v15_eq _ _).trans ((congr2 (Reference11Ideal.Read.val_main_v15 (F := Ideal)) a0 a1).trans
      ((ref_h m c).trans (final_h m c).symm))), hk⟩

end Cert.Proj.Inproj

end
-- ==== Proof.Proj.Step.lean ====
/- One AdamW step on one entry, over the reals with infinities: the sum of the eight devices' gradients, the new moments and the
   change of the weight. The constants are the single-precision ones the programs spell. -/
module

public import Idealize.ShloMosaic.Lib.Pointwise
public import Idealize.ShloMosaic.PureOps.Ideal

@[expose] public section

noncomputable section

open Idealize.ShloMosaic

namespace Cert.Proj.Step

/-- The sum of the devices' gradients, in the order of the devices. -/
def grad (p : Fin 8 → EReal) : EReal := p 0 + p 1 + p 2 + p 3 + p 4 + p 5 + p 6 + p 7

/-- The new first moment. -/
def mom (m g : EReal) : EReal := Ideal.ofBits .f32 0x3F666666#32 * m + Ideal.ofBits .f32 0x3DCCCCCD#32 * g

/-- The new second moment. -/
def vel (v g : EReal) : EReal := Ideal.ofBits .f32 0x3F7FBE77#32 * v + Ideal.ofBits .f32 0x3A83126F#32 * (g * g)

/-- The change of the weight. -/
def delta (w m v g : EReal) : EReal :=
  Ideal.ofBits .f32 0xBA83126F#32 * (Ideal.div (Ideal.div (mom m g) (Ideal.ofBits .f32 0x3F26BD02#32))
    (Ideal.sqrt (Ideal.div (vel v g) (Ideal.ofBits .f32 0x3C231ACC#32)) + Ideal.ofBits .f32 0x322BCC77#32)
      + Ideal.ofBits .f32 0x3C23D70A#32 * w)

theorem sum_eq (p : Fin 8 → EReal) : ∑ k, p k = grad p := Fin.sum_univ_eight p

theorem zero_add_sum {z : EReal} (h : z = 0) (p : Fin 8 → EReal) : z + ∑ k, p k = grad p := by rw [h, zero_add, sum_eq]

theorem zero_eq : Ideal.ofBits .f32 0x00000000#32 = 0 := by
  simp

theorem plus {a a' b b' : EReal} (ha : a = a') (hb : b = b') : a + b = a' + b' := by rw [ha, hb]

theorem mom2 {m m' g g' : EReal} (hm : m = m') (hg : g = g') : mom m g = mom m' g' := by rw [hm, hg]

theorem vel2 {v v' g g' : EReal} (hv : v = v') (hg : g = g') : vel v g = vel v' g' := by rw [hv, hg]

theorem delta4 {w w' m m' v v' g g' : EReal} (hw : w = w') (hm : m = m') (hv : v = v') (hg : g = g') :
    delta w m v g = delta w' m' v' g' := by rw [hw, hm, hv, hg]

/-- Equal entries give equal results. -/
theorem congr {p p' : Fin 8 → EReal} (h : ∀ k, p k = p' k) : grad p = grad p' := congrArg grad (funext h)

end Cert.Proj.Step

end
-- ==== Proof.Proj.AdamOut.lean ====
/- One AdamW step on the output projection's weight (`w_out`): the devices' gradients summed, the new moments and the change of the
   weight, entry by entry. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Proj.Step
public import Idealize.ShloMosaic.Lib.Pointwise
public import Idealize.ShloMosaic.Lib.Tactic
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.Proj.AdamOut

open Cert.Proj.Step

section
open Cert.Kernel13Ideal Cert.Kernel13Ideal.Gen Cert.Kernel13Ideal.Value

/-! ## What a grid point stores -/

theorem hz3 : (![0, 0, 0] : Fin 3 → Nat) = fun _ => 0 := funext fun a => by fin_cases a <;> rfl

/-- The rectangle of one device's part of a block of the devices' gradients. -/
theorem inb (k : Fin 8) : ∀ a, (![k.val, 0, 0] : Fin 3 → Nat) a + S1x128x2048.size a ≤ S8x128x2048.size a := by
  intro a
  match a with
  | ⟨0, _⟩ => show k.val + 1 ≤ 8; omega
  | ⟨1, _⟩ => show 0 + 128 ≤ 128; omega
  | ⟨2, _⟩ => show 0 + 2048 ≤ 2048; omega

theorem ld_part {F : FTy → Type} (x : Vec F S8x128x2048 .bf16) (k : Fin 8) (r : Fin 128) (q : Fin 2048)
    (h : ∀ a, (![k.val, 0, 0] : Fin 3 → Nat) a + S1x128x2048.size a ≤ S8x128x2048.size a) :
    (View.ld x (Rect.unit (s := S8x128x2048) ![k.val, 0, 0] S1x128x2048.size h) : Vec F S1x128x2048 .bf16) (ix3 0 r q) = x (ix3 k r q) := by
  refine congrArg x (funext fun a => Fin.ext ?_)
  match a with
  | ⟨0, _⟩ => show k.val + 1 * 0 = k.val; omega
  | ⟨1, _⟩ => show 0 + 1 * r.val = r.val; omega
  | ⟨2, _⟩ => show 0 + 1 * q.val = q.val; omega

/-- The devices' gradients of a block, summed. -/
def sumV (x : Vec Ideal S8x128x2048 .bf16) : Vec Ideal S128x2048 .f32 :=
  k0_pay3 (View.ld x (Rect.unit (s := S8x128x2048) ![0, 0, 0] S1x128x2048.size (inb 0))) (View.ld x (Rect.unit (s := S8x128x2048) ![1, 0, 0] S1x128x2048.size (inb 1))) (View.ld x (Rect.unit (s := S8x128x2048) ![2, 0, 0] S1x128x2048.size (inb 2))) (View.ld x (Rect.unit (s := S8x128x2048) ![3, 0, 0] S1x128x2048.size (inb 3))) (View.ld x (Rect.unit (s := S8x128x2048) ![4, 0, 0] S1x128x2048.size (inb 4))) (View.ld x (Rect.unit (s := S8x128x2048) ![5, 0, 0] S1x128x2048.size (inb 5))) (View.ld x (Rect.unit (s := S8x128x2048) ![6, 0, 0] S1x128x2048.size (inb 6))) (View.ld x (Rect.unit (s := S8x128x2048) ![7, 0, 0] S1x128x2048.size (inb 7)))

theorem pay3_apply (y0 y1 y2 y3 y4 y5 y6 y7 : Vec Ideal S1x128x2048 .bf16) (r : Fin 128) (q : Fin 2048) :
    k0_pay3 (F := Ideal) y0 y1 y2 y3 y4 y5 y6 y7 (ix2 r q) = y0 (ix3 0 r q) + y1 (ix3 0 r q) + y2 (ix3 0 r q) + y3 (ix3 0 r q)
      + y4 (ix3 0 r q) + y5 (ix3 0 r q) + y6 (ix3 0 r q) + y7 (ix3 0 r q) := by
  pointwise [k0_pay3]

theorem sumV_apply (x : Vec Ideal S8x128x2048 .bf16) (r : Fin 128) (q : Fin 2048) : sumV x (ix2 r q) = grad fun k => x (ix3 k r q) :=
  (pay3_apply _ _ _ _ _ _ _ _ r q).trans (plus (plus (plus (plus (plus (plus (plus (ld_part x 0 r q _) (ld_part x 1 r q _)) (ld_part x 2 r q _))
    (ld_part x 3 r q _)) (ld_part x 4 r q _)) (ld_part x 5 r q _)) (ld_part x 6 r q _)) (ld_part x 7 r q _))

theorem pay7_apply (g : Vec Ideal S128x2048 .f32) (r : Fin 128) (q : Fin 2048) : k0_pay7 (F := Ideal) g (ix3 0 r q) = g (ix2 r q) := by
  pointwise [k0_pay7]

theorem pay8_apply (g : Vec Ideal S128x2048 .f32) (v : Vec Ideal S1x128x2048 .f32) (r : Fin 128) (q : Fin 2048) :
    k0_pay8 (F := Ideal) g (k0_pay4 v) (ix3 0 r q) = mom (v (ix3 0 r q)) (g (ix2 r q)) := by
  unfold mom
  pointwise [k0_pay8, k0_pay4, k0_pay5]

theorem pay9_apply (g : Vec Ideal S128x2048 .f32) (v : Vec Ideal S1x128x2048 .f32) (r : Fin 128) (q : Fin 2048) :
    k0_pay9 (F := Ideal) g v (ix3 0 r q) = vel (v (ix3 0 r q)) (g (ix2 r q)) := by
  unfold vel
  pointwise [k0_pay9, k0_pay6]

theorem pay1_apply (g : Vec Ideal S128x2048 .f32) (w m v : Vec Ideal S1x128x2048 .f32) (r : Fin 128) (q : Fin 2048) :
    k0_pay1 (F := Ideal) (k0_pay10 g (k0_pay4 m) v) (k0_pay11 w) (ix3 0 r q)
      = delta (w (ix3 0 r q)) (m (ix3 0 r q)) (v (ix3 0 r q)) (g (ix2 r q)) := by
  unfold delta mom vel
  pointwise [k0_pay1, k0_pay10, k0_pay4, k0_pay11, k0_pay5, k0_pay6]

variable
  (c : Dev nD) (i : grid0.Coords)
  (arg2 : Memref sig .tc .vmem S8x128x2048 .bf16) (harg2 : arg2.IsWhole) (arg3 : Memref sig .tc .vmem S8x128x2048 .bf16) (harg3 : arg3.IsWhole)
  (arg4 : Memref sig .tc .vmem S1x128x2048 .f32) (harg4 : arg4.IsWhole) (arg5 : Memref sig .tc .vmem S1x128x2048 .f32) (harg5 : arg5.IsWhole)
  (arg6 : Memref sig .tc .vmem S1x128x2048 .f32) (harg6 : arg6.IsWhole) (arg7 : Memref sig .tc .vmem S1x128x2048 .f32) (harg7 : arg7.IsWhole)
  (arg8 : Memref sig .tc .vmem S1x128x2048 .f32) (harg8 : arg8.IsWhole) (arg9 : Memref sig .tc .vmem S1x128x2048 .f32) (harg9 : arg9.IsWhole)
  (arg10 : Memref sig .tc .vmem S1x128x2048 .f32) (harg10 : arg10.IsWhole)
  (x0 x1 : Vec Ideal S8x128x2048 .bf16) (x2 x3 x4 : Vec Ideal S1x128x2048 .f32)

theorem out_A_5 (h0 : cond0_0 i) (h1 : ¬cond0_1 i) :
    out0_A_5 c i arg2 harg2 arg3 harg3 arg4 harg4 arg5 harg5 arg6 harg6 arg7 harg7 arg8 harg8 arg9 harg9 arg10 harg10 h0 h1 x0 x1 x2 x3 x4
      = k0_pay7 (F := Ideal) (sumV x0) := by
  unfold out0_A_5
  rw [View.read_writes_eq_canon _ _ _ (cover0_A_5 c i arg2 harg2 arg3 harg3 arg4 harg4 arg5 harg5 arg6 harg6 arg7 harg7 arg8 harg8 arg9 harg9 arg10 harg10 h0 h1 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread,
    View.ld_unit_zero (S := S1x128x2048) hz3]
  rfl

theorem out_A_6 (h0 : cond0_0 i) (h1 : ¬cond0_1 i) :
    out0_A_6 c i arg2 harg2 arg3 harg3 arg4 harg4 arg5 harg5 arg6 harg6 arg7 harg7 arg8 harg8 arg9 harg9 arg10 harg10 h0 h1 x0 x1 x2 x3 x4
      = k0_pay1 (F := Ideal) (k0_pay10 (sumV x0) (k0_pay4 x3) x4) (k0_pay11 x2) := by
  unfold out0_A_6
  rw [View.read_writes_eq_canon _ _ _ (cover0_A_6 c i arg2 harg2 arg3 harg3 arg4 harg4 arg5 harg5 arg6 harg6 arg7 harg7 arg8 harg8 arg9 harg9 arg10 harg10 h0 h1 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread,
    View.ld_unit_zero (S := S1x128x2048) hz3]
  rfl

theorem out_A_7 (h0 : cond0_0 i) (h1 : ¬cond0_1 i) :
    out0_A_7 c i arg2 harg2 arg3 harg3 arg4 harg4 arg5 harg5 arg6 harg6 arg7 harg7 arg8 harg8 arg9 harg9 arg10 harg10 h0 h1 x0 x1 x2 x3 x4
      = k0_pay8 (F := Ideal) (sumV x0) (k0_pay4 x3) := by
  unfold out0_A_7
  rw [View.read_writes_eq_canon _ _ _ (cover0_A_7 c i arg2 harg2 arg3 harg3 arg4 harg4 arg5 harg5 arg6 harg6 arg7 harg7 arg8 harg8 arg9 harg9 arg10 harg10 h0 h1 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread,
    View.ld_unit_zero (S := S1x128x2048) hz3]
  rfl

theorem out_A_8 (h0 : cond0_0 i) (h1 : ¬cond0_1 i) :
    out0_A_8 c i arg2 harg2 arg3 harg3 arg4 harg4 arg5 harg5 arg6 harg6 arg7 harg7 arg8 harg8 arg9 harg9 arg10 harg10 h0 h1 x0 x1 x2 x3 x4
      = k0_pay9 (F := Ideal) (sumV x0) x4 := by
  unfold out0_A_8
  rw [View.read_writes_eq_canon _ _ _ (cover0_A_8 c i arg2 harg2 arg3 harg3 arg4 harg4 arg5 harg5 arg6 harg6 arg7 harg7 arg8 harg8 arg9 harg9 arg10 harg10 h0 h1 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread,
    View.ld_unit_zero (S := S1x128x2048) hz3]
  rfl

theorem out_B_5 (h0 : ¬cond0_0 i) (h1 : cond0_1 i) :
    out0_B_5 c i arg2 harg2 arg3 harg3 arg4 harg4 arg5 harg5 arg6 harg6 arg7 harg7 arg8 harg8 arg9 harg9 arg10 harg10 h0 h1 x0 x1 x2 x3 x4
      = k0_pay7 (F := Ideal) (sumV x1) := by
  unfold out0_B_5
  rw [View.read_writes_eq_canon _ _ _ (cover0_B_5 c i arg2 harg2 arg3 harg3 arg4 harg4 arg5 harg5 arg6 harg6 arg7 harg7 arg8 harg8 arg9 harg9 arg10 harg10 h0 h1 x0 x1 x2 x3 x4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S1x128x2048) hz3]
  rfl

theorem out_B_6 (h0 : ¬cond0_0 i) (h1 : cond0_1 i) :
    out0_B_6 c i arg2 harg2 arg3 harg3 arg4 harg4 arg5 harg5 arg6 harg6 arg7 harg7 arg8 harg8 arg9 harg9 arg10 harg10 h0 h1 x0 x1 x2 x3 x4
      = k0_pay1 (F := Ideal) (k0_pay10 (sumV x1) (k0_pay4 x3) x4) (k0_pay11 x2) := by
  unfold out0_B_6
  rw [View.read_writes_eq_canon _ _ _ (cover0_B_6 c i arg2 harg2 arg3 harg3 arg4 harg4 arg5 harg5 arg6 harg6 arg7 harg7 arg8 harg8 arg9 harg9 arg10 harg10 h0 h1 x0 x1 x2 x3 x4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S1x128x2048) hz3]
  rfl

theorem out_B_7 (h0 : ¬cond0_0 i) (h1 : cond0_1 i) :
    out0_B_7 c i arg2 harg2 arg3 harg3 arg4 harg4 arg5 harg5 arg6 harg6 arg7 harg7 arg8 harg8 arg9 harg9 arg10 harg10 h0 h1 x0 x1 x2 x3 x4
      = k0_pay8 (F := Ideal) (sumV x1) (k0_pay4 x3) := by
  unfold out0_B_7
  rw [View.read_writes_eq_canon _ _ _ (cover0_B_7 c i arg2 harg2 arg3 harg3 arg4 harg4 arg5 harg5 arg6 harg6 arg7 harg7 arg8 harg8 arg9 harg9 arg10 harg10 h0 h1 x0 x1 x2 x3 x4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S1x128x2048) hz3]
  rfl

theorem out_B_8 (h0 : ¬cond0_0 i) (h1 : cond0_1 i) :
    out0_B_8 c i arg2 harg2 arg3 harg3 arg4 harg4 arg5 harg5 arg6 harg6 arg7 harg7 arg8 harg8 arg9 harg9 arg10 harg10 h0 h1 x0 x1 x2 x3 x4
      = k0_pay9 (F := Ideal) (sumV x1) x4 := by
  unfold out0_B_8
  rw [View.read_writes_eq_canon _ _ _ (cover0_B_8 c i arg2 harg2 arg3 harg3 arg4 harg4 arg5 harg5 arg6 harg6 arg7 harg7 arg8 harg8 arg9 harg9 arg10 harg10 h0 h1 x0 x1 x2 x3 x4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S1x128x2048) hz3]
  rfl

/-! ## The blocks -/

theorem idx0 : ∀ t : Fin cfg0.N, win0_0.index t 0 = 0 ∧ (t.val < 2 → win0_0.index t 1 = t.val % 2) ∧ win0_0.index t 2 = 0 :=
  (by decide +kernel : ∀ t : Fin grid0.N, win0_0.index t 0 = 0 ∧ (t.val < 2 → win0_0.index t 1 = t.val % 2) ∧ win0_0.index t 2 = 0)
theorem idx1 : ∀ t : Fin cfg0.N, win0_1.index t 0 = 0 ∧ (2 ≤ t.val → win0_1.index t 1 = t.val % 2) ∧ win0_1.index t 2 = 0 :=
  (by decide +kernel : ∀ t : Fin grid0.N, win0_1.index t 0 = 0 ∧ (2 ≤ t.val → win0_1.index t 1 = t.val % 2) ∧ win0_1.index t 2 = 0)
theorem idx2 : ∀ t : Fin cfg0.N, win0_2.index t 0 = t.val / 2 ∧ win0_2.index t 1 = t.val % 2 ∧ win0_2.index t 2 = 0 :=
  (by decide +kernel : ∀ t : Fin grid0.N, win0_2.index t 0 = t.val / 2 ∧ win0_2.index t 1 = t.val % 2 ∧ win0_2.index t 2 = 0)
theorem idx3 : ∀ t : Fin cfg0.N, win0_3.index t 0 = t.val / 2 ∧ win0_3.index t 1 = t.val % 2 ∧ win0_3.index t 2 = 0 :=
  (by decide +kernel : ∀ t : Fin grid0.N, win0_3.index t 0 = t.val / 2 ∧ win0_3.index t 1 = t.val % 2 ∧ win0_3.index t 2 = 0)
theorem idx4 : ∀ t : Fin cfg0.N, win0_4.index t 0 = t.val / 2 ∧ win0_4.index t 1 = t.val % 2 ∧ win0_4.index t 2 = 0 :=
  (by decide +kernel : ∀ t : Fin grid0.N, win0_4.index t 0 = t.val / 2 ∧ win0_4.index t 1 = t.val % 2 ∧ win0_4.index t 2 = 0)
theorem idx5 : ∀ t : Fin cfg0.N, win0_5.index t 0 = t.val / 2 ∧ win0_5.index t 1 = t.val % 2 ∧ win0_5.index t 2 = 0 :=
  (by decide +kernel : ∀ t : Fin grid0.N, win0_5.index t 0 = t.val / 2 ∧ win0_5.index t 1 = t.val % 2 ∧ win0_5.index t 2 = 0)
theorem idx6 : ∀ t : Fin cfg0.N, win0_6.index t 0 = t.val / 2 ∧ win0_6.index t 1 = t.val % 2 ∧ win0_6.index t 2 = 0 :=
  (by decide +kernel : ∀ t : Fin grid0.N, win0_6.index t 0 = t.val / 2 ∧ win0_6.index t 1 = t.val % 2 ∧ win0_6.index t 2 = 0)
theorem idx7 : ∀ t : Fin cfg0.N, win0_7.index t 0 = t.val / 2 ∧ win0_7.index t 1 = t.val % 2 ∧ win0_7.index t 2 = 0 :=
  (by decide +kernel : ∀ t : Fin grid0.N, win0_7.index t 0 = t.val / 2 ∧ win0_7.index t 1 = t.val % 2 ∧ win0_7.index t 2 = 0)
theorem idx8 : ∀ t : Fin cfg0.N, win0_8.index t 0 = t.val / 2 ∧ win0_8.index t 1 = t.val % 2 ∧ win0_8.index t 2 = 0 :=
  (by decide +kernel : ∀ t : Fin grid0.N, win0_8.index t 0 = t.val / 2 ∧ win0_8.index t 1 = t.val % 2 ∧ win0_8.index t 2 = 0)

theorem lt4 (t : Fin cfg0.N) : t.val < 4 := lt_of_lt_of_eq t.isLt (show cfg0.N = 4 from N_0)

/-- The layer and the row of an entry of point `t`'s block. -/
def layer (t : Fin cfg0.N) : Fin 2 := ⟨t.val / 2, by have := lt4 t; omega⟩
def rowOf (t : Fin cfg0.N) (r : Fin 128) : Fin 256 := ⟨128 * (t.val % 2) + r.val, by have := r.isLt; omega⟩

variable (m : (ℓ : Loc nD τ sig) → Buf (Elt Ideal) ℓ)

/-- The arguments: the devices' gradients of the two layers, the weight and its moments. -/
def aA : Vec Ideal S8x256x2048 .bf16 := m ((c : Thread nD τ).loc main_arg0)
def bA : Vec Ideal S8x256x2048 .bf16 := m ((c : Thread nD τ).loc main_arg1)
def wA : Vec Ideal S2x256x2048 .f32 := m ((c : Thread nD τ).loc main_arg2)
def mA : Vec Ideal S2x256x2048 .f32 := m ((c : Thread nD τ).loc main_arg3)
def vA : Vec Ideal S2x256x2048 .f32 := m ((c : Thread nD τ).loc main_arg4)

theorem blk0 (t : Fin cfg0.N) (ht : t.val < 2) (k : Fin 8) (r : Fin 128) (q : Fin 2048) : (iblk m c 0 t : Vec Ideal S8x128x2048 .bf16) (ix3 k r q)
    = aA c m (ix3 k (rowOf t r) q) := by
  unfold iblk
  rw [View.read_apply]
  refine Eq.trans ?_ (congrFun (V_main_arg0 m c) _)
  show V m c main_arg0 _ = V m c main_arg0 _
  congr 1
  funext a
  apply Fin.ext
  obtain ⟨h0, h1, h2⟩ := idx0 t
  have h1 := h1 ht
  match a with
  | ⟨0, _⟩ => show win0_0.index t 0 * 8 + 1 * k.val = k.val; omega
  | ⟨1, _⟩ => show win0_0.index t 1 * 128 + 1 * r.val = 128 * (t.val % 2) + r.val; omega
  | ⟨2, _⟩ => show win0_0.index t 2 * 2048 + 1 * q.val = q.val; omega

theorem blk1 (t : Fin cfg0.N) (ht : 2 ≤ t.val) (k : Fin 8) (r : Fin 128) (q : Fin 2048) : (iblk m c 1 t : Vec Ideal S8x128x2048 .bf16) (ix3 k r q)
    = bA c m (ix3 k (rowOf t r) q) := by
  unfold iblk
  rw [View.read_apply]
  refine Eq.trans ?_ (congrFun (V_main_arg1 m c) _)
  show V m c main_arg1 _ = V m c main_arg1 _
  congr 1
  funext a
  apply Fin.ext
  obtain ⟨h0, h1, h2⟩ := idx1 t
  have h1 := h1 ht
  match a with
  | ⟨0, _⟩ => show win0_1.index t 0 * 8 + 1 * k.val = k.val; omega
  | ⟨1, _⟩ => show win0_1.index t 1 * 128 + 1 * r.val = 128 * (t.val % 2) + r.val; omega
  | ⟨2, _⟩ => show win0_1.index t 2 * 2048 + 1 * q.val = q.val; omega

theorem blk2 (t : Fin cfg0.N) (r : Fin 128) (q : Fin 2048) : (iblk m c 2 t : Vec Ideal S1x128x2048 .f32) (ix3 0 r q)
    = wA c m (ix3 (layer t) (rowOf t r) q) := by
  unfold iblk
  rw [View.read_apply]
  refine Eq.trans ?_ (congrFun (V_main_arg2 m c) _)
  show V m c main_arg2 _ = V m c main_arg2 _
  congr 1
  funext a
  apply Fin.ext
  obtain ⟨h0, h1, h2⟩ := idx2 t
  match a with
  | ⟨0, _⟩ => show win0_2.index t 0 * 1 + 1 * 0 = t.val / 2; omega
  | ⟨1, _⟩ => show win0_2.index t 1 * 128 + 1 * r.val = 128 * (t.val % 2) + r.val; omega
  | ⟨2, _⟩ => show win0_2.index t 2 * 2048 + 1 * q.val = q.val; omega

theorem blk3 (t : Fin cfg0.N) (r : Fin 128) (q : Fin 2048) : (iblk m c 3 t : Vec Ideal S1x128x2048 .f32) (ix3 0 r q)
    = mA c m (ix3 (layer t) (rowOf t r) q) := by
  unfold iblk
  rw [View.read_apply]
  refine Eq.trans ?_ (congrFun (V_main_arg3 m c) _)
  show V m c main_arg3 _ = V m c main_arg3 _
  congr 1
  funext a
  apply Fin.ext
  obtain ⟨h0, h1, h2⟩ := idx3 t
  match a with
  | ⟨0, _⟩ => show win0_3.index t 0 * 1 + 1 * 0 = t.val / 2; omega
  | ⟨1, _⟩ => show win0_3.index t 1 * 128 + 1 * r.val = 128 * (t.val % 2) + r.val; omega
  | ⟨2, _⟩ => show win0_3.index t 2 * 2048 + 1 * q.val = q.val; omega

theorem blk4 (t : Fin cfg0.N) (r : Fin 128) (q : Fin 2048) : (iblk m c 4 t : Vec Ideal S1x128x2048 .f32) (ix3 0 r q)
    = vA c m (ix3 (layer t) (rowOf t r) q) := by
  unfold iblk
  rw [View.read_apply]
  refine Eq.trans ?_ (congrFun (V_main_arg4 m c) _)
  show V m c main_arg4 _ = V m c main_arg4 _
  congr 1
  funext a
  apply Fin.ext
  obtain ⟨h0, h1, h2⟩ := idx4 t
  match a with
  | ⟨0, _⟩ => show win0_4.index t 0 * 1 + 1 * 0 = t.val / 2; omega
  | ⟨1, _⟩ => show win0_4.index t 1 * 128 + 1 * r.val = 128 * (t.val % 2) + r.val; omega
  | ⟨2, _⟩ => show win0_4.index t 2 * 2048 + 1 * q.val = q.val; omega

/-! ## The results -/

/-- The gradient of an entry. -/
def gE (l : Fin 2) (r : Fin 256) (q : Fin 2048) : EReal :=
  grad fun k => if l.val < 1 then aA c m (ix3 k r q) else bA c m (ix3 k r q)

def res5 : Vec Ideal S2x256x2048 .f32 := fun i => gE c m (i 0) (i 1) (i 2)
def res6 : Vec Ideal S2x256x2048 .f32 := fun i => delta (wA c m i) (mA c m i) (vA c m i) (gE c m (i 0) (i 1) (i 2))
def res7 : Vec Ideal S2x256x2048 .f32 := fun i => mom (mA c m i) (gE c m (i 0) (i 1) (i 2))
def res8 : Vec Ideal S2x256x2048 .f32 := fun i => vel (vA c m i) (gE c m (i 0) (i 1) (i 2))

theorem sum_A (t : Fin cfg0.N) (ht : t.val < 2) (r : Fin 128) (q : Fin 2048) :
    sumV (iblk m c 0 t) (ix2 r q) = gE c m (layer t) (rowOf t r) q := by
  refine (sumV_apply _ r q).trans (congr fun k => ?_)
  exact (blk0 c m t ht k r q).trans (if_pos (show (layer t).val < 1 by show t.val / 2 < 1; omega)).symm

theorem sum_B (t : Fin cfg0.N) (ht : 2 ≤ t.val) (r : Fin 128) (q : Fin 2048) :
    sumV (iblk m c 1 t) (ix2 r q) = gE c m (layer t) (rowOf t r) q := by
  refine (sumV_apply _ r q).trans (congr fun k => ?_)
  exact (blk1 c m t ht k r q).trans (if_neg (show ¬(layer t).val < 1 by show ¬t.val / 2 < 1; omega)).symm

theorem val5 (t : Fin cfg0.N) (r : Fin 128) (q : Fin 2048) :
    (outsAt0 m c t.val t.isLt).1 (ix3 0 r q) = res5 c m (ix3 (layer t) (rowOf t r) q) := by
  by_cases h : t.val < 2
  · rw [outsAt0_A m c t h (by omega)]
    dsimp only
    rw [out_A_5]
    refine (pay7_apply _ r q).trans ?_
    rw [sum_A c m t h]
    rfl
  · rw [outsAt0_B m c t h (by omega)]
    dsimp only
    rw [out_B_5]
    refine (pay7_apply _ r q).trans ?_
    rw [sum_B c m t (by omega)]
    rfl

theorem flush5' (t : Fin cfg0.N) : (dats m 0 c).flushed 5 t = ((cfg0.win 5).blk t).view.read (Elt Ideal) (res5 c m) := by
  rw [flushed5 m c t]
  funext i
  rw [View.read_apply]
  change S1x128x2048.Idx at i
  obtain ⟨z, r, q, rfl⟩ : ∃ z r q, i = ix3 z r q := ⟨_, _, _, eq_ix3 i⟩
  obtain rfl : z = 0 := Subsingleton.elim _ _
  refine (val5 c m t r q).trans (congrArg (res5 c m) ?_)
  obtain ⟨i0, i1, i2⟩ := idx5 t
  funext a
  apply Fin.ext
  match a with
  | ⟨0, _⟩ => show t.val / 2 = win0_5.index t 0 * 1 + 1 * 0; omega
  | ⟨1, _⟩ => show 128 * (t.val % 2) + r.val = win0_5.index t 1 * 128 + 1 * r.val; omega
  | ⟨2, _⟩ => show q.val = win0_5.index t 2 * 2048 + 1 * q.val; omega

theorem final5 : (dats m 0 c).arrAt 5 cfg0.N = res5 c m :=
  (dats m 0 c).arrAt_eq_of_cover 5 _ (fun t _ => flush5' c m t) ((by decide +kernel : (cfg0.win 5).Covers).cover _ (Memref.isWhole_whole _))

theorem val6 (t : Fin cfg0.N) (r : Fin 128) (q : Fin 2048) :
    (outsAt0 m c t.val t.isLt).2.1 (ix3 0 r q) = res6 c m (ix3 (layer t) (rowOf t r) q) := by
  by_cases h : t.val < 2
  · rw [outsAt0_A m c t h (by omega)]
    dsimp only
    rw [out_A_6]
    refine (pay1_apply _ _ _ _ r q).trans ?_
    rw [blk2, blk3, blk4, sum_A c m t h]
    rfl
  · rw [outsAt0_B m c t h (by omega)]
    dsimp only
    rw [out_B_6]
    refine (pay1_apply _ _ _ _ r q).trans ?_
    rw [blk2, blk3, blk4, sum_B c m t (by omega)]
    rfl

theorem flush6' (t : Fin cfg0.N) : (dats m 0 c).flushed 6 t = ((cfg0.win 6).blk t).view.read (Elt Ideal) (res6 c m) := by
  rw [flushed6 m c t]
  funext i
  rw [View.read_apply]
  change S1x128x2048.Idx at i
  obtain ⟨z, r, q, rfl⟩ : ∃ z r q, i = ix3 z r q := ⟨_, _, _, eq_ix3 i⟩
  obtain rfl : z = 0 := Subsingleton.elim _ _
  refine (val6 c m t r q).trans (congrArg (res6 c m) ?_)
  obtain ⟨i0, i1, i2⟩ := idx6 t
  funext a
  apply Fin.ext
  match a with
  | ⟨0, _⟩ => show t.val / 2 = win0_6.index t 0 * 1 + 1 * 0; omega
  | ⟨1, _⟩ => show 128 * (t.val % 2) + r.val = win0_6.index t 1 * 128 + 1 * r.val; omega
  | ⟨2, _⟩ => show q.val = win0_6.index t 2 * 2048 + 1 * q.val; omega

theorem final6 : (dats m 0 c).arrAt 6 cfg0.N = res6 c m :=
  (dats m 0 c).arrAt_eq_of_cover 6 _ (fun t _ => flush6' c m t) ((by decide +kernel : (cfg0.win 6).Covers).cover _ (Memref.isWhole_whole _))

theorem val7 (t : Fin cfg0.N) (r : Fin 128) (q : Fin 2048) :
    (outsAt0 m c t.val t.isLt).2.2.1 (ix3 0 r q) = res7 c m (ix3 (layer t) (rowOf t r) q) := by
  by_cases h : t.val < 2
  · rw [outsAt0_A m c t h (by omega)]
    dsimp only
    rw [out_A_7]
    refine (pay8_apply _ _ r q).trans ?_
    rw [blk3, sum_A c m t h]
    rfl
  · rw [outsAt0_B m c t h (by omega)]
    dsimp only
    rw [out_B_7]
    refine (pay8_apply _ _ r q).trans ?_
    rw [blk3, sum_B c m t (by omega)]
    rfl

theorem flush7' (t : Fin cfg0.N) : (dats m 0 c).flushed 7 t = ((cfg0.win 7).blk t).view.read (Elt Ideal) (res7 c m) := by
  rw [flushed7 m c t]
  funext i
  rw [View.read_apply]
  change S1x128x2048.Idx at i
  obtain ⟨z, r, q, rfl⟩ : ∃ z r q, i = ix3 z r q := ⟨_, _, _, eq_ix3 i⟩
  obtain rfl : z = 0 := Subsingleton.elim _ _
  refine (val7 c m t r q).trans (congrArg (res7 c m) ?_)
  obtain ⟨i0, i1, i2⟩ := idx7 t
  funext a
  apply Fin.ext
  match a with
  | ⟨0, _⟩ => show t.val / 2 = win0_7.index t 0 * 1 + 1 * 0; omega
  | ⟨1, _⟩ => show 128 * (t.val % 2) + r.val = win0_7.index t 1 * 128 + 1 * r.val; omega
  | ⟨2, _⟩ => show q.val = win0_7.index t 2 * 2048 + 1 * q.val; omega

theorem final7 : (dats m 0 c).arrAt 7 cfg0.N = res7 c m :=
  (dats m 0 c).arrAt_eq_of_cover 7 _ (fun t _ => flush7' c m t) ((by decide +kernel : (cfg0.win 7).Covers).cover _ (Memref.isWhole_whole _))

theorem val8 (t : Fin cfg0.N) (r : Fin 128) (q : Fin 2048) :
    (outsAt0 m c t.val t.isLt).2.2.2 (ix3 0 r q) = res8 c m (ix3 (layer t) (rowOf t r) q) := by
  by_cases h : t.val < 2
  · rw [outsAt0_A m c t h (by omega)]
    dsimp only
    rw [out_A_8]
    refine (pay9_apply _ _ r q).trans ?_
    rw [blk4, sum_A c m t h]
    rfl
  · rw [outsAt0_B m c t h (by omega)]
    dsimp only
    rw [out_B_8]
    refine (pay9_apply _ _ r q).trans ?_
    rw [blk4, sum_B c m t (by omega)]
    rfl

theorem flush8' (t : Fin cfg0.N) : (dats m 0 c).flushed 8 t = ((cfg0.win 8).blk t).view.read (Elt Ideal) (res8 c m) := by
  rw [flushed8 m c t]
  funext i
  rw [View.read_apply]
  change S1x128x2048.Idx at i
  obtain ⟨z, r, q, rfl⟩ : ∃ z r q, i = ix3 z r q := ⟨_, _, _, eq_ix3 i⟩
  obtain rfl : z = 0 := Subsingleton.elim _ _
  refine (val8 c m t r q).trans (congrArg (res8 c m) ?_)
  obtain ⟨i0, i1, i2⟩ := idx8 t
  funext a
  apply Fin.ext
  match a with
  | ⟨0, _⟩ => show t.val / 2 = win0_8.index t 0 * 1 + 1 * 0; omega
  | ⟨1, _⟩ => show 128 * (t.val % 2) + r.val = win0_8.index t 1 * 128 + 1 * r.val; omega
  | ⟨2, _⟩ => show q.val = win0_8.index t 2 * 2048 + 1 * q.val; omega

theorem final8 : (dats m 0 c).arrAt 8 cfg0.N = res8 c m :=
  (dats m 0 c).arrAt_eq_of_cover 8 _ (fun t _ => flush8' c m t) ((by decide +kernel : (cfg0.win 8).Covers).cover _ (Memref.isWhole_whole _))

end

/-! ## The reference -/

section
open Cert.Reference13Ideal Cert.Reference13Ideal.Read

variable (x0 x1 : (⟨S8x256x2048, .bf16⟩ : BufTy).Contents (Elt Ideal)) (x2 x3 x4 : (⟨S2x256x2048, .f32⟩ : BufTy).Contents (Elt Ideal))
  (l : Fin 2) (r : Fin 256) (q : Fin 2048)

theorem v4_apply : val_main_v4 (F := Ideal) x0 x1 (ix3 l r q) = grad fun k => if l.val < 1 then x0 (ix3 k r q) else x1 (ix3 k r q) := by
  pointwise [val_main_v4, val_main_v3, val_main_v2, val_main_v1, val_main_v0]
  exact zero_add_sum (by rw [val_main_cst_apply]; exact zero_eq) fun k => if l.val < 1 then x0 (ix3 k r q) else x1 (ix3 k r q)

theorem v9_apply : val_main_v9 (F := Ideal) x0 x1 x3 (ix3 l r q) = mom (x3 (ix3 l r q)) (val_main_v4 (F := Ideal) x0 x1 (ix3 l r q)) := by
  unfold mom
  pointwise [val_main_v9, val_main_v8, val_main_v7, val_main_cst_1, val_main_v6, val_main_v5, val_main_cst_0]

theorem v15_apply : val_main_v15 (F := Ideal) x0 x1 x4 (ix3 l r q) = vel (x4 (ix3 l r q)) (val_main_v4 (F := Ideal) x0 x1 (ix3 l r q)) := by
  unfold vel
  pointwise [val_main_v15, val_main_v14, val_main_v13, val_main_cst_3, val_main_v12, val_main_v11, val_main_v10, val_main_cst_2]

theorem v28_apply : val_main_v28 (F := Ideal) x0 x1 x2 x3 x4 (ix3 l r q)
    = delta (x2 (ix3 l r q)) (x3 (ix3 l r q)) (x4 (ix3 l r q)) (val_main_v4 (F := Ideal) x0 x1 (ix3 l r q)) := by
  unfold delta
  rw [← v9_apply, ← v15_apply]
  pointwise [val_main_v28, val_main_v27, val_main_cst_8, val_main_v26, val_main_v25, val_main_v24, val_main_cst_7, val_main_v23, val_main_v22,
    val_main_v21, val_main_cst_6, val_main_v20, val_main_v19, val_main_v18, val_main_cst_5, val_main_v17, val_main_v16, val_main_cst_4]

end

/-! ## The claim -/

section
open Cert.Kernel13Ideal Cert.Kernel13Ideal.Gen
variable (c : Dev nD) (m : (ℓ : Loc nD τ sig) → Buf (Elt Ideal) ℓ)

theorem ref5 : Reference13Ideal.Read.val_main_v4 (F := Ideal) (aA c m) (bA c m) = res5 c m := by
  funext i
  change S2x256x2048.Idx at i
  obtain ⟨l, r, q, rfl⟩ : ∃ l r q, i = ix3 l r q := ⟨_, _, _, eq_ix3 i⟩
  exact v4_apply _ _ l r q

theorem ref6 : Reference13Ideal.Read.val_main_v28 (F := Ideal) (aA c m) (bA c m) (wA c m) (mA c m) (vA c m) = res6 c m := by
  funext i
  change S2x256x2048.Idx at i
  obtain ⟨l, r, q, rfl⟩ : ∃ l r q, i = ix3 l r q := ⟨_, _, _, eq_ix3 i⟩
  rw [v28_apply, v4_apply]
  rfl

theorem ref7 : Reference13Ideal.Read.val_main_v9 (F := Ideal) (aA c m) (bA c m) (mA c m) = res7 c m := by
  funext i
  change S2x256x2048.Idx at i
  obtain ⟨l, r, q, rfl⟩ : ∃ l r q, i = ix3 l r q := ⟨_, _, _, eq_ix3 i⟩
  rw [v9_apply, v4_apply]
  rfl

theorem ref8 : Reference13Ideal.Read.val_main_v15 (F := Ideal) (aA c m) (bA c m) (vA c m) = res8 c m := by
  funext i
  change S2x256x2048.Idx at i
  obtain ⟨l, r, q, rfl⟩ : ∃ l r q, i = ix3 l r q := ⟨_, _, _, eq_ix3 i⟩
  rw [v15_apply, v4_apply]
  rfl

end

theorem claim : Cert.algebraic_Kernel13Ideal_Reference13Ideal := by
  intro m g m' g' _ hagree
  refine ⟨fun c => (Kernel13Ideal.Gen.dats m 0 c).arrAt 5 Kernel13Ideal.cfg0.N, fun c => (Kernel13Ideal.Gen.dats m 0 c).arrAt 6 Kernel13Ideal.cfg0.N,
    fun c => (Kernel13Ideal.Gen.dats m 0 c).arrAt 7 Kernel13Ideal.cfg0.N, fun c => (Kernel13Ideal.Gen.dats m 0 c).arrAt 8 Kernel13Ideal.cfg0.N,
    Kernel13Ideal.Value.run_blocks m g, ?_⟩
  refine (θ_run Reference13Ideal.defs _ _).mono (fun r h c => ?_) (Reference13Ideal.Value.run m' g')
  obtain ⟨h0, h1, h2, h3, hk⟩ := h c
  obtain ⟨a0, a1, a2, a3, a4⟩ := hagree c
  refine ⟨h0.trans ((Reference13Ideal.Read.val_main_v4_eq _ _).trans ?_), h1.trans ((Reference13Ideal.Read.val_main_v28_eq _ _ _ _ _).trans ?_),
    h2.trans ((Reference13Ideal.Read.val_main_v9_eq _ _ _).trans ?_), h3.trans ((Reference13Ideal.Read.val_main_v15_eq _ _ _).trans ?_), hk⟩
  · rw [a0, a1]
    exact (ref5 c m).trans (final5 c m).symm
  · rw [a0, a1, a2, a3, a4]
    exact (ref6 c m).trans (final6 c m).symm
  · rw [a0, a1, a3]
    exact (ref7 c m).trans (final7 c m).symm
  · rw [a0, a1, a4]
    exact (ref8 c m).trans (final8 c m).symm

end Cert.Proj.AdamOut

end
-- ==== Proof.Proj.AdamIn.lean ====
/- One AdamW step on the input projections' weights (`w_in`), transposed: the devices' gradients summed, the new moments and the
   change of the weight, entry by entry. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Proj.Step
public import Idealize.ShloMosaic.Lib.Pointwise
public import Idealize.ShloMosaic.Lib.Tactic
public import Idealize.ShloMosaic.Lib.Pipeline.Value
public import Idealize.ShloMosaic.Lib.StableHlo.Run
public import Idealize.ShloMosaic.Lib.Pipeline.ValueKit

@[expose] public section

set_option maxRecDepth 16384

noncomputable section

open Idealize.ShloMosaic Idealize.ShloMosaic.TcCoe Idealize.SL.Sem

namespace Cert.Proj.AdamIn

open Cert.Proj.Step

section
open Cert.Kernel14Ideal Cert.Kernel14Ideal.Gen Cert.Kernel14Ideal.Value

/-! ## What a grid point stores -/

/-- The rectangle of one device's part of a block of the devices' gradients. -/
theorem inb (k : Fin 8) : ∀ a, (![k.val, 0, 0] : Fin 3 → Nat) a + S1x748x256.size a ≤ S8x748x256.size a := by
  intro a
  match a with
  | ⟨0, _⟩ => show k.val + 1 ≤ 8; omega
  | ⟨1, _⟩ => show 0 + 748 ≤ 748; omega
  | ⟨2, _⟩ => show 0 + 256 ≤ 256; omega

theorem ld_part {F : FTy → Type} (x : Vec F S8x748x256 .bf16) (k : Fin 8) (r : Fin 748) (q : Fin 256)
    (h : ∀ a, (![k.val, 0, 0] : Fin 3 → Nat) a + S1x748x256.size a ≤ S8x748x256.size a) :
    (View.ld x (Rect.unit (s := S8x748x256) ![k.val, 0, 0] S1x748x256.size h) : Vec F S1x748x256 .bf16) (ix3 0 r q) = x (ix3 k r q) := by
  refine congrArg x (funext fun a => Fin.ext ?_)
  match a with
  | ⟨0, _⟩ => show k.val + 1 * 0 = k.val; omega
  | ⟨1, _⟩ => show 0 + 1 * r.val = r.val; omega
  | ⟨2, _⟩ => show 0 + 1 * q.val = q.val; omega

/-- One layer's rectangle of a block of both layers. -/
theorem emb_layer (l : Fin 2) (r : Fin 748) (q : Fin 256)
    (h : ∀ a, (![0, l.val, 0] : Fin 3 → Nat) a + S748x1x256.size a ≤ S748x2x256.size a) :
    (Rect.unit (s := S748x2x256) ![0, l.val, 0] S748x1x256.size h).emb (ix3 r 0 q) = ix3 r l q := by
  refine funext fun a => Fin.ext ?_
  match a with
  | ⟨0, _⟩ => show 0 + 1 * r.val = r.val; omega
  | ⟨1, _⟩ => show l.val + 1 * 0 = l.val; omega
  | ⟨2, _⟩ => show 0 + 1 * q.val = q.val; omega

theorem ld_layer {F : FTy → Type} (x : Vec F S748x2x256 .f32) (l : Fin 2) (r : Fin 748) (q : Fin 256)
    (h : ∀ a, (![0, l.val, 0] : Fin 3 → Nat) a + S748x1x256.size a ≤ S748x2x256.size a) :
    (View.ld x (Rect.unit (s := S748x2x256) ![0, l.val, 0] S748x1x256.size h) : Vec F S748x1x256 .f32) (ix3 r 0 q) = x (ix3 r l q) :=
  congrArg x (emb_layer l r q h)

section
variable (g : Vec Ideal S748x256 .f32) (w m v : Vec Ideal S748x1x256 .f32) (y0 y1 y2 y3 y4 y5 y6 y7 : Vec Ideal S1x748x256 .bf16)
  (r : Fin 748) (q : Fin 256)

theorem pay3_apply : k0_pay3 (F := Ideal) y0 y1 y2 y3 y4 y5 y6 y7 (ix2 r q) = y0 (ix3 0 r q) + y1 (ix3 0 r q) + y2 (ix3 0 r q) + y3 (ix3 0 r q)
      + y4 (ix3 0 r q) + y5 (ix3 0 r q) + y6 (ix3 0 r q) + y7 (ix3 0 r q) := by
  pointwise [k0_pay3]

theorem pay14_apply : k0_pay14 (F := Ideal) (k0_pay13 y0 y1 y2 y3 y4 y5 y6) y7 (ix2 r q) = y0 (ix3 0 r q) + y1 (ix3 0 r q) + y2 (ix3 0 r q)
      + y3 (ix3 0 r q) + y4 (ix3 0 r q) + y5 (ix3 0 r q) + y6 (ix3 0 r q) + y7 (ix3 0 r q) := by
  pointwise [k0_pay14, k0_pay13]

theorem pay7_apply : k0_pay7 (F := Ideal) g (ix3 r 0 q) = g (ix2 r q) := by
  pointwise [k0_pay7]

theorem pay8_apply : k0_pay8 (F := Ideal) g (k0_pay4 m) (ix3 r 0 q) = mom (m (ix3 r 0 q)) (g (ix2 r q)) := by
  unfold mom
  pointwise [k0_pay8, k0_pay4, k0_pay5]

theorem pay9_apply : k0_pay9 (F := Ideal) g v (ix3 r 0 q) = vel (v (ix3 r 0 q)) (g (ix2 r q)) := by
  unfold vel
  pointwise [k0_pay9, k0_pay6]

theorem pay12_apply : k0_pay12 (F := Ideal) (k0_pay10 g (k0_pay4 m) v) (k0_pay11 w) (ix3 r 0 q)
    = delta (w (ix3 r 0 q)) (m (ix3 r 0 q)) (v (ix3 r 0 q)) (g (ix2 r q)) := by
  unfold delta mom vel
  pointwise [k0_pay12, k0_pay10, k0_pay4, k0_pay11, k0_pay5, k0_pay6]

theorem pay17_apply : k0_pay17 (F := Ideal) g y7 (ix3 r 0 q) = k0_pay14 (F := Ideal) g y7 (ix2 r q) := by
  unfold k0_pay17
  generalize k0_pay14 (F := Ideal) g y7 = s
  pointwise []

theorem pay18_apply : k0_pay18 (F := Ideal) g y7 m (ix3 r 0 q) = mom (m (ix3 r 0 q)) (k0_pay14 (F := Ideal) g y7 (ix2 r q)) := by
  unfold k0_pay18 k0_pay15 mom
  generalize k0_pay14 (F := Ideal) g y7 = s
  pointwise []

theorem pay19_apply : k0_pay19 (F := Ideal) g y7 v (ix3 r 0 q) = vel (v (ix3 r 0 q)) (k0_pay14 (F := Ideal) g y7 (ix2 r q)) := by
  unfold k0_pay19 k0_pay16 vel
  generalize k0_pay14 (F := Ideal) g y7 = s
  pointwise []

theorem pay1_apply : k0_pay1 (F := Ideal) (k0_pay20 g y7 m) (k0_pay21 g y7 v) (Scalar.ofBits .f32 0x322BCC77#32) w (ix3 r 0 q)
    = delta (w (ix3 r 0 q)) (m (ix3 r 0 q)) (v (ix3 r 0 q)) (k0_pay14 (F := Ideal) g y7 (ix2 r q)) := by
  unfold k0_pay1 k0_pay20 k0_pay21 k0_pay15 k0_pay16 delta mom vel
  generalize k0_pay14 (F := Ideal) g y7 = s
  pointwise []

end

/-- The sums of the devices' gradients over a block of both layers. -/
def sums (a b : Vec Ideal S8x748x256 .bf16) (i : S748x2x256.Idx) : EReal :=
  grad fun k => if (i 1).val < 1 then a (ix3 k (i 0) (i 2)) else b (ix3 k (i 0) (i 2))

section
variable (a b x : Vec Ideal S8x748x256 .bf16) (w m v : Vec Ideal S748x2x256 .f32) (r : Fin 748) (q : Fin 256)

theorem sum_lo : k0_pay3 (F := Ideal) (View.ld a (Rect.unit (s := S8x748x256) ![0, 0, 0] S1x748x256.size (inb 0))) (View.ld a (Rect.unit (s := S8x748x256) ![1, 0, 0] S1x748x256.size (inb 1))) (View.ld a (Rect.unit (s := S8x748x256) ![2, 0, 0] S1x748x256.size (inb 2))) (View.ld a (Rect.unit (s := S8x748x256) ![3, 0, 0] S1x748x256.size (inb 3))) (View.ld a (Rect.unit (s := S8x748x256) ![4, 0, 0] S1x748x256.size (inb 4))) (View.ld a (Rect.unit (s := S8x748x256) ![5, 0, 0] S1x748x256.size (inb 5))) (View.ld a (Rect.unit (s := S8x748x256) ![6, 0, 0] S1x748x256.size (inb 6))) (View.ld a (Rect.unit (s := S8x748x256) ![7, 0, 0] S1x748x256.size (inb 7))) (ix2 r q) = sums a b (ix3 r 0 q) :=
  (pay3_apply _ _ _ _ _ _ _ _ r q).trans (plus (plus (plus (plus (plus (plus (plus (ld_part a 0 r q _) (ld_part a 1 r q _)) (ld_part a 2 r q _))
    (ld_part a 3 r q _)) (ld_part a 4 r q _)) (ld_part a 5 r q _)) (ld_part a 6 r q _)) (ld_part a 7 r q _))

theorem sum_hi : k0_pay14 (F := Ideal) (k0_pay13 (View.ld b (Rect.unit (s := S8x748x256) ![0, 0, 0] S1x748x256.size (inb 0))) (View.ld b (Rect.unit (s := S8x748x256) ![1, 0, 0] S1x748x256.size (inb 1))) (View.ld b (Rect.unit (s := S8x748x256) ![2, 0, 0] S1x748x256.size (inb 2))) (View.ld b (Rect.unit (s := S8x748x256) ![3, 0, 0] S1x748x256.size (inb 3))) (View.ld b (Rect.unit (s := S8x748x256) ![4, 0, 0] S1x748x256.size (inb 4))) (View.ld b (Rect.unit (s := S8x748x256) ![5, 0, 0] S1x748x256.size (inb 5))) (View.ld b (Rect.unit (s := S8x748x256) ![6, 0, 0] S1x748x256.size (inb 6)))) (View.ld b (Rect.unit (s := S8x748x256) ![7, 0, 0] S1x748x256.size (inb 7))) (ix2 r q) = sums a b (ix3 r 1 q) :=
  (pay14_apply _ _ _ _ _ _ _ _ r q).trans (plus (plus (plus (plus (plus (plus (plus (ld_part b 0 r q _) (ld_part b 1 r q _)) (ld_part b 2 r q _))
    (ld_part b 3 r q _)) (ld_part b 4 r q _)) (ld_part b 5 r q _)) (ld_part b 6 r q _)) (ld_part b 7 r q _))

end

def st7 (a b : Vec Ideal S8x748x256 .bf16) : Vec Ideal S748x2x256 .f32 := fun i => sums a b i
def st8 (a b : Vec Ideal S8x748x256 .bf16) (w m v : Vec Ideal S748x2x256 .f32) : Vec Ideal S748x2x256 .f32 := fun i =>
  delta (w i) (m i) (v i) (sums a b i)
def st9 (a b : Vec Ideal S8x748x256 .bf16) (m : Vec Ideal S748x2x256 .f32) : Vec Ideal S748x2x256 .f32 := fun i => mom (m i) (sums a b i)
def st10 (a b : Vec Ideal S8x748x256 .bf16) (v : Vec Ideal S748x2x256 .f32) : Vec Ideal S748x2x256 .f32 := fun i => vel (v i) (sums a b i)

theorem lo7 (a b : Vec Ideal S8x748x256 .bf16) (x : S748x1x256.Idx) :
    k0_pay7 (F := Ideal) (k0_pay3 (View.ld a (Rect.unit (s := S8x748x256) ![0, 0, 0] S1x748x256.size (inb 0))) (View.ld a (Rect.unit (s := S8x748x256) ![1, 0, 0] S1x748x256.size (inb 1))) (View.ld a (Rect.unit (s := S8x748x256) ![2, 0, 0] S1x748x256.size (inb 2))) (View.ld a (Rect.unit (s := S8x748x256) ![3, 0, 0] S1x748x256.size (inb 3))) (View.ld a (Rect.unit (s := S8x748x256) ![4, 0, 0] S1x748x256.size (inb 4))) (View.ld a (Rect.unit (s := S8x748x256) ![5, 0, 0] S1x748x256.size (inb 5))) (View.ld a (Rect.unit (s := S8x748x256) ![6, 0, 0] S1x748x256.size (inb 6))) (View.ld a (Rect.unit (s := S8x748x256) ![7, 0, 0] S1x748x256.size (inb 7)))) x
      = st7 a b ((Rect.unit (s := S748x2x256) ![0, 0, 0] S748x1x256.size inb_S748x2x256_S748x1x256_0_0_0).emb x) := by
  obtain ⟨r, z, q, rfl⟩ : ∃ r z q, x = ix3 r z q := ⟨_, _, _, eq_ix3 x⟩
  obtain rfl : z = 0 := Subsingleton.elim _ _
  refine (pay7_apply _ r q).trans (Eq.trans ?_ (congrArg (st7 a b) (emb_layer 0 r q inb_S748x2x256_S748x1x256_0_0_0)).symm)
  refine Eq.trans ?_ (show sums a b (ix3 r 0 q) = _ from rfl)
  exact sum_lo a b r q

theorem hi7 (a b : Vec Ideal S8x748x256 .bf16) (x : S748x1x256.Idx) :
    k0_pay17 (F := Ideal) (k0_pay13 (View.ld b (Rect.unit (s := S8x748x256) ![0, 0, 0] S1x748x256.size (inb 0))) (View.ld b (Rect.unit (s := S8x748x256) ![1, 0, 0] S1x748x256.size (inb 1))) (View.ld b (Rect.unit (s := S8x748x256) ![2, 0, 0] S1x748x256.size (inb 2))) (View.ld b (Rect.unit (s := S8x748x256) ![3, 0, 0] S1x748x256.size (inb 3))) (View.ld b (Rect.unit (s := S8x748x256) ![4, 0, 0] S1x748x256.size (inb 4))) (View.ld b (Rect.unit (s := S8x748x256) ![5, 0, 0] S1x748x256.size (inb 5))) (View.ld b (Rect.unit (s := S8x748x256) ![6, 0, 0] S1x748x256.size (inb 6)))) (View.ld b (Rect.unit (s := S8x748x256) ![7, 0, 0] S1x748x256.size (inb 7))) x
      = st7 a b ((Rect.unit (s := S748x2x256) ![0, 1, 0] S748x1x256.size inb_S748x2x256_S748x1x256_0_1_0).emb x) := by
  obtain ⟨r, z, q, rfl⟩ : ∃ r z q, x = ix3 r z q := ⟨_, _, _, eq_ix3 x⟩
  obtain rfl : z = 0 := Subsingleton.elim _ _
  refine (pay17_apply _ _ r q).trans (Eq.trans ?_ (congrArg (st7 a b) (emb_layer 1 r q inb_S748x2x256_S748x1x256_0_1_0)).symm)
  refine Eq.trans ?_ (show sums a b (ix3 r 1 q) = _ from rfl)
  exact sum_hi a b r q

theorem lo8 (a b : Vec Ideal S8x748x256 .bf16) (w m v : Vec Ideal S748x2x256 .f32) (x : S748x1x256.Idx) :
    k0_pay12 (F := Ideal) (k0_pay10 (k0_pay3 (View.ld a (Rect.unit (s := S8x748x256) ![0, 0, 0] S1x748x256.size (inb 0))) (View.ld a (Rect.unit (s := S8x748x256) ![1, 0, 0] S1x748x256.size (inb 1))) (View.ld a (Rect.unit (s := S8x748x256) ![2, 0, 0] S1x748x256.size (inb 2))) (View.ld a (Rect.unit (s := S8x748x256) ![3, 0, 0] S1x748x256.size (inb 3))) (View.ld a (Rect.unit (s := S8x748x256) ![4, 0, 0] S1x748x256.size (inb 4))) (View.ld a (Rect.unit (s := S8x748x256) ![5, 0, 0] S1x748x256.size (inb 5))) (View.ld a (Rect.unit (s := S8x748x256) ![6, 0, 0] S1x748x256.size (inb 6))) (View.ld a (Rect.unit (s := S8x748x256) ![7, 0, 0] S1x748x256.size (inb 7)))) (k0_pay4 (View.ld m (Rect.unit (s := S748x2x256) ![0, 0, 0] S748x1x256.size inb_S748x2x256_S748x1x256_0_0_0))) (View.ld v (Rect.unit (s := S748x2x256) ![0, 0, 0] S748x1x256.size inb_S748x2x256_S748x1x256_0_0_0))) (k0_pay11 (View.ld w (Rect.unit (s := S748x2x256) ![0, 0, 0] S748x1x256.size inb_S748x2x256_S748x1x256_0_0_0))) x
      = st8 a b w m v ((Rect.unit (s := S748x2x256) ![0, 0, 0] S748x1x256.size inb_S748x2x256_S748x1x256_0_0_0).emb x) := by
  obtain ⟨r, z, q, rfl⟩ : ∃ r z q, x = ix3 r z q := ⟨_, _, _, eq_ix3 x⟩
  obtain rfl : z = 0 := Subsingleton.elim _ _
  refine (pay12_apply _ _ _ _ r q).trans (Eq.trans ?_ (congrArg (st8 a b w m v) (emb_layer 0 r q inb_S748x2x256_S748x1x256_0_0_0)).symm)
  refine Eq.trans ?_ (show delta (w (ix3 r 0 q)) (m (ix3 r 0 q)) (v (ix3 r 0 q)) (sums a b (ix3 r 0 q)) = _ from rfl)
  exact delta4 (ld_layer w 0 r q inb_S748x2x256_S748x1x256_0_0_0) (ld_layer m 0 r q inb_S748x2x256_S748x1x256_0_0_0) (ld_layer v 0 r q inb_S748x2x256_S748x1x256_0_0_0) (sum_lo a b r q)

theorem hi8 (a b : Vec Ideal S8x748x256 .bf16) (w m v : Vec Ideal S748x2x256 .f32) (x : S748x1x256.Idx) :
    k0_pay1 (F := Ideal) (k0_pay20 (k0_pay13 (View.ld b (Rect.unit (s := S8x748x256) ![0, 0, 0] S1x748x256.size (inb 0))) (View.ld b (Rect.unit (s := S8x748x256) ![1, 0, 0] S1x748x256.size (inb 1))) (View.ld b (Rect.unit (s := S8x748x256) ![2, 0, 0] S1x748x256.size (inb 2))) (View.ld b (Rect.unit (s := S8x748x256) ![3, 0, 0] S1x748x256.size (inb 3))) (View.ld b (Rect.unit (s := S8x748x256) ![4, 0, 0] S1x748x256.size (inb 4))) (View.ld b (Rect.unit (s := S8x748x256) ![5, 0, 0] S1x748x256.size (inb 5))) (View.ld b (Rect.unit (s := S8x748x256) ![6, 0, 0] S1x748x256.size (inb 6)))) (View.ld b (Rect.unit (s := S8x748x256) ![7, 0, 0] S1x748x256.size (inb 7))) (View.ld m (Rect.unit (s := S748x2x256) ![0, 1, 0] S748x1x256.size inb_S748x2x256_S748x1x256_0_1_0))) (k0_pay21 (k0_pay13 (View.ld b (Rect.unit (s := S8x748x256) ![0, 0, 0] S1x748x256.size (inb 0))) (View.ld b (Rect.unit (s := S8x748x256) ![1, 0, 0] S1x748x256.size (inb 1))) (View.ld b (Rect.unit (s := S8x748x256) ![2, 0, 0] S1x748x256.size (inb 2))) (View.ld b (Rect.unit (s := S8x748x256) ![3, 0, 0] S1x748x256.size (inb 3))) (View.ld b (Rect.unit (s := S8x748x256) ![4, 0, 0] S1x748x256.size (inb 4))) (View.ld b (Rect.unit (s := S8x748x256) ![5, 0, 0] S1x748x256.size (inb 5))) (View.ld b (Rect.unit (s := S8x748x256) ![6, 0, 0] S1x748x256.size (inb 6)))) (View.ld b (Rect.unit (s := S8x748x256) ![7, 0, 0] S1x748x256.size (inb 7))) (View.ld v (Rect.unit (s := S748x2x256) ![0, 1, 0] S748x1x256.size inb_S748x2x256_S748x1x256_0_1_0))) (Scalar.ofBits .f32 0x322BCC77#32) (View.ld w (Rect.unit (s := S748x2x256) ![0, 1, 0] S748x1x256.size inb_S748x2x256_S748x1x256_0_1_0)) x
      = st8 a b w m v ((Rect.unit (s := S748x2x256) ![0, 1, 0] S748x1x256.size inb_S748x2x256_S748x1x256_0_1_0).emb x) := by
  obtain ⟨r, z, q, rfl⟩ : ∃ r z q, x = ix3 r z q := ⟨_, _, _, eq_ix3 x⟩
  obtain rfl : z = 0 := Subsingleton.elim _ _
  refine (pay1_apply _ _ _ _ _ r q).trans (Eq.trans ?_ (congrArg (st8 a b w m v) (emb_layer 1 r q inb_S748x2x256_S748x1x256_0_1_0)).symm)
  refine Eq.trans ?_ (show delta (w (ix3 r 1 q)) (m (ix3 r 1 q)) (v (ix3 r 1 q)) (sums a b (ix3 r 1 q)) = _ from rfl)
  exact delta4 (ld_layer w 1 r q inb_S748x2x256_S748x1x256_0_1_0) (ld_layer m 1 r q inb_S748x2x256_S748x1x256_0_1_0) (ld_layer v 1 r q inb_S748x2x256_S748x1x256_0_1_0) (sum_hi a b r q)

theorem lo9 (a b : Vec Ideal S8x748x256 .bf16) (m : Vec Ideal S748x2x256 .f32) (x : S748x1x256.Idx) :
    k0_pay8 (F := Ideal) (k0_pay3 (View.ld a (Rect.unit (s := S8x748x256) ![0, 0, 0] S1x748x256.size (inb 0))) (View.ld a (Rect.unit (s := S8x748x256) ![1, 0, 0] S1x748x256.size (inb 1))) (View.ld a (Rect.unit (s := S8x748x256) ![2, 0, 0] S1x748x256.size (inb 2))) (View.ld a (Rect.unit (s := S8x748x256) ![3, 0, 0] S1x748x256.size (inb 3))) (View.ld a (Rect.unit (s := S8x748x256) ![4, 0, 0] S1x748x256.size (inb 4))) (View.ld a (Rect.unit (s := S8x748x256) ![5, 0, 0] S1x748x256.size (inb 5))) (View.ld a (Rect.unit (s := S8x748x256) ![6, 0, 0] S1x748x256.size (inb 6))) (View.ld a (Rect.unit (s := S8x748x256) ![7, 0, 0] S1x748x256.size (inb 7)))) (k0_pay4 (View.ld m (Rect.unit (s := S748x2x256) ![0, 0, 0] S748x1x256.size inb_S748x2x256_S748x1x256_0_0_0))) x
      = st9 a b m ((Rect.unit (s := S748x2x256) ![0, 0, 0] S748x1x256.size inb_S748x2x256_S748x1x256_0_0_0).emb x) := by
  obtain ⟨r, z, q, rfl⟩ : ∃ r z q, x = ix3 r z q := ⟨_, _, _, eq_ix3 x⟩
  obtain rfl : z = 0 := Subsingleton.elim _ _
  refine (pay8_apply _ _ r q).trans (Eq.trans ?_ (congrArg (st9 a b m) (emb_layer 0 r q inb_S748x2x256_S748x1x256_0_0_0)).symm)
  refine Eq.trans ?_ (show mom (m (ix3 r 0 q)) (sums a b (ix3 r 0 q)) = _ from rfl)
  exact mom2 (ld_layer m 0 r q inb_S748x2x256_S748x1x256_0_0_0) (sum_lo a b r q)

theorem hi9 (a b : Vec Ideal S8x748x256 .bf16) (m : Vec Ideal S748x2x256 .f32) (x : S748x1x256.Idx) :
    k0_pay18 (F := Ideal) (k0_pay13 (View.ld b (Rect.unit (s := S8x748x256) ![0, 0, 0] S1x748x256.size (inb 0))) (View.ld b (Rect.unit (s := S8x748x256) ![1, 0, 0] S1x748x256.size (inb 1))) (View.ld b (Rect.unit (s := S8x748x256) ![2, 0, 0] S1x748x256.size (inb 2))) (View.ld b (Rect.unit (s := S8x748x256) ![3, 0, 0] S1x748x256.size (inb 3))) (View.ld b (Rect.unit (s := S8x748x256) ![4, 0, 0] S1x748x256.size (inb 4))) (View.ld b (Rect.unit (s := S8x748x256) ![5, 0, 0] S1x748x256.size (inb 5))) (View.ld b (Rect.unit (s := S8x748x256) ![6, 0, 0] S1x748x256.size (inb 6)))) (View.ld b (Rect.unit (s := S8x748x256) ![7, 0, 0] S1x748x256.size (inb 7))) (View.ld m (Rect.unit (s := S748x2x256) ![0, 1, 0] S748x1x256.size inb_S748x2x256_S748x1x256_0_1_0)) x
      = st9 a b m ((Rect.unit (s := S748x2x256) ![0, 1, 0] S748x1x256.size inb_S748x2x256_S748x1x256_0_1_0).emb x) := by
  obtain ⟨r, z, q, rfl⟩ : ∃ r z q, x = ix3 r z q := ⟨_, _, _, eq_ix3 x⟩
  obtain rfl : z = 0 := Subsingleton.elim _ _
  refine (pay18_apply _ _ _ r q).trans (Eq.trans ?_ (congrArg (st9 a b m) (emb_layer 1 r q inb_S748x2x256_S748x1x256_0_1_0)).symm)
  refine Eq.trans ?_ (show mom (m (ix3 r 1 q)) (sums a b (ix3 r 1 q)) = _ from rfl)
  exact mom2 (ld_layer m 1 r q inb_S748x2x256_S748x1x256_0_1_0) (sum_hi a b r q)

theorem lo10 (a b : Vec Ideal S8x748x256 .bf16) (v : Vec Ideal S748x2x256 .f32) (x : S748x1x256.Idx) :
    k0_pay9 (F := Ideal) (k0_pay3 (View.ld a (Rect.unit (s := S8x748x256) ![0, 0, 0] S1x748x256.size (inb 0))) (View.ld a (Rect.unit (s := S8x748x256) ![1, 0, 0] S1x748x256.size (inb 1))) (View.ld a (Rect.unit (s := S8x748x256) ![2, 0, 0] S1x748x256.size (inb 2))) (View.ld a (Rect.unit (s := S8x748x256) ![3, 0, 0] S1x748x256.size (inb 3))) (View.ld a (Rect.unit (s := S8x748x256) ![4, 0, 0] S1x748x256.size (inb 4))) (View.ld a (Rect.unit (s := S8x748x256) ![5, 0, 0] S1x748x256.size (inb 5))) (View.ld a (Rect.unit (s := S8x748x256) ![6, 0, 0] S1x748x256.size (inb 6))) (View.ld a (Rect.unit (s := S8x748x256) ![7, 0, 0] S1x748x256.size (inb 7)))) (View.ld v (Rect.unit (s := S748x2x256) ![0, 0, 0] S748x1x256.size inb_S748x2x256_S748x1x256_0_0_0)) x
      = st10 a b v ((Rect.unit (s := S748x2x256) ![0, 0, 0] S748x1x256.size inb_S748x2x256_S748x1x256_0_0_0).emb x) := by
  obtain ⟨r, z, q, rfl⟩ : ∃ r z q, x = ix3 r z q := ⟨_, _, _, eq_ix3 x⟩
  obtain rfl : z = 0 := Subsingleton.elim _ _
  refine (pay9_apply _ _ r q).trans (Eq.trans ?_ (congrArg (st10 a b v) (emb_layer 0 r q inb_S748x2x256_S748x1x256_0_0_0)).symm)
  refine Eq.trans ?_ (show vel (v (ix3 r 0 q)) (sums a b (ix3 r 0 q)) = _ from rfl)
  exact vel2 (ld_layer v 0 r q inb_S748x2x256_S748x1x256_0_0_0) (sum_lo a b r q)

theorem hi10 (a b : Vec Ideal S8x748x256 .bf16) (v : Vec Ideal S748x2x256 .f32) (x : S748x1x256.Idx) :
    k0_pay19 (F := Ideal) (k0_pay13 (View.ld b (Rect.unit (s := S8x748x256) ![0, 0, 0] S1x748x256.size (inb 0))) (View.ld b (Rect.unit (s := S8x748x256) ![1, 0, 0] S1x748x256.size (inb 1))) (View.ld b (Rect.unit (s := S8x748x256) ![2, 0, 0] S1x748x256.size (inb 2))) (View.ld b (Rect.unit (s := S8x748x256) ![3, 0, 0] S1x748x256.size (inb 3))) (View.ld b (Rect.unit (s := S8x748x256) ![4, 0, 0] S1x748x256.size (inb 4))) (View.ld b (Rect.unit (s := S8x748x256) ![5, 0, 0] S1x748x256.size (inb 5))) (View.ld b (Rect.unit (s := S8x748x256) ![6, 0, 0] S1x748x256.size (inb 6)))) (View.ld b (Rect.unit (s := S8x748x256) ![7, 0, 0] S1x748x256.size (inb 7))) (View.ld v (Rect.unit (s := S748x2x256) ![0, 1, 0] S748x1x256.size inb_S748x2x256_S748x1x256_0_1_0)) x
      = st10 a b v ((Rect.unit (s := S748x2x256) ![0, 1, 0] S748x1x256.size inb_S748x2x256_S748x1x256_0_1_0).emb x) := by
  obtain ⟨r, z, q, rfl⟩ : ∃ r z q, x = ix3 r z q := ⟨_, _, _, eq_ix3 x⟩
  obtain rfl : z = 0 := Subsingleton.elim _ _
  refine (pay19_apply _ _ _ r q).trans (Eq.trans ?_ (congrArg (st10 a b v) (emb_layer 1 r q inb_S748x2x256_S748x1x256_0_1_0)).symm)
  refine Eq.trans ?_ (show vel (v (ix3 r 1 q)) (sums a b (ix3 r 1 q)) = _ from rfl)
  exact vel2 (ld_layer v 1 r q inb_S748x2x256_S748x1x256_0_1_0) (sum_hi a b r q)

variable
  (c : Dev nD) (i : grid0.Coords)
  (arg2 : Memref sig .tc .vmem S8x748x256 .bf16) (harg2 : arg2.IsWhole)
  (arg3 : Memref sig .tc .vmem S8x748x256 .bf16) (harg3 : arg3.IsWhole)
  (arg4 : Memref sig .tc .vmem S8x748x256 .bf16) (harg4 : arg4.IsWhole)
  (arg5 : Memref sig .tc .vmem S8x748x256 .bf16) (harg5 : arg5.IsWhole)
  (arg6 : Memref sig .tc .vmem S748x2x256 .f32) (harg6 : arg6.IsWhole)
  (arg7 : Memref sig .tc .vmem S748x2x256 .f32) (harg7 : arg7.IsWhole)
  (arg8 : Memref sig .tc .vmem S748x2x256 .f32) (harg8 : arg8.IsWhole)
  (arg9 : Memref sig .tc .vmem S748x2x256 .f32) (harg9 : arg9.IsWhole)
  (arg10 : Memref sig .tc .vmem S748x2x256 .f32) (harg10 : arg10.IsWhole)
  (arg11 : Memref sig .tc .vmem S748x2x256 .f32) (harg11 : arg11.IsWhole)
  (arg12 : Memref sig .tc .vmem S748x2x256 .f32) (harg12 : arg12.IsWhole)
  (x0 x1 x2 x3 : Vec Ideal S8x748x256 .bf16) (x4 x5 x6 : Vec Ideal S748x2x256 .f32)

theorem out_A_7 (h0 : cond0_0 i) (h1 : ¬cond0_1 i) :
    out0_A_7 c i arg2 harg2 arg3 harg3 arg4 harg4 arg5 harg5 arg6 harg6 arg7 harg7 arg8 harg8 arg9 harg9 arg10 harg10 arg11 harg11 arg12 harg12 h0 h1 x0 x1 x2 x3 x4 x5 x6
      = st7 x0 x2 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 h0 h1 x0 x1 x2 x3 x4 x5 x6)]
  funext y
  refine View.canon_apply_of_pieces (st7 x0 x2) _ ?_ y (cover0_A_7 c i arg2 harg2 arg3 harg3 arg4 harg4 arg5 harg5 arg6 harg6 arg7 harg7 arg8 harg8 arg9 harg9 arg10 harg10 arg11 harg11 arg12 harg12 h0 h1 x0 x1 x2 x3 x4 x5 x6 y)
  unfold kernelRun0_A
  dsimp only
  sl_unfold_words
  simp only [View.readAt_eq_ld, harg2.read_unread, harg3.read_unread, harg4.read_unread, harg5.read_unread, harg6.read_unread,
    harg7.read_unread, harg8.read_unread]
  exact List.forall_mem_cons.2 ⟨fun x => hi7 x0 x2 x, List.forall_mem_cons.2 ⟨fun x => lo7 x0 x2 x, List.forall_mem_nil _⟩⟩

theorem out_A_8 (h0 : cond0_0 i) (h1 : ¬cond0_1 i) :
    out0_A_8 c i arg2 harg2 arg3 harg3 arg4 harg4 arg5 harg5 arg6 harg6 arg7 harg7 arg8 harg8 arg9 harg9 arg10 harg10 arg11 harg11 arg12 harg12 h0 h1 x0 x1 x2 x3 x4 x5 x6
      = st8 x0 x2 x4 x5 x6 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 h0 h1 x0 x1 x2 x3 x4 x5 x6)]
  funext y
  refine View.canon_apply_of_pieces (st8 x0 x2 x4 x5 x6) _ ?_ y (cover0_A_8 c i arg2 harg2 arg3 harg3 arg4 harg4 arg5 harg5 arg6 harg6 arg7 harg7 arg8 harg8 arg9 harg9 arg10 harg10 arg11 harg11 arg12 harg12 h0 h1 x0 x1 x2 x3 x4 x5 x6 y)
  unfold kernelRun0_A
  dsimp only
  sl_unfold_words
  simp only [View.readAt_eq_ld, harg2.read_unread, harg3.read_unread, harg4.read_unread, harg5.read_unread, harg6.read_unread,
    harg7.read_unread, harg8.read_unread]
  exact List.forall_mem_cons.2 ⟨fun x => hi8 x0 x2 x4 x5 x6 x, List.forall_mem_cons.2 ⟨fun x => lo8 x0 x2 x4 x5 x6 x, List.forall_mem_nil _⟩⟩

theorem out_A_9 (h0 : cond0_0 i) (h1 : ¬cond0_1 i) :
    out0_A_9 c i arg2 harg2 arg3 harg3 arg4 harg4 arg5 harg5 arg6 harg6 arg7 harg7 arg8 harg8 arg9 harg9 arg10 harg10 arg11 harg11 arg12 harg12 h0 h1 x0 x1 x2 x3 x4 x5 x6
      = st9 x0 x2 x5 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 h0 h1 x0 x1 x2 x3 x4 x5 x6)]
  funext y
  refine View.canon_apply_of_pieces (st9 x0 x2 x5) _ ?_ y (cover0_A_9 c i arg2 harg2 arg3 harg3 arg4 harg4 arg5 harg5 arg6 harg6 arg7 harg7 arg8 harg8 arg9 harg9 arg10 harg10 arg11 harg11 arg12 harg12 h0 h1 x0 x1 x2 x3 x4 x5 x6 y)
  unfold kernelRun0_A
  dsimp only
  sl_unfold_words
  simp only [View.readAt_eq_ld, harg2.read_unread, harg3.read_unread, harg4.read_unread, harg5.read_unread, harg6.read_unread,
    harg7.read_unread, harg8.read_unread]
  exact List.forall_mem_cons.2 ⟨fun x => hi9 x0 x2 x5 x, List.forall_mem_cons.2 ⟨fun x => lo9 x0 x2 x5 x, List.forall_mem_nil _⟩⟩

theorem out_A_10 (h0 : cond0_0 i) (h1 : ¬cond0_1 i) :
    out0_A_10 c i arg2 harg2 arg3 harg3 arg4 harg4 arg5 harg5 arg6 harg6 arg7 harg7 arg8 harg8 arg9 harg9 arg10 harg10 arg11 harg11 arg12 harg12 h0 h1 x0 x1 x2 x3 x4 x5 x6
      = st10 x0 x2 x6 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 h0 h1 x0 x1 x2 x3 x4 x5 x6)]
  funext y
  refine View.canon_apply_of_pieces (st10 x0 x2 x6) _ ?_ y (cover0_A_10 c i arg2 harg2 arg3 harg3 arg4 harg4 arg5 harg5 arg6 harg6 arg7 harg7 arg8 harg8 arg9 harg9 arg10 harg10 arg11 harg11 arg12 harg12 h0 h1 x0 x1 x2 x3 x4 x5 x6 y)
  unfold kernelRun0_A
  dsimp only
  sl_unfold_words
  simp only [View.readAt_eq_ld, harg2.read_unread, harg3.read_unread, harg4.read_unread, harg5.read_unread, harg6.read_unread,
    harg7.read_unread, harg8.read_unread]
  exact List.forall_mem_cons.2 ⟨fun x => hi10 x0 x2 x6 x, List.forall_mem_cons.2 ⟨fun x => lo10 x0 x2 x6 x, List.forall_mem_nil _⟩⟩

theorem out_B_7 (h0 : ¬cond0_0 i) (h1 : cond0_1 i) :
    out0_B_7 c i arg2 harg2 arg3 harg3 arg4 harg4 arg5 harg5 arg6 harg6 arg7 harg7 arg8 harg8 arg9 harg9 arg10 harg10 arg11 harg11 arg12 harg12 h0 h1 x0 x1 x2 x3 x4 x5 x6
      = st7 x1 x3 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 h0 h1 x0 x1 x2 x3 x4 x5 x6)]
  funext y
  refine View.canon_apply_of_pieces (st7 x1 x3) _ ?_ y (cover0_B_7 c i arg2 harg2 arg3 harg3 arg4 harg4 arg5 harg5 arg6 harg6 arg7 harg7 arg8 harg8 arg9 harg9 arg10 harg10 arg11 harg11 arg12 harg12 h0 h1 x0 x1 x2 x3 x4 x5 x6 y)
  unfold kernelRun0_B
  dsimp only
  sl_unfold_words
  simp only [View.readAt_eq_ld, harg2.read_unread, harg3.read_unread, harg4.read_unread, harg5.read_unread, harg6.read_unread,
    harg7.read_unread, harg8.read_unread]
  exact List.forall_mem_cons.2 ⟨fun x => hi7 x1 x3 x, List.forall_mem_cons.2 ⟨fun x => lo7 x1 x3 x, List.forall_mem_nil _⟩⟩

theorem out_B_8 (h0 : ¬cond0_0 i) (h1 : cond0_1 i) :
    out0_B_8 c i arg2 harg2 arg3 harg3 arg4 harg4 arg5 harg5 arg6 harg6 arg7 harg7 arg8 harg8 arg9 harg9 arg10 harg10 arg11 harg11 arg12 harg12 h0 h1 x0 x1 x2 x3 x4 x5 x6
      = st8 x1 x3 x4 x5 x6 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 h0 h1 x0 x1 x2 x3 x4 x5 x6)]
  funext y
  refine View.canon_apply_of_pieces (st8 x1 x3 x4 x5 x6) _ ?_ y (cover0_B_8 c i arg2 harg2 arg3 harg3 arg4 harg4 arg5 harg5 arg6 harg6 arg7 harg7 arg8 harg8 arg9 harg9 arg10 harg10 arg11 harg11 arg12 harg12 h0 h1 x0 x1 x2 x3 x4 x5 x6 y)
  unfold kernelRun0_B
  dsimp only
  sl_unfold_words
  simp only [View.readAt_eq_ld, harg2.read_unread, harg3.read_unread, harg4.read_unread, harg5.read_unread, harg6.read_unread,
    harg7.read_unread, harg8.read_unread]
  exact List.forall_mem_cons.2 ⟨fun x => hi8 x1 x3 x4 x5 x6 x, List.forall_mem_cons.2 ⟨fun x => lo8 x1 x3 x4 x5 x6 x, List.forall_mem_nil _⟩⟩

theorem out_B_9 (h0 : ¬cond0_0 i) (h1 : cond0_1 i) :
    out0_B_9 c i arg2 harg2 arg3 harg3 arg4 harg4 arg5 harg5 arg6 harg6 arg7 harg7 arg8 harg8 arg9 harg9 arg10 harg10 arg11 harg11 arg12 harg12 h0 h1 x0 x1 x2 x3 x4 x5 x6
      = st9 x1 x3 x5 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 h0 h1 x0 x1 x2 x3 x4 x5 x6)]
  funext y
  refine View.canon_apply_of_pieces (st9 x1 x3 x5) _ ?_ y (cover0_B_9 c i arg2 harg2 arg3 harg3 arg4 harg4 arg5 harg5 arg6 harg6 arg7 harg7 arg8 harg8 arg9 harg9 arg10 harg10 arg11 harg11 arg12 harg12 h0 h1 x0 x1 x2 x3 x4 x5 x6 y)
  unfold kernelRun0_B
  dsimp only
  sl_unfold_words
  simp only [View.readAt_eq_ld, harg2.read_unread, harg3.read_unread, harg4.read_unread, harg5.read_unread, harg6.read_unread,
    harg7.read_unread, harg8.read_unread]
  exact List.forall_mem_cons.2 ⟨fun x => hi9 x1 x3 x5 x, List.forall_mem_cons.2 ⟨fun x => lo9 x1 x3 x5 x, List.forall_mem_nil _⟩⟩

theorem out_B_10 (h0 : ¬cond0_0 i) (h1 : cond0_1 i) :
    out0_B_10 c i arg2 harg2 arg3 harg3 arg4 harg4 arg5 harg5 arg6 harg6 arg7 harg7 arg8 harg8 arg9 harg9 arg10 harg10 arg11 harg11 arg12 harg12 h0 h1 x0 x1 x2 x3 x4 x5 x6
      = st10 x1 x3 x6 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 h0 h1 x0 x1 x2 x3 x4 x5 x6)]
  funext y
  refine View.canon_apply_of_pieces (st10 x1 x3 x6) _ ?_ y (cover0_B_10 c i arg2 harg2 arg3 harg3 arg4 harg4 arg5 harg5 arg6 harg6 arg7 harg7 arg8 harg8 arg9 harg9 arg10 harg10 arg11 harg11 arg12 harg12 h0 h1 x0 x1 x2 x3 x4 x5 x6 y)
  unfold kernelRun0_B
  dsimp only
  sl_unfold_words
  simp only [View.readAt_eq_ld, harg2.read_unread, harg3.read_unread, harg4.read_unread, harg5.read_unread, harg6.read_unread,
    harg7.read_unread, harg8.read_unread]
  exact List.forall_mem_cons.2 ⟨fun x => hi10 x1 x3 x6 x, List.forall_mem_cons.2 ⟨fun x => lo10 x1 x3 x6 x, List.forall_mem_nil _⟩⟩

/-! ## The blocks -/

theorem idx0 : ∀ t : Fin cfg0.N, win0_0.index t 0 = 0 ∧ win0_0.index t 1 = 0 ∧ (t.val < 4 → win0_0.index t 2 = t.val % 4) :=
  (by decide +kernel : ∀ t : Fin grid0.N, win0_0.index t 0 = 0 ∧ win0_0.index t 1 = 0 ∧ (t.val < 4 → win0_0.index t 2 = t.val % 4))
theorem idx1 : ∀ t : Fin cfg0.N, win0_1.index t 0 = 0 ∧ win0_1.index t 1 = 0 ∧ (4 ≤ t.val → win0_1.index t 2 = t.val % 4) :=
  (by decide +kernel : ∀ t : Fin grid0.N, win0_1.index t 0 = 0 ∧ win0_1.index t 1 = 0 ∧ (4 ≤ t.val → win0_1.index t 2 = t.val % 4))
theorem idx2 : ∀ t : Fin cfg0.N, win0_2.index t 0 = 0 ∧ win0_2.index t 1 = 0 ∧ (t.val < 4 → win0_2.index t 2 = t.val % 4) :=
  (by decide +kernel : ∀ t : Fin grid0.N, win0_2.index t 0 = 0 ∧ win0_2.index t 1 = 0 ∧ (t.val < 4 → win0_2.index t 2 = t.val % 4))
theorem idx3 : ∀ t : Fin cfg0.N, win0_3.index t 0 = 0 ∧ win0_3.index t 1 = 0 ∧ (4 ≤ t.val → win0_3.index t 2 = t.val % 4) :=
  (by decide +kernel : ∀ t : Fin grid0.N, win0_3.index t 0 = 0 ∧ win0_3.index t 1 = 0 ∧ (4 ≤ t.val → win0_3.index t 2 = t.val % 4))
theorem idx4 : ∀ t : Fin cfg0.N, win0_4.index t 0 = 0 ∧ win0_4.index t 1 = 0 ∧ win0_4.index t 2 = t.val :=
  (by decide +kernel : ∀ t : Fin grid0.N, win0_4.index t 0 = 0 ∧ win0_4.index t 1 = 0 ∧ win0_4.index t 2 = t.val)
theorem idx5 : ∀ t : Fin cfg0.N, win0_5.index t 0 = 0 ∧ win0_5.index t 1 = 0 ∧ win0_5.index t 2 = t.val :=
  (by decide +kernel : ∀ t : Fin grid0.N, win0_5.index t 0 = 0 ∧ win0_5.index t 1 = 0 ∧ win0_5.index t 2 = t.val)
theorem idx6 : ∀ t : Fin cfg0.N, win0_6.index t 0 = 0 ∧ win0_6.index t 1 = 0 ∧ win0_6.index t 2 = t.val :=
  (by decide +kernel : ∀ t : Fin grid0.N, win0_6.index t 0 = 0 ∧ win0_6.index t 1 = 0 ∧ win0_6.index t 2 = t.val)
theorem idx7 : ∀ t : Fin cfg0.N, win0_7.index t 0 = 0 ∧ win0_7.index t 1 = 0 ∧ win0_7.index t 2 = t.val :=
  (by decide +kernel : ∀ t : Fin grid0.N, win0_7.index t 0 = 0 ∧ win0_7.index t 1 = 0 ∧ win0_7.index t 2 = t.val)
theorem idx8 : ∀ t : Fin cfg0.N, win0_8.index t 0 = 0 ∧ win0_8.index t 1 = 0 ∧ win0_8.index t 2 = t.val :=
  (by decide +kernel : ∀ t : Fin grid0.N, win0_8.index t 0 = 0 ∧ win0_8.index t 1 = 0 ∧ win0_8.index t 2 = t.val)
theorem idx9 : ∀ t : Fin cfg0.N, win0_9.index t 0 = 0 ∧ win0_9.index t 1 = 0 ∧ win0_9.index t 2 = t.val :=
  (by decide +kernel : ∀ t : Fin grid0.N, win0_9.index t 0 = 0 ∧ win0_9.index t 1 = 0 ∧ win0_9.index t 2 = t.val)
theorem idx10 : ∀ t : Fin cfg0.N, win0_10.index t 0 = 0 ∧ win0_10.index t 1 = 0 ∧ win0_10.index t 2 = t.val :=
  (by decide +kernel : ∀ t : Fin grid0.N, win0_10.index t 0 = 0 ∧ win0_10.index t 1 = 0 ∧ win0_10.index t 2 = t.val)

theorem lt8 (t : Fin cfg0.N) : t.val < 8 := lt_of_lt_of_eq t.isLt (show cfg0.N = 8 from N_0)

/-- The column of an entry of point `t`'s block: of the whole weight, and within its half. -/
def colOf (t : Fin cfg0.N) (q : Fin 256) : Fin 2048 := ⟨256 * t.val + q.val, by have := lt8 t; have := q.isLt; omega⟩
def half (t : Fin cfg0.N) (q : Fin 256) : Fin 1024 := ⟨256 * (t.val % 4) + q.val, by have := q.isLt; omega⟩

variable (m : (ℓ : Loc nD τ sig) → Buf (Elt Ideal) ℓ)

/-- The arguments: the devices' gradients of the two halves of each layer, the weight and its moments. -/
def aA : Vec Ideal S8x748x1024 .bf16 := m ((c : Thread nD τ).loc main_arg0)
def bA : Vec Ideal S8x748x1024 .bf16 := m ((c : Thread nD τ).loc main_arg1)
def a1A : Vec Ideal S8x748x1024 .bf16 := m ((c : Thread nD τ).loc main_arg2)
def b1A : Vec Ideal S8x748x1024 .bf16 := m ((c : Thread nD τ).loc main_arg3)
def wA : Vec Ideal S2x2048x748 .f32 := m ((c : Thread nD τ).loc main_arg4)
def mA : Vec Ideal S2x2048x748 .f32 := m ((c : Thread nD τ).loc main_arg5)
def vA : Vec Ideal S2x2048x748 .f32 := m ((c : Thread nD τ).loc main_arg6)

theorem blk0 (t : Fin cfg0.N) (ht : t.val < 4) (k : Fin 8) (r : Fin 748) (q : Fin 256) : (iblk m c 0 t : Vec Ideal S8x748x256 .bf16) (ix3 k r q)
    = aA c m (ix3 k r (half t q)) := by
  unfold iblk
  rw [View.read_apply]
  refine Eq.trans ?_ (congrFun (V_main_arg0 m c) _)
  show V m c main_arg0 _ = V m c main_arg0 _
  congr 1
  funext a
  apply Fin.ext
  obtain ⟨h0, h1, h2⟩ := idx0 t
  have h2 := h2 ht
  match a with
  | ⟨0, _⟩ => show win0_0.index t 0 * 8 + 1 * k.val = k.val; omega
  | ⟨1, _⟩ => show win0_0.index t 1 * 748 + 1 * r.val = r.val; omega
  | ⟨2, _⟩ => show win0_0.index t 2 * 256 + 1 * q.val = 256 * (t.val % 4) + q.val; omega

theorem blk1 (t : Fin cfg0.N) (ht : 4 ≤ t.val) (k : Fin 8) (r : Fin 748) (q : Fin 256) : (iblk m c 1 t : Vec Ideal S8x748x256 .bf16) (ix3 k r q)
    = bA c m (ix3 k r (half t q)) := by
  unfold iblk
  rw [View.read_apply]
  refine Eq.trans ?_ (congrFun (V_main_arg1 m c) _)
  show V m c main_arg1 _ = V m c main_arg1 _
  congr 1
  funext a
  apply Fin.ext
  obtain ⟨h0, h1, h2⟩ := idx1 t
  have h2 := h2 ht
  match a with
  | ⟨0, _⟩ => show win0_1.index t 0 * 8 + 1 * k.val = k.val; omega
  | ⟨1, _⟩ => show win0_1.index t 1 * 748 + 1 * r.val = r.val; omega
  | ⟨2, _⟩ => show win0_1.index t 2 * 256 + 1 * q.val = 256 * (t.val % 4) + q.val; omega

theorem blk2 (t : Fin cfg0.N) (ht : t.val < 4) (k : Fin 8) (r : Fin 748) (q : Fin 256) : (iblk m c 2 t : Vec Ideal S8x748x256 .bf16) (ix3 k r q)
    = a1A c m (ix3 k r (half t q)) := by
  unfold iblk
  rw [View.read_apply]
  refine Eq.trans ?_ (congrFun (V_main_arg2 m c) _)
  show V m c main_arg2 _ = V m c main_arg2 _
  congr 1
  funext a
  apply Fin.ext
  obtain ⟨h0, h1, h2⟩ := idx2 t
  have h2 := h2 ht
  match a with
  | ⟨0, _⟩ => show win0_2.index t 0 * 8 + 1 * k.val = k.val; omega
  | ⟨1, _⟩ => show win0_2.index t 1 * 748 + 1 * r.val = r.val; omega
  | ⟨2, _⟩ => show win0_2.index t 2 * 256 + 1 * q.val = 256 * (t.val % 4) + q.val; omega

theorem blk3 (t : Fin cfg0.N) (ht : 4 ≤ t.val) (k : Fin 8) (r : Fin 748) (q : Fin 256) : (iblk m c 3 t : Vec Ideal S8x748x256 .bf16) (ix3 k r q)
    = b1A c m (ix3 k r (half t q)) := by
  unfold iblk
  rw [View.read_apply]
  refine Eq.trans ?_ (congrFun (V_main_arg3 m c) _)
  show V m c main_arg3 _ = V m c main_arg3 _
  congr 1
  funext a
  apply Fin.ext
  obtain ⟨h0, h1, h2⟩ := idx3 t
  have h2 := h2 ht
  match a with
  | ⟨0, _⟩ => show win0_3.index t 0 * 8 + 1 * k.val = k.val; omega
  | ⟨1, _⟩ => show win0_3.index t 1 * 748 + 1 * r.val = r.val; omega
  | ⟨2, _⟩ => show win0_3.index t 2 * 256 + 1 * q.val = 256 * (t.val % 4) + q.val; omega

/-- The weight and its moments as the grid reads them. -/
theorem turned (x : Vec Ideal S2x2048x748 .f32) (r : Fin 748) (l : Fin 2) (q : Fin 2048) :
    transpose S748x2x2048 [2, 0, 1] x transposes_S2x2048x748_S748x2x2048_2_0_1 (ix3 r l q) = x (ix3 l q r) := by
  pointwise []

theorem V_main_v0 : V m c main_v0 = transpose S748x2x2048 [2, 0, 1] (wA c m) transposes_S2x2048x748_S748x2x2048_2_0_1 := by
  show StableHlo.after hostOps0 (fun b => m (c, b)) (Proc.devRef .tc main_v0) = _
  after_results_simp <;> rfl

theorem blk4 (t : Fin cfg0.N) (r : Fin 748) (l : Fin 2) (q : Fin 256) : (iblk m c 4 t : Vec Ideal S748x2x256 .f32) (ix3 r l q)
    = wA c m (ix3 l (colOf t q) r) := by
  refine Eq.trans ?_ (turned (wA c m) r l (colOf t q))
  unfold iblk
  rw [View.read_apply]
  refine Eq.trans ?_ (congrFun (V_main_v0 c m) _)
  show V m c main_v0 _ = V m c main_v0 _
  congr 1
  funext a
  apply Fin.ext
  obtain ⟨h0, h1, h2⟩ := idx4 t
  match a with
  | ⟨0, _⟩ => show win0_4.index t 0 * 748 + 1 * r.val = r.val; omega
  | ⟨1, _⟩ => show win0_4.index t 1 * 2 + 1 * l.val = l.val; omega
  | ⟨2, _⟩ => show win0_4.index t 2 * 256 + 1 * q.val = 256 * t.val + q.val; omega

theorem V_main_v1 : V m c main_v1 = transpose S748x2x2048 [2, 0, 1] (mA c m) transposes_S2x2048x748_S748x2x2048_2_0_1 := by
  show StableHlo.after hostOps0 (fun b => m (c, b)) (Proc.devRef .tc main_v1) = _
  after_results_simp <;> rfl

theorem blk5 (t : Fin cfg0.N) (r : Fin 748) (l : Fin 2) (q : Fin 256) : (iblk m c 5 t : Vec Ideal S748x2x256 .f32) (ix3 r l q)
    = mA c m (ix3 l (colOf t q) r) := by
  refine Eq.trans ?_ (turned (mA c m) r l (colOf t q))
  unfold iblk
  rw [View.read_apply]
  refine Eq.trans ?_ (congrFun (V_main_v1 c m) _)
  show V m c main_v1 _ = V m c main_v1 _
  congr 1
  funext a
  apply Fin.ext
  obtain ⟨h0, h1, h2⟩ := idx5 t
  match a with
  | ⟨0, _⟩ => show win0_5.index t 0 * 748 + 1 * r.val = r.val; omega
  | ⟨1, _⟩ => show win0_5.index t 1 * 2 + 1 * l.val = l.val; omega
  | ⟨2, _⟩ => show win0_5.index t 2 * 256 + 1 * q.val = 256 * t.val + q.val; omega

theorem V_main_v2 : V m c main_v2 = transpose S748x2x2048 [2, 0, 1] (vA c m) transposes_S2x2048x748_S748x2x2048_2_0_1 := by
  show StableHlo.after hostOps0 (fun b => m (c, b)) (Proc.devRef .tc main_v2) = _
  after_results_simp <;> rfl

theorem blk6 (t : Fin cfg0.N) (r : Fin 748) (l : Fin 2) (q : Fin 256) : (iblk m c 6 t : Vec Ideal S748x2x256 .f32) (ix3 r l q)
    = vA c m (ix3 l (colOf t q) r) := by
  refine Eq.trans ?_ (turned (vA c m) r l (colOf t q))
  unfold iblk
  rw [View.read_apply]
  refine Eq.trans ?_ (congrFun (V_main_v2 c m) _)
  show V m c main_v2 _ = V m c main_v2 _
  congr 1
  funext a
  apply Fin.ext
  obtain ⟨h0, h1, h2⟩ := idx6 t
  match a with
  | ⟨0, _⟩ => show win0_6.index t 0 * 748 + 1 * r.val = r.val; omega
  | ⟨1, _⟩ => show win0_6.index t 1 * 2 + 1 * l.val = l.val; omega
  | ⟨2, _⟩ => show win0_6.index t 2 * 256 + 1 * q.val = 256 * t.val + q.val; omega

/-! ## The results -/

/-- One entry of two halves side by side. -/
def side (a b : Vec Ideal S8x748x1024 .bf16) (k : Fin 8) (r : Fin 748) (q : Fin 2048) : EReal :=
  if h : q.val < 1024 then a (ix3 k r ⟨q.val, h⟩) else b (ix3 k r ⟨q.val - 1024, by have := q.isLt; omega⟩)

/-- The gradient of an entry. -/
def gE (l : Fin 2) (q : Fin 2048) (r : Fin 748) : EReal :=
  grad fun k => if l.val < 1 then side (aA c m) (bA c m) k r q else side (a1A c m) (b1A c m) k r q

def res7 : Vec Ideal S748x2x2048 .f32 := fun i => gE c m (i 1) (i 2) (i 0)
def res8 : Vec Ideal S748x2x2048 .f32 := fun i =>
  delta (wA c m (ix3 (i 1) (i 2) (i 0))) (mA c m (ix3 (i 1) (i 2) (i 0))) (vA c m (ix3 (i 1) (i 2) (i 0))) (gE c m (i 1) (i 2) (i 0))
def res9 : Vec Ideal S748x2x2048 .f32 := fun i => mom (mA c m (ix3 (i 1) (i 2) (i 0))) (gE c m (i 1) (i 2) (i 0))
def res10 : Vec Ideal S748x2x2048 .f32 := fun i => vel (vA c m (ix3 (i 1) (i 2) (i 0))) (gE c m (i 1) (i 2) (i 0))

theorem side_lo (t : Fin cfg0.N) (ht : t.val < 4) (a b : Vec Ideal S8x748x1024 .bf16) (k : Fin 8) (r : Fin 748) (q : Fin 256) :
    side a b k r (colOf t q) = a (ix3 k r (half t q)) := by
  have hq := q.isLt
  have h : (colOf t q).val < 1024 := by show 256 * t.val + q.val < 1024; omega
  refine (dif_pos h).trans (congrArg (fun z => a (ix3 k r z)) (Fin.ext ?_))
  show 256 * t.val + q.val = 256 * (t.val % 4) + q.val
  omega

theorem side_hi (t : Fin cfg0.N) (ht : 4 ≤ t.val) (a b : Vec Ideal S8x748x1024 .bf16) (k : Fin 8) (r : Fin 748) (q : Fin 256) :
    side a b k r (colOf t q) = b (ix3 k r (half t q)) := by
  have hq := q.isLt
  have h8 := lt8 t
  have h : ¬(colOf t q).val < 1024 := by show ¬256 * t.val + q.val < 1024; omega
  refine (dif_neg h).trans (congrArg (fun z => b (ix3 k r z)) (Fin.ext ?_))
  show 256 * t.val + q.val - 1024 = 256 * (t.val % 4) + q.val
  omega

theorem sum_A (t : Fin cfg0.N) (ht : t.val < 4) (r : Fin 748) (l : Fin 2) (q : Fin 256) :
    sums (iblk m c 0 t) (iblk m c 2 t) (ix3 r l q) = gE c m l (colOf t q) r := by
  refine congr fun k => ?_
  rw [side_lo t ht, side_lo t ht, ← blk0 c m t ht, ← blk2 c m t ht]
  rfl

theorem sum_B (t : Fin cfg0.N) (ht : 4 ≤ t.val) (r : Fin 748) (l : Fin 2) (q : Fin 256) :
    sums (iblk m c 1 t) (iblk m c 3 t) (ix3 r l q) = gE c m l (colOf t q) r := by
  refine congr fun k => ?_
  rw [side_hi t ht, side_hi t ht, ← blk1 c m t ht, ← blk3 c m t ht]
  rfl

theorem val7 (t : Fin cfg0.N) (r : Fin 748) (l : Fin 2) (q : Fin 256) :
    (outsAt0 m c t.val t.isLt).1 (ix3 r l q) = res7 c m (ix3 r l (colOf t q)) := by
  by_cases h : t.val < 4
  · rw [outsAt0_A m c t h (by omega)]
    dsimp only
    rw [out_A_7]
    exact (sum_A c m t h r l q)
  · rw [outsAt0_B m c t h (by omega)]
    dsimp only
    rw [out_B_7]
    exact (sum_B c m t (by omega) r l q)

theorem flush7' (t : Fin cfg0.N) : (dats m 0 c).flushed 7 t = ((cfg0.win 7).blk t).view.read (Elt Ideal) (res7 c m) := by
  rw [flushed7 m c t]
  funext i
  rw [View.read_apply]
  change S748x2x256.Idx at i
  obtain ⟨r, l, q, rfl⟩ : ∃ r l q, i = ix3 r l q := ⟨_, _, _, eq_ix3 i⟩
  refine (val7 c m t r l q).trans (congrArg (res7 c m) ?_)
  obtain ⟨i0, i1, i2⟩ := idx7 t
  funext a
  apply Fin.ext
  match a with
  | ⟨0, _⟩ => show r.val = win0_7.index t 0 * 748 + 1 * r.val; omega
  | ⟨1, _⟩ => show l.val = win0_7.index t 1 * 2 + 1 * l.val; omega
  | ⟨2, _⟩ => show 256 * t.val + q.val = win0_7.index t 2 * 256 + 1 * q.val; omega

theorem final7 : (dats m 0 c).arrAt 7 cfg0.N = res7 c m :=
  (dats m 0 c).arrAt_eq_of_cover 7 _ (fun t _ => flush7' c m t) ((by decide +kernel : (cfg0.win 7).Covers).cover _ (Memref.isWhole_whole _))

theorem val8 (t : Fin cfg0.N) (r : Fin 748) (l : Fin 2) (q : Fin 256) :
    (outsAt0 m c t.val t.isLt).2.1 (ix3 r l q) = res8 c m (ix3 r l (colOf t q)) := by
  by_cases h : t.val < 4
  · rw [outsAt0_A m c t h (by omega)]
    dsimp only
    rw [out_A_8]
    exact delta4 (blk4 c m t r l q) (blk5 c m t r l q) (blk6 c m t r l q) (sum_A c m t h r l q)
  · rw [outsAt0_B m c t h (by omega)]
    dsimp only
    rw [out_B_8]
    exact delta4 (blk4 c m t r l q) (blk5 c m t r l q) (blk6 c m t r l q) (sum_B c m t (by omega) r l q)

theorem flush8' (t : Fin cfg0.N) : (dats m 0 c).flushed 8 t = ((cfg0.win 8).blk t).view.read (Elt Ideal) (res8 c m) := by
  rw [flushed8 m c t]
  funext i
  rw [View.read_apply]
  change S748x2x256.Idx at i
  obtain ⟨r, l, q, rfl⟩ : ∃ r l q, i = ix3 r l q := ⟨_, _, _, eq_ix3 i⟩
  refine (val8 c m t r l q).trans (congrArg (res8 c m) ?_)
  obtain ⟨i0, i1, i2⟩ := idx8 t
  funext a
  apply Fin.ext
  match a with
  | ⟨0, _⟩ => show r.val = win0_8.index t 0 * 748 + 1 * r.val; omega
  | ⟨1, _⟩ => show l.val = win0_8.index t 1 * 2 + 1 * l.val; omega
  | ⟨2, _⟩ => show 256 * t.val + q.val = win0_8.index t 2 * 256 + 1 * q.val; omega

theorem final8 : (dats m 0 c).arrAt 8 cfg0.N = res8 c m :=
  (dats m 0 c).arrAt_eq_of_cover 8 _ (fun t _ => flush8' c m t) ((by decide +kernel : (cfg0.win 8).Covers).cover _ (Memref.isWhole_whole _))

theorem val9 (t : Fin cfg0.N) (r : Fin 748) (l : Fin 2) (q : Fin 256) :
    (outsAt0 m c t.val t.isLt).2.2.1 (ix3 r l q) = res9 c m (ix3 r l (colOf t q)) := by
  by_cases h : t.val < 4
  · rw [outsAt0_A m c t h (by omega)]
    dsimp only
    rw [out_A_9]
    exact mom2 (blk5 c m t r l q) (sum_A c m t h r l q)
  · rw [outsAt0_B m c t h (by omega)]
    dsimp only
    rw [out_B_9]
    exact mom2 (blk5 c m t r l q) (sum_B c m t (by omega) r l q)

theorem flush9' (t : Fin cfg0.N) : (dats m 0 c).flushed 9 t = ((cfg0.win 9).blk t).view.read (Elt Ideal) (res9 c m) := by
  rw [flushed9 m c t]
  funext i
  rw [View.read_apply]
  change S748x2x256.Idx at i
  obtain ⟨r, l, q, rfl⟩ : ∃ r l q, i = ix3 r l q := ⟨_, _, _, eq_ix3 i⟩
  refine (val9 c m t r l q).trans (congrArg (res9 c m) ?_)
  obtain ⟨i0, i1, i2⟩ := idx9 t
  funext a
  apply Fin.ext
  match a with
  | ⟨0, _⟩ => show r.val = win0_9.index t 0 * 748 + 1 * r.val; omega
  | ⟨1, _⟩ => show l.val = win0_9.index t 1 * 2 + 1 * l.val; omega
  | ⟨2, _⟩ => show 256 * t.val + q.val = win0_9.index t 2 * 256 + 1 * q.val; omega

theorem final9 : (dats m 0 c).arrAt 9 cfg0.N = res9 c m :=
  (dats m 0 c).arrAt_eq_of_cover 9 _ (fun t _ => flush9' c m t) ((by decide +kernel : (cfg0.win 9).Covers).cover _ (Memref.isWhole_whole _))

theorem val10 (t : Fin cfg0.N) (r : Fin 748) (l : Fin 2) (q : Fin 256) :
    (outsAt0 m c t.val t.isLt).2.2.2 (ix3 r l q) = res10 c m (ix3 r l (colOf t q)) := by
  by_cases h : t.val < 4
  · rw [outsAt0_A m c t h (by omega)]
    dsimp only
    rw [out_A_10]
    exact vel2 (blk6 c m t r l q) (sum_A c m t h r l q)
  · rw [outsAt0_B m c t h (by omega)]
    dsimp only
    rw [out_B_10]
    exact vel2 (blk6 c m t r l q) (sum_B c m t (by omega) r l q)

theorem flush10' (t : Fin cfg0.N) : (dats m 0 c).flushed 10 t = ((cfg0.win 10).blk t).view.read (Elt Ideal) (res10 c m) := by
  rw [flushed10 m c t]
  funext i
  rw [View.read_apply]
  change S748x2x256.Idx at i
  obtain ⟨r, l, q, rfl⟩ : ∃ r l q, i = ix3 r l q := ⟨_, _, _, eq_ix3 i⟩
  refine (val10 c m t r l q).trans (congrArg (res10 c m) ?_)
  obtain ⟨i0, i1, i2⟩ := idx10 t
  funext a
  apply Fin.ext
  match a with
  | ⟨0, _⟩ => show r.val = win0_10.index t 0 * 748 + 1 * r.val; omega
  | ⟨1, _⟩ => show l.val = win0_10.index t 1 * 2 + 1 * l.val; omega
  | ⟨2, _⟩ => show 256 * t.val + q.val = win0_10.index t 2 * 256 + 1 * q.val; omega

theorem final10 : (dats m 0 c).arrAt 10 cfg0.N = res10 c m :=
  (dats m 0 c).arrAt_eq_of_cover 10 _ (fun t _ => flush10' c m t) ((by decide +kernel : (cfg0.win 10).Covers).cover _ (Memref.isWhole_whole _))

end

/-! ## The reference -/

section
open Cert.Reference14Ideal Cert.Reference14Ideal.Read

variable (x0 x1 x2 x3 : (⟨S8x748x1024, .bf16⟩ : BufTy).Contents (Elt Ideal)) (x4 x5 x6 : (⟨S2x2048x748, .f32⟩ : BufTy).Contents (Elt Ideal))
  (l : Fin 2) (q : Fin 2048) (r : Fin 748)

theorem v6_apply (k : Fin 8) : val_main_v6 (F := Ideal) x0 x1 x2 x3 (ix4 k l q r)
    = if l.val < 1 then side x0 x1 k r q else side x2 x3 k r q := by
  unfold side
  pointwise [val_main_v6, val_main_v5, val_main_v4, val_main_v3, val_main_v2, val_main_v1, val_main_v0]
  by_cases h : l.val < 1
  · exact (dif_pos h).trans (if_pos h).symm
  · exact (dif_neg h).trans (if_neg h).symm

theorem v7_apply : val_main_v7 (F := Ideal) x0 x1 x2 x3 (ix3 l q r) = grad fun k => if l.val < 1 then side x0 x1 k r q else side x2 x3 k r q := by
  refine (val_main_v7_apply x0 x1 x2 x3 (ix3 l q r)).trans ?_
  refine (zero_add_sum (by rw [val_main_cst_apply]; exact zero_eq) _).trans (congr fun k => ?_)
  refine Eq.trans (congrArg (val_main_v6 (F := Ideal) x0 x1 x2 x3) (funext fun a => Fin.ext ?_)) (v6_apply x0 x1 x2 x3 l q r k)
  match a with
  | ⟨0, _⟩ => rfl
  | ⟨1, _⟩ => rfl
  | ⟨2, _⟩ => rfl
  | ⟨3, _⟩ => rfl

theorem v12_apply : val_main_v12 (F := Ideal) x0 x1 x2 x3 x5 (ix3 l q r)
    = mom (x5 (ix3 l q r)) (val_main_v7 (F := Ideal) x0 x1 x2 x3 (ix3 l q r)) := by
  unfold mom
  pointwise [val_main_v12, val_main_v11, val_main_v10, val_main_cst_1, val_main_v9, val_main_v8, val_main_cst_0]

theorem v18_apply : val_main_v18 (F := Ideal) x0 x1 x2 x3 x6 (ix3 l q r)
    = vel (x6 (ix3 l q r)) (val_main_v7 (F := Ideal) x0 x1 x2 x3 (ix3 l q r)) := by
  unfold vel
  pointwise [val_main_v18, val_main_v17, val_main_v16, val_main_cst_3, val_main_v15, val_main_v14, val_main_v13, val_main_cst_2]

theorem v31_apply : val_main_v31 (F := Ideal) x0 x1 x2 x3 x4 x5 x6 (ix3 l q r)
    = delta (x4 (ix3 l q r)) (x5 (ix3 l q r)) (x6 (ix3 l q r)) (val_main_v7 (F := Ideal) x0 x1 x2 x3 (ix3 l q r)) := by
  unfold delta
  rw [← v12_apply, ← v18_apply]
  pointwise [val_main_v31, val_main_v30, val_main_cst_8, val_main_v29, val_main_v28, val_main_v27, val_main_cst_7, val_main_v26, val_main_v25,
    val_main_v24, val_main_cst_6, val_main_v23, val_main_v22, val_main_v21, val_main_cst_5, val_main_v20, val_main_v19, val_main_cst_4]

theorem v32_apply : val_main_v32 (F := Ideal) x0 x1 x2 x3 (ix3 r l q) = val_main_v7 (F := Ideal) x0 x1 x2 x3 (ix3 l q r) := by
  pointwise [val_main_v32]

theorem v33_apply : val_main_v33 (F := Ideal) x0 x1 x2 x3 x4 x5 x6 (ix3 r l q) = val_main_v31 (F := Ideal) x0 x1 x2 x3 x4 x5 x6 (ix3 l q r) := by
  pointwise [val_main_v33]

theorem v34_apply : val_main_v34 (F := Ideal) x0 x1 x2 x3 x5 (ix3 r l q) = val_main_v12 (F := Ideal) x0 x1 x2 x3 x5 (ix3 l q r) := by
  pointwise [val_main_v34]

theorem v35_apply : val_main_v35 (F := Ideal) x0 x1 x2 x3 x6 (ix3 r l q) = val_main_v18 (F := Ideal) x0 x1 x2 x3 x6 (ix3 l q r) := by
  pointwise [val_main_v35]

end

/-! ## The claim -/

section
open Cert.Kernel14Ideal Cert.Kernel14Ideal.Gen
variable (c : Dev nD) (m : (ℓ : Loc nD τ sig) → Buf (Elt Ideal) ℓ)

theorem ref7 : Reference14Ideal.Read.val_main_v32 (F := Ideal) (aA c m) (bA c m) (a1A c m) (b1A c m) = res7 c m := by
  funext i
  change S748x2x2048.Idx at i
  obtain ⟨r, l, q, rfl⟩ : ∃ r l q, i = ix3 r l q := ⟨_, _, _, eq_ix3 i⟩
  rw [v32_apply, v7_apply]
  rfl

theorem ref8 : Reference14Ideal.Read.val_main_v33 (F := Ideal) (aA c m) (bA c m) (a1A c m) (b1A c m) (wA c m) (mA c m) (vA c m) = res8 c m := by
  funext i
  change S748x2x2048.Idx at i
  obtain ⟨r, l, q, rfl⟩ : ∃ r l q, i = ix3 r l q := ⟨_, _, _, eq_ix3 i⟩
  rw [v33_apply, v31_apply, v7_apply]
  rfl

theorem ref9 : Reference14Ideal.Read.val_main_v34 (F := Ideal) (aA c m) (bA c m) (a1A c m) (b1A c m) (mA c m) = res9 c m := by
  funext i
  change S748x2x2048.Idx at i
  obtain ⟨r, l, q, rfl⟩ : ∃ r l q, i = ix3 r l q := ⟨_, _, _, eq_ix3 i⟩
  rw [v34_apply, v12_apply, v7_apply]
  rfl

theorem ref10 : Reference14Ideal.Read.val_main_v35 (F := Ideal) (aA c m) (bA c m) (a1A c m) (b1A c m) (vA c m) = res10 c m := by
  funext i
  change S748x2x2048.Idx at i
  obtain ⟨r, l, q, rfl⟩ : ∃ r l q, i = ix3 r l q := ⟨_, _, _, eq_ix3 i⟩
  rw [v35_apply, v18_apply, v7_apply]
  rfl

end

theorem claim : Cert.algebraic_Kernel14Ideal_Reference14Ideal := by
  intro m g m' g' _ hagree
  refine ⟨fun c => (Kernel14Ideal.Gen.dats m 0 c).arrAt 7 Kernel14Ideal.cfg0.N, fun c => (Kernel14Ideal.Gen.dats m 0 c).arrAt 8 Kernel14Ideal.cfg0.N,
    fun c => (Kernel14Ideal.Gen.dats m 0 c).arrAt 9 Kernel14Ideal.cfg0.N, fun c => (Kernel14Ideal.Gen.dats m 0 c).arrAt 10 Kernel14Ideal.cfg0.N,
    Kernel14Ideal.Value.run_blocks m g, ?_⟩
  refine (θ_run Reference14Ideal.defs _ _).mono (fun r h c => ?_) (Reference14Ideal.Value.run m' g')
  obtain ⟨h0, h1, h2, h3, hk⟩ := h c
  obtain ⟨a0, a1, a2, a3, a4, a5, a6⟩ := hagree c
  refine ⟨h0.trans ((Reference14Ideal.Read.val_main_v32_eq _ _ _ _).trans ?_), h1.trans ((Reference14Ideal.Read.val_main_v33_eq _ _ _ _ _ _ _).trans ?_),
    h2.trans ((Reference14Ideal.Read.val_main_v34_eq _ _ _ _ _).trans ?_), h3.trans ((Reference14Ideal.Read.val_main_v35_eq _ _ _ _ _).trans ?_), hk⟩
  · rw [a0, a1, a2, a3]
    exact (ref7 c m).trans (final7 c m).symm
  · rw [a0, a1, a2, a3, a4, a5, a6]
    exact (ref8 c m).trans (final8 c m).symm
  · rw [a0, a1, a2, a3, a5]
    exact (ref9 c m).trans (final9 c m).symm
  · rw [a0, a1, a2, a3, a6]
    exact (ref10 c m).trans (final10 c m).symm

end Cert.Proj.AdamIn

end
-- ==== Proof.Proj.AdamNorm.lean ====
/- One AdamW step on the layer norms' weights (`norm_g`), in rows of 128: the devices' gradients summed, the new moments and the
   change of the weight, entry by entry. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Proj.Step
public import Idealize.ShloMosaic.Lib.Pointwise
public import Idealize.ShloMosaic.Lib.Tactic
public import Idealize.ShloMosaic.Lib.KernelVsHost
public import Idealize.ShloMosaic.Lib.Pipeline.Value
public import Idealize.ShloMosaic.Lib.StableHlo.Run
public import Idealize.ShloMosaic.Lib.Pipeline.ValueKit

@[expose] public section

set_option maxRecDepth 16384

noncomputable section

open Idealize.ShloMosaic Idealize.ShloMosaic.TcCoe Idealize.SL.Sem

namespace Cert.Proj.AdamNorm

open Cert.Proj.Step

section
open Cert.Kernel12Ideal Cert.Kernel12Ideal.Gen Cert.Kernel12Ideal.Value

/-! ## What the call stores -/

theorem hz2 : (![0, 0] : Fin 2 → Nat) = fun _ => 0 := funext fun a => by fin_cases a <;> rfl

theorem ld_part {F : FTy → Type} (x : Vec F S8x32x128 .f32) (k : Fin 8) (r : Fin 32) (q : Fin 128)
    (h : ∀ a, (![k.val, 0, 0] : Fin 3 → Nat) a + S1x32x128.size a ≤ S8x32x128.size a) :
    (View.ld x (Rect.unit (s := S8x32x128) ![k.val, 0, 0] S1x32x128.size h) : Vec F S1x32x128 .f32) (ix3 0 r q) = x (ix3 k r q) := by
  refine congrArg x (funext fun a => Fin.ext ?_)
  match a with
  | ⟨0, _⟩ => show k.val + 1 * 0 = k.val; omega
  | ⟨1, _⟩ => show 0 + 1 * r.val = r.val; omega
  | ⟨2, _⟩ => show 0 + 1 * q.val = q.val; omega

section
variable (g w m v : Vec Ideal S32x128 .f32) (y0 y1 y2 y3 y4 y5 y6 y7 : Vec Ideal S1x32x128 .f32) (r : Fin 32) (q : Fin 128)

theorem pay3_apply : k0_pay3 (F := Ideal) y0 y1 y2 y3 y4 y5 y6 y7 (ix2 r q) = y0 (ix3 0 r q) + y1 (ix3 0 r q) + y2 (ix3 0 r q) + y3 (ix3 0 r q)
      + y4 (ix3 0 r q) + y5 (ix3 0 r q) + y6 (ix3 0 r q) + y7 (ix3 0 r q) := by
  pointwise [k0_pay3]

theorem pay4_apply : k0_pay4 (F := Ideal) y0 y1 y2 y3 y4 y5 y6 y7 m (ix2 r q)
    = mom (m (ix2 r q)) (k0_pay3 (F := Ideal) y0 y1 y2 y3 y4 y5 y6 y7 (ix2 r q)) := by
  unfold mom k0_pay4
  generalize k0_pay3 (F := Ideal) y0 y1 y2 y3 y4 y5 y6 y7 = s
  pointwise []

theorem pay1_apply : k0_pay1 (F := Ideal) g v (ix2 r q) = vel (v (ix2 r q)) (g (ix2 r q)) := by
  unfold vel
  pointwise [k0_pay1]

end

variable (x : Vec Ideal S8x32x128 .f32) (w m v : Vec Ideal S32x128 .f32) (r : Fin 32) (q : Fin 128)

theorem sum_apply : k0_pay5 (F := Ideal) x w m v (ix2 r q) = grad fun k => x (ix3 k r q) :=
  (pay3_apply _ _ _ _ _ _ _ _ r q).trans (plus (plus (plus (plus (plus (plus (plus (ld_part x 0 r q _) (ld_part x 1 r q _)) (ld_part x 2 r q _))
    (ld_part x 3 r q _)) (ld_part x 4 r q _)) (ld_part x 5 r q _)) (ld_part x 6 r q _)) (ld_part x 7 r q _))

theorem mom_apply : k0_pay6 (F := Ideal) x w m v (ix2 r q) = mom (m (ix2 r q)) (grad fun k => x (ix3 k r q)) := by
  unfold k0_pay6
  rw [View.ld_unit_zero (S := S32x128) hz2]
  exact (pay4_apply _ _ _ _ _ _ _ _ _ r q).trans (mom2 rfl (sum_apply x w m v r q))

/-- The change of a weight from its two new moments. -/
theorem pay2_apply (g n : Vec Ideal S32x128 .f32) (e : EReal) (hg : g (ix2 r q) = e) (hn : n (ix2 r q) = mom (m (ix2 r q)) e) :
    k0_pay2 (F := Ideal) g n v w (ix2 r q) = delta (w (ix2 r q)) (m (ix2 r q)) (v (ix2 r q)) e := by
  have h1 : k0_pay1 (F := Ideal) g v (ix2 r q) = vel (v (ix2 r q)) e := (pay1_apply g v r q).trans (vel2 rfl hg)
  unfold delta
  rw [← h1, ← hn]
  unfold k0_pay2
  generalize k0_pay1 (F := Ideal) g v = s
  pointwise []

theorem out4 : out0_4 (F := Ideal) x w m v (ix2 r q) = grad fun k => x (ix3 k r q) := by
  unfold out0_4
  rw [View.canon_unit_zero hz2]
  exact sum_apply x w m v r q

theorem out5 : out0_5 (F := Ideal) x w m v (ix2 r q) = delta (w (ix2 r q)) (m (ix2 r q)) (v (ix2 r q)) (grad fun k => x (ix3 k r q)) := by
  unfold out0_5
  rw [View.canon_unit_zero hz2, View.ld_unit_zero (S := S32x128) hz2, View.ld_unit_zero (S := S32x128) hz2]
  exact pay2_apply w m v r q _ _ _ (sum_apply x w m v r q) (mom_apply x w m v r q)

theorem out6 : out0_6 (F := Ideal) x w m v (ix2 r q) = mom (m (ix2 r q)) (grad fun k => x (ix3 k r q)) := by
  unfold out0_6
  rw [View.canon_unit_zero hz2]
  exact mom_apply x w m v r q

theorem out7 : out0_7 (F := Ideal) x w m v (ix2 r q) = vel (v (ix2 r q)) (grad fun k => x (ix3 k r q)) := by
  unfold out0_7
  rw [View.canon_unit_zero hz2, View.ld_unit_zero (S := S32x128) hz2]
  exact (pay1_apply _ _ r q).trans (vel2 rfl (sum_apply x w m v r q))

end

section
open Cert.Kernel12Ideal Cert.Kernel12Ideal.Gen Cert.Kernel12Ideal.Value

/-! ## The arrays in rows of 128 -/

/-- The layer and the place of entry `q` of row `r`. -/
def lay (r : Fin 32) (q : Fin 128) : Fin 2 := ⟨(r.val * 128 + q.val) / 2048, by omega⟩
def pos (r : Fin 32) (q : Fin 128) : Fin 2048 := ⟨(r.val * 128 + q.val) % 2048, by omega⟩

theorem rows2 (x : Vec Ideal S2x2048 .f32) (r : Fin 32) (q : Fin 128) (h : S2x2048.ShapeCasts S32x128) :
    shapeCast S32x128 x h (ix2 r q) = x (ix2 (lay r q) (pos r q)) :=
  shapeCast_apply x h (ix2 r q) (ix2 (lay r q) (pos r q)) (by
    rewrite [Shape.rowMajor_val_two, Shape.rowMajor_val_two]
    show (r.val * 128 + q.val) / 2048 * 2048 + (r.val * 128 + q.val) % 2048 = r.val * 128 + q.val
    omega)

theorem rows3 (x : Vec Ideal S8x2x2048 .f32) (k : Fin 8) (r : Fin 32) (q : Fin 128) (h : S8x2x2048.ShapeCasts S8x32x128) :
    shapeCast S8x32x128 x h (ix3 k r q) = x (ix3 k (lay r q) (pos r q)) :=
  shapeCast_apply x h (ix3 k r q) (ix3 k (lay r q) (pos r q)) (by
    rewrite [Shape.rowMajor_val_three, Shape.rowMajor_val_three]
    show (k.val * 2 + (r.val * 128 + q.val) / 2048) * 2048 + (r.val * 128 + q.val) % 2048 = (k.val * 32 + r.val) * 128 + q.val
    omega)

theorem pad2 (x : Vec Ideal S32x128 .f32) (z : Vec Ideal S_ .f32) (i : S32x128.Idx) :
    pad S32x128 ![0, 0] ![0, 0] ![0, 0] x z pads_S32x128_S32x128_000_000 h_S_ i = x i :=
  pad_apply_of_inside _ _ _ x z _ _ i i fun a => by
    match a with
    | ⟨0, _⟩ => show (i 0).val = 0 + (i 0).val * (0 + 1); omega
    | ⟨1, _⟩ => show (i 1).val = 0 + (i 1).val * (0 + 1); omega

theorem pad3 (x : Vec Ideal S8x32x128 .f32) (z : Vec Ideal S_ .f32) (i : S8x32x128.Idx) :
    pad S8x32x128 ![0, 0, 0] ![0, 0, 0] ![0, 0, 0] x z pads_S8x32x128_S8x32x128_000_000_000 h_S_ i = x i :=
  pad_apply_of_inside _ _ _ x z _ _ i i fun a => by
    match a with
    | ⟨0, _⟩ => show (i 0).val = 0 + (i 0).val * (0 + 1); omega
    | ⟨1, _⟩ => show (i 1).val = 0 + (i 1).val * (0 + 1); omega
    | ⟨2, _⟩ => show (i 2).val = 0 + (i 2).val * (0 + 1); omega

variable (c : Dev nD) (m : (ℓ : Loc nD τ sig) → Buf (Elt Ideal) ℓ)

/-- The arguments: the devices' gradients, the weight and its moments. -/
def pA : Vec Ideal S8x2x2048 .f32 := m ((c : Thread nD τ).loc main_arg0)
def wA : Vec Ideal S2x2048 .f32 := m ((c : Thread nD τ).loc main_arg1)
def mA : Vec Ideal S2x2048 .f32 := m ((c : Thread nD τ).loc main_arg2)
def vA : Vec Ideal S2x2048 .f32 := m ((c : Thread nD τ).loc main_arg3)

theorem V_main_v1 : V m c main_v1 = pad S8x32x128 ![0, 0, 0] ![0, 0, 0] ![0, 0, 0] (shapeCast S8x32x128 (pA c m) shapeCasts_S8x2x2048_S8x32x128)
    (sitofp (F := Ideal) .f32 (constantI S_ 32 0#32)) pads_S8x32x128_S8x32x128_000_000_000 h_S_ := by
  show StableHlo.after (List.flatten [hostOps0, hostOps0_1, hostOps0_2, hostOps0_3, hostOps0_4, hostOps0_5, hostOps0_6, hostOps0_7])
    (fun b => m (c, b)) (Proc.devRef .tc main_v1) = _
  simp only [List.flatten_cons, List.flatten_nil, List.append_nil, List.cons_append, List.nil_append]
  after_results_simp <;> rfl

theorem V_main_v3 : V m c main_v3 = pad S32x128 ![0, 0] ![0, 0] ![0, 0] (shapeCast S32x128 (wA c m) shapeCasts_S2x2048_S32x128)
    (sitofp (F := Ideal) .f32 (constantI S_ 32 0#32)) pads_S32x128_S32x128_000_000 h_S_ := by
  show StableHlo.after (List.flatten [hostOps0, hostOps0_1, hostOps0_2, hostOps0_3, hostOps0_4, hostOps0_5, hostOps0_6, hostOps0_7])
    (fun b => m (c, b)) (Proc.devRef .tc main_v3) = _
  simp only [List.flatten_cons, List.flatten_nil, List.append_nil, List.cons_append, List.nil_append]
  after_results_simp <;> rfl

theorem V_main_v5 : V m c main_v5 = pad S32x128 ![0, 0] ![0, 0] ![0, 0] (shapeCast S32x128 (mA c m) shapeCasts_S2x2048_S32x128)
    (sitofp (F := Ideal) .f32 (constantI S_ 32 0#32)) pads_S32x128_S32x128_000_000 h_S_ := by
  show StableHlo.after (List.flatten [hostOps0, hostOps0_1, hostOps0_2, hostOps0_3, hostOps0_4, hostOps0_5, hostOps0_6, hostOps0_7])
    (fun b => m (c, b)) (Proc.devRef .tc main_v5) = _
  simp only [List.flatten_cons, List.flatten_nil, List.append_nil, List.cons_append, List.nil_append]
  after_results_simp <;> rfl

theorem V_main_v7 : V m c main_v7 = pad S32x128 ![0, 0] ![0, 0] ![0, 0] (shapeCast S32x128 (vA c m) shapeCasts_S2x2048_S32x128)
    (sitofp (F := Ideal) .f32 (constantI S_ 32 0#32)) pads_S32x128_S32x128_000_000 h_S_ := by
  show StableHlo.after (List.flatten [hostOps0, hostOps0_1, hostOps0_2, hostOps0_3, hostOps0_4, hostOps0_5, hostOps0_6, hostOps0_7])
    (fun b => m (c, b)) (Proc.devRef .tc main_v7) = _
  simp only [List.flatten_cons, List.flatten_nil, List.append_nil, List.cons_append, List.nil_append]
  after_results_simp <;> rfl

theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

theorem blk0 (t : Fin cfg0.N) (k : Fin 8) (r : Fin 32) (q : Fin 128) : (iblk m c 0 t : Vec Ideal S8x32x128 .f32) (ix3 k r q)
    = pA c m (ix3 k (lay r q) (pos r q)) := by
  refine Eq.trans ?_ ((pad3 (shapeCast S8x32x128 (pA c m) shapeCasts_S8x2x2048_S8x32x128) (sitofp (F := Ideal) .f32 (constantI S_ 32 0#32))
    (ix3 k r q)).trans (rows3 (pA c m) k r q _))
  unfold iblk
  rw [View.read_apply]
  refine Eq.trans ?_ (congrFun (V_main_v1 c m) _)
  show V m c main_v1 _ = V m c main_v1 _
  congr 1
  funext a
  apply Fin.ext
  obtain ⟨h0, h1, h2⟩ := idx0 t
  match a with
  | ⟨0, _⟩ => show win0_0.index t 0 * 8 + 1 * k.val = k.val; omega
  | ⟨1, _⟩ => show win0_0.index t 1 * 32 + 1 * r.val = r.val; omega
  | ⟨2, _⟩ => show win0_0.index t 2 * 128 + 1 * q.val = q.val; omega

theorem blk1 (t : Fin cfg0.N) (r : Fin 32) (q : Fin 128) : (iblk m c 1 t : Vec Ideal S32x128 .f32) (ix2 r q)
    = wA c m (ix2 (lay r q) (pos r q)) := by
  refine Eq.trans ?_ ((pad2 (shapeCast S32x128 (wA c m) shapeCasts_S2x2048_S32x128) (sitofp (F := Ideal) .f32 (constantI S_ 32 0#32))
    (ix2 r q)).trans (rows2 (wA c m) r q _))
  unfold iblk
  rw [View.read_apply]
  refine Eq.trans ?_ (congrFun (V_main_v3 c m) _)
  show V m c main_v3 _ = V m c main_v3 _
  congr 1
  funext a
  apply Fin.ext
  obtain ⟨h0, h1⟩ := idx1 t
  match a with
  | ⟨0, _⟩ => show win0_1.index t 0 * 32 + 1 * r.val = r.val; omega
  | ⟨1, _⟩ => show win0_1.index t 1 * 128 + 1 * q.val = q.val; omega

theorem blk2 (t : Fin cfg0.N) (r : Fin 32) (q : Fin 128) : (iblk m c 2 t : Vec Ideal S32x128 .f32) (ix2 r q)
    = mA c m (ix2 (lay r q) (pos r q)) := by
  refine Eq.trans ?_ ((pad2 (shapeCast S32x128 (mA c m) shapeCasts_S2x2048_S32x128) (sitofp (F := Ideal) .f32 (constantI S_ 32 0#32))
    (ix2 r q)).trans (rows2 (mA c m) r q _))
  unfold iblk
  rw [View.read_apply]
  refine Eq.trans ?_ (congrFun (V_main_v5 c m) _)
  show V m c main_v5 _ = V m c main_v5 _
  congr 1
  funext a
  apply Fin.ext
  obtain ⟨h0, h1⟩ := idx2 t
  match a with
  | ⟨0, _⟩ => show win0_2.index t 0 * 32 + 1 * r.val = r.val; omega
  | ⟨1, _⟩ => show win0_2.index t 1 * 128 + 1 * q.val = q.val; omega

theorem blk3 (t : Fin cfg0.N) (r : Fin 32) (q : Fin 128) : (iblk m c 3 t : Vec Ideal S32x128 .f32) (ix2 r q)
    = vA c m (ix2 (lay r q) (pos r q)) := by
  refine Eq.trans ?_ ((pad2 (shapeCast S32x128 (vA c m) shapeCasts_S2x2048_S32x128) (sitofp (F := Ideal) .f32 (constantI S_ 32 0#32))
    (ix2 r q)).trans (rows2 (vA c m) r q _))
  unfold iblk
  rw [View.read_apply]
  refine Eq.trans ?_ (congrFun (V_main_v7 c m) _)
  show V m c main_v7 _ = V m c main_v7 _
  congr 1
  funext a
  apply Fin.ext
  obtain ⟨h0, h1⟩ := idx3 t
  match a with
  | ⟨0, _⟩ => show win0_3.index t 0 * 32 + 1 * r.val = r.val; omega
  | ⟨1, _⟩ => show win0_3.index t 1 * 128 + 1 * q.val = q.val; omega

/-! ## The results -/

/-- The gradient of an entry. -/
def gE (l : Fin 2) (j : Fin 2048) : EReal := grad fun k => pA c m (ix3 k l j)

def res4 : Vec Ideal S32x128 .f32 := fun i => gE c m (lay (i 0) (i 1)) (pos (i 0) (i 1))
def res5 : Vec Ideal S32x128 .f32 := fun i =>
  delta (wA c m (ix2 (lay (i 0) (i 1)) (pos (i 0) (i 1)))) (mA c m (ix2 (lay (i 0) (i 1)) (pos (i 0) (i 1))))
    (vA c m (ix2 (lay (i 0) (i 1)) (pos (i 0) (i 1)))) (gE c m (lay (i 0) (i 1)) (pos (i 0) (i 1)))
def res6 : Vec Ideal S32x128 .f32 := fun i => mom (mA c m (ix2 (lay (i 0) (i 1)) (pos (i 0) (i 1)))) (gE c m (lay (i 0) (i 1)) (pos (i 0) (i 1)))
def res7 : Vec Ideal S32x128 .f32 := fun i => vel (vA c m (ix2 (lay (i 0) (i 1)) (pos (i 0) (i 1)))) (gE c m (lay (i 0) (i 1)) (pos (i 0) (i 1)))

theorem sum_blk (t : Fin cfg0.N) (r : Fin 32) (q : Fin 128) :
    (grad fun k => (iblk m c 0 t : Vec Ideal S8x32x128 .f32) (ix3 k r q)) = gE c m (lay r q) (pos r q) :=
  congr fun k => blk0 c m t k r q

theorem val4 (t : Fin cfg0.N) (r : Fin 32) (q : Fin 128) :
    out0_4 (F := Ideal) (iblk m c 0 t) (iblk m c 1 t) (iblk m c 2 t) (iblk m c 3 t) (ix2 r q) = res4 c m (ix2 r q) :=
  (out4 _ _ _ _ r q).trans (sum_blk c m t r q)

theorem flush4' (t : Fin cfg0.N) : (dats m 0 c).flushed 4 t = ((cfg0.win 4).blk t).view.read (Elt Ideal) (res4 c m) := by
  rw [flushed4 m c t]
  funext i
  rw [View.read_apply]
  change S32x128.Idx at i
  obtain ⟨r, q, rfl⟩ : ∃ r q, i = ix2 r q := ⟨_, _, eq_ix2 i⟩
  refine Eq.trans (show _ = out0_4 (F := Ideal) (iblk m c 0 t) (iblk m c 1 t) (iblk m c 2 t) (iblk m c 3 t) (ix2 r q) from rfl) ?_
  refine (val4 c m t r q).trans (congrArg (res4 c m) ?_)
  obtain ⟨i0, i1⟩ := idx4 t
  funext a
  apply Fin.ext
  match a with
  | ⟨0, _⟩ => show r.val = win0_4.index t 0 * 32 + 1 * r.val; omega
  | ⟨1, _⟩ => show q.val = win0_4.index t 1 * 128 + 1 * q.val; omega

theorem final4 : (dats m 0 c).arrAt 4 cfg0.N = res4 c m :=
  (dats m 0 c).arrAt_eq_of_cover 4 _ (fun t _ => flush4' c m t) ((by decide +kernel : (cfg0.win 4).Covers).cover _ (Memref.isWhole_whole _))

theorem val5 (t : Fin cfg0.N) (r : Fin 32) (q : Fin 128) :
    out0_5 (F := Ideal) (iblk m c 0 t) (iblk m c 1 t) (iblk m c 2 t) (iblk m c 3 t) (ix2 r q) = res5 c m (ix2 r q) :=
  (out5 _ _ _ _ r q).trans (delta4 (blk1 c m t r q) (blk2 c m t r q) (blk3 c m t r q) (sum_blk c m t r q))

theorem flush5' (t : Fin cfg0.N) : (dats m 0 c).flushed 5 t = ((cfg0.win 5).blk t).view.read (Elt Ideal) (res5 c m) := by
  rw [flushed5 m c t]
  funext i
  rw [View.read_apply]
  change S32x128.Idx at i
  obtain ⟨r, q, rfl⟩ : ∃ r q, i = ix2 r q := ⟨_, _, eq_ix2 i⟩
  refine Eq.trans (show _ = out0_5 (F := Ideal) (iblk m c 0 t) (iblk m c 1 t) (iblk m c 2 t) (iblk m c 3 t) (ix2 r q) from rfl) ?_
  refine (val5 c m t r q).trans (congrArg (res5 c m) ?_)
  obtain ⟨i0, i1⟩ := idx5 t
  funext a
  apply Fin.ext
  match a with
  | ⟨0, _⟩ => show r.val = win0_5.index t 0 * 32 + 1 * r.val; omega
  | ⟨1, _⟩ => show q.val = win0_5.index t 1 * 128 + 1 * q.val; omega

theorem final5 : (dats m 0 c).arrAt 5 cfg0.N = res5 c m :=
  (dats m 0 c).arrAt_eq_of_cover 5 _ (fun t _ => flush5' c m t) ((by decide +kernel : (cfg0.win 5).Covers).cover _ (Memref.isWhole_whole _))

theorem val6 (t : Fin cfg0.N) (r : Fin 32) (q : Fin 128) :
    out0_6 (F := Ideal) (iblk m c 0 t) (iblk m c 1 t) (iblk m c 2 t) (iblk m c 3 t) (ix2 r q) = res6 c m (ix2 r q) :=
  (out6 _ _ _ _ r q).trans (mom2 (blk2 c m t r q) (sum_blk c m t r q))

theorem flush6' (t : Fin cfg0.N) : (dats m 0 c).flushed 6 t = ((cfg0.win 6).blk t).view.read (Elt Ideal) (res6 c m) := by
  rw [flushed6 m c t]
  funext i
  rw [View.read_apply]
  change S32x128.Idx at i
  obtain ⟨r, q, rfl⟩ : ∃ r q, i = ix2 r q := ⟨_, _, eq_ix2 i⟩
  refine Eq.trans (show _ = out0_6 (F := Ideal) (iblk m c 0 t) (iblk m c 1 t) (iblk m c 2 t) (iblk m c 3 t) (ix2 r q) from rfl) ?_
  refine (val6 c m t r q).trans (congrArg (res6 c m) ?_)
  obtain ⟨i0, i1⟩ := idx6 t
  funext a
  apply Fin.ext
  match a with
  | ⟨0, _⟩ => show r.val = win0_6.index t 0 * 32 + 1 * r.val; omega
  | ⟨1, _⟩ => show q.val = win0_6.index t 1 * 128 + 1 * q.val; omega

theorem final6 : (dats m 0 c).arrAt 6 cfg0.N = res6 c m :=
  (dats m 0 c).arrAt_eq_of_cover 6 _ (fun t _ => flush6' c m t) ((by decide +kernel : (cfg0.win 6).Covers).cover _ (Memref.isWhole_whole _))

theorem val7 (t : Fin cfg0.N) (r : Fin 32) (q : Fin 128) :
    out0_7 (F := Ideal) (iblk m c 0 t) (iblk m c 1 t) (iblk m c 2 t) (iblk m c 3 t) (ix2 r q) = res7 c m (ix2 r q) :=
  (out7 _ _ _ _ r q).trans (vel2 (blk3 c m t r q) (sum_blk c m t r q))

theorem flush7' (t : Fin cfg0.N) : (dats m 0 c).flushed 7 t = ((cfg0.win 7).blk t).view.read (Elt Ideal) (res7 c m) := by
  rw [flushed7 m c t]
  funext i
  rw [View.read_apply]
  change S32x128.Idx at i
  obtain ⟨r, q, rfl⟩ : ∃ r q, i = ix2 r q := ⟨_, _, eq_ix2 i⟩
  refine Eq.trans (show _ = out0_7 (F := Ideal) (iblk m c 0 t) (iblk m c 1 t) (iblk m c 2 t) (iblk m c 3 t) (ix2 r q) from rfl) ?_
  refine (val7 c m t r q).trans (congrArg (res7 c m) ?_)
  obtain ⟨i0, i1⟩ := idx7 t
  funext a
  apply Fin.ext
  match a with
  | ⟨0, _⟩ => show r.val = win0_7.index t 0 * 32 + 1 * r.val; omega
  | ⟨1, _⟩ => show q.val = win0_7.index t 1 * 128 + 1 * q.val; omega

theorem final7 : (dats m 0 c).arrAt 7 cfg0.N = res7 c m :=
  (dats m 0 c).arrAt_eq_of_cover 7 _ (fun t _ => flush7' c m t) ((by decide +kernel : (cfg0.win 7).Covers).cover _ (Memref.isWhole_whole _))

end

/-! ## The reference -/

section
open Cert.Reference12Ideal Cert.Reference12Ideal.Read

variable (x0 : (⟨S8x2x2048, .f32⟩ : BufTy).Contents (Elt Ideal)) (x1 x2 x3 : (⟨S2x2048, .f32⟩ : BufTy).Contents (Elt Ideal))
  (l : Fin 2) (j : Fin 2048)

theorem v0_apply : val_main_v0 (F := Ideal) x0 (ix2 l j) = grad fun k => x0 (ix3 k l j) := by
  refine (val_main_v0_apply x0 (ix2 l j)).trans ?_
  refine (zero_add_sum (by rw [val_main_cst_apply]; exact zero_eq) _).trans (congr fun k => ?_)
  refine congrArg x0 (funext fun a => Fin.ext ?_)
  match a with
  | ⟨0, _⟩ => rfl
  | ⟨1, _⟩ => rfl
  | ⟨2, _⟩ => rfl

theorem v5_apply : val_main_v5 (F := Ideal) x0 x2 (ix2 l j) = mom (x2 (ix2 l j)) (val_main_v0 (F := Ideal) x0 (ix2 l j)) := by
  unfold mom
  pointwise [val_main_v5, val_main_v4, val_main_v3, val_main_cst_1, val_main_v2, val_main_v1, val_main_cst_0]

theorem v11_apply : val_main_v11 (F := Ideal) x0 x3 (ix2 l j) = vel (x3 (ix2 l j)) (val_main_v0 (F := Ideal) x0 (ix2 l j)) := by
  unfold vel
  pointwise [val_main_v11, val_main_v10, val_main_v9, val_main_cst_3, val_main_v8, val_main_v7, val_main_v6, val_main_cst_2]

theorem v24_apply : val_main_v24 (F := Ideal) x0 x1 x2 x3 (ix2 l j)
    = delta (x1 (ix2 l j)) (x2 (ix2 l j)) (x3 (ix2 l j)) (val_main_v0 (F := Ideal) x0 (ix2 l j)) := by
  unfold delta
  rw [← v5_apply, ← v11_apply]
  pointwise [val_main_v24, val_main_v23, val_main_cst_8, val_main_v22, val_main_v21, val_main_v20, val_main_cst_7, val_main_v19, val_main_v18,
    val_main_v17, val_main_cst_6, val_main_v16, val_main_v15, val_main_v14, val_main_cst_5, val_main_v13, val_main_v12, val_main_cst_4]

end

/-! ## The claim -/

section
open Cert.Kernel12Ideal Cert.Kernel12Ideal.Gen
variable (c : Dev nD) (m : (ℓ : Loc nD τ sig) → Buf (Elt Ideal) ℓ)

theorem ref4 : Reference12Ideal.Read.val_main_v25 (F := Ideal) (pA c m) = res4 c m := by
  funext i
  change S32x128.Idx at i
  obtain ⟨r, q, rfl⟩ : ∃ r q, i = ix2 r q := ⟨_, _, eq_ix2 i⟩
  unfold Reference12Ideal.Read.val_main_v25
  refine (rows2 (Reference12Ideal.Read.val_main_v0 (F := Ideal) (pA c m)) r q _).trans ?_
  rw [v0_apply]
  rfl

theorem ref5 : Reference12Ideal.Read.val_main_v26 (F := Ideal) (pA c m) (wA c m) (mA c m) (vA c m) = res5 c m := by
  funext i
  change S32x128.Idx at i
  obtain ⟨r, q, rfl⟩ : ∃ r q, i = ix2 r q := ⟨_, _, eq_ix2 i⟩
  unfold Reference12Ideal.Read.val_main_v26
  refine (rows2 (Reference12Ideal.Read.val_main_v24 (F := Ideal) (pA c m) (wA c m) (mA c m) (vA c m)) r q _).trans ?_
  rw [v24_apply, v0_apply]
  rfl

theorem ref6 : Reference12Ideal.Read.val_main_v27 (F := Ideal) (pA c m) (mA c m) = res6 c m := by
  funext i
  change S32x128.Idx at i
  obtain ⟨r, q, rfl⟩ : ∃ r q, i = ix2 r q := ⟨_, _, eq_ix2 i⟩
  unfold Reference12Ideal.Read.val_main_v27
  refine (rows2 (Reference12Ideal.Read.val_main_v5 (F := Ideal) (pA c m) (mA c m)) r q _).trans ?_
  rw [v5_apply, v0_apply]
  rfl

theorem ref7 : Reference12Ideal.Read.val_main_v28 (F := Ideal) (pA c m) (vA c m) = res7 c m := by
  funext i
  change S32x128.Idx at i
  obtain ⟨r, q, rfl⟩ : ∃ r q, i = ix2 r q := ⟨_, _, eq_ix2 i⟩
  unfold Reference12Ideal.Read.val_main_v28
  refine (rows2 (Reference12Ideal.Read.val_main_v11 (F := Ideal) (pA c m) (vA c m)) r q _).trans ?_
  rw [v11_apply, v0_apply]
  rfl

end

theorem claim : Cert.algebraic_Kernel12Ideal_Reference12Ideal := by
  intro m g m' g' _ hagree
  refine ⟨fun c => (Kernel12Ideal.Gen.dats m 0 c).arrAt 4 Kernel12Ideal.cfg0.N, fun c => (Kernel12Ideal.Gen.dats m 0 c).arrAt 5 Kernel12Ideal.cfg0.N,
    fun c => (Kernel12Ideal.Gen.dats m 0 c).arrAt 6 Kernel12Ideal.cfg0.N, fun c => (Kernel12Ideal.Gen.dats m 0 c).arrAt 7 Kernel12Ideal.cfg0.N,
    Kernel12Ideal.Value.run_blocks m g, ?_⟩
  refine (θ_run Reference12Ideal.defs _ _).mono (fun r h c => ?_) (Reference12Ideal.Value.run m' g')
  obtain ⟨h0, h1, h2, h3, hk⟩ := h c
  obtain ⟨a0, a1, a2, a3⟩ := hagree c
  refine ⟨h0.trans ((Reference12Ideal.Read.val_main_v25_eq _).trans ?_), h1.trans ((Reference12Ideal.Read.val_main_v26_eq _ _ _ _).trans ?_),
    h2.trans ((Reference12Ideal.Read.val_main_v27_eq _ _).trans ?_), h3.trans ((Reference12Ideal.Read.val_main_v28_eq _ _).trans ?_), hk⟩
  · rw [a0]
    exact (ref4 c m).trans (final4 c m).symm
  · rw [a0, a1, a2, a3]
    exact (ref5 c m).trans (final5 c m).symm
  · rw [a0, a2]
    exact (ref6 c m).trans (final6 c m).symm
  · rw [a0, a3]
    exact (ref7 c m).trans (final7 c m).symm

end Cert.Proj.AdamNorm

end
-- ==== Proof.Proj.StepZero.lean ====
/- One AdamW step where the weight, its moments and its gradients are all zero: every result is zero. -/
module

public import proofs.«01_k».proof.Proof.Proj.Step

@[expose] public section

noncomputable section

open Idealize.ShloMosaic

namespace Cert.Proj.Step

theorem grad_zero : (grad fun _ => 0) = 0 := by
  unfold grad
  simp

theorem mom_zero : mom 0 (grad fun _ => 0) = 0 := by
  rw [grad_zero]
  unfold mom
  rw [mul_zero, mul_zero, add_zero]

theorem vel_zero : vel 0 (grad fun _ => 0) = 0 := by
  rw [grad_zero]
  unfold vel
  rw [mul_zero, mul_zero, mul_zero, add_zero]

theorem ne_zero_of_pos {b : BitVec 32} (h : ∃ e : ℝ, 0 < e ∧ Ideal.ofBits .f32 b = (e : EReal)) : Ideal.ofBits .f32 b ≠ 0 := by
  obtain ⟨e, he, hb⟩ := h
  rw [hb]
  exact_mod_cast he.ne'

theorem first_ne : Ideal.ofBits .f32 0x3F26BD02#32 ≠ 0 :=
  ne_zero_of_pos ⟨10927362 * (2 ^ 24)⁻¹, by norm_num, by simp [Ideal.ofBits, Ideal.ieee]⟩

theorem second_ne : Ideal.ofBits .f32 0x3C231ACC#32 ≠ 0 :=
  ne_zero_of_pos ⟨10689228 * (2 ^ 30)⁻¹, by norm_num, by simp [Ideal.ofBits, Ideal.ieee]⟩

theorem eps_ne : Ideal.ofBits .f32 0x322BCC77#32 ≠ 0 :=
  ne_zero_of_pos ⟨11258999 * (2 ^ 50)⁻¹, by norm_num, by simp [Ideal.ofBits, Ideal.ieee]⟩

theorem sqrt_zero : Ideal.sqrt 0 = 0 := by
  show (if (0 : ℝ) < 0 then ⊥ else (Real.sqrt 0 : EReal)) = 0
  simp

theorem zero_div {c : EReal} (h : c ≠ 0) : Ideal.div 0 c = 0 := by
  unfold Ideal.div
  rw [if_neg h, zero_mul]

theorem delta_zero : delta 0 0 0 (grad fun _ => 0) = 0 := by
  unfold delta
  rw [mom_zero, vel_zero, zero_div first_ne, zero_div second_ne, sqrt_zero, zero_add, zero_div eps_ne, mul_zero, add_zero, mul_zero]

end Cert.Proj.Step

end
-- ==== Proof.Proj.Rows.lean ====
/- Arrays written one after another in rows of 128, each filled up to a whole number of rows: an entry of the result is an entry of one of
   the arrays, or what fills. Once for arrays of rows and once for one such array per device. -/
module

public import Idealize.ShloMosaic.Lib.Pointwise
public import Idealize.ShloMosaic.Lib.KernelVsHost
public import Idealize.ShloMosaic.Lib.Pipeline.Value

@[expose] public section

noncomputable section

open Idealize.ShloMosaic

namespace Cert.Proj.Rows

/-- `n` rows, and `n` rows for each of the eight devices. -/
abbrev R2 (n : Nat) : Shape := ⟨2, ![n, 128]⟩
abbrev R3 (n : Nat) : Shape := ⟨3, ![8, n, 128]⟩

/-- The entry of an array that lands at entry `q` of row `p`. -/
theorem place {s : Shape} {n : Nat} (hs : s.ShapeCasts (R2 n)) (p : Fin n) (q : Fin 128) :
    ∃ j : s.Idx, (s.rowMajor j).val = p.val * 128 + q.val := by
  have e : ((R2 n).rowMajor (ix2 p q)).val = p.val * 128 + q.val := by
    rw [Shape.rowMajor_val_two]
    rfl
  refine ⟨s.rowMajor.symm (Fin.cast hs ((R2 n).rowMajor (ix2 p q))), ?_⟩
  rw [Equiv.apply_symm_apply]
  exact e

section
variable {R n N hi off k : Nat} {s u : Shape} (xs : List ((s : Shape) × (s.Idx → Elt Ideal .f32)))
  (h : Shape.Concatenates (xs.map (·.1)) (R2 R) 0) (hk : k < xs.length)
  (w : s.Idx → Elt Ideal .f32) (hs : s.ShapeCasts (R2 n)) (z : u.Idx → Elt Ideal .f32)
  (hp : (R2 n).Pads (![0, 0] : Fin 2 → Nat) ![hi, 0] ![0, 0] (R2 N)) (hu : 0 < u.numel)
  (hxk : xs[k] = ⟨R2 N, pad (R2 N) ![0, 0] ![hi, 0] ![0, 0] (shapeCast (R2 n) w hs) z hp hu⟩)
  (hpre : (((xs.take k).map (·.1)).map fun s =>
    if h : s.rank = (R2 R).rank then s.size ((0 : Fin (R2 R).rank).cast h.symm) else 0).sum = off)
  (P : Fin R) (q : Fin 128)

include hxk hpre

theorem piece2 (p : Fin N) (h1 : P.val = off + p.val) :
    concatenate (R2 R) 0 xs h (ix2 P q) = pad (R2 N) ![0, 0] ![hi, 0] ![0, 0] (shapeCast (R2 n) w hs) z hp hu (ix2 p q) :=
  concatenate_apply_piece (t := R2 R) 0 xs h (ix2 P q) k hk (R2 N) _ hxk rfl off hpre (ix2 p q)
    (fun b hb => by
      match b with
      | ⟨0, _⟩ => exact absurd rfl hb
      | ⟨1, _⟩ => rfl)
    h1.symm

theorem entry2 (h1 : off ≤ P.val) (h2 : P.val < off + n) (hn : n ≤ N) (j : s.Idx)
    (hj : (s.rowMajor j).val = (P.val - off) * 128 + q.val) : concatenate (R2 R) 0 xs h (ix2 P q) = w j := by
  refine (piece2 xs h hk w hs z hp hu hxk hpre P q ⟨P.val - off, by omega⟩ (by show P.val = off + (P.val - off); omega)).trans ?_
  refine (pad_apply_of_inside _ _ _ _ z _ _ _ (ix2 (⟨P.val - off, by omega⟩ : Fin n) q) (fun a => ?_)).trans ?_
  · match a with
    | ⟨0, _⟩ => show P.val - off = 0 + (P.val - off) * (0 + 1); omega
    | ⟨1, _⟩ => show q.val = 0 + q.val * (0 + 1); omega
  · refine shapeCast_apply w hs _ j (hj.trans ?_)
    rw [Shape.rowMajor_val_two]
    rfl

theorem zero2 (h1 : off + n ≤ P.val) (h2 : P.val < off + N) :
    concatenate (R2 R) 0 xs h (ix2 P q) = z (Shape.Idx.first hu) := by
  refine (piece2 xs h hk w hs z hp hu hxk hpre P q ⟨P.val - off, by omega⟩ (by show P.val = off + (P.val - off); omega)).trans ?_
  refine pad_apply_of_not_inside _ _ _ _ z _ _ _ 0 fun hin => ?_
  have h3 : (P.val - off - 0) / (0 + 1) < n := hin.2.2
  omega

end

section
variable {R n N hi off k : Nat} {s u : Shape} (xs : List ((s : Shape) × (s.Idx → Elt Ideal .f32)))
  (h : Shape.Concatenates (xs.map (·.1)) (R3 R) 1) (hk : k < xs.length)
  (w : s.Idx → Elt Ideal .f32) (hs : s.ShapeCasts (R3 n)) (z : u.Idx → Elt Ideal .f32)
  (hp : (R3 n).Pads (![0, 0, 0] : Fin 3 → Nat) ![0, hi, 0] ![0, 0, 0] (R3 N)) (hu : 0 < u.numel)
  (hxk : xs[k] = ⟨R3 N, pad (R3 N) ![0, 0, 0] ![0, hi, 0] ![0, 0, 0] (shapeCast (R3 n) w hs) z hp hu⟩)
  (hpre : (((xs.take k).map (·.1)).map fun s =>
    if h : s.rank = (R3 R).rank then s.size ((1 : Fin (R3 R).rank).cast h.symm) else 0).sum = off)
  (d : Fin 8) (P : Fin R) (q : Fin 128)

include hxk hpre

theorem piece3 (p : Fin N) (h1 : P.val = off + p.val) :
    concatenate (R3 R) 1 xs h (ix3 d P q) = pad (R3 N) ![0, 0, 0] ![0, hi, 0] ![0, 0, 0] (shapeCast (R3 n) w hs) z hp hu (ix3 d p q) :=
  concatenate_apply_piece (t := R3 R) 1 xs h (ix3 d P q) k hk (R3 N) _ hxk rfl off hpre (ix3 d p q)
    (fun b hb => by
      match b with
      | ⟨0, _⟩ => rfl
      | ⟨1, _⟩ => exact absurd rfl hb
      | ⟨2, _⟩ => rfl)
    h1.symm

theorem entry3 (h1 : off ≤ P.val) (h2 : P.val < off + n) (hn : n ≤ N) (j : s.Idx)
    (hj : (s.rowMajor j).val = (d.val * n + (P.val - off)) * 128 + q.val) : concatenate (R3 R) 1 xs h (ix3 d P q) = w j := by
  refine (piece3 xs h hk w hs z hp hu hxk hpre d P q ⟨P.val - off, by omega⟩ (by show P.val = off + (P.val - off); omega)).trans ?_
  refine (pad_apply_of_inside _ _ _ _ z _ _ _ (ix3 d (⟨P.val - off, by omega⟩ : Fin n) q) (fun a => ?_)).trans ?_
  · match a with
    | ⟨0, _⟩ => show d.val = 0 + d.val * (0 + 1); omega
    | ⟨1, _⟩ => show P.val - off = 0 + (P.val - off) * (0 + 1); omega
    | ⟨2, _⟩ => show q.val = 0 + q.val * (0 + 1); omega
  · refine shapeCast_apply w hs _ j (hj.trans ?_)
    rw [Shape.rowMajor_val_three]
    rfl

theorem zero3 (h1 : off + n ≤ P.val) (h2 : P.val < off + N) :
    concatenate (R3 R) 1 xs h (ix3 d P q) = z (Shape.Idx.first hu) := by
  refine (piece3 xs h hk w hs z hp hu hxk hpre d P q ⟨P.val - off, by omega⟩ (by show P.val = off + (P.val - off); omega)).trans ?_
  refine pad_apply_of_not_inside _ _ _ _ z _ _ _ 1 fun hin => ?_
  have h3 : (P.val - off - 0) / (0 + 1) < n := hin.2.2
  omega

end

end Cert.Proj.Rows

end
-- ==== Proof.Proj.AdamSmall.lean ====
/- One AdamW step on the latent projections and the gates' second factors (`mla_wq_b`, `mla_wkv_b`, `gla_wa2_f`, `gla_wa2_b`), packed in
   rows of 128 with zero rows between them: the devices' gradients summed, the new moments and the change of the weights. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Proj.StepZero
public import proofs.«01_k».proof.Proof.Proj.Rows
public import Idealize.ShloMosaic.Lib.Pointwise
public import Idealize.ShloMosaic.Lib.Tactic
public import Idealize.ShloMosaic.Lib.KernelVsHost
public import Idealize.ShloMosaic.Lib.Pipeline.Value
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.Proj.AdamSmall

open Cert.Proj.Step Cert.Proj.Rows

section
open Cert.Kernel15Ideal Cert.Kernel15Ideal.Gen Cert.Kernel15Ideal.Value

/-! ## What the call stores -/

theorem hz2 : (![0, 0] : Fin 2 → Nat) = fun _ => 0 := funext fun a => by fin_cases a <;> rfl

theorem ld_part {F : FTy → Type} (x : Vec F S8x1312x128 .f32) (k : Fin 8) (r : Fin 1312) (q : Fin 128)
    (h : ∀ a, (![k.val, 0, 0] : Fin 3 → Nat) a + S1x1312x128.size a ≤ S8x1312x128.size a) :
    (View.ld x (Rect.unit (s := S8x1312x128) ![k.val, 0, 0] S1x1312x128.size h) : Vec F S1x1312x128 .f32) (ix3 0 r q) = x (ix3 k r q) := by
  refine congrArg x (funext fun a => Fin.ext ?_)
  match a with
  | ⟨0, _⟩ => show k.val + 1 * 0 = k.val; omega
  | ⟨1, _⟩ => show 0 + 1 * r.val = r.val; omega
  | ⟨2, _⟩ => show 0 + 1 * q.val = q.val; omega

section
variable (g w m v : Vec Ideal S1312x128 .f32) (y0 y1 y2 y3 y4 y5 y6 y7 : Vec Ideal S1x1312x128 .f32) (r : Fin 1312) (q : Fin 128)

theorem pay3_apply : k0_pay3 (F := Ideal) y0 y1 y2 y3 y4 y5 y6 y7 (ix2 r q) = y0 (ix3 0 r q) + y1 (ix3 0 r q) + y2 (ix3 0 r q) + y3 (ix3 0 r q)
      + y4 (ix3 0 r q) + y5 (ix3 0 r q) + y6 (ix3 0 r q) + y7 (ix3 0 r q) := by
  pointwise [k0_pay3]

theorem pay4_apply : k0_pay4 (F := Ideal) y0 y1 y2 y3 y4 y5 y6 y7 m (ix2 r q)
    = mom (m (ix2 r q)) (k0_pay3 (F := Ideal) y0 y1 y2 y3 y4 y5 y6 y7 (ix2 r q)) := by
  unfold mom k0_pay4
  generalize k0_pay3 (F := Ideal) y0 y1 y2 y3 y4 y5 y6 y7 = s
  pointwise []

theorem pay1_apply : k0_pay1 (F := Ideal) g v (ix2 r q) = vel (v (ix2 r q)) (g (ix2 r q)) := by
  unfold vel
  pointwise [k0_pay1]

end

variable (x : Vec Ideal S8x1312x128 .f32) (w m v : Vec Ideal S1312x128 .f32) (r : Fin 1312) (q : Fin 128)

theorem sum_apply : k0_pay5 (F := Ideal) x w m v (ix2 r q) = grad fun k => x (ix3 k r q) :=
  (pay3_apply _ _ _ _ _ _ _ _ r q).trans (plus (plus (plus (plus (plus (plus (plus (ld_part x 0 r q _) (ld_part x 1 r q _)) (ld_part x 2 r q _))
    (ld_part x 3 r q _)) (ld_part x 4 r q _)) (ld_part x 5 r q _)) (ld_part x 6 r q _)) (ld_part x 7 r q _))

theorem mom_apply : k0_pay6 (F := Ideal) x w m v (ix2 r q) = mom (m (ix2 r q)) (grad fun k => x (ix3 k r q)) := by
  unfold k0_pay6
  rw [View.ld_unit_zero (S := S1312x128) hz2]
  exact (pay4_apply _ _ _ _ _ _ _ _ _ r q).trans (mom2 rfl (sum_apply x w m v r q))

/-- The change of a weight from its two new moments. -/
theorem pay2_apply (g n : Vec Ideal S1312x128 .f32) (e : EReal) (hg : g (ix2 r q) = e) (hn : n (ix2 r q) = mom (m (ix2 r q)) e) :
    k0_pay2 (F := Ideal) g n v w (ix2 r q) = delta (w (ix2 r q)) (m (ix2 r q)) (v (ix2 r q)) e := by
  have h1 : k0_pay1 (F := Ideal) g v (ix2 r q) = vel (v (ix2 r q)) e := (pay1_apply g v r q).trans (vel2 rfl hg)
  unfold delta
  rw [← h1, ← hn]
  unfold k0_pay2
  generalize k0_pay1 (F := Ideal) g v = s
  pointwise []

theorem out4 : out0_4 (F := Ideal) x w m v (ix2 r q) = grad fun k => x (ix3 k r q) := by
  unfold out0_4
  rw [View.canon_unit_zero hz2]
  exact sum_apply x w m v r q

theorem out5 : out0_5 (F := Ideal) x w m v (ix2 r q) = delta (w (ix2 r q)) (m (ix2 r q)) (v (ix2 r q)) (grad fun k => x (ix3 k r q)) := by
  unfold out0_5
  rw [View.canon_unit_zero hz2, View.ld_unit_zero (S := S1312x128) hz2, View.ld_unit_zero (S := S1312x128) hz2]
  exact pay2_apply w m v r q _ _ _ (sum_apply x w m v r q) (mom_apply x w m v r q)

theorem out6 : out0_6 (F := Ideal) x w m v (ix2 r q) = mom (m (ix2 r q)) (grad fun k => x (ix3 k r q)) := by
  unfold out0_6
  rw [View.canon_unit_zero hz2]
  exact mom_apply x w m v r q

theorem out7 : out0_7 (F := Ideal) x w m v (ix2 r q) = vel (v (ix2 r q)) (grad fun k => x (ix3 k r q)) := by
  unfold out0_7
  rw [View.canon_unit_zero hz2, View.ld_unit_zero (S := S1312x128) hz2]
  exact (pay1_apply _ _ r q).trans (vel2 rfl (sum_apply x w m v r q))

end

section
open Cert.Kernel15Ideal Cert.Kernel15Ideal.Gen Cert.Kernel15Ideal.Value

/-! ## The arrays in rows of 128 -/

abbrev A512x96 : Type := Vec Ideal S2x512x96 .f32
abbrev D512x96 : Type := Vec Ideal S8x2x512x96 .f32
abbrev A256x128 : Type := Vec Ideal S2x256x128 .f32
abbrev D256x128 : Type := Vec Ideal S8x2x256x128 .f32
abbrev A16x32 : Type := Vec Ideal S2x16x32 .f32
abbrev D16x32 : Type := Vec Ideal S8x2x16x32 .f32

/-- What fills the rows that no weight uses. -/
abbrev zf : Vec Ideal S_ .f32 := sitofp (F := Ideal) .f32 (constantI S_ 32 0#32)

theorem zf_apply (i : S_.Idx) : zf i = 0 := sitofp_zero (φ := .f32)

abbrev row512x96 (x : A512x96) : Vec Ideal S768x128 .f32 :=
  pad S768x128 ![0, 0] ![0, 0] ![0, 0] (shapeCast S768x128 x shapeCasts_S2x512x96_S768x128) zf pads_S768x128_S768x128_000_000 h_S_

abbrev row3_512x96 (x : D512x96) : Vec Ideal S8x768x128 .f32 :=
  pad S8x768x128 ![0, 0, 0] ![0, 0, 0] ![0, 0, 0] (shapeCast S8x768x128 x shapeCasts_S8x2x512x96_S8x768x128) zf pads_S8x768x128_S8x768x128_000_000_000 h_S_

abbrev row256x128 (x : A256x128) : Vec Ideal S512x128 .f32 :=
  pad S512x128 ![0, 0] ![0, 0] ![0, 0] (shapeCast S512x128 x shapeCasts_S2x256x128_S512x128) zf pads_S512x128_S512x128_000_000 h_S_

abbrev row3_256x128 (x : D256x128) : Vec Ideal S8x512x128 .f32 :=
  pad S8x512x128 ![0, 0, 0] ![0, 0, 0] ![0, 0, 0] (shapeCast S8x512x128 x shapeCasts_S8x2x256x128_S8x512x128) zf pads_S8x512x128_S8x512x128_000_000_000 h_S_

abbrev row16x32 (x : A16x32) : Vec Ideal S16x128 .f32 :=
  pad S16x128 ![0, 0] ![8, 0] ![0, 0] (shapeCast S8x128 x shapeCasts_S2x16x32_S8x128) zf pads_S8x128_S16x128_080_000 h_S_

abbrev row3_16x32 (x : D16x32) : Vec Ideal S8x16x128 .f32 :=
  pad S8x16x128 ![0, 0, 0] ![0, 8, 0] ![0, 0, 0] (shapeCast S8x8x128 x shapeCasts_S8x2x16x32_S8x8x128) zf pads_S8x8x128_S8x16x128_000_080_000 h_S_

/-- One array for each weight: the weights, a moment, a change. -/
@[ext] structure Ws where
  (a0 : A512x96) (a1 : A256x128) (a2 a3 : A16x32)

/-- The eight devices' gradients of each weight. -/
@[ext] structure Ds where
  (a0 : D512x96) (a1 : D256x128) (a2 a3 : D16x32)

/-- The weights (or their moments) one after the other. -/
abbrev pkL (w : Ws) : List ((s : Shape) × (s.Idx → Elt Ideal .f32)) :=
  [⟨S768x128, row512x96 w.a0⟩,
    ⟨S512x128, row256x128 w.a1⟩,
    ⟨S16x128, row16x32 w.a2⟩,
    ⟨S16x128, row16x32 w.a3⟩]

theorem cat2 (w : Ws) : Shape.Concatenates ((pkL w).map (·.1)) S1312x128 0 := concatenates_S768x128_S512x128_S16x128_S16x128_S1312x128_d0

def pk (w : Ws) : Vec Ideal S1312x128 .f32 := concatenate S1312x128 0 (pkL w) (cat2 w)

/-- The eight devices' gradients one after the other. -/
abbrev pk3L (p : Ds) : List ((s : Shape) × (s.Idx → Elt Ideal .f32)) :=
  [⟨S8x768x128, row3_512x96 p.a0⟩,
    ⟨S8x512x128, row3_256x128 p.a1⟩,
    ⟨S8x16x128, row3_16x32 p.a2⟩,
    ⟨S8x16x128, row3_16x32 p.a3⟩]

theorem cat3 (p : Ds) : Shape.Concatenates ((pk3L p).map (·.1)) S8x1312x128 1 := concatenates_S8x768x128_S8x512x128_S8x16x128_S8x16x128_S8x1312x128_d1

def pk3 (p : Ds) : Vec Ideal S8x1312x128 .f32 := concatenate S8x1312x128 1 (pk3L p) (cat3 p)

section
variable (P : Fin 1312) (q : Fin 128)

/-- Entry `q` of row `P` is an entry of weight 0. -/
def Seg0 : Prop := ∃ j : S2x512x96.Idx,
      (∀ (w : Ws), pk w (ix2 P q) = w.a0 j)
      ∧ (∀ (p : Ds) (k : Fin 8), pk3 p (ix3 k P q) = p.a0 (Reference15Ideal.Read.idx_main_v0 j k))

/-- Entry `q` of row `P` is an entry of weight 1. -/
def Seg1 : Prop := ∃ j : S2x256x128.Idx,
      (∀ (w : Ws), pk w (ix2 P q) = w.a1 j)
      ∧ (∀ (p : Ds) (k : Fin 8), pk3 p (ix3 k P q) = p.a1 (Reference15Ideal.Read.idx_main_v25 j k))

/-- Entry `q` of row `P` is an entry of weight 2. -/
def Seg2 : Prop := ∃ j : S2x16x32.Idx,
      (∀ (w : Ws), pk w (ix2 P q) = w.a2 j)
      ∧ (∀ (p : Ds) (k : Fin 8), pk3 p (ix3 k P q) = p.a2 (Reference15Ideal.Read.idx_main_v50 j k))

/-- Entry `q` of row `P` is an entry of weight 3. -/
def Seg3 : Prop := ∃ j : S2x16x32.Idx,
      (∀ (w : Ws), pk w (ix2 P q) = w.a3 j)
      ∧ (∀ (p : Ds) (k : Fin 8), pk3 p (ix3 k P q) = p.a3 (Reference15Ideal.Read.idx_main_v75 j k))

/-- Entry `q` of row `P` is zero. -/
def Zero : Prop := (∀ (w : Ws), pk w (ix2 P q) = 0)
      ∧ (∀ (p : Ds) (k : Fin 8), pk3 p (ix3 k P q) = 0)

theorem seg0 (h : 0 ≤ P.val) (h' : P.val < 768) : Seg0 P q := by
  obtain ⟨j, hj⟩ := place shapeCasts_S2x512x96_S768x128 (⟨P.val - 0, by omega⟩ : Fin 768) q
  refine ⟨j, fun w => entry2 (pkL w) (cat2 w) (k := 0) (by show 0 < 4; decide)
    w.a0 _ zf _ _ rfl rfl P q h h' (by decide) j hj, fun p k => entry3 (pk3L p)
    (cat3 p) (k := 0) (by show 0 < 4; decide)
    p.a0 _ zf _ _ rfl rfl k P q h h' (by decide) _ ?_⟩
  rewrite [Shape.rowMajor_val_three] at hj
  replace hj : (((j 0).val) * 512 + (j 1).val) * 96 + (j 2).val = (P.val - 0) * 128 + q.val := hj
  rewrite [Shape.rowMajor_val_four]
  show (((k.val) * 2 + (j 0).val) * 512 + (j 1).val) * 96 + (j 2).val = (k.val * 768 + (P.val - 0)) * 128 + q.val
  omega

theorem seg1 (h : 768 ≤ P.val) (h' : P.val < 1280) : Seg1 P q := by
  obtain ⟨j, hj⟩ := place shapeCasts_S2x256x128_S512x128 (⟨P.val - 768, by omega⟩ : Fin 512) q
  refine ⟨j, fun w => entry2 (pkL w) (cat2 w) (k := 1) (by show 1 < 4; decide)
    w.a1 _ zf _ _ rfl rfl P q h h' (by decide) j hj, fun p k => entry3 (pk3L p)
    (cat3 p) (k := 1) (by show 1 < 4; decide)
    p.a1 _ zf _ _ rfl rfl k P q h h' (by decide) _ ?_⟩
  rewrite [Shape.rowMajor_val_three] at hj
  replace hj : (((j 0).val) * 256 + (j 1).val) * 128 + (j 2).val = (P.val - 768) * 128 + q.val := hj
  rewrite [Shape.rowMajor_val_four]
  show (((k.val) * 2 + (j 0).val) * 256 + (j 1).val) * 128 + (j 2).val = (k.val * 512 + (P.val - 768)) * 128 + q.val
  omega

theorem seg2 (h : 1280 ≤ P.val) (h' : P.val < 1288) : Seg2 P q := by
  obtain ⟨j, hj⟩ := place shapeCasts_S2x16x32_S8x128 (⟨P.val - 1280, by omega⟩ : Fin 8) q
  refine ⟨j, fun w => entry2 (pkL w) (cat2 w) (k := 2) (by show 2 < 4; decide)
    w.a2 _ zf _ _ rfl rfl P q h h' (by decide) j hj, fun p k => entry3 (pk3L p)
    (cat3 p) (k := 2) (by show 2 < 4; decide)
    p.a2 _ zf _ _ rfl rfl k P q h h' (by decide) _ ?_⟩
  rewrite [Shape.rowMajor_val_three] at hj
  replace hj : (((j 0).val) * 16 + (j 1).val) * 32 + (j 2).val = (P.val - 1280) * 128 + q.val := hj
  rewrite [Shape.rowMajor_val_four]
  show (((k.val) * 2 + (j 0).val) * 16 + (j 1).val) * 32 + (j 2).val = (k.val * 8 + (P.val - 1280)) * 128 + q.val
  omega

theorem zeroAt2 (h : 1288 ≤ P.val) (h' : P.val < 1296) : Zero P q :=
  ⟨fun w => (zero2 (pkL w) (cat2 w) (k := 2) (by show 2 < 4; decide)
    w.a2 _ zf _ _ rfl (off := 1280) rfl P q h h').trans (zf_apply _), fun p k => (zero3 (pk3L p)
    (cat3 p) (k := 2) (by show 2 < 4; decide)
    p.a2 _ zf _ _ rfl (off := 1280) rfl k P q h h').trans (zf_apply _)⟩

theorem seg3 (h : 1296 ≤ P.val) (h' : P.val < 1304) : Seg3 P q := by
  obtain ⟨j, hj⟩ := place shapeCasts_S2x16x32_S8x128 (⟨P.val - 1296, by omega⟩ : Fin 8) q
  refine ⟨j, fun w => entry2 (pkL w) (cat2 w) (k := 3) (by show 3 < 4; decide)
    w.a3 _ zf _ _ rfl rfl P q h h' (by decide) j hj, fun p k => entry3 (pk3L p)
    (cat3 p) (k := 3) (by show 3 < 4; decide)
    p.a3 _ zf _ _ rfl rfl k P q h h' (by decide) _ ?_⟩
  rewrite [Shape.rowMajor_val_three] at hj
  replace hj : (((j 0).val) * 16 + (j 1).val) * 32 + (j 2).val = (P.val - 1296) * 128 + q.val := hj
  rewrite [Shape.rowMajor_val_four]
  show (((k.val) * 2 + (j 0).val) * 16 + (j 1).val) * 32 + (j 2).val = (k.val * 8 + (P.val - 1296)) * 128 + q.val
  omega

theorem zeroAt3 (h : 1304 ≤ P.val) (h' : P.val < 1312) : Zero P q :=
  ⟨fun w => (zero2 (pkL w) (cat2 w) (k := 3) (by show 3 < 4; decide)
    w.a3 _ zf _ _ rfl (off := 1296) rfl P q h h').trans (zf_apply _), fun p k => (zero3 (pk3L p)
    (cat3 p) (k := 3) (by show 3 < 4; decide)
    p.a3 _ zf _ _ rfl (off := 1296) rfl k P q h h').trans (zf_apply _)⟩

/-- A row is a weight's or a zero row. -/
theorem cases : Seg0 P q ∨ Seg1 P q ∨ Seg2 P q ∨ Seg3 P q ∨ Zero P q := by
  by_cases a0 : P.val < 768
  · exact Or.inl (seg0 P q (by omega) a0)
  by_cases a1 : P.val < 1280
  · exact Or.inr (Or.inl (seg1 P q (by omega) a1))
  by_cases a2 : P.val < 1288
  · exact Or.inr (Or.inr (Or.inl (seg2 P q (by omega) a2)))
  by_cases b2 : P.val < 1296
  · exact Or.inr (Or.inr (Or.inr (Or.inr (zeroAt2 P q (by omega) b2))))
  by_cases a3 : P.val < 1304
  · exact Or.inr (Or.inr (Or.inr (Or.inl (seg3 P q (by omega) a3))))
  by_cases b3 : P.val < 1312
  · exact Or.inr (Or.inr (Or.inr (Or.inr (zeroAt3 P q (by omega) b3))))
  exact absurd P.isLt (by omega)

end

end

/-! ## The reference, weight by weight -/

section
open Cert.Reference15Ideal Cert.Reference15Ideal.Read

section
variable (x0 : (⟨S8x2x512x96, .f32⟩ : BufTy).Contents (Elt Ideal)) (j : S2x512x96.Idx)

theorem g0_apply : val_main_v0 (F := Ideal) x0 j = grad fun k => x0 (idx_main_v0 j k) :=
  (val_main_v0_apply x0 j).trans (zero_add_sum (by rw [val_main_cst_apply]; exact zero_eq) _)

end

section
variable (x0 : (⟨S8x2x256x128, .f32⟩ : BufTy).Contents (Elt Ideal)) (j : S2x256x128.Idx)

theorem g1_apply : val_main_v25 (F := Ideal) x0 j = grad fun k => x0 (idx_main_v25 j k) :=
  (val_main_v25_apply x0 j).trans (zero_add_sum (by rw [val_main_cst_9_apply]; exact zero_eq) _)

end

section
variable (x0 : (⟨S8x2x16x32, .f32⟩ : BufTy).Contents (Elt Ideal)) (j : S2x16x32.Idx)

theorem g2_apply : val_main_v50 (F := Ideal) x0 j = grad fun k => x0 (idx_main_v50 j k) :=
  (val_main_v50_apply x0 j).trans (zero_add_sum (by rw [val_main_cst_19_apply]; exact zero_eq) _)

end

section
variable (x0 : (⟨S8x2x16x32, .f32⟩ : BufTy).Contents (Elt Ideal)) (j : S2x16x32.Idx)

theorem g3_apply : val_main_v75 (F := Ideal) x0 j = grad fun k => x0 (idx_main_v75 j k) :=
  (val_main_v75_apply x0 j).trans (zero_add_sum (by rw [val_main_cst_29_apply]; exact zero_eq) _)

end

end

/-! ## The two sides -/

section
open Cert.Kernel15Ideal Cert.Kernel15Ideal.Gen Cert.Kernel15Ideal.Value

section
variable (p : Ds) (w m v : Ws) (P : Fin 1312) (q : Fin 128)

/-- The sums of the gradients, the changes and the new moments as the reference has them. -/
def gW : Ws :=
  ⟨Reference15Ideal.Read.val_main_v0 (F := Ideal) p.a0,
    Reference15Ideal.Read.val_main_v25 (F := Ideal) p.a1,
    Reference15Ideal.Read.val_main_v50 (F := Ideal) p.a2,
    Reference15Ideal.Read.val_main_v75 (F := Ideal) p.a3⟩
def dW : Ws :=
  ⟨Reference15Ideal.Read.val_main_v24 (F := Ideal) p.a0 w.a0 m.a0 v.a0,
    Reference15Ideal.Read.val_main_v49 (F := Ideal) p.a1 w.a1 m.a1 v.a1,
    Reference15Ideal.Read.val_main_v74 (F := Ideal) p.a2 w.a2 m.a2 v.a2,
    Reference15Ideal.Read.val_main_v99 (F := Ideal) p.a3 w.a3 m.a3 v.a3⟩
def mW : Ws :=
  ⟨Reference15Ideal.Read.val_main_v5 (F := Ideal) p.a0 m.a0,
    Reference15Ideal.Read.val_main_v30 (F := Ideal) p.a1 m.a1,
    Reference15Ideal.Read.val_main_v55 (F := Ideal) p.a2 m.a2,
    Reference15Ideal.Read.val_main_v80 (F := Ideal) p.a3 m.a3⟩
def vW : Ws :=
  ⟨Reference15Ideal.Read.val_main_v11 (F := Ideal) p.a0 v.a0,
    Reference15Ideal.Read.val_main_v36 (F := Ideal) p.a1 v.a1,
    Reference15Ideal.Read.val_main_v61 (F := Ideal) p.a2 v.a2,
    Reference15Ideal.Read.val_main_v86 (F := Ideal) p.a3 v.a3⟩

theorem both_g : (grad fun k => pk3 p (ix3 k P q))
    = pk (gW p) (ix2 P q) := by
  rcases cases P q with ⟨j, h2, h3⟩ | ⟨j, h2, h3⟩ | ⟨j, h2, h3⟩ | ⟨j, h2, h3⟩ | ⟨h2, h3⟩ <;> simp only [h2, h3]
  · exact (g0_apply p.a0 j).symm
  · exact (g1_apply p.a1 j).symm
  · exact (g2_apply p.a2 j).symm
  · exact (g3_apply p.a3 j).symm
  · exact grad_zero

theorem both_d : delta (pk w (ix2 P q)) (pk m (ix2 P q)) (pk v (ix2 P q)) (grad fun k => pk3 p (ix3 k P q))
    = pk (dW p w m v) (ix2 P q) := by
  rcases cases P q with ⟨j, h2, h3⟩ | ⟨j, h2, h3⟩ | ⟨j, h2, h3⟩ | ⟨j, h2, h3⟩ | ⟨h2, h3⟩ <;> simp only [h2, h3]
  · exact (congrArg (delta (w.a0 j) (m.a0 j) (v.a0 j)) (g0_apply p.a0 j)).symm
  · exact (congrArg (delta (w.a1 j) (m.a1 j) (v.a1 j)) (g1_apply p.a1 j)).symm
  · exact (congrArg (delta (w.a2 j) (m.a2 j) (v.a2 j)) (g2_apply p.a2 j)).symm
  · exact (congrArg (delta (w.a3 j) (m.a3 j) (v.a3 j)) (g3_apply p.a3 j)).symm
  · exact delta_zero

theorem both_m : mom (pk m (ix2 P q)) (grad fun k => pk3 p (ix3 k P q))
    = pk (mW p m) (ix2 P q) := by
  rcases cases P q with ⟨j, h2, h3⟩ | ⟨j, h2, h3⟩ | ⟨j, h2, h3⟩ | ⟨j, h2, h3⟩ | ⟨h2, h3⟩ <;> simp only [h2, h3]
  · exact (congrArg (mom (m.a0 j)) (g0_apply p.a0 j)).symm
  · exact (congrArg (mom (m.a1 j)) (g1_apply p.a1 j)).symm
  · exact (congrArg (mom (m.a2 j)) (g2_apply p.a2 j)).symm
  · exact (congrArg (mom (m.a3 j)) (g3_apply p.a3 j)).symm
  · exact mom_zero

theorem both_v : vel (pk v (ix2 P q)) (grad fun k => pk3 p (ix3 k P q))
    = pk (vW p v) (ix2 P q) := by
  rcases cases P q with ⟨j, h2, h3⟩ | ⟨j, h2, h3⟩ | ⟨j, h2, h3⟩ | ⟨j, h2, h3⟩ | ⟨h2, h3⟩ <;> simp only [h2, h3]
  · exact (congrArg (vel (v.a0 j)) (g0_apply p.a0 j)).symm
  · exact (congrArg (vel (v.a1 j)) (g1_apply p.a1 j)).symm
  · exact (congrArg (vel (v.a2 j)) (g2_apply p.a2 j)).symm
  · exact (congrArg (vel (v.a3 j)) (g3_apply p.a3 j)).symm
  · exact vel_zero

end

/-! ## The arguments and what the host makes of them -/

variable (c : Dev nD) (m : (ℓ : Loc nD τ sig) → Buf (Elt Ideal) ℓ)

def pA : Ds :=
  ⟨m ((c : Thread nD τ).loc main_arg0),
    m ((c : Thread nD τ).loc main_arg1),
    m ((c : Thread nD τ).loc main_arg2),
    m ((c : Thread nD τ).loc main_arg3)⟩
def wA : Ws :=
  ⟨m ((c : Thread nD τ).loc main_arg4),
    m ((c : Thread nD τ).loc main_arg5),
    m ((c : Thread nD τ).loc main_arg6),
    m ((c : Thread nD τ).loc main_arg7)⟩
def mA : Ws :=
  ⟨m ((c : Thread nD τ).loc main_arg8),
    m ((c : Thread nD τ).loc main_arg9),
    m ((c : Thread nD τ).loc main_arg10),
    m ((c : Thread nD τ).loc main_arg11)⟩
def vA : Ws :=
  ⟨m ((c : Thread nD τ).loc main_arg12),
    m ((c : Thread nD τ).loc main_arg13),
    m ((c : Thread nD τ).loc main_arg14),
    m ((c : Thread nD τ).loc main_arg15)⟩

set_option maxHeartbeats 0 in
theorem V_main_v8 : V m c main_v8 = pk3 (pA c m) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32])
    (fun b => m (c, b)) (Proc.devRef .tc main_v8) = _
  simp only [List.flatten_cons, List.flatten_nil, List.append_nil, List.cons_append, List.nil_append]
  after_results_simp <;> rfl

set_option maxHeartbeats 0 in
theorem V_main_v17 : V m c main_v17 = pk (wA c m) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32])
    (fun b => m (c, b)) (Proc.devRef .tc main_v17) = _
  simp only [List.flatten_cons, List.flatten_nil, List.append_nil, List.cons_append, List.nil_append]
  after_results_simp <;> rfl

set_option maxHeartbeats 0 in
theorem V_main_v26 : V m c main_v26 = pk (mA c m) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32])
    (fun b => m (c, b)) (Proc.devRef .tc main_v26) = _
  simp only [List.flatten_cons, List.flatten_nil, List.append_nil, List.cons_append, List.nil_append]
  after_results_simp <;> rfl

set_option maxHeartbeats 0 in
theorem V_main_v35 : V m c main_v35 = pk (vA c m) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32])
    (fun b => m (c, b)) (Proc.devRef .tc main_v35) = _
  simp only [List.flatten_cons, List.flatten_nil, List.append_nil, List.cons_append, List.nil_append]
  after_results_simp <;> rfl

theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

theorem blk0 (t : Fin cfg0.N) (k : Fin 8) (r : Fin 1312) (q : Fin 128) : (iblk m c 0 t : Vec Ideal S8x1312x128 .f32) (ix3 k r q)
    = pk3 (pA c m) (ix3 k r q) := by
  unfold iblk
  rw [View.read_apply]
  refine Eq.trans ?_ (congrFun (V_main_v8 c m) _)
  show V m c main_v8 _ = V m c main_v8 _
  congr 1
  funext a
  apply Fin.ext
  obtain ⟨h0, h1, h2⟩ := idx0 t
  match a with
  | ⟨0, _⟩ => show win0_0.index t 0 * 8 + 1 * k.val = k.val; omega
  | ⟨1, _⟩ => show win0_0.index t 1 * 1312 + 1 * r.val = r.val; omega
  | ⟨2, _⟩ => show win0_0.index t 2 * 128 + 1 * q.val = q.val; omega

theorem blk1 (t : Fin cfg0.N) (r : Fin 1312) (q : Fin 128) : (iblk m c 1 t : Vec Ideal S1312x128 .f32) (ix2 r q)
    = pk (wA c m) (ix2 r q) := by
  unfold iblk
  rw [View.read_apply]
  refine Eq.trans ?_ (congrFun (V_main_v17 c m) _)
  show V m c main_v17 _ = V m c main_v17 _
  congr 1
  funext a
  apply Fin.ext
  obtain ⟨h0, h1⟩ := idx1 t
  match a with
  | ⟨0, _⟩ => show win0_1.index t 0 * 1312 + 1 * r.val = r.val; omega
  | ⟨1, _⟩ => show win0_1.index t 1 * 128 + 1 * q.val = q.val; omega

theorem blk2 (t : Fin cfg0.N) (r : Fin 1312) (q : Fin 128) : (iblk m c 2 t : Vec Ideal S1312x128 .f32) (ix2 r q)
    = pk (mA c m) (ix2 r q) := by
  unfold iblk
  rw [View.read_apply]
  refine Eq.trans ?_ (congrFun (V_main_v26 c m) _)
  show V m c main_v26 _ = V m c main_v26 _
  congr 1
  funext a
  apply Fin.ext
  obtain ⟨h0, h1⟩ := idx2 t
  match a with
  | ⟨0, _⟩ => show win0_2.index t 0 * 1312 + 1 * r.val = r.val; omega
  | ⟨1, _⟩ => show win0_2.index t 1 * 128 + 1 * q.val = q.val; omega

theorem blk3 (t : Fin cfg0.N) (r : Fin 1312) (q : Fin 128) : (iblk m c 3 t : Vec Ideal S1312x128 .f32) (ix2 r q)
    = pk (vA c m) (ix2 r q) := by
  unfold iblk
  rw [View.read_apply]
  refine Eq.trans ?_ (congrFun (V_main_v35 c m) _)
  show V m c main_v35 _ = V m c main_v35 _
  congr 1
  funext a
  apply Fin.ext
  obtain ⟨h0, h1⟩ := idx3 t
  match a with
  | ⟨0, _⟩ => show win0_3.index t 0 * 1312 + 1 * r.val = r.val; omega
  | ⟨1, _⟩ => show win0_3.index t 1 * 128 + 1 * q.val = q.val; omega

/-! ## The results -/

def res4 : Vec Ideal S1312x128 .f32 := pk (gW (pA c m))
def res5 : Vec Ideal S1312x128 .f32 := pk (dW (pA c m) (wA c m) (mA c m) (vA c m))
def res6 : Vec Ideal S1312x128 .f32 := pk (mW (pA c m) (mA c m))
def res7 : Vec Ideal S1312x128 .f32 := pk (vW (pA c m) (vA c m))

theorem sum_blk (t : Fin cfg0.N) (r : Fin 1312) (q : Fin 128) :
    (grad fun k => (iblk m c 0 t : Vec Ideal S8x1312x128 .f32) (ix3 k r q)) = grad fun k => pk3 (pA c m) (ix3 k r q) :=
  congr fun k => blk0 c m t k r q

theorem val4 (t : Fin cfg0.N) (r : Fin 1312) (q : Fin 128) :
    out0_4 (F := Ideal) (iblk m c 0 t) (iblk m c 1 t) (iblk m c 2 t) (iblk m c 3 t) (ix2 r q) = res4 c m (ix2 r q) :=
  (out4 _ _ _ _ r q).trans ((sum_blk c m t r q).trans (both_g (pA c m) r q))

theorem flush4' (t : Fin cfg0.N) : (dats m 0 c).flushed 4 t = ((cfg0.win 4).blk t).view.read (Elt Ideal) (res4 c m) := by
  rw [flushed4 m c t]
  funext i
  rw [View.read_apply]
  change S1312x128.Idx at i
  obtain ⟨r, q, rfl⟩ : ∃ r q, i = ix2 r q := ⟨_, _, eq_ix2 i⟩
  refine Eq.trans (show _ = out0_4 (F := Ideal) (iblk m c 0 t) (iblk m c 1 t) (iblk m c 2 t) (iblk m c 3 t) (ix2 r q) from rfl) ?_
  refine (val4 c m t r q).trans (congrArg (res4 c m) ?_)
  obtain ⟨i0, i1⟩ := idx4 t
  funext a
  apply Fin.ext
  match a with
  | ⟨0, _⟩ => show r.val = win0_4.index t 0 * 1312 + 1 * r.val; omega
  | ⟨1, _⟩ => show q.val = win0_4.index t 1 * 128 + 1 * q.val; omega

theorem final4 : (dats m 0 c).arrAt 4 cfg0.N = res4 c m :=
  (dats m 0 c).arrAt_eq_of_cover 4 _ (fun t _ => flush4' c m t) ((by decide +kernel : (cfg0.win 4).Covers).cover _ (Memref.isWhole_whole _))

theorem val5 (t : Fin cfg0.N) (r : Fin 1312) (q : Fin 128) :
    out0_5 (F := Ideal) (iblk m c 0 t) (iblk m c 1 t) (iblk m c 2 t) (iblk m c 3 t) (ix2 r q) = res5 c m (ix2 r q) :=
  (out5 _ _ _ _ r q).trans ((delta4 (blk1 c m t r q) (blk2 c m t r q) (blk3 c m t r q) (sum_blk c m t r q)).trans (both_d (pA c m) (wA c m) (mA c m) (vA c m) r q))

theorem flush5' (t : Fin cfg0.N) : (dats m 0 c).flushed 5 t = ((cfg0.win 5).blk t).view.read (Elt Ideal) (res5 c m) := by
  rw [flushed5 m c t]
  funext i
  rw [View.read_apply]
  change S1312x128.Idx at i
  obtain ⟨r, q, rfl⟩ : ∃ r q, i = ix2 r q := ⟨_, _, eq_ix2 i⟩
  refine Eq.trans (show _ = out0_5 (F := Ideal) (iblk m c 0 t) (iblk m c 1 t) (iblk m c 2 t) (iblk m c 3 t) (ix2 r q) from rfl) ?_
  refine (val5 c m t r q).trans (congrArg (res5 c m) ?_)
  obtain ⟨i0, i1⟩ := idx5 t
  funext a
  apply Fin.ext
  match a with
  | ⟨0, _⟩ => show r.val = win0_5.index t 0 * 1312 + 1 * r.val; omega
  | ⟨1, _⟩ => show q.val = win0_5.index t 1 * 128 + 1 * q.val; omega

theorem final5 : (dats m 0 c).arrAt 5 cfg0.N = res5 c m :=
  (dats m 0 c).arrAt_eq_of_cover 5 _ (fun t _ => flush5' c m t) ((by decide +kernel : (cfg0.win 5).Covers).cover _ (Memref.isWhole_whole _))

theorem val6 (t : Fin cfg0.N) (r : Fin 1312) (q : Fin 128) :
    out0_6 (F := Ideal) (iblk m c 0 t) (iblk m c 1 t) (iblk m c 2 t) (iblk m c 3 t) (ix2 r q) = res6 c m (ix2 r q) :=
  (out6 _ _ _ _ r q).trans ((mom2 (blk2 c m t r q) (sum_blk c m t r q)).trans (both_m (pA c m) (mA c m) r q))

theorem flush6' (t : Fin cfg0.N) : (dats m 0 c).flushed 6 t = ((cfg0.win 6).blk t).view.read (Elt Ideal) (res6 c m) := by
  rw [flushed6 m c t]
  funext i
  rw [View.read_apply]
  change S1312x128.Idx at i
  obtain ⟨r, q, rfl⟩ : ∃ r q, i = ix2 r q := ⟨_, _, eq_ix2 i⟩
  refine Eq.trans (show _ = out0_6 (F := Ideal) (iblk m c 0 t) (iblk m c 1 t) (iblk m c 2 t) (iblk m c 3 t) (ix2 r q) from rfl) ?_
  refine (val6 c m t r q).trans (congrArg (res6 c m) ?_)
  obtain ⟨i0, i1⟩ := idx6 t
  funext a
  apply Fin.ext
  match a with
  | ⟨0, _⟩ => show r.val = win0_6.index t 0 * 1312 + 1 * r.val; omega
  | ⟨1, _⟩ => show q.val = win0_6.index t 1 * 128 + 1 * q.val; omega

theorem final6 : (dats m 0 c).arrAt 6 cfg0.N = res6 c m :=
  (dats m 0 c).arrAt_eq_of_cover 6 _ (fun t _ => flush6' c m t) ((by decide +kernel : (cfg0.win 6).Covers).cover _ (Memref.isWhole_whole _))

theorem val7 (t : Fin cfg0.N) (r : Fin 1312) (q : Fin 128) :
    out0_7 (F := Ideal) (iblk m c 0 t) (iblk m c 1 t) (iblk m c 2 t) (iblk m c 3 t) (ix2 r q) = res7 c m (ix2 r q) :=
  (out7 _ _ _ _ r q).trans ((vel2 (blk3 c m t r q) (sum_blk c m t r q)).trans (both_v (pA c m) (vA c m) r q))

theorem flush7' (t : Fin cfg0.N) : (dats m 0 c).flushed 7 t = ((cfg0.win 7).blk t).view.read (Elt Ideal) (res7 c m) := by
  rw [flushed7 m c t]
  funext i
  rw [View.read_apply]
  change S1312x128.Idx at i
  obtain ⟨r, q, rfl⟩ : ∃ r q, i = ix2 r q := ⟨_, _, eq_ix2 i⟩
  refine Eq.trans (show _ = out0_7 (F := Ideal) (iblk m c 0 t) (iblk m c 1 t) (iblk m c 2 t) (iblk m c 3 t) (ix2 r q) from rfl) ?_
  refine (val7 c m t r q).trans (congrArg (res7 c m) ?_)
  obtain ⟨i0, i1⟩ := idx7 t
  funext a
  apply Fin.ext
  match a with
  | ⟨0, _⟩ => show r.val = win0_7.index t 0 * 1312 + 1 * r.val; omega
  | ⟨1, _⟩ => show q.val = win0_7.index t 1 * 128 + 1 * q.val; omega

theorem final7 : (dats m 0 c).arrAt 7 cfg0.N = res7 c m :=
  (dats m 0 c).arrAt_eq_of_cover 7 _ (fun t _ => flush7' c m t) ((by decide +kernel : (cfg0.win 7).Covers).cover _ (Memref.isWhole_whole _))

theorem ref4 {y : Ds} (ep : y = pA c m)  :
    Reference15Ideal.Read.val_main_v108 (F := Ideal) y.a0 y.a1 y.a2 y.a3 = res4 c m := by
  subst ep
  rfl

theorem ref5 {y : Ds} {yw : Ws} {ym : Ws} {yv : Ws} (ep : y = pA c m) (ew : yw = wA c m) (em : ym = mA c m) (ev : yv = vA c m) :
    Reference15Ideal.Read.val_main_v117 (F := Ideal) y.a0 y.a1 y.a2 y.a3 yw.a0 yw.a1 yw.a2 yw.a3 ym.a0 ym.a1 ym.a2 ym.a3 yv.a0 yv.a1 yv.a2 yv.a3 = res5 c m := by
  subst ep ew em ev
  rfl

theorem ref6 {y : Ds} {ym : Ws} (ep : y = pA c m) (em : ym = mA c m) :
    Reference15Ideal.Read.val_main_v126 (F := Ideal) y.a0 y.a1 y.a2 y.a3 ym.a0 ym.a1 ym.a2 ym.a3 = res6 c m := by
  subst ep em
  rfl

theorem ref7 {y : Ds} {yv : Ws} (ep : y = pA c m) (ev : yv = vA c m) :
    Reference15Ideal.Read.val_main_v135 (F := Ideal) y.a0 y.a1 y.a2 y.a3 yv.a0 yv.a1 yv.a2 yv.a3 = res7 c m := by
  subst ep ev
  rfl

end

theorem claim : Cert.algebraic_Kernel15Ideal_Reference15Ideal := by
  intro m g m' g' _ hagree
  refine ⟨fun c => (Kernel15Ideal.Gen.dats m 0 c).arrAt 4 Kernel15Ideal.cfg0.N, fun c => (Kernel15Ideal.Gen.dats m 0 c).arrAt 5 Kernel15Ideal.cfg0.N,
    fun c => (Kernel15Ideal.Gen.dats m 0 c).arrAt 6 Kernel15Ideal.cfg0.N, fun c => (Kernel15Ideal.Gen.dats m 0 c).arrAt 7 Kernel15Ideal.cfg0.N,
    Kernel15Ideal.Value.run_blocks m g, ?_⟩
  refine (θ_run Reference15Ideal.defs _ _).mono (fun r h c => ?_) (Reference15Ideal.Value.run m' g')
  obtain ⟨h0, h1, h2, h3, hk⟩ := h c
  obtain ⟨a0, a1, a2, a3, a4, a5, a6, a7, a8, a9, a10, a11, a12, a13, a14, a15⟩ := hagree c
  have ep : Ds.mk _ _ _ _ = pA c m := Ds.ext a0 a1 a2 a3
  have ew : Ws.mk _ _ _ _ = wA c m := Ws.ext a4 a5 a6 a7
  have em : Ws.mk _ _ _ _ = mA c m := Ws.ext a8 a9 a10 a11
  have ev : Ws.mk _ _ _ _ = vA c m := Ws.ext a12 a13 a14 a15
  refine ⟨h0.trans ((Reference15Ideal.Read.val_main_v108_eq _).trans ?_), h1.trans ((Reference15Ideal.Read.val_main_v117_eq _).trans ?_),
    h2.trans ((Reference15Ideal.Read.val_main_v126_eq _).trans ?_), h3.trans ((Reference15Ideal.Read.val_main_v135_eq _).trans ?_), hk⟩
  · exact (ref4 c m ep).trans (final4 c m).symm
  · exact (ref5 c m ep ew em ev).trans (final5 c m).symm
  · exact (ref6 c m ep em).trans (final6 c m).symm
  · exact (ref7 c m ep ev).trans (final7 c m).symm

end Cert.Proj.AdamSmall

end
-- ==== Proof.Proj.AdamRep.lean ====
/- One AdamW step on the ten smallest weights (the gains, the gates' biases, the pooling weights), packed in rows of 128 with zero rows
   between them: the devices' gradients summed, the new moments and the change of the weights. -/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Proj.StepZero
public import proofs.«01_k».proof.Proof.Proj.Rows
public import Idealize.ShloMosaic.Lib.Pointwise
public import Idealize.ShloMosaic.Lib.Tactic
public import Idealize.ShloMosaic.Lib.KernelVsHost
public import Idealize.ShloMosaic.Lib.Pipeline.Value
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.Proj.AdamRep

open Cert.Proj.Step Cert.Proj.Rows

section
open Cert.Kernel16Ideal Cert.Kernel16Ideal.Gen Cert.Kernel16Ideal.Value

/-! ## What the call stores -/

theorem hz2 : (![0, 0] : Fin 2 → Nat) = fun _ => 0 := funext fun a => by fin_cases a <;> rfl

theorem ld_part {F : FTy → Type} (x : Vec F S8x1168x128 .f32) (k : Fin 8) (r : Fin 1168) (q : Fin 128)
    (h : ∀ a, (![k.val, 0, 0] : Fin 3 → Nat) a + S1x1168x128.size a ≤ S8x1168x128.size a) :
    (View.ld x (Rect.unit (s := S8x1168x128) ![k.val, 0, 0] S1x1168x128.size h) : Vec F S1x1168x128 .f32) (ix3 0 r q) = x (ix3 k r q) := by
  refine congrArg x (funext fun a => Fin.ext ?_)
  match a with
  | ⟨0, _⟩ => show k.val + 1 * 0 = k.val; omega
  | ⟨1, _⟩ => show 0 + 1 * r.val = r.val; omega
  | ⟨2, _⟩ => show 0 + 1 * q.val = q.val; omega

section
variable (g w m v : Vec Ideal S1168x128 .f32) (y0 y1 y2 y3 y4 y5 y6 y7 : Vec Ideal S1x1168x128 .f32) (r : Fin 1168) (q : Fin 128)

theorem pay3_apply : k0_pay3 (F := Ideal) y0 y1 y2 y3 y4 y5 y6 y7 (ix2 r q) = y0 (ix3 0 r q) + y1 (ix3 0 r q) + y2 (ix3 0 r q) + y3 (ix3 0 r q)
      + y4 (ix3 0 r q) + y5 (ix3 0 r q) + y6 (ix3 0 r q) + y7 (ix3 0 r q) := by
  pointwise [k0_pay3]

theorem pay4_apply : k0_pay4 (F := Ideal) y0 y1 y2 y3 y4 y5 y6 y7 m (ix2 r q)
    = mom (m (ix2 r q)) (k0_pay3 (F := Ideal) y0 y1 y2 y3 y4 y5 y6 y7 (ix2 r q)) := by
  unfold mom k0_pay4
  generalize k0_pay3 (F := Ideal) y0 y1 y2 y3 y4 y5 y6 y7 = s
  pointwise []

theorem pay1_apply : k0_pay1 (F := Ideal) g v (ix2 r q) = vel (v (ix2 r q)) (g (ix2 r q)) := by
  unfold vel
  pointwise [k0_pay1]

end

variable (x : Vec Ideal S8x1168x128 .f32) (w m v : Vec Ideal S1168x128 .f32) (r : Fin 1168) (q : Fin 128)

theorem sum_apply : k0_pay5 (F := Ideal) x w m v (ix2 r q) = grad fun k => x (ix3 k r q) :=
  (pay3_apply _ _ _ _ _ _ _ _ r q).trans (plus (plus (plus (plus (plus (plus (plus (ld_part x 0 r q _) (ld_part x 1 r q _)) (ld_part x 2 r q _))
    (ld_part x 3 r q _)) (ld_part x 4 r q _)) (ld_part x 5 r q _)) (ld_part x 6 r q _)) (ld_part x 7 r q _))

theorem mom_apply : k0_pay6 (F := Ideal) x w m v (ix2 r q) = mom (m (ix2 r q)) (grad fun k => x (ix3 k r q)) := by
  unfold k0_pay6
  rw [View.ld_unit_zero (S := S1168x128) hz2]
  exact (pay4_apply _ _ _ _ _ _ _ _ _ r q).trans (mom2 rfl (sum_apply x w m v r q))

/-- The change of a weight from its two new moments. -/
theorem pay2_apply (g n : Vec Ideal S1168x128 .f32) (e : EReal) (hg : g (ix2 r q) = e) (hn : n (ix2 r q) = mom (m (ix2 r q)) e) :
    k0_pay2 (F := Ideal) g n v w (ix2 r q) = delta (w (ix2 r q)) (m (ix2 r q)) (v (ix2 r q)) e := by
  have h1 : k0_pay1 (F := Ideal) g v (ix2 r q) = vel (v (ix2 r q)) e := (pay1_apply g v r q).trans (vel2 rfl hg)
  unfold delta
  rw [← h1, ← hn]
  unfold k0_pay2
  generalize k0_pay1 (F := Ideal) g v = s
  pointwise []

theorem out4 : out0_4 (F := Ideal) x w m v (ix2 r q) = grad fun k => x (ix3 k r q) := by
  unfold out0_4
  rw [View.canon_unit_zero hz2]
  exact sum_apply x w m v r q

theorem out5 : out0_5 (F := Ideal) x w m v (ix2 r q) = delta (w (ix2 r q)) (m (ix2 r q)) (v (ix2 r q)) (grad fun k => x (ix3 k r q)) := by
  unfold out0_5
  rw [View.canon_unit_zero hz2, View.ld_unit_zero (S := S1168x128) hz2, View.ld_unit_zero (S := S1168x128) hz2]
  exact pay2_apply w m v r q _ _ _ (sum_apply x w m v r q) (mom_apply x w m v r q)

theorem out6 : out0_6 (F := Ideal) x w m v (ix2 r q) = mom (m (ix2 r q)) (grad fun k => x (ix3 k r q)) := by
  unfold out0_6
  rw [View.canon_unit_zero hz2]
  exact mom_apply x w m v r q

theorem out7 : out0_7 (F := Ideal) x w m v (ix2 r q) = vel (v (ix2 r q)) (grad fun k => x (ix3 k r q)) := by
  unfold out0_7
  rw [View.canon_unit_zero hz2, View.ld_unit_zero (S := S1168x128) hz2]
  exact (pay1_apply _ _ r q).trans (vel2 rfl (sum_apply x w m v r q))

end

section
open Cert.Kernel16Ideal Cert.Kernel16Ideal.Gen Cert.Kernel16Ideal.Value

/-! ## The arrays in rows of 128 -/

abbrev A512 : Type := Vec Ideal S2x512 .f32
abbrev D512 : Type := Vec Ideal S8x2x512 .f32
abbrev A256 : Type := Vec Ideal S2x256 .f32
abbrev D256 : Type := Vec Ideal S8x2x256 .f32
abbrev A4x128x128 : Type := Vec Ideal S2x4x128x128 .f32
abbrev D4x128x128 : Type := Vec Ideal S8x2x4x128x128 .f32
abbrev A192 : Type := Vec Ideal S2x192 .f32
abbrev D192 : Type := Vec Ideal S8x2x192 .f32

/-- What fills the rows that no weight uses. -/
abbrev zf : Vec Ideal S_ .f32 := sitofp (F := Ideal) .f32 (constantI S_ 32 0#32)

theorem zf_apply (i : S_.Idx) : zf i = 0 := sitofp_zero (φ := .f32)

abbrev row512 (x : A512) : Vec Ideal S16x128 .f32 :=
  pad S16x128 ![0, 0] ![8, 0] ![0, 0] (shapeCast S8x128 x shapeCasts_S2x512_S8x128) zf pads_S8x128_S16x128_080_000 h_S_

abbrev row3_512 (x : D512) : Vec Ideal S8x16x128 .f32 :=
  pad S8x16x128 ![0, 0, 0] ![0, 8, 0] ![0, 0, 0] (shapeCast S8x8x128 x shapeCasts_S8x2x512_S8x8x128) zf pads_S8x8x128_S8x16x128_000_080_000 h_S_

abbrev row256 (x : A256) : Vec Ideal S16x128 .f32 :=
  pad S16x128 ![0, 0] ![12, 0] ![0, 0] (shapeCast S4x128 x shapeCasts_S2x256_S4x128) zf pads_S4x128_S16x128_0120_000 h_S_

abbrev row3_256 (x : D256) : Vec Ideal S8x16x128 .f32 :=
  pad S8x16x128 ![0, 0, 0] ![0, 12, 0] ![0, 0, 0] (shapeCast S8x4x128 x shapeCasts_S8x2x256_S8x4x128) zf pads_S8x4x128_S8x16x128_000_0120_000 h_S_

abbrev row4x128x128 (x : A4x128x128) : Vec Ideal S1024x128 .f32 :=
  pad S1024x128 ![0, 0] ![0, 0] ![0, 0] (shapeCast S1024x128 x shapeCasts_S2x4x128x128_S1024x128) zf pads_S1024x128_S1024x128_000_000 h_S_

abbrev row3_4x128x128 (x : D4x128x128) : Vec Ideal S8x1024x128 .f32 :=
  pad S8x1024x128 ![0, 0, 0] ![0, 0, 0] ![0, 0, 0] (shapeCast S8x1024x128 x shapeCasts_S8x2x4x128x128_S8x1024x128) zf pads_S8x1024x128_S8x1024x128_000_000_000 h_S_

abbrev row192 (x : A192) : Vec Ideal S16x128 .f32 :=
  pad S16x128 ![0, 0] ![13, 0] ![0, 0] (shapeCast S3x128 x shapeCasts_S2x192_S3x128) zf pads_S3x128_S16x128_0130_000 h_S_

abbrev row3_192 (x : D192) : Vec Ideal S8x16x128 .f32 :=
  pad S8x16x128 ![0, 0, 0] ![0, 13, 0] ![0, 0, 0] (shapeCast S8x3x128 x shapeCasts_S8x2x192_S8x3x128) zf pads_S8x3x128_S8x16x128_000_0130_000 h_S_

/-- One array for each weight: the weights, a moment, a change. -/
@[ext] structure Ws where
  (a0 : A512) (a1 a2 : A256) (a3 : A512) (a4 : A4x128x128) (a5 a6 : A512) (a7 : A256) (a8 a9 : A192)

/-- The eight devices' gradients of each weight. -/
@[ext] structure Ds where
  (a0 : D512) (a1 a2 : D256) (a3 : D512) (a4 : D4x128x128) (a5 a6 : D512) (a7 : D256) (a8 a9 : D192)

/-- The weights (or their moments) one after the other. -/
abbrev pkL (w : Ws) : List ((s : Shape) × (s.Idx → Elt Ideal .f32)) :=
  [⟨S16x128, row512 w.a0⟩,
    ⟨S16x128, row256 w.a1⟩,
    ⟨S16x128, row256 w.a2⟩,
    ⟨S16x128, row512 w.a3⟩,
    ⟨S1024x128, row4x128x128 w.a4⟩,
    ⟨S16x128, row512 w.a5⟩,
    ⟨S16x128, row512 w.a6⟩,
    ⟨S16x128, row256 w.a7⟩,
    ⟨S16x128, row192 w.a8⟩,
    ⟨S16x128, row192 w.a9⟩]

theorem cat2 (w : Ws) : Shape.Concatenates ((pkL w).map (·.1)) S1168x128 0 := concatenates_S16x128_S16x128_S16x128_S16x128_S1024x128_S16x128_S16x128_S16x128_S16x128_S16x128_S1168x128_d0

def pk (w : Ws) : Vec Ideal S1168x128 .f32 := concatenate S1168x128 0 (pkL w) (cat2 w)

/-- The eight devices' gradients one after the other. -/
abbrev pk3L (p : Ds) : List ((s : Shape) × (s.Idx → Elt Ideal .f32)) :=
  [⟨S8x16x128, row3_512 p.a0⟩,
    ⟨S8x16x128, row3_256 p.a1⟩,
    ⟨S8x16x128, row3_256 p.a2⟩,
    ⟨S8x16x128, row3_512 p.a3⟩,
    ⟨S8x1024x128, row3_4x128x128 p.a4⟩,
    ⟨S8x16x128, row3_512 p.a5⟩,
    ⟨S8x16x128, row3_512 p.a6⟩,
    ⟨S8x16x128, row3_256 p.a7⟩,
    ⟨S8x16x128, row3_192 p.a8⟩,
    ⟨S8x16x128, row3_192 p.a9⟩]

theorem cat3 (p : Ds) : Shape.Concatenates ((pk3L p).map (·.1)) S8x1168x128 1 := concatenates_S8x16x128_S8x16x128_S8x16x128_S8x16x128_S8x1024x128_S8x16x128_S8x16x128_S8x16x128_S8x16x128_S8x16x128_S8x1168x128_d1

def pk3 (p : Ds) : Vec Ideal S8x1168x128 .f32 := concatenate S8x1168x128 1 (pk3L p) (cat3 p)

section
variable (P : Fin 1168) (q : Fin 128)

/-- Entry `q` of row `P` is an entry of weight 0. -/
def Seg0 : Prop := ∃ j : S2x512.Idx,
      (∀ (w : Ws), pk w (ix2 P q) = w.a0 j)
      ∧ (∀ (p : Ds) (k : Fin 8), pk3 p (ix3 k P q) = p.a0 (Reference16Ideal.Read.idx_main_v0 j k))

/-- Entry `q` of row `P` is an entry of weight 1. -/
def Seg1 : Prop := ∃ j : S2x256.Idx,
      (∀ (w : Ws), pk w (ix2 P q) = w.a1 j)
      ∧ (∀ (p : Ds) (k : Fin 8), pk3 p (ix3 k P q) = p.a1 (Reference16Ideal.Read.idx_main_v25 j k))

/-- Entry `q` of row `P` is an entry of weight 2. -/
def Seg2 : Prop := ∃ j : S2x256.Idx,
      (∀ (w : Ws), pk w (ix2 P q) = w.a2 j)
      ∧ (∀ (p : Ds) (k : Fin 8), pk3 p (ix3 k P q) = p.a2 (Reference16Ideal.Read.idx_main_v50 j k))

/-- Entry `q` of row `P` is an entry of weight 3. -/
def Seg3 : Prop := ∃ j : S2x512.Idx,
      (∀ (w : Ws), pk w (ix2 P q) = w.a3 j)
      ∧ (∀ (p : Ds) (k : Fin 8), pk3 p (ix3 k P q) = p.a3 (Reference16Ideal.Read.idx_main_v75 j k))

/-- Entry `q` of row `P` is an entry of weight 4. -/
def Seg4 : Prop := ∃ j : S2x4x128x128.Idx,
      (∀ (w : Ws), pk w (ix2 P q) = w.a4 j)
      ∧ (∀ (p : Ds) (k : Fin 8), pk3 p (ix3 k P q) = p.a4 (Reference16Ideal.Read.idx_main_v100 j k))

/-- Entry `q` of row `P` is an entry of weight 5. -/
def Seg5 : Prop := ∃ j : S2x512.Idx,
      (∀ (w : Ws), pk w (ix2 P q) = w.a5 j)
      ∧ (∀ (p : Ds) (k : Fin 8), pk3 p (ix3 k P q) = p.a5 (Reference16Ideal.Read.idx_main_v125 j k))

/-- Entry `q` of row `P` is an entry of weight 6. -/
def Seg6 : Prop := ∃ j : S2x512.Idx,
      (∀ (w : Ws), pk w (ix2 P q) = w.a6 j)
      ∧ (∀ (p : Ds) (k : Fin 8), pk3 p (ix3 k P q) = p.a6 (Reference16Ideal.Read.idx_main_v150 j k))

/-- Entry `q` of row `P` is an entry of weight 7. -/
def Seg7 : Prop := ∃ j : S2x256.Idx,
      (∀ (w : Ws), pk w (ix2 P q) = w.a7 j)
      ∧ (∀ (p : Ds) (k : Fin 8), pk3 p (ix3 k P q) = p.a7 (Reference16Ideal.Read.idx_main_v175 j k))

/-- Entry `q` of row `P` is an entry of weight 8. -/
def Seg8 : Prop := ∃ j : S2x192.Idx,
      (∀ (w : Ws), pk w (ix2 P q) = w.a8 j)
      ∧ (∀ (p : Ds) (k : Fin 8), pk3 p (ix3 k P q) = p.a8 (Reference16Ideal.Read.idx_main_v200 j k))

/-- Entry `q` of row `P` is an entry of weight 9. -/
def Seg9 : Prop := ∃ j : S2x192.Idx,
      (∀ (w : Ws), pk w (ix2 P q) = w.a9 j)
      ∧ (∀ (p : Ds) (k : Fin 8), pk3 p (ix3 k P q) = p.a9 (Reference16Ideal.Read.idx_main_v225 j k))

/-- Entry `q` of row `P` is zero. -/
def Zero : Prop := (∀ (w : Ws), pk w (ix2 P q) = 0)
      ∧ (∀ (p : Ds) (k : Fin 8), pk3 p (ix3 k P q) = 0)

theorem seg0 (h : 0 ≤ P.val) (h' : P.val < 8) : Seg0 P q := by
  obtain ⟨j, hj⟩ := place shapeCasts_S2x512_S8x128 (⟨P.val - 0, by omega⟩ : Fin 8) q
  refine ⟨j, fun w => entry2 (pkL w) (cat2 w) (k := 0) (by show 0 < 10; decide)
    w.a0 _ zf _ _ rfl rfl P q h h' (by decide) j hj, fun p k => entry3 (pk3L p)
    (cat3 p) (k := 0) (by show 0 < 10; decide)
    p.a0 _ zf _ _ rfl rfl k P q h h' (by decide) _ ?_⟩
  rewrite [Shape.rowMajor_val_two] at hj
  replace hj : ((j 0).val) * 512 + (j 1).val = (P.val - 0) * 128 + q.val := hj
  rewrite [Shape.rowMajor_val_three]
  show ((k.val) * 2 + (j 0).val) * 512 + (j 1).val = (k.val * 8 + (P.val - 0)) * 128 + q.val
  omega

theorem zeroAt0 (h : 8 ≤ P.val) (h' : P.val < 16) : Zero P q :=
  ⟨fun w => (zero2 (pkL w) (cat2 w) (k := 0) (by show 0 < 10; decide)
    w.a0 _ zf _ _ rfl (off := 0) rfl P q h h').trans (zf_apply _), fun p k => (zero3 (pk3L p)
    (cat3 p) (k := 0) (by show 0 < 10; decide)
    p.a0 _ zf _ _ rfl (off := 0) rfl k P q h h').trans (zf_apply _)⟩

theorem seg1 (h : 16 ≤ P.val) (h' : P.val < 20) : Seg1 P q := by
  obtain ⟨j, hj⟩ := place shapeCasts_S2x256_S4x128 (⟨P.val - 16, by omega⟩ : Fin 4) q
  refine ⟨j, fun w => entry2 (pkL w) (cat2 w) (k := 1) (by show 1 < 10; decide)
    w.a1 _ zf _ _ rfl rfl P q h h' (by decide) j hj, fun p k => entry3 (pk3L p)
    (cat3 p) (k := 1) (by show 1 < 10; decide)
    p.a1 _ zf _ _ rfl rfl k P q h h' (by decide) _ ?_⟩
  rewrite [Shape.rowMajor_val_two] at hj
  replace hj : ((j 0).val) * 256 + (j 1).val = (P.val - 16) * 128 + q.val := hj
  rewrite [Shape.rowMajor_val_three]
  show ((k.val) * 2 + (j 0).val) * 256 + (j 1).val = (k.val * 4 + (P.val - 16)) * 128 + q.val
  omega

theorem zeroAt1 (h : 20 ≤ P.val) (h' : P.val < 32) : Zero P q :=
  ⟨fun w => (zero2 (pkL w) (cat2 w) (k := 1) (by show 1 < 10; decide)
    w.a1 _ zf _ _ rfl (off := 16) rfl P q h h').trans (zf_apply _), fun p k => (zero3 (pk3L p)
    (cat3 p) (k := 1) (by show 1 < 10; decide)
    p.a1 _ zf _ _ rfl (off := 16) rfl k P q h h').trans (zf_apply _)⟩

theorem seg2 (h : 32 ≤ P.val) (h' : P.val < 36) : Seg2 P q := by
  obtain ⟨j, hj⟩ := place shapeCasts_S2x256_S4x128 (⟨P.val - 32, by omega⟩ : Fin 4) q
  refine ⟨j, fun w => entry2 (pkL w) (cat2 w) (k := 2) (by show 2 < 10; decide)
    w.a2 _ zf _ _ rfl rfl P q h h' (by decide) j hj, fun p k => entry3 (pk3L p)
    (cat3 p) (k := 2) (by show 2 < 10; decide)
    p.a2 _ zf _ _ rfl rfl k P q h h' (by decide) _ ?_⟩
  rewrite [Shape.rowMajor_val_two] at hj
  replace hj : ((j 0).val) * 256 + (j 1).val = (P.val - 32) * 128 + q.val := hj
  rewrite [Shape.rowMajor_val_three]
  show ((k.val) * 2 + (j 0).val) * 256 + (j 1).val = (k.val * 4 + (P.val - 32)) * 128 + q.val
  omega

theorem zeroAt2 (h : 36 ≤ P.val) (h' : P.val < 48) : Zero P q :=
  ⟨fun w => (zero2 (pkL w) (cat2 w) (k := 2) (by show 2 < 10; decide)
    w.a2 _ zf _ _ rfl (off := 32) rfl P q h h').trans (zf_apply _), fun p k => (zero3 (pk3L p)
    (cat3 p) (k := 2) (by show 2 < 10; decide)
    p.a2 _ zf _ _ rfl (off := 32) rfl k P q h h').trans (zf_apply _)⟩

theorem seg3 (h : 48 ≤ P.val) (h' : P.val < 56) : Seg3 P q := by
  obtain ⟨j, hj⟩ := place shapeCasts_S2x512_S8x128 (⟨P.val - 48, by omega⟩ : Fin 8) q
  refine ⟨j, fun w => entry2 (pkL w) (cat2 w) (k := 3) (by show 3 < 10; decide)
    w.a3 _ zf _ _ rfl rfl P q h h' (by decide) j hj, fun p k => entry3 (pk3L p)
    (cat3 p) (k := 3) (by show 3 < 10; decide)
    p.a3 _ zf _ _ rfl rfl k P q h h' (by decide) _ ?_⟩
  rewrite [Shape.rowMajor_val_two] at hj
  replace hj : ((j 0).val) * 512 + (j 1).val = (P.val - 48) * 128 + q.val := hj
  rewrite [Shape.rowMajor_val_three]
  show ((k.val) * 2 + (j 0).val) * 512 + (j 1).val = (k.val * 8 + (P.val - 48)) * 128 + q.val
  omega

theorem zeroAt3 (h : 56 ≤ P.val) (h' : P.val < 64) : Zero P q :=
  ⟨fun w => (zero2 (pkL w) (cat2 w) (k := 3) (by show 3 < 10; decide)
    w.a3 _ zf _ _ rfl (off := 48) rfl P q h h').trans (zf_apply _), fun p k => (zero3 (pk3L p)
    (cat3 p) (k := 3) (by show 3 < 10; decide)
    p.a3 _ zf _ _ rfl (off := 48) rfl k P q h h').trans (zf_apply _)⟩

theorem seg4 (h : 64 ≤ P.val) (h' : P.val < 1088) : Seg4 P q := by
  obtain ⟨j, hj⟩ := place shapeCasts_S2x4x128x128_S1024x128 (⟨P.val - 64, by omega⟩ : Fin 1024) q
  refine ⟨j, fun w => entry2 (pkL w) (cat2 w) (k := 4) (by show 4 < 10; decide)
    w.a4 _ zf _ _ rfl rfl P q h h' (by decide) j hj, fun p k => entry3 (pk3L p)
    (cat3 p) (k := 4) (by show 4 < 10; decide)
    p.a4 _ zf _ _ rfl rfl k P q h h' (by decide) _ ?_⟩
  rewrite [Shape.rowMajor_val_four] at hj
  replace hj : ((((j 0).val) * 4 + (j 1).val) * 128 + (j 2).val) * 128 + (j 3).val = (P.val - 64) * 128 + q.val := hj
  rewrite [Shape.rowMajor_val_five]
  show ((((k.val) * 2 + (j 0).val) * 4 + (j 1).val) * 128 + (j 2).val) * 128 + (j 3).val = (k.val * 1024 + (P.val - 64)) * 128 + q.val
  omega

theorem seg5 (h : 1088 ≤ P.val) (h' : P.val < 1096) : Seg5 P q := by
  obtain ⟨j, hj⟩ := place shapeCasts_S2x512_S8x128 (⟨P.val - 1088, by omega⟩ : Fin 8) q
  refine ⟨j, fun w => entry2 (pkL w) (cat2 w) (k := 5) (by show 5 < 10; decide)
    w.a5 _ zf _ _ rfl rfl P q h h' (by decide) j hj, fun p k => entry3 (pk3L p)
    (cat3 p) (k := 5) (by show 5 < 10; decide)
    p.a5 _ zf _ _ rfl rfl k P q h h' (by decide) _ ?_⟩
  rewrite [Shape.rowMajor_val_two] at hj
  replace hj : ((j 0).val) * 512 + (j 1).val = (P.val - 1088) * 128 + q.val := hj
  rewrite [Shape.rowMajor_val_three]
  show ((k.val) * 2 + (j 0).val) * 512 + (j 1).val = (k.val * 8 + (P.val - 1088)) * 128 + q.val
  omega

theorem zeroAt5 (h : 1096 ≤ P.val) (h' : P.val < 1104) : Zero P q :=
  ⟨fun w => (zero2 (pkL w) (cat2 w) (k := 5) (by show 5 < 10; decide)
    w.a5 _ zf _ _ rfl (off := 1088) rfl P q h h').trans (zf_apply _), fun p k => (zero3 (pk3L p)
    (cat3 p) (k := 5) (by show 5 < 10; decide)
    p.a5 _ zf _ _ rfl (off := 1088) rfl k P q h h').trans (zf_apply _)⟩

theorem seg6 (h : 1104 ≤ P.val) (h' : P.val < 1112) : Seg6 P q := by
  obtain ⟨j, hj⟩ := place shapeCasts_S2x512_S8x128 (⟨P.val - 1104, by omega⟩ : Fin 8) q
  refine ⟨j, fun w => entry2 (pkL w) (cat2 w) (k := 6) (by show 6 < 10; decide)
    w.a6 _ zf _ _ rfl rfl P q h h' (by decide) j hj, fun p k => entry3 (pk3L p)
    (cat3 p) (k := 6) (by show 6 < 10; decide)
    p.a6 _ zf _ _ rfl rfl k P q h h' (by decide) _ ?_⟩
  rewrite [Shape.rowMajor_val_two] at hj
  replace hj : ((j 0).val) * 512 + (j 1).val = (P.val - 1104) * 128 + q.val := hj
  rewrite [Shape.rowMajor_val_three]
  show ((k.val) * 2 + (j 0).val) * 512 + (j 1).val = (k.val * 8 + (P.val - 1104)) * 128 + q.val
  omega

theorem zeroAt6 (h : 1112 ≤ P.val) (h' : P.val < 1120) : Zero P q :=
  ⟨fun w => (zero2 (pkL w) (cat2 w) (k := 6) (by show 6 < 10; decide)
    w.a6 _ zf _ _ rfl (off := 1104) rfl P q h h').trans (zf_apply _), fun p k => (zero3 (pk3L p)
    (cat3 p) (k := 6) (by show 6 < 10; decide)
    p.a6 _ zf _ _ rfl (off := 1104) rfl k P q h h').trans (zf_apply _)⟩

theorem seg7 (h : 1120 ≤ P.val) (h' : P.val < 1124) : Seg7 P q := by
  obtain ⟨j, hj⟩ := place shapeCasts_S2x256_S4x128 (⟨P.val - 1120, by omega⟩ : Fin 4) q
  refine ⟨j, fun w => entry2 (pkL w) (cat2 w) (k := 7) (by show 7 < 10; decide)
    w.a7 _ zf _ _ rfl rfl P q h h' (by decide) j hj, fun p k => entry3 (pk3L p)
    (cat3 p) (k := 7) (by show 7 < 10; decide)
    p.a7 _ zf _ _ rfl rfl k P q h h' (by decide) _ ?_⟩
  rewrite [Shape.rowMajor_val_two] at hj
  replace hj : ((j 0).val) * 256 + (j 1).val = (P.val - 1120) * 128 + q.val := hj
  rewrite [Shape.rowMajor_val_three]
  show ((k.val) * 2 + (j 0).val) * 256 + (j 1).val = (k.val * 4 + (P.val - 1120)) * 128 + q.val
  omega

theorem zeroAt7 (h : 1124 ≤ P.val) (h' : P.val < 1136) : Zero P q :=
  ⟨fun w => (zero2 (pkL w) (cat2 w) (k := 7) (by show 7 < 10; decide)
    w.a7 _ zf _ _ rfl (off := 1120) rfl P q h h').trans (zf_apply _), fun p k => (zero3 (pk3L p)
    (cat3 p) (k := 7) (by show 7 < 10; decide)
    p.a7 _ zf _ _ rfl (off := 1120) rfl k P q h h').trans (zf_apply _)⟩

theorem seg8 (h : 1136 ≤ P.val) (h' : P.val < 1139) : Seg8 P q := by
  obtain ⟨j, hj⟩ := place shapeCasts_S2x192_S3x128 (⟨P.val - 1136, by omega⟩ : Fin 3) q
  refine ⟨j, fun w => entry2 (pkL w) (cat2 w) (k := 8) (by show 8 < 10; decide)
    w.a8 _ zf _ _ rfl rfl P q h h' (by decide) j hj, fun p k => entry3 (pk3L p)
    (cat3 p) (k := 8) (by show 8 < 10; decide)
    p.a8 _ zf _ _ rfl rfl k P q h h' (by decide) _ ?_⟩
  rewrite [Shape.rowMajor_val_two] at hj
  replace hj : ((j 0).val) * 192 + (j 1).val = (P.val - 1136) * 128 + q.val := hj
  rewrite [Shape.rowMajor_val_three]
  show ((k.val) * 2 + (j 0).val) * 192 + (j 1).val = (k.val * 3 + (P.val - 1136)) * 128 + q.val
  omega

theorem zeroAt8 (h : 1139 ≤ P.val) (h' : P.val < 1152) : Zero P q :=
  ⟨fun w => (zero2 (pkL w) (cat2 w) (k := 8) (by show 8 < 10; decide)
    w.a8 _ zf _ _ rfl (off := 1136) rfl P q h h').trans (zf_apply _), fun p k => (zero3 (pk3L p)
    (cat3 p) (k := 8) (by show 8 < 10; decide)
    p.a8 _ zf _ _ rfl (off := 1136) rfl k P q h h').trans (zf_apply _)⟩

theorem seg9 (h : 1152 ≤ P.val) (h' : P.val < 1155) : Seg9 P q := by
  obtain ⟨j, hj⟩ := place shapeCasts_S2x192_S3x128 (⟨P.val - 1152, by omega⟩ : Fin 3) q
  refine ⟨j, fun w => entry2 (pkL w) (cat2 w) (k := 9) (by show 9 < 10; decide)
    w.a9 _ zf _ _ rfl rfl P q h h' (by decide) j hj, fun p k => entry3 (pk3L p)
    (cat3 p) (k := 9) (by show 9 < 10; decide)
    p.a9 _ zf _ _ rfl rfl k P q h h' (by decide) _ ?_⟩
  rewrite [Shape.rowMajor_val_two] at hj
  replace hj : ((j 0).val) * 192 + (j 1).val = (P.val - 1152) * 128 + q.val := hj
  rewrite [Shape.rowMajor_val_three]
  show ((k.val) * 2 + (j 0).val) * 192 + (j 1).val = (k.val * 3 + (P.val - 1152)) * 128 + q.val
  omega

theorem zeroAt9 (h : 1155 ≤ P.val) (h' : P.val < 1168) : Zero P q :=
  ⟨fun w => (zero2 (pkL w) (cat2 w) (k := 9) (by show 9 < 10; decide)
    w.a9 _ zf _ _ rfl (off := 1152) rfl P q h h').trans (zf_apply _), fun p k => (zero3 (pk3L p)
    (cat3 p) (k := 9) (by show 9 < 10; decide)
    p.a9 _ zf _ _ rfl (off := 1152) rfl k P q h h').trans (zf_apply _)⟩

/-- A row is a weight's or a zero row. -/
theorem cases : Seg0 P q ∨ Seg1 P q ∨ Seg2 P q ∨ Seg3 P q ∨ Seg4 P q ∨ Seg5 P q ∨ Seg6 P q ∨ Seg7 P q ∨ Seg8 P q ∨ Seg9 P q ∨ Zero P q := by
  by_cases a0 : P.val < 8
  · exact Or.inl (seg0 P q (by omega) a0)
  by_cases b0 : P.val < 16
  · exact Or.inr (Or.inr (Or.inr (Or.inr (Or.inr (Or.inr (Or.inr (Or.inr (Or.inr (Or.inr (zeroAt0 P q (by omega) b0))))))))))
  by_cases a1 : P.val < 20
  · exact Or.inr (Or.inl (seg1 P q (by omega) a1))
  by_cases b1 : P.val < 32
  · exact Or.inr (Or.inr (Or.inr (Or.inr (Or.inr (Or.inr (Or.inr (Or.inr (Or.inr (Or.inr (zeroAt1 P q (by omega) b1))))))))))
  by_cases a2 : P.val < 36
  · exact Or.inr (Or.inr (Or.inl (seg2 P q (by omega) a2)))
  by_cases b2 : P.val < 48
  · exact Or.inr (Or.inr (Or.inr (Or.inr (Or.inr (Or.inr (Or.inr (Or.inr (Or.inr (Or.inr (zeroAt2 P q (by omega) b2))))))))))
  by_cases a3 : P.val < 56
  · exact Or.inr (Or.inr (Or.inr (Or.inl (seg3 P q (by omega) a3))))
  by_cases b3 : P.val < 64
  · exact Or.inr (Or.inr (Or.inr (Or.inr (Or.inr (Or.inr (Or.inr (Or.inr (Or.inr (Or.inr (zeroAt3 P q (by omega) b3))))))))))
  by_cases a4 : P.val < 1088
  · exact Or.inr (Or.inr (Or.inr (Or.inr (Or.inl (seg4 P q (by omega) a4)))))
  by_cases a5 : P.val < 1096
  · exact Or.inr (Or.inr (Or.inr (Or.inr (Or.inr (Or.inl (seg5 P q (by omega) a5))))))
  by_cases b5 : P.val < 1104
  · exact Or.inr (Or.inr (Or.inr (Or.inr (Or.inr (Or.inr (Or.inr (Or.inr (Or.inr (Or.inr (zeroAt5 P q (by omega) b5))))))))))
  by_cases a6 : P.val < 1112
  · exact Or.inr (Or.inr (Or.inr (Or.inr (Or.inr (Or.inr (Or.inl (seg6 P q (by omega) a6)))))))
  by_cases b6 : P.val < 1120
  · exact Or.inr (Or.inr (Or.inr (Or.inr (Or.inr (Or.inr (Or.inr (Or.inr (Or.inr (Or.inr (zeroAt6 P q (by omega) b6))))))))))
  by_cases a7 : P.val < 1124
  · exact Or.inr (Or.inr (Or.inr (Or.inr (Or.inr (Or.inr (Or.inr (Or.inl (seg7 P q (by omega) a7))))))))
  by_cases b7 : P.val < 1136
  · exact Or.inr (Or.inr (Or.inr (Or.inr (Or.inr (Or.inr (Or.inr (Or.inr (Or.inr (Or.inr (zeroAt7 P q (by omega) b7))))))))))
  by_cases a8 : P.val < 1139
  · exact Or.inr (Or.inr (Or.inr (Or.inr (Or.inr (Or.inr (Or.inr (Or.inr (Or.inl (seg8 P q (by omega) a8)))))))))
  by_cases b8 : P.val < 1152
  · exact Or.inr (Or.inr (Or.inr (Or.inr (Or.inr (Or.inr (Or.inr (Or.inr (Or.inr (Or.inr (zeroAt8 P q (by omega) b8))))))))))
  by_cases a9 : P.val < 1155
  · exact Or.inr (Or.inr (Or.inr (Or.inr (Or.inr (Or.inr (Or.inr (Or.inr (Or.inr (Or.inl (seg9 P q (by omega) a9))))))))))
  by_cases b9 : P.val < 1168
  · exact Or.inr (Or.inr (Or.inr (Or.inr (Or.inr (Or.inr (Or.inr (Or.inr (Or.inr (Or.inr (zeroAt9 P q (by omega) b9))))))))))
  exact absurd P.isLt (by omega)

end

end

/-! ## The reference, weight by weight -/

section
open Cert.Reference16Ideal Cert.Reference16Ideal.Read

section
variable (x0 : (⟨S8x2x512, .f32⟩ : BufTy).Contents (Elt Ideal)) (j : S2x512.Idx)

theorem g0_apply : val_main_v0 (F := Ideal) x0 j = grad fun k => x0 (idx_main_v0 j k) :=
  (val_main_v0_apply x0 j).trans (zero_add_sum (by rw [val_main_cst_apply]; exact zero_eq) _)

end

section
variable (x0 : (⟨S8x2x256, .f32⟩ : BufTy).Contents (Elt Ideal)) (j : S2x256.Idx)

theorem g1_apply : val_main_v25 (F := Ideal) x0 j = grad fun k => x0 (idx_main_v25 j k) :=
  (val_main_v25_apply x0 j).trans (zero_add_sum (by rw [val_main_cst_9_apply]; exact zero_eq) _)

end

section
variable (x0 : (⟨S8x2x256, .f32⟩ : BufTy).Contents (Elt Ideal)) (j : S2x256.Idx)

theorem g2_apply : val_main_v50 (F := Ideal) x0 j = grad fun k => x0 (idx_main_v50 j k) :=
  (val_main_v50_apply x0 j).trans (zero_add_sum (by rw [val_main_cst_19_apply]; exact zero_eq) _)

end

section
variable (x0 : (⟨S8x2x512, .f32⟩ : BufTy).Contents (Elt Ideal)) (j : S2x512.Idx)

theorem g3_apply : val_main_v75 (F := Ideal) x0 j = grad fun k => x0 (idx_main_v75 j k) :=
  (val_main_v75_apply x0 j).trans (zero_add_sum (by rw [val_main_cst_29_apply]; exact zero_eq) _)

end

section
variable (x0 : (⟨S8x2x4x128x128, .f32⟩ : BufTy).Contents (Elt Ideal)) (j : S2x4x128x128.Idx)

theorem g4_apply : val_main_v100 (F := Ideal) x0 j = grad fun k => x0 (idx_main_v100 j k) :=
  (val_main_v100_apply x0 j).trans (zero_add_sum (by rw [val_main_cst_39_apply]; exact zero_eq) _)

end

section
variable (x0 : (⟨S8x2x512, .f32⟩ : BufTy).Contents (Elt Ideal)) (j : S2x512.Idx)

theorem g5_apply : val_main_v125 (F := Ideal) x0 j = grad fun k => x0 (idx_main_v125 j k) :=
  (val_main_v125_apply x0 j).trans (zero_add_sum (by rw [val_main_cst_49_apply]; exact zero_eq) _)

end

section
variable (x0 : (⟨S8x2x512, .f32⟩ : BufTy).Contents (Elt Ideal)) (j : S2x512.Idx)

theorem g6_apply : val_main_v150 (F := Ideal) x0 j = grad fun k => x0 (idx_main_v150 j k) :=
  (val_main_v150_apply x0 j).trans (zero_add_sum (by rw [val_main_cst_59_apply]; exact zero_eq) _)

end

section
variable (x0 : (⟨S8x2x256, .f32⟩ : BufTy).Contents (Elt Ideal)) (j : S2x256.Idx)

theorem g7_apply : val_main_v175 (F := Ideal) x0 j = grad fun k => x0 (idx_main_v175 j k) :=
  (val_main_v175_apply x0 j).trans (zero_add_sum (by rw [val_main_cst_69_apply]; exact zero_eq) _)

end

section
variable (x0 : (⟨S8x2x192, .f32⟩ : BufTy).Contents (Elt Ideal)) (j : S2x192.Idx)

theorem g8_apply : val_main_v200 (F := Ideal) x0 j = grad fun k => x0 (idx_main_v200 j k) :=
  (val_main_v200_apply x0 j).trans (zero_add_sum (by rw [val_main_cst_79_apply]; exact zero_eq) _)

end

section
variable (x0 : (⟨S8x2x192, .f32⟩ : BufTy).Contents (Elt Ideal)) (j : S2x192.Idx)

theorem g9_apply : val_main_v225 (F := Ideal) x0 j = grad fun k => x0 (idx_main_v225 j k) :=
  (val_main_v225_apply x0 j).trans (zero_add_sum (by rw [val_main_cst_89_apply]; exact zero_eq) _)

end

end

/-! ## The two sides -/

section
open Cert.Kernel16Ideal Cert.Kernel16Ideal.Gen Cert.Kernel16Ideal.Value

section
variable (p : Ds) (w m v : Ws) (P : Fin 1168) (q : Fin 128)

/-- The sums of the gradients, the changes and the new moments as the reference has them. -/
def gW : Ws :=
  ⟨Reference16Ideal.Read.val_main_v0 (F := Ideal) p.a0,
    Reference16Ideal.Read.val_main_v25 (F := Ideal) p.a1,
    Reference16Ideal.Read.val_main_v50 (F := Ideal) p.a2,
    Reference16Ideal.Read.val_main_v75 (F := Ideal) p.a3,
    Reference16Ideal.Read.val_main_v100 (F := Ideal) p.a4,
    Reference16Ideal.Read.val_main_v125 (F := Ideal) p.a5,
    Reference16Ideal.Read.val_main_v150 (F := Ideal) p.a6,
    Reference16Ideal.Read.val_main_v175 (F := Ideal) p.a7,
    Reference16Ideal.Read.val_main_v200 (F := Ideal) p.a8,
    Reference16Ideal.Read.val_main_v225 (F := Ideal) p.a9⟩
def dW : Ws :=
  ⟨Reference16Ideal.Read.val_main_v24 (F := Ideal) p.a0 w.a0 m.a0 v.a0,
    Reference16Ideal.Read.val_main_v49 (F := Ideal) p.a1 w.a1 m.a1 v.a1,
    Reference16Ideal.Read.val_main_v74 (F := Ideal) p.a2 w.a2 m.a2 v.a2,
    Reference16Ideal.Read.val_main_v99 (F := Ideal) p.a3 w.a3 m.a3 v.a3,
    Reference16Ideal.Read.val_main_v124 (F := Ideal) p.a4 w.a4 m.a4 v.a4,
    Reference16Ideal.Read.val_main_v149 (F := Ideal) p.a5 w.a5 m.a5 v.a5,
    Reference16Ideal.Read.val_main_v174 (F := Ideal) p.a6 w.a6 m.a6 v.a6,
    Reference16Ideal.Read.val_main_v199 (F := Ideal) p.a7 w.a7 m.a7 v.a7,
    Reference16Ideal.Read.val_main_v224 (F := Ideal) p.a8 w.a8 m.a8 v.a8,
    Reference16Ideal.Read.val_main_v249 (F := Ideal) p.a9 w.a9 m.a9 v.a9⟩
def mW : Ws :=
  ⟨Reference16Ideal.Read.val_main_v5 (F := Ideal) p.a0 m.a0,
    Reference16Ideal.Read.val_main_v30 (F := Ideal) p.a1 m.a1,
    Reference16Ideal.Read.val_main_v55 (F := Ideal) p.a2 m.a2,
    Reference16Ideal.Read.val_main_v80 (F := Ideal) p.a3 m.a3,
    Reference16Ideal.Read.val_main_v105 (F := Ideal) p.a4 m.a4,
    Reference16Ideal.Read.val_main_v130 (F := Ideal) p.a5 m.a5,
    Reference16Ideal.Read.val_main_v155 (F := Ideal) p.a6 m.a6,
    Reference16Ideal.Read.val_main_v180 (F := Ideal) p.a7 m.a7,
    Reference16Ideal.Read.val_main_v205 (F := Ideal) p.a8 m.a8,
    Reference16Ideal.Read.val_main_v230 (F := Ideal) p.a9 m.a9⟩
def vW : Ws :=
  ⟨Reference16Ideal.Read.val_main_v11 (F := Ideal) p.a0 v.a0,
    Reference16Ideal.Read.val_main_v36 (F := Ideal) p.a1 v.a1,
    Reference16Ideal.Read.val_main_v61 (F := Ideal) p.a2 v.a2,
    Reference16Ideal.Read.val_main_v86 (F := Ideal) p.a3 v.a3,
    Reference16Ideal.Read.val_main_v111 (F := Ideal) p.a4 v.a4,
    Reference16Ideal.Read.val_main_v136 (F := Ideal) p.a5 v.a5,
    Reference16Ideal.Read.val_main_v161 (F := Ideal) p.a6 v.a6,
    Reference16Ideal.Read.val_main_v186 (F := Ideal) p.a7 v.a7,
    Reference16Ideal.Read.val_main_v211 (F := Ideal) p.a8 v.a8,
    Reference16Ideal.Read.val_main_v236 (F := Ideal) p.a9 v.a9⟩

theorem both_g : (grad fun k => pk3 p (ix3 k P q))
    = pk (gW p) (ix2 P q) := by
  rcases cases P q with ⟨j, h2, h3⟩ | ⟨j, h2, h3⟩ | ⟨j, h2, h3⟩ | ⟨j, h2, h3⟩ | ⟨j, h2, h3⟩ | ⟨j, h2, h3⟩ | ⟨j, h2, h3⟩ | ⟨j, h2, h3⟩ | ⟨j, h2, h3⟩ | ⟨j, h2, h3⟩ | ⟨h2, h3⟩ <;> simp only [h2, h3]
  · exact (g0_apply p.a0 j).symm
  · exact (g1_apply p.a1 j).symm
  · exact (g2_apply p.a2 j).symm
  · exact (g3_apply p.a3 j).symm
  · exact (g4_apply p.a4 j).symm
  · exact (g5_apply p.a5 j).symm
  · exact (g6_apply p.a6 j).symm
  · exact (g7_apply p.a7 j).symm
  · exact (g8_apply p.a8 j).symm
  · exact (g9_apply p.a9 j).symm
  · exact grad_zero

theorem both_d : delta (pk w (ix2 P q)) (pk m (ix2 P q)) (pk v (ix2 P q)) (grad fun k => pk3 p (ix3 k P q))
    = pk (dW p w m v) (ix2 P q) := by
  rcases cases P q with ⟨j, h2, h3⟩ | ⟨j, h2, h3⟩ | ⟨j, h2, h3⟩ | ⟨j, h2, h3⟩ | ⟨j, h2, h3⟩ | ⟨j, h2, h3⟩ | ⟨j, h2, h3⟩ | ⟨j, h2, h3⟩ | ⟨j, h2, h3⟩ | ⟨j, h2, h3⟩ | ⟨h2, h3⟩ <;> simp only [h2, h3]
  · exact (congrArg (delta (w.a0 j) (m.a0 j) (v.a0 j)) (g0_apply p.a0 j)).symm
  · exact (congrArg (delta (w.a1 j) (m.a1 j) (v.a1 j)) (g1_apply p.a1 j)).symm
  · exact (congrArg (delta (w.a2 j) (m.a2 j) (v.a2 j)) (g2_apply p.a2 j)).symm
  · exact (congrArg (delta (w.a3 j) (m.a3 j) (v.a3 j)) (g3_apply p.a3 j)).symm
  · exact (congrArg (delta (w.a4 j) (m.a4 j) (v.a4 j)) (g4_apply p.a4 j)).symm
  · exact (congrArg (delta (w.a5 j) (m.a5 j) (v.a5 j)) (g5_apply p.a5 j)).symm
  · exact (congrArg (delta (w.a6 j) (m.a6 j) (v.a6 j)) (g6_apply p.a6 j)).symm
  · exact (congrArg (delta (w.a7 j) (m.a7 j) (v.a7 j)) (g7_apply p.a7 j)).symm
  · exact (congrArg (delta (w.a8 j) (m.a8 j) (v.a8 j)) (g8_apply p.a8 j)).symm
  · exact (congrArg (delta (w.a9 j) (m.a9 j) (v.a9 j)) (g9_apply p.a9 j)).symm
  · exact delta_zero

theorem both_m : mom (pk m (ix2 P q)) (grad fun k => pk3 p (ix3 k P q))
    = pk (mW p m) (ix2 P q) := by
  rcases cases P q with ⟨j, h2, h3⟩ | ⟨j, h2, h3⟩ | ⟨j, h2, h3⟩ | ⟨j, h2, h3⟩ | ⟨j, h2, h3⟩ | ⟨j, h2, h3⟩ | ⟨j, h2, h3⟩ | ⟨j, h2, h3⟩ | ⟨j, h2, h3⟩ | ⟨j, h2, h3⟩ | ⟨h2, h3⟩ <;> simp only [h2, h3]
  · exact (congrArg (mom (m.a0 j)) (g0_apply p.a0 j)).symm
  · exact (congrArg (mom (m.a1 j)) (g1_apply p.a1 j)).symm
  · exact (congrArg (mom (m.a2 j)) (g2_apply p.a2 j)).symm
  · exact (congrArg (mom (m.a3 j)) (g3_apply p.a3 j)).symm
  · exact (congrArg (mom (m.a4 j)) (g4_apply p.a4 j)).symm
  · exact (congrArg (mom (m.a5 j)) (g5_apply p.a5 j)).symm
  · exact (congrArg (mom (m.a6 j)) (g6_apply p.a6 j)).symm
  · exact (congrArg (mom (m.a7 j)) (g7_apply p.a7 j)).symm
  · exact (congrArg (mom (m.a8 j)) (g8_apply p.a8 j)).symm
  · exact (congrArg (mom (m.a9 j)) (g9_apply p.a9 j)).symm
  · exact mom_zero

theorem both_v : vel (pk v (ix2 P q)) (grad fun k => pk3 p (ix3 k P q))
    = pk (vW p v) (ix2 P q) := by
  rcases cases P q with ⟨j, h2, h3⟩ | ⟨j, h2, h3⟩ | ⟨j, h2, h3⟩ | ⟨j, h2, h3⟩ | ⟨j, h2, h3⟩ | ⟨j, h2, h3⟩ | ⟨j, h2, h3⟩ | ⟨j, h2, h3⟩ | ⟨j, h2, h3⟩ | ⟨j, h2, h3⟩ | ⟨h2, h3⟩ <;> simp only [h2, h3]
  · exact (congrArg (vel (v.a0 j)) (g0_apply p.a0 j)).symm
  · exact (congrArg (vel (v.a1 j)) (g1_apply p.a1 j)).symm
  · exact (congrArg (vel (v.a2 j)) (g2_apply p.a2 j)).symm
  · exact (congrArg (vel (v.a3 j)) (g3_apply p.a3 j)).symm
  · exact (congrArg (vel (v.a4 j)) (g4_apply p.a4 j)).symm
  · exact (congrArg (vel (v.a5 j)) (g5_apply p.a5 j)).symm
  · exact (congrArg (vel (v.a6 j)) (g6_apply p.a6 j)).symm
  · exact (congrArg (vel (v.a7 j)) (g7_apply p.a7 j)).symm
  · exact (congrArg (vel (v.a8 j)) (g8_apply p.a8 j)).symm
  · exact (congrArg (vel (v.a9 j)) (g9_apply p.a9 j)).symm
  · exact vel_zero

end

/-! ## The arguments and what the host makes of them -/

variable (c : Dev nD) (m : (ℓ : Loc nD τ sig) → Buf (Elt Ideal) ℓ)

def pA : Ds :=
  ⟨m ((c : Thread nD τ).loc main_arg0),
    m ((c : Thread nD τ).loc main_arg1),
    m ((c : Thread nD τ).loc main_arg2),
    m ((c : Thread nD τ).loc main_arg3),
    m ((c : Thread nD τ).loc main_arg4),
    m ((c : Thread nD τ).loc main_arg5),
    m ((c : Thread nD τ).loc main_arg6),
    m ((c : Thread nD τ).loc main_arg7),
    m ((c : Thread nD τ).loc main_arg8),
    m ((c : Thread nD τ).loc main_arg9)⟩
def wA : Ws :=
  ⟨m ((c : Thread nD τ).loc main_arg10),
    m ((c : Thread nD τ).loc main_arg11),
    m ((c : Thread nD τ).loc main_arg12),
    m ((c : Thread nD τ).loc main_arg13),
    m ((c : Thread nD τ).loc main_arg14),
    m ((c : Thread nD τ).loc main_arg15),
    m ((c : Thread nD τ).loc main_arg16),
    m ((c : Thread nD τ).loc main_arg17),
    m ((c : Thread nD τ).loc main_arg18),
    m ((c : Thread nD τ).loc main_arg19)⟩
def mA : Ws :=
  ⟨m ((c : Thread nD τ).loc main_arg20),
    m ((c : Thread nD τ).loc main_arg21),
    m ((c : Thread nD τ).loc main_arg22),
    m ((c : Thread nD τ).loc main_arg23),
    m ((c : Thread nD τ).loc main_arg24),
    m ((c : Thread nD τ).loc main_arg25),
    m ((c : Thread nD τ).loc main_arg26),
    m ((c : Thread nD τ).loc main_arg27),
    m ((c : Thread nD τ).loc main_arg28),
    m ((c : Thread nD τ).loc main_arg29)⟩
def vA : Ws :=
  ⟨m ((c : Thread nD τ).loc main_arg30),
    m ((c : Thread nD τ).loc main_arg31),
    m ((c : Thread nD τ).loc main_arg32),
    m ((c : Thread nD τ).loc main_arg33),
    m ((c : Thread nD τ).loc main_arg34),
    m ((c : Thread nD τ).loc main_arg35),
    m ((c : Thread nD τ).loc main_arg36),
    m ((c : Thread nD τ).loc main_arg37),
    m ((c : Thread nD τ).loc main_arg38),
    m ((c : Thread nD τ).loc main_arg39)⟩

set_option maxHeartbeats 0 in
theorem V_main_v20 : V m c main_v20 = pk3 (pA c m) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80])
    (fun b => m (c, b)) (Proc.devRef .tc main_v20) = _
  simp only [List.flatten_cons, List.flatten_nil, List.append_nil, List.cons_append, List.nil_append]
  after_results_simp <;> rfl

set_option maxHeartbeats 0 in
theorem V_main_v41 : V m c main_v41 = pk (wA c m) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80])
    (fun b => m (c, b)) (Proc.devRef .tc main_v41) = _
  simp only [List.flatten_cons, List.flatten_nil, List.append_nil, List.cons_append, List.nil_append]
  after_results_simp <;> rfl

set_option maxHeartbeats 0 in
theorem V_main_v62 : V m c main_v62 = pk (mA c m) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80])
    (fun b => m (c, b)) (Proc.devRef .tc main_v62) = _
  simp only [List.flatten_cons, List.flatten_nil, List.append_nil, List.cons_append, List.nil_append]
  after_results_simp <;> rfl

set_option maxHeartbeats 0 in
theorem V_main_v83 : V m c main_v83 = pk (vA c m) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80])
    (fun b => m (c, b)) (Proc.devRef .tc main_v83) = _
  simp only [List.flatten_cons, List.flatten_nil, List.append_nil, List.cons_append, List.nil_append]
  after_results_simp <;> rfl

theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

theorem blk0 (t : Fin cfg0.N) (k : Fin 8) (r : Fin 1168) (q : Fin 128) : (iblk m c 0 t : Vec Ideal S8x1168x128 .f32) (ix3 k r q)
    = pk3 (pA c m) (ix3 k r q) := by
  unfold iblk
  rw [View.read_apply]
  refine Eq.trans ?_ (congrFun (V_main_v20 c m) _)
  show V m c main_v20 _ = V m c main_v20 _
  congr 1
  funext a
  apply Fin.ext
  obtain ⟨h0, h1, h2⟩ := idx0 t
  match a with
  | ⟨0, _⟩ => show win0_0.index t 0 * 8 + 1 * k.val = k.val; omega
  | ⟨1, _⟩ => show win0_0.index t 1 * 1168 + 1 * r.val = r.val; omega
  | ⟨2, _⟩ => show win0_0.index t 2 * 128 + 1 * q.val = q.val; omega

theorem blk1 (t : Fin cfg0.N) (r : Fin 1168) (q : Fin 128) : (iblk m c 1 t : Vec Ideal S1168x128 .f32) (ix2 r q)
    = pk (wA c m) (ix2 r q) := by
  unfold iblk
  rw [View.read_apply]
  refine Eq.trans ?_ (congrFun (V_main_v41 c m) _)
  show V m c main_v41 _ = V m c main_v41 _
  congr 1
  funext a
  apply Fin.ext
  obtain ⟨h0, h1⟩ := idx1 t
  match a with
  | ⟨0, _⟩ => show win0_1.index t 0 * 1168 + 1 * r.val = r.val; omega
  | ⟨1, _⟩ => show win0_1.index t 1 * 128 + 1 * q.val = q.val; omega

theorem blk2 (t : Fin cfg0.N) (r : Fin 1168) (q : Fin 128) : (iblk m c 2 t : Vec Ideal S1168x128 .f32) (ix2 r q)
    = pk (mA c m) (ix2 r q) := by
  unfold iblk
  rw [View.read_apply]
  refine Eq.trans ?_ (congrFun (V_main_v62 c m) _)
  show V m c main_v62 _ = V m c main_v62 _
  congr 1
  funext a
  apply Fin.ext
  obtain ⟨h0, h1⟩ := idx2 t
  match a with
  | ⟨0, _⟩ => show win0_2.index t 0 * 1168 + 1 * r.val = r.val; omega
  | ⟨1, _⟩ => show win0_2.index t 1 * 128 + 1 * q.val = q.val; omega

theorem blk3 (t : Fin cfg0.N) (r : Fin 1168) (q : Fin 128) : (iblk m c 3 t : Vec Ideal S1168x128 .f32) (ix2 r q)
    = pk (vA c m) (ix2 r q) := by
  unfold iblk
  rw [View.read_apply]
  refine Eq.trans ?_ (congrFun (V_main_v83 c m) _)
  show V m c main_v83 _ = V m c main_v83 _
  congr 1
  funext a
  apply Fin.ext
  obtain ⟨h0, h1⟩ := idx3 t
  match a with
  | ⟨0, _⟩ => show win0_3.index t 0 * 1168 + 1 * r.val = r.val; omega
  | ⟨1, _⟩ => show win0_3.index t 1 * 128 + 1 * q.val = q.val; omega

/-! ## The results -/

def res4 : Vec Ideal S1168x128 .f32 := pk (gW (pA c m))
def res5 : Vec Ideal S1168x128 .f32 := pk (dW (pA c m) (wA c m) (mA c m) (vA c m))
def res6 : Vec Ideal S1168x128 .f32 := pk (mW (pA c m) (mA c m))
def res7 : Vec Ideal S1168x128 .f32 := pk (vW (pA c m) (vA c m))

theorem sum_blk (t : Fin cfg0.N) (r : Fin 1168) (q : Fin 128) :
    (grad fun k => (iblk m c 0 t : Vec Ideal S8x1168x128 .f32) (ix3 k r q)) = grad fun k => pk3 (pA c m) (ix3 k r q) :=
  congr fun k => blk0 c m t k r q

theorem val4 (t : Fin cfg0.N) (r : Fin 1168) (q : Fin 128) :
    out0_4 (F := Ideal) (iblk m c 0 t) (iblk m c 1 t) (iblk m c 2 t) (iblk m c 3 t) (ix2 r q) = res4 c m (ix2 r q) :=
  (out4 _ _ _ _ r q).trans ((sum_blk c m t r q).trans (both_g (pA c m) r q))

theorem flush4' (t : Fin cfg0.N) : (dats m 0 c).flushed 4 t = ((cfg0.win 4).blk t).view.read (Elt Ideal) (res4 c m) := by
  rw [flushed4 m c t]
  funext i
  rw [View.read_apply]
  change S1168x128.Idx at i
  obtain ⟨r, q, rfl⟩ : ∃ r q, i = ix2 r q := ⟨_, _, eq_ix2 i⟩
  refine Eq.trans (show _ = out0_4 (F := Ideal) (iblk m c 0 t) (iblk m c 1 t) (iblk m c 2 t) (iblk m c 3 t) (ix2 r q) from rfl) ?_
  refine (val4 c m t r q).trans (congrArg (res4 c m) ?_)
  obtain ⟨i0, i1⟩ := idx4 t
  funext a
  apply Fin.ext
  match a with
  | ⟨0, _⟩ => show r.val = win0_4.index t 0 * 1168 + 1 * r.val; omega
  | ⟨1, _⟩ => show q.val = win0_4.index t 1 * 128 + 1 * q.val; omega

theorem final4 : (dats m 0 c).arrAt 4 cfg0.N = res4 c m :=
  (dats m 0 c).arrAt_eq_of_cover 4 _ (fun t _ => flush4' c m t) ((by decide +kernel : (cfg0.win 4).Covers).cover _ (Memref.isWhole_whole _))

theorem val5 (t : Fin cfg0.N) (r : Fin 1168) (q : Fin 128) :
    out0_5 (F := Ideal) (iblk m c 0 t) (iblk m c 1 t) (iblk m c 2 t) (iblk m c 3 t) (ix2 r q) = res5 c m (ix2 r q) :=
  (out5 _ _ _ _ r q).trans ((delta4 (blk1 c m t r q) (blk2 c m t r q) (blk3 c m t r q) (sum_blk c m t r q)).trans (both_d (pA c m) (wA c m) (mA c m) (vA c m) r q))

theorem flush5' (t : Fin cfg0.N) : (dats m 0 c).flushed 5 t = ((cfg0.win 5).blk t).view.read (Elt Ideal) (res5 c m) := by
  rw [flushed5 m c t]
  funext i
  rw [View.read_apply]
  change S1168x128.Idx at i
  obtain ⟨r, q, rfl⟩ : ∃ r q, i = ix2 r q := ⟨_, _, eq_ix2 i⟩
  refine Eq.trans (show _ = out0_5 (F := Ideal) (iblk m c 0 t) (iblk m c 1 t) (iblk m c 2 t) (iblk m c 3 t) (ix2 r q) from rfl) ?_
  refine (val5 c m t r q).trans (congrArg (res5 c m) ?_)
  obtain ⟨i0, i1⟩ := idx5 t
  funext a
  apply Fin.ext
  match a with
  | ⟨0, _⟩ => show r.val = win0_5.index t 0 * 1168 + 1 * r.val; omega
  | ⟨1, _⟩ => show q.val = win0_5.index t 1 * 128 + 1 * q.val; omega

theorem final5 : (dats m 0 c).arrAt 5 cfg0.N = res5 c m :=
  (dats m 0 c).arrAt_eq_of_cover 5 _ (fun t _ => flush5' c m t) ((by decide +kernel : (cfg0.win 5).Covers).cover _ (Memref.isWhole_whole _))

theorem val6 (t : Fin cfg0.N) (r : Fin 1168) (q : Fin 128) :
    out0_6 (F := Ideal) (iblk m c 0 t) (iblk m c 1 t) (iblk m c 2 t) (iblk m c 3 t) (ix2 r q) = res6 c m (ix2 r q) :=
  (out6 _ _ _ _ r q).trans ((mom2 (blk2 c m t r q) (sum_blk c m t r q)).trans (both_m (pA c m) (mA c m) r q))

theorem flush6' (t : Fin cfg0.N) : (dats m 0 c).flushed 6 t = ((cfg0.win 6).blk t).view.read (Elt Ideal) (res6 c m) := by
  rw [flushed6 m c t]
  funext i
  rw [View.read_apply]
  change S1168x128.Idx at i
  obtain ⟨r, q, rfl⟩ : ∃ r q, i = ix2 r q := ⟨_, _, eq_ix2 i⟩
  refine Eq.trans (show _ = out0_6 (F := Ideal) (iblk m c 0 t) (iblk m c 1 t) (iblk m c 2 t) (iblk m c 3 t) (ix2 r q) from rfl) ?_
  refine (val6 c m t r q).trans (congrArg (res6 c m) ?_)
  obtain ⟨i0, i1⟩ := idx6 t
  funext a
  apply Fin.ext
  match a with
  | ⟨0, _⟩ => show r.val = win0_6.index t 0 * 1168 + 1 * r.val; omega
  | ⟨1, _⟩ => show q.val = win0_6.index t 1 * 128 + 1 * q.val; omega

theorem final6 : (dats m 0 c).arrAt 6 cfg0.N = res6 c m :=
  (dats m 0 c).arrAt_eq_of_cover 6 _ (fun t _ => flush6' c m t) ((by decide +kernel : (cfg0.win 6).Covers).cover _ (Memref.isWhole_whole _))

theorem val7 (t : Fin cfg0.N) (r : Fin 1168) (q : Fin 128) :
    out0_7 (F := Ideal) (iblk m c 0 t) (iblk m c 1 t) (iblk m c 2 t) (iblk m c 3 t) (ix2 r q) = res7 c m (ix2 r q) :=
  (out7 _ _ _ _ r q).trans ((vel2 (blk3 c m t r q) (sum_blk c m t r q)).trans (both_v (pA c m) (vA c m) r q))

theorem flush7' (t : Fin cfg0.N) : (dats m 0 c).flushed 7 t = ((cfg0.win 7).blk t).view.read (Elt Ideal) (res7 c m) := by
  rw [flushed7 m c t]
  funext i
  rw [View.read_apply]
  change S1168x128.Idx at i
  obtain ⟨r, q, rfl⟩ : ∃ r q, i = ix2 r q := ⟨_, _, eq_ix2 i⟩
  refine Eq.trans (show _ = out0_7 (F := Ideal) (iblk m c 0 t) (iblk m c 1 t) (iblk m c 2 t) (iblk m c 3 t) (ix2 r q) from rfl) ?_
  refine (val7 c m t r q).trans (congrArg (res7 c m) ?_)
  obtain ⟨i0, i1⟩ := idx7 t
  funext a
  apply Fin.ext
  match a with
  | ⟨0, _⟩ => show r.val = win0_7.index t 0 * 1168 + 1 * r.val; omega
  | ⟨1, _⟩ => show q.val = win0_7.index t 1 * 128 + 1 * q.val; omega

theorem final7 : (dats m 0 c).arrAt 7 cfg0.N = res7 c m :=
  (dats m 0 c).arrAt_eq_of_cover 7 _ (fun t _ => flush7' c m t) ((by decide +kernel : (cfg0.win 7).Covers).cover _ (Memref.isWhole_whole _))

theorem ref4 {y : Ds} (ep : y = pA c m)  :
    Reference16Ideal.Read.val_main_v270 (F := Ideal) y.a0 y.a1 y.a2 y.a3 y.a4 y.a5 y.a6 y.a7 y.a8 y.a9 = res4 c m := by
  subst ep
  rfl

theorem ref5 {y : Ds} {yw : Ws} {ym : Ws} {yv : Ws} (ep : y = pA c m) (ew : yw = wA c m) (em : ym = mA c m) (ev : yv = vA c m) :
    Reference16Ideal.Read.val_main_v291 (F := Ideal) y.a0 y.a1 y.a2 y.a3 y.a4 y.a5 y.a6 y.a7 y.a8 y.a9 yw.a0 yw.a1 yw.a2 yw.a3 yw.a4 yw.a5 yw.a6 yw.a7 yw.a8 yw.a9 ym.a0 ym.a1 ym.a2 ym.a3 ym.a4 ym.a5 ym.a6 ym.a7 ym.a8 ym.a9 yv.a0 yv.a1 yv.a2 yv.a3 yv.a4 yv.a5 yv.a6 yv.a7 yv.a8 yv.a9 = res5 c m := by
  subst ep ew em ev
  rfl

theorem ref6 {y : Ds} {ym : Ws} (ep : y = pA c m) (em : ym = mA c m) :
    Reference16Ideal.Read.val_main_v312 (F := Ideal) y.a0 y.a1 y.a2 y.a3 y.a4 y.a5 y.a6 y.a7 y.a8 y.a9 ym.a0 ym.a1 ym.a2 ym.a3 ym.a4 ym.a5 ym.a6 ym.a7 ym.a8 ym.a9 = res6 c m := by
  subst ep em
  rfl

theorem ref7 {y : Ds} {yv : Ws} (ep : y = pA c m) (ev : yv = vA c m) :
    Reference16Ideal.Read.val_main_v333 (F := Ideal) y.a0 y.a1 y.a2 y.a3 y.a4 y.a5 y.a6 y.a7 y.a8 y.a9 yv.a0 yv.a1 yv.a2 yv.a3 yv.a4 yv.a5 yv.a6 yv.a7 yv.a8 yv.a9 = res7 c m := by
  subst ep ev
  rfl

end

theorem claim : Cert.algebraic_Kernel16Ideal_Reference16Ideal := by
  intro m g m' g' _ hagree
  refine ⟨fun c => (Kernel16Ideal.Gen.dats m 0 c).arrAt 4 Kernel16Ideal.cfg0.N, fun c => (Kernel16Ideal.Gen.dats m 0 c).arrAt 5 Kernel16Ideal.cfg0.N,
    fun c => (Kernel16Ideal.Gen.dats m 0 c).arrAt 6 Kernel16Ideal.cfg0.N, fun c => (Kernel16Ideal.Gen.dats m 0 c).arrAt 7 Kernel16Ideal.cfg0.N,
    Kernel16Ideal.Value.run_blocks m g, ?_⟩
  refine (θ_run Reference16Ideal.defs _ _).mono (fun r h c => ?_) (Reference16Ideal.Value.run m' g')
  obtain ⟨h0, h1, h2, h3, hk⟩ := h c
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39⟩ := hagree c
  have ep : Ds.mk _ _ _ _ _ _ _ _ _ _ = pA c m := Ds.ext a0 a1 a2 a3 a4 a5 a6 a7 a8 a9
  have ew : Ws.mk _ _ _ _ _ _ _ _ _ _ = wA c m := Ws.ext a10 a11 a12 a13 a14 a15 a16 a17 a18 a19
  have em : Ws.mk _ _ _ _ _ _ _ _ _ _ = mA c m := Ws.ext a20 a21 a22 a23 a24 a25 a26 a27 a28 a29
  have ev : Ws.mk _ _ _ _ _ _ _ _ _ _ = vA c m := Ws.ext a30 a31 a32 a33 a34 a35 a36 a37 a38 a39
  refine ⟨h0.trans ((Reference16Ideal.Read.val_main_v270_eq _).trans ?_), h1.trans ((Reference16Ideal.Read.val_main_v291_eq _).trans ?_),
    h2.trans ((Reference16Ideal.Read.val_main_v312_eq _).trans ?_), h3.trans ((Reference16Ideal.Read.val_main_v333_eq _).trans ?_), hk⟩
  · exact (ref4 c m ep).trans (final4 c m).symm
  · exact (ref5 c m ep ew em ev).trans (final5 c m).symm
  · exact (ref6 c m ep em).trans (final6 c m).symm
  · exact (ref7 c m ep ev).trans (final7 c m).symm

end Cert.Proj.AdamRep

end
-- ==== Proof.Proj.InRunBits.lean ====
module

public import proofs.«01_k».proof.Proof.Gen.Kernel11.Frame
public import proofs.«01_k».proof.Proof.Proj.InRun

/-!
# The projection of the normalized rows, at any scalars

`Kernel11` and `Kernel11Ideal` are the same program printed twice: the idealization rewrites none of
its operations. So the two tables of bodies are equal, and what `InRun` proves of every run of the
one holds of every run of the other.
-/

@[expose] public section

set_option maxRecDepth 16384

noncomputable section

namespace Cert.Proj.InRunBits

open Idealize.ShloMosaic Idealize.ShloMosaic.TcCoe Idealize.SL.Sem
open Cert.Kernel11 Cert.Kernel11.Gen
variable {F : FTy → Type} [FloatOps F]
variable (m : (ℓ : Loc nD τ sig) → Buf (Elt F) ℓ) (ρ : Dev nD → PrngReg)

/-- The two tables of kernel bodies are equal, label by label. -/
theorem defs₀_eq : @defs₀ F _ _ = @Kernel11Ideal.defs₀ F _ _ := by
  refine congrArg Defs.onTc (funext fun l => funext fun a => ?_)
  match l, a with
  | 0, (t, s) => rfl
  | ⟨n + 1, h⟩, _ => exact absurd h (Nat.not_lt.2 (Nat.le_add_left _ _))

/-- The two tables of bodies, the pipelines' included. -/
theorem defs_eq : @defs F _ _ = @Kernel11Ideal.defs F _ _ :=
  congrArg (Pipeline.defs (Kernel11Ideal.pcfgs (F := F))) defs₀_eq

/-- Every run ends with the three arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact InRun.frame m ρ

end Cert.Proj.InRunBits
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Pre_finite
public import proofs.«01_k».proof.Proof.Gen.Pre_finite2
public import proofs.«01_k».proof.Proof.Gen.Pre_finite3
public import proofs.«01_k».proof.Proof.Gen.Pre_finite9
public import proofs.«01_k».proof.Proof.Gen.Pre_finite10
public import proofs.«01_k».proof.Proof.Attn.Claim
public import proofs.«01_k».proof.Proof.Attn.FwdClaim
public import proofs.«01_k».proof.Proof.Proj.Dh
public import proofs.«01_k».proof.Proof.Proj.In
public import proofs.«01_k».proof.Proof.Proj.Out
public import proofs.«01_k».proof.Proof.Proj.Dy
public import proofs.«01_k».proof.Proof.Proj.Add
public import proofs.«01_k».proof.Proof.Proj.Loss
public import proofs.«01_k».proof.Proof.Proj.Gate
public import proofs.«01_k».proof.Proof.Proj.Gate2
public import proofs.«01_k».proof.Proof.Proj.Inproj
public import proofs.«01_k».proof.Proof.Proj.AdamOut
public import proofs.«01_k».proof.Proof.Proj.AdamIn
public import proofs.«01_k».proof.Proof.Proj.AdamNorm
public import proofs.«01_k».proof.Proof.Proj.AdamSmall
public import proofs.«01_k».proof.Proof.Proj.AdamRep
public import proofs.«01_k».proof.Proof.Proj.InRunBits
public import proofs.«01_k».proof.Proof.Proj.InRun
public import Idealize.ShloMosaic.Lib.Quiescent
public import Idealize.ShloMosaic.Adequacy
public import Idealize.ShloMosaic.Init

@[expose] public section

noncomputable section

namespace Cert.Proof

open Idealize.ShloMosaic Idealize.SL.Sem Cert.Kernel

-- A reference is host operations alone: it has no semaphores, so its counters are zero at the end.
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel12.Gen.facts, Cert.Kernel12Ideal.Gen.facts, Cert.Reference12Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Pre_finite.Gen.facts, Cert.Pre_finite2.Gen.facts, Cert.Pre_finite3.Gen.facts, Cert.Pre_finite9.Gen.facts, Cert.Pre_finite10.Gen.facts,
  fun m g _ => Kernel.Gen.frame m g,
  fun m g _ => KernelIdeal.Gen.frame m g,
  fun m g _ => KernelIdeal.Gen.frame m g,
  fun m g _ => (θ_run ReferenceIdeal.defs _ _).mono (fun r h => ⟨fun c => (h c).2.2.2.2, sem_eq_zero_of_no_sems (by decide) _⟩) (ReferenceIdeal.Value.run m g),
  fun m g _ => (θ_run ReferenceIdeal.defs _ _).mono (fun r h => ⟨fun c => (h c).2.2.2.2, sem_eq_zero_of_no_sems (by decide) _⟩) (ReferenceIdeal.Value.run m g),
  fun m g _ => Kernel2.Gen.frame m g,
  fun m g _ => Kernel2Ideal.Gen.frame m g,
  fun m g _ => Kernel2Ideal.Gen.frame m g,
  fun m g _ => (θ_run Reference2Ideal.defs _ _).mono (fun r h => ⟨fun c => (h c).2.2.2, sem_eq_zero_of_no_sems (by decide) _⟩) (Reference2Ideal.Value.run m g),
  fun m g _ => (θ_run Reference2Ideal.defs _ _).mono (fun r h => ⟨fun c => (h c).2.2.2, sem_eq_zero_of_no_sems (by decide) _⟩) (Reference2Ideal.Value.run m g),
  fun m g _ => Kernel3.Gen.frame m g,
  fun m g _ => Kernel3Ideal.Gen.frame m g,
  fun m g _ => Kernel3Ideal.Gen.frame m g,
  fun m g _ => (θ_run Reference3Ideal.defs _ _).mono (fun r h => ⟨fun c => (h c).2.2, sem_eq_zero_of_no_sems (by decide) _⟩) (Reference3Ideal.Value.run m g),
  fun m g _ => (θ_run Reference3Ideal.defs _ _).mono (fun r h => ⟨fun c => (h c).2.2, sem_eq_zero_of_no_sems (by decide) _⟩) (Reference3Ideal.Value.run m g),
  fun m g _ => Kernel4.Gen.frame m g,
  fun m g _ => Kernel4Ideal.Gen.frame m g,
  fun m g _ => (θ_run Reference4Ideal.defs _ _).mono (fun r h => ⟨fun c => (h c).2, sem_eq_zero_of_no_sems (by decide) _⟩) (Reference4Ideal.Value.run m g),
  fun m g _ => Kernel5.Gen.frame m g,
  fun m g _ => Kernel5Ideal.Gen.frame m g,
  fun m g _ => (θ_run Reference5Ideal.defs _ _).mono (fun r h => ⟨fun c => (h c).2, sem_eq_zero_of_no_sems (by decide) _⟩) (Reference5Ideal.Value.run m g),
  fun m g _ => Kernel6.Gen.frame m g,
  fun m g _ => Kernel6Ideal.Gen.frame m g,
  fun m g _ => (θ_run Reference6Ideal.defs _ _).mono (fun r h => ⟨fun c => (h c).2, sem_eq_zero_of_no_sems (by decide) _⟩) (Reference6Ideal.Value.run m g),
  fun m g _ => Kernel7.Gen.frame m g,
  fun m g _ => Kernel7Ideal.Gen.frame m g,
  fun m g _ => (θ_run Reference7Ideal.defs _ _).mono (fun r h => ⟨fun c => (h c).2, sem_eq_zero_of_no_sems (by decide) _⟩) (Reference7Ideal.Value.run m g),
  fun m g _ => Kernel8.Gen.frame m g,
  fun m g _ => Kernel8Ideal.Gen.frame m g,
  fun m g _ => (θ_run Reference8Ideal.defs _ _).mono (fun r h => ⟨fun c => (h c).2.2, sem_eq_zero_of_no_sems (by decide) _⟩) (Reference8Ideal.Value.run m g),
  fun m g _ => Kernel9.Gen.frame m g,
  fun m g _ => Kernel9Ideal.Gen.frame m g,
  fun m g _ => Kernel9Ideal.Gen.frame m g,
  fun m g _ => (θ_run Reference9Ideal.defs _ _).mono (fun r h => ⟨fun c => (h c).2.2.2, sem_eq_zero_of_no_sems (by decide) _⟩) (Reference9Ideal.Value.run m g),
  fun m g _ => (θ_run Reference9Ideal.defs _ _).mono (fun r h => ⟨fun c => (h c).2.2.2, sem_eq_zero_of_no_sems (by decide) _⟩) (Reference9Ideal.Value.run m g),
  fun m g _ => Kernel10.Gen.frame m g,
  fun m g _ => Kernel10Ideal.Gen.frame m g,
  fun m g _ => Kernel10Ideal.Gen.frame m g,
  fun m g _ => (θ_run Reference10Ideal.defs _ _).mono (fun r h => ⟨fun c => (h c).2.2.2, sem_eq_zero_of_no_sems (by decide) _⟩) (Reference10Ideal.Value.run m g),
  fun m g _ => (θ_run Reference10Ideal.defs _ _).mono (fun r h => ⟨fun c => (h c).2.2.2, sem_eq_zero_of_no_sems (by decide) _⟩) (Reference10Ideal.Value.run m g),
  fun m g _ => Proj.InRunBits.frame m g,
  fun m g _ => Proj.InRun.frame m g,
  fun m g _ => (θ_run Reference11Ideal.defs _ _).mono (fun r h => ⟨fun c => (h c).2.2, sem_eq_zero_of_no_sems (by decide) _⟩) (Reference11Ideal.Value.run m g),
  fun m g _ => Kernel13.Gen.frame m g,
  fun m g _ => Kernel13Ideal.Gen.frame m g,
  fun m g _ => (θ_run Reference13Ideal.defs _ _).mono (fun r h => ⟨fun c => (h c).2.2.2.2, sem_eq_zero_of_no_sems (by decide) _⟩) (Reference13Ideal.Value.run m g),
  fun m g _ => Kernel14.Gen.frame m g,
  fun m g _ => Kernel14Ideal.Gen.frame m g,
  fun m g _ => (θ_run Reference14Ideal.defs _ _).mono (fun r h => ⟨fun c => (h c).2.2.2.2, sem_eq_zero_of_no_sems (by decide) _⟩) (Reference14Ideal.Value.run m g),
  fun m g _ => Kernel12.Gen.frame m g,
  fun m g _ => Kernel12Ideal.Gen.frame m g,
  fun m g _ => (θ_run Reference12Ideal.defs _ _).mono (fun r h => ⟨fun c => (h c).2.2.2.2, sem_eq_zero_of_no_sems (by decide) _⟩) (Reference12Ideal.Value.run m g),
  fun m g _ => Kernel15.Gen.frame m g,
  fun m g _ => Kernel15Ideal.Gen.frame m g,
  fun m g _ => (θ_run Reference15Ideal.defs _ _).mono (fun r h => ⟨fun c => (h c).2.2.2.2, sem_eq_zero_of_no_sems (by decide) _⟩) (Reference15Ideal.Value.run m g),
  fun m g _ => Kernel16.Gen.frame m g,
  fun m g _ => Kernel16Ideal.Gen.frame m g,
  fun m g _ => (θ_run Reference16Ideal.defs _ _).mono (fun r h => ⟨fun c => (h c).2.2.2.2, sem_eq_zero_of_no_sems (by decide) _⟩) (Reference16Ideal.Value.run m g),
  trivial, Attn.Bwd.claim,
  IdealRules.named_const.statement Kernel2Ideal.κ "log2e" .f32 0x3FB8AA3B#32 (((Real.log 2)⁻¹ : ℝ) : EReal) rfl, Attn.Fwd.claim,
  trivial, Proj.Dh.claim,
  trivial, Proj.In.claim,
  trivial, Proj.Out.claim,
  trivial, Proj.Dy.claim,
  trivial, Proj.Add.claim,
  trivial, Proj.Loss.claim,
  trivial, Proj.Gate.claim,
  trivial, Proj.Gate2.claim,
  trivial, Proj.Inproj.claim,
  trivial, Proj.AdamOut.claim,
  trivial, Proj.AdamIn.claim,
  trivial, Proj.AdamNorm.claim,
  trivial, Proj.AdamSmall.claim,
  trivial, Proj.AdamRep.claim⟩

end Cert.Proof

end
